-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_kth_stands_alone [hPre_kth_stands_alone : Cert.Pre_kth_stands_alone.Facts] (m : (ℓ : Loc Cert.KernelIdeal.nD Cert.KernelIdeal.τ Cert.KernelIdeal.sig) → Buf (Elt Ideal) ℓ) : Prop :=
  ∀ c : Dev Cert.KernelIdeal.nD,
    (Cert.Pre_kth_stands_alone.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_kth_stands_alone [hPre_kth_stands_alone : Cert.Pre_kth_stands_alone.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_kth_stands_alone.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_kth_alone [hPre_kth_alone : Cert.Pre_kth_alone.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_kth_alone.fn (F := Ideal) (m ((c.tc : Thread Cert.Kernel2Ideal.nD Cert.Kernel2Ideal.τ).loc Cert.Kernel2Ideal.main_arg0))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_kth_alone [hPre_kth_alone : Cert.Pre_kth_alone.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_kth_alone.fn (F := Ideal) (m ((c.tc : Thread Cert.Reference2Ideal.nD Cert.Reference2Ideal.τ).loc Cert.Reference2Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_kth_stands_alone [hKernelIdeal : Cert.KernelIdeal.Facts] [hPre_kth_stands_alone : Cert.Pre_kth_stands_alone.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kth_stands_alone m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_kth_stands_alone [hReferenceIdeal : Cert.ReferenceIdeal.Facts] [hPre_kth_stands_alone : Cert.Pre_kth_stands_alone.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_kth_stands_alone m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Kernel2Ideal_pre_kth_alone [hKernel2Ideal : Cert.Kernel2Ideal.Facts] [hPre_kth_alone : Cert.Pre_kth_alone.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_kth_alone m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Reference2Ideal_pre_kth_alone [hReference2Ideal : Cert.Reference2Ideal.Facts] [hPre_kth_alone : Cert.Pre_kth_alone.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_kth_alone m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def preserves_Kernel_KernelIdeal : Prop :=
  True

def algebraic_KernelIdeal_ReferenceIdeal_pre_kth_stands_alone [hKernelIdeal : Cert.KernelIdeal.Facts] [hReferenceIdeal : Cert.ReferenceIdeal.Facts] [hPre_kth_stands_alone : Cert.Pre_kth_stands_alone.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_kth_stands_alone m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v187)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v187) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_kth_alone [hKernel2Ideal : Cert.Kernel2Ideal.Facts] [hReference2Ideal : Cert.Reference2Ideal.Facts] [hPre_kth_alone : Cert.Pre_kth_alone.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_kth_alone m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v96)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v96) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_kth_stands_alone : Cert.Pre_kth_stands_alone.Facts) (hPre_kth_alone : Cert.Pre_kth_alone.Facts),
    quiescent_Kernel (hKernel := hKernel)
    ∧ quiescent_KernelIdeal (hKernelIdeal := hKernelIdeal)
    ∧ quiescent_KernelIdeal_pre_kth_stands_alone (hKernelIdeal := hKernelIdeal) (hPre_kth_stands_alone := hPre_kth_stands_alone)
    ∧ quiescent_ReferenceIdeal (hReferenceIdeal := hReferenceIdeal)
    ∧ quiescent_ReferenceIdeal_pre_kth_stands_alone (hReferenceIdeal := hReferenceIdeal) (hPre_kth_stands_alone := hPre_kth_stands_alone)
    ∧ quiescent_Kernel2 (hKernel2 := hKernel2)
    ∧ quiescent_Kernel2Ideal (hKernel2Ideal := hKernel2Ideal)
    ∧ quiescent_Kernel2Ideal_pre_kth_alone (hKernel2Ideal := hKernel2Ideal) (hPre_kth_alone := hPre_kth_alone)
    ∧ quiescent_Reference2Ideal (hReference2Ideal := hReference2Ideal)
    ∧ quiescent_Reference2Ideal_pre_kth_alone (hReference2Ideal := hReference2Ideal) (hPre_kth_alone := hPre_kth_alone)
    ∧ preserves_Kernel_KernelIdeal
    ∧ algebraic_KernelIdeal_ReferenceIdeal_pre_kth_stands_alone (hKernelIdeal := hKernelIdeal) (hReferenceIdeal := hReferenceIdeal) (hPre_kth_stands_alone := hPre_kth_stands_alone)
    ∧ preserves_Kernel2_Kernel2Ideal
    ∧ algebraic_Kernel2Ideal_Reference2Ideal_pre_kth_alone (hKernel2Ideal := hKernel2Ideal) (hReference2Ideal := hReference2Ideal) (hPre_kth_alone := hPre_kth_alone)
-- ==== Pre_kth_alone.lean ====
abbrev S2x200000 : Shape := ⟨2, ![2, 200000]⟩
abbrev S2x160000 : Shape := ⟨2, ![2, 160000]⟩
abbrev S2x1001 : Shape := ⟨2, ![2, 1001]⟩
abbrev S2x1 : Shape := ⟨2, ![2, 1]⟩
abbrev S2 : Shape := ⟨1, ![2]⟩
abbrev S_ : Shape := ⟨0, ![]⟩
abbrev S2x40000 : Shape := ⟨2, ![2, 40000]⟩
abbrev S4 : Shape := ⟨1, ![4]⟩

class Facts : Prop where
  slices_S2x200000_S2x160000_0_0 : S2x200000.Slices ![0, 0] S2x160000
  sliceFits_S2x160000_S2x1001 : S2x160000.Slices (fun _ => 0) S2x1001
  slices_S2x1001_S2x1_0_0 : S2x1001.Slices ![0, 0] S2x1
  shapeCasts_S2x1_S2 : S2x1.ShapeCasts S2
  slices_S2x1001_S2x1_0_999 : S2x1001.Slices ![0, 999] S2x1
  slices_S2x1001_S2x1_0_1000 : S2x1001.Slices ![0, 1000] S2x1
  bcast_S_S2 : S_.BroadcastsInDim S2 (![] : Fin 0 → Fin S2.rank)
  slices_S2x200000_S2x40000_0_160000 : S2x200000.Slices ![0, 160000] S2x40000
  sliceFits_S2x40000_S2x1001 : S2x40000.Slices (fun _ => 0) S2x1001
  concatenates_S2_S2_S4_d0 : Shape.Concatenates [S2, S2] S4 0

variable [Facts]

def fn_part2 {F : FTy → Type} [FloatOps F] (main_v18 : IVec S2 1) (main_v29 : FVec F S2 .f32) (main_v34 : IVec S2 1) (main_v35 : FVec F S2 .f32) : IVec S4 1 :=
  let main_v36 : IVec S2 1 := cmpf .ole main_v29 main_v35
  let main_v37 : IVec S2 1 := andi main_v34 main_v36
  let main_v38 : IVec S4 1 := (fun a b => concatenate S4 0 [⟨S2, a⟩, ⟨S2, b⟩] concatenates_S2_S2_S4_d0) main_v18 main_v37
  main_v38

def fn_part1 {F : FTy → Type} [FloatOps F] (main_arg0 : FVec F S2x200000 .f32) (main_v15 : IVec S2 1) (main_v17 : IVec S2 1) : IVec S4 1 :=
  let main_v18 : IVec S2 1 := andi main_v15 main_v17
  let main_v19 : FVec F S2x40000 .f32 := (extractStridedSlice S2x40000 ![0, 160000] · slices_S2x200000_S2x40000_0_160000) main_arg0
  let main_values_3 : FVec F S2x1001 .f32 := (fun x => (Host.topK S2x1001 1 (FloatOps.cmpfTotal .gt) x sliceFits_S2x40000_S2x1001).1) main_v19
  let main_indices_4 : IVec S2x1001 32 := (fun x => (Host.topK S2x1001 1 (FloatOps.cmpfTotal .gt) x sliceFits_S2x40000_S2x1001).2) main_v19
  let main_v20 : FVec F S2x1 .f32 := (extractStridedSlice S2x1 ![0, 0] · slices_S2x1001_S2x1_0_0) main_values_3
  let main_v21 : FVec F S2 .f32 := shapeCast S2 main_v20 shapeCasts_S2x1_S2
  let main_v22 : FVec F S2x1 .f32 := (extractStridedSlice S2x1 ![0, 999] · slices_S2x1001_S2x1_0_999) main_values_3
  let main_v23 : FVec F S2 .f32 := shapeCast S2 main_v22 shapeCasts_S2x1_S2
  let main_v24 : FVec F S2x1 .f32 := (extractStridedSlice S2x1 ![0, 1000] · slices_S2x1001_S2x1_0_1000) main_values_3
  let main_v25 : FVec F S2 .f32 := shapeCast S2 main_v24 shapeCasts_S2x1_S2
  let main_cst_5 : FVec F S_ .f32 := constant S_ .f32 0x461C4400#32
  let main_v26 : FVec F S2 .f32 := broadcastInDim S2 ![] bcast_S_S2 main_cst_5
  let main_v27 : FVec F S2 .f32 := addf main_v21 main_v26
  let main_cst_6 : FVec F S_ .f32 := constant S_ .f32 0x1F800000#32
  let main_v28 : FVec F S2 .f32 := broadcastInDim S2 ![] bcast_S_S2 main_cst_6
  let main_v29 : FVec F S2 .f32 := mulf main_v27 main_v28
  let main_cst_7 : FVec F S_ .f32 := constant S_ .f32 0x7F800000#32
  let main_v30 : FVec F S2 .f32 := broadcastInDim S2 ![] bcast_S_S2 main_cst_7
  let main_v31 : IVec S2 1 := cmpf .olt main_v21 main_v30
  let main_cst_8 : FVec F S_ .f32 := constant S_ .f32 0xC61C4000#32
  let main_v32 : FVec F S2 .f32 := broadcastInDim S2 ![] bcast_S_S2 main_cst_8
  let main_v33 : IVec S2 1 := cmpf .oge main_v23 main_v32
  let main_v34 : IVec S2 1 := andi main_v31 main_v33
  let main_v35 : FVec F S2 .f32 := subf main_v23 main_v25
  fn_part2 (F := F) main_v18 main_v29 main_v34 main_v35

def fn {F : FTy → Type} [FloatOps F] (main_arg0 : FVec F S2x200000 .f32) : IVec S4 1 :=
  let main_v0 : FVec F S2x160000 .f32 := (extractStridedSlice S2x160000 ![0, 0] · slices_S2x200000_S2x160000_0_0) main_arg0
  let main_values : FVec F S2x1001 .f32 := (fun x => (Host.topK S2x1001 1 (FloatOps.cmpfTotal .gt) x sliceFits_S2x160000_S2x1001).1) main_v0
  let main_indices : IVec S2x1001 32 := (fun x => (Host.topK S2x1001 1 (FloatOps.cmpfTotal .gt) x sliceFits_S2x160000_S2x1001).2) main_v0
  let main_v1 : FVec F S2x1 .f32 := (extractStridedSlice S2x1 ![0, 0] · slices_S2x1001_S2x1_0_0) main_values
  let main_v2 : FVec F S2 .f32 := shapeCast S2 main_v1 shapeCasts_S2x1_S2
  let main_v3 : FVec F S2x1 .f32 := (extractStridedSlice S2x1 ![0, 999] · slices_S2x1001_S2x1_0_999) main_values
  let main_v4 : FVec F S2 .f32 := shapeCast S2 main_v3 shapeCasts_S2x1_S2
  let main_v5 : FVec F S2x1 .f32 := (extractStridedSlice S2x1 ![0, 1000] · slices_S2x1001_S2x1_0_1000) main_values
  let main_v6 : FVec F S2 .f32 := shapeCast S2 main_v5 shapeCasts_S2x1_S2
  let main_cst : FVec F S_ .f32 := constant S_ .f32 0x461C4400#32
  let main_v7 : FVec F S2 .f32 := broadcastInDim S2 ![] bcast_S_S2 main_cst
  let main_v8 : FVec F S2 .f32 := addf main_v2 main_v7
  let main_cst_0 : FVec F S_ .f32 := constant S_ .f32 0x1F800000#32
  let main_v9 : FVec F S2 .f32 := broadcastInDim S2 ![] bcast_S_S2 main_cst_0
  let main_v10 : FVec F S2 .f32 := mulf main_v8 main_v9
  let main_cst_1 : FVec F S_ .f32 := constant S_ .f32 0x7F800000#32
  let main_v11 : FVec F S2 .f32 := broadcastInDim S2 ![] bcast_S_S2 main_cst_1
  let main_v12 : IVec S2 1 := cmpf .olt main_v2 main_v11
  let main_cst_2 : FVec F S_ .f32 := constant S_ .f32 0xC61C4000#32
  let main_v13 : FVec F S2 .f32 := broadcastInDim S2 ![] bcast_S_S2 main_cst_2
  let main_v14 : IVec S2 1 := cmpf .oge main_v4 main_v13
  let main_v15 : IVec S2 1 := andi main_v12 main_v14
  let main_v16 : FVec F S2 .f32 := subf main_v4 main_v6
  let main_v17 : IVec S2 1 := cmpf .ole main_v10 main_v16
  fn_part1 (F := F) main_arg0 main_v15 main_v17
-- ==== Pre_kth_stands_alone.lean ====
abbrev S2x200000 : Shape := ⟨2, ![2, 200000]⟩
abbrev S2x200000x4 : Shape := ⟨3, ![2, 200000, 4]⟩
abbrev S200000x4 : Shape := ⟨2, ![200000, 4]⟩
abbrev S2x160000 : Shape := ⟨2, ![2, 160000]⟩
abbrev S2x1001 : Shape := ⟨2, ![2, 1001]⟩
abbrev S2x1 : Shape := ⟨2, ![2, 1]⟩
abbrev S2 : Shape := ⟨1, ![2]⟩
abbrev S_ : Shape := ⟨0, ![]⟩
abbrev S2x40000 : Shape := ⟨2, ![2, 40000]⟩
abbrev S4 : Shape := ⟨1, ![4]⟩

class Facts : Prop where
  slices_S2x200000_S2x160000_0_0 : S2x200000.Slices ![0, 0] S2x160000
  sliceFits_S2x160000_S2x1001 : S2x160000.Slices (fun _ => 0) S2x1001
  slices_S2x1001_S2x1_0_0 : S2x1001.Slices ![0, 0] S2x1
  shapeCasts_S2x1_S2 : S2x1.ShapeCasts S2
  slices_S2x1001_S2x1_0_999 : S2x1001.Slices ![0, 999] S2x1
  slices_S2x1001_S2x1_0_1000 : S2x1001.Slices ![0, 1000] S2x1
  bcast_S_S2 : S_.BroadcastsInDim S2 (![] : Fin 0 → Fin S2.rank)
  slices_S2x200000_S2x40000_0_160000 : S2x200000.Slices ![0, 160000] S2x40000
  sliceFits_S2x40000_S2x1001 : S2x40000.Slices (fun _ => 0) S2x1001
  concatenates_S2_S2_S4_d0 : Shape.Concatenates [S2, S2] S4 0

variable [Facts]

def fn_part2 {F : FTy → Type} [FloatOps F] (main_v18 : IVec S2 1) (main_v29 : FVec F S2 .f32) (main_v34 : IVec S2 1) (main_v35 : FVec F S2 .f32) : IVec S4 1 :=
  let main_v36 : IVec S2 1 := cmpf .ole main_v29 main_v35
  let main_v37 : IVec S2 1 := andi main_v34 main_v36
  let main_v38 : IVec S4 1 := (fun a b => concatenate S4 0 [⟨S2, a⟩, ⟨S2, b⟩] concatenates_S2_S2_S4_d0) main_v18 main_v37
  main_v38

def fn_part1 {F : FTy → Type} [FloatOps F] (main_arg0 : FVec F S2x200000 .f32) (main_v15 : IVec S2 1) (main_v17 : IVec S2 1) : IVec S4 1 :=
  let main_v18 : IVec S2 1 := andi main_v15 main_v17
  let main_v19 : FVec F S2x40000 .f32 := (extractStridedSlice S2x40000 ![0, 160000] · slices_S2x200000_S2x40000_0_160000) main_arg0
  let main_values_3 : FVec F S2x1001 .f32 := (fun x => (Host.topK S2x1001 1 (FloatOps.cmpfTotal .gt) x sliceFits_S2x40000_S2x1001).1) main_v19
  let main_indices_4 : IVec S2x1001 32 := (fun x => (Host.topK S2x1001 1 (FloatOps.cmpfTotal .gt) x sliceFits_S2x40000_S2x1001).2) main_v19
  let main_v20 : FVec F S2x1 .f32 := (extractStridedSlice S2x1 ![0, 0] · slices_S2x1001_S2x1_0_0) main_values_3
  let main_v21 : FVec F S2 .f32 := shapeCast S2 main_v20 shapeCasts_S2x1_S2
  let main_v22 : FVec F S2x1 .f32 := (extractStridedSlice S2x1 ![0, 999] · slices_S2x1001_S2x1_0_999) main_values_3
  let main_v23 : FVec F S2 .f32 := shapeCast S2 main_v22 shapeCasts_S2x1_S2
  let main_v24 : FVec F S2x1 .f32 := (extractStridedSlice S2x1 ![0, 1000] · slices_S2x1001_S2x1_0_1000) main_values_3
  let main_v25 : FVec F S2 .f32 := shapeCast S2 main_v24 shapeCasts_S2x1_S2
  let main_cst_5 : FVec F S_ .f32 := constant S_ .f32 0x461C4400#32
  let main_v26 : FVec F S2 .f32 := broadcastInDim S2 ![] bcast_S_S2 main_cst_5
  let main_v27 : FVec F S2 .f32 := addf main_v21 main_v26
  let main_cst_6 : FVec F S_ .f32 := constant S_ .f32 0x1F800000#32
  let main_v28 : FVec F S2 .f32 := broadcastInDim S2 ![] bcast_S_S2 main_cst_6
  let main_v29 : FVec F S2 .f32 := mulf main_v27 main_v28
  let main_cst_7 : FVec F S_ .f32 := constant S_ .f32 0x7F800000#32
  let main_v30 : FVec F S2 .f32 := broadcastInDim S2 ![] bcast_S_S2 main_cst_7
  let main_v31 : IVec S2 1 := cmpf .olt main_v21 main_v30
  let main_cst_8 : FVec F S_ .f32 := constant S_ .f32 0xC61C4000#32
  let main_v32 : FVec F S2 .f32 := broadcastInDim S2 ![] bcast_S_S2 main_cst_8
  let main_v33 : IVec S2 1 := cmpf .oge main_v23 main_v32
  let main_v34 : IVec S2 1 := andi main_v31 main_v33
  let main_v35 : FVec F S2 .f32 := subf main_v23 main_v25
  fn_part2 (F := F) main_v18 main_v29 main_v34 main_v35

def fn {F : FTy → Type} [FloatOps F] (main_arg0 : FVec F S2x200000 .f32) (main_arg1 : FVec F S2x200000x4 .f32) (main_arg2 : FVec F S200000x4 .f32) : IVec S4 1 :=
  let main_v0 : FVec F S2x160000 .f32 := (extractStridedSlice S2x160000 ![0, 0] · slices_S2x200000_S2x160000_0_0) main_arg0
  let main_values : FVec F S2x1001 .f32 := (fun x => (Host.topK S2x1001 1 (FloatOps.cmpfTotal .gt) x sliceFits_S2x160000_S2x1001).1) main_v0
  let main_indices : IVec S2x1001 32 := (fun x => (Host.topK S2x1001 1 (FloatOps.cmpfTotal .gt) x sliceFits_S2x160000_S2x1001).2) main_v0
  let main_v1 : FVec F S2x1 .f32 := (extractStridedSlice S2x1 ![0, 0] · slices_S2x1001_S2x1_0_0) main_values
  let main_v2 : FVec F S2 .f32 := shapeCast S2 main_v1 shapeCasts_S2x1_S2
  let main_v3 : FVec F S2x1 .f32 := (extractStridedSlice S2x1 ![0, 999] · slices_S2x1001_S2x1_0_999) main_values
  let main_v4 : FVec F S2 .f32 := shapeCast S2 main_v3 shapeCasts_S2x1_S2
  let main_v5 : FVec F S2x1 .f32 := (extractStridedSlice S2x1 ![0, 1000] · slices_S2x1001_S2x1_0_1000) main_values
  let main_v6 : FVec F S2 .f32 := shapeCast S2 main_v5 shapeCasts_S2x1_S2
  let main_cst : FVec F S_ .f32 := constant S_ .f32 0x461C4400#32
  let main_v7 : FVec F S2 .f32 := broadcastInDim S2 ![] bcast_S_S2 main_cst
  let main_v8 : FVec F S2 .f32 := addf main_v2 main_v7
  let main_cst_0 : FVec F S_ .f32 := constant S_ .f32 0x1F800000#32
  let main_v9 : FVec F S2 .f32 := broadcastInDim S2 ![] bcast_S_S2 main_cst_0
  let main_v10 : FVec F S2 .f32 := mulf main_v8 main_v9
  let main_cst_1 : FVec F S_ .f32 := constant S_ .f32 0x7F800000#32
  let main_v11 : FVec F S2 .f32 := broadcastInDim S2 ![] bcast_S_S2 main_cst_1
  let main_v12 : IVec S2 1 := cmpf .olt main_v2 main_v11
  let main_cst_2 : FVec F S_ .f32 := constant S_ .f32 0xC61C4000#32
  let main_v13 : FVec F S2 .f32 := broadcastInDim S2 ![] bcast_S_S2 main_cst_2
  let main_v14 : IVec S2 1 := cmpf .oge main_v4 main_v13
  let main_v15 : IVec S2 1 := andi main_v12 main_v14
  let main_v16 : FVec F S2 .f32 := subf main_v4 main_v6
  let main_v17 : IVec S2 1 := cmpf .ole main_v10 main_v16
  fn_part1 (F := F) main_arg0 main_v15 main_v17
-- ==== Kernel.lean ====
abbrev S2x200000 : Shape := ⟨2, ![2, 200000]⟩
abbrev S2x200000x4 : Shape := ⟨3, ![2, 200000, 4]⟩
abbrev S200000x4 : Shape := ⟨2, ![200000, 4]⟩
abbrev S2x160000 : Shape := ⟨2, ![2, 160000]⟩
abbrev S_ : Shape := ⟨0, ![]⟩
abbrev S2x160768 : Shape := ⟨2, ![2, 160768]⟩
abbrev S2x1256x128 : Shape := ⟨3, ![2, 1256, 128]⟩
abbrev S2x1x1 : Shape := ⟨3, ![2, 1, 1]⟩
abbrev S1x1256x128 : Shape := ⟨3, ![1, 1256, 128]⟩
abbrev S1x1x1 : Shape := ⟨3, ![1, 1, 1]⟩
abbrev S1256x128 : Shape := ⟨2, ![1256, 128]⟩
abbrev S1 : Shape := ⟨1, ![1]⟩
abbrev S2x1 : Shape := ⟨2, ![2, 1]⟩
abbrev S2 : Shape := ⟨1, ![2]⟩
abbrev S2x1001 : Shape := ⟨2, ![2, 1001]⟩
abbrev S160000 : Shape := ⟨1, ![160000]⟩
abbrev S1x160000 : Shape := ⟨2, ![1, 160000]⟩
abbrev S2x160000x1 : Shape := ⟨3, ![2, 160000, 1]⟩
abbrev S2x160000x2 : Shape := ⟨3, ![2, 160000, 2]⟩
abbrev S2x1000 : Shape := ⟨2, ![2, 1000]⟩
abbrev S2x40000 : Shape := ⟨2, ![2, 40000]⟩
abbrev S2x40960 : Shape := ⟨2, ![2, 40960]⟩
abbrev S2x320x128 : Shape := ⟨3, ![2, 320, 128]⟩
abbrev S1x320x128 : Shape := ⟨3, ![1, 320, 128]⟩
abbrev S320x128 : Shape := ⟨2, ![320, 128]⟩
abbrev S40000 : Shape := ⟨1, ![40000]⟩
abbrev S1x40000 : Shape := ⟨2, ![1, 40000]⟩
abbrev S2x40000x1 : Shape := ⟨3, ![2, 40000, 1]⟩
abbrev S2x40000x2 : Shape := ⟨3, ![2, 40000, 2]⟩
abbrev S2x2000 : Shape := ⟨2, ![2, 2000]⟩
abbrev S2x2000x1 : Shape := ⟨3, ![2, 2000, 1]⟩
abbrev S2x2000x2 : Shape := ⟨3, ![2, 2000, 2]⟩
abbrev S2x2000x4 : Shape := ⟨3, ![2, 2000, 4]⟩
abbrev S2x2048 : Shape := ⟨2, ![2, 2048]⟩
abbrev S2x2048x4 : Shape := ⟨3, ![2, 2048, 4]⟩
abbrev S2x2048x1 : Shape := ⟨3, ![2, 2048, 1]⟩
abbrev S2x16x128 : Shape := ⟨3, ![2, 16, 128]⟩
abbrev S2x4x2048 : Shape := ⟨3, ![2, 4, 2048]⟩
abbrev S2x4x16x128 : Shape := ⟨4, ![2, 4, 16, 128]⟩
abbrev S1x16x128 : Shape := ⟨3, ![1, 16, 128]⟩
abbrev S1x4x16x128 : Shape := ⟨4, ![1, 4, 16, 128]⟩
abbrev S4x16x128 : Shape := ⟨3, ![4, 16, 128]⟩
abbrev S16x128 : Shape := ⟨2, ![16, 128]⟩
abbrev S1x1x16x128 : Shape := ⟨4, ![1, 1, 16, 128]⟩
abbrev S2x1001x4 : Shape := ⟨3, ![2, 1001, 4]⟩
abbrev S2x2048x2 : Shape := ⟨3, ![2, 2048, 2]⟩
abbrev S2x1000x4 : Shape := ⟨3, ![2, 1000, 4]⟩

abbrev nBuf : Space → Nat
  | .hbm => 345
  | .vmem => 16
  | .smem => 4
  | _ => 0

abbrev hbmTy0_0 (i : Nat) : BufTy := match i % 128 with
  | 0 => ⟨S2x200000, .f32⟩
  | 1 => ⟨S2x200000x4, .f32⟩
  | 2 => ⟨S200000x4, .f32⟩
  | 3 => ⟨S2x160000, .f32⟩
  | 4 => ⟨S_, .f32⟩
  | 5 => ⟨S_, .f32⟩
  | 6 => ⟨S2x160768, .f32⟩
  | 7 => ⟨S2x1256x128, .f32⟩
  | 8 => ⟨S2x1x1, .f32⟩
  | 9 => ⟨S2x1, .f32⟩
  | 10 => ⟨S2x160000, .f32⟩
  | 11 => ⟨S2x160000, .i1⟩
  | 12 => ⟨S2x160000, .f32⟩
  | 13 => ⟨S2x160000, .i1⟩
  | 14 => ⟨S2x160000, .i32⟩
  | 15 => ⟨S_, .i32⟩
  | 16 => ⟨S2, .i32⟩
  | 17 => ⟨S2x1, .i32⟩
  | 18 => ⟨S2x160000, .i32⟩
  | 19 => ⟨S_, .i32⟩
  | 20 => ⟨S_, .i32⟩
  | 21 => ⟨S2x160000, .i32⟩
  | 22 => ⟨S_, .i32⟩
  | 23 => ⟨S2x1, .i32⟩
  | 24 => ⟨S2x1, .i32⟩
  | 25 => ⟨S2x160000, .i32⟩
  | 26 => ⟨S2x160000, .i1⟩
  | 27 => ⟨S2x160000, .i1⟩
  | 28 => ⟨S2x160000, .i1⟩
  | 29 => ⟨S2x160000, .i32⟩
  | 30 => ⟨S_, .i32⟩
  | 31 => ⟨S_, .i32⟩
  | 32 => ⟨S2x160000, .i32⟩
  | 33 => ⟨S_, .i32⟩
  | 34 => ⟨S2x160000, .i32⟩
  | 35 => ⟨S2x160000, .i32⟩
  | 36 => ⟨S_, .i32⟩
  | 37 => ⟨S_, .i32⟩
  | 38 => ⟨S2x160000, .i32⟩
  | 39 => ⟨S2x160000, .i32⟩
  | 40 => ⟨S_, .i32⟩
  | 41 => ⟨S2x1001, .i32⟩
  | 42 => ⟨S160000, .i32⟩
  | 43 => ⟨S1x160000, .i32⟩
  | 44 => ⟨S2x160000, .i32⟩
  | 45 => ⟨S2, .i32⟩
  | 46 => ⟨S2x1, .i32⟩
  | 47 => ⟨S_, .i32⟩
  | 48 => ⟨S2x1, .i32⟩
  | 49 => ⟨S2x1, .i1⟩
  | 50 => ⟨S_, .i32⟩
  | 51 => ⟨S2x1, .i32⟩
  | 52 => ⟨S2x1, .i32⟩
  | 53 => ⟨S2x1, .i32⟩
  | 54 => ⟨S_, .i32⟩
  | 55 => ⟨S2x160000, .i32⟩
  | 56 => ⟨S2x160000, .i1⟩
  | 57 => ⟨S_, .i32⟩
  | 58 => ⟨S2x160000, .i32⟩
  | 59 => ⟨S2x160000, .i32⟩
  | 60 => ⟨S2x160000, .i32⟩
  | 61 => ⟨S2x160000, .i32⟩
  | 62 => ⟨S2x160000x1, .i32⟩
  | 63 => ⟨S2x160000x1, .i32⟩
  | 64 => ⟨S2x160000x2, .i32⟩
  | 65 => ⟨S2x1001, .i32⟩
  | 66 => ⟨S2x1000, .i32⟩
  | 67 => ⟨S2x40000, .f32⟩
  | 68 => ⟨S_, .f32⟩
  | 69 => ⟨S_, .f32⟩
  | 70 => ⟨S2x40960, .f32⟩
  | 71 => ⟨S2x320x128, .f32⟩
  | 72 => ⟨S2x1x1, .f32⟩
  | 73 => ⟨S2x1, .f32⟩
  | 74 => ⟨S2x40000, .f32⟩
  | 75 => ⟨S2x40000, .i1⟩
  | 76 => ⟨S2x40000, .f32⟩
  | 77 => ⟨S2x40000, .i1⟩
  | 78 => ⟨S2x40000, .i32⟩
  | 79 => ⟨S_, .i32⟩
  | 80 => ⟨S2, .i32⟩
  | 81 => ⟨S2x1, .i32⟩
  | 82 => ⟨S2x40000, .i32⟩
  | 83 => ⟨S_, .i32⟩
  | 84 => ⟨S_, .i32⟩
  | 85 => ⟨S2x40000, .i32⟩
  | 86 => ⟨S_, .i32⟩
  | 87 => ⟨S2x1, .i32⟩
  | 88 => ⟨S2x1, .i32⟩
  | 89 => ⟨S2x40000, .i32⟩
  | 90 => ⟨S2x40000, .i1⟩
  | 91 => ⟨S2x40000, .i1⟩
  | 92 => ⟨S2x40000, .i1⟩
  | 93 => ⟨S2x40000, .i32⟩
  | 94 => ⟨S_, .i32⟩
  | 95 => ⟨S_, .i32⟩
  | 96 => ⟨S2x40000, .i32⟩
  | 97 => ⟨S_, .i32⟩
  | 98 => ⟨S2x40000, .i32⟩
  | 99 => ⟨S2x40000, .i32⟩
  | 100 => ⟨S_, .i32⟩
  | 101 => ⟨S_, .i32⟩
  | 102 => ⟨S2x40000, .i32⟩
  | 103 => ⟨S2x40000, .i32⟩
  | 104 => ⟨S_, .i32⟩
  | 105 => ⟨S2x1001, .i32⟩
  | 106 => ⟨S40000, .i32⟩
  | 107 => ⟨S1x40000, .i32⟩
  | 108 => ⟨S2x40000, .i32⟩
  | 109 => ⟨S2, .i32⟩
  | 110 => ⟨S2x1, .i32⟩
  | 111 => ⟨S_, .i32⟩
  | 112 => ⟨S2x1, .i32⟩
  | 113 => ⟨S2x1, .i1⟩
  | 114 => ⟨S_, .i32⟩
  | 115 => ⟨S2x1, .i32⟩
  | 116 => ⟨S2x1, .i32⟩
  | 117 => ⟨S2x1, .i32⟩
  | 118 => ⟨S_, .i32⟩
  | 119 => ⟨S2x40000, .i32⟩
  | 120 => ⟨S2x40000, .i1⟩
  | 121 => ⟨S_, .i32⟩
  | 122 => ⟨S2x40000, .i32⟩
  | 123 => ⟨S2x40000, .i32⟩
  | 124 => ⟨S2x40000, .i32⟩
  | 125 => ⟨S2x40000, .i32⟩
  | 126 => ⟨S2x40000x1, .i32⟩
  | 127 => ⟨S2x40000x1, .i32⟩
  | _ => ⟨S2x200000, .f32⟩

abbrev hbmTy0_1 (i : Nat) : BufTy := match i % 128 with
  | 0 => ⟨S2x40000x2, .i32⟩
  | 1 => ⟨S2x1001, .i32⟩
  | 2 => ⟨S2x1000, .i32⟩
  | 3 => ⟨S_, .i32⟩
  | 4 => ⟨S2x1000, .i32⟩
  | 5 => ⟨S2x1000, .i32⟩
  | 6 => ⟨S2x2000, .i32⟩
  | 7 => ⟨S2, .i32⟩
  | 8 => ⟨S2x1, .i32⟩
  | 9 => ⟨S_, .i32⟩
  | 10 => ⟨S2x1, .i32⟩
  | 11 => ⟨S2x1, .i1⟩
  | 12 => ⟨S_, .i32⟩
  | 13 => ⟨S2x1, .i32⟩
  | 14 => ⟨S2x1, .i32⟩
  | 15 => ⟨S2x1, .i32⟩
  | 16 => ⟨S_, .i32⟩
  | 17 => ⟨S2x2000, .i32⟩
  | 18 => ⟨S2x2000, .i1⟩
  | 19 => ⟨S_, .i32⟩
  | 20 => ⟨S2x2000, .i32⟩
  | 21 => ⟨S2x2000, .i32⟩
  | 22 => ⟨S2x2000, .i32⟩
  | 23 => ⟨S2x2000, .i32⟩
  | 24 => ⟨S2x2000x1, .i32⟩
  | 25 => ⟨S2x2000x1, .i32⟩
  | 26 => ⟨S2x2000x2, .i32⟩
  | 27 => ⟨S2x2000, .f32⟩
  | 28 => ⟨S_, .i32⟩
  | 29 => ⟨S2x2000, .i32⟩
  | 30 => ⟨S2x2000, .i1⟩
  | 31 => ⟨S2x2000, .f32⟩
  | 32 => ⟨S_, .i32⟩
  | 33 => ⟨S2x1, .i32⟩
  | 34 => ⟨S2x1, .i1⟩
  | 35 => ⟨S_, .i32⟩
  | 36 => ⟨S2x1, .i32⟩
  | 37 => ⟨S2x1, .i32⟩
  | 38 => ⟨S2x1, .i32⟩
  | 39 => ⟨S_, .i32⟩
  | 40 => ⟨S2x2000, .i32⟩
  | 41 => ⟨S2x2000, .i1⟩
  | 42 => ⟨S_, .i32⟩
  | 43 => ⟨S2x2000, .i32⟩
  | 44 => ⟨S2x2000, .i32⟩
  | 45 => ⟨S2x2000, .i32⟩
  | 46 => ⟨S2x2000, .i32⟩
  | 47 => ⟨S2x2000x1, .i32⟩
  | 48 => ⟨S2x2000x1, .i32⟩
  | 49 => ⟨S2x2000x2, .i32⟩
  | 50 => ⟨S2x2000x4, .f32⟩
  | 51 => ⟨S_, .i32⟩
  | 52 => ⟨S2x2000, .i32⟩
  | 53 => ⟨S2x2000, .i1⟩
  | 54 => ⟨S_, .i32⟩
  | 55 => ⟨S2x2000, .i32⟩
  | 56 => ⟨S2x2000, .i32⟩
  | 57 => ⟨S2x2000, .i32⟩
  | 58 => ⟨S2x2000x1, .i32⟩
  | 59 => ⟨S2x2000x4, .f32⟩
  | 60 => ⟨S_, .f32⟩
  | 61 => ⟨S_, .f32⟩
  | 62 => ⟨S2x2048, .f32⟩
  | 63 => ⟨S_, .i32⟩
  | 64 => ⟨S_, .f32⟩
  | 65 => ⟨S2x2048, .f32⟩
  | 66 => ⟨S_, .i32⟩
  | 67 => ⟨S_, .f32⟩
  | 68 => ⟨S2x2048x4, .f32⟩
  | 69 => ⟨S_, .i32⟩
  | 70 => ⟨S_, .f32⟩
  | 71 => ⟨S2x2048x4, .f32⟩
  | 72 => ⟨S2x2048, .f32⟩
  | 73 => ⟨S2x2048, .i32⟩
  | 74 => ⟨S2x2048, .f32⟩
  | 75 => ⟨S2x2048, .i32⟩
  | 76 => ⟨S_, .i32⟩
  | 77 => ⟨S2x2048, .i32⟩
  | 78 => ⟨S2x2048, .i1⟩
  | 79 => ⟨S_, .i32⟩
  | 80 => ⟨S2x2048, .i32⟩
  | 81 => ⟨S2x2048, .i32⟩
  | 82 => ⟨S2x2048, .i32⟩
  | 83 => ⟨S2x2048x1, .i32⟩
  | 84 => ⟨S1, .i32⟩
  | 85 => ⟨S_, .i32⟩
  | 86 => ⟨S2x2048x1, .i32⟩
  | 87 => ⟨S2x2048x1, .i1⟩
  | 88 => ⟨S1x1x1, .i32⟩
  | 89 => ⟨S2x2048x1, .i32⟩
  | 90 => ⟨S2x2048x1, .i1⟩
  | 91 => ⟨S2x2048x1, .i1⟩
  | 92 => ⟨S_, .i1⟩
  | 93 => ⟨S2x2048, .i1⟩
  | 94 => ⟨S2x2048, .f32⟩
  | 95 => ⟨S_, .f32⟩
  | 96 => ⟨S2x2048, .f32⟩
  | 97 => ⟨S2x2048, .f32⟩
  | 98 => ⟨S_, .i32⟩
  | 99 => ⟨S2x2048, .i32⟩
  | 100 => ⟨S2x2048, .i1⟩
  | 101 => ⟨S_, .i32⟩
  | 102 => ⟨S2x2048, .i32⟩
  | 103 => ⟨S2x2048, .i32⟩
  | 104 => ⟨S2x2048, .i32⟩
  | 105 => ⟨S2x2048x1, .i32⟩
  | 106 => ⟨S1, .i32⟩
  | 107 => ⟨S_, .i32⟩
  | 108 => ⟨S2x2048x1, .i32⟩
  | 109 => ⟨S2x2048x1, .i1⟩
  | 110 => ⟨S1x1x1, .i32⟩
  | 111 => ⟨S2x2048x1, .i32⟩
  | 112 => ⟨S2x2048x1, .i1⟩
  | 113 => ⟨S2x2048x1, .i1⟩
  | 114 => ⟨S_, .i1⟩
  | 115 => ⟨S2x2048, .i1⟩
  | 116 => ⟨S2x2048, .f32⟩
  | 117 => ⟨S_, .f32⟩
  | 118 => ⟨S2x2048, .f32⟩
  | 119 => ⟨S2x2048, .f32⟩
  | 120 => ⟨S2x2048x1, .i32⟩
  | 121 => ⟨S_, .i32⟩
  | 122 => ⟨S2x2048x1, .i32⟩
  | 123 => ⟨S2x2048x1, .i1⟩
  | 124 => ⟨S_, .i32⟩
  | 125 => ⟨S2x2048x1, .i32⟩
  | 126 => ⟨S2x2048x1, .i32⟩
  | 127 => ⟨S2x2048x1, .i32⟩
  | _ => ⟨S2x200000, .f32⟩

abbrev hbmTy0_2 (i : Nat) : BufTy := match i % 128 with
  | 0 => ⟨S1, .i32⟩
  | 1 => ⟨S_, .i32⟩
  | 2 => ⟨S2x2048x1, .i32⟩
  | 3 => ⟨S2x2048x1, .i1⟩
  | 4 => ⟨S1x1x1, .i32⟩
  | 5 => ⟨S2x2048x1, .i32⟩
  | 6 => ⟨S2x2048x1, .i1⟩
  | 7 => ⟨S2x2048x1, .i1⟩
  | 8 => ⟨S_, .i1⟩
  | 9 => ⟨S2x2048, .i1⟩
  | 10 => ⟨S2x2048x4, .f32⟩
  | 11 => ⟨S2x2048x4, .i1⟩
  | 12 => ⟨S_, .f32⟩
  | 13 => ⟨S2x2048x4, .f32⟩
  | 14 => ⟨S2x2048x4, .f32⟩
  | 15 => ⟨S2x2048x1, .i32⟩
  | 16 => ⟨S_, .i32⟩
  | 17 => ⟨S2x2048x1, .i32⟩
  | 18 => ⟨S2x2048x1, .i1⟩
  | 19 => ⟨S_, .i32⟩
  | 20 => ⟨S2x2048x1, .i32⟩
  | 21 => ⟨S2x2048x1, .i32⟩
  | 22 => ⟨S2x2048x1, .i32⟩
  | 23 => ⟨S1, .i32⟩
  | 24 => ⟨S_, .i32⟩
  | 25 => ⟨S2x2048x1, .i32⟩
  | 26 => ⟨S2x2048x1, .i1⟩
  | 27 => ⟨S1x1x1, .i32⟩
  | 28 => ⟨S2x2048x1, .i32⟩
  | 29 => ⟨S2x2048x1, .i1⟩
  | 30 => ⟨S2x2048x1, .i1⟩
  | 31 => ⟨S_, .i1⟩
  | 32 => ⟨S2x2048, .i1⟩
  | 33 => ⟨S2x2048x4, .f32⟩
  | 34 => ⟨S2x2048x4, .i1⟩
  | 35 => ⟨S_, .f32⟩
  | 36 => ⟨S2x2048x4, .f32⟩
  | 37 => ⟨S2x2048x4, .f32⟩
  | 38 => ⟨S2x16x128, .f32⟩
  | 39 => ⟨S2x16x128, .f32⟩
  | 40 => ⟨S2x4x2048, .f32⟩
  | 41 => ⟨S2x4x16x128, .f32⟩
  | 42 => ⟨S2x4x2048, .f32⟩
  | 43 => ⟨S2x4x16x128, .f32⟩
  | 44 => ⟨S2x4x16x128, .f32⟩
  | 45 => ⟨S2x16x128, .f32⟩
  | 46 => ⟨S2x4x2048, .f32⟩
  | 47 => ⟨S2x2048x4, .f32⟩
  | 48 => ⟨S2x2048, .f32⟩
  | 49 => ⟨S_, .f32⟩
  | 50 => ⟨S2x2048, .f32⟩
  | 51 => ⟨S2x2048, .i1⟩
  | 52 => ⟨S2x2048, .i32⟩
  | 53 => ⟨S_, .i32⟩
  | 54 => ⟨S_, .i32⟩
  | 55 => ⟨S2x2048, .i32⟩
  | 56 => ⟨S_, .i32⟩
  | 57 => ⟨S2x2048, .i32⟩
  | 58 => ⟨S2x2048, .i32⟩
  | 59 => ⟨S_, .i32⟩
  | 60 => ⟨S2x2048, .i32⟩
  | 61 => ⟨S2x2048, .i1⟩
  | 62 => ⟨S2x2048, .i1⟩
  | 63 => ⟨S_, .i32⟩
  | 64 => ⟨S_, .i32⟩
  | 65 => ⟨S2x2048, .i32⟩
  | 66 => ⟨S2x2048, .i32⟩
  | 67 => ⟨S_, .f32⟩
  | 68 => ⟨S2x1001x4, .f32⟩
  | 69 => ⟨S_, .i32⟩
  | 70 => ⟨S2x1, .i32⟩
  | 71 => ⟨S2x1, .i1⟩
  | 72 => ⟨S_, .i32⟩
  | 73 => ⟨S2x1, .i32⟩
  | 74 => ⟨S2x1, .i32⟩
  | 75 => ⟨S2x1, .i32⟩
  | 76 => ⟨S_, .i32⟩
  | 77 => ⟨S2x2048, .i32⟩
  | 78 => ⟨S2x2048, .i1⟩
  | 79 => ⟨S_, .i32⟩
  | 80 => ⟨S2x2048, .i32⟩
  | 81 => ⟨S2x2048, .i32⟩
  | 82 => ⟨S2x2048, .i32⟩
  | 83 => ⟨S2x2048, .i32⟩
  | 84 => ⟨S2x2048x1, .i32⟩
  | 85 => ⟨S2x2048x1, .i32⟩
  | 86 => ⟨S2x2048x2, .i32⟩
  | 87 => ⟨S2x1001x4, .f32⟩
  | 88 => ⟨S2x1000x4, .f32⟩
  | _ => ⟨S2x200000, .f32⟩

abbrev hbmTy (i : Nat) : BufTy := match i / 128 with
  | 0 => hbmTy0_0 i
  | 1 => hbmTy0_1 i
  | 2 => hbmTy0_2 i
  | _ => ⟨S2x200000, .f32⟩

abbrev bufTy : (tb : Table) → Fin (tcTables nBuf tb) → BufTy
  | .hbm, ⟨i, _⟩ => hbmTy i
  | .local _ .vmem, ⟨0, _⟩ => ⟨S1x1256x128, .f32⟩
  | .local _ .vmem, ⟨1, _⟩ => ⟨S1x1256x128, .f32⟩
  | .local _ .vmem, ⟨2, _⟩ => ⟨S1x320x128, .f32⟩
  | .local _ .vmem, ⟨3, _⟩ => ⟨S1x320x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x4x16x128, .f32⟩
  | .local _ .vmem, ⟨9, _⟩ => ⟨S1x4x16x128, .f32⟩
  | .local _ .vmem, ⟨10, _⟩ => ⟨S1x4x16x128, .f32⟩
  | .local _ .vmem, ⟨11, _⟩ => ⟨S1x4x16x128, .f32⟩
  | .local _ .vmem, ⟨12, _⟩ => ⟨S1x4x16x128, .f32⟩
  | .local _ .vmem, ⟨13, _⟩ => ⟨S1x4x16x128, .f32⟩
  | .local _ .vmem, ⟨14, _⟩ => ⟨S1x16x128, .f32⟩
  | .local _ .vmem, ⟨15, _⟩ => ⟨S1x16x128, .f32⟩
  | .local _ .smem, ⟨0, _⟩ => ⟨S1x1x1, .f32⟩
  | .local _ .smem, ⟨1, _⟩ => ⟨S1x1x1, .f32⟩
  | .local _ .smem, ⟨2, _⟩ => ⟨S1x1x1, .f32⟩
  | .local _ .smem, ⟨3, _⟩ => ⟨S1x1x1, .f32⟩
  | _, _ => ⟨S2x200000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call1_call0_c : Ref sig .tc := ⟨.hbm, 19, rfl⟩
abbrev main_call1_call0_v0 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call2_call0_c : Ref sig .tc := ⟨.hbm, 30, rfl⟩
abbrev main_call2_call0_v0 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_call3_v0 : Ref sig .tc := ⟨.hbm, 37, rfl⟩
abbrev main_call3_v1 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_call4_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call5_call0_c : Ref sig .tc := ⟨.hbm, 83, rfl⟩
abbrev main_call5_call0_v0 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call6_call0_c : Ref sig .tc := ⟨.hbm, 94, rfl⟩
abbrev main_call6_call0_v0 : Ref sig .tc := ⟨.hbm, 95, rfl⟩
abbrev main_v68 : Ref sig .tc := ⟨.hbm, 96, rfl⟩
abbrev main_c_11 : Ref sig .tc := ⟨.hbm, 97, rfl⟩
abbrev main_v69 : Ref sig .tc := ⟨.hbm, 98, rfl⟩
abbrev main_v70 : Ref sig .tc := ⟨.hbm, 99, rfl⟩
abbrev main_c_12 : Ref sig .tc := ⟨.hbm, 100, rfl⟩
abbrev main_call7_v0 : Ref sig .tc := ⟨.hbm, 101, rfl⟩
abbrev main_call7_v1 : Ref sig .tc := ⟨.hbm, 102, rfl⟩
abbrev main_v71 : Ref sig .tc := ⟨.hbm, 103, rfl⟩
abbrev main_c_13 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_14 : Ref sig .tc := ⟨.hbm, 111, rfl⟩
abbrev main_v78 : Ref sig .tc := ⟨.hbm, 112, rfl⟩
abbrev main_v79 : Ref sig .tc := ⟨.hbm, 113, rfl⟩
abbrev main_c_15 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_16 : Ref sig .tc := ⟨.hbm, 118, rfl⟩
abbrev main_v83 : Ref sig .tc := ⟨.hbm, 119, rfl⟩
abbrev main_v84 : Ref sig .tc := ⟨.hbm, 120, rfl⟩
abbrev main_c_17 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_18 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_19 : Ref sig .tc := ⟨.hbm, 137, rfl⟩
abbrev main_v99 : Ref sig .tc := ⟨.hbm, 138, rfl⟩
abbrev main_v100 : Ref sig .tc := ⟨.hbm, 139, rfl⟩
abbrev main_c_20 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_21 : Ref sig .tc := ⟨.hbm, 144, rfl⟩
abbrev main_v104 : Ref sig .tc := ⟨.hbm, 145, rfl⟩
abbrev main_v105 : Ref sig .tc := ⟨.hbm, 146, rfl⟩
abbrev main_c_22 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_c_23 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_24 : Ref sig .tc := ⟨.hbm, 160, rfl⟩
abbrev main_v117 : Ref sig .tc := ⟨.hbm, 161, rfl⟩
abbrev main_v118 : Ref sig .tc := ⟨.hbm, 162, rfl⟩
abbrev main_c_25 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_c_26 : Ref sig .tc := ⟨.hbm, 167, rfl⟩
abbrev main_v122 : Ref sig .tc := ⟨.hbm, 168, rfl⟩
abbrev main_v123 : Ref sig .tc := ⟨.hbm, 169, rfl⟩
abbrev main_c_27 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_c_28 : Ref sig .tc := ⟨.hbm, 179, rfl⟩
abbrev main_v132 : Ref sig .tc := ⟨.hbm, 180, rfl⟩
abbrev main_v133 : Ref sig .tc := ⟨.hbm, 181, rfl⟩
abbrev main_c_29 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_30 : Ref sig .tc := ⟨.hbm, 188, rfl⟩
abbrev main_call8_v0 : Ref sig .tc := ⟨.hbm, 189, rfl⟩
abbrev main_v139 : Ref sig .tc := ⟨.hbm, 190, rfl⟩
abbrev main_c_31 : Ref sig .tc := ⟨.hbm, 191, rfl⟩
abbrev main_call9_v0 : Ref sig .tc := ⟨.hbm, 192, rfl⟩
abbrev main_v140 : Ref sig .tc := ⟨.hbm, 193, rfl⟩
abbrev main_c_32 : Ref sig .tc := ⟨.hbm, 194, rfl⟩
abbrev main_call10_v0 : Ref sig .tc := ⟨.hbm, 195, rfl⟩
abbrev main_v141 : Ref sig .tc := ⟨.hbm, 196, rfl⟩
abbrev main_c_33 : Ref sig .tc := ⟨.hbm, 197, rfl⟩
abbrev main_call11_v0 : Ref sig .tc := ⟨.hbm, 198, rfl⟩
abbrev main_v142 : Ref sig .tc := ⟨.hbm, 199, rfl⟩
abbrev main_v143 : Ref sig .tc := ⟨.hbm, 200, rfl⟩
abbrev main_call12_v0 : Ref sig .tc := ⟨.hbm, 201, rfl⟩
abbrev main_call12_v1_0 : Ref sig .tc := ⟨.hbm, 202, rfl⟩
abbrev main_v144 : Ref sig .tc := ⟨.hbm, 203, rfl⟩
abbrev main_call13_c : Ref sig .tc := ⟨.hbm, 204, rfl⟩
abbrev main_call13_v0 : Ref sig .tc := ⟨.hbm, 205, rfl⟩
abbrev main_call13_v1 : Ref sig .tc := ⟨.hbm, 206, rfl⟩
abbrev main_call13_c_0 : Ref sig .tc := ⟨.hbm, 207, rfl⟩
abbrev main_call13_v2 : Ref sig .tc := ⟨.hbm, 208, rfl⟩
abbrev main_call13_v3 : Ref sig .tc := ⟨.hbm, 209, rfl⟩
abbrev main_call13_v4 : Ref sig .tc := ⟨.hbm, 210, rfl⟩
abbrev main_call13_v5 : Ref sig .tc := ⟨.hbm, 211, rfl⟩
abbrev main_call13_c_1 : Ref sig .tc := ⟨.hbm, 212, rfl⟩
abbrev main_call13_c_2 : Ref sig .tc := ⟨.hbm, 213, rfl⟩
abbrev main_call13_v6 : Ref sig .tc := ⟨.hbm, 214, rfl⟩
abbrev main_call13_v7 : Ref sig .tc := ⟨.hbm, 215, rfl⟩
abbrev main_call13_v8 : Ref sig .tc := ⟨.hbm, 216, rfl⟩
abbrev main_call13_v9 : Ref sig .tc := ⟨.hbm, 217, rfl⟩
abbrev main_call13_v10 : Ref sig .tc := ⟨.hbm, 218, rfl⟩
abbrev main_call13_v11 : Ref sig .tc := ⟨.hbm, 219, rfl⟩
abbrev main_call13_c_3 : Ref sig .tc := ⟨.hbm, 220, rfl⟩
abbrev main_call13_v12 : Ref sig .tc := ⟨.hbm, 221, rfl⟩
abbrev main_call13_v13 : Ref sig .tc := ⟨.hbm, 222, rfl⟩
abbrev main_call13_cst : Ref sig .tc := ⟨.hbm, 223, rfl⟩
abbrev main_call13_v14 : Ref sig .tc := ⟨.hbm, 224, rfl⟩
abbrev main_v145 : Ref sig .tc := ⟨.hbm, 225, rfl⟩
abbrev main_call14_c : Ref sig .tc := ⟨.hbm, 226, rfl⟩
abbrev main_call14_v0 : Ref sig .tc := ⟨.hbm, 227, rfl⟩
abbrev main_call14_v1 : Ref sig .tc := ⟨.hbm, 228, rfl⟩
abbrev main_call14_c_0 : Ref sig .tc := ⟨.hbm, 229, rfl⟩
abbrev main_call14_v2 : Ref sig .tc := ⟨.hbm, 230, rfl⟩
abbrev main_call14_v3 : Ref sig .tc := ⟨.hbm, 231, rfl⟩
abbrev main_call14_v4 : Ref sig .tc := ⟨.hbm, 232, rfl⟩
abbrev main_call14_v5 : Ref sig .tc := ⟨.hbm, 233, rfl⟩
abbrev main_call14_c_1 : Ref sig .tc := ⟨.hbm, 234, rfl⟩
abbrev main_call14_c_2 : Ref sig .tc := ⟨.hbm, 235, rfl⟩
abbrev main_call14_v6 : Ref sig .tc := ⟨.hbm, 236, rfl⟩
abbrev main_call14_v7 : Ref sig .tc := ⟨.hbm, 237, rfl⟩
abbrev main_call14_v8 : Ref sig .tc := ⟨.hbm, 238, rfl⟩
abbrev main_call14_v9 : Ref sig .tc := ⟨.hbm, 239, rfl⟩
abbrev main_call14_v10 : Ref sig .tc := ⟨.hbm, 240, rfl⟩
abbrev main_call14_v11 : Ref sig .tc := ⟨.hbm, 241, rfl⟩
abbrev main_call14_c_3 : Ref sig .tc := ⟨.hbm, 242, rfl⟩
abbrev main_call14_v12 : Ref sig .tc := ⟨.hbm, 243, rfl⟩
abbrev main_call14_v13 : Ref sig .tc := ⟨.hbm, 244, rfl⟩
abbrev main_call14_cst : Ref sig .tc := ⟨.hbm, 245, rfl⟩
abbrev main_call14_v14 : Ref sig .tc := ⟨.hbm, 246, rfl⟩
abbrev main_v146 : Ref sig .tc := ⟨.hbm, 247, rfl⟩
abbrev main_v147 : Ref sig .tc := ⟨.hbm, 248, rfl⟩
abbrev main_call15_c : Ref sig .tc := ⟨.hbm, 249, rfl⟩
abbrev main_call15_v0 : Ref sig .tc := ⟨.hbm, 250, rfl⟩
abbrev main_call15_v1 : Ref sig .tc := ⟨.hbm, 251, rfl⟩
abbrev main_call15_c_0 : Ref sig .tc := ⟨.hbm, 252, rfl⟩
abbrev main_call15_v2 : Ref sig .tc := ⟨.hbm, 253, rfl⟩
abbrev main_call15_v3 : Ref sig .tc := ⟨.hbm, 254, rfl⟩
abbrev main_call15_v4 : Ref sig .tc := ⟨.hbm, 255, rfl⟩
abbrev main_call15_c_1 : Ref sig .tc := ⟨.hbm, 256, rfl⟩
abbrev main_call15_c_2 : Ref sig .tc := ⟨.hbm, 257, rfl⟩
abbrev main_call15_v5 : Ref sig .tc := ⟨.hbm, 258, rfl⟩
abbrev main_call15_v6 : Ref sig .tc := ⟨.hbm, 259, rfl⟩
abbrev main_call15_v7 : Ref sig .tc := ⟨.hbm, 260, rfl⟩
abbrev main_call15_v8 : Ref sig .tc := ⟨.hbm, 261, rfl⟩
abbrev main_call15_v9 : Ref sig .tc := ⟨.hbm, 262, rfl⟩
abbrev main_call15_v10 : Ref sig .tc := ⟨.hbm, 263, rfl⟩
abbrev main_call15_c_3 : Ref sig .tc := ⟨.hbm, 264, rfl⟩
abbrev main_call15_v11 : Ref sig .tc := ⟨.hbm, 265, rfl⟩
abbrev main_call15_v12 : Ref sig .tc := ⟨.hbm, 266, rfl⟩
abbrev main_call15_v13 : Ref sig .tc := ⟨.hbm, 267, rfl⟩
abbrev main_call15_cst : Ref sig .tc := ⟨.hbm, 268, rfl⟩
abbrev main_call15_v14 : Ref sig .tc := ⟨.hbm, 269, rfl⟩
abbrev main_v148 : Ref sig .tc := ⟨.hbm, 270, rfl⟩
abbrev main_v149 : Ref sig .tc := ⟨.hbm, 271, rfl⟩
abbrev main_call16_c : Ref sig .tc := ⟨.hbm, 272, rfl⟩
abbrev main_call16_v0 : Ref sig .tc := ⟨.hbm, 273, rfl⟩
abbrev main_call16_v1 : Ref sig .tc := ⟨.hbm, 274, rfl⟩
abbrev main_call16_c_0 : Ref sig .tc := ⟨.hbm, 275, rfl⟩
abbrev main_call16_v2 : Ref sig .tc := ⟨.hbm, 276, rfl⟩
abbrev main_call16_v3 : Ref sig .tc := ⟨.hbm, 277, rfl⟩
abbrev main_call16_v4 : Ref sig .tc := ⟨.hbm, 278, rfl⟩
abbrev main_call16_c_1 : Ref sig .tc := ⟨.hbm, 279, rfl⟩
abbrev main_call16_c_2 : Ref sig .tc := ⟨.hbm, 280, rfl⟩
abbrev main_call16_v5 : Ref sig .tc := ⟨.hbm, 281, rfl⟩
abbrev main_call16_v6 : Ref sig .tc := ⟨.hbm, 282, rfl⟩
abbrev main_call16_v7 : Ref sig .tc := ⟨.hbm, 283, rfl⟩
abbrev main_call16_v8 : Ref sig .tc := ⟨.hbm, 284, rfl⟩
abbrev main_call16_v9 : Ref sig .tc := ⟨.hbm, 285, rfl⟩
abbrev main_call16_v10 : Ref sig .tc := ⟨.hbm, 286, rfl⟩
abbrev main_call16_c_3 : Ref sig .tc := ⟨.hbm, 287, rfl⟩
abbrev main_call16_v11 : Ref sig .tc := ⟨.hbm, 288, rfl⟩
abbrev main_call16_v12 : Ref sig .tc := ⟨.hbm, 289, rfl⟩
abbrev main_call16_v13 : Ref sig .tc := ⟨.hbm, 290, rfl⟩
abbrev main_call16_cst : Ref sig .tc := ⟨.hbm, 291, rfl⟩
abbrev main_call16_v14 : Ref sig .tc := ⟨.hbm, 292, rfl⟩
abbrev main_v150 : Ref sig .tc := ⟨.hbm, 293, rfl⟩
abbrev main_v151 : Ref sig .tc := ⟨.hbm, 294, rfl⟩
abbrev main_v152 : Ref sig .tc := ⟨.hbm, 295, rfl⟩
abbrev main_v153 : Ref sig .tc := ⟨.hbm, 296, rfl⟩
abbrev main_v154 : Ref sig .tc := ⟨.hbm, 297, rfl⟩
abbrev main_v155 : Ref sig .tc := ⟨.hbm, 298, rfl⟩
abbrev main_v156 : Ref sig .tc := ⟨.hbm, 299, rfl⟩
abbrev main_v157_0 : Ref sig .tc := ⟨.hbm, 300, rfl⟩
abbrev main_v157_1 : Ref sig .tc := ⟨.hbm, 301, rfl⟩
abbrev main_v158 : Ref sig .tc := ⟨.hbm, 302, rfl⟩
abbrev main_v159 : Ref sig .tc := ⟨.hbm, 303, rfl⟩
abbrev main_v160 : Ref sig .tc := ⟨.hbm, 304, rfl⟩
abbrev main_cst_34 : Ref sig .tc := ⟨.hbm, 305, rfl⟩
abbrev main_v161 : Ref sig .tc := ⟨.hbm, 306, rfl⟩
abbrev main_v162 : Ref sig .tc := ⟨.hbm, 307, rfl⟩
abbrev main_v163 : Ref sig .tc := ⟨.hbm, 308, rfl⟩
abbrev main_call17_call0_c : Ref sig .tc := ⟨.hbm, 309, rfl⟩
abbrev main_call17_call0_v0 : Ref sig .tc := ⟨.hbm, 310, rfl⟩
abbrev main_v164 : Ref sig .tc := ⟨.hbm, 311, rfl⟩
abbrev main_c_35 : Ref sig .tc := ⟨.hbm, 312, rfl⟩
abbrev main_v165 : Ref sig .tc := ⟨.hbm, 313, rfl⟩
abbrev main_v166 : Ref sig .tc := ⟨.hbm, 314, rfl⟩
abbrev main_c_36 : Ref sig .tc := ⟨.hbm, 315, rfl⟩
abbrev main_v167 : Ref sig .tc := ⟨.hbm, 316, rfl⟩
abbrev main_v168 : Ref sig .tc := ⟨.hbm, 317, rfl⟩
abbrev main_v169 : Ref sig .tc := ⟨.hbm, 318, rfl⟩
abbrev main_c_37 : Ref sig .tc := ⟨.hbm, 319, rfl⟩
abbrev main_call18_v0 : Ref sig .tc := ⟨.hbm, 320, rfl⟩
abbrev main_call18_v1 : Ref sig .tc := ⟨.hbm, 321, rfl⟩
abbrev main_v170 : Ref sig .tc := ⟨.hbm, 322, rfl⟩
abbrev main_cst_38 : Ref sig .tc := ⟨.hbm, 323, rfl⟩
abbrev main_v171 : Ref sig .tc := ⟨.hbm, 324, rfl⟩
abbrev main_c_39 : Ref sig .tc := ⟨.hbm, 325, rfl⟩
abbrev main_v172 : Ref sig .tc := ⟨.hbm, 326, rfl⟩
abbrev main_v173 : Ref sig .tc := ⟨.hbm, 327, rfl⟩
abbrev main_c_40 : Ref sig .tc := ⟨.hbm, 328, rfl⟩
abbrev main_v174 : Ref sig .tc := ⟨.hbm, 329, rfl⟩
abbrev main_v175 : Ref sig .tc := ⟨.hbm, 330, rfl⟩
abbrev main_v176 : Ref sig .tc := ⟨.hbm, 331, rfl⟩
abbrev main_c_41 : Ref sig .tc := ⟨.hbm, 332, rfl⟩
abbrev main_v177 : Ref sig .tc := ⟨.hbm, 333, rfl⟩
abbrev main_v178 : Ref sig .tc := ⟨.hbm, 334, rfl⟩
abbrev main_c_42 : Ref sig .tc := ⟨.hbm, 335, rfl⟩
abbrev main_v179 : Ref sig .tc := ⟨.hbm, 336, rfl⟩
abbrev main_v180 : Ref sig .tc := ⟨.hbm, 337, rfl⟩
abbrev main_v181 : Ref sig .tc := ⟨.hbm, 338, rfl⟩
abbrev main_v182 : Ref sig .tc := ⟨.hbm, 339, rfl⟩
abbrev main_v183 : Ref sig .tc := ⟨.hbm, 340, rfl⟩
abbrev main_v184 : Ref sig .tc := ⟨.hbm, 341, rfl⟩
abbrev main_v185 : Ref sig .tc := ⟨.hbm, 342, rfl⟩
abbrev main_v186 : Ref sig .tc := ⟨.hbm, 343, rfl⟩
abbrev main_v187 : Ref sig .tc := ⟨.hbm, 344, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc2_stg4_0 : Ref sig .tc := ⟨.vmem, 12, rfl⟩
abbrev cc2_stg4_1 : Ref sig .tc := ⟨.vmem, 13, rfl⟩
abbrev cc2_stg5_0 : Ref sig .tc := ⟨.vmem, 14, rfl⟩
abbrev cc2_stg5_1 : Ref sig .tc := ⟨.vmem, 15, rfl⟩
abbrev cc0_stg1_0 : Ref sig .tc := ⟨.smem, 0, rfl⟩
abbrev cc0_stg1_1 : Ref sig .tc := ⟨.smem, 1, rfl⟩
abbrev cc1_stg1_0 : Ref sig .tc := ⟨.smem, 2, rfl⟩
abbrev cc1_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c64_i32 : BitVec 32 := 64#32
  let v7 : BitVec 32 := Scalar.addi c0_i32 c64_i32
  let c1_i32 : BitVec 32 := 1#32
  ⟨c0_i32, v7, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![2], ![false]⟩

@[reducible] def k1_t1_loop : Scf.Loop 32 :=
  let c0_i32 : BitVec 32 := 0#32
  let c64_i32 : BitVec 32 := 64#32
  let v7 : BitVec 32 := Scalar.addi c0_i32 c64_i32
  let c1_i32 : BitVec 32 := 1#32
  ⟨c0_i32, v7, c1_i32⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x320x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .smem S1x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![2], ![false]⟩

@[reducible] def k2_t1_loop : Scf.Loop 32 :=
  let c0_i32 : BitVec 32 := 0#32
  let c2000_i32 : BitVec 32 := 2000#32
  let v102 : BitVec 32 := Scalar.addi c0_i32 c2000_i32
  let c1_i32 : BitVec 32 := 1#32
  ⟨c0_i32, v102, c1_i32⟩
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x16x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x16x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x4x16x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x4x16x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x4x16x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x16x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S2x200000 : Shape := ⟨2, ![2, 200000]⟩
abbrev S2x200000x4 : Shape := ⟨3, ![2, 200000, 4]⟩
abbrev S200000x4 : Shape := ⟨2, ![200000, 4]⟩
abbrev S200000x1 : Shape := ⟨2, ![200000, 1]⟩
abbrev S200000 : Shape := ⟨1, ![200000]⟩
abbrev S_ : Shape := ⟨0, ![]⟩
abbrev S2x200000x1 : Shape := ⟨3, ![2, 200000, 1]⟩
abbrev S1x200000 : Shape := ⟨2, ![1, 200000]⟩
abbrev S160000 : Shape := ⟨1, ![160000]⟩
abbrev S40000 : Shape := ⟨1, ![40000]⟩
abbrev S2x160000 : Shape := ⟨2, ![2, 160000]⟩
abbrev S2x1000 : Shape := ⟨2, ![2, 1000]⟩
abbrev S2x40000 : Shape := ⟨2, ![2, 40000]⟩
abbrev S2x2000 : Shape := ⟨2, ![2, 2000]⟩
abbrev S2 : Shape := ⟨1, ![2]⟩
abbrev S2x1 : Shape := ⟨2, ![2, 1]⟩
abbrev S2x2000x1 : Shape := ⟨3, ![2, 2000, 1]⟩
abbrev S2x2000x2 : Shape := ⟨3, ![2, 2000, 2]⟩
abbrev S2x2000x4 : Shape := ⟨3, ![2, 2000, 4]⟩
abbrev S2000 : Shape := ⟨1, ![2000]⟩
abbrev S1x2000 : Shape := ⟨2, ![1, 2000]⟩
abbrev S2x1000x1 : Shape := ⟨3, ![2, 1000, 1]⟩
abbrev S2x1000x2 : Shape := ⟨3, ![2, 1000, 2]⟩
abbrev S2x1000x4 : Shape := ⟨3, ![2, 1000, 4]⟩

abbrev nBuf : Space → Nat
  | .hbm => 481
  | .vmem => 0
  | .smem => 0
  | _ => 0

abbrev hbmTy0_0 (i : Nat) : BufTy := match i % 128 with
  | 0 => ⟨S2x200000, .f32⟩
  | 1 => ⟨S2x200000x4, .f32⟩
  | 2 => ⟨S200000x4, .f32⟩
  | 3 => ⟨S200000x1, .f32⟩
  | 4 => ⟨S200000, .f32⟩
  | 5 => ⟨S200000x1, .f32⟩
  | 6 => ⟨S200000, .f32⟩
  | 7 => ⟨S200000, .f32⟩
  | 8 => ⟨S200000x1, .f32⟩
  | 9 => ⟨S200000, .f32⟩
  | 10 => ⟨S200000x1, .f32⟩
  | 11 => ⟨S200000, .f32⟩
  | 12 => ⟨S200000, .f32⟩
  | 13 => ⟨S200000x1, .f32⟩
  | 14 => ⟨S200000, .f32⟩
  | 15 => ⟨S_, .f32⟩
  | 16 => ⟨S200000, .f32⟩
  | 17 => ⟨S200000, .f32⟩
  | 18 => ⟨S200000, .f32⟩
  | 19 => ⟨S200000x1, .f32⟩
  | 20 => ⟨S200000, .f32⟩
  | 21 => ⟨S_, .f32⟩
  | 22 => ⟨S200000, .f32⟩
  | 23 => ⟨S200000, .f32⟩
  | 24 => ⟨S200000, .f32⟩
  | 25 => ⟨S2x200000x1, .f32⟩
  | 26 => ⟨S2x200000, .f32⟩
  | 27 => ⟨S2x200000x1, .f32⟩
  | 28 => ⟨S2x200000, .f32⟩
  | 29 => ⟨S2x200000x1, .f32⟩
  | 30 => ⟨S2x200000, .f32⟩
  | 31 => ⟨S_, .f32⟩
  | 32 => ⟨S2x200000, .f32⟩
  | 33 => ⟨S2x200000, .f32⟩
  | 34 => ⟨S2x200000x1, .f32⟩
  | 35 => ⟨S2x200000, .f32⟩
  | 36 => ⟨S_, .f32⟩
  | 37 => ⟨S2x200000, .f32⟩
  | 38 => ⟨S2x200000, .f32⟩
  | 39 => ⟨S1x200000, .f32⟩
  | 40 => ⟨S2x200000, .f32⟩
  | 41 => ⟨S2x200000, .f32⟩
  | 42 => ⟨S1x200000, .f32⟩
  | 43 => ⟨S2x200000, .f32⟩
  | 44 => ⟨S2x200000, .f32⟩
  | 45 => ⟨S1x200000, .f32⟩
  | 46 => ⟨S2x200000, .f32⟩
  | 47 => ⟨S2x200000, .f32⟩
  | 48 => ⟨S1x200000, .f32⟩
  | 49 => ⟨S2x200000, .f32⟩
  | 50 => ⟨S2x200000, .f32⟩
  | 51 => ⟨S2x200000, .f32⟩
  | 52 => ⟨S1x200000, .f32⟩
  | 53 => ⟨S2x200000, .f32⟩
  | 54 => ⟨S2x200000, .f32⟩
  | 55 => ⟨S2x200000, .f32⟩
  | 56 => ⟨S1x200000, .f32⟩
  | 57 => ⟨S2x200000, .f32⟩
  | 58 => ⟨S2x200000, .f32⟩
  | 59 => ⟨S_, .f32⟩
  | 60 => ⟨S2x200000, .f32⟩
  | 61 => ⟨S2x200000, .f32⟩
  | 62 => ⟨S2x200000, .f32⟩
  | 63 => ⟨S_, .f32⟩
  | 64 => ⟨S2x200000, .f32⟩
  | 65 => ⟨S2x200000, .f32⟩
  | 66 => ⟨S2x200000, .f32⟩
  | 67 => ⟨S_, .f32⟩
  | 68 => ⟨S2x200000, .f32⟩
  | 69 => ⟨S2x200000, .f32⟩
  | 70 => ⟨S2x200000, .f32⟩
  | 71 => ⟨S_, .f32⟩
  | 72 => ⟨S2x200000, .f32⟩
  | 73 => ⟨S2x200000, .f32⟩
  | 74 => ⟨S2x200000, .f32⟩
  | 75 => ⟨S2x200000x1, .f32⟩
  | 76 => ⟨S2x200000x1, .f32⟩
  | 77 => ⟨S2x200000x1, .f32⟩
  | 78 => ⟨S2x200000x1, .f32⟩
  | 79 => ⟨S2x200000x4, .f32⟩
  | 80 => ⟨S_, .i32⟩
  | 81 => ⟨S160000, .i32⟩
  | 82 => ⟨S_, .i32⟩
  | 83 => ⟨S40000, .i32⟩
  | 84 => ⟨S200000, .i32⟩
  | 85 => ⟨S2x160000, .f32⟩
  | 86 => ⟨S2x1000, .f32⟩
  | 87 => ⟨S2x1000, .i32⟩
  | 88 => ⟨S_, .i32⟩
  | 89 => ⟨S2x1000, .i32⟩
  | 90 => ⟨S2x1000, .i32⟩
  | 91 => ⟨S2x40000, .f32⟩
  | 92 => ⟨S2x1000, .f32⟩
  | 93 => ⟨S2x1000, .i32⟩
  | 94 => ⟨S_, .i32⟩
  | 95 => ⟨S2x1000, .i32⟩
  | 96 => ⟨S2x1000, .i32⟩
  | 97 => ⟨S2x2000, .i32⟩
  | 98 => ⟨S2, .i32⟩
  | 99 => ⟨S2x1, .i32⟩
  | 100 => ⟨S_, .i32⟩
  | 101 => ⟨S2x1, .i32⟩
  | 102 => ⟨S2x1, .i1⟩
  | 103 => ⟨S_, .i32⟩
  | 104 => ⟨S2x1, .i32⟩
  | 105 => ⟨S2x1, .i32⟩
  | 106 => ⟨S2x1, .i32⟩
  | 107 => ⟨S_, .i32⟩
  | 108 => ⟨S2x2000, .i32⟩
  | 109 => ⟨S2x2000, .i1⟩
  | 110 => ⟨S_, .i32⟩
  | 111 => ⟨S2x2000, .i32⟩
  | 112 => ⟨S2x2000, .i32⟩
  | 113 => ⟨S2x2000, .i32⟩
  | 114 => ⟨S2x2000, .i32⟩
  | 115 => ⟨S2x2000x1, .i32⟩
  | 116 => ⟨S2x2000x1, .i32⟩
  | 117 => ⟨S2x2000x2, .i32⟩
  | 118 => ⟨S2x2000, .f32⟩
  | 119 => ⟨S_, .i32⟩
  | 120 => ⟨S2x2000, .i32⟩
  | 121 => ⟨S2x2000, .i1⟩
  | 122 => ⟨S_, .i32⟩
  | 123 => ⟨S2x2000, .i32⟩
  | 124 => ⟨S2x2000, .i32⟩
  | 125 => ⟨S2x2000, .i32⟩
  | 126 => ⟨S2x2000x1, .i32⟩
  | 127 => ⟨S2x2000, .i32⟩
  | _ => ⟨S2x200000, .f32⟩

abbrev hbmTy0_1 (i : Nat) : BufTy := match i % 128 with
  | 0 => ⟨S_, .i32⟩
  | 1 => ⟨S2x1, .i32⟩
  | 2 => ⟨S2x1, .i1⟩
  | 3 => ⟨S_, .i32⟩
  | 4 => ⟨S2x1, .i32⟩
  | 5 => ⟨S2x1, .i32⟩
  | 6 => ⟨S2x1, .i32⟩
  | 7 => ⟨S_, .i32⟩
  | 8 => ⟨S2x2000, .i32⟩
  | 9 => ⟨S2x2000, .i1⟩
  | 10 => ⟨S_, .i32⟩
  | 11 => ⟨S2x2000, .i32⟩
  | 12 => ⟨S2x2000, .i32⟩
  | 13 => ⟨S2x2000, .i32⟩
  | 14 => ⟨S2x2000, .i32⟩
  | 15 => ⟨S2x2000x1, .i32⟩
  | 16 => ⟨S2x2000x1, .i32⟩
  | 17 => ⟨S2x2000x2, .i32⟩
  | 18 => ⟨S2x2000x4, .f32⟩
  | 19 => ⟨S2x2000, .f32⟩
  | 20 => ⟨S2x2000, .f32⟩
  | 21 => ⟨S_, .f32⟩
  | 22 => ⟨S2x2000, .f32⟩
  | 23 => ⟨S2x2000, .f32⟩
  | 24 => ⟨S_, .f32⟩
  | 25 => ⟨S2x2000, .f32⟩
  | 26 => ⟨S2x2000, .f32⟩
  | 27 => ⟨S2x2000x1, .f32⟩
  | 28 => ⟨S2x2000, .f32⟩
  | 29 => ⟨S_, .f32⟩
  | 30 => ⟨S_, .f32⟩
  | 31 => ⟨S_, .f32⟩
  | 32 => ⟨S2x2000, .f32⟩
  | 33 => ⟨S2x2000, .f32⟩
  | 34 => ⟨S_, .f32⟩
  | 35 => ⟨S2x2000, .f32⟩
  | 36 => ⟨S2x2000, .f32⟩
  | 37 => ⟨S2x2000x1, .f32⟩
  | 38 => ⟨S2x2000, .f32⟩
  | 39 => ⟨S_, .f32⟩
  | 40 => ⟨S_, .f32⟩
  | 41 => ⟨S_, .f32⟩
  | 42 => ⟨S2x2000, .f32⟩
  | 43 => ⟨S2x2000, .f32⟩
  | 44 => ⟨S_, .f32⟩
  | 45 => ⟨S2x2000, .f32⟩
  | 46 => ⟨S2x2000, .f32⟩
  | 47 => ⟨S2x2000x1, .f32⟩
  | 48 => ⟨S2x2000, .f32⟩
  | 49 => ⟨S_, .f32⟩
  | 50 => ⟨S_, .f32⟩
  | 51 => ⟨S_, .f32⟩
  | 52 => ⟨S2x2000, .f32⟩
  | 53 => ⟨S2x2000, .f32⟩
  | 54 => ⟨S_, .f32⟩
  | 55 => ⟨S2x2000, .f32⟩
  | 56 => ⟨S2x2000, .f32⟩
  | 57 => ⟨S2x2000x1, .f32⟩
  | 58 => ⟨S2x2000, .f32⟩
  | 59 => ⟨S_, .f32⟩
  | 60 => ⟨S_, .f32⟩
  | 61 => ⟨S_, .f32⟩
  | 62 => ⟨S2x2000, .f32⟩
  | 63 => ⟨S2x2000, .f32⟩
  | 64 => ⟨S_, .f32⟩
  | 65 => ⟨S2x2000, .f32⟩
  | 66 => ⟨S2x2000, .f32⟩
  | 67 => ⟨S2x2000x1, .f32⟩
  | 68 => ⟨S2x2000x1, .f32⟩
  | 69 => ⟨S2x2000x1, .f32⟩
  | 70 => ⟨S2x2000x1, .f32⟩
  | 71 => ⟨S2x2000x4, .f32⟩
  | 72 => ⟨S2x2000x1, .f32⟩
  | 73 => ⟨S2x2000, .f32⟩
  | 74 => ⟨S2x2000x1, .f32⟩
  | 75 => ⟨S2x2000, .f32⟩
  | 76 => ⟨S2x2000, .f32⟩
  | 77 => ⟨S2x2000x1, .f32⟩
  | 78 => ⟨S2x2000, .f32⟩
  | 79 => ⟨S2x2000x1, .f32⟩
  | 80 => ⟨S2x2000, .f32⟩
  | 81 => ⟨S2x2000, .f32⟩
  | 82 => ⟨S_, .f32⟩
  | 83 => ⟨S2x2000, .f32⟩
  | 84 => ⟨S2x2000, .i1⟩
  | 85 => ⟨S_, .f32⟩
  | 86 => ⟨S2x2000, .f32⟩
  | 87 => ⟨S2x2000, .i1⟩
  | 88 => ⟨S2x2000, .i1⟩
  | 89 => ⟨S_, .f32⟩
  | 90 => ⟨S2x2000, .f32⟩
  | 91 => ⟨S2x2000, .i1⟩
  | 92 => ⟨S2x2000, .i1⟩
  | 93 => ⟨S_, .f32⟩
  | 94 => ⟨S_, .f32⟩
  | 95 => ⟨S2x2000, .f32⟩
  | 96 => ⟨S2x2000, .f32⟩
  | 97 => ⟨S2x2000x1, .i1⟩
  | 98 => ⟨S_, .f32⟩
  | 99 => ⟨S_, .f32⟩
  | 100 => ⟨S2x2000x4, .i1⟩
  | 101 => ⟨S2x2000x4, .f32⟩
  | 102 => ⟨S2x2000x4, .f32⟩
  | 103 => ⟨S2x2000, .f32⟩
  | 104 => ⟨S_, .f32⟩
  | 105 => ⟨S2x2000, .f32⟩
  | 106 => ⟨S2x2000, .f32⟩
  | 107 => ⟨S2x2000x1, .f32⟩
  | 108 => ⟨S2x2000x4, .f32⟩
  | 109 => ⟨S2x2000x4, .f32⟩
  | 110 => ⟨S2x2000, .f32⟩
  | 111 => ⟨S2x2000, .i32⟩
  | 112 => ⟨S2x2000, .f32⟩
  | 113 => ⟨S2x2000, .i32⟩
  | 114 => ⟨S2, .i32⟩
  | 115 => ⟨S2x1, .i32⟩
  | 116 => ⟨S_, .i32⟩
  | 117 => ⟨S2x1, .i32⟩
  | 118 => ⟨S2x1, .i1⟩
  | 119 => ⟨S_, .i32⟩
  | 120 => ⟨S2x1, .i32⟩
  | 121 => ⟨S2x1, .i32⟩
  | 122 => ⟨S2x1, .i32⟩
  | 123 => ⟨S_, .i32⟩
  | 124 => ⟨S2x2000, .i32⟩
  | 125 => ⟨S2x2000, .i1⟩
  | 126 => ⟨S_, .i32⟩
  | 127 => ⟨S2x2000, .i32⟩
  | _ => ⟨S2x200000, .f32⟩

abbrev hbmTy0_2 (i : Nat) : BufTy := match i % 128 with
  | 0 => ⟨S2x2000, .i32⟩
  | 1 => ⟨S2x2000, .i32⟩
  | 2 => ⟨S2x2000, .i32⟩
  | 3 => ⟨S2x2000x1, .i32⟩
  | 4 => ⟨S2x2000x1, .i32⟩
  | 5 => ⟨S2x2000x2, .i32⟩
  | 6 => ⟨S2x2000x4, .f32⟩
  | 7 => ⟨S_, .i32⟩
  | 8 => ⟨S2x1, .i32⟩
  | 9 => ⟨S2x1, .i1⟩
  | 10 => ⟨S_, .i32⟩
  | 11 => ⟨S2x1, .i32⟩
  | 12 => ⟨S2x1, .i32⟩
  | 13 => ⟨S2x1, .i32⟩
  | 14 => ⟨S_, .i32⟩
  | 15 => ⟨S2x2000, .i32⟩
  | 16 => ⟨S2x2000, .i1⟩
  | 17 => ⟨S_, .i32⟩
  | 18 => ⟨S2x2000, .i32⟩
  | 19 => ⟨S2x2000, .i32⟩
  | 20 => ⟨S2x2000, .i32⟩
  | 21 => ⟨S2x2000, .i32⟩
  | 22 => ⟨S2x2000x1, .i32⟩
  | 23 => ⟨S2x2000x1, .i32⟩
  | 24 => ⟨S2x2000x2, .i32⟩
  | 25 => ⟨S2x2000, .f32⟩
  | 26 => ⟨S_, .i32⟩
  | 27 => ⟨S2x1, .i32⟩
  | 28 => ⟨S2x1, .i1⟩
  | 29 => ⟨S_, .i32⟩
  | 30 => ⟨S2x1, .i32⟩
  | 31 => ⟨S2x1, .i32⟩
  | 32 => ⟨S2x1, .i32⟩
  | 33 => ⟨S_, .i32⟩
  | 34 => ⟨S2x2000, .i32⟩
  | 35 => ⟨S2x2000, .i1⟩
  | 36 => ⟨S_, .i32⟩
  | 37 => ⟨S2x2000, .i32⟩
  | 38 => ⟨S2x2000, .i32⟩
  | 39 => ⟨S2x2000, .i32⟩
  | 40 => ⟨S2x2000, .i32⟩
  | 41 => ⟨S2x2000x1, .i32⟩
  | 42 => ⟨S2x2000x1, .i32⟩
  | 43 => ⟨S2x2000x2, .i32⟩
  | 44 => ⟨S2x2000x4, .f32⟩
  | 45 => ⟨S2x2000x1, .f32⟩
  | 46 => ⟨S2x2000, .f32⟩
  | 47 => ⟨S2x2000x1, .f32⟩
  | 48 => ⟨S2x2000, .f32⟩
  | 49 => ⟨S2x2000x1, .f32⟩
  | 50 => ⟨S2x2000, .f32⟩
  | 51 => ⟨S2x2000x1, .f32⟩
  | 52 => ⟨S2x2000, .f32⟩
  | 53 => ⟨S2x2000, .f32⟩
  | 54 => ⟨S2x2000, .f32⟩
  | 55 => ⟨S2x2000, .f32⟩
  | 56 => ⟨S2000, .i32⟩
  | 57 => ⟨S_, .i1⟩
  | 58 => ⟨S2x2000, .i1⟩
  | 59 => ⟨S_, .i32⟩
  | 60 => ⟨S_, .i32⟩
  | 61 => ⟨S2x2000, .f32⟩
  | 62 => ⟨S2x2000, .f32⟩
  | 63 => ⟨S2x2000, .f32⟩
  | 64 => ⟨S2x2000, .f32⟩
  | 65 => ⟨S2x2000, .f32⟩
  | 66 => ⟨S2000, .i32⟩
  | 67 => ⟨S_, .i32⟩
  | 68 => ⟨S_, .i32⟩
  | 69 => ⟨S2x2000, .i1⟩
  | 70 => ⟨S_, .i32⟩
  | 71 => ⟨S_, .i1⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S2x1, .f32⟩
  | 82 => ⟨S2x2000, .f32⟩
  | 83 => ⟨S2x2000, .f32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S2x1, .f32⟩
  | 92 => ⟨S2x2000, .f32⟩
  | 93 => ⟨S2x2000, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S2x1, .f32⟩
  | 102 => ⟨S2x2000, .f32⟩
  | 103 => ⟨S2x2000, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S2x1, .f32⟩
  | 112 => ⟨S2x2000, .f32⟩
  | 113 => ⟨S2x2000, .f32⟩
  | 114 => ⟨S2x2000, .f32⟩
  | 115 => ⟨S_, .f32⟩
  | 116 => ⟨S_, .f32⟩
  | 117 => ⟨S2x2000, .f32⟩
  | 118 => ⟨S2x2000, .f32⟩
  | 119 => ⟨S2x2000, .f32⟩
  | 120 => ⟨S_, .f32⟩
  | 121 => ⟨S_, .f32⟩
  | 122 => ⟨S2x2000, .f32⟩
  | 123 => ⟨S2x2000, .f32⟩
  | 124 => ⟨S2x2000, .f32⟩
  | 125 => ⟨S_, .i32⟩
  | 126 => ⟨S_, .i1⟩
  | 127 => ⟨S_, .i32⟩
  | _ => ⟨S2x200000, .f32⟩

abbrev hbmTy0_3 (i : Nat) : BufTy := match i % 128 with
  | 0 => ⟨S_, .i32⟩
  | 1 => ⟨S_, .i32⟩
  | 2 => ⟨S_, .i32⟩
  | 3 => ⟨S_, .i32⟩
  | 4 => ⟨S2x1, .f32⟩
  | 5 => ⟨S2x2000, .f32⟩
  | 6 => ⟨S2x2000, .f32⟩
  | 7 => ⟨S2x2000, .f32⟩
  | 8 => ⟨S_, .f32⟩
  | 9 => ⟨S2x2000, .f32⟩
  | 10 => ⟨S2x2000, .f32⟩
  | 11 => ⟨S2x2000, .f32⟩
  | 12 => ⟨S_, .f32⟩
  | 13 => ⟨S2x2000, .f32⟩
  | 14 => ⟨S2x2000, .i1⟩
  | 15 => ⟨S_, .i32⟩
  | 16 => ⟨S2000, .i32⟩
  | 17 => ⟨S2000, .i1⟩
  | 18 => ⟨S1x2000, .i1⟩
  | 19 => ⟨S2x2000, .i1⟩
  | 20 => ⟨S2x2000, .i1⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S2x1, .i1⟩
  | 29 => ⟨S2x2000, .i1⟩
  | 30 => ⟨S2x2000, .i1⟩
  | 31 => ⟨S2x2000, .i1⟩
  | 32 => ⟨S2x2000, .i1⟩
  | 33 => ⟨S_, .i32⟩
  | 34 => ⟨S_, .i32⟩
  | 35 => ⟨S2x2000, .f32⟩
  | 36 => ⟨S_, .f32⟩
  | 37 => ⟨S2x2000, .f32⟩
  | 38 => ⟨S2x2000, .i1⟩
  | 39 => ⟨S2x2000, .i1⟩
  | 40 => ⟨S_, .f32⟩
  | 41 => ⟨S_, .f32⟩
  | 42 => ⟨S2x2000, .f32⟩
  | 43 => ⟨S2x2000, .f32⟩
  | 44 => ⟨S2x2000, .f32⟩
  | 45 => ⟨S2x2000, .i32⟩
  | 46 => ⟨S2x2000, .f32⟩
  | 47 => ⟨S2x2000, .i32⟩
  | 48 => ⟨S2x1000, .i32⟩
  | 49 => ⟨S_, .i32⟩
  | 50 => ⟨S2x1, .i32⟩
  | 51 => ⟨S2x1, .i1⟩
  | 52 => ⟨S_, .i32⟩
  | 53 => ⟨S2x1, .i32⟩
  | 54 => ⟨S2x1, .i32⟩
  | 55 => ⟨S2x1, .i32⟩
  | 56 => ⟨S_, .i32⟩
  | 57 => ⟨S2x1000, .i32⟩
  | 58 => ⟨S2x1000, .i1⟩
  | 59 => ⟨S_, .i32⟩
  | 60 => ⟨S2x1000, .i32⟩
  | 61 => ⟨S2x1000, .i32⟩
  | 62 => ⟨S2x1000, .i32⟩
  | 63 => ⟨S2x1000, .i32⟩
  | 64 => ⟨S2x1000x1, .i32⟩
  | 65 => ⟨S2x1000x1, .i32⟩
  | 66 => ⟨S2x1000x2, .i32⟩
  | 67 => ⟨S2x1000, .f32⟩
  | 68 => ⟨S2x1000, .f32⟩
  | 69 => ⟨S_, .f32⟩
  | 70 => ⟨S2x1000, .f32⟩
  | 71 => ⟨S2x1000, .i1⟩
  | 72 => ⟨S2x1000x1, .i1⟩
  | 73 => ⟨S_, .i32⟩
  | 74 => ⟨S2x1, .i32⟩
  | 75 => ⟨S2x1, .i1⟩
  | 76 => ⟨S_, .i32⟩
  | 77 => ⟨S2x1, .i32⟩
  | 78 => ⟨S2x1, .i32⟩
  | 79 => ⟨S2x1, .i32⟩
  | 80 => ⟨S_, .i32⟩
  | 81 => ⟨S2x1000, .i32⟩
  | 82 => ⟨S2x1000, .i1⟩
  | 83 => ⟨S_, .i32⟩
  | 84 => ⟨S2x1000, .i32⟩
  | 85 => ⟨S2x1000, .i32⟩
  | 86 => ⟨S2x1000, .i32⟩
  | 87 => ⟨S2x1000, .i32⟩
  | 88 => ⟨S2x1000x1, .i32⟩
  | 89 => ⟨S2x1000x1, .i32⟩
  | 90 => ⟨S2x1000x2, .i32⟩
  | 91 => ⟨S2x1000x4, .f32⟩
  | 92 => ⟨S_, .f32⟩
  | 93 => ⟨S_, .f32⟩
  | 94 => ⟨S2x1000x4, .i1⟩
  | 95 => ⟨S2x1000x4, .f32⟩
  | 96 => ⟨S2x1000x4, .f32⟩
  | _ => ⟨S2x200000, .f32⟩

abbrev hbmTy (i : Nat) : BufTy := match i / 128 with
  | 0 => hbmTy0_0 i
  | 1 => hbmTy0_1 i
  | 2 => hbmTy0_2 i
  | 3 => hbmTy0_3 i
  | _ => ⟨S2x200000, .f32⟩

abbrev bufTy : (tb : Table) → Fin (tcTables nBuf tb) → BufTy
  | .hbm, ⟨i, _⟩ => hbmTy i
  | _, _ => ⟨S2x200000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_cst_3 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_6 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_c : Ref sig .tc := ⟨.hbm, 80, rfl⟩
abbrev main_v69 : Ref sig .tc := ⟨.hbm, 81, rfl⟩
abbrev main_c_7 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_values : Ref sig .tc := ⟨.hbm, 86, rfl⟩
abbrev main_indices : Ref sig .tc := ⟨.hbm, 87, rfl⟩
abbrev main_c_8 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_values_9 : Ref sig .tc := ⟨.hbm, 92, rfl⟩
abbrev main_indices_10 : Ref sig .tc := ⟨.hbm, 93, rfl⟩
abbrev main_c_11 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_c_12 : Ref sig .tc := ⟨.hbm, 100, rfl⟩
abbrev main_v81 : Ref sig .tc := ⟨.hbm, 101, rfl⟩
abbrev main_v82 : Ref sig .tc := ⟨.hbm, 102, rfl⟩
abbrev main_c_13 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c_14 : Ref sig .tc := ⟨.hbm, 107, rfl⟩
abbrev main_v86 : Ref sig .tc := ⟨.hbm, 108, rfl⟩
abbrev main_v87 : Ref sig .tc := ⟨.hbm, 109, rfl⟩
abbrev main_c_15 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_c_16 : Ref sig .tc := ⟨.hbm, 119, rfl⟩
abbrev main_v96 : Ref sig .tc := ⟨.hbm, 120, rfl⟩
abbrev main_v97 : Ref sig .tc := ⟨.hbm, 121, rfl⟩
abbrev main_c_17 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_c_18 : Ref sig .tc := ⟨.hbm, 128, rfl⟩
abbrev main_v103 : Ref sig .tc := ⟨.hbm, 129, rfl⟩
abbrev main_v104 : Ref sig .tc := ⟨.hbm, 130, rfl⟩
abbrev main_c_19 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_c_20 : Ref sig .tc := ⟨.hbm, 135, rfl⟩
abbrev main_v108 : Ref sig .tc := ⟨.hbm, 136, rfl⟩
abbrev main_v109 : Ref sig .tc := ⟨.hbm, 137, rfl⟩
abbrev main_c_21 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_22 : Ref sig .tc := ⟨.hbm, 149, rfl⟩
abbrev main_v120 : Ref sig .tc := ⟨.hbm, 150, rfl⟩
abbrev main_v121 : Ref sig .tc := ⟨.hbm, 151, rfl⟩
abbrev main_cst_23 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_24 : Ref sig .tc := ⟨.hbm, 157, rfl⟩
abbrev main_cst_25 : Ref sig .tc := ⟨.hbm, 158, rfl⟩
abbrev main_call0_v0 : Ref sig .tc := ⟨.hbm, 159, rfl⟩
abbrev main_call0_v1 : Ref sig .tc := ⟨.hbm, 160, rfl⟩
abbrev main_call0_v2 : Ref sig .tc := ⟨.hbm, 161, rfl⟩
abbrev main_call0_v3 : Ref sig .tc := ⟨.hbm, 162, rfl⟩
abbrev main_call0_v4 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_26 : Ref sig .tc := ⟨.hbm, 167, rfl⟩
abbrev main_cst_27 : Ref sig .tc := ⟨.hbm, 168, rfl⟩
abbrev main_call1_v0 : Ref sig .tc := ⟨.hbm, 169, rfl⟩
abbrev main_call1_v1 : Ref sig .tc := ⟨.hbm, 170, rfl⟩
abbrev main_call1_v2 : Ref sig .tc := ⟨.hbm, 171, rfl⟩
abbrev main_call1_v3 : Ref sig .tc := ⟨.hbm, 172, rfl⟩
abbrev main_call1_v4 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_28 : Ref sig .tc := ⟨.hbm, 177, rfl⟩
abbrev main_cst_29 : Ref sig .tc := ⟨.hbm, 178, rfl⟩
abbrev main_call2_v0 : Ref sig .tc := ⟨.hbm, 179, rfl⟩
abbrev main_call2_v1 : Ref sig .tc := ⟨.hbm, 180, rfl⟩
abbrev main_call2_v2 : Ref sig .tc := ⟨.hbm, 181, rfl⟩
abbrev main_call2_v3 : Ref sig .tc := ⟨.hbm, 182, rfl⟩
abbrev main_call2_v4 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_30 : Ref sig .tc := ⟨.hbm, 187, rfl⟩
abbrev main_cst_31 : Ref sig .tc := ⟨.hbm, 188, rfl⟩
abbrev main_call3_v0 : Ref sig .tc := ⟨.hbm, 189, rfl⟩
abbrev main_call3_v1 : Ref sig .tc := ⟨.hbm, 190, rfl⟩
abbrev main_call3_v2 : Ref sig .tc := ⟨.hbm, 191, rfl⟩
abbrev main_call3_v3 : Ref sig .tc := ⟨.hbm, 192, rfl⟩
abbrev main_call3_v4 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_cst_32 : Ref sig .tc := ⟨.hbm, 210, rfl⟩
abbrev main_v151 : Ref sig .tc := ⟨.hbm, 211, rfl⟩
abbrev main_v152 : Ref sig .tc := ⟨.hbm, 212, rfl⟩
abbrev main_cst_33 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_cst_34 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_cst_35 : Ref sig .tc := ⟨.hbm, 221, rfl⟩
abbrev main_call4_v0 : Ref sig .tc := ⟨.hbm, 222, rfl⟩
abbrev main_call4_v1 : Ref sig .tc := ⟨.hbm, 223, rfl⟩
abbrev main_v159 : Ref sig .tc := ⟨.hbm, 224, rfl⟩
abbrev main_v160 : Ref sig .tc := ⟨.hbm, 225, rfl⟩
abbrev main_cst_36 : Ref sig .tc := ⟨.hbm, 226, rfl⟩
abbrev main_call5_v0 : Ref sig .tc := ⟨.hbm, 227, rfl⟩
abbrev main_call5_v1 : Ref sig .tc := ⟨.hbm, 228, rfl⟩
abbrev main_call5_v2 : Ref sig .tc := ⟨.hbm, 229, rfl⟩
abbrev main_v161 : Ref sig .tc := ⟨.hbm, 230, rfl⟩
abbrev main_v162 : Ref sig .tc := ⟨.hbm, 231, rfl⟩
abbrev main_cst_37 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_call6_v0 : Ref sig .tc := ⟨.hbm, 239, rfl⟩
abbrev main_call6_v1_0 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_c_38 : Ref sig .tc := ⟨.hbm, 244, rfl⟩
abbrev main_v172 : Ref sig .tc := ⟨.hbm, 245, rfl⟩
abbrev main_v173 : Ref sig .tc := ⟨.hbm, 246, rfl⟩
abbrev main_c_39 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_c_40 : Ref sig .tc := ⟨.hbm, 251, rfl⟩
abbrev main_v177 : Ref sig .tc := ⟨.hbm, 252, rfl⟩
abbrev main_v178 : Ref sig .tc := ⟨.hbm, 253, rfl⟩
abbrev main_c_41 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_c_42 : Ref sig .tc := ⟨.hbm, 263, rfl⟩
abbrev main_v187 : Ref sig .tc := ⟨.hbm, 264, rfl⟩
abbrev main_v188 : Ref sig .tc := ⟨.hbm, 265, rfl⟩
abbrev main_c_43 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_c_44 : Ref sig .tc := ⟨.hbm, 270, rfl⟩
abbrev main_v192 : Ref sig .tc := ⟨.hbm, 271, rfl⟩
abbrev main_v193 : Ref sig .tc := ⟨.hbm, 272, rfl⟩
abbrev main_c_45 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_c_46 : Ref sig .tc := ⟨.hbm, 282, rfl⟩
abbrev main_v202 : Ref sig .tc := ⟨.hbm, 283, rfl⟩
abbrev main_v203 : Ref sig .tc := ⟨.hbm, 284, rfl⟩
abbrev main_c_47 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_c_48 : Ref sig .tc := ⟨.hbm, 289, rfl⟩
abbrev main_v207 : Ref sig .tc := ⟨.hbm, 290, rfl⟩
abbrev main_v208 : Ref sig .tc := ⟨.hbm, 291, rfl⟩
abbrev main_c_49 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_c_50 : Ref sig .tc := ⟨.hbm, 313, rfl⟩
abbrev main_v229 : Ref sig .tc := ⟨.hbm, 314, rfl⟩
abbrev main_c_51 : Ref sig .tc := ⟨.hbm, 315, rfl⟩
abbrev main_c_52 : Ref sig .tc := ⟨.hbm, 316, rfl⟩
abbrev main_v230_0 : Ref sig .tc := ⟨.hbm, 317, rfl⟩
abbrev main_v230_1 : Ref sig .tc := ⟨.hbm, 318, rfl⟩
abbrev main_v230_2 : Ref sig .tc := ⟨.hbm, 319, rfl⟩
abbrev main_v230_3 : Ref sig .tc := ⟨.hbm, 320, rfl⟩
abbrev main_v230_4 : Ref sig .tc := ⟨.hbm, 321, rfl⟩
abbrev main_v230_5 : Ref sig .tc := ⟨.hbm, 322, rfl⟩
abbrev main_v230_6 : Ref sig .tc := ⟨.hbm, 323, rfl⟩
abbrev main_v230_7 : Ref sig .tc := ⟨.hbm, 324, rfl⟩
abbrev main_v230_8 : Ref sig .tc := ⟨.hbm, 325, rfl⟩
abbrev main_while0c_c_73 : Ref sig .tc := ⟨.hbm, 326, rfl⟩
abbrev main_while0c_v274 : Ref sig .tc := ⟨.hbm, 327, rfl⟩
abbrev main_while0b_c_73 : Ref sig .tc := ⟨.hbm, 328, rfl⟩
abbrev main_while0b_v274 : Ref sig .tc := ⟨.hbm, 329, rfl⟩
abbrev main_while0b_c_74 : Ref sig .tc := ⟨.hbm, 330, rfl⟩
abbrev main_while0b_v275 : Ref sig .tc := ⟨.hbm, 331, rfl⟩
abbrev main_while0b_v276 : Ref sig .tc := ⟨.hbm, 332, rfl⟩
abbrev main_while0b_c_75 : Ref sig .tc := ⟨.hbm, 333, rfl⟩
abbrev main_while0b_v277 : Ref sig .tc := ⟨.hbm, 334, rfl⟩
abbrev main_while0b_v278 : Ref sig .tc := ⟨.hbm, 335, rfl⟩
abbrev main_while0b_c_76 : Ref sig .tc := ⟨.hbm, 336, rfl⟩
abbrev main_while0b_v279 : Ref sig .tc := ⟨.hbm, 337, rfl⟩
abbrev main_while0b_v280 : Ref sig .tc := ⟨.hbm, 338, rfl⟩
abbrev main_while0b_v281 : Ref sig .tc := ⟨.hbm, 339, rfl⟩
abbrev main_while0b_c_77 : Ref sig .tc := ⟨.hbm, 340, rfl⟩
abbrev main_while0b_v282 : Ref sig .tc := ⟨.hbm, 341, rfl⟩
abbrev main_while0b_v283 : Ref sig .tc := ⟨.hbm, 342, rfl⟩
abbrev main_while0b_c_78 : Ref sig .tc := ⟨.hbm, 343, rfl⟩
abbrev main_while0b_v284 : Ref sig .tc := ⟨.hbm, 344, rfl⟩
abbrev main_while0b_v285 : Ref sig .tc := ⟨.hbm, 345, rfl⟩
abbrev main_while0b_c_79 : Ref sig .tc := ⟨.hbm, 346, rfl⟩
abbrev main_while0b_v286 : Ref sig .tc := ⟨.hbm, 347, rfl⟩
abbrev main_while0b_v287 : Ref sig .tc := ⟨.hbm, 348, rfl⟩
abbrev main_while0b_v288 : Ref sig .tc := ⟨.hbm, 349, rfl⟩
abbrev main_while0b_c_80 : Ref sig .tc := ⟨.hbm, 350, rfl⟩
abbrev main_while0b_v289 : Ref sig .tc := ⟨.hbm, 351, rfl⟩
abbrev main_while0b_v290 : Ref sig .tc := ⟨.hbm, 352, rfl⟩
abbrev main_while0b_c_81 : Ref sig .tc := ⟨.hbm, 353, rfl⟩
abbrev main_while0b_v291 : Ref sig .tc := ⟨.hbm, 354, rfl⟩
abbrev main_while0b_v292 : Ref sig .tc := ⟨.hbm, 355, rfl⟩
abbrev main_while0b_c_82 : Ref sig .tc := ⟨.hbm, 356, rfl⟩
abbrev main_while0b_v293 : Ref sig .tc := ⟨.hbm, 357, rfl⟩
abbrev main_while0b_v294 : Ref sig .tc := ⟨.hbm, 358, rfl⟩
abbrev main_while0b_v295 : Ref sig .tc := ⟨.hbm, 359, rfl⟩
abbrev main_while0b_c_83 : Ref sig .tc := ⟨.hbm, 360, rfl⟩
abbrev main_while0b_v296 : Ref sig .tc := ⟨.hbm, 361, rfl⟩
abbrev main_while0b_v297 : Ref sig .tc := ⟨.hbm, 362, rfl⟩
abbrev main_while0b_c_84 : Ref sig .tc := ⟨.hbm, 363, rfl⟩
abbrev main_while0b_v298 : Ref sig .tc := ⟨.hbm, 364, rfl⟩
abbrev main_while0b_v299 : Ref sig .tc := ⟨.hbm, 365, rfl⟩
abbrev main_while0b_c_85 : Ref sig .tc := ⟨.hbm, 366, rfl⟩
abbrev main_while0b_v300 : Ref sig .tc := ⟨.hbm, 367, rfl⟩
abbrev main_while0b_v301 : Ref sig .tc := ⟨.hbm, 368, rfl⟩
abbrev main_while0b_v302 : Ref sig .tc := ⟨.hbm, 369, rfl⟩
abbrev main_while0b_v303 : Ref sig .tc := ⟨.hbm, 370, rfl⟩
abbrev main_while0b_cst_86 : Ref sig .tc := ⟨.hbm, 371, rfl⟩
abbrev main_while0b_call7_v0 : Ref sig .tc := ⟨.hbm, 372, rfl⟩
abbrev main_while0b_call7_v1 : Ref sig .tc := ⟨.hbm, 373, rfl⟩
abbrev main_while0b_v304 : Ref sig .tc := ⟨.hbm, 374, rfl⟩
abbrev main_while0b_v305 : Ref sig .tc := ⟨.hbm, 375, rfl⟩
abbrev main_while0b_cst_87 : Ref sig .tc := ⟨.hbm, 376, rfl⟩
abbrev main_while0b_call8_v0 : Ref sig .tc := ⟨.hbm, 377, rfl⟩
abbrev main_while0b_call8_v1 : Ref sig .tc := ⟨.hbm, 378, rfl⟩
abbrev main_while0b_v306 : Ref sig .tc := ⟨.hbm, 379, rfl⟩
abbrev main_while0b_v307 : Ref sig .tc := ⟨.hbm, 380, rfl⟩
abbrev main_while0b_c_88 : Ref sig .tc := ⟨.hbm, 381, rfl⟩
abbrev main_while0b_v308 : Ref sig .tc := ⟨.hbm, 382, rfl⟩
abbrev main_while0b_v309 : Ref sig .tc := ⟨.hbm, 383, rfl⟩
abbrev main_while0b_c_89 : Ref sig .tc := ⟨.hbm, 384, rfl⟩
abbrev main_while0b_v310 : Ref sig .tc := ⟨.hbm, 385, rfl⟩
abbrev main_while0b_v311 : Ref sig .tc := ⟨.hbm, 386, rfl⟩
abbrev main_while0b_c_90 : Ref sig .tc := ⟨.hbm, 387, rfl⟩
abbrev main_while0b_v312 : Ref sig .tc := ⟨.hbm, 388, rfl⟩
abbrev main_while0b_v313 : Ref sig .tc := ⟨.hbm, 389, rfl⟩
abbrev main_while0b_v314 : Ref sig .tc := ⟨.hbm, 390, rfl⟩
abbrev main_while0b_v315 : Ref sig .tc := ⟨.hbm, 391, rfl⟩
abbrev main_while0b_cst_91 : Ref sig .tc := ⟨.hbm, 392, rfl⟩
abbrev main_while0b_v316 : Ref sig .tc := ⟨.hbm, 393, rfl⟩
abbrev main_while0b_v317 : Ref sig .tc := ⟨.hbm, 394, rfl⟩
abbrev main_while0b_v318 : Ref sig .tc := ⟨.hbm, 395, rfl⟩
abbrev main_while0b_cst_92 : Ref sig .tc := ⟨.hbm, 396, rfl⟩
abbrev main_while0b_v319 : Ref sig .tc := ⟨.hbm, 397, rfl⟩
abbrev main_while0b_v320 : Ref sig .tc := ⟨.hbm, 398, rfl⟩
abbrev main_while0b_v321 : Ref sig .tc := ⟨.hbm, 399, rfl⟩
abbrev main_while0b_v322 : Ref sig .tc := ⟨.hbm, 400, rfl⟩
abbrev main_while0b_v323 : Ref sig .tc := ⟨.hbm, 401, rfl⟩
abbrev main_while0b_v324 : Ref sig .tc := ⟨.hbm, 402, rfl⟩
abbrev main_while0b_v325 : Ref sig .tc := ⟨.hbm, 403, rfl⟩
abbrev main_while0b_v326 : Ref sig .tc := ⟨.hbm, 404, rfl⟩
abbrev main_while0b_c_93 : Ref sig .tc := ⟨.hbm, 405, rfl⟩
abbrev main_while0b_v327 : Ref sig .tc := ⟨.hbm, 406, rfl⟩
abbrev main_while0b_v328 : Ref sig .tc := ⟨.hbm, 407, rfl⟩
abbrev main_while0b_c_94 : Ref sig .tc := ⟨.hbm, 408, rfl⟩
abbrev main_while0b_v329 : Ref sig .tc := ⟨.hbm, 409, rfl⟩
abbrev main_while0b_v330 : Ref sig .tc := ⟨.hbm, 410, rfl⟩
abbrev main_while0b_c_95 : Ref sig .tc := ⟨.hbm, 411, rfl⟩
abbrev main_while0b_v331 : Ref sig .tc := ⟨.hbm, 412, rfl⟩
abbrev main_while0b_v332 : Ref sig .tc := ⟨.hbm, 413, rfl⟩
abbrev main_while0b_v333 : Ref sig .tc := ⟨.hbm, 414, rfl⟩
abbrev main_while0b_v334 : Ref sig .tc := ⟨.hbm, 415, rfl⟩
abbrev main_while0b_v335 : Ref sig .tc := ⟨.hbm, 416, rfl⟩
abbrev main_while0b_c_96 : Ref sig .tc := ⟨.hbm, 417, rfl⟩
abbrev main_while0b_v336 : Ref sig .tc := ⟨.hbm, 418, rfl⟩
abbrev main_v231 : Ref sig .tc := ⟨.hbm, 419, rfl⟩
abbrev main_cst_53 : Ref sig .tc := ⟨.hbm, 420, rfl⟩
abbrev main_v232 : Ref sig .tc := ⟨.hbm, 421, rfl⟩
abbrev main_v233 : Ref sig .tc := ⟨.hbm, 422, rfl⟩
abbrev main_v234 : Ref sig .tc := ⟨.hbm, 423, rfl⟩
abbrev main_cst_54 : Ref sig .tc := ⟨.hbm, 424, rfl⟩
abbrev main_call9_v0 : Ref sig .tc := ⟨.hbm, 425, rfl⟩
abbrev main_call9_v1 : Ref sig .tc := ⟨.hbm, 426, rfl⟩
abbrev main_v235 : Ref sig .tc := ⟨.hbm, 427, rfl⟩
abbrev main_v236 : Ref sig .tc := ⟨.hbm, 428, rfl⟩
abbrev main_call10_v0 : Ref sig .tc := ⟨.hbm, 429, rfl⟩
abbrev main_call10_v1_0 : Ref sig .tc := ⟨.hbm, 430, rfl⟩
abbrev main_v237 : Ref sig .tc := ⟨.hbm, 431, rfl⟩
abbrev main_v238 : Ref sig .tc := ⟨.hbm, 432, rfl⟩
abbrev main_c_55 : Ref sig .tc := ⟨.hbm, 433, rfl⟩
abbrev main_v239 : Ref sig .tc := ⟨.hbm, 434, rfl⟩
abbrev main_v240 : Ref sig .tc := ⟨.hbm, 435, rfl⟩
abbrev main_c_56 : Ref sig .tc := ⟨.hbm, 436, rfl⟩
abbrev main_v241 : Ref sig .tc := ⟨.hbm, 437, rfl⟩
abbrev main_v242 : Ref sig .tc := ⟨.hbm, 438, rfl⟩
abbrev main_v243 : Ref sig .tc := ⟨.hbm, 439, rfl⟩
abbrev main_c_57 : Ref sig .tc := ⟨.hbm, 440, rfl⟩
abbrev main_v244 : Ref sig .tc := ⟨.hbm, 441, rfl⟩
abbrev main_v245 : Ref sig .tc := ⟨.hbm, 442, rfl⟩
abbrev main_c_58 : Ref sig .tc := ⟨.hbm, 443, rfl⟩
abbrev main_v246 : Ref sig .tc := ⟨.hbm, 444, rfl⟩
abbrev main_v247 : Ref sig .tc := ⟨.hbm, 445, rfl⟩
abbrev main_v248 : Ref sig .tc := ⟨.hbm, 446, rfl⟩
abbrev main_v249 : Ref sig .tc := ⟨.hbm, 447, rfl⟩
abbrev main_v250 : Ref sig .tc := ⟨.hbm, 448, rfl⟩
abbrev main_v251 : Ref sig .tc := ⟨.hbm, 449, rfl⟩
abbrev main_v252 : Ref sig .tc := ⟨.hbm, 450, rfl⟩
abbrev main_v253 : Ref sig .tc := ⟨.hbm, 451, rfl⟩
abbrev main_v254 : Ref sig .tc := ⟨.hbm, 452, rfl⟩
abbrev main_cst_59 : Ref sig .tc := ⟨.hbm, 453, rfl⟩
abbrev main_v255 : Ref sig .tc := ⟨.hbm, 454, rfl⟩
abbrev main_v256 : Ref sig .tc := ⟨.hbm, 455, rfl⟩
abbrev main_v257 : Ref sig .tc := ⟨.hbm, 456, rfl⟩
abbrev main_c_60 : Ref sig .tc := ⟨.hbm, 457, rfl⟩
abbrev main_v258 : Ref sig .tc := ⟨.hbm, 458, rfl⟩
abbrev main_v259 : Ref sig .tc := ⟨.hbm, 459, rfl⟩
abbrev main_c_61 : Ref sig .tc := ⟨.hbm, 460, rfl⟩
abbrev main_v260 : Ref sig .tc := ⟨.hbm, 461, rfl⟩
abbrev main_v261 : Ref sig .tc := ⟨.hbm, 462, rfl⟩
abbrev main_v262 : Ref sig .tc := ⟨.hbm, 463, rfl⟩
abbrev main_c_62 : Ref sig .tc := ⟨.hbm, 464, rfl⟩
abbrev main_v263 : Ref sig .tc := ⟨.hbm, 465, rfl⟩
abbrev main_v264 : Ref sig .tc := ⟨.hbm, 466, rfl⟩
abbrev main_c_63 : Ref sig .tc := ⟨.hbm, 467, rfl⟩
abbrev main_v265 : Ref sig .tc := ⟨.hbm, 468, rfl⟩
abbrev main_v266 : Ref sig .tc := ⟨.hbm, 469, rfl⟩
abbrev main_v267 : Ref sig .tc := ⟨.hbm, 470, rfl⟩
abbrev main_v268 : Ref sig .tc := ⟨.hbm, 471, rfl⟩
abbrev main_v269 : Ref sig .tc := ⟨.hbm, 472, rfl⟩
abbrev main_v270 : Ref sig .tc := ⟨.hbm, 473, rfl⟩
abbrev main_v271 : Ref sig .tc := ⟨.hbm, 474, rfl⟩
abbrev main_v272 : Ref sig .tc := ⟨.hbm, 475, rfl⟩
abbrev main_cst_64 : Ref sig .tc := ⟨.hbm, 476, rfl⟩
abbrev main_call11_v0 : Ref sig .tc := ⟨.hbm, 477, rfl⟩
abbrev main_call11_v1 : Ref sig .tc := ⟨.hbm, 478, rfl⟩
abbrev main_call11_v2 : Ref sig .tc := ⟨.hbm, 479, rfl⟩
abbrev main_v273 : Ref sig .tc := ⟨.hbm, 480, rfl⟩

abbrev nD : Nat := 1
abbrev τ : Topo := Topo.v7x

variable {F : FTy → Type} [FloatOps F]

abbrev main_while0_count : Scf.Loop 32 := ⟨0#32, 2000#32, 1#32⟩
-- ==== Kernel2.lean ====
abbrev S2x200000 : Shape := ⟨2, ![2, 200000]⟩
abbrev S2x160000 : Shape := ⟨2, ![2, 160000]⟩
abbrev S_ : Shape := ⟨0, ![]⟩
abbrev S2x160768 : Shape := ⟨2, ![2, 160768]⟩
abbrev S2x1256x128 : Shape := ⟨3, ![2, 1256, 128]⟩
abbrev S2x1x1 : Shape := ⟨3, ![2, 1, 1]⟩
abbrev S1x1256x128 : Shape := ⟨3, ![1, 1256, 128]⟩
abbrev S1x1x1 : Shape := ⟨3, ![1, 1, 1]⟩
abbrev S1256x128 : Shape := ⟨2, ![1256, 128]⟩
abbrev S1 : Shape := ⟨1, ![1]⟩
abbrev S2x1 : Shape := ⟨2, ![2, 1]⟩
abbrev S2 : Shape := ⟨1, ![2]⟩
abbrev S2x1001 : Shape := ⟨2, ![2, 1001]⟩
abbrev S160000 : Shape := ⟨1, ![160000]⟩
abbrev S1x160000 : Shape := ⟨2, ![1, 160000]⟩
abbrev S2x160000x1 : Shape := ⟨3, ![2, 160000, 1]⟩
abbrev S2x160000x2 : Shape := ⟨3, ![2, 160000, 2]⟩
abbrev S2x1000 : Shape := ⟨2, ![2, 1000]⟩
abbrev S2x40000 : Shape := ⟨2, ![2, 40000]⟩
abbrev S2x40960 : Shape := ⟨2, ![2, 40960]⟩
abbrev S2x320x128 : Shape := ⟨3, ![2, 320, 128]⟩
abbrev S1x320x128 : Shape := ⟨3, ![1, 320, 128]⟩
abbrev S320x128 : Shape := ⟨2, ![320, 128]⟩
abbrev S40000 : Shape := ⟨1, ![40000]⟩
abbrev S1x40000 : Shape := ⟨2, ![1, 40000]⟩
abbrev S2x40000x1 : Shape := ⟨3, ![2, 40000, 1]⟩
abbrev S2x40000x2 : Shape := ⟨3, ![2, 40000, 2]⟩
abbrev S2x2000 : Shape := ⟨2, ![2, 2000]⟩

abbrev nBuf : Space → Nat
  | .hbm => 133
  | .vmem => 4
  | .smem => 4
  | _ => 0

abbrev hbmTy0_0 (i : Nat) : BufTy := match i % 128 with
  | 0 => ⟨S2x200000, .f32⟩
  | 1 => ⟨S2x160000, .f32⟩
  | 2 => ⟨S_, .f32⟩
  | 3 => ⟨S_, .f32⟩
  | 4 => ⟨S2x160768, .f32⟩
  | 5 => ⟨S2x1256x128, .f32⟩
  | 6 => ⟨S2x1x1, .f32⟩
  | 7 => ⟨S2x1, .f32⟩
  | 8 => ⟨S2x160000, .f32⟩
  | 9 => ⟨S2x160000, .i1⟩
  | 10 => ⟨S2x160000, .f32⟩
  | 11 => ⟨S2x160000, .i1⟩
  | 12 => ⟨S2x160000, .i32⟩
  | 13 => ⟨S_, .i32⟩
  | 14 => ⟨S2, .i32⟩
  | 15 => ⟨S2x1, .i32⟩
  | 16 => ⟨S2x160000, .i32⟩
  | 17 => ⟨S_, .i32⟩
  | 18 => ⟨S_, .i32⟩
  | 19 => ⟨S2x160000, .i32⟩
  | 20 => ⟨S_, .i32⟩
  | 21 => ⟨S2x1, .i32⟩
  | 22 => ⟨S2x1, .i32⟩
  | 23 => ⟨S2x160000, .i32⟩
  | 24 => ⟨S2x160000, .i1⟩
  | 25 => ⟨S2x160000, .i1⟩
  | 26 => ⟨S2x160000, .i1⟩
  | 27 => ⟨S2x160000, .i32⟩
  | 28 => ⟨S_, .i32⟩
  | 29 => ⟨S_, .i32⟩
  | 30 => ⟨S2x160000, .i32⟩
  | 31 => ⟨S_, .i32⟩
  | 32 => ⟨S2x160000, .i32⟩
  | 33 => ⟨S2x160000, .i32⟩
  | 34 => ⟨S_, .i32⟩
  | 35 => ⟨S_, .i32⟩
  | 36 => ⟨S2x160000, .i32⟩
  | 37 => ⟨S2x160000, .i32⟩
  | 38 => ⟨S_, .i32⟩
  | 39 => ⟨S2x1001, .i32⟩
  | 40 => ⟨S160000, .i32⟩
  | 41 => ⟨S1x160000, .i32⟩
  | 42 => ⟨S2x160000, .i32⟩
  | 43 => ⟨S2, .i32⟩
  | 44 => ⟨S2x1, .i32⟩
  | 45 => ⟨S_, .i32⟩
  | 46 => ⟨S2x1, .i32⟩
  | 47 => ⟨S2x1, .i1⟩
  | 48 => ⟨S_, .i32⟩
  | 49 => ⟨S2x1, .i32⟩
  | 50 => ⟨S2x1, .i32⟩
  | 51 => ⟨S2x1, .i32⟩
  | 52 => ⟨S_, .i32⟩
  | 53 => ⟨S2x160000, .i32⟩
  | 54 => ⟨S2x160000, .i1⟩
  | 55 => ⟨S_, .i32⟩
  | 56 => ⟨S2x160000, .i32⟩
  | 57 => ⟨S2x160000, .i32⟩
  | 58 => ⟨S2x160000, .i32⟩
  | 59 => ⟨S2x160000, .i32⟩
  | 60 => ⟨S2x160000x1, .i32⟩
  | 61 => ⟨S2x160000x1, .i32⟩
  | 62 => ⟨S2x160000x2, .i32⟩
  | 63 => ⟨S2x1001, .i32⟩
  | 64 => ⟨S2x1000, .i32⟩
  | 65 => ⟨S2x40000, .f32⟩
  | 66 => ⟨S_, .f32⟩
  | 67 => ⟨S_, .f32⟩
  | 68 => ⟨S2x40960, .f32⟩
  | 69 => ⟨S2x320x128, .f32⟩
  | 70 => ⟨S2x1x1, .f32⟩
  | 71 => ⟨S2x1, .f32⟩
  | 72 => ⟨S2x40000, .f32⟩
  | 73 => ⟨S2x40000, .i1⟩
  | 74 => ⟨S2x40000, .f32⟩
  | 75 => ⟨S2x40000, .i1⟩
  | 76 => ⟨S2x40000, .i32⟩
  | 77 => ⟨S_, .i32⟩
  | 78 => ⟨S2, .i32⟩
  | 79 => ⟨S2x1, .i32⟩
  | 80 => ⟨S2x40000, .i32⟩
  | 81 => ⟨S_, .i32⟩
  | 82 => ⟨S_, .i32⟩
  | 83 => ⟨S2x40000, .i32⟩
  | 84 => ⟨S_, .i32⟩
  | 85 => ⟨S2x1, .i32⟩
  | 86 => ⟨S2x1, .i32⟩
  | 87 => ⟨S2x40000, .i32⟩
  | 88 => ⟨S2x40000, .i1⟩
  | 89 => ⟨S2x40000, .i1⟩
  | 90 => ⟨S2x40000, .i1⟩
  | 91 => ⟨S2x40000, .i32⟩
  | 92 => ⟨S_, .i32⟩
  | 93 => ⟨S_, .i32⟩
  | 94 => ⟨S2x40000, .i32⟩
  | 95 => ⟨S_, .i32⟩
  | 96 => ⟨S2x40000, .i32⟩
  | 97 => ⟨S2x40000, .i32⟩
  | 98 => ⟨S_, .i32⟩
  | 99 => ⟨S_, .i32⟩
  | 100 => ⟨S2x40000, .i32⟩
  | 101 => ⟨S2x40000, .i32⟩
  | 102 => ⟨S_, .i32⟩
  | 103 => ⟨S2x1001, .i32⟩
  | 104 => ⟨S40000, .i32⟩
  | 105 => ⟨S1x40000, .i32⟩
  | 106 => ⟨S2x40000, .i32⟩
  | 107 => ⟨S2, .i32⟩
  | 108 => ⟨S2x1, .i32⟩
  | 109 => ⟨S_, .i32⟩
  | 110 => ⟨S2x1, .i32⟩
  | 111 => ⟨S2x1, .i1⟩
  | 112 => ⟨S_, .i32⟩
  | 113 => ⟨S2x1, .i32⟩
  | 114 => ⟨S2x1, .i32⟩
  | 115 => ⟨S2x1, .i32⟩
  | 116 => ⟨S_, .i32⟩
  | 117 => ⟨S2x40000, .i32⟩
  | 118 => ⟨S2x40000, .i1⟩
  | 119 => ⟨S_, .i32⟩
  | 120 => ⟨S2x40000, .i32⟩
  | 121 => ⟨S2x40000, .i32⟩
  | 122 => ⟨S2x40000, .i32⟩
  | 123 => ⟨S2x40000, .i32⟩
  | 124 => ⟨S2x40000x1, .i32⟩
  | 125 => ⟨S2x40000x1, .i32⟩
  | 126 => ⟨S2x40000x2, .i32⟩
  | 127 => ⟨S2x1001, .i32⟩
  | _ => ⟨S2x200000, .f32⟩

abbrev hbmTy0_1 (i : Nat) : BufTy := match i % 128 with
  | 0 => ⟨S2x1000, .i32⟩
  | 1 => ⟨S_, .i32⟩
  | 2 => ⟨S2x1000, .i32⟩
  | 3 => ⟨S2x1000, .i32⟩
  | 4 => ⟨S2x2000, .i32⟩
  | _ => ⟨S2x200000, .f32⟩

abbrev hbmTy (i : Nat) : BufTy := match i / 128 with
  | 0 => hbmTy0_0 i
  | 1 => hbmTy0_1 i
  | _ => ⟨S2x200000, .f32⟩

abbrev bufTy : (tb : Table) → Fin (tcTables nBuf tb) → BufTy
  | .hbm, ⟨i, _⟩ => hbmTy i
  | .local _ .vmem, ⟨0, _⟩ => ⟨S1x1256x128, .f32⟩
  | .local _ .vmem, ⟨1, _⟩ => ⟨S1x1256x128, .f32⟩
  | .local _ .vmem, ⟨2, _⟩ => ⟨S1x320x128, .f32⟩
  | .local _ .vmem, ⟨3, _⟩ => ⟨S1x320x128, .f32⟩
  | .local _ .smem, ⟨0, _⟩ => ⟨S1x1x1, .f32⟩
  | .local _ .smem, ⟨1, _⟩ => ⟨S1x1x1, .f32⟩
  | .local _ .smem, ⟨2, _⟩ => ⟨S1x1x1, .f32⟩
  | .local _ .smem, ⟨3, _⟩ => ⟨S1x1x1, .f32⟩
  | _, _ => ⟨S2x200000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call1_call0_c : Ref sig .tc := ⟨.hbm, 17, rfl⟩
abbrev main_call1_call0_v0 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call2_call0_c : Ref sig .tc := ⟨.hbm, 28, rfl⟩
abbrev main_call2_call0_v0 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_call3_v0 : Ref sig .tc := ⟨.hbm, 35, rfl⟩
abbrev main_call3_v1 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_call4_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call5_call0_c : Ref sig .tc := ⟨.hbm, 81, rfl⟩
abbrev main_call5_call0_v0 : Ref sig .tc := ⟨.hbm, 82, rfl⟩
abbrev main_v60 : Ref sig .tc := ⟨.hbm, 83, rfl⟩
abbrev main_c_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call6_call0_c : Ref sig .tc := ⟨.hbm, 92, rfl⟩
abbrev main_call6_call0_v0 : Ref sig .tc := ⟨.hbm, 93, rfl⟩
abbrev main_v68 : Ref sig .tc := ⟨.hbm, 94, rfl⟩
abbrev main_c_11 : Ref sig .tc := ⟨.hbm, 95, rfl⟩
abbrev main_v69 : Ref sig .tc := ⟨.hbm, 96, rfl⟩
abbrev main_v70 : Ref sig .tc := ⟨.hbm, 97, rfl⟩
abbrev main_c_12 : Ref sig .tc := ⟨.hbm, 98, rfl⟩
abbrev main_call7_v0 : Ref sig .tc := ⟨.hbm, 99, rfl⟩
abbrev main_call7_v1 : Ref sig .tc := ⟨.hbm, 100, rfl⟩
abbrev main_v71 : Ref sig .tc := ⟨.hbm, 101, rfl⟩
abbrev main_c_13 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_14 : Ref sig .tc := ⟨.hbm, 109, rfl⟩
abbrev main_v78 : Ref sig .tc := ⟨.hbm, 110, rfl⟩
abbrev main_v79 : Ref sig .tc := ⟨.hbm, 111, rfl⟩
abbrev main_c_15 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_16 : Ref sig .tc := ⟨.hbm, 116, rfl⟩
abbrev main_v83 : Ref sig .tc := ⟨.hbm, 117, rfl⟩
abbrev main_v84 : Ref sig .tc := ⟨.hbm, 118, rfl⟩
abbrev main_c_17 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc0_stg1_0 : Ref sig .tc := ⟨.smem, 0, rfl⟩
abbrev cc0_stg1_1 : Ref sig .tc := ⟨.smem, 1, rfl⟩
abbrev cc1_stg1_0 : Ref sig .tc := ⟨.smem, 2, rfl⟩
abbrev cc1_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c64_i32 : BitVec 32 := 64#32
  let v7 : BitVec 32 := Scalar.addi c0_i32 c64_i32
  let c1_i32 : BitVec 32 := 1#32
  ⟨c0_i32, v7, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![2], ![false]⟩

@[reducible] def k1_t1_loop : Scf.Loop 32 :=
  let c0_i32 : BitVec 32 := 0#32
  let c64_i32 : BitVec 32 := 64#32
  let v7 : BitVec 32 := Scalar.addi c0_i32 c64_i32
  let c1_i32 : BitVec 32 := 1#32
  ⟨c0_i32, v7, c1_i32⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x320x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .smem S1x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== Reference2Ideal.lean ====
abbrev S2x200000 : Shape := ⟨2, ![2, 200000]⟩
abbrev S2x160000 : Shape := ⟨2, ![2, 160000]⟩
abbrev S2x1000 : Shape := ⟨2, ![2, 1000]⟩
abbrev S_ : Shape := ⟨0, ![]⟩
abbrev S2x40000 : Shape := ⟨2, ![2, 40000]⟩
abbrev S2x2000 : Shape := ⟨2, ![2, 2000]⟩

abbrev nBuf : Space → Nat
  | .hbm => 16
  | .vmem => 0
  | .smem => 0
  | _ => 0

abbrev bufTy : (tb : Table) → Fin (tcTables nBuf tb) → BufTy
  | .hbm, ⟨0, _⟩ => ⟨S2x200000, .f32⟩
  | .hbm, ⟨1, _⟩ => ⟨S2x160000, .f32⟩
  | .hbm, ⟨2, _⟩ => ⟨S2x1000, .f32⟩
  | .hbm, ⟨3, _⟩ => ⟨S2x1000, .i32⟩
  | .hbm, ⟨4, _⟩ => ⟨S2x1000, .i32⟩
  | .hbm, ⟨5, _⟩ => ⟨S_, .i32⟩
  | .hbm, ⟨6, _⟩ => ⟨S2x1000, .i32⟩
  | .hbm, ⟨7, _⟩ => ⟨S2x1000, .i32⟩
  | .hbm, ⟨8, _⟩ => ⟨S2x40000, .f32⟩
  | .hbm, ⟨9, _⟩ => ⟨S2x1000, .f32⟩
  | .hbm, ⟨10, _⟩ => ⟨S2x1000, .i32⟩
  | .hbm, ⟨11, _⟩ => ⟨S2x1000, .i32⟩
  | .hbm, ⟨12, _⟩ => ⟨S_, .i32⟩
  | .hbm, ⟨13, _⟩ => ⟨S2x1000, .i32⟩
  | .hbm, ⟨14, _⟩ => ⟨S2x1000, .i32⟩
  | .hbm, ⟨15, _⟩ => ⟨S2x2000, .i32⟩
  | _, _ => ⟨S2x200000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_values_0 : Ref sig .tc := ⟨.hbm, 9, rfl⟩
abbrev main_indices_1 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Proof.LoopKI.lean ====
/- One trip of the suppression loop of `KernelIdeal`, and the loop's invariant: the carried mask is the trips' fold. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.Exec
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame. -/
abbrev UU (nD : Nat) (τ : Topo) : Type := UR sig nD τ
/-- No recursion variants. -/
abbrev 𝒱₀ : Variants := Variants.none

/-- The mask after trip `k`, from the mask before it. -/
def trip (v7 v54 v61 v68 v75 v76 v77 : FVec F S16x128 .f32) (k : Fin k2_t1_loop.trips)
    (acc : FVec F S16x128 .f32) : FVec F S16x128 .f32 :=
  k2_pay40 v76 v77 acc (Scf.iv 0#32 1#32 k) (k2_pay3 k2_pay38 0#32 1#32 k acc)
    (k2_pay4 (k2_pay37 v76 v77) k2_pay38 0#32 1#32 k) (k2_pay5 (k2_pay34 v7 v61) k2_pay38 0#32 1#32 k)
    (k2_pay6 (k2_pay36 v7 v75) k2_pay38 0#32 1#32 k) (k2_pay7 (k2_pay33 v7 v54) (k2_pay35 v7 v68) k2_pay38 0#32 1#32 k)

/-- The mask before trip `k`. -/
def maskAt (v7 v54 v61 v68 v75 v76 v77 : FVec F S16x128 .f32) (init : FVec F S16x128 .f32) : ℕ → FVec F S16x128 .f32
  | 0 => init
  | k + 1 => if h : k < k2_t1_loop.trips then trip v7 v54 v61 v68 v75 v76 v77 ⟨k, h⟩ (maskAt v7 v54 v61 v68 v75 v76 v77 init k)
      else maskAt v7 v54 v61 v68 v75 v76 v77 init k

/-- The loop's invariant: before trip `k` the carried mask is `maskAt k`. -/
@[sl_loop, instance_reducible] noncomputable def loopInv_k2_t1 (c : Dev nD) (i : grid2.Coords) (arg1 : Memref sig .tc .vmem S1x16x128 .f32) (harg1 : arg1.IsWhole) (arg2 : Memref sig .tc .vmem S1x16x128 .f32) (harg2 : arg2.IsWhole) (arg3 : Memref sig .tc .vmem S1x4x16x128 .f32) (harg3 : arg3.IsWhole) (arg4 : Memref sig .tc .vmem S1x4x16x128 .f32) (harg4 : arg4.IsWhole) (arg5 : Memref sig .tc .vmem S1x4x16x128 .f32) (harg5 : arg5.IsWhole) (arg6 : Memref sig .tc .vmem S1x16x128 .f32) (harg6 : arg6.IsWhole) (v7 : FVec F S16x128 .f32) (v54 : FVec F S16x128 .f32) (v61 : FVec F S16x128 .f32) (v68 : FVec F S16x128 .f32) (v75 : FVec F S16x128 .f32) (v76 : FVec F S16x128 .f32) (v77 : FVec F S16x128 .f32) (v83 : IVec S16x128 1) (v85 : IVec S16x128 1) (init : FVec F S16x128 .f32) :
    Cert.KernelIdeal.Gen.LoopInvTy_k2_t1 (F := F) Unit ℕ (UU nD τ) ℕ 𝒱₀ c none Set.univ i arg1 harg1 arg2 harg2 arg3 harg3 arg4 harg4 arg5 harg5 arg6 harg6 v7 v54 v61 v68 v75 v76 v77 v83 v85 init where
  inv := fun k acc => iprop(⌜acc = maskAt v7 v54 v61 v68 v75 v76 v77 init k⌝)
  step := fun k acc => by
    iintro %h
    have hb : k2_t1_body (F := F) i arg1 harg1 arg2 harg2 arg3 harg3 arg4 harg4 arg5 harg5 arg6 harg6 v7 v54 v61 v68 v75 v76 v77 v83 v85 k acc
        = .ret (trip v7 v54 v61 v68 v75 v76 v77 k acc) := rfl
    rw [hb, wp_ret]
    imodintro
    ipureintro
    rw [maskAt, dif_pos k.isLt, h]

end Cert.Proof.KernelIdeal

end
-- ==== Proof.BodyKI.lean ====
/- One grid point of the suppression kernel of `KernelIdeal`: what its stores leave, as functions of the four blocks it reads,
   and the triple of the whole body. -/
module

public import proofs.«01_k».proof.Proof.LoopKI
public import proofs.«01_k».proof.Proof.Gen.KernelIdeal.Points
public import Idealize.ShloMosaic.Lib.Ring
public import Idealize.ShloMosaic.Lib.WholeRead
public import Idealize.ShloMosaic.Lib.VecWindow
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Values

variable (x0 : Vec F S1x16x128 .f32) (x1 : Vec F S1x16x128 .f32) (x2 : Vec F S1x4x16x128 .f32) (x3 : Vec F S1x4x16x128 .f32)

/-- The clipped left edges, from the deltas `x2` and the anchors `x3`. -/
def bx1 : FVec F S16x128 .f32 := k2_pay24 (k2_pay12 x3) (k2_pay14 x3) (k2_pay17 x2) (k2_pay19 x3 x2)
/-- The clipped top edges. -/
def by1 : FVec F S16x128 .f32 := k2_pay25 (k2_pay13 x3) (k2_pay15 x3) (k2_pay16 x2) (k2_pay18 x2)
/-- The clipped right edges. -/
def bx2 : FVec F S16x128 .f32 := k2_pay26 (k2_pay12 x3) (k2_pay14 x3) (k2_pay17 x2) (k2_pay19 x3 x2)
/-- The clipped bottom edges. -/
def by2 : FVec F S16x128 .f32 := k2_pay27 (k2_pay13 x3) (k2_pay15 x3) (k2_pay16 x2) (k2_pay18 x2)
/-- The clipped widths. -/
def bws : FVec F S16x128 .f32 := k2_pay28 (k2_pay12 x3) (k2_pay14 x3) (k2_pay17 x2) (k2_pay19 x3 x2)
/-- The clipped heights. -/
def bhs : FVec F S16x128 .f32 := k2_pay29 (k2_pay13 x3) (k2_pay15 x3) (k2_pay16 x2) (k2_pay18 x2)
/-- The validity mask the loop starts from. -/
def mask0 : FVec F S16x128 .f32 :=
  k2_pay39 (k2_pay30 (k2_pay12 x3) (k2_pay13 x3) (k2_pay14 x3) (k2_pay15 x3) (k2_pay16 x2) (k2_pay17 x2) (k2_pay18 x2) (k2_pay19 x3 x2))
    (k2_pay31 (k2_pay10 x0))
/-- The mask before trip `k`. -/
def maskN (k : ℕ) : FVec F S16x128 .f32 :=
  maskAt (k2_pay11 x1) (bx1 x2 x3) (by1 x2 x3) (bx2 x2 x3) (by2 x2 x3) (bws x2 x3) (bhs x2 x3) (mask0 x0 x2 x3) k

/-- The pieces stored into the box block, last first. -/
def boxPieces : List (View.Piece (Elt F) S1x4x16x128 .f32) :=
  [ ⟨Rect.unit (s := S1x4x16x128) ![0, 3, 0, 0] S1x1x16x128.size inb_S1x4x16x128_S1x1x16x128_0_3_0_0, k2_pay1 (by2 x2 x3)⟩,
    ⟨Rect.unit (s := S1x4x16x128) ![0, 2, 0, 0] S1x1x16x128.size inb_S1x4x16x128_S1x1x16x128_0_2_0_0, k2_pay44 (bx2 x2 x3)⟩,
    ⟨Rect.unit (s := S1x4x16x128) ![0, 1, 0, 0] S1x1x16x128.size inb_S1x4x16x128_S1x1x16x128_0_1_0_0, k2_pay43 (by1 x2 x3)⟩,
    ⟨Rect.unit (s := S1x4x16x128) ![0, 0, 0, 0] S1x1x16x128.size inb_S1x4x16x128_S1x1x16x128_0_0_0_0, k2_pay42 (bx1 x2 x3)⟩ ]
/-- The piece stored into the mask block. -/
def keepPieces : List (View.Piece (Elt F) S1x16x128 .f32) :=
  [ ⟨Rect.unit (s := S1x16x128) ![0, 0, 0] S1x16x128.size inb_S1x16x128_S1x16x128_0_0_0, k2_pay41 (maskN x0 x1 x2 x3 (Scf.trips k2_t1_loop.lb k2_t1_loop.ub k2_t1_loop.st))⟩ ]

/-- The box pieces cover the block. -/
theorem boxPieces_cover (y : S1x4x16x128.Idx) : ∃ pc ∈ boxPieces x2 x3, y ∈ pc.1.set :=
  View.cover_of_tiledL (boxPieces x2 x3) S1x1x16x128.size (by sl_kernel_rfl) y
/-- The mask piece covers the block. -/
theorem keepPieces_cover (y : S1x16x128.Idx) : ∃ pc ∈ keepPieces x0 x1 x2 x3, y ∈ pc.1.set :=
  View.cover_of_tiledL (keepPieces x0 x1 x2 x3) S1x16x128.size (by sl_kernel_rfl) y

/-- A staging buffer of the boxes, whose view states what the block holds. -/
abbrev VOb : View sig .tc .vmem S1x4x16x128 .f32 := (Memref.whole cc2_stg4_0 : Memref sig .tc .vmem S1x4x16x128 .f32).view
/-- A staging buffer of the mask, whose view states what the block holds. -/
abbrev VOk : View sig .tc .vmem S1x16x128 .f32 := (Memref.whole cc2_stg5_0 : Memref sig .tc .vmem S1x16x128 .f32).view
/-- The box block after the body. -/
def outB : Vec F S1x4x16x128 .f32 := VOb.read (Elt F) (VOb.writes (Elt F) VOb.junk (boxPieces x2 x3))
/-- The mask block after the body. -/
def outK : Vec F S1x16x128 .f32 := VOk.read (Elt F) (VOk.writes (Elt F) VOk.junk (keepPieces x0 x1 x2 x3))

end Values

/-- A load of a whole block of rank three reads the contents. -/
theorem ld3 (m : Memref sig .tc .vmem S1x16x128 .f32) (h : m.IsWhole) (x : Vec F S1x16x128 .f32) :
    View.readAt (Elt F) m.view (Rect.unit (s := S1x16x128) ![0, 0, 0] S1x16x128.size inb_S1x16x128_S1x16x128_0_0_0).toLoadRect (h.unread x) = x := by
  rw [View.readAt_full]
  exact h.read_unread x
/-- A load of a whole block of rank four reads the contents. -/
theorem ld4 (m : Memref sig .tc .vmem S1x4x16x128 .f32) (h : m.IsWhole) (x : Vec F S1x4x16x128 .f32) :
    View.readAt (Elt F) m.view (Rect.unit (s := S1x4x16x128) ![0, 0, 0, 0] S1x4x16x128.size inb_S1x4x16x128_S1x4x16x128_0_0_0_0).toLoadRect (h.unread x) = x := by
  rw [View.readAt_full]
  exact h.read_unread x

set_option maxHeartbeats 2000000 in
/-- The body, on whole staging memrefs: from the four input blocks it runs to the same blocks and the pieces above written
    over whatever the output blocks held. -/
theorem body_run (c : Dev nD) (i : grid2.Coords) (arg1 : Memref sig .tc .vmem S1x16x128 .f32) (harg1 : arg1.IsWhole) (arg2 : Memref sig .tc .vmem S1x16x128 .f32) (harg2 : arg2.IsWhole) (arg3 : Memref sig .tc .vmem S1x4x16x128 .f32) (harg3 : arg3.IsWhole) (arg4 : Memref sig .tc .vmem S1x4x16x128 .f32) (harg4 : arg4.IsWhole) (arg5 : Memref sig .tc .vmem S1x4x16x128 .f32) (harg5 : arg5.IsWhole) (arg6 : Memref sig .tc .vmem S1x16x128 .f32) (harg6 : arg6.IsWhole)
    (x0 : Vec F S1x16x128 .f32) (x1 : Vec F S1x16x128 .f32) (x2 : Vec F S1x4x16x128 .f32) (x3 : Vec F S1x4x16x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ (∃ f, arg5.view.loc (c : Thread nD τ) ↦[arg5.view.set]{fullShare} arg5.view.writes (Elt F) f (boxPieces x2 x3))
            ∗ (∃ f, arg6.view.loc (c : Thread nD τ) ↦[arg6.view.set]{fullShare} arg6.view.writes (Elt F) f (keepPieces x0 x1 x2 x3))) -∗ K ⟨⟩))
      ⊢ wp frame (wpE (defs₀ (F := F)) Variants.none c none) Set.univ (cc2__nms_pipeline_kernel i arg1 harg1 arg2 harg2 arg3 harg3 arg4 harg4 arg5 harg5 arg6 harg6) K := by
  simp only [cc2__nms_pipeline_kernel_eq_skeleton]; unfold cc2__nms_pipeline_kernel_skel
  simp only [k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2; obtain rfl := harg4.eq_unread hf3
  sl_exec
  unfold body_run.sl.r_17 body_run.sl.r_16 body_run.sl.r_15 body_run.sl.r_14 body_run.sl.r_13 body_run.sl.r_12 body_run.sl.r_11 body_run.sl.r_10 body_run.sl.r_9 body_run.sl.r_8 body_run.sl.r_7 body_run.sl.r_6 body_run.sl.r_5 body_run.sl.r_4 body_run.sl.r_3 body_run.sl.r_2 body_run.sl.r_1 body_run.sl.r
  rw [ld4 arg4 harg4 x3, ld4 arg3 harg3 x2, ld3 arg1 harg1 x0, ld3 arg2 harg2 x1]
  unfold boxPieces keepPieces maskN mask0 bx1 by1 bx2 by2 bws bhs
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; iexact H4
  iexists _; iexact H5

end Cert.Proof.KernelIdeal

end
-- ==== Proof.FrameKI.lean ====
/- The suppression launch of `KernelIdeal`: the proof data of its pipeline and the body obligation, from whatever the buffers
   hold when it is entered. -/
module

public import proofs.«01_k».proof.Proof.BodyKI
public import proofs.«01_k».proof.Proof.Gen.KernelIdeal.Launch
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, as the launch finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0's staging memref at point `t`, and its wholeness. -/
abbrev ms0 (t : Fin cfg2.N) : Memref sig .tc .vmem S1x16x128 .f32 := win2_0.stage (cfg2.slots t 0)
abbrev hs0 (t : Fin cfg2.N) : (ms0 t).IsWhole := hstage2_0 ((cfg2.slots t 0).cast nbuf2_0)
/-- Window 1's staging memref at point `t`, and its wholeness. -/
abbrev ms1 (t : Fin cfg2.N) : Memref sig .tc .vmem S1x16x128 .f32 := win2_1.stage (cfg2.slots t 1)
abbrev hs1 (t : Fin cfg2.N) : (ms1 t).IsWhole := hstage2_1 ((cfg2.slots t 1).cast nbuf2_1)
/-- Window 2's staging memref at point `t`, and its wholeness. -/
abbrev ms2 (t : Fin cfg2.N) : Memref sig .tc .vmem S1x4x16x128 .f32 := win2_2.stage (cfg2.slots t 2)
abbrev hs2 (t : Fin cfg2.N) : (ms2 t).IsWhole := hstage2_2 ((cfg2.slots t 2).cast nbuf2_2)
/-- Window 3's staging memref at point `t`, and its wholeness. -/
abbrev ms3 (t : Fin cfg2.N) : Memref sig .tc .vmem S1x4x16x128 .f32 := win2_3.stage (cfg2.slots t 3)
abbrev hs3 (t : Fin cfg2.N) : (ms3 t).IsWhole := hstage2_3 ((cfg2.slots t 3).cast nbuf2_3)
/-- Window 4's staging memref at point `t`, and its wholeness. -/
abbrev ms4 (t : Fin cfg2.N) : Memref sig .tc .vmem S1x4x16x128 .f32 := win2_4.stage (cfg2.slots t 4)
abbrev hs4 (t : Fin cfg2.N) : (ms4 t).IsWhole := hstage2_4 ((cfg2.slots t 4).cast nbuf2_4)
/-- Window 5's staging memref at point `t`, and its wholeness. -/
abbrev ms5 (t : Fin cfg2.N) : Memref sig .tc .vmem S1x16x128 .f32 := win2_5.stage (cfg2.slots t 5)
abbrev hs5 (t : Fin cfg2.N) : (ms5 t).IsWhole := hstage2_5 ((cfg2.slots t 5).cast nbuf2_5)

/-- The pipeline's proof data: inputs keep their blocks, the outputs hold what one body leaves, nothing is owed. -/
def dat2 (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => outB (iblk V c 2 t) (iblk V c 3 t)
    | ⟨5, _⟩ => outK (iblk V c 0 t) (iblk V c 1 t) (iblk V c 2 t) (iblk V c 3 t)
  Φ _ := Pipeline.ΦA spec2 c
  q _ := fullShare
  owed _ := 0

/-- The data's arrays are the contents at the region's entry. -/
theorem A_eq (c : Dev nD) (w : Fin cfg2.W) : (dat2 V c).A w = V c (Pipeline.arrRef spec2 w) := by
  dsimp only [dat2]

/-- What window 0 holds after a point's body. -/
theorem after_0 (c : Dev nD) (t : Fin cfg2.N) : (dat2 V c).after 0 t = iblk V c 0 t := by dsimp only [dat2]
/-- What window 1 holds after a point's body. -/
theorem after_1 (c : Dev nD) (t : Fin cfg2.N) : (dat2 V c).after 1 t = iblk V c 1 t := by dsimp only [dat2]
/-- What window 2 holds after a point's body. -/
theorem after_2 (c : Dev nD) (t : Fin cfg2.N) : (dat2 V c).after 2 t = iblk V c 2 t := by dsimp only [dat2]
/-- What window 3 holds after a point's body. -/
theorem after_3 (c : Dev nD) (t : Fin cfg2.N) : (dat2 V c).after 3 t = iblk V c 3 t := by dsimp only [dat2]
/-- What window 4 holds after a point's body. -/
theorem after_4 (c : Dev nD) (t : Fin cfg2.N) : (dat2 V c).after 4 t = outB (iblk V c 2 t) (iblk V c 3 t) := by dsimp only [dat2]
/-- What window 5 holds after a point's body. -/
theorem after_5 (c : Dev nD) (t : Fin cfg2.N) : (dat2 V c).after 5 t = outK (iblk V c 0 t) (iblk V c 1 t) (iblk V c 2 t) (iblk V c 3 t) := by dsimp only [dat2]

/-- What window 0 holds before a point's body. -/
theorem before_0 (c : Dev nD) (t : Fin cfg2.N) (d) : (dat2 V c).before 0 t d = iblk V c 0 t :=
  ((dat2 V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
/-- What window 1 holds before a point's body. -/
theorem before_1 (c : Dev nD) (t : Fin cfg2.N) (d) : (dat2 V c).before 1 t d = iblk V c 1 t :=
  ((dat2 V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
/-- What window 2 holds before a point's body. -/
theorem before_2 (c : Dev nD) (t : Fin cfg2.N) (d) : (dat2 V c).before 2 t d = iblk V c 2 t :=
  ((dat2 V c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
/-- What window 3 holds before a point's body. -/
theorem before_3 (c : Dev nD) (t : Fin cfg2.N) (d) : (dat2 V c).before 3 t d = iblk V c 3 t :=
  ((dat2 V c).before_in_eq_fetched 3 rfl (fun _ => rfl) (fun _ _ _ => rfl) (fun t => by rw [after_3]; unfold Dat.blockOf iblk; rw [A_eq]) t d).trans
    (by unfold Dat.fetched Dat.blockOf iblk; rw [A_eq]; rfl)

/-- What the body is called with at point `t`. -/
def bodyPre (c : Dev nD) (t : Fin cfg2.N) : sProp 𝕄 :=
  iprop((dat2 V c).Φ t.castSucc ∗ (dat2 V c).owesAt () t.castSucc
    ∗ (∃ d, owns (c : Thread nD τ) (ms0 t) fullShare ((dat2 V c).before 0 t d))
    ∗ (∃ d, owns (c : Thread nD τ) (ms1 t) fullShare ((dat2 V c).before 1 t d))
    ∗ (∃ d, owns (c : Thread nD τ) (ms2 t) fullShare ((dat2 V c).before 2 t d))
    ∗ (∃ d, owns (c : Thread nD τ) (ms3 t) fullShare ((dat2 V c).before 3 t d))
    ∗ (∃ d, owns (c : Thread nD τ) (ms4 t) fullShare ((dat2 V c).before 4 t d))
    ∗ (∃ d, owns (c : Thread nD τ) (ms5 t) fullShare ((dat2 V c).before 5 t d)))

/-- What it returns. -/
def bodyPost (c : Dev nD) (t : Fin cfg2.N) : sProp 𝕄 :=
  iprop((dat2 V c).Φ t.succ ∗ (dat2 V c).owesAt () t.succ
    ∗ owns (c : Thread nD τ) (ms0 t) fullShare ((dat2 V c).after 0 t)
    ∗ owns (c : Thread nD τ) (ms1 t) fullShare ((dat2 V c).after 1 t)
    ∗ owns (c : Thread nD τ) (ms2 t) fullShare ((dat2 V c).after 2 t)
    ∗ owns (c : Thread nD τ) (ms3 t) fullShare ((dat2 V c).after 3 t)
    ∗ owns (c : Thread nD τ) (ms4 t) fullShare ((dat2 V c).after 4 t)
    ∗ owns (c : Thread nD τ) (ms5 t) fullShare ((dat2 V c).after 5 t))

/-- The body at any point meets its specification. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3]
  rw [show (dat2 V c).Φ t.succ = (dat2 V c).Φ t.castSucc from rfl,
    show (dat2 V c).owesAt () t.succ = (dat2 V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c (grid2.coords t) _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (boxPieces_cover _ _)
  unfold owns; iexists _; isplitr
  swap; · iexact H5
  ipureintro; exact View.read_writes_of_cover _ _ _ _ _ (keepPieces_cover _ _ _ _)

/-- The body table's row at point `t`. -/
theorem defs_row (t : Fin cfg2.N) :
    defs₀ (F := F) .tc cfg2.body (cfg2.bodyArgs t (cfg2.slots t)) = bodyAt2 t := by
  unfold defs₀; rw [Defs.onTc_tc]

/-- The library's body obligation. -/
theorem body_obligation (c : Dev nD) : BodyObligation (dat2 (F := F) V c) (defs₀ (F := F)) Variants.none () Set.univ := fun t => by
  rw [bigSep_W2, bigSep_W2, defs_row]
  exact triple_restated (sound_body V c t) rfl .rfl fun _ => .rfl

end Cert.Proof.KernelIdeal

end
-- ==== Proof.ThrKI.lean ====
/- The two threshold launches of `KernelIdeal`: the run of each body on its staging buffers, the proof data of its pipeline and
   the body obligation, from whatever the buffers hold when it is entered. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Level0

/-- Window `w`'s block at point `t`, as level 0's launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A staging buffer of level 0's threshold, whose view states what the block holds. -/
abbrev VT0 : View sig .tc .smem S1x1x1 .f32 := (Memref.whole cc0_stg1_0 : Memref sig .tc .smem S1x1x1 .f32).view

set_option maxHeartbeats 1000000 in
/-- Level 0's body on whole staging buffers: some pieces, stored into the threshold's buffer, and nothing else changed. -/
noncomputable def bis0 (c : Dev nD) (i : grid0.Coords) (arg1 : Memref sig .tc .vmem S1x1256x128 .f32) (harg1 : arg1.IsWhole) (arg2 : Memref sig .tc .smem S1x1x1 .f32) (harg2 : arg2.IsWhole)
    (x : Vec F S1x1256x128 .f32) :
    { ps : List (View.Piece (Elt F) S1x1x1 .f32) //
      ∀ (E : Set ℕ) (K : PUnit → sProp 𝕄),
        iprop(owns (c : Thread nD τ) arg1 fullShare x ∗ (∃ d, owns (c : Thread nD τ) arg2 fullShare d)
            ∗ (iprop(owns (c : Thread nD τ) arg1 fullShare x ∗ (∃ f, arg2.view.loc (c : Thread nD τ) ↦[arg2.view.set]{fullShare} arg2.view.writes (Elt F) f ps)) -∗ K ⟨⟩))
          ⊢ wp frame (wpE (defs₀ (F := F)) Variants.none c none) E (cc0__kth_value_kernel i arg1 harg1 arg2 harg2) K } := by
  refine ⟨?_, fun E K => ?run⟩
  case run =>
    simp only [cc0__kth_value_kernel_eq_skeleton]; unfold cc0__kth_value_kernel_skel
    unfold owns
    iintro ⟨⟨%f, %hf, Hx⟩, ⟨%d, %g, -, Ht⟩, Hk⟩
    obtain rfl := harg1.eq_unread hf
    sl_exec
    sl_step
    iapply Hk
    isplitl [Hx]
    · iexists _; isplitr; · ipureintro; exact harg1.read_unread _
      iexact Hx
    iexists _; iexact Ht

/-- The stored pieces cover the threshold's block. -/
theorem bis0_cover (c : Dev nD) (i : grid0.Coords) (arg1 : Memref sig .tc .vmem S1x1256x128 .f32) (harg1 : arg1.IsWhole) (arg2 : Memref sig .tc .smem S1x1x1 .f32) (harg2 : arg2.IsWhole)
    (x : Vec F S1x1256x128 .f32) (y : S1x1x1.Idx) : ∃ pc ∈ (bis0 c i arg1 harg1 arg2 harg2 x).1, y ∈ pc.1.set :=
  View.cover_of_tiledL (bis0 c i arg1 harg1 arg2 harg2 x).1 S1x1x1.size (by sl_kernel_rfl) y

/-- The threshold's block after level 0's body. -/
def thr0 (c : Dev nD) (i : grid0.Coords) (arg1 : Memref sig .tc .vmem S1x1256x128 .f32) (harg1 : arg1.IsWhole) (arg2 : Memref sig .tc .smem S1x1x1 .f32) (harg2 : arg2.IsWhole)
    (x : Vec F S1x1256x128 .f32) : Vec F S1x1x1 .f32 :=
  VT0.read (Elt F) (VT0.writes (Elt F) VT0.junk (bis0 c i arg1 harg1 arg2 harg2 x).1)

/-- The threshold's block after the body at point `t`. -/
def thrAt0 (c : Dev nD) (t : Fin cfg0.N) : Vec F S1x1x1 .f32 :=
  thr0 c (grid0.coords t) (win0_0.stage (cfg0.slots t 0)) (hstage0_0 ((cfg0.slots t 0).cast nbuf0_0)) (win0_1.stage (cfg0.slots t 1)) (hstage0_1 ((cfg0.slots t 1).cast nbuf0_1))
    (iblk0 V c 0 t)

/-- The proof data of level 0's pipeline: the scores keep their block, the threshold's holds what one body leaves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => thrAt0 V c t
  Φ _ := Pipeline.ΦA spec0 c
  q _ := fullShare
  owed _ := 0

/-- The data's arrays are the contents at the launch's entry. -/
theorem A_eq0 (c : Dev nD) (w : Fin cfg0.W) : (dat0 V c).A w = V c (Pipeline.arrRef spec0 w) := by dsimp only [dat0]
/-- The scores' block stays. -/
theorem after0_0 (c : Dev nD) (t : Fin cfg0.N) : (dat0 V c).after 0 t = iblk0 V c 0 t := by dsimp only [dat0]
/-- The threshold's block after a point. -/
theorem after0_1 (c : Dev nD) (t : Fin cfg0.N) : (dat0 V c).after 1 t = thrAt0 V c t := by dsimp only [dat0]
/-- The scores' block is there before every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]) t d).trans
    (by unfold Dat.fetched Dat.blockOf iblk0; rw [A_eq0]; rfl)

/-- Level 0's body at any point meets its specification. -/
theorem sound0 (c : Dev nD) (t : Fin cfg0.N) :
    iprop((dat0 V c).Φ t.castSucc ∗ (dat0 V c).owesAt () t.castSucc
      ∗ (∃ d, owns (c : Thread nD τ) (win0_0.stage (cfg0.slots t 0)) fullShare ((dat0 V c).before 0 t d))
      ∗ (∃ d, owns (c : Thread nD τ) (win0_1.stage (cfg0.slots t 1)) fullShare ((dat0 V c).before 1 t d)))
    ⊢ wp frame (wpE (defs₀ (F := F)) Variants.none c none) Set.univ (bodyAt0 t)
        (fun _ => iprop((dat0 V c).Φ t.succ ∗ (dat0 V c).owesAt () t.succ
          ∗ owns (c : Thread nD τ) (win0_0.stage (cfg0.slots t 0)) fullShare ((dat0 V c).after 0 t)
          ∗ owns (c : Thread nD τ) (win0_1.stage (cfg0.slots t 1)) fullShare ((dat0 V c).after 1 t))) := by
  unfold bodyAt0
  simp only [before0_0]
  rw [show (dat0 V c).Φ t.succ = (dat0 V c).Φ t.castSucc from rfl, show (dat0 V c).owesAt () t.succ = (dat0 V c).owesAt () t.castSucc from rfl, after0_0, after0_1]
  unfold thrAt0 thr0
  iintro ⟨HΦ, Ho, ⟨%d, Hx⟩, ⟨%e, Ht⟩⟩
  iapply ((bis0 c (grid0.coords t) _ _ _ _ (iblk0 V c 0 t)).2 Set.univ _)
  isplitl [Hx]; · iexact Hx
  isplitl [Ht]; · iexists _; iexact Ht
  iintro ⟨Hx, ⟨%f, Ht⟩⟩
  isplitl [HΦ]; · iexact HΦ
  isplitl [Ho]; · iexact Ho
  isplitl [Hx]; · iexact Hx
  unfold owns; iexists _; isplitr
  swap; · iexact Ht
  ipureintro; exact View.read_writes_of_cover _ _ _ _ _ (bis0_cover c _ _ _ _ _ _)

/-- The library's body obligation for level 0. -/
theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound0 V c t) rfl .rfl fun _ => .rfl

end Level0

section Level1

/-- Window `w`'s block at point `t`, as level 1's launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A staging buffer of level 1's threshold, whose view states what the block holds. -/
abbrev VT1 : View sig .tc .smem S1x1x1 .f32 := (Memref.whole cc1_stg1_0 : Memref sig .tc .smem S1x1x1 .f32).view

set_option maxHeartbeats 1000000 in
/-- Level 1's body on whole staging buffers: some pieces, stored into the threshold's buffer, and nothing else changed. -/
noncomputable def bis1 (c : Dev nD) (i : grid1.Coords) (arg1 : Memref sig .tc .vmem S1x320x128 .f32) (harg1 : arg1.IsWhole) (arg2 : Memref sig .tc .smem S1x1x1 .f32) (harg2 : arg2.IsWhole)
    (x : Vec F S1x320x128 .f32) :
    { ps : List (View.Piece (Elt F) S1x1x1 .f32) //
      ∀ (E : Set ℕ) (K : PUnit → sProp 𝕄),
        iprop(owns (c : Thread nD τ) arg1 fullShare x ∗ (∃ d, owns (c : Thread nD τ) arg2 fullShare d)
            ∗ (iprop(owns (c : Thread nD τ) arg1 fullShare x ∗ (∃ f, arg2.view.loc (c : Thread nD τ) ↦[arg2.view.set]{fullShare} arg2.view.writes (Elt F) f ps)) -∗ K ⟨⟩))
          ⊢ wp frame (wpE (defs₀ (F := F)) Variants.none c none) E (cc1__kth_value_kernel i arg1 harg1 arg2 harg2) K } := by
  refine ⟨?_, fun E K => ?run⟩
  case run =>
    simp only [cc1__kth_value_kernel_eq_skeleton]; unfold cc1__kth_value_kernel_skel
    unfold owns
    iintro ⟨⟨%f, %hf, Hx⟩, ⟨%d, %g, -, Ht⟩, Hk⟩
    obtain rfl := harg1.eq_unread hf
    sl_exec
    sl_step
    iapply Hk
    isplitl [Hx]
    · iexists _; isplitr; · ipureintro; exact harg1.read_unread _
      iexact Hx
    iexists _; iexact Ht

/-- The stored pieces cover the threshold's block. -/
theorem bis1_cover (c : Dev nD) (i : grid1.Coords) (arg1 : Memref sig .tc .vmem S1x320x128 .f32) (harg1 : arg1.IsWhole) (arg2 : Memref sig .tc .smem S1x1x1 .f32) (harg2 : arg2.IsWhole)
    (x : Vec F S1x320x128 .f32) (y : S1x1x1.Idx) : ∃ pc ∈ (bis1 c i arg1 harg1 arg2 harg2 x).1, y ∈ pc.1.set :=
  View.cover_of_tiledL (bis1 c i arg1 harg1 arg2 harg2 x).1 S1x1x1.size (by sl_kernel_rfl) y

/-- The threshold's block after level 1's body. -/
def thr1 (c : Dev nD) (i : grid1.Coords) (arg1 : Memref sig .tc .vmem S1x320x128 .f32) (harg1 : arg1.IsWhole) (arg2 : Memref sig .tc .smem S1x1x1 .f32) (harg2 : arg2.IsWhole)
    (x : Vec F S1x320x128 .f32) : Vec F S1x1x1 .f32 :=
  VT1.read (Elt F) (VT1.writes (Elt F) VT1.junk (bis1 c i arg1 harg1 arg2 harg2 x).1)

/-- The threshold's block after the body at point `t`. -/
def thrAt1 (c : Dev nD) (t : Fin cfg1.N) : Vec F S1x1x1 .f32 :=
  thr1 c (grid1.coords t) (win1_0.stage (cfg1.slots t 0)) (hstage1_0 ((cfg1.slots t 0).cast nbuf1_0)) (win1_1.stage (cfg1.slots t 1)) (hstage1_1 ((cfg1.slots t 1).cast nbuf1_1))
    (iblk1 V c 0 t)

/-- The proof data of level 1's pipeline: the scores keep their block, the threshold's holds what one body leaves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => thrAt1 V c t
  Φ _ := Pipeline.ΦA spec1 c
  q _ := fullShare
  owed _ := 0

/-- The data's arrays are the contents at the launch's entry. -/
theorem A_eq1 (c : Dev nD) (w : Fin cfg1.W) : (dat1 V c).A w = V c (Pipeline.arrRef spec1 w) := by dsimp only [dat1]
/-- The scores' block stays. -/
theorem after1_0 (c : Dev nD) (t : Fin cfg1.N) : (dat1 V c).after 0 t = iblk1 V c 0 t := by dsimp only [dat1]
/-- The threshold's block after a point. -/
theorem after1_1 (c : Dev nD) (t : Fin cfg1.N) : (dat1 V c).after 1 t = thrAt1 V c t := by dsimp only [dat1]
/-- The scores' block is there before every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]) t d).trans
    (by unfold Dat.fetched Dat.blockOf iblk1; rw [A_eq1]; rfl)

/-- Level 1's body at any point meets its specification. -/
theorem sound1 (c : Dev nD) (t : Fin cfg1.N) :
    iprop((dat1 V c).Φ t.castSucc ∗ (dat1 V c).owesAt () t.castSucc
      ∗ (∃ d, owns (c : Thread nD τ) (win1_0.stage (cfg1.slots t 0)) fullShare ((dat1 V c).before 0 t d))
      ∗ (∃ d, owns (c : Thread nD τ) (win1_1.stage (cfg1.slots t 1)) fullShare ((dat1 V c).before 1 t d)))
    ⊢ wp frame (wpE (defs₀ (F := F)) Variants.none c none) Set.univ (bodyAt1 t)
        (fun _ => iprop((dat1 V c).Φ t.succ ∗ (dat1 V c).owesAt () t.succ
          ∗ owns (c : Thread nD τ) (win1_0.stage (cfg1.slots t 0)) fullShare ((dat1 V c).after 0 t)
          ∗ owns (c : Thread nD τ) (win1_1.stage (cfg1.slots t 1)) fullShare ((dat1 V c).after 1 t))) := by
  unfold bodyAt1
  simp only [before1_0]
  rw [show (dat1 V c).Φ t.succ = (dat1 V c).Φ t.castSucc from rfl, show (dat1 V c).owesAt () t.succ = (dat1 V c).owesAt () t.castSucc from rfl, after1_0, after1_1]
  unfold thrAt1 thr1
  iintro ⟨HΦ, Ho, ⟨%d, Hx⟩, ⟨%e, Ht⟩⟩
  iapply ((bis1 c (grid1.coords t) _ _ _ _ (iblk1 V c 0 t)).2 Set.univ _)
  isplitl [Hx]; · iexact Hx
  isplitl [Ht]; · iexists _; iexact Ht
  iintro ⟨Hx, ⟨%f, Ht⟩⟩
  isplitl [HΦ]; · iexact HΦ
  isplitl [Ho]; · iexact Ho
  isplitl [Hx]; · iexact Hx
  unfold owns; iexists _; isplitr
  swap; · iexact Ht
  ipureintro; exact View.read_writes_of_cover _ _ _ _ _ (bis1_cover c _ _ _ _ _ _)

/-- The library's body obligation for level 1. -/
theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (sound1 V c t) rfl .rfl fun _ => .rfl

end Level1

end Cert.Proof.KernelIdeal

end
-- ==== Proof.RunKI.lean ====
/- The run of `KernelIdeal`: its three launches as regions of @main, what the run leaves in every buffer, and the frame claim
   (the arguments end unchanged and every semaphore at zero). -/
module

public import proofs.«01_k».proof.Proof.ThrKI
public import proofs.«01_k».proof.Proof.FrameKI
public import proofs.«01_k».proof.Proof.Gen.KernelIdeal.Regions
public import Idealize.ShloMosaic.Lib.Pipeline.RegionsLoop
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation cellOf)

variable {F : FTy → Type} [FloatOps F]

local notation "𝕄" => MT nD τ sig Unit (Elt F) ℕ (UR sig nD τ) ℕ

/-- No semaphore of the kernel's own has a level. -/
abbrev noIx : GSem nD τ sig → Finset Unit := fun _ => ∅
@[inherit_doc noIx] abbrev noLv : GSem nD τ sig → Unit → ℕ := fun _ _ => 0

/-- What a core holds beside the buffers between the regions: its generator register, and nothing owed. -/
abbrev beside (c : Dev nD) : sProp 𝕄 := iprop((∃ r, prngReg c r) ∗ ∃ W, owes (c : Thread nD τ) (0 : CellTallies nD τ sig Unit) W)

section Region

variable (pd : (p : Fin 3) → (c : Dev nD) → Dat τ (Elt F) Unit ℕ (UR sig nD τ) ℕ (cfgs p) c) (p : Fin 3)

set_option backward.isDefEq.respectTransparency.types false in
/-- A launch as a region: entered with the buffers at `A`, left with them at `B`, which differ as its arrays do. -/
def region (hl : Pipeline.LaunchFacts (nD := nD) (τ := τ) cfgs p)
    (hb : ∀ c, BodyObligation (pd p c) (defs₀ (F := F)) Variants.none () Set.univ)
    (hΦ : ∀ c t, (pd p c).Φ t = Pipeline.ΦA (cfgs p).spec c) (hs : ∀ c w, (pd p c).share w = fullShare) (ho : ∀ c t, (pd p c).owed t = 0)
    (hw : ∀ c x, x ∈ (pd p c).recorded 0)
    (A B : Dev nD → Valuation τ sig (Elt F))
    (hA : ∀ c w, (pd p c).A w = A c (Pipeline.arrRef (cfgs p).spec w))
    (hF : ∀ c w, (pd p c).arrAt w (cfgs p).N = B c (Pipeline.arrRef (cfgs p).spec w))
    (hrest : ∀ c (b : Ref sig .tc), b ∉ Finset.univ.image (Pipeline.arrRef (cfgs p).spec) → B c b = A c b) :
    RegionSeg (pcfgs (F := F)) Gen.adm pd () defs₀ Variants.none noIx noLv p where
  win := hl.win.to₀
  block_pos := hl.block_pos
  stage_whole := hl.stage_whole
  K := PEmpty
  osem k := k.elim
  ho := Pipeline.OwnSemFacts.none _
  hbody c := (hb c).loose
  hwaits := Pipeline.hwaits_of_owed_zero _ _ _ _ noIx noLv p ho
  pre c := iprop(StableHlo.held (c : Thread nD τ) (Pipeline.ucRefs τ sig) (A c) ∗ beside c)
  post c := iprop(StableHlo.held (c : Thread nD τ) (Pipeline.ucRefs τ sig) (B c) ∗ beside c)
  X c := iprop(∃ r, prngReg c r)
  Y c := iprop(∃ r, prngReg c r)
  Z c := Pipeline.unscopedRest (Ix := Unit) (Name := ℕ) (U := UR sig nD τ) (Lvl := ℕ) (cfgs p).spec c fun b => A c b
  hentry c := by
    rw [Pipeline.ownSems0_none]
    have hsplit := Pipeline.arrays_of_unscopedBufs (p := p) (pcfgs (F := F)) Gen.adm pd hl.win hl.arr_whole c (hs c) (fun b => A c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, HO⟩; iexists W; isplitr; · ipureintro; exact fun _ _ => Or.inl (hw c _)
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      hl.win hl.arr_whole c pd (hs c) (fun b => A c b) (fun b => B c b) ((pd p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c]
    icases HO with ⟨%W, -, HO⟩; iexists W; iexact HO

end Region

section Run

variable (m : (ℓ : Loc nD τ sig) → Buf (Elt F) ℓ) (ρ : Dev nD → PrngReg)

/-- What level 0's launch leaves in the buffers. -/
def left0 (r : Ref sig .tc) (c : Dev nD) : Buf (Elt F) ((c : Thread nD τ).loc r) :=
  Pipeline.withArrays spec0 c (V3 m c) (fun w => (dat0 (fun c b => V3 m c b) c).arrAt w cfg0.N) r
/-- The contents known after level 0's launch. -/
def outs0 : Outs (F := F) := fun _ => left0 m
/-- What level 1's launch leaves in the buffers. -/
def left1 (r : Ref sig .tc) (c : Dev nD) : Buf (Elt F) ((c : Thread nD τ).loc r) :=
  Pipeline.withArrays spec1 c (V13 m (outs0 m) c) (fun w => (dat1 (fun c b => V13 m (outs0 m) c b) c).arrAt w cfg1.N) r
/-- The contents known after level 1's launch. -/
def outs1 : Outs (F := F) := fun j => match j with
  | 4 => left0 m
  | _ => left1 m
/-- What the suppression launch leaves in the buffers. -/
def left2 (r : Ref sig .tc) (c : Dev nD) : Buf (Elt F) ((c : Thread nD τ).loc r) :=
  Pipeline.withArrays spec2 c (V37 m (outs1 m) c) (fun w => (dat2 (fun c b => V37 m (outs1 m) c b) c).arrAt w cfg2.N) r
/-- What the three launches leave. -/
def outs : Outs (F := F) := fun j => match j with
  | 4 => left0 m
  | 14 => left1 m
  | _ => left2 m

/-- The later launches' contents play no part before level 1's. -/
theorem V13_outs (c : Dev nD) : V13 m (outs m) c = V13 m (outs0 m) c := rfl
/-- The suppression's contents play no part before it. -/
theorem V37_outs (c : Dev nD) : V37 m (outs m) c = V37 m (outs1 m) c := rfl

/-- The proof data of the three pipelines, each from what its launch finds. -/
def pdats : (p : Fin 3) → (c : Dev nD) → Dat τ (Elt F) Unit ℕ (UR sig nD τ) ℕ (cfgs p) c
  | ⟨0, _⟩ => fun c => dat0 (fun c b => V3 m c b) c
  | ⟨1, _⟩ => fun c => dat1 (fun c b => V13 m (outs m) c b) c
  | ⟨2, _⟩ => fun c => dat2 (fun c b => V37 m (outs m) c b) c

/-- After level 0's launch its arrays hold what the pipeline leaves. -/
theorem V4_arr (c : Dev nD) (w : Fin cfg0.W) : (dat0 (fun c b => V3 m c b) c).arrAt w cfg0.N = V4 m (outs m) c (Pipeline.arrRef spec0 w) := by
  have h := Pipeline.withArrays_arr spec0 launch0.win.arr_inj c (V3 m c) (fun w => (dat0 (fun c b => V3 m c b) c).arrAt w cfg0.N)
  match w with
  | ⟨0, _⟩ => exact ((Dat.arrAt_in _ 0 rfl _).trans (A_eq0 _ c 0)).trans (V4_of m (outs m) c _ (by decide)).symm
  | ⟨1, _⟩ => exact (h 1).symm.trans (Function.update_self (f := V3 m c) ..).symm
/-- After level 1's launch its arrays hold what the pipeline leaves. -/
theorem V14_arr (c : Dev nD) (w : Fin cfg1.W) : (dat1 (fun c b => V13 m (outs m) c b) c).arrAt w cfg1.N = V14 m (outs m) c (Pipeline.arrRef spec1 w) := by
  have h := Pipeline.withArrays_arr spec1 launch1.win.arr_inj c (V13 m (outs m) c) (fun w => (dat1 (fun c b => V13 m (outs m) c b) c).arrAt w cfg1.N)
  match w with
  | ⟨0, _⟩ => exact ((Dat.arrAt_in _ 0 rfl _).trans (A_eq1 _ c 0)).trans (V14_of m (outs m) c _ (by decide)).symm
  | ⟨1, _⟩ => exact (h 1).symm.trans (Function.update_self (f := V13 m (outs m) c) ..).symm
/-- After the suppression launch its arrays hold what the pipeline leaves. -/
theorem V38_arr (c : Dev nD) (w : Fin cfg2.W) : (dat2 (fun c b => V37 m (outs m) c b) c).arrAt w cfg2.N = V38 m (outs m) c (Pipeline.arrRef spec2 w) := by
  have h := Pipeline.withArrays_arr spec2 launch2.win.arr_inj c (V37 m (outs m) c) (fun w => (dat2 (fun c b => V37 m (outs m) c b) c).arrAt w cfg2.N)
  have hin : ∀ w : Fin cfg2.W, (cfg2.win w).isOut = false → Pipeline.arrRef spec2 w ∉ ([main_v157_0, main_v157_1] : List (Ref sig .tc)) →
      (dat2 (fun c b => V37 m (outs m) c b) c).arrAt w cfg2.N = V38 m (outs m) c (Pipeline.arrRef spec2 w) := fun w hw hn =>
    ((Dat.arrAt_in _ w hw _).trans (A_eq _ c w)).trans (V38_of m (outs m) c _ hn).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact (h 4).symm.trans ((Function.update_of_ne (by decide) ..).trans (Function.update_self (f := V37 m (outs m) c) ..)).symm
  | ⟨5, _⟩ => exact (h 5).symm.trans (Function.update_self (f := Function.update (V37 m (outs m) c) main_v157_0 (outs m 38 main_v157_0 c)) ..).symm

/-- A buffer that is none of a launch's arrays is none of the buffers the launch writes. -/
theorem not_out {n : ℕ} {f : Fin n → Ref sig .tc} {b : Ref sig .tc} {l : List (Ref sig .tc)} (hb : b ∉ Finset.univ.image f)
    (hl : ∀ r ∈ l, r ∈ Finset.univ.image f) : b ∉ l := fun h => hb (hl b h)

/-- Level 0's launch as a region. -/
def reg0 : RegionSeg (pcfgs (F := F)) Gen.adm (pdats m) () defs₀ Variants.none noIx noLv 0 :=
  region (pdats m) 0 launch0 (obligation0 _) (fun _ _ => rfl) (fun c => Dat.share_full _ fun _ => rfl) (fun _ _ => rfl) (fun _ _ => trivial)
    (V3 m) (V4 m (outs m)) (fun c w => A_eq0 (fun c b => V3 m c b) c w) (V4_arr m) (fun c b hb => V4_of m (outs m) c b (not_out hb (by decide)))
/-- Level 1's launch as a region. -/
def reg1 : RegionSeg (pcfgs (F := F)) Gen.adm (pdats m) () defs₀ Variants.none noIx noLv 1 :=
  region (pdats m) 1 launch1 (obligation1 _) (fun _ _ => rfl) (fun c => Dat.share_full _ fun _ => rfl) (fun _ _ => rfl) (fun _ _ => trivial)
    (V13 m (outs m)) (V14 m (outs m)) (fun c w => A_eq1 (fun c b => V13 m (outs m) c b) c w) (V14_arr m) (fun c b hb => V14_of m (outs m) c b (not_out hb (by decide)))
/-- The suppression launch as a region. -/
def reg2 : RegionSeg (pcfgs (F := F)) Gen.adm (pdats m) () defs₀ Variants.none noIx noLv 2 :=
  region (pdats m) 2 launch2 (body_obligation _) (fun _ _ => rfl) (fun c => Dat.share_full _ fun _ => rfl) (fun _ _ => rfl) (fun _ _ => trivial)
    (V37 m (outs m)) (V38 m (outs m)) (fun c w => A_eq (fun c b => V37 m (outs m) c b) c w) (V38_arr m) (fun c b hb => V38_of m (outs m) c b (not_out hb (by decide)))

/-- The program cut at its launches. -/
abbrev pieces (c : Dev nD) : List (Seg (pcfgs (F := F)) Gen.adm (pdats m) () defs₀ Variants.none noIx noLv) :=
  segs m (outs m) Variants.none noIx noLv (fun _ c => beside c) () (pdats m) (reg0 m) (reg1 m) (reg2 m) c

/-- @main's stretches and launches in order. -/
abbrev stretches : List (Prog (TpuEff nD τ sig (Elt F) (Pipeline.Sig Λ₀ (Fin 3) fun p => (pcfgs (F := F) p).Adm) .tc) PUnit) := [
      StableHlo.seq hostOps0, StableHlo.seq hostOps0_1, StableHlo.seq hostOps0_2, Prog.lift (.customCall (Pipeline.entry 0) ()),
      StableHlo.seq hostOps1, StableHlo.seq hostOps1_1, StableHlo.seq hostOps1_2, StableHlo.seq hostOps1_3, StableHlo.seq
      hostOps1_4, StableHlo.seq hostOps1_5, StableHlo.seq hostOps1_6, StableHlo.seq hostOps1_7, StableHlo.seq hostOps1_8,
      Prog.lift (.customCall (Pipeline.entry 1) ()), StableHlo.seq hostOps2, StableHlo.seq hostOps2_1, StableHlo.seq hostOps2_2,
      StableHlo.seq hostOps2_3, StableHlo.seq hostOps2_4, StableHlo.seq hostOps2_5, StableHlo.seq hostOps2_6, StableHlo.seq
      hostOps2_7, StableHlo.seq hostOps2_8, StableHlo.seq hostOps2_9, StableHlo.seq hostOps2_10, StableHlo.seq hostOps2_11,
      StableHlo.seq hostOps2_12, StableHlo.seq hostOps2_13, StableHlo.seq hostOps2_14, StableHlo.seq hostOps2_15, StableHlo.seq
      hostOps2_16, StableHlo.seq hostOps2_17, StableHlo.seq hostOps2_18, StableHlo.seq hostOps2_19, StableHlo.seq hostOps2_20,
      StableHlo.seq hostOps2_21, StableHlo.seq hostOps2_22, Prog.lift (.customCall (Pipeline.entry 2) ()), StableHlo.seq hostOps3,
      StableHlo.seq hostOps3_1, StableHlo.seq hostOps3_2, StableHlo.seq hostOps3_3, StableHlo.seq hostOps3_4]

/-- Each piece runs its own stretch or launch. -/
theorem pieces_prog (c : Dev nD) : (pieces m c).map Seg.prog = stretches := rfl

set_option backward.isDefEq.respectTransparency.types false in
/-- After the run every array holds what the last stretch's valuation says, and every semaphore is back at zero. -/
theorem run_all : θ_run (defs (F := F)) (onTc (τ := τ) (main (F := F))) ⟨m, fun _ => 0, ρ⟩ (fun r =>
    (∀ c : Dev nD, ∀ b ∈ Pipeline.ucRefs τ sig, r.2.mem (c, b) = V43 m (outs m) c b) ∧ r.2.sem = fun _ => 0) :=
  Pipeline.θ_run_regions_kit_dev_sems (pcfgs (F := F)) Gen.adm (pdats m) () cellOf_inj emb₁ defs₀ Variants.none noIx noLv m ρ main (pieces m)
    (fun c Q => by
      rw [main_chain c, Seg.run_eq_chain, pieces_prog m c])
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Ht; imodintro
      isplitl [Ht]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Ht
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (V43 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (by
      iintro ⟨-, HO⟩; iexact HO)⟩)
    (hinit := by
      refine Pipeline.initEach noIx noLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Ha, -, HO, -, Hp, -⟩, -⟩
      imodintro
      isplitl [Ha]; · iexact Ha
      isplitl [Hp]; · iexists _; iexact Hp
      iexists ∅; iexact HO)
    (QY := fun c s => ∀ b ∈ Pipeline.ucRefs τ sig, s.mem (((c : Thread nD τ)).1, b) = V43 m (outs m) c b)
    (hfin := fun c s' => by
      iintro ⟨Ha, HSI⟩
      unfold StableHlo.held
      imodintro
      iapply (pointsTo_read_all (Pipeline.ucRefs τ sig) (fun b => (((c : Thread nD τ)).1, b)) (V43 m (outs m) c) s')
      isplitl [Ha] <;> iassumption)
    (hQ := fun _ h hz => ⟨fun c b hb => h c b hb, funext fun g => hz g (.inr (regions_no_unscoped g.2))⟩)

end Run

/-- The kernel terminates, faults nowhere, leaves its arguments unchanged and every semaphore at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run (defs (F := F)) _ _).mono (fun r h => ⟨fun c =>
    ⟨(h.1 c _ (Finset.mem_filter.mpr ⟨StableHlo.devRef_mem_tcRefs main_arg0, by decide⟩)).trans (V43_main_arg0 m (outs m) c), (h.1 c _ (Finset.mem_filter.mpr ⟨StableHlo.devRef_mem_tcRefs main_arg1, by decide⟩)).trans (V43_main_arg1 m (outs m) c),
      (h.1 c _ (Finset.mem_filter.mpr ⟨StableHlo.devRef_mem_tcRefs main_arg2, by decide⟩)).trans (V43_main_arg2 m (outs m) c)⟩, h.2⟩) (run_all m ρ)

end Cert.Proof.KernelIdeal

end
-- ==== Proof.RefFrame.lean ====
/- The reference program's frame: its arguments are written by no stretch of @main, and it has no semaphores. -/
module

public import proofs.«01_k».proof.Proof.Gen.ReferenceIdeal.Run
public import Idealize.ShloMosaic.Lib.Quiescent

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- What stretch 15 of the reference's lines writes. -/
abbrev postW_15 : List (Ref sig .tc) := [main_v231, main_cst_53, main_v232, main_v233, main_v234, main_cst_54]

/-- Stretch 15 writes nothing but its list. -/
theorem postW_15_writes : (hostOps0_15 : List (HloOp τ sig (Elt F))).Forall
    fun op => op.writes ⊆ (postW_15.map (Proc.devRef (τ := τ) .tc)).toFinset :=
  StableHlo.forall_writes_sub_of_map rfl

/-- What stretch 16 of the reference's lines writes. -/
abbrev postW_16 : List (Ref sig .tc) := [main_call9_v0, main_call9_v1, main_v235]

/-- Stretch 16 writes nothing but its list. -/
theorem postW_16_writes : (hostOps0_16 : List (HloOp τ sig (Elt F))).Forall
    fun op => op.writes ⊆ (postW_16.map (Proc.devRef (τ := τ) .tc)).toFinset :=
  StableHlo.forall_writes_sub_of_map rfl

/-- What stretch 17 of the reference's lines writes. -/
abbrev postW_17 : List (Ref sig .tc) := [main_v236]

/-- Stretch 17 writes nothing but its list. -/
theorem postW_17_writes : (hostOps0_17 : List (HloOp τ sig (Elt F))).Forall
    fun op => op.writes ⊆ (postW_17.map (Proc.devRef (τ := τ) .tc)).toFinset :=
  StableHlo.forall_writes_sub_of_map rfl

/-- What stretch 18 of the reference's lines writes. -/
abbrev postW_18 : List (Ref sig .tc) := [main_call10_v0, main_call10_v1_0, main_v237]

/-- Stretch 18 writes nothing but its list. -/
theorem postW_18_writes : (hostOps0_18 : List (HloOp τ sig (Elt F))).Forall
    fun op => op.writes ⊆ (postW_18.map (Proc.devRef (τ := τ) .tc)).toFinset :=
  StableHlo.forall_writes_sub_of_map rfl

/-- What stretch 19 of the reference's lines writes. -/
abbrev postW_19 : List (Ref sig .tc) := [main_v238, main_c_55, main_v239, main_v240, main_c_56, main_v241, main_v242, main_v243, main_c_57, main_v244, main_v245, main_c_58, main_v246, main_v247, main_v248, main_v249, main_v250, main_v251, main_v252, main_v253, main_v254, main_cst_59, main_v255, main_v256, main_v257, main_c_60, main_v258, main_v259, main_c_61, main_v260, main_v261, main_v262, main_c_62, main_v263, main_v264, main_c_63, main_v265, main_v266, main_v267, main_v268, main_v269, main_v270, main_v271, main_v272, main_cst_64]

/-- Stretch 19 writes nothing but its list. -/
theorem postW_19_writes : (hostOps0_19 : List (HloOp τ sig (Elt F))).Forall
    fun op => op.writes ⊆ (postW_19.map (Proc.devRef (τ := τ) .tc)).toFinset :=
  StableHlo.forall_writes_sub_of_map rfl

/-- What stretch 20 of the reference's lines writes. -/
abbrev postW_20 : List (Ref sig .tc) := [main_call11_v0, main_call11_v1, main_call11_v2, main_v273]

/-- Stretch 20 writes nothing but its list. -/
theorem postW_20_writes : (hostOps0_20 : List (HloOp τ sig (Elt F))).Forall
    fun op => op.writes ⊆ (postW_20.map (Proc.devRef (τ := τ) .tc)).toFinset :=
  StableHlo.forall_writes_sub_of_map rfl

/-- A buffer that none of these stretches writes keeps its contents through them. -/
theorem keep_pre (V : Valuation τ sig (Elt F)) (r : Ref sig .tc) (h : ∀ W ∈ [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W], r ∉ W) :
    afterL preI V (Proc.devRef .tc r) = V (Proc.devRef .tc r) := by
  simp only [preI, afterL_cons, afterL_nil]
  rw [after_of_writes_sub hostOps0_14 _ hostOps0_14_writes (h _ (by simp)), after_of_writes_sub hostOps0_13 _ hostOps0_13_writes (h _ (by simp)), after_of_writes_sub hostOps0_12 _ hostOps0_12_writes (h _ (by simp)), after_of_writes_sub hostOps0_11 _ hostOps0_11_writes (h _ (by simp)), after_of_writes_sub hostOps0_10 _ hostOps0_10_writes (h _ (by simp)), after_of_writes_sub hostOps0_9 _ hostOps0_9_writes (h _ (by simp)), after_of_writes_sub hostOps0_8 _ hostOps0_8_writes (h _ (by simp)), after_of_writes_sub hostOps0_7 _ hostOps0_7_writes (h _ (by simp)), after_of_writes_sub hostOps0_6 _ hostOps0_6_writes (h _ (by simp)), after_of_writes_sub hostOps0_5 _ hostOps0_5_writes (h _ (by simp)), after_of_writes_sub hostOps0_4 _ hostOps0_4_writes (h _ (by simp)), after_of_writes_sub hostOps0_3 _ hostOps0_3_writes (h _ (by simp)), after_of_writes_sub hostOps0_2 _ hostOps0_2_writes (h _ (by simp)), after_of_writes_sub hostOps0_1 _ hostOps0_1_writes (h _ (by simp)), after_of_writes_sub hostOps0 _ hostOps0_writes (h _ (by simp))]

/-- A buffer that none of these stretches writes keeps its contents through them. -/
theorem keep_body (V : Valuation τ sig (Elt F)) (r : Ref sig .tc) (h : ∀ W ∈ [while0Ops0_W, while0Ops0_1_W, while0Ops0_2_W, while0Ops0_3_W, while0Ops0_4_W], r ∉ W) :
    afterL bodyI V (Proc.devRef .tc r) = V (Proc.devRef .tc r) := by
  simp only [bodyI, afterL_cons, afterL_nil]
  rw [after_of_writes_sub while0Ops0_4 _ while0Ops0_4_writes (h _ (by simp)), after_of_writes_sub while0Ops0_3 _ while0Ops0_3_writes (h _ (by simp)), after_of_writes_sub while0Ops0_2 _ while0Ops0_2_writes (h _ (by simp)), after_of_writes_sub while0Ops0_1 _ while0Ops0_1_writes (h _ (by simp)), after_of_writes_sub while0Ops0 _ while0Ops0_writes (h _ (by simp))]

/-- A buffer that none of these stretches writes keeps its contents through them. -/
theorem keep_post (V : Valuation τ sig (Elt F)) (r : Ref sig .tc) (h : ∀ W ∈ [postW_15, postW_16, postW_17, postW_18, postW_19, postW_20], r ∉ W) :
    afterL postI V (Proc.devRef .tc r) = V (Proc.devRef .tc r) := by
  simp only [postI, afterL_cons, afterL_nil]
  rw [after_of_writes_sub hostOps0_20 _ postW_20_writes (h _ (by simp)), after_of_writes_sub hostOps0_19 _ postW_19_writes (h _ (by simp)), after_of_writes_sub hostOps0_18 _ postW_18_writes (h _ (by simp)), after_of_writes_sub hostOps0_17 _ postW_17_writes (h _ (by simp)), after_of_writes_sub hostOps0_16 _ postW_16_writes (h _ (by simp)), after_of_writes_sub hostOps0_15 _ postW_15_writes (h _ (by simp))]

variable (m : (ℓ : Loc nD τ sig) → Buf (Elt F) ℓ) (ρ : Dev nD → PrngReg)

/-- The loop keeps a buffer that neither its condition nor its body writes. -/
theorem keep_loop (V : Dev nD → Valuation τ sig (Elt F)) (r : Ref sig .tc) (hc : r ∉ condOps_W)
    (h : ∀ W ∈ [while0Ops0_W, while0Ops0_1_W, while0Ops0_2_W, while0Ops0_3_W, while0Ops0_4_W], r ∉ W) (c : Dev nD) :
    ∀ k, atTrip condOps bodyI V k c (Proc.devRef .tc r) = V c (Proc.devRef .tc r)
  | 0 => rfl
  | k + 1 => by
    rw [atTrip_succ, keep_body _ r h, after_of_writes_sub condOps _ condOps_writes hc, keep_loop V r hc h c k]

/-- The contents at the end of a buffer nothing writes are its contents at launch. -/
theorem keep_all (r : Ref sig .tc) (h1 : ∀ W ∈ [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W], r ∉ W)
    (hc : r ∉ condOps_W) (h2 : ∀ W ∈ [while0Ops0_W, while0Ops0_1_W, while0Ops0_2_W, while0Ops0_3_W, while0Ops0_4_W], r ∉ W)
    (h3 : ∀ W ∈ [postW_15, postW_16, postW_17, postW_18, postW_19, postW_20], r ∉ W) (c : Dev nD) :
    finalContents condOps preI bodyI postI 2000 m c (Proc.devRef .tc r) = m ((c.tc : Thread nD τ).loc r) := by
  unfold finalContents
  rw [keep_post _ r h3, after_of_writes_sub condOps _ condOps_writes hc, keep_loop _ r hc h2]
  exact (keep_pre _ r h1).trans rfl

/-- Argument 0 ends as launched. -/
theorem end_arg0 (c : Dev nD) :
    finalContents condOps preI bodyI postI 2000 m c (Proc.devRef .tc main_arg0) = m ((c.tc : Thread nD τ).loc main_arg0) :=
  keep_all m main_arg0 (by decide +kernel) (by decide +kernel) (by decide +kernel) (by decide +kernel) c

/-- Argument 1 ends as launched. -/
theorem end_arg1 (c : Dev nD) :
    finalContents condOps preI bodyI postI 2000 m c (Proc.devRef .tc main_arg1) = m ((c.tc : Thread nD τ).loc main_arg1) :=
  keep_all m main_arg1 (by decide +kernel) (by decide +kernel) (by decide +kernel) (by decide +kernel) c

/-- Argument 2 ends as launched. -/
theorem end_arg2 (c : Dev nD) :
    finalContents condOps preI bodyI postI 2000 m c (Proc.devRef .tc main_arg2) = m ((c.tc : Thread nD τ).loc main_arg2) :=
  keep_all m main_arg2 (by decide +kernel) (by decide +kernel) (by decide +kernel) (by decide +kernel) c

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h c main_arg0 rfl).trans (end_arg0 m c), (h c main_arg1 rfl).trans (end_arg1 m c),
        (h c main_arg2 rfl).trans (end_arg2 m c)⟩,
      sem_eq_zero_of_no_sems rfl r.2⟩) (run_fold m ρ)

end Cert.Proof.ReferenceIdeal

end
-- ==== Proof.Greedy.lean ====
/- Greedy suppression over candidates listed by a stable sort: what a stable sort's permutation orders, what the counted
   suppression loop leaves, that the kept set is the same however the candidates were listed, and its rows by rank. -/
module

public import Idealize.ShloMosaic.Lib.SortPrefix
public import Idealize.ShloMosaic.Lib.SortFacts
public import Mathlib.Data.EReal.Basic
public import Mathlib.Order.WellFounded
public import Mathlib.Data.Finset.Card
public import Mathlib.Data.Fintype.Card
public import Mathlib.Order.Interval.Finset.Fin

@[expose] public section

namespace Cert.Proof.Greedy

open Idealize.ShloMosaic

/-- Two comparators that agree on later against earlier elements sort an increasing list alike. -/
theorem stableSort_increasing {n : Nat} (R S : Fin n → Fin n → Bool) (h : ∀ a b, a < b → R b a = S b a) (l : List (Fin n))
    (hl : l.Pairwise (· < ·)) : stableSort R l = stableSort S l := by
  induction l with
  | nil => rfl
  | cons a l ih =>
    rw [List.pairwise_cons] at hl
    unfold stableSort
    rw [ih hl.2]
    exact insertBefore_congr R S a _ fun b hb => h a b (hl.1 b ((perm_stableSort S l).mem_iff.mp hb))

/-- The stable sort by a key puts its positions in order of the key, equal keys in order of the position. -/
theorem sortedFrom_order {n : Nat} (key : Fin n → EReal) (before : Fin n → Fin n → Bool)
    (hb : ∀ k k', before k k' = decide (key k < key k')) (i j : Fin n) (hij : i < j) :
    key (sortedFrom before i) < key (sortedFrom before j)
      ∨ (key (sortedFrom before i) = key (sortedFrom before j) ∧ sortedFrom before i < sortedFrom before j) := by
  classical
  let S : Fin n → Fin n → Bool := fun k k' => decide (key k < key k') || (decide (key k = key k') && decide (k < k'))
  have hS : StrictTotalBefore S :=
    StrictTotalBefore.of_key_then_position (fun a b : EReal => decide (a < b)) key (fun a => by simp)
      (fun a b c hab hbc => by
        simp only [decide_eq_true_eq] at hab hbc ⊢
        exact lt_trans hab hbc)
      (fun a b => by
        simp only [decide_eq_true_eq]
        exact lt_trichotomy a b)
  have he : sortPositions n before = sortPositions n S :=
    stableSort_increasing before S (fun a b hab => by
      show before b a = _
      rw [hb]
      show _ = (decide (key b < key a) || (decide (key b = key a) && decide (b < a)))
      rw [decide_eq_false (p := b < a) (not_lt.mpr hab.le), Bool.and_false, Bool.or_false]) _ (List.pairwise_lt_finRange n)
  have hπ : ∀ k, sortedFrom before k = sortedFrom S k := fun k => by
    unfold sortedFrom
    simp only [List.get_eq_getElem, he, Fin.val_cast]
  have hinv := sortedFrom_noInversion S S (fun a b h => hS.asymm a b h) (fun _ _ h => h) hS.negTrans i j hij
  have hne : sortedFrom S i ≠ sortedFrom S j := fun e => hij.ne (sortedFrom_injective S e)
  rw [hπ i, hπ j]
  rcases hS.total _ _ hne with h | h
  · have h' : (decide (key (sortedFrom S i) < key (sortedFrom S j))
      || (decide (key (sortedFrom S i) = key (sortedFrom S j)) && decide (sortedFrom S i < sortedFrom S j))) = true := h
    simpa only [Bool.or_eq_true, Bool.and_eq_true, decide_eq_true_eq] using h'
  · rw [h] at hinv
    exact absurd hinv (by decide)

/-- What the counted suppression loop leaves: an entry stays when it stood at first and no entry before it that stays suppresses it. -/
theorem loop_closed {M : Nat} (N : Nat) (hN : N ≤ M) (m : Nat → Fin M → Prop) (R : Fin M → Fin M → Prop)
    (h : ∀ n (hn : n < N) (j : Fin M), m (n + 1) j ↔ m n j ∧ ¬ (R ⟨n, hn.trans_le hN⟩ j ∧ n < j.val ∧ m n ⟨n, hn.trans_le hN⟩)) (j : Fin M) :
    m N j ↔ m 0 j ∧ ∀ i : Fin M, i.val < N → i < j → m N i → ¬ R i j := by
  have stab : ∀ (i : Fin M) (d : Nat), i.val + d ≤ N → (m (i.val + d) i ↔ m i.val i) := by
    intro i d
    induction d with
    | zero => intro _; exact Iff.rfl
    | succ d ih =>
      intro hd
      have h1 := h (i.val + d) (by omega) i
      have h2 := ih (by omega)
      rw [← Nat.add_assoc, h1, h2]
      constructor
      · exact fun q => q.1
      · exact fun q => ⟨q, fun r => by have := r.2.1; omega⟩
  have stabN : ∀ i : Fin M, i.val ≤ N → (m N i ↔ m i.val i) := fun i hi => by
    have := stab i (N - i.val) (by omega)
    rwa [Nat.add_sub_cancel' hi] at this
  have gen : ∀ n, n ≤ N → (m n j ↔ m 0 j ∧ ∀ i : Fin M, i.val < n → i < j → m N i → ¬ R i j) := by
    intro n
    induction n with
    | zero => intro _; simp
    | succ n ih =>
      intro hn
      rw [h n (by omega) j, ih (by omega)]
      have hs := stabN ⟨n, by omega⟩ (by show n ≤ N; omega)
      constructor
      · rintro ⟨⟨h0, hi⟩, hr⟩
        refine ⟨h0, fun i hi1 hij hm hR => ?_⟩
        rcases Nat.lt_succ_iff_lt_or_eq.mp hi1 with hlt | heq
        · exact hi i hlt hij hm hR
        · have e : i = ⟨n, by omega⟩ := Fin.ext heq
          rw [e] at hR hij hm
          exact hr ⟨hR, hij, hs.mp hm⟩
      · rintro ⟨h0, hi⟩
        refine ⟨⟨h0, fun i h1 => hi i (by omega)⟩, fun hr => ?_⟩
        exact hi ⟨n, by omega⟩ (Nat.lt_succ_self n) hr.2.1 (hs.mpr hr.2.2) hr.1
  exact gen N le_rfl

/-- The candidates in the order the sort lists them: a higher score first, equal scores by index. -/
def bef (o : Nat → EReal) (a b : Nat) : Prop := o b < o a ∨ (o a = o b ∧ a < b)

/-- That order is irreflexive. -/
theorem bef_irrefl (o : Nat → EReal) (a : Nat) : ¬ bef o a a := by
  rintro (h | h)
  · exact lt_irrefl _ h
  · exact lt_irrefl _ h.2

/-- That order is transitive. -/
theorem bef_trans (o : Nat → EReal) {a b c : Nat} (h1 : bef o a b) (h2 : bef o b c) : bef o a c := by
  rcases h1 with h1 | ⟨e1, l1⟩ <;> rcases h2 with h2 | ⟨e2, l2⟩
  · exact Or.inl (h2.trans h1)
  · exact Or.inl (e2 ▸ h1)
  · exact Or.inl (e1 ▸ h2)
  · exact Or.inr ⟨e1.trans e2, l1.trans l2⟩

/-- That order is total. -/
theorem bef_total (o : Nat → EReal) {a b : Nat} (h : a ≠ b) : bef o a b ∨ bef o b a := by
  rcases lt_trichotomy (o a) (o b) with h1 | h1 | h1
  · exact Or.inr (Or.inl h1)
  · rcases Nat.lt_or_gt_of_ne h with h2 | h2
    · exact Or.inl (Or.inr ⟨h1, h2⟩)
    · exact Or.inr (Or.inr ⟨h1.symm, h2⟩)
  · exact Or.inl (Or.inl h1)

/-- A kept set: the valid candidates that no kept candidate before them suppresses. -/
def Kept (o : Nat → EReal) (valid : Nat → Prop) (R : Nat → Nat → Prop) (K : Nat → Prop) : Prop :=
  ∀ k, K k ↔ valid k ∧ ∀ k', K k' → bef o k' k → ¬ R k' k

/-- There is one kept set. -/
theorem Kept.unique {o : Nat → EReal} {valid : Nat → Prop} {R : Nat → Nat → Prop} {K K' : Nat → Prop} (n : Nat)
    (hv : ∀ k, valid k → k < n) (h : Kept o valid R K) (h' : Kept o valid R K') : K = K' := by
  let r : Fin n → Fin n → Prop := fun a b => bef o a.val b.val
  haveI : IsTrans (Fin n) r := ⟨fun _ _ _ => bef_trans o⟩
  haveI : IsIrrefl (Fin n) r := ⟨fun _ => bef_irrefl o _⟩
  have wf : WellFounded r := Finite.wellFounded_of_trans_of_irrefl r
  have key : ∀ k : Fin n, K k.val ↔ K' k.val := fun k => by
    induction k using wf.induction with
    | _ k ih =>
      rw [h k.val, h' k.val]
      refine and_congr_right fun _ => ⟨fun q k' hk' hb => ?_, fun q k' hk' hb => ?_⟩
      · have hlt := hv k' ((h' k').mp hk').1
        exact q k' ((ih ⟨k', hlt⟩ hb).mpr hk') hb
      · have hlt := hv k' ((h k').mp hk').1
        exact q k' ((ih ⟨k', hlt⟩ hb).mp hk') hb
  funext k
  refine propext ⟨fun hk => ?_, fun hk => ?_⟩
  · exact (key ⟨k, hv k ((h k).mp hk).1⟩).mp hk
  · exact (key ⟨k, hv k ((h' k).mp hk).1⟩).mpr hk

/-- A listing of the candidates, its valid entries in order, whose marked entries are the valid ones that no marked entry before
    them suppresses: the marked candidates are the kept set. -/
theorem kept_of_listing {M : Nat} {o : Nat → EReal} {valid : Nat → Prop} {R : Nat → Nat → Prop} (c : Fin M → Nat)
    (mask : Fin M → Prop) (hcov : ∀ k, valid k → ∃ p, c p = k)
    (hord : ∀ p q, valid (c p) → valid (c q) → p < q → bef o (c p) (c q))
    (hmask : ∀ p, mask p ↔ valid (c p) ∧ ∀ i, i < p → mask i → ¬ R (c i) (c p)) :
    Kept o valid R (fun k => ∃ p, c p = k ∧ mask p) := by
  intro k
  constructor
  · rintro ⟨p, rfl, hp⟩
    have hvp := ((hmask p).mp hp).1
    refine ⟨hvp, ?_⟩
    rintro _ ⟨q, rfl, hq⟩ hb
    have hvq := ((hmask q).mp hq).1
    refine ((hmask p).mp hp).2 q ?_ hq
    rcases lt_trichotomy q p with hlt | heq | hgt
    · exact hlt
    · exact absurd (heq ▸ hb) (bef_irrefl o _)
    · exact absurd (bef_trans o hb (hord p q hvp hvq hgt)) (bef_irrefl o _)
  · rintro ⟨hv, hk⟩
    obtain ⟨p, rfl⟩ := hcov k hv
    refine ⟨p, rfl, (hmask p).mpr ⟨hv, fun i hi hm => ?_⟩⟩
    exact hk _ ⟨i, rfl, hm⟩ (hord i p ((hmask i).mp hm).1 hv hi)

/-- How many kept candidates come before a candidate. -/
noncomputable def rank (n : Nat) (o : Nat → EReal) (K : Nat → Prop) (k : Nat) : Nat :=
  open Classical in ((Finset.range n).filter fun k' => K k' ∧ bef o k' k).card

/-- In such a listing, the marked entries before a marked entry number its candidate's rank. -/
theorem rank_of_listing {M : Nat} (n : Nat) {o : Nat → EReal} {valid : Nat → Prop} (hv : ∀ k, valid k → k < n) (c : Fin M → Nat)
    (hinj : Function.Injective c) (mask : Fin M → Prop) (hmv : ∀ p, mask p → valid (c p))
    (hord : ∀ p q, valid (c p) → valid (c q) → p < q → bef o (c p) (c q)) (p : Fin M) (hp : mask p) [DecidablePred mask] :
    (Finset.univ.filter fun q : Fin M => mask q ∧ q < p).card = rank n o (fun k => ∃ p, c p = k ∧ mask p) (c p) := by
  classical
  unfold rank
  rw [← Finset.card_image_of_injective (Finset.univ.filter fun q : Fin M => mask q ∧ q < p) hinj]
  refine congrArg Finset.card (Finset.ext fun k => ?_)
  simp only [Finset.mem_image, Finset.mem_filter, Finset.mem_univ, true_and, Finset.mem_range]
  constructor
  · rintro ⟨q, ⟨hq, hlt⟩, rfl⟩
    exact ⟨hv _ (hmv q hq), ⟨q, rfl, hq⟩, hord q p (hmv q hq) (hmv p hp) hlt⟩
  · rintro ⟨_, ⟨q, rfl, hq⟩, hb⟩
    refine ⟨q, ⟨hq, ?_⟩, rfl⟩
    rcases lt_trichotomy q p with hlt | heq | hgt
    · exact hlt
    · exact absurd (heq ▸ hb) (bef_irrefl o _)
    · exact absurd (bef_trans o hb (hord p q (hmv p hp) (hmv q hq) hgt)) (bef_irrefl o _)

/-- Rows that hold the kept candidates' boxes by rank, and nothing beyond them. -/
def IsRows {β : Type} (n L : Nat) (o : Nat → EReal) (K : Nat → Prop) (box : Nat → β) (z : β) (out : Nat → β) : Prop :=
  (∀ k, K k → rank n o K k < L → out (rank n o K k) = box k) ∧ (∀ r, r < L → (∀ k, K k → rank n o K k ≠ r) → out r = z)

/-- There are no two such row tables. -/
theorem IsRows.unique {β : Type} {n L : Nat} {o : Nat → EReal} {K : Nat → Prop} {box : Nat → β} {z : β} {out out' : Nat → β}
    (h : IsRows n L o K box z out) (h' : IsRows n L o K box z out') (r : Nat) (hr : r < L) : out r = out' r := by
  by_cases hk : ∃ k, K k ∧ rank n o K k = r
  · obtain ⟨k, hk, rfl⟩ := hk
    rw [h.1 k hk hr, h'.1 k hk hr]
  · have : ∀ k, K k → rank n o K k ≠ r := fun k hK e => hk ⟨k, hK, e⟩
    rw [h.2 r hr this, h'.2 r hr this]

/-- An entry with `d` entries after it stands at least `d` before the end. -/
theorem val_add_lt {M d : Nat} (i : Fin M) (f : Fin d → Fin M) (hf : Function.Injective f) (h : ∀ x, i < f x) : i.val + d < M := by
  classical
  have h1 : d ≤ (Finset.Ioi i).card := by
    have := Finset.card_le_card_of_injOn (s := (Finset.univ : Finset (Fin d))) (t := Finset.Ioi i) f
      (fun x _ => by simpa using h x) (hf.injOn)
    simpa using this
  rw [Fin.card_Ioi] at h1
  have := i.isLt
  omega

end Cert.Proof.Greedy

end
-- ==== Proof.Cand.lean ====
/- One candidate's mathematics: decoding, clipping, validity and the overlap test, over the extended reals. -/
module

public import Idealize.ShloMosaic.Lib.Pointwise

@[expose] public section

noncomputable section

namespace Cert.Proof.Cand

open Idealize.ShloMosaic

/-- The number a 32-bit pattern stands for. -/
abbrev lit (b : BitVec 32) : EReal := Ideal.ofBits .f32 b

/-- The anchor's width. -/
def wa (a : Fin 4 → EReal) : EReal := a 2 - a 0
/-- The anchor's height. -/
def ha (a : Fin 4 → EReal) : EReal := a 3 - a 1
/-- The decoded centre, across. -/
def cx (d a : Fin 4 → EReal) : EReal := d 0 * wa a + (a 0 + lit 0x3F000000#32 * wa a)
/-- The decoded centre, down. -/
def cy (d a : Fin 4 → EReal) : EReal := d 1 * ha a + (a 1 + lit 0x3F000000#32 * ha a)
/-- The decoded width. -/
def pw (d a : Fin 4 → EReal) : EReal := Ideal.exp (min (d 2) (lit 0x40845349#32)) * wa a
/-- The decoded height. -/
def ph (d a : Fin 4 → EReal) : EReal := Ideal.exp (min (d 3) (lit 0x40845349#32)) * ha a
/-- A coordinate moved into the image. -/
def clip (x : EReal) : EReal := min (lit 0x44480000#32) (max 0 x)
/-- The decoded and clipped corners. -/
def box (d a : Fin 4 → EReal) : Fin 4 → EReal :=
  ![clip (cx d a - lit 0x3F000000#32 * pw d a), clip (cy d a - lit 0x3F000000#32 * ph d a),
    clip (cx d a + lit 0x3F000000#32 * pw d a), clip (cy d a + lit 0x3F000000#32 * ph d a)]
/-- The logistic function. -/
def logi (x : EReal) : EReal := Ideal.logistic x
/-- Whether a box is large enough. -/
def big (v : Fin 4 → EReal) : Prop := lit 0x3A83126F#32 ≤ v 2 - v 0 ∧ lit 0x3A83126F#32 ≤ v 3 - v 1
/-- The intersection of two boxes' areas. -/
def inter (u v : Fin 4 → EReal) : EReal :=
  max (min (u 2) (v 2) - max (u 0) (v 0)) 0 * max (min (u 3) (v 3) - max (u 1) (v 1)) 0
/-- A box's area. -/
def area (v : Fin 4 → EReal) : EReal := (v 2 - v 0) * (v 3 - v 1)
/-- A box moved by its level's offset. -/
def moved (v : Fin 4 → EReal) (o : EReal) : Fin 4 → EReal := fun j => v j + o
/-- Whether two boxes overlap more than the threshold, from their corners and areas. -/
def over (u v : Fin 4 → EReal) (au av : EReal) : Prop :=
  lit 0x3F333333#32 < Ideal.div (inter u v) (au + av - inter u v + lit 0x3089705F#32)

/-- The row of the anchor table that candidate `k` of image `b` names. -/
def tix (x3 : IVec ⟨2, ![2, 2000]⟩ 32) (b : Fin 2) (k : ℕ) : Fin 200000 :=
  if h : k < 2000 then ⟨(x3 (ix2 b ⟨k, h⟩)).toNat % 200000, Nat.mod_lt _ (by omega)⟩ else 0

/-- The candidate's objectness; past the candidates, a value below every one of them. -/
def ob (x0 : (⟨2, ![2, 200000]⟩ : Shape).Idx → EReal) (x3 : IVec ⟨2, ![2, 2000]⟩ 32) (b : Fin 2) (k : ℕ) : EReal :=
  if k < 2000 then x0 (ix2 b (tix x3 b k)) else lit 0xF149F2CA#32

/-- The candidate's box deltas. -/
def dl (x1 : (⟨3, ![2, 200000, 4]⟩ : Shape).Idx → EReal) (x3 : IVec ⟨2, ![2, 2000]⟩ 32) (b : Fin 2) (k : ℕ) (j : Fin 4) : EReal :=
  if k < 2000 then x1 (ix3 b (tix x3 b k) j) else 0

/-- The candidate's anchor. -/
def an (x2 : (⟨2, ![200000, 4]⟩ : Shape).Idx → EReal) (x3 : IVec ⟨2, ![2, 2000]⟩ 32) (b : Fin 2) (k : ℕ) (j : Fin 4) : EReal :=
  if k < 2000 then x2 (ix2 (tix x3 b k) j) else 0

/-- The candidate's level. -/
def lv (x3 : IVec ⟨2, ![2, 2000]⟩ 32) (b : Fin 2) (k : ℕ) : EReal :=
  if k < 2000 ∧ 160000 ≤ (tix x3 b k).val then 1 else 0

end Cert.Proof.Cand
-- ==== Proof.CandFacts.lean ====
/- Facts about one candidate's mathematics, and the candidates of an image. -/
module

public import proofs.«01_k».proof.Proof.Cand
public import proofs.«01_k».proof.Proof.Greedy

@[expose] public section

noncomputable section

namespace Cert.Proof.Cand

open Idealize.ShloMosaic

section Image

variable (x0 : (⟨2, ![2, 200000]⟩ : Shape).Idx → EReal) (x1 : (⟨3, ![2, 200000, 4]⟩ : Shape).Idx → EReal)
  (x2 : (⟨2, ![200000, 4]⟩ : Shape).Idx → EReal) (x3 : IVec ⟨2, ![2, 2000]⟩ 32) (b : Fin 2)

/-- The candidate's clipped box. -/
def bxk (k : ℕ) : Fin 4 → EReal := box (dl x1 x3 b k) (an x2 x3 b k)
/-- The candidate's offset. -/
def ofk (k : ℕ) : EReal := lv x3 b k * lit 0x44484000#32
/-- The candidate is large enough. -/
def vk (k : ℕ) : Prop := big (bxk x1 x2 x3 b k) ∧ 0 ≤ logi (ob x0 x3 b k)
/-- One candidate overlaps another too much. -/
def rk (k k' : ℕ) : Prop :=
  over (moved (bxk x1 x2 x3 b k) (ofk x3 b k)) (moved (bxk x1 x2 x3 b k') (ofk x3 b k')) (area (bxk x1 x2 x3 b k)) (area (bxk x1 x2 x3 b k'))

end Image

/-- A clipped coordinate is a number. -/
theorem clip_real (x : EReal) : ∃ r : ℝ, clip x = (r : EReal) := by
  have e : lit 0x44480000#32 = ((800 : ℝ) : EReal) := by
    simp [lit, Ideal.ofBits, Ideal.ieee, -EReal.coe_mul]; norm_num
  have h1 : clip x ≤ ((800 : ℝ) : EReal) := by unfold clip; rw [e]; exact min_le_left _ _
  have h0 : (0 : EReal) ≤ clip x := by
    unfold clip; rw [e]; refine le_min ?_ (le_max_left _ _); exact_mod_cast (by norm_num : (0 : ℝ) ≤ 800)
  refine ⟨(clip x).toReal, (EReal.coe_toReal ?_ ?_).symm⟩
  · intro h; rw [h] at h1; exact absurd h1 (not_le.mpr (EReal.coe_lt_top _))
  · intro h; rw [h] at h0; exact absurd h0 (not_le.mpr (EReal.bot_lt_zero))

/-- The smallest allowed size is positive. -/
theorem least_pos : (0 : EReal) < lit 0x3A83126F#32 := by
  have e : ∃ r : ℝ, 0 < r ∧ lit 0x3A83126F#32 = (r : EReal) := by
    simp [lit, Ideal.ofBits, Ideal.ieee, -EReal.coe_mul]
  obtain ⟨r, hr, e⟩ := e
  rw [e]; exact_mod_cast hr

/-- The offset's step is a number. -/
theorem step_real : ∃ r : ℝ, lit 0x44484000#32 = (r : EReal) := by
  simp [lit, Ideal.ofBits, Ideal.ieee, -EReal.coe_mul]

/-- A candidate past the end has an empty box. -/
theorem not_big_zero : ¬ big (box (fun _ => 0) (fun _ => 0)) := by
  have hw : wa (fun _ => 0) = 0 := by simp [wa]
  have hh : ha (fun _ => 0) = 0 := by simp [ha]
  have hp : pw (fun _ => 0) (fun _ => 0) = 0 := by unfold pw; rw [hw]; simp
  have hq : ph (fun _ => 0) (fun _ => 0) = 0 := by unfold ph; rw [hh]; simp
  intro h
  have h1 := h.1
  simp [box, hp, hq] at h1
  obtain ⟨r, hr⟩ := clip_real (cx (fun _ => 0) (fun _ => 0))
  rw [hr, ← EReal.coe_sub, sub_self] at h1
  exact absurd least_pos (not_lt.mpr h1)

/-- The logistic function is strictly increasing. -/
theorem logi_strictMono : StrictMono logi := by
  intro x y h
  unfold logi
  induction x using EReal.rec <;> induction y using EReal.rec <;> simp_all
  · positivity
  · rename_i a c
    refine inv_strictAnti₀ (by positivity) ?_
    have := Real.exp_lt_exp.mpr (neg_lt_neg h)
    linarith
  · rename_i a
    have h1 : (1 + Real.exp (-a))⁻¹ < 1 := by
      refine inv_lt_one_of_one_lt₀ ?_
      have := Real.exp_pos (-a)
      linarith
    exact_mod_cast h1

/-- The logistic function is not negative. -/
theorem logi_nonneg (x : EReal) : 0 ≤ logi x := by
  unfold logi
  induction x using EReal.rec <;> simp
  positivity

/-- The logistic function is a number. -/
theorem logi_real (x : EReal) : ∃ r : ℝ, logi x = (r : EReal) := by
  unfold logi
  induction x using EReal.rec
  · exact ⟨0, by simp⟩
  · exact ⟨_, Ideal.logistic_coe _⟩
  · exact ⟨1, by simp⟩

/-- A level's offset is a number. -/
theorem ofk_real (x3 : IVec ⟨2, ![2, 2000]⟩ 32) (b : Fin 2) (k : ℕ) : ∃ r : ℝ, ofk x3 b k = (r : EReal) := by
  obtain ⟨s, hs⟩ := step_real
  unfold ofk lv
  rw [hs]
  split_ifs
  · exact ⟨s, one_mul _⟩
  · exact ⟨0, by simp⟩

/-- A candidate's corners are numbers. -/
theorem box_real (d a : Fin 4 → EReal) (j : Fin 4) : ∃ r : ℝ, box d a j = (r : EReal) := by
  fin_cases j <;> exact clip_real _

/-- Only the candidates are large enough. -/
theorem vk_lt (x0 : (⟨2, ![2, 200000]⟩ : Shape).Idx → EReal) (x1 : (⟨3, ![2, 200000, 4]⟩ : Shape).Idx → EReal)
    (x2 : (⟨2, ![200000, 4]⟩ : Shape).Idx → EReal) (x3 : IVec ⟨2, ![2, 2000]⟩ 32) (b : Fin 2) (k : ℕ) (h : vk x0 x1 x2 x3 b k) : k < 2000 := by
  by_contra hk
  refine not_big_zero ?_
  have h1 : bxk x1 x2 x3 b k = box (fun _ => 0) (fun _ => 0) := by
    unfold bxk dl an
    simp only [if_neg hk]
  rw [← h1]; exact h.1

/-- A number's shift cancels. -/
theorem shift_cancel (a b o : ℝ) : ((a : EReal) + (o : EReal)) - ((b : EReal) + (o : EReal)) = (a : EReal) - (b : EReal) := by
  rw [← EReal.coe_add, ← EReal.coe_add, ← EReal.coe_sub, ← EReal.coe_sub]; congr 1; ring

end Cert.Proof.Cand
-- ==== Proof.Gath.lean ====
/- Gathers at an index: the operand's row named by the start words. -/
module

public import Idealize.ShloMosaic.Lib.ValueIdxCore
public import Idealize.ShloMosaic.Lib.WordCmp
public import Idealize.ShloMosaic.Lib.Pointwise
public import Idealize.ShloMosaic.PureOps.Reduce
public import Idealize.ShloMosaic.Lib.Routing.BitFacts

@[expose] public section

noncomputable section

namespace Cert.Proof.Gath

open Idealize.ShloMosaic Idealize.ShloMosaic.WordCmp

variable {α : Type} {B N M C K : ℕ}

/-- A small word, read signed and clamped, is itself. -/
theorem clamp {n m : ℕ} (h : n ≤ m) (hm : m < 2 ^ 31) : min (BitVec.ofNat 32 n).toInt.toNat m = n := by
  rw [toInt_ofNat_of_lt (by omega)]; omega

/-- Entry by row and column words. -/
abbrev pairDims (wf : GatherDims.WF ⟨2, ![B, N]⟩ ⟨3, ![C, M, 2]⟩ ⟨2, ![C, M]⟩ [] [0, 1] [] [0, 1] [] 2 ![1, 1]) :
    GatherDims ⟨2, ![B, N]⟩ ⟨3, ![C, M, 2]⟩ ⟨2, ![C, M]⟩ where
  offsetDims := []
  collapsedSliceDims := [0, 1]
  operandBatchingDims := []
  startIndicesBatchingDims := []
  startIndexMap := [0, 1]
  indexVectorDim := 2
  sliceSizes := ![1, 1]
  wf := wf

/-- The gathered entry is the operand's at the two words. -/
theorem pair_at (wf : GatherDims.WF ⟨2, ![B, N]⟩ ⟨3, ![C, M, 2]⟩ ⟨2, ![C, M]⟩ [] [0, 1] [] [0, 1] [] 2 ![1, 1])
    (hB : B ≤ 2 ^ 31) (hN : N ≤ 2 ^ 31) (x : (⟨2, ![B, N]⟩ : Shape).Idx → α) (idx : IVec ⟨3, ![C, M, 2]⟩ 32) (c : Fin C) (k : Fin M)
    (b : Fin B) (n : Fin N) (h0 : idx (ix3 c k 0) = BitVec.ofNat 32 b.val) (h1 : idx (ix3 c k 1) = BitVec.ofNat 32 n.val) :
    Host.gather (pairDims wf) x idx (ix2 c k) = x (ix2 b n) := by
  unfold Host.gather
  congr 1
  funext a
  refine Fin.ext ?_
  have hs (e : Fin 2) : (pairDims wf).siIdx (ix2 c k) e = ix3 c k e := by
    funext q; refine Fin.ext ?_
    match q with
    | ⟨0, _⟩ => rfl
    | ⟨1, _⟩ => rfl
    | ⟨2, _⟩ => rfl
  match a with
  | ⟨0, _⟩ =>
    show min (idx ((pairDims wf).siIdx (ix2 c k) (0 : Fin 2))).toInt.toNat (B - 1) + 0 + 0 = b.val
    rw [hs, h0, clamp (by omega) (by omega)]; rfl
  | ⟨1, _⟩ =>
    show min (idx ((pairDims wf).siIdx (ix2 c k) (1 : Fin 2))).toInt.toNat (N - 1) + 0 + 0 = n.val
    rw [hs, h1, clamp (by omega) (by omega)]; rfl

/-- Rows by plane and row words. -/
abbrev pairRowDims (wf : GatherDims.WF ⟨3, ![B, N, K]⟩ ⟨3, ![C, M, 2]⟩ ⟨3, ![C, M, K]⟩ [2] [0, 1] [] [0, 1] [] 2 ![1, 1, K]) :
    GatherDims ⟨3, ![B, N, K]⟩ ⟨3, ![C, M, 2]⟩ ⟨3, ![C, M, K]⟩ where
  offsetDims := [2]
  collapsedSliceDims := [0, 1]
  operandBatchingDims := []
  startIndicesBatchingDims := []
  startIndexMap := [0, 1]
  indexVectorDim := 2
  sliceSizes := ![1, 1, K]
  wf := wf

/-- The gathered row is the operand's at the two words. -/
theorem pairRow_at (wf : GatherDims.WF ⟨3, ![B, N, K]⟩ ⟨3, ![C, M, 2]⟩ ⟨3, ![C, M, K]⟩ [2] [0, 1] [] [0, 1] [] 2 ![1, 1, K])
    (hB : B ≤ 2 ^ 31) (hN : N ≤ 2 ^ 31) (x : (⟨3, ![B, N, K]⟩ : Shape).Idx → α) (idx : IVec ⟨3, ![C, M, 2]⟩ 32) (c : Fin C) (k : Fin M) (j : Fin K)
    (b : Fin B) (n : Fin N) (h0 : idx (ix3 c k 0) = BitVec.ofNat 32 b.val) (h1 : idx (ix3 c k 1) = BitVec.ofNat 32 n.val) :
    Host.gather (pairRowDims wf) x idx (ix3 c k j) = x (ix3 b n j) := by
  unfold Host.gather
  congr 1
  funext a
  refine Fin.ext ?_
  have hs (e : Fin 2) : (pairRowDims wf).siIdx (ix3 c k j) e = ix3 c k e := by
    funext q; refine Fin.ext ?_
    match q with
    | ⟨0, _⟩ => rfl
    | ⟨1, _⟩ => rfl
    | ⟨2, _⟩ => rfl
  match a with
  | ⟨0, _⟩ =>
    show min (idx ((pairRowDims wf).siIdx (ix3 c k j) (0 : Fin 2))).toInt.toNat (B - 1) + 0 + 0 = b.val
    rw [hs, h0, clamp (by omega) (by omega)]; rfl
  | ⟨1, _⟩ =>
    show min (idx ((pairRowDims wf).siIdx (ix3 c k j) (1 : Fin 2))).toInt.toNat (N - 1) + 0 + 0 = n.val
    rw [hs, h1, clamp (by omega) (by omega)]; rfl
  | ⟨2, _⟩ =>
    show 0 + 0 + j.val = j.val
    omega

/-- Rows by one word. -/
abbrev rowDims (wf : GatherDims.WF ⟨2, ![N, K]⟩ ⟨3, ![C, M, 1]⟩ ⟨3, ![C, M, K]⟩ [2] [0] [] [0] [] 2 ![1, K]) :
    GatherDims ⟨2, ![N, K]⟩ ⟨3, ![C, M, 1]⟩ ⟨3, ![C, M, K]⟩ where
  offsetDims := [2]
  collapsedSliceDims := [0]
  operandBatchingDims := []
  startIndicesBatchingDims := []
  startIndexMap := [0]
  indexVectorDim := 2
  sliceSizes := ![1, K]
  wf := wf

/-- The gathered row is the operand's at the word. -/
theorem row_at (wf : GatherDims.WF ⟨2, ![N, K]⟩ ⟨3, ![C, M, 1]⟩ ⟨3, ![C, M, K]⟩ [2] [0] [] [0] [] 2 ![1, K])
    (hN : N ≤ 2 ^ 31) (x : (⟨2, ![N, K]⟩ : Shape).Idx → α) (idx : IVec ⟨3, ![C, M, 1]⟩ 32) (c : Fin C) (k : Fin M) (j : Fin K)
    (n : Fin N) (h0 : idx (ix3 c k 0) = BitVec.ofNat 32 n.val) :
    Host.gather (rowDims wf) x idx (ix3 c k j) = x (ix2 n j) := by
  unfold Host.gather
  congr 1
  funext a
  refine Fin.ext ?_
  have hs (e : Fin 1) : (rowDims wf).siIdx (ix3 c k j) e = ix3 c k e := by
    funext q; refine Fin.ext ?_
    match q with
    | ⟨0, _⟩ => rfl
    | ⟨1, _⟩ => rfl
    | ⟨2, _⟩ => rfl
  match a with
  | ⟨0, _⟩ =>
    show min (idx ((rowDims wf).siIdx (ix3 c k j) (0 : Fin 1))).toInt.toNat (N - 1) + 0 + 0 = n.val
    rw [hs, h0, clamp (by omega) (by omega)]; rfl
  | ⟨1, _⟩ =>
    show 0 + 0 + j.val = j.val
    omega

/-- Entries along the second axis, one word per entry. -/
abbrev alongDims (wf : GatherDims.WF ⟨2, ![B, N]⟩ ⟨3, ![B, M, 1]⟩ ⟨2, ![B, M]⟩ [] [1] [0] [1] [0] 2 ![1, 1]) :
    GatherDims ⟨2, ![B, N]⟩ ⟨3, ![B, M, 1]⟩ ⟨2, ![B, M]⟩ where
  offsetDims := []
  collapsedSliceDims := [1]
  operandBatchingDims := [0]
  startIndicesBatchingDims := [0]
  startIndexMap := [1]
  indexVectorDim := 2
  sliceSizes := ![1, 1]
  wf := wf

/-- The gathered entry is the same row's at the word. -/
theorem along_at (wf : GatherDims.WF ⟨2, ![B, N]⟩ ⟨3, ![B, M, 1]⟩ ⟨2, ![B, M]⟩ [] [1] [0] [1] [0] 2 ![1, 1])
    (hN : N ≤ 2 ^ 31) (x : (⟨2, ![B, N]⟩ : Shape).Idx → α) (idx : IVec ⟨3, ![B, M, 1]⟩ 32) (c : Fin B) (k : Fin M)
    (n : Fin N) (h0 : idx (ix3 c k 0) = BitVec.ofNat 32 n.val) :
    Host.gather (alongDims wf) x idx (ix2 c k) = x (ix2 c n) := by
  unfold Host.gather
  congr 1
  funext a
  refine Fin.ext ?_
  have hs (e : Fin 1) : (alongDims wf).siIdx (ix2 c k) e = ix3 c k e := by
    funext q; refine Fin.ext ?_
    match q with
    | ⟨0, _⟩ => rfl
    | ⟨1, _⟩ => rfl
    | ⟨2, _⟩ => rfl
  match a with
  | ⟨0, _⟩ =>
    show 0 + c.val + 0 = c.val
    omega
  | ⟨1, _⟩ =>
    show min (idx ((alongDims wf).siIdx (ix2 c k) (0 : Fin 1))).toInt.toNat (N - 1) + 0 + 0 = n.val
    rw [hs, h0, clamp (by omega) (by omega)]; rfl

/-- Rows along the second axis, one word per row. -/
abbrev alongRowDims (wf : GatherDims.WF ⟨3, ![B, N, K]⟩ ⟨3, ![B, M, 1]⟩ ⟨3, ![B, M, K]⟩ [2] [1] [0] [1] [0] 2 ![1, 1, K]) :
    GatherDims ⟨3, ![B, N, K]⟩ ⟨3, ![B, M, 1]⟩ ⟨3, ![B, M, K]⟩ where
  offsetDims := [2]
  collapsedSliceDims := [1]
  operandBatchingDims := [0]
  startIndicesBatchingDims := [0]
  startIndexMap := [1]
  indexVectorDim := 2
  sliceSizes := ![1, 1, K]
  wf := wf

/-- The gathered row is the same plane's at the word. -/
theorem alongRow_at (wf : GatherDims.WF ⟨3, ![B, N, K]⟩ ⟨3, ![B, M, 1]⟩ ⟨3, ![B, M, K]⟩ [2] [1] [0] [1] [0] 2 ![1, 1, K])
    (hN : N ≤ 2 ^ 31) (x : (⟨3, ![B, N, K]⟩ : Shape).Idx → α) (idx : IVec ⟨3, ![B, M, 1]⟩ 32) (c : Fin B) (k : Fin M) (j : Fin K)
    (n : Fin N) (h0 : idx (ix3 c k 0) = BitVec.ofNat 32 n.val) :
    Host.gather (alongRowDims wf) x idx (ix3 c k j) = x (ix3 c n j) := by
  unfold Host.gather
  congr 1
  funext a
  refine Fin.ext ?_
  have hs (e : Fin 1) : (alongRowDims wf).siIdx (ix3 c k j) e = ix3 c k e := by
    funext q; refine Fin.ext ?_
    match q with
    | ⟨0, _⟩ => rfl
    | ⟨1, _⟩ => rfl
    | ⟨2, _⟩ => rfl
  match a with
  | ⟨0, _⟩ =>
    show 0 + c.val + 0 = c.val
    omega
  | ⟨1, _⟩ =>
    show min (idx ((alongRowDims wf).siIdx (ix3 c k j) (0 : Fin 1))).toInt.toNat (N - 1) + 0 + 0 = n.val
    rw [hs, h0, clamp (by omega) (by omega)]; rfl
  | ⟨2, _⟩ =>
    show 0 + 0 + j.val = j.val
    omega

/-- Entries of a vector by one word. -/
abbrev vecDims (wf : GatherDims.WF ⟨1, ![N]⟩ ⟨3, ![C, M, 1]⟩ ⟨2, ![C, M]⟩ [] [0] [] [0] [] 2 ![1]) :
    GatherDims ⟨1, ![N]⟩ ⟨3, ![C, M, 1]⟩ ⟨2, ![C, M]⟩ where
  offsetDims := []
  collapsedSliceDims := [0]
  operandBatchingDims := []
  startIndicesBatchingDims := []
  startIndexMap := [0]
  indexVectorDim := 2
  sliceSizes := ![1]
  wf := wf

/-- The gathered entry is the vector's at the word. -/
theorem vec_at (wf : GatherDims.WF ⟨1, ![N]⟩ ⟨3, ![C, M, 1]⟩ ⟨2, ![C, M]⟩ [] [0] [] [0] [] 2 ![1])
    (hN : N ≤ 2 ^ 31) (x : (⟨1, ![N]⟩ : Shape).Idx → α) (idx : IVec ⟨3, ![C, M, 1]⟩ 32) (c : Fin C) (k : Fin M)
    (n : Fin N) (h0 : idx (ix3 c k 0) = BitVec.ofNat 32 n.val) :
    Host.gather (vecDims wf) x idx (ix2 c k) = x (ix1 n) := by
  unfold Host.gather
  congr 1
  funext a
  refine Fin.ext ?_
  have hs (e : Fin 1) : (vecDims wf).siIdx (ix2 c k) e = ix3 c k e := by
    funext q; refine Fin.ext ?_
    match q with
    | ⟨0, _⟩ => rfl
    | ⟨1, _⟩ => rfl
    | ⟨2, _⟩ => rfl
  match a with
  | ⟨0, _⟩ =>
    show min (idx ((vecDims wf).siIdx (ix2 c k) (0 : Fin 1))).toInt.toNat (N - 1) + 0 + 0 = n.val
    rw [hs, h0, clamp (by omega) (by omega)]; rfl

/-- A small word is not negative, so the select of its wrapped form keeps it. -/
theorem wrap_at {n : ℕ} (h : n < 2 ^ 31) (w : BitVec 32) :
    Scalar.select (IntOp.cmpi CmpIPredicate.slt (BitVec.ofNat 32 n) 0#32) w (BitVec.ofNat 32 n) = BitVec.ofNat 32 n := by
  have : IntOp.cmpi CmpIPredicate.slt (BitVec.ofNat 32 n) 0#32 = 0#1 := by
    have h0 : (BitVec.ofNat 32 n).slt 0#32 = false := by
      rw [BitVec.slt_eq_decide, toInt_ofNat_of_lt h]
      simp
    show BitVec.ofBool ((BitVec.ofNat 32 n).slt 0#32) = 0#1
    rw [h0]; rfl
  rw [this]; rfl

/-- The range check of a small word passes. -/
theorem range_at {n m : ℕ} (h : n ≤ m) (hm : m < 2 ^ 31) :
    IntOp.andi (IntOp.cmpi CmpIPredicate.sge (BitVec.ofNat 32 n) 0#32) (IntOp.cmpi CmpIPredicate.sle (BitVec.ofNat 32 n) (BitVec.ofNat 32 m)) = 1#1 := by
  have h0 : (0#32).sle (BitVec.ofNat 32 n) = true := by
    rw [BitVec.sle_eq_decide, toInt_ofNat_of_lt (a := n) (by omega)]
    simp
  have h1 : (BitVec.ofNat 32 n).sle (BitVec.ofNat 32 m) = true := by
    rw [BitVec.sle_eq_decide, toInt_ofNat_of_lt (by omega), toInt_ofNat_of_lt hm]
    simpa using h
  show BitVec.ofBool ((0#32).sle (BitVec.ofNat 32 n)) &&& BitVec.ofBool ((BitVec.ofNat 32 n).sle (BitVec.ofNat 32 m)) = 1#1
  rw [h0, h1]; rfl

/-- A fold of `and` over one entry. -/
theorem fold_one (f : Fin 1 → BitVec 1) (h : f 0 = 1#1) : Finset.fold IntOp.andi (1#1) f Finset.univ = 1#1 := by
  have : (Finset.univ : Finset (Fin 1)) = {0} := by decide
  rw [this, Finset.fold_singleton, h]; rfl

/-- The sort key's normal form is the key: there is one zero and every number equals itself. -/
theorem norm_eq (q : BitVec 32) (x : EReal) :
    Scalar.select (FloatOps.cmpf (F := Ideal) (φ := .f32) CmpFPredicate.une x x) (FloatOps.ofBits (F := Ideal) .f32 q)
      (Scalar.select (FloatOps.cmpf (F := Ideal) (φ := .f32) CmpFPredicate.oeq x (FloatOps.ofBits (F := Ideal) .f32 0#32))
        (FloatOps.ofBits (F := Ideal) .f32 0#32) x) = x := by
  have h1 : FloatOps.cmpf (F := Ideal) (φ := .f32) CmpFPredicate.une x x = 0#1 := by
    show BitVec.ofBool (decide (x ≠ x)) = 0#1
    simp
  rw [h1]
  show Scalar.select (FloatOps.cmpf (F := Ideal) (φ := .f32) CmpFPredicate.oeq x (FloatOps.ofBits (F := Ideal) .f32 0#32))
        (FloatOps.ofBits (F := Ideal) .f32 0#32) x = x
  by_cases h : x = FloatOps.ofBits (F := Ideal) .f32 0#32
  · have : FloatOps.cmpf (F := Ideal) (φ := .f32) CmpFPredicate.oeq x (FloatOps.ofBits (F := Ideal) .f32 0#32) = 1#1 := by
      show BitVec.ofBool (decide (x = FloatOps.ofBits (F := Ideal) .f32 0#32)) = 1#1
      rw [decide_eq_true h]; rfl
    rw [this]; exact h.symm
  · have : FloatOps.cmpf (F := Ideal) (φ := .f32) CmpFPredicate.oeq x (FloatOps.ofBits (F := Ideal) .f32 0#32) = 0#1 := by
      show BitVec.ofBool (decide (x = FloatOps.ofBits (F := Ideal) .f32 0#32)) = 0#1
      rw [decide_eq_false h]; rfl
    rw [this]; rfl

/-- A bit made of a truth value is set exactly where the value is. -/
theorem beq_ofBool (c : Bool) : (BitVec.ofBool c == 1#1) = c := by cases c <;> rfl

/-- Along the second axis, an entry changed there is the pair with the new coordinate. -/
theorem along_pair (b : Fin B) (p k : Fin N) :
    Shape.Idx.along (s := ⟨2, ![B, N]⟩) (ix2 b p) (1 : Fin 2) k = ix2 b k := by
  funext a
  match a with
  | ⟨0, _⟩ => rfl
  | ⟨1, _⟩ => rfl

/-- A sort of two arrays along the second axis, at an entry of the second. -/
theorem sort2_at {β : Type} (cmp : α × β → α × β → BitVec 1) (x : (⟨2, ![B, N]⟩ : Shape).Idx → α) (y : (⟨2, ![B, N]⟩ : Shape).Idx → β)
    (b : Fin B) (p : Fin N) :
    (Host.sort2 ⟨2, ![B, N]⟩ 1 cmp x y).2 (ix2 b p)
      = y (ix2 b (sortedFrom (fun k k' => cmp (x (ix2 b k), y (ix2 b k)) (x (ix2 b k'), y (ix2 b k')) == 1#1) p)) := by
  have h : (Host.sort2 ⟨2, ![B, N]⟩ 1 cmp x y).2 (ix2 b p)
      = y (Shape.Idx.along (s := ⟨2, ![B, N]⟩) (ix2 b p) (1 : Fin 2) (sortedFrom (n := N) (fun k k' =>
          cmp (x (Shape.Idx.along (s := ⟨2, ![B, N]⟩) (ix2 b p) (1 : Fin 2) k), y (Shape.Idx.along (s := ⟨2, ![B, N]⟩) (ix2 b p) (1 : Fin 2) k))
            (x (Shape.Idx.along (s := ⟨2, ![B, N]⟩) (ix2 b p) (1 : Fin 2) k'), y (Shape.Idx.along (s := ⟨2, ![B, N]⟩) (ix2 b p) (1 : Fin 2) k')) == 1#1) p)) := rfl
  simp only [along_pair] at h
  exact h

end Cert.Proof.Gath
-- ==== Proof.Select.lean ====
/- Selecting the `k` largest of a row: the bisection for a threshold, the mask it gives, and the list of the selected in order. -/
module

public import Mathlib.Data.EReal.Inv
public import Mathlib.Order.WellFounded
public import Mathlib.Data.Fintype.Card
public import Mathlib.Order.Interval.Finset.Fin

@[expose] public section

noncomputable section

namespace Cert.Proof.Select

open Finset

variable {N : ℕ}

/-- How many entries of the row are at least `t`. -/
def cnt (x : Fin N → EReal) (t : EReal) : ℕ := (univ.filter fun i => t ≤ x i).card

/-- One bisection by a count `c`: the middle becomes the lower end if the count there is at least `k`, else the upper end. -/
def halve (k : ℕ) (c : EReal → ℕ) (s : EReal × EReal) : EReal × EReal :=
  if k ≤ c (((1 / 2 : ℝ) : EReal) * (s.1 + s.2)) then (((1 / 2 : ℝ) : EReal) * (s.1 + s.2), s.2)
  else (s.1, ((1 / 2 : ℝ) : EReal) * (s.1 + s.2))

/-- After `n` bisections the ends still enclose the `k`-th value, and lie `2 ^ n` times closer. -/
theorem halve_iterate (k : ℕ) (c : EReal → ℕ) (v : ℝ) (hv : ∀ t : ℝ, k ≤ c (t : EReal) ↔ t ≤ v) (lo hi : ℝ)
    (hlo : lo ≤ v) (hhi : v < hi) (n : ℕ) :
    ∃ a b : ℝ, (halve k c)^[n] ((lo : EReal), (hi : EReal)) = ((a : EReal), (b : EReal)) ∧ a ≤ v ∧ v < b ∧ b - a = (hi - lo) / 2 ^ n := by
  induction n with
  | zero => exact ⟨lo, hi, rfl, hlo, hhi, by simp⟩
  | succ n ih =>
    obtain ⟨a, b, he, ha, hb, hd⟩ := ih
    have hm : ((1 / 2 : ℝ) : EReal) * ((a : EReal) + (b : EReal)) = (((a + b) / 2 : ℝ) : EReal) := by
      rw [← EReal.coe_add, ← EReal.coe_mul]; congr 1; ring
    rw [Function.iterate_succ_apply', he]
    unfold halve
    rw [hm]
    by_cases h : k ≤ c (((a + b) / 2 : ℝ) : EReal)
    · rw [if_pos h]
      refine ⟨(a + b) / 2, b, rfl, (hv _).mp h, hb, ?_⟩
      rw [pow_succ, ← div_div, ← hd]; ring
    · rw [if_neg h]
      refine ⟨a, (a + b) / 2, rfl, ha, not_le.mp fun q => h ((hv _).mpr q), ?_⟩
      rw [pow_succ, ← div_div, ← hd]; ring

/-- A row listed from its largest entry down, whose `k`-th value is `v` with the next one at least `ε` below it. -/
structure Listed (k : ℕ) (x : Fin N → EReal) (σ : Fin N → Fin N) (v ε : ℝ) : Prop where
  /-- No place is listed twice. -/
  inj : Function.Injective σ
  /-- The entries go down along the list. -/
  down : ∀ i j, i < j → x (σ j) ≤ x (σ i)
  /-- At least one entry is selected. -/
  pos : 0 < k
  /-- There are more entries than are selected. -/
  lt : k < N
  /-- The `k`-th entry is `v`. -/
  kth : x (σ ⟨k - 1, by omega⟩) = (v : EReal)
  /-- The next one lies below it by the gap. -/
  gap : x (σ ⟨k, lt⟩) + (ε : EReal) ≤ (v : EReal)
  /-- The gap is positive. -/
  gap_pos : 0 < ε

variable {k : ℕ} {x : Fin N → EReal} {σ : Fin N → Fin N} {v ε : ℝ}

/-- The selected places: those listed among the first `k`. -/
def Sel (k : ℕ) (σ : Fin N → Fin N) (i : Fin N) : Prop := ∃ j : Fin N, j.val < k ∧ σ j = i

/-- Every place is listed. -/
theorem Listed.surj (h : Listed k x σ v ε) : Function.Surjective σ := Finite.injective_iff_surjective.mp h.inj

/-- A selected place holds at least the `k`-th value. -/
theorem Listed.le_of_sel (h : Listed k x σ v ε) {i : Fin N} (hi : Sel k σ i) : (v : EReal) ≤ x i := by
  obtain ⟨j, hj, rfl⟩ := hi
  rw [← h.kth]
  rcases lt_or_eq_of_le (show j ≤ ⟨k - 1, by have := h.lt; omega⟩ from Fin.le_def.mpr (by show j.val ≤ k - 1; omega)) with h1 | h1
  · exact h.down _ _ h1
  · rw [h1]

/-- A place that is not selected lies below the `k`-th value by the gap. -/
theorem Listed.gap_of_not (h : Listed k x σ v ε) {i : Fin N} (hi : ¬ Sel k σ i) : x i + (ε : EReal) ≤ (v : EReal) := by
  obtain ⟨j, rfl⟩ := h.surj i
  have hj : k ≤ j.val := not_lt.mp fun q => hi ⟨j, q, rfl⟩
  refine le_trans (add_le_add_left ?_ _) h.gap
  rcases lt_or_eq_of_le (show (⟨k, h.lt⟩ : Fin N) ≤ j from Fin.le_def.mpr hj) with h1 | h1
  · exact h.down _ _ h1
  · rw [h1]

/-- A place that is not selected lies below any real within the gap of the `k`-th value. -/
theorem Listed.lt_of_not (h : Listed k x σ v ε) {i : Fin N} (hi : ¬ Sel k σ i) (t : ℝ) (ht : v < t + ε) : x i < (t : EReal) := by
  have hg := h.gap_of_not hi
  by_contra hc
  have h1 : (t : EReal) + (ε : EReal) ≤ x i + (ε : EReal) := add_le_add_left (not_lt.mp hc) _
  have h2 := le_trans h1 hg
  rw [← EReal.coe_add, EReal.coe_le_coe_iff] at h2
  linarith

/-- A threshold at most the `k`-th value and within the gap of it selects exactly the selected places. -/
theorem Listed.sel_iff (h : Listed k x σ v ε) (t : ℝ) (ht : t ≤ v) (hg : v < t + ε) (i : Fin N) : Sel k σ i ↔ (t : EReal) ≤ x i :=
  ⟨fun hi => le_trans (EReal.coe_le_coe_iff.mpr ht) (h.le_of_sel hi), fun hi => by
    by_contra hc
    exact absurd hi (not_le.mpr (h.lt_of_not hc t hg))⟩

open Classical in
/-- Exactly `k` places are selected. -/
theorem Listed.card_sel (h : Listed k x σ v ε) : (univ.filter fun i => Sel k σ i).card = k := by
  have he : (univ.filter fun i : Fin N => Sel k σ i) = (univ.filter fun j : Fin N => j.val < k).image σ := by
    ext i
    simp only [mem_filter, mem_univ, true_and, mem_image]
    rfl
  rw [he, card_image_of_injective _ h.inj]
  have h2 : (univ.filter fun j : Fin N => j.val < k) = univ.filter fun j : Fin N => j < ⟨k, h.lt⟩ := by
    ext j; simp [Fin.lt_def]
  rw [h2, show (univ.filter fun j : Fin N => j < ⟨k, h.lt⟩) = Finset.Iio ⟨k, h.lt⟩ by ext j; simp, Fin.card_Iio]

/-- At least `k` entries reach a threshold exactly when it is at most the `k`-th value. -/
theorem Listed.cnt_iff (h : Listed k x σ v ε) (t : ℝ) : k ≤ cnt x (t : EReal) ↔ t ≤ v := by
  classical
  constructor
  · intro hk
    by_contra hc
    have hlt : v < t := not_le.mp hc
    have hin : (⟨k - 1, by have := h.lt; omega⟩ : Fin N).val < k := by have := h.pos; show k - 1 < k; omega
    have hsub : (univ.filter fun i => (t : EReal) ≤ x i) ⊆ (univ.filter fun i => Sel k σ i).erase (σ ⟨k - 1, by have := h.lt; omega⟩) := by
      intro i hi
      simp only [mem_filter, mem_univ, true_and, mem_erase] at hi ⊢
      constructor
      · rintro rfl
        rw [h.kth, EReal.coe_le_coe_iff] at hi
        exact absurd hi hc
      · by_contra hn
        have := h.lt_of_not hn t (by linarith [h.gap_pos])
        exact absurd hi (not_le.mpr this)
    have := card_le_card hsub
    rw [card_erase_of_mem (by simp only [mem_filter, mem_univ, true_and]; exact ⟨_, hin, rfl⟩), h.card_sel] at this
    have hp := h.pos
    unfold cnt at hk
    omega
  · intro hv
    have hsub : (univ.filter fun i => Sel k σ i) ⊆ (univ.filter fun i => (t : EReal) ≤ x i) := by
      intro i hi
      simp only [mem_filter, mem_univ, true_and] at hi ⊢
      exact le_trans (EReal.coe_le_coe_iff.mpr hv) (h.le_of_sel hi)
    have := card_le_card hsub
    rw [h.card_sel] at this
    exact this

/-- The bisection's threshold selects exactly the selected places, when the interval shrinks below the gap. -/
theorem Listed.threshold (h : Listed k x σ v ε) (c : EReal → ℕ) (hc : ∀ t : ℝ, k ≤ c (t : EReal) ↔ k ≤ cnt x (t : EReal)) (lo hi : ℝ) (hlo : lo ≤ v) (hhi : v < hi) (n : ℕ) (hn : (hi - lo) / 2 ^ n ≤ ε) :
    ∃ t : ℝ, ((halve k c)^[n] ((lo : EReal), (hi : EReal))).1 = (t : EReal) ∧ ∀ i, Sel k σ i ↔ (t : EReal) ≤ x i := by
  obtain ⟨a, b, he, ha, hb, hd⟩ := halve_iterate k c v (fun t => (hc t).trans (h.cnt_iff t)) lo hi hlo hhi n
  exact ⟨a, by rw [he], fun i => h.sel_iff a ha (by linarith) i⟩

/-- The mask: the entries above the threshold, and of those at it as many as are still wanted, the first ones first. When
    exactly `k` entries reach the threshold these are all of them. -/
theorem mask_iff (t : EReal) (hk : cnt x t = k) (i : Fin N) :
    (t < x i ∨ (x i = t ∧ (univ.filter fun j => x j = t ∧ j ≤ i).card + (univ.filter fun j => t < x j).card ≤ k)) ↔ t ≤ x i := by
  constructor
  · rintro (h | ⟨h, _⟩)
    · exact h.le
    · exact h.ge
  · intro h
    rcases lt_or_eq_of_le h with h1 | h1
    · exact Or.inl h1
    · refine Or.inr ⟨h1.symm, ?_⟩
      rw [← hk]
      unfold cnt
      rw [← card_union_of_disjoint]
      · refine card_le_card fun j hj => ?_
        simp only [mem_union, mem_filter, mem_univ, true_and] at hj ⊢
        rcases hj with ⟨hj, _⟩ | hj
        · exact hj.ge
        · exact hj.le
      · rw [disjoint_left]
        intro j hj hj'
        simp only [mem_filter, mem_univ, true_and] at hj hj'
        exact absurd hj.1 hj'.ne'

/-- A place's rank among the places that have the property. -/
def rnk (P : Fin N → Prop) [DecidablePred P] (p : Fin N) : ℕ := (univ.filter fun q : Fin N => P q ∧ q < p).card

/-- A rank is at most the number of places. -/
theorem rnk_le (P : Fin N → Prop) [DecidablePred P] (p : Fin N) : rnk P p ≤ N := by
  refine (card_le_univ _).trans ?_
  simp

/-- The count up to a place that has the property, itself included, is its rank plus one. -/
theorem rnk_succ (P : Fin N → Prop) [DecidablePred P] (p : Fin N) (hp : P p) :
    (univ.filter fun q : Fin N => P q ∧ q ≤ p).card = rnk P p + 1 := by
  have : (univ.filter fun q : Fin N => P q ∧ q ≤ p) = insert p (univ.filter fun q : Fin N => P q ∧ q < p) := by
    ext q
    simp only [mem_filter, mem_univ, true_and, mem_insert]
    constructor
    · rintro ⟨h, hl⟩
      rcases lt_or_eq_of_le hl with h1 | h1
      · exact Or.inr ⟨h, h1⟩
      · exact Or.inl h1
    · rintro (rfl | ⟨h, hl⟩)
      · exact ⟨hp, le_rfl⟩
      · exact ⟨h, hl.le⟩
  rw [this, card_insert_of_notMem (by simp)]
  rfl

/-- Ranks grow from a place that has the property to any later one. -/
theorem rnk_lt (P : Fin N → Prop) [DecidablePred P] (p q : Fin N) (hp : P p) (h : p < q) : rnk P p < rnk P q := by
  have : rnk P p + 1 ≤ rnk P q := by
    rw [← rnk_succ P p hp]
    refine card_le_card fun x hx => ?_
    simp only [mem_filter, mem_univ, true_and] at hx ⊢
    exact ⟨hx.1, lt_of_le_of_lt hx.2 h⟩
  omega

/-- Two places that have the property and one rank are the same place. -/
theorem rnk_inj (P : Fin N → Prop) [DecidablePred P] (p q : Fin N) (hp : P p) (hq : P q) (h : rnk P p = rnk P q) : p = q := by
  rcases lt_trichotomy p q with h1 | h1 | h1
  · exact absurd h (rnk_lt P p q hp h1).ne
  · exact h1
  · exact absurd h (rnk_lt P q p hq h1).ne'

/-- In an increasing list of the places that have the property, the rank of an entry is its number. -/
theorem rnk_listing (P : Fin N → Prop) [DecidablePred P] (f : Fin k → Fin N) (hf : StrictMono f) (hP : ∀ i, P i ↔ ∃ j, f j = i) (j : Fin k) :
    rnk P (f j) = j.val := by
  unfold rnk
  have he : (univ.filter fun q : Fin N => P q ∧ q < f j) = (univ.filter fun i : Fin k => i < j).image f := by
    ext q
    simp only [mem_filter, mem_univ, true_and, mem_image]
    constructor
    · rintro ⟨hq, hl⟩
      obtain ⟨i, rfl⟩ := (hP q).mp hq
      exact ⟨i, hf.lt_iff_lt.mp hl, rfl⟩
    · rintro ⟨i, hi, rfl⟩
      exact ⟨(hP _).mpr ⟨i, rfl⟩, hf hi⟩
  rw [he, card_image_of_injective _ hf.injective, show (univ.filter fun i : Fin k => i < j) = Finset.Iio j by ext i; simp, Fin.card_Iio]

end Cert.Proof.Select
-- ==== Proof.SelRef.lean ====
/- The reference's selection: the indices of the largest entries, sorted, are the selected places in order. -/
module

public import proofs.«01_k».proof.Proof.Gath
public import proofs.«01_k».proof.Proof.Greedy
public import proofs.«01_k».proof.Proof.Select
public import Mathlib.Data.EReal.Operations
public import Idealize.ShloMosaic.Lib.Pointwise
public import Idealize.ShloMosaic.Lib.WordCmp

@[expose] public section

set_option maxRecDepth 16384

noncomputable section

namespace Cert.Proof.SelRef

open Cert.Proof.Gath Cert.Proof.Select
open Idealize.ShloMosaic Idealize.ShloMosaic.WordCmp

variable {N K : ℕ}

/-- A row's places from its largest entry down, equal entries in order of place. -/
def listing (x : Fin N → EReal) : Fin N → Fin N :=
  sortedFrom fun k k' => FloatOps.cmpfTotal (F := Ideal) (φ := .f32) .gt (x k) (x k') == 1#1

/-- The entries go down along the listing. -/
theorem listing_down (x : Fin N → EReal) (i j : Fin N) (h : i < j) : x (listing x j) ≤ x (listing x i) := by
  have hb : ∀ k k', (FloatOps.cmpfTotal (F := Ideal) (φ := .f32) .gt (x k) (x k') == 1#1) = decide (-(x k) < -(x k')) := fun k k' => by
    have : FloatOps.cmpfTotal (F := Ideal) (φ := .f32) .gt (x k) (x k') = BitVec.ofBool (decide (x k' < x k)) := rfl
    rw [this, beq_ofBool]
    exact decide_eq_decide.mpr EReal.neg_lt_neg_iff.symm
  rcases Greedy.sortedFrom_order (fun k => -(x k)) _ hb i j h with h1 | h1
  · exact (EReal.neg_lt_neg_iff.mp h1).le
  · exact (neg_injective h1.1).ge

/-- The listing lists no place twice. -/
theorem listing_inj (x : Fin N → EReal) : Function.Injective (listing x) := sortedFrom_injective _

/-- Cutting the rows to their first `K` places. -/
theorem cut_at {α : Type} (z : (⟨2, ![2, N]⟩ : Shape).Idx → α) (hs : (⟨2, ![2, N]⟩ : Shape).Slices (fun _ => 0) ⟨2, ![2, K]⟩) (hK : K ≤ N) (b : Fin 2) (p : Fin K) :
    extractStridedSlice ⟨2, ![2, K]⟩ (fun _ => 0) z hs (ix2 b p) = z (ix2 b ⟨p.val, by omega⟩) := by
  pointwise []
  refine congrArg _ ?_
  funext a
  match a with
  | ⟨0, _⟩ => rfl
  | ⟨1, _⟩ => rfl

/-- The first values of a top-`K`. -/
theorem topVal_at (X : FVec Ideal ⟨2, ![2, N]⟩ .f32) (hs : (⟨2, ![2, N]⟩ : Shape).Slices (fun _ => 0) ⟨2, ![2, K]⟩) (hK : K ≤ N) (b : Fin 2) (p : Fin K) :
    (Host.topK ⟨2, ![2, K]⟩ 1 (FloatOps.cmpfTotal (F := Ideal) (φ := .f32) .gt) X hs).1 (ix2 b p)
      = X (ix2 b (listing (fun i => X (ix2 b i)) ⟨p.val, by omega⟩)) := by
  have h0 : (Host.topK ⟨2, ![2, K]⟩ 1 (FloatOps.cmpfTotal (F := Ideal) (φ := .f32) .gt) X hs).1 (ix2 b p)
      = X (Shape.Idx.along (s := ⟨2, ![2, N]⟩) (ix2 b ⟨p.val, by omega⟩) (1 : Fin 2) (sortedFrom (n := N) (fun k k' =>
          FloatOps.cmpfTotal (F := Ideal) (φ := .f32) .gt (X (Shape.Idx.along (s := ⟨2, ![2, N]⟩) (ix2 b ⟨p.val, by omega⟩) (1 : Fin 2) k))
            (X (Shape.Idx.along (s := ⟨2, ![2, N]⟩) (ix2 b ⟨p.val, by omega⟩) (1 : Fin 2) k')) == 1#1) ⟨p.val, by omega⟩)) := by
    unfold Host.topK
    dsimp only
    generalize hz : (Host.sort2 ⟨2, ![2, N]⟩ 1 (fun l r : EReal × BitVec 32 => FloatOps.cmpfTotal (F := Ideal) (φ := .f32) .gt l.1 r.1) X _) = Z
    rw [cut_at Z.1 hs hK, ← hz]
    rfl
  simp only [along_pair] at h0
  exact h0

/-- The first indices of a top-`K`. -/
theorem topIdx_at (X : FVec Ideal ⟨2, ![2, N]⟩ .f32) (hs : (⟨2, ![2, N]⟩ : Shape).Slices (fun _ => 0) ⟨2, ![2, K]⟩) (hK : K ≤ N) (b : Fin 2) (p : Fin K) :
    (Host.topK ⟨2, ![2, K]⟩ 1 (FloatOps.cmpfTotal (F := Ideal) (φ := .f32) .gt) X hs).2 (ix2 b p)
      = BitVec.ofNat 32 (listing (fun i => X (ix2 b i)) ⟨p.val, by omega⟩).val := by
  unfold Host.topK
  dsimp only
  generalize hi : (fun i : (⟨2, ![2, N]⟩ : Shape).Idx => if hd : 1 < (⟨2, ![2, N]⟩ : Shape).rank then iotaInDim ⟨2, ![2, N]⟩ 32 ⟨1, hd⟩ i else 0#32) = I
  have hI : ∀ q : Fin N, I (ix2 b q) = BitVec.ofNat 32 q.val := fun q => by rw [← hi]; rfl
  generalize hz : (Host.sort2 ⟨2, ![2, N]⟩ 1 (fun l r : EReal × BitVec 32 => FloatOps.cmpfTotal (F := Ideal) (φ := .f32) .gt l.1 r.1) X I) = Z
  rw [cut_at Z.2 hs hK, ← hz, sort2_at, hI]
  rfl

/-- The order in which the listed places are sorted. -/
def perm (w : Fin K → BitVec 32) : Fin K → Fin K := sortedFrom fun k k' => IntOp.cmpi .slt (w k) (w k') == 1#1

/-- A sort of a row of words. -/
theorem sort_at (y : IVec ⟨2, ![2, K]⟩ 32) (b : Fin 2) (j : Fin K) :
    Host.sort ⟨2, ![2, K]⟩ 1 (fun l r => IntOp.cmpi .slt l r) y (ix2 b j) = y (ix2 b (perm (fun p => y (ix2 b p)) j)) := by
  have h : Host.sort ⟨2, ![2, K]⟩ 1 (fun l r => IntOp.cmpi .slt l r) y (ix2 b j)
      = y (Shape.Idx.along (s := ⟨2, ![2, K]⟩) (ix2 b j) (1 : Fin 2) (sortedFrom (n := K) (fun k k' =>
          IntOp.cmpi .slt (y (Shape.Idx.along (s := ⟨2, ![2, K]⟩) (ix2 b j) (1 : Fin 2) k))
            (y (Shape.Idx.along (s := ⟨2, ![2, K]⟩) (ix2 b j) (1 : Fin 2) k')) == 1#1) j)) := rfl
  simp only [along_pair] at h
  exact h

/-- Sorting the words of distinct places puts the places in order. -/
theorem perm_mono (hN : N < 2 ^ 31) (g : Fin K → Fin N) (hg : Function.Injective g) : StrictMono fun j => g (perm (fun p => BitVec.ofNat 32 (g p).val) j) := by
  intro i j hij
  have hb : ∀ k k', (IntOp.cmpi .slt (BitVec.ofNat 32 (g k).val) (BitVec.ofNat 32 (g k').val) == 1#1)
      = decide ((((g k).val : ℝ) : EReal) < (((g k').val : ℝ) : EReal)) := fun k k' => by
    have h1 := (g k).isLt
    have h2 := (g k').isLt
    show (BitVec.ofBool ((BitVec.ofNat 32 (g k).val).slt (BitVec.ofNat 32 (g k').val)) == 1#1) = _
    rw [beq_ofBool, BitVec.slt_eq_decide, toInt_ofNat_of_lt (a := (g k).val) (by omega), toInt_ofNat_of_lt (a := (g k').val) (by omega)]
    exact decide_eq_decide.mpr (by rw [EReal.coe_lt_coe_iff, Nat.cast_lt, Nat.cast_lt])
  rcases Greedy.sortedFrom_order (fun k => (((g k).val : ℝ) : EReal)) _ hb i j hij with h1 | h1
  · rw [EReal.coe_lt_coe_iff, Nat.cast_lt] at h1
    exact h1
  · have h2 := h1.1
    rw [EReal.coe_eq_coe_iff, Nat.cast_inj] at h2
    have h3 := hg (Fin.ext h2)
    exact absurd (sortedFrom_injective _ h3) hij.ne

/-- Sorting covers every listed place. -/
theorem perm_surj (w : Fin K → BitVec 32) : Function.Surjective (perm w) := Finite.injective_iff_surjective.mp (sortedFrom_injective _)

/-- The reference's row: the selected places in increasing order. -/
theorem ref_at (X : FVec Ideal ⟨2, ![2, N]⟩ .f32) (hs : (⟨2, ![2, N]⟩ : Shape).Slices (fun _ => 0) ⟨2, ![2, K]⟩) (hK : K ≤ N) (hN : N < 2 ^ 31) (b : Fin 2) :
    ∃ f : Fin K → Fin N, StrictMono f ∧ (∀ i, Sel K (listing fun i => X (ix2 b i)) i ↔ ∃ j, f j = i)
      ∧ ∀ j, Host.sort ⟨2, ![2, K]⟩ 1 (fun l r => IntOp.cmpi .slt l r) (Host.topK ⟨2, ![2, K]⟩ 1 (FloatOps.cmpfTotal (F := Ideal) (φ := .f32) .gt) X hs).2 (ix2 b j)
          = BitVec.ofNat 32 (f j).val := by
  have hg : Function.Injective fun p : Fin K => listing (fun i => X (ix2 b i)) ⟨p.val, by omega⟩ := fun p q h => by
    have := listing_inj _ h
    exact Fin.ext (Fin.mk.inj_iff.mp this)
  refine ⟨_, perm_mono hN _ hg, fun i => ?_, fun j => ?_⟩
  · constructor
    · rintro ⟨p, hp, rfl⟩
      obtain ⟨j, hj⟩ := perm_surj (fun p : Fin K => BitVec.ofNat 32 (listing (fun i => X (ix2 b i)) ⟨p.val, by omega⟩).val) ⟨p.val, hp⟩
      exact ⟨j, by show listing _ ⟨(perm _ j).val, _⟩ = _; rw [hj]⟩
    · rintro ⟨j, rfl⟩
      exact ⟨_, (perm _ j).isLt, rfl⟩
  · rw [sort_at, topIdx_at X hs hK]
    simp only [topIdx_at X hs hK]

end Cert.Proof.SelRef
-- ==== Proof.Order.lean ====
/- Two listings of the same places, alike in how they order equal entries, lead to the same rows. -/
module

public import proofs.«01_k».proof.Proof.Greedy
public import proofs.«01_k».proof.Proof.CandFacts
public import proofs.«01_k».proof.Proof.SelRef

@[expose] public section

noncomputable section

namespace Cert.Proof.Order

open Cert.Proof.Greedy Cert.Proof.Cand
open Idealize.ShloMosaic

/-- A listing of the places `S`, equal entries in order of place. -/
structure Good {N K : ℕ} (x : Fin N → EReal) (S : Fin N → Prop) (g : Fin K → Fin N) : Prop where
  /-- No place is listed twice. -/
  inj : Function.Injective g
  /-- The listed places are these. -/
  mem : ∀ i, S i ↔ ∃ k, g k = i
  /-- Equal entries come in order of place. -/
  ties : ∀ i j, i < j → x (g i) = x (g j) → g i < g j

/-- A renumbering of the first `n` numbers that keeps the order of those with equal scores. -/
structure Renum (n : ℕ) (o : ℕ → EReal) (π : ℕ → ℕ) : Prop where
  /-- No number is taken twice. -/
  inj : Function.Injective π
  /-- Every number is taken. -/
  surj : Function.Surjective π
  /-- The first `n` numbers stay among themselves. -/
  lt : ∀ k, π k < n ↔ k < n
  /-- Equal scores keep their order. -/
  ord : ∀ a b, a < n → b < n → o (π a) = o (π b) → (a < b ↔ π a < π b)

section Move
variable {n : ℕ} {o : ℕ → EReal} {π : ℕ → ℕ}

/-- Coming before is kept. -/
theorem Renum.bef (h : Renum n o π) {a b : ℕ} (ha : a < n) (hb : b < n) : bef (fun k => o (π k)) a b ↔ bef o (π a) (π b) :=
  or_congr_right (and_congr_right fun e => h.ord a b ha hb e)

/-- A kept set, renumbered. -/
theorem Renum.kept (h : Renum n o π) {v : ℕ → Prop} {R : ℕ → ℕ → Prop} {K : ℕ → Prop} (hv : ∀ k, v k → k < n) (hK : Kept o v R K) :
    Kept (fun k => o (π k)) (fun k => v (π k)) (fun a b => R (π a) (π b)) (fun k => K (π k)) := by
  intro k
  show K (π k) ↔ v (π k) ∧ _
  rw [hK (π k)]
  refine and_congr_right fun hk => ?_
  have hkn := (h.lt k).mp (hv _ hk)
  constructor
  · intro q k' hk' hb
    exact q _ hk' ((h.bef ((h.lt k').mp (hv _ ((hK _).mp hk').1)) hkn).mp hb)
  · intro q k' hk' hb
    obtain ⟨a, rfl⟩ := h.surj k'
    exact q a hk' ((h.bef ((h.lt a).mp (hv _ ((hK _).mp hk').1)) hkn).mpr hb)

/-- A candidate's rank, renumbered. -/
theorem Renum.rank (h : Renum n o π) (K : ℕ → Prop) {k : ℕ} (hk : k < n) :
    rank n (fun k => o (π k)) (fun k => K (π k)) k = rank n o K (π k) := by
  classical
  unfold Greedy.rank
  rw [← Finset.card_image_of_injective _ h.inj]
  refine congrArg Finset.card (Finset.ext fun a => ?_)
  simp only [Finset.mem_image, Finset.mem_filter, Finset.mem_range]
  constructor
  · rintro ⟨c, ⟨hc, hK, hb⟩, rfl⟩
    exact ⟨(h.lt c).mpr hc, hK, (h.bef hc hk).mp hb⟩
  · rintro ⟨ha, hK, hb⟩
    obtain ⟨c, rfl⟩ := h.surj a
    exact ⟨c, ⟨(h.lt c).mp ha, hK, (h.bef ((h.lt c).mp ha) hk).mpr hb⟩, rfl⟩

/-- Rows, renumbered. -/
theorem Renum.rows (h : Renum n o π) {β : Type} {L : ℕ} {K : ℕ → Prop} (hn : ∀ k, K k → k < n) {box : ℕ → β} {z : β} {out : ℕ → β} (hK : IsRows n L o K box z out) :
    IsRows n L (fun k => o (π k)) (fun k => K (π k)) (fun k => box (π k)) z out := by
  constructor
  · intro k hk hr
    rw [h.rank K ((h.lt k).mp (hn _ hk))] at hr ⊢
    exact hK.1 _ hk hr
  · intro r hr hno
    refine hK.2 r hr fun k hk => ?_
    obtain ⟨a, rfl⟩ := h.surj k
    rw [← h.rank K ((h.lt a).mp (hn _ hk))]
    exact hno a hk

end Move

/-- Two listings of the same places differ by a renumbering. -/
theorem Good.renum {N K : ℕ} {x : Fin N → EReal} {S : Fin N → Prop} {g g' : Fin K → Fin N} (h : Good x S g) (h' : Good x S g') :
    ∃ e : Fin K → Fin K, Function.Bijective e ∧ (∀ k, g' k = g (e k)) ∧ ∀ a b, x (g (e a)) = x (g (e b)) → (a < b ↔ e a < e b) := by
  have hex : ∀ k, ∃ j, g j = g' k := fun k => (h.mem _).mp ((h'.mem _).mpr ⟨k, rfl⟩)
  choose e he using hex
  have hi : Function.Injective e := fun a b hab => h'.inj (by rw [← he a, ← he b, hab])
  have half : ∀ a b, x (g (e a)) = x (g (e b)) → a < b → e a < e b := fun a b hx hab => by
    have h1 := h'.ties a b hab (by rw [← he a, ← he b]; exact hx)
    rcases lt_trichotomy (e a) (e b) with h2 | h2 | h2
    · exact h2
    · exact absurd (hi h2) hab.ne
    · have h3 := h.ties _ _ h2 hx.symm
      rw [he, he] at h3
      exact absurd h3 (not_lt.mpr h1.le)
  refine ⟨e, Finite.injective_iff_bijective.mp hi, fun k => (he k).symm, fun a b hx => ⟨half a b hx, fun hlt => ?_⟩⟩
  rcases lt_trichotomy a b with h2 | h2 | h2
  · exact h2
  · rw [h2] at hlt; exact absurd hlt (lt_irrefl _)
  · exact absurd hlt (not_lt.mpr (half b a hx.symm h2).le)

/-- Two listings one after the other, the second one's places moved behind the first one's. -/
theorem Good.append {N N1 N2 K K1 : ℕ} (hN : N1 + N2 = N) {x : Fin N → EReal} {S1 : Fin N1 → Prop} {S2 : Fin N2 → Prop} {g1 : Fin K1 → Fin N1} {g2 : Fin K1 → Fin N2} {g : Fin K → Fin N}
    (hK : K1 + K1 = K) (h1 : Good (fun i => x ⟨i.val, by omega⟩) S1 g1) (h2 : Good (fun i => x ⟨N1 + i.val, by omega⟩) S2 g2)
    (e1 : ∀ k : Fin K1, (g ⟨k.val, by omega⟩).val = (g1 k).val) (e2 : ∀ k : Fin K1, (g ⟨K1 + k.val, by omega⟩).val = N1 + (g2 k).val) :
    Good x (fun i => (∃ h : i.val < N1, S1 ⟨i.val, h⟩) ∨ ∃ h : N1 ≤ i.val, S2 ⟨i.val - N1, by omega⟩) g := by
  have cases : ∀ k : Fin K, (∃ a : Fin K1, k = ⟨a.val, by omega⟩) ∨ ∃ a : Fin K1, k = ⟨K1 + a.val, by omega⟩ := fun k => by
    by_cases hk : k.val < K1
    · exact Or.inl ⟨⟨k.val, hk⟩, rfl⟩
    · exact Or.inr ⟨⟨k.val - K1, by omega⟩, Fin.ext (by show k.val = K1 + (k.val - K1); omega)⟩
  have f1 : ∀ k : Fin K1, g ⟨k.val, by omega⟩ = ⟨(g1 k).val, by omega⟩ := fun k => Fin.ext (e1 k)
  have f2 : ∀ k : Fin K1, g ⟨K1 + k.val, by omega⟩ = ⟨N1 + (g2 k).val, by omega⟩ := fun k => Fin.ext (e2 k)
  refine ⟨fun i j hij => ?_, fun i => ?_, fun i j hij hx => ?_⟩
  · rcases cases i with ⟨a, rfl⟩ | ⟨a, rfl⟩ <;> rcases cases j with ⟨c, rfl⟩ | ⟨c, rfl⟩
    · rw [f1, f1, Fin.mk.injEq] at hij
      have h3 : a = c := h1.inj (Fin.ext hij)
      rw [h3]
    · rw [f1, f2, Fin.mk.injEq] at hij
      omega
    · rw [f2, f1, Fin.mk.injEq] at hij
      omega
    · rw [f2, f2, Fin.mk.injEq] at hij
      have h3 : a = c := h2.inj (Fin.ext (by omega))
      rw [h3]
  · constructor
    · rintro (⟨h, hS⟩ | ⟨h, hS⟩)
      · obtain ⟨a, ha⟩ := (h1.mem _).mp hS
        exact ⟨_, (f1 a).trans (Fin.ext (show (g1 a).val = i.val from congrArg Fin.val ha))⟩
      · obtain ⟨a, ha⟩ := (h2.mem _).mp hS
        exact ⟨_, (f2 a).trans (Fin.ext (by have := congrArg Fin.val ha; show N1 + (g2 a).val = i.val; dsimp only at this; omega))⟩
    · rintro ⟨k, rfl⟩
      rcases cases k with ⟨a, rfl⟩ | ⟨a, rfl⟩
      · rw [f1]
        exact Or.inl ⟨(g1 a).isLt, (h1.mem _).mpr ⟨a, rfl⟩⟩
      · rw [f2]
        exact Or.inr ⟨Nat.le_add_right _ _, (h2.mem _).mpr ⟨a, Fin.ext (by show (g2 a).val = N1 + (g2 a).val - N1; omega)⟩⟩
  · rcases cases i with ⟨a, rfl⟩ | ⟨a, rfl⟩ <;> rcases cases j with ⟨c, rfl⟩ | ⟨c, rfl⟩
    · rw [f1, f1] at hx ⊢
      exact h1.ties a c hij hx
    · rw [f1, f2]
      exact Fin.lt_def.mpr (by show (g1 a).val < N1 + (g2 c).val; omega)
    · have := Fin.lt_def.mp hij
      dsimp only at this
      omega
    · rw [f2, f2] at hx ⊢
      have h3 := h2.ties a c (Fin.lt_def.mpr (by have := Fin.lt_def.mp hij; dsimp only at this; omega)) hx
      exact Fin.lt_def.mpr (by have := Fin.lt_def.mp h3; show N1 + (g2 a).val < N1 + (g2 c).val; omega)

/-- A table of words that lists the places `S`. -/
def Lists (x : Fin 200000 → EReal) (S : Fin 200000 → Prop) (w : Fin 2000 → BitVec 32) : Prop :=
  ∃ g : Fin 2000 → Fin 200000, Good x S g ∧ ∀ k, w k = BitVec.ofNat 32 (g k).val

/-- A listed word is a place. -/
theorem Lists.lt {x : Fin 200000 → EReal} {S : Fin 200000 → Prop} {w : Fin 2000 → BitVec 32} (h : Lists x S w) (k : Fin 2000) : (w k).toNat < 200000 := by
  obtain ⟨g, hg, hw⟩ := h
  rw [hw, BitVec.toNat_ofNat]
  have := (g k).isLt
  omega

/-- The row that a candidate of a list of words names. -/
theorem tix_eq (T : IVec ⟨2, ![2, 2000]⟩ 32) (b : Fin 2) (g : Fin 2000 → Fin 200000) (hw : ∀ k, T (ix2 b k) = BitVec.ofNat 32 (g k).val) (k : ℕ) (hk : k < 2000) :
    tix T b k = g ⟨k, hk⟩ := by
  unfold tix
  rw [dif_pos hk]
  refine Fin.ext ?_
  show (T (ix2 b ⟨k, hk⟩)).toNat % 200000 = _
  rw [hw, BitVec.toNat_ofNat]
  have := (g ⟨k, hk⟩).isLt
  omega

/-- A listed candidate's place is one of the listed ones. -/
theorem Lists.mem {x : Fin 200000 → EReal} {S : Fin 200000 → Prop} {T : IVec ⟨2, ![2, 2000]⟩ 32} {b : Fin 2} (h : Lists x S fun k => T (ix2 b k)) (k : ℕ) (hk : k < 2000) : S (tix T b k) := by
  obtain ⟨g, hg, hw⟩ := h
  rw [tix_eq T b g hw k hk]
  exact (hg.mem _).mpr ⟨_, rfl⟩

/-- Two lists of the same places: a renumbering of the one's candidates gives the other's. -/
theorem renum {x0 : (⟨2, ![2, 200000]⟩ : Shape).Idx → EReal} {S : Fin 200000 → Prop} {T T' : IVec ⟨2, ![2, 2000]⟩ 32} {b : Fin 2}
    (h : Lists (fun i => x0 (ix2 b i)) S fun k => T (ix2 b k)) (h' : Lists (fun i => x0 (ix2 b i)) S fun k => T' (ix2 b k)) :
    ∃ π, Renum 2000 (ob x0 T b) π ∧ ∀ k, tix T' b k = tix T b (π k) := by
  obtain ⟨g, hg, hw⟩ := h
  obtain ⟨g', hg', hw'⟩ := h'
  obtain ⟨e, he, hee, ho⟩ := hg.renum hg'
  let π : ℕ → ℕ := fun k => if hk : k < 2000 then (e ⟨k, hk⟩).val else k
  have p1 : ∀ k (hk : k < 2000), π k = (e ⟨k, hk⟩).val := fun k hk => dif_pos hk
  have p2 : ∀ k, ¬ k < 2000 → π k = k := fun k hk => dif_neg hk
  have lt : ∀ k, π k < 2000 ↔ k < 2000 := fun k => by
    by_cases hk : k < 2000
    · rw [p1 k hk]; exact ⟨fun _ => hk, fun _ => (e _).isLt⟩
    · rw [p2 k hk]
  have hob : ∀ k (hk : k < 2000), ob x0 T b (π k) = x0 (ix2 b (g (e ⟨k, hk⟩))) := fun k hk => by
    unfold ob
    rw [if_pos ((lt k).mpr hk), tix_eq T b g hw _ ((lt k).mpr hk)]
    congr 3
    exact Fin.ext (p1 k hk)
  refine ⟨π, ⟨fun a c hac => ?_, fun k => ?_, lt, fun a c ha hc hx => ?_⟩, fun k => ?_⟩
  · by_cases ha : a < 2000
    · have hc : c < 2000 := (lt c).mp (hac ▸ (lt a).mpr ha)
      rw [p1 a ha, p1 c hc] at hac
      exact Fin.mk.inj_iff.mp (he.1 (Fin.ext hac))
    · have hc : ¬ c < 2000 := fun hc => ha ((lt a).mp (hac ▸ (lt c).mpr hc))
      rwa [p2 a ha, p2 c hc] at hac
  · by_cases hk : k < 2000
    · obtain ⟨a, ha⟩ := he.2 ⟨k, hk⟩
      exact ⟨a.val, (p1 _ a.isLt).trans (congrArg Fin.val ha)⟩
    · exact ⟨k, p2 k hk⟩
  · rw [hob a ha, hob c hc] at hx
    rw [p1 a ha, p1 c hc]
    exact (ho ⟨a, ha⟩ ⟨c, hc⟩ hx)
  · by_cases hk : k < 2000
    · rw [tix_eq T' b g' hw' k hk, tix_eq T b g hw _ ((lt k).mpr hk), hee]
      congr 1
      exact Fin.ext (p1 k hk).symm
    · rw [p2 k hk]
      unfold tix
      rw [dif_neg hk, dif_neg hk]

/-- Two results, each a table of its list's kept candidates, are the same when the lists are of the same places. -/
theorem rows_same {x0 : (⟨2, ![2, 200000]⟩ : Shape).Idx → EReal} {x1 : (⟨3, ![2, 200000, 4]⟩ : Shape).Idx → EReal} {x2 : (⟨2, ![200000, 4]⟩ : Shape).Idx → EReal}
    {T T' : IVec ⟨2, ![2, 2000]⟩ 32} {f g : (⟨3, ![2, 1000, 4]⟩ : Shape).Idx → EReal} (S : Fin 2 → Fin 200000 → Prop)
    (hT : ∀ b, Lists (fun i => x0 (ix2 b i)) (S b) fun k => T (ix2 b k)) (hT' : ∀ b, Lists (fun i => x0 (ix2 b i)) (S b) fun k => T' (ix2 b k))
    (hf : ∀ b j, ∃ K : ℕ → Prop, Kept (ob x0 T' b) (vk x0 x1 x2 T' b) (rk x1 x2 T' b) K
      ∧ IsRows 2000 1000 (ob x0 T' b) K (fun k => bxk x1 x2 T' b k j) 0 (fun r => if h : r < 1000 then f (ix3 b ⟨r, h⟩ j) else 0))
    (hg : ∀ b j, ∃ K : ℕ → Prop, Kept (ob x0 T b) (vk x0 x1 x2 T b) (rk x1 x2 T b) K
      ∧ IsRows 2000 1000 (ob x0 T b) K (fun k => bxk x1 x2 T b k j) 0 (fun r => if h : r < 1000 then g (ix3 b ⟨r, h⟩ j) else 0)) : f = g := by
  funext i
  have hi : i = ix3 (i 0) (i 1) (i 2) := by
    funext a
    match a with
    | ⟨0, _⟩ => rfl
    | ⟨1, _⟩ => rfl
    | ⟨2, _⟩ => rfl
  rw [hi]
  generalize hb : i 0 = b
  generalize hr : i 1 = r
  generalize hj : i 2 = j
  obtain ⟨K, hK, h1⟩ := hf b j
  obtain ⟨K', hK', h2⟩ := hg b j
  obtain ⟨π, hπ, ht⟩ := renum (hT b) (hT' b)
  have q0 : ob x0 T' b = fun k => ob x0 T b (π k) := by
    funext k
    unfold ob
    simp only [hπ.lt k, ht]
  have qd : ∀ k, dl x1 T' b k = dl x1 T b (π k) := fun k => by
    funext l
    unfold dl
    simp only [hπ.lt k, ht]
  have qa : ∀ k, an x2 T' b k = an x2 T b (π k) := fun k => by
    funext l
    unfold an
    simp only [hπ.lt k, ht]
  have qo : ∀ k, ofk T' b k = ofk T b (π k) := fun k => by
    unfold ofk lv
    simp only [hπ.lt k, ht]
  have qb : ∀ k, bxk x1 x2 T' b k = bxk x1 x2 T b (π k) := fun k => by
    unfold bxk
    rw [qd, qa]
  have qv : vk x0 x1 x2 T' b = fun k => vk x0 x1 x2 T b (π k) := by
    funext k
    unfold vk
    rw [qb, q0]
  have qr : rk x1 x2 T' b = fun a c => rk x1 x2 T b (π a) (π c) := by
    funext a c
    unfold rk
    rw [qb, qb, qo, qo]
  have hlt := vk_lt x0 x1 x2 T b
  have hk2 := hπ.kept hlt hK'
  have hr2 := hπ.rows (fun k hk => hlt k ((hK' k).mp hk).1) h2
  rw [← q0, ← qv, ← qr] at hk2
  rw [← q0] at hr2
  obtain rfl := Kept.unique 2000 (fun k hk => vk_lt x0 x1 x2 T' b k hk) hK hk2
  have h3 := IsRows.unique h1 (by simpa only [qb] using hr2) r.val r.isLt
  exact (dif_pos r.isLt).symm.trans (h3.trans (dif_pos r.isLt))

end Cert.Proof.Order
-- ==== Proof.SelBody.lean ====
/- The bisection over a padded block: counting its entries, its greatest entry, and the threshold they lead to. -/
module

public import proofs.«01_k».proof.Proof.Select
public import Idealize.ShloMosaic.Lib.Pointwise
public import Idealize.ShloMosaic.Lib.WordCmp
public import Idealize.ShloMosaic.Lib.WordSum
public import Idealize.ShloMosaic.Lib.IdealHost
public import Idealize.ShloMosaic.PureOps.Ideal

@[expose] public section

set_option maxRecDepth 16384

noncomputable section

namespace Cert.Proof.SelBody

open Cert.Proof.Select
open Idealize.ShloMosaic Idealize.ShloMosaic.WordCmp

variable {N R : ℕ}

/-- A block of `R` rows of 128 that holds a row of `N` entries and then only padding. -/
structure Padded (x : Fin N → EReal) (w : (⟨3, ![1, R, 128]⟩ : Shape).Idx → EReal) (pad : EReal) : Prop where
  /-- The row fits. -/
  le : N ≤ R * 128
  /-- The row's entries, in order. -/
  hin : ∀ (i : Fin N) (r : Fin R) (l : Fin 128), r.val * 128 + l.val = i.val → w (ix3 0 r l) = x i
  /-- After them the padding. -/
  hout : ∀ (r : Fin R) (l : Fin 128), N ≤ r.val * 128 + l.val → w (ix3 0 r l) = pad

/-- How many entries of a block are at least `t`. -/
def cntB (w : (⟨3, ![1, R, 128]⟩ : Shape).Idx → EReal) (t : EReal) : ℕ := (Finset.univ.filter fun y => t ≤ w y).card

variable {x : Fin N → EReal} {w : (⟨3, ![1, R, 128]⟩ : Shape).Idx → EReal} {pad : EReal}

/-- An index of a block by its coordinates. -/
theorem eta3 (y : (⟨3, ![1, R, 128]⟩ : Shape).Idx) : ∃ (r : Fin R) (l : Fin 128), y = ix3 0 r l := by
  refine ⟨y 1, y 2, ?_⟩
  funext a
  match a with
  | ⟨0, _⟩ => exact Subsingleton.elim (α := Fin 1) _ _
  | ⟨1, _⟩ => rfl
  | ⟨2, _⟩ => rfl

/-- The row's entry at a place, read in the block. -/
theorem Padded.at_row (h : Padded x w pad) (i : Fin N) :
    w (ix3 0 ⟨i.val / 128, by have := h.le; omega⟩ ⟨i.val % 128, by omega⟩) = x i :=
  h.hin i _ _ (by show i.val / 128 * 128 + i.val % 128 = i.val; omega)

/-- The block counts at least what the row counts. -/
theorem Padded.cnt_le (h : Padded x w pad) (t : EReal) : cnt x t ≤ cntB w t := by
  have hl := h.le
  refine Finset.card_le_card_of_injOn (fun i : Fin N => ix3 0 ⟨i.val / 128, by omega⟩ ⟨i.val % 128, by omega⟩) (fun i hi => ?_) fun i _ j _ hij => ?_
  · simp only [Finset.coe_filter, Finset.mem_univ, true_and, Set.mem_setOf_eq] at hi ⊢
    rw [h.at_row]; exact hi
  · have h1 : i.val / 128 = j.val / 128 := congrArg Fin.val (congrFun hij (1 : Fin 3))
    have h2 : i.val % 128 = j.val % 128 := congrArg Fin.val (congrFun hij (2 : Fin 3))
    exact Fin.ext (by omega)

/-- Above the padding the block counts no more than the row. -/
theorem Padded.le_cnt (h : Padded x w pad) (t : EReal) (ht : pad < t) : cntB w t ≤ cnt x t := by
  have key : ∀ y : (⟨3, ![1, R, 128]⟩ : Shape).Idx, t ≤ w y → (y 1).val * 128 + (y 2).val < N := fun y hy => by
    obtain ⟨r, l, rfl⟩ := eta3 y
    by_contra hc
    rw [h.hout r l (not_lt.mp hc)] at hy
    exact absurd hy (not_le.mpr ht)
  rcases Nat.eq_zero_or_pos N with h0 | h0
  · have : cntB w t = 0 := Finset.card_eq_zero.mpr (Finset.filter_eq_empty_iff.mpr fun y _ hy => by have := key y hy; omega)
    omega
  · refine Finset.card_le_card_of_injOn (fun y => if hy : (y 1).val * 128 + (y 2).val < N then ⟨_, hy⟩ else ⟨0, h0⟩) (fun y hy => ?_) fun y hy z hz hyz => ?_
    · simp only [Finset.coe_filter, Finset.mem_univ, true_and, Set.mem_setOf_eq] at hy ⊢
      have hk := key y hy
      rw [dif_pos hk]
      obtain ⟨r, l, rfl⟩ := eta3 y
      rw [← h.hin ⟨_, hk⟩ r l rfl]
      exact hy
    · simp only [Finset.coe_filter, Finset.mem_univ, true_and, Set.mem_setOf_eq] at hy hz
      have hk := key y hy
      have hk' := key z hz
      simp only [dif_pos hk, dif_pos hk', Fin.mk.injEq] at hyz
      obtain ⟨r, l, rfl⟩ := eta3 y
      obtain ⟨r', l', rfl⟩ := eta3 z
      change r.val * 128 + l.val = r'.val * 128 + l'.val at hyz
      have h1 : r = r' := Fin.ext (by omega)
      have h2 : l = l' := Fin.ext (by omega)
      rw [h1, h2]

/-- The block's greatest entry, with the padding below the row's `k`-th and every entry at most `B`, is a real between. -/
theorem Padded.greatest (h : Padded x w pad) (v B : ℝ) (hB : ∀ i, x i ≤ (B : EReal)) (hp : pad ≤ (B : EReal)) (i : Fin N) (hv : (v : EReal) ≤ x i) :
    ∃ M : ℝ, Finset.univ.fold max (⊥ : EReal) w = (M : EReal) ∧ v ≤ M ∧ M ≤ B := by
  have hle : Finset.univ.fold max (⊥ : EReal) w ≤ (B : EReal) := by
    rw [Finset.fold_max_le]
    refine ⟨bot_le, fun y _ => ?_⟩
    obtain ⟨r, l, rfl⟩ := eta3 y
    by_cases hc : r.val * 128 + l.val < N
    · rw [h.hin ⟨_, hc⟩ r l rfl]; exact hB _
    · rw [h.hout _ _ (not_lt.mp hc)]; exact hp
  have hge : (v : EReal) ≤ Finset.univ.fold max (⊥ : EReal) w := by
    rw [Finset.le_fold_max]
    exact Or.inr ⟨_, Finset.mem_univ _, by rw [h.at_row i]; exact hv⟩
  generalize Finset.univ.fold max (⊥ : EReal) w = z at hle hge
  have h1 : z ≠ ⊥ := fun q => by rw [q] at hge; exact absurd (le_bot_iff.mp hge) (EReal.coe_ne_bot v)
  have h2 : z ≠ ⊤ := fun q => by rw [q] at hle; exact absurd (top_le_iff.mp hle) (EReal.coe_ne_top B)
  lift z to ℝ using ⟨h2, h1⟩
  exact ⟨z, rfl, EReal.coe_le_coe_iff.mp hge, EReal.coe_le_coe_iff.mp hle⟩

/-- The threshold that 64 bisections of the padded block reach selects exactly the selected places. -/
theorem threshold (h : Padded x w pad) {k : ℕ} {σ : Fin N → Fin N} {v ε : ℝ} (hl : Listed k x σ v ε) {B : ℝ}
    (hε : (B + 10001) / 2 ^ 64 ≤ ε) (hv : -10000 ≤ v) (hB : ∀ i, x i ≤ (B : EReal)) (hp : pad < ((-10000 : ℝ) : EReal)) :
    ∃ t : ℝ, ((halve k (cntB w))^[64] (((-10000 : ℝ) : EReal), Finset.univ.fold max (⊥ : EReal) w + 1)).1 = (t : EReal)
      ∧ ∀ i, Sel k σ i ↔ (t : EReal) ≤ x i := by
  have hk := hl.lt
  have hvB : v ≤ B := EReal.coe_le_coe_iff.mp (hl.kth.ge.trans (hB _))
  obtain ⟨M, hM, h1, h2⟩ := h.greatest v B hB (hp.le.trans (EReal.coe_le_coe_iff.mpr (by linarith))) _ hl.kth.ge
  have e : Finset.univ.fold max (⊥ : EReal) w + 1 = ((M + 1 : ℝ) : EReal) := by rw [hM, EReal.coe_add, EReal.coe_one]
  rw [e]
  refine hl.threshold (cntB w) (fun t => ?_) _ _ hv (by linarith) 64 ?_
  · constructor
    · intro hc
      by_cases ht : pad < (t : EReal)
      · exact hc.trans (h.le_cnt _ ht)
      · refine (hl.cnt_iff t).mpr ?_
        have := (not_lt.mp ht).trans hp.le
        rw [EReal.coe_le_coe_iff] at this
        linarith
    · intro hc
      exact hc.trans (h.cnt_le _)
  · refine le_trans ?_ hε
    exact div_le_div_of_nonneg_right (by linarith) (by positivity)

/-- The words' sum over a block of ones and zeros counts the ones. -/
theorem sum_at (red : (⟨3, ![1, R, 128]⟩ : Shape).Reduces [1, 2] ⟨1, ![1]⟩) (hR : R * 128 < 2 ^ 31) (src : IVec ⟨3, ![1, R, 128]⟩ 32)
    (P : (⟨3, ![1, R, 128]⟩ : Shape).Idx → Prop) [DecidablePred P] (hs : ∀ y, src y = if P y then 1#32 else 0#32)
    (hn : (0#32 : BitVec 32) = IKind.add.neutral) (j : (⟨1, ![1]⟩ : Shape).Idx) :
    multiReductionI .add [1, 2] ⟨1, ![1]⟩ src 0#32 red hn j = BitVec.ofNat 32 (Finset.univ.filter fun y => P y).card
      ∧ (Finset.univ.filter fun y => P y).card < 2 ^ 31 := by
  have hj : ∀ i, red.drop i = j := fun i => by
    funext a
    match a with
    | ⟨0, _⟩ => exact Subsingleton.elim (α := Fin 1) _ _
  have hc : ∑ i ∈ Finset.univ.filter (fun i => red.drop i = j), (src i).toNat = (Finset.univ.filter fun y => P y).card := by
    rw [Finset.filter_true_of_mem fun i _ => hj i, Finset.card_filter]
    refine Finset.sum_congr rfl fun y _ => ?_
    rw [hs]
    by_cases hp : P y
    · rw [if_pos hp, if_pos hp]; rfl
    · rw [if_neg hp, if_neg hp]; rfl
  have hle : (Finset.univ.filter fun y => P y).card ≤ R * 128 := by
    have : (Finset.univ.filter fun y => P y).card ≤ (Finset.univ : Finset (Fin R × Fin 128)).card := by
      refine Finset.card_le_card_of_injOn (fun y => (y 1, y 2)) (fun _ _ => Finset.mem_coe.mpr (Finset.mem_univ _)) fun y _ z _ h => ?_
      obtain ⟨r, l, rfl⟩ := eta3 y
      obtain ⟨r', l', rfl⟩ := eta3 z
      have h1 : r = r' := congrArg Prod.fst h
      have h2 : l = l' := congrArg Prod.snd h
      rw [h1, h2]
    refine this.trans ?_
    simp
  refine ⟨?_, by omega⟩
  apply BitVec.eq_of_toNat_eq
  rw [WordSum.toNat_multiReductionI_add src red hn j (by rw [hc]; omega), hc, BitVec.toNat_ofNat, Nat.mod_eq_of_lt (by omega)]

/-- The greatest entry of a block. -/
theorem max_at (red : (⟨3, ![1, R, 128]⟩ : Shape).Reduces [1, 2] ⟨1, ![1]⟩) (src : FVec Ideal ⟨3, ![1, R, 128]⟩ .f32) (hφ : FKind.Formats .f32)
    (hn : (0xFF800000#32 : BitVec 32) = FKind.maximumf.neutral .f32 hφ) (j : (⟨1, ![1]⟩ : Shape).Idx) :
    multiReduction .maximumf [1, 2] ⟨1, ![1]⟩ src 0xFF800000#32 red hφ hn j = Finset.univ.fold max (⊥ : EReal) src := by
  have hj : ∀ i, red.drop i = j := fun i => by
    funext a
    match a with
    | ⟨0, _⟩ => exact Subsingleton.elim (α := Fin 1) _ _
  rw [multiReduction_maximumf_eq_fold, Finset.filter_true_of_mem fun i _ => hj i]
  have : (FloatOps.ofBits .f32 0xFF800000#32 : Ideal .f32) = (⊥ : EReal) := by
    show Ideal.ofBits .f32 0xFF800000#32 = ⊥
    simp [Ideal.ofBits, Ideal.ieee]
  rw [this]
  rfl

/-- Half, as a literal. -/
theorem half_lit : Ideal.ofBits .f32 0x3F000000#32 = ((1 / 2 : ℝ) : EReal) := by
  simp [Ideal.ofBits, Ideal.ieee, -EReal.coe_mul]
  norm_num

/-- The lower end, as a literal. -/
theorem lo_lit : Ideal.ofBits .f32 0xC61C4000#32 = ((-10000 : ℝ) : EReal) := by
  simp [Ideal.ofBits, Ideal.ieee, -EReal.coe_mul]
  norm_num

/-- What the interval's length adds to the greatest entry, as a literal. -/
theorem off_lit : Ideal.ofBits .f32 0x461C4400#32 = ((10001 : ℝ) : EReal) := by
  simp [Ideal.ofBits, Ideal.ieee, -EReal.coe_mul]
  norm_num

/-- What 64 halvings leave of a unit, as a literal. -/
theorem unit_lit : Ideal.ofBits .f32 0x1F800000#32 = ((1 / 2 ^ 64 : ℝ) : EReal) := by
  simp [Ideal.ofBits, Ideal.ieee, -EReal.coe_mul]
  norm_num

/-- Infinity, as a literal. -/
theorem inf_lit : Ideal.ofBits .f32 0x7F800000#32 = (⊤ : EReal) := by
  simp [Ideal.ofBits, Ideal.ieee]

/-- The padding lies below the lower end. -/
theorem pad_lit : Ideal.ofBits .f32 0xF149F2CA#32 < ((-10000 : ℝ) : EReal) := by
  simp [Ideal.ofBits, Ideal.ieee, -EReal.coe_mul]
  norm_num

end Cert.Proof.SelBody
-- ==== Proof.Suf.lean ====
/- Running counts along rows, and scattered rows, at an entry. -/
module

public import proofs.«01_k».proof.Proof.Gath
public import Idealize.ShloMosaic.Lib.Routing.Ops
public import Idealize.ShloMosaic.Lib.Routing.OpsSet
public import Idealize.ShloMosaic.Lib.Routing.OpsPair

@[expose] public section

noncomputable section

namespace Cert.Proof.Gath

open Idealize.ShloMosaic Idealize.ShloMosaic.WordCmp

variable {α : Type} {A B N M C K : ℕ}

/-- The list sum over a range is the finite sum. -/
theorem sum_map_range (f : ℕ → ℕ) (m : ℕ) : ((List.range m).map f).sum = ∑ i ∈ Finset.range m, f i := by
  induction m with
  | zero => rfl
  | succ m ih => rw [List.range_succ, List.map_append, List.sum_append, ih, Finset.sum_range_succ]; simp

/-- A running sum along the rows is each row's own running sum. -/
theorem window_row (n1 : ℕ) (hN : n1 + 1 = N) (x : IVec ⟨2, ![A, N]⟩ 32) (init : IVec ⟨0, ![]⟩ 32)
    (h : (⟨2, ![A, N]⟩ : Shape).ReduceWindows (![1, N] : Fin 2 → ℕ) ![1, 1] ![0, n1] ![0, 0] ⟨2, ![A, N]⟩)
    (h1 : (⟨2, ![1, N]⟩ : Shape).ReduceWindows (![1, N] : Fin 2 → ℕ) ![1, 1] ![0, n1] ![0, 0] ⟨2, ![1, N]⟩)
    (hu : 0 < (⟨0, ![]⟩ : Shape).numel) (b : Fin A) (j : Fin N) :
    Host.reduceWindow IntOp.addi ![1, N] ![1, 1] ![0, n1] ![0, 0] x init h hu (ix2 b j)
      = Host.reduceWindow IntOp.addi ![1, N] ![1, 1] ![0, n1] ![0, 0] (fun y : (⟨2, ![1, N]⟩ : Shape).Idx => x (ix2 b (y 1))) init h1 hu (ix2 (0 : Fin 1) j) := by
  unfold Host.reduceWindow
  dsimp only
  congr 1
  funext r n
  congr 1
  have hw0 : ((⟨2, ![1, N]⟩ : Shape).rowMajor.symm n 0).val = 0 := by
    have : ((⟨2, ![1, N]⟩ : Shape).rowMajor.symm n 0).val < 1 := ((⟨2, ![1, N]⟩ : Shape).rowMajor.symm n 0).isLt
    omega
  have hb := b.isLt
  split_ifs with ha hc hc
  · congr 1
    funext a
    refine Fin.ext ?_
    match a with
    | ⟨0, _⟩ =>
      show b.val * 1 + ((⟨2, ![1, N]⟩ : Shape).rowMajor.symm n 0).val - 0 = b.val
      rw [hw0]; omega
    | ⟨1, _⟩ => rfl
  · refine absurd (fun a => ?_) hc
    match a with
    | ⟨0, _⟩ =>
      show 0 ≤ 0 * 1 + ((⟨2, ![1, N]⟩ : Shape).rowMajor.symm n 0).val ∧ 0 * 1 + ((⟨2, ![1, N]⟩ : Shape).rowMajor.symm n 0).val - 0 < 1
      rw [hw0]; omega
    | ⟨1, _⟩ => exact ha 1
  · refine absurd (fun a => ?_) ha
    match a with
    | ⟨0, _⟩ =>
      show 0 ≤ b.val * 1 + ((⟨2, ![1, N]⟩ : Shape).rowMajor.symm n 0).val ∧ b.val * 1 + ((⟨2, ![1, N]⟩ : Shape).rowMajor.symm n 0).val - 0 < A
      rw [hw0]; omega
    | ⟨1, _⟩ => exact hc 1
  · rfl

/-- A running count along the rows. -/
theorem count_row (n1 : ℕ) (hN : n1 + 1 = N) (x : IVec ⟨2, ![A, N]⟩ 32) (init : IVec ⟨0, ![]⟩ 32) (hi : init ix0 = 0#32)
    (h : (⟨2, ![A, N]⟩ : Shape).ReduceWindows (![1, N] : Fin 2 → ℕ) ![1, 1] ![0, n1] ![0, 0] ⟨2, ![A, N]⟩)
    (h1 : (⟨2, ![1, N]⟩ : Shape).ReduceWindows (![1, N] : Fin 2 → ℕ) ![1, 1] ![0, n1] ![0, 0] ⟨2, ![1, N]⟩)
    (hu : 0 < (⟨0, ![]⟩ : Shape).numel) (b : Fin A) (P : Fin N → Prop) [DecidablePred P]
    (hx : ∀ i, x (ix2 b i) = BitVec.ofNat 32 (if P i then 1 else 0)) (j : Fin N) :
    Host.reduceWindow IntOp.addi ![1, N] ![1, 1] ![0, n1] ![0, 0] x init h hu (ix2 b j)
      = BitVec.ofNat 32 (Finset.univ.filter fun i : Fin N => P i ∧ i ≤ j).card := by
  rw [window_row n1 hN x init h h1 hu b j]
  refine (Routing.cumsum2 hN (fun y : (⟨2, ![1, N]⟩ : Shape).Idx => x (ix2 b (y 1))) (fun i => if hh : i < N then (if P ⟨i, hh⟩ then 1 else 0) else 0)
    (fun i => ?_) init hi h1 hu j).trans ?_
  · show x (ix2 b i) = _
    rw [hx, dif_pos i.isLt]
  · rw [sum_map_range]
    congr 1
    rw [Finset.card_filter]
    have e : ∀ i : Fin N, (if P i ∧ i ≤ j then 1 else 0)
        = (fun n : ℕ => if n ≤ j.val then (if hh : n < N then (if P ⟨n, hh⟩ then 1 else 0) else 0) else 0) i.val := fun i => by
      show _ = if i.val ≤ j.val then (if hh : i.val < N then (if P ⟨i.val, hh⟩ then 1 else 0) else 0) else 0
      rw [dif_pos i.isLt]
      by_cases hp : P i <;> by_cases hl : i ≤ j
      · rw [if_pos ⟨hp, hl⟩, if_pos (Fin.le_def.mp hl), if_pos hp]
      · rw [if_neg (fun q => hl q.2), if_neg (fun q => hl (Fin.le_def.mpr q))]
      · rw [if_neg (fun q => hp q.1), if_pos (Fin.le_def.mp hl), if_neg hp]
      · rw [if_neg (fun q => hp q.1), if_neg (fun q => hl (Fin.le_def.mpr q))]
    rw [Finset.sum_congr rfl fun i _ => e i, Fin.sum_univ_eq_sum_range (fun n : ℕ => if n ≤ j.val then (if hh : n < N then (if P ⟨n, hh⟩ then 1 else 0) else 0) else 0) N, ← Finset.sum_filter]
    refine Finset.sum_congr (Finset.ext fun i => ?_) fun _ _ => rfl
    have := j.isLt
    simp only [Finset.mem_range, Finset.mem_filter]
    omega

/-- Rows scattered by plane and row words. -/
abbrev setDims (wf : ScatterDims.WF ⟨3, ![B, N, K]⟩ ⟨3, ![C, M, 2]⟩ ⟨3, ![C, M, K]⟩ [2] [0, 1] [0, 1] 2) :
    ScatterDims ⟨3, ![B, N, K]⟩ ⟨3, ![C, M, 2]⟩ ⟨3, ![C, M, K]⟩ where
  updateWindowDims := [2]
  insertedWindowDims := [0, 1]
  scatterDimsToOperandDims := [0, 1]
  indexVectorDim := 2
  wf := wf

/-- Where a scattered row lands. -/
theorem set_lands (wf : ScatterDims.WF ⟨3, ![B, N, K]⟩ ⟨3, ![C, M, 2]⟩ ⟨3, ![C, M, K]⟩ [2] [0, 1] [0, 1] 2)
    (idx : IVec ⟨3, ![C, M, 2]⟩ 32) (c : Fin C) (k : Fin M) (j : Fin K) (b : Fin B) (n : Fin N) (l : Fin K) :
    (setDims wf).resultIdx? (ix3 c k j) idx = some (ix3 b n l)
      ↔ (idx (ix3 c k 0)).toInt = (b.val : ℤ) ∧ (idx (ix3 c k 1)).toInt = (n.val : ℤ) ∧ j = l := by
  rw [Routing.resultIdx?_eq_some]
  have hs (e : Fin 2) : (setDims wf).siIdx (ix3 c k j) e = ix3 c k e := by
    funext q; refine Fin.ext ?_
    match q with
    | ⟨0, _⟩ => rfl
    | ⟨1, _⟩ => rfl
    | ⟨2, _⟩ => rfl
  have s0 : (setDims wf).start (ix3 c k j) idx 0 + ((setDims wf).window (ix3 c k j) 0 : ℤ) = (idx (ix3 c k 0)).toInt := by
    show (idx ((setDims wf).siIdx (ix3 c k j) (0 : Fin 2))).toInt + ((0 : ℕ) : ℤ) = _
    rw [hs]; simp
  have s1 : (setDims wf).start (ix3 c k j) idx 1 + ((setDims wf).window (ix3 c k j) 1 : ℤ) = (idx (ix3 c k 1)).toInt := by
    show (idx ((setDims wf).siIdx (ix3 c k j) (1 : Fin 2))).toInt + ((0 : ℕ) : ℤ) = _
    rw [hs]; simp
  have s2 : (setDims wf).start (ix3 c k j) idx 2 + ((setDims wf).window (ix3 c k j) 2 : ℤ) = (j.val : ℤ) := by
    show (0 : ℤ) + (j.val : ℤ) = _
    simp
  constructor
  · intro h
    refine ⟨s0.symm.trans (h 0), s1.symm.trans (h 1), Fin.ext ?_⟩
    have h2 : ((j.val : ℕ) : ℤ) = (l.val : ℤ) := s2.symm.trans (h 2)
    omega
  · rintro ⟨h0, h1, rfl⟩ a
    match a with
    | ⟨0, _⟩ => exact s0.trans h0
    | ⟨1, _⟩ => exact s1.trans h1
    | ⟨2, _⟩ => exact s2

end Cert.Proof.Gath
-- ==== Proof.SelHost.lean ====
/- The host's lines after the bisection: the mask of the selected entries, their places in order, and where each is put. -/
module

public import proofs.«01_k».proof.Proof.Gath
public import proofs.«01_k».proof.Proof.Suf
public import proofs.«01_k».proof.Proof.Select
public import Idealize.ShloMosaic.Lib.Pointwise
public import Idealize.ShloMosaic.Lib.WordCmp
public import Idealize.ShloMosaic.Lib.Routing.Ops

@[expose] public section

set_option maxRecDepth 16384

noncomputable section

namespace Cert.Proof.SelHost

open Cert.Proof.Gath Cert.Proof.Select
open Idealize.ShloMosaic Idealize.ShloMosaic.WordCmp

variable {N n1 : ℕ}

/-- Entries scattered by plane and row words. -/
abbrev putDims {B M C K : ℕ} (wf : ScatterDims.WF ⟨2, ![B, M]⟩ ⟨3, ![C, K, 2]⟩ ⟨2, ![C, K]⟩ [] [0, 1] [0, 1] 2) :
    ScatterDims ⟨2, ![B, M]⟩ ⟨3, ![C, K, 2]⟩ ⟨2, ![C, K]⟩ where
  updateWindowDims := []
  insertedWindowDims := [0, 1]
  scatterDimsToOperandDims := [0, 1]
  indexVectorDim := 2
  wf := wf

/-- Where a scattered entry lands. -/
theorem put_lands {B M C K : ℕ} (wf : ScatterDims.WF ⟨2, ![B, M]⟩ ⟨3, ![C, K, 2]⟩ ⟨2, ![C, K]⟩ [] [0, 1] [0, 1] 2)
    (idx : IVec ⟨3, ![C, K, 2]⟩ 32) (c : Fin C) (k : Fin K) (b : Fin B) (n : Fin M) :
    (putDims wf).resultIdx? (ix2 c k) idx = some (ix2 b n)
      ↔ (idx (ix3 c k 0)).toInt = (b.val : ℤ) ∧ (idx (ix3 c k 1)).toInt = (n.val : ℤ) := by
  rw [Routing.resultIdx?_eq_some]
  have hs (e : Fin 2) : (putDims wf).siIdx (ix2 c k) e = ix3 c k e := by
    funext q; refine Fin.ext ?_
    match q with
    | ⟨0, _⟩ => rfl
    | ⟨1, _⟩ => rfl
    | ⟨2, _⟩ => rfl
  have s (a : Fin 2) : (putDims wf).start (ix2 c k) idx a + ((putDims wf).window (ix2 c k) a : ℤ) = (idx (ix3 c k a)).toInt := by
    match a with
    | ⟨0, _⟩ =>
      show (idx ((putDims wf).siIdx (ix2 c k) (0 : Fin 2))).toInt + ((0 : ℕ) : ℤ) = _
      rw [hs]; simp
    | ⟨1, _⟩ =>
      show (idx ((putDims wf).siIdx (ix2 c k) (1 : Fin 2))).toInt + ((0 : ℕ) : ℤ) = _
      rw [hs]; simp
  constructor
  · intro h
    exact ⟨(s 0).symm.trans (h 0), (s 1).symm.trans (h 1)⟩
  · rintro ⟨h0, h1⟩ a
    match a with
    | ⟨0, _⟩ => exact (s 0).trans h0
    | ⟨1, _⟩ => exact (s 1).trans h1

/-- The shapes' facts of the lines after the bisection, for rows of `N` entries. -/
structure Fits (N n1 : ℕ) : Prop where
  /-- The last place's number. -/
  last : n1 + 1 = N
  /-- Rows are of a size that signed words count. -/
  small : N < 2 ^ 31
  /-- Rows have more entries than places. -/
  big : 1000 < N
  /-- A column broadcasts along the rows. -/
  b1N : (⟨2, ![2, 1]⟩ : Shape).BroadcastsInDim ⟨2, ![2, N]⟩ (![0, 1] : Fin 2 → Fin 2)
  /-- A row reduces to its sum. -/
  red : (⟨2, ![2, N]⟩ : Shape).ReducesTo [1] ⟨1, ![2]⟩
  /-- A vector becomes a column. -/
  b21 : (⟨1, ![2]⟩ : Shape).BroadcastsInDim ⟨2, ![2, 1]⟩ (![0] : Fin 1 → Fin 2)
  /-- A scalar stays one. -/
  b00 : (⟨0, ![]⟩ : Shape).BroadcastsInDim ⟨0, ![]⟩ (![] : Fin 0 → Fin 0)
  /-- Windows that grow along a row. -/
  rw : (⟨2, ![2, N]⟩ : Shape).ReduceWindows (![1, N] : Fin 2 → ℕ) ![1, 1] ![0, n1] ![0, 0] ⟨2, ![2, N]⟩
  /-- The same for a single row. -/
  rw1 : (⟨2, ![1, N]⟩ : Shape).ReduceWindows (![1, N] : Fin 2 → ℕ) ![1, 1] ![0, n1] ![0, 0] ⟨2, ![1, N]⟩
  /-- A scalar fills a column. -/
  b01 : (⟨0, ![]⟩ : Shape).BroadcastsInDim ⟨2, ![2, 1]⟩ (![] : Fin 0 → Fin 2)
  /-- A scalar fills the rows. -/
  b0N : (⟨0, ![]⟩ : Shape).BroadcastsInDim ⟨2, ![2, N]⟩ (![] : Fin 0 → Fin 2)
  /-- A scalar fills the table of places. -/
  b0R : (⟨0, ![]⟩ : Shape).BroadcastsInDim ⟨2, ![2, 1001]⟩ (![] : Fin 0 → Fin 2)
  /-- A vector becomes a row. -/
  bN : (⟨1, ![N]⟩ : Shape).BroadcastsInDim ⟨2, ![1, N]⟩ (![1] : Fin 1 → Fin 2)
  /-- A row fills the rows. -/
  bNN : (⟨2, ![1, N]⟩ : Shape).BroadcastsInDim ⟨2, ![2, N]⟩ (![0, 1] : Fin 2 → Fin 2)
  /-- The rows become planes of one column. -/
  bN1 : (⟨2, ![2, N]⟩ : Shape).BroadcastsInDim ⟨3, ![2, N, 1]⟩ (![0, 1] : Fin 2 → Fin 3)
  /-- Two of those stand side by side. -/
  conc : Shape.Concatenates [⟨3, ![2, N, 1]⟩, ⟨3, ![2, N, 1]⟩] ⟨3, ![2, N, 2]⟩ 2
  /-- The last row of the table of places is dropped. -/
  sl : (⟨2, ![2, 1001]⟩ : Shape).Slices ![0, 0] ⟨2, ![2, 1000]⟩
  /-- The scatter's axes. -/
  wf : ScatterDims.WF ⟨2, ![2, 1001]⟩ ⟨3, ![2, N, 2]⟩ ⟨2, ![2, N]⟩ [] [0, 1] [0, 1] 2
  /-- A scalar has an entry. -/
  hu : 0 < (⟨0, ![]⟩ : Shape).numel
  /-- A bit is narrower than a word. -/
  hw : 1 < 32

variable (h : Fits N n1) (X : FVec Ideal ⟨2, ![2, N]⟩ .f32) (T : FVec Ideal ⟨2, ![2, 1]⟩ .f32)

/-- The bits of the entries above the threshold. -/
def gtW : IVec ⟨2, ![2, N]⟩ 1 := cmpf .ogt X (broadcastInDim ⟨2, ![2, N]⟩ ![0, 1] h.b1N T)

/-- The bits of the entries at the threshold. -/
def eqW : IVec ⟨2, ![2, N]⟩ 1 := cmpf .oeq X (broadcastInDim ⟨2, ![2, N]⟩ ![0, 1] h.b1N T)

/-- How many entries above the threshold each row has. -/
def sumW (x : IVec ⟨2, ![2, N]⟩ 1) : IVec ⟨1, ![2]⟩ 32 :=
  Host.reduce IntOp.addi (extui 32 x h.hw) (constantI ⟨0, ![]⟩ 32 0#32) h.red h.hu

/-- How many more each row wants. -/
def moreW (s : IVec ⟨1, ![2]⟩ 32) : IVec ⟨2, ![2, 1]⟩ 32 :=
  subi (broadcastInDim ⟨2, ![2, 1]⟩ ![] h.b01 (constantI ⟨0, ![]⟩ 32 1000#32)) (broadcastInDim ⟨2, ![2, 1]⟩ ![0] h.b21 s)

/-- The running count of the set bits. -/
def runW (x : IVec ⟨2, ![2, N]⟩ 1) : IVec ⟨2, ![2, N]⟩ 32 :=
  Host.reduceWindow IntOp.addi ![1, N] ![1, 1] ![0, n1] ![0, 0] (extui 32 x h.hw) (broadcastInDim ⟨0, ![]⟩ ![] h.b00 (constantI ⟨0, ![]⟩ 32 0#32)) h.rw h.hu

/-- The mask: above the threshold, or at it and among the first as many as are wanted. -/
def joinW (g e : IVec ⟨2, ![2, N]⟩ 1) (r : IVec ⟨2, ![2, N]⟩ 32) (q : IVec ⟨2, ![2, 1]⟩ 32) : IVec ⟨2, ![2, N]⟩ 1 :=
  ori g (andi e (cmpi .sle r (broadcastInDim ⟨2, ![2, N]⟩ ![0, 1] h.b1N q)))

/-- Each entry's place: its running count less one if it is selected, and the last one if not. -/
def destW (k : IVec ⟨2, ![2, N]⟩ 1) (r : IVec ⟨2, ![2, N]⟩ 32) : IVec ⟨2, ![2, N]⟩ 32 :=
  select k (subi r (broadcastInDim ⟨2, ![2, N]⟩ ![] h.b0N (constantI ⟨0, ![]⟩ 32 1#32))) (broadcastInDim ⟨2, ![2, N]⟩ ![] h.b0N (id (constantI ⟨0, ![]⟩ 32 1000#32)))

/-- The scatter's index words: the image's number and the place. -/
def idxW (d : IVec ⟨2, ![2, N]⟩ 32) : IVec ⟨3, ![2, N, 2]⟩ 32 :=
  concatenate ⟨3, ![2, N, 2]⟩ 2 [⟨⟨3, ![2, N, 1]⟩, (broadcastInDim ⟨3, ![2, N, 1]⟩ ![0, 1] h.bN1 (broadcastInDim ⟨2, ![2, N]⟩ ![0, 1] h.b1N (select (cmpi .slt (broadcastInDim ⟨2, ![2, 1]⟩ ![0] h.b21 (iotaInDim ⟨1, ![2]⟩ 32 0)) (broadcastInDim ⟨2, ![2, 1]⟩ ![] h.b01 (constantI ⟨0, ![]⟩ 32 0#32))) (addi (broadcastInDim ⟨2, ![2, 1]⟩ ![0] h.b21 (iotaInDim ⟨1, ![2]⟩ 32 0)) (broadcastInDim ⟨2, ![2, 1]⟩ ![] h.b01 (constantI ⟨0, ![]⟩ 32 2#32))) (broadcastInDim ⟨2, ![2, 1]⟩ ![0] h.b21 (iotaInDim ⟨1, ![2]⟩ 32 0)))))⟩, ⟨⟨3, ![2, N, 1]⟩, (broadcastInDim ⟨3, ![2, N, 1]⟩ ![0, 1] h.bN1 (select (cmpi .slt d (broadcastInDim ⟨2, ![2, N]⟩ ![] h.b0N (constantI ⟨0, ![]⟩ 32 0#32))) (addi d (broadcastInDim ⟨2, ![2, N]⟩ ![] h.b0N (constantI ⟨0, ![]⟩ 32 1001#32))) d))⟩] h.conc

/-- The table of the selected places. -/
def putW (i : IVec ⟨3, ![2, N, 2]⟩ 32) : IVec ⟨2, ![2, 1001]⟩ 32 :=
  Host.scatter (putDims h.wf) (fun _ b => b) (broadcastInDim ⟨2, ![2, 1001]⟩ ![] h.b0R (constantI ⟨0, ![]⟩ 32 0#32)) i (broadcastInDim ⟨2, ![2, N]⟩ ![0, 1] h.bNN (broadcastInDim ⟨2, ![1, N]⟩ ![1] h.bN (iotaInDim ⟨1, ![N]⟩ 32 0)))

/-- The mask of a row's entries. -/
def maskW : IVec ⟨2, ![2, N]⟩ 1 := joinW h (gtW h X T) (eqW h X T) (runW h (eqW h X T)) (moreW h (sumW h (gtW h X T)))

/-- The selected places in order. -/
def outW : IVec ⟨2, ![2, 1000]⟩ 32 :=
  extractStridedSlice ⟨2, ![2, 1000]⟩ ![0, 0] (putW h (idxW h (destW h (maskW h X T) (runW h (maskW h X T))))) h.sl

/-- A set bit of the first mask: the entry exceeds the threshold. -/
theorem gtW_at (b : Fin 2) (i : Fin N) : gtW h X T (ix2 b i) = BitVec.ofBool (decide (T (ix2 b 0) < X (ix2 b i))) := by
  pointwise [gtW]

/-- A set bit of the second mask: the entry is the threshold. -/
theorem eqW_at (b : Fin 2) (i : Fin N) : eqW h X T (ix2 b i) = BitVec.ofBool (decide (X (ix2 b i) = T (ix2 b 0))) := by
  pointwise [eqW]

/-- The number still wanted. -/
theorem moreW_at (s : IVec ⟨1, ![2]⟩ 32) (b : Fin 2) : moreW h s (ix2 b 0) = 1000#32 - s (ix1 b) := by
  pointwise [moreW]
  rfl

/-- The mask at an entry. -/
theorem joinW_at (g e : IVec ⟨2, ![2, N]⟩ 1) (r : IVec ⟨2, ![2, N]⟩ 32) (q : IVec ⟨2, ![2, 1]⟩ 32) (b : Fin 2) (i : Fin N) :
    joinW h g e r q (ix2 b i) = IntOp.ori (g (ix2 b i)) (IntOp.andi (e (ix2 b i)) (IntOp.cmpi .sle (r (ix2 b i)) (q (ix2 b 0)))) := by
  pointwise [joinW]

/-- The place at an entry. -/
theorem destW_at (k : IVec ⟨2, ![2, N]⟩ 1) (r : IVec ⟨2, ![2, N]⟩ 32) (b : Fin 2) (i : Fin N) :
    destW h k r (ix2 b i) = Scalar.select (k (ix2 b i)) (r (ix2 b i) - 1#32) 1000#32 := by
  pointwise [destW]
  rfl

/-- The index words of an entry. -/
theorem idxW_at (d : IVec ⟨2, ![2, N]⟩ 32) (b : Fin 2) (i : Fin N) (n : ℕ) (hn : n < 2 ^ 31) (hd : d (ix2 b i) = BitVec.ofNat 32 n) :
    idxW h d (ix3 b i 0) = BitVec.ofNat 32 b.val ∧ idxW h d (ix3 b i 1) = BitVec.ofNat 32 n := by
  have hb : b.val < 2 ^ 31 := by omega
  constructor
  · pointwise [idxW]
    exact wrap_at hb _
  · have key : ∀ w, w = ix2 b i → Scalar.select (IntOp.cmpi .slt (d w) 0#32) (IntOp.addi (d w) 1001#32) (d w) = BitVec.ofNat 32 n := by
      rintro _ rfl
      rw [hd]; exact wrap_at hn _
    have hN : N ≠ 1 := by have := h.big; omega
    pointwise [idxW]
    refine key _ ?_
    funext a
    refine Fin.ext ?_
    match a with
    | ⟨0, _⟩ => rfl
    | ⟨1, _⟩ =>
      simp only [Shape.Idx.norm]
      split
      · rename_i q; exact absurd q hN
      · rfl

/-- The sum of a row's bits counts the places whose bit is set. -/
theorem sumW_at (x : IVec ⟨2, ![2, N]⟩ 1) (b : Fin 2) (P : Fin N → Prop) [DecidablePred P] (hx : ∀ i, x (ix2 b i) = BitVec.ofBool (decide (P i))) :
    sumW h x (ix1 b) = BitVec.ofNat 32 (Finset.univ.filter fun i => P i).card := by
  have hs := h.small
  have hc : (Finset.univ.filter fun i => P i).card ≤ N := by
    refine (Finset.card_le_univ _).trans ?_
    simp
  apply BitVec.eq_of_toNat_eq
  unfold sumW
  rw [StableHlo.Predicate.toNat_reduce_count_cols (by omega) x h.hw h.red h.hu (ix1 b), BitVec.toNat_ofNat, Nat.mod_eq_of_lt (by omega)]
  refine congrArg Finset.card (Finset.filter_congr fun q _ => ?_)
  show x (StableHlo.Predicate.ij b q) = 1#1 ↔ P q
  rw [Routing.ij_eq_ix2]
  show x (ix2 b q) = 1#1 ↔ P q
  rw [hx]
  by_cases hq : P q
  · rw [decide_eq_true hq]; exact iff_of_true rfl hq
  · rw [decide_eq_false hq]; exact iff_of_false (by decide) hq

/-- The running count of a row's bits. -/
theorem runW_at (x : IVec ⟨2, ![2, N]⟩ 1) (b : Fin 2) (P : Fin N → Prop) [DecidablePred P] (hx : ∀ i, x (ix2 b i) = BitVec.ofBool (decide (P i))) (i : Fin N) :
    runW h x (ix2 b i) = BitVec.ofNat 32 (Finset.univ.filter fun q => P q ∧ q ≤ i).card := by
  refine count_row n1 h.last _ _ rfl h.rw h.rw1 h.hu b P (fun q => ?_) i
  show (x (ix2 b q)).setWidth 32 = _
  rw [hx]
  by_cases hq : P q
  · rw [decide_eq_true hq, if_pos hq]; rfl
  · rw [decide_eq_false hq, if_neg hq]; rfl

/-- Comparing two counts as signed words. -/
theorem sle_words {a b : ℕ} (ha : a < 2 ^ 31) (hb : b < 2 ^ 31) :
    IntOp.cmpi CmpIPredicate.sle (BitVec.ofNat 32 a) (BitVec.ofNat 32 b) = BitVec.ofBool (decide (a ≤ b)) := by
  show BitVec.ofBool ((BitVec.ofNat 32 a).sle (BitVec.ofNat 32 b)) = _
  rw [BitVec.sle_eq_decide, toInt_ofNat_of_lt (a := a) (by omega), toInt_ofNat_of_lt (a := b) (by omega)]
  simp

/-- The mask selects exactly the entries that reach the threshold, when a thousand do. -/
theorem maskW_at (b : Fin 2) (hk : cnt (fun i => X (ix2 b i)) (T (ix2 b 0)) = 1000) (i : Fin N) :
    maskW h X T (ix2 b i) = BitVec.ofBool (decide (T (ix2 b 0) ≤ X (ix2 b i))) := by
  have hs := h.small
  have hm : (Finset.univ.filter fun q : Fin N => T (ix2 b 0) < X (ix2 b q)).card ≤ 1000 := by
    rw [← hk]
    refine Finset.card_le_card fun q hq => ?_
    simp only [Finset.mem_filter, Finset.mem_univ, true_and] at hq ⊢
    exact hq.le
  have hc : (Finset.univ.filter fun q : Fin N => X (ix2 b q) = T (ix2 b 0) ∧ q ≤ i).card ≤ N := by
    refine (Finset.card_le_univ _).trans ?_
    simp
  unfold maskW
  rw [joinW_at, moreW_at, gtW_at, eqW_at, sumW_at h _ b _ (gtW_at h X T b), runW_at h _ b _ (eqW_at h X T b),
    show (1000#32 : BitVec 32) - BitVec.ofNat 32 (Finset.univ.filter fun q : Fin N => T (ix2 b 0) < X (ix2 b q)).card
      = BitVec.ofNat 32 (1000 - (Finset.univ.filter fun q : Fin N => T (ix2 b 0) < X (ix2 b q)).card) by
      apply BitVec.eq_of_toNat_eq
      rw [BitVec.toNat_sub, BitVec.toNat_ofNat, BitVec.toNat_ofNat, BitVec.toNat_ofNat]
      omega, sle_words (by omega) (by omega)]
  have hmi := mask_iff (T (ix2 b 0)) hk i
  have ho : ∀ p q r : Bool, IntOp.ori (BitVec.ofBool p) (IntOp.andi (BitVec.ofBool q) (BitVec.ofBool r)) = BitVec.ofBool (p || (q && r)) := by decide
  rw [ho, ← Bool.decide_and, ← Bool.decide_or]
  congr 1
  refine decide_eq_decide.mpr (Iff.trans (or_congr_right (and_congr_right fun _ => ?_)) hmi)
  omega

/-- The place of an entry: its rank if it is selected, and 1000 if it is not. -/
theorem place_at (k : IVec ⟨2, ![2, N]⟩ 1) (b : Fin 2) (P : Fin N → Prop) [DecidablePred P] (hx : ∀ i, k (ix2 b i) = BitVec.ofBool (decide (P i))) (i : Fin N) :
    destW h k (runW h k) (ix2 b i) = BitVec.ofNat 32 (if P i then rnk P i else 1000) := by
  rw [destW_at, runW_at h k b P hx, hx]
  by_cases hp : P i
  · rw [decide_eq_true hp, if_pos hp, rnk_succ P i hp, BitVec.ofNat_add]
    exact BitVec.add_sub_cancel _ _
  · rw [decide_eq_false hp, if_neg hp]; rfl

/-- The table's entries: where the thousand entries that reach the threshold are listed in order, it is that list. -/
theorem outW_at (hk : ∀ b : Fin 2, cnt (fun i => X (ix2 b i)) (T (ix2 b 0)) = 1000) (b : Fin 2) (f : Fin 1000 → Fin N) (hf : StrictMono f)
    (hP : ∀ i, T (ix2 b 0) ≤ X (ix2 b i) ↔ ∃ j, f j = i) (j : Fin 1000) : outW h X T (ix2 b j) = BitVec.ofNat 32 (f j).val := by
  have hs := h.small
  have e0 : outW h X T (ix2 b j) = putW h (idxW h (destW h (maskW h X T) (runW h (maskW h X T)))) (ix2 b ⟨j.val, by omega⟩) := by
    unfold outW
    generalize putW h (idxW h (destW h (maskW h X T) (runW h (maskW h X T)))) = Z
    pointwise []
  have hd : ∀ (b' : Fin 2) (i : Fin N), destW h (maskW h X T) (runW h (maskW h X T)) (ix2 b' i)
      = BitVec.ofNat 32 (if T (ix2 b' 0) ≤ X (ix2 b' i) then rnk (fun i => T (ix2 b' 0) ≤ X (ix2 b' i)) i else 1000) := fun b' i =>
    place_at h (maskW h X T) b' _ (maskW_at h X T b' (hk b')) i
  have land : ∀ k : (⟨2, ![2, N]⟩ : Shape).Idx, (putDims h.wf).resultIdx? k (idxW h (destW h (maskW h X T) (runW h (maskW h X T)))) = some (ix2 b ⟨j.val, by omega⟩)
      ↔ k 0 = b ∧ T (ix2 b 0) ≤ X (ix2 b (k 1)) ∧ rnk (fun i => T (ix2 b 0) ≤ X (ix2 b i)) (k 1) = j.val := by
    intro k
    obtain ⟨kb, kp, rfl⟩ : ∃ (kb : Fin 2) (kp : Fin N), k = ix2 kb kp := ⟨k 0, k 1, by
      funext a
      match a with
      | ⟨0, _⟩ => rfl
      | ⟨1, _⟩ => rfl⟩
    refine (put_lands h.wf _ kb kp b (⟨j.val, by omega⟩ : Fin 1001)).trans ?_
    have hr := rnk_le (fun i => T (ix2 kb 0) ≤ X (ix2 kb i)) kp
    have hb := h.big
    have hn : (if T (ix2 kb 0) ≤ X (ix2 kb kp) then rnk (fun i => T (ix2 kb 0) ≤ X (ix2 kb i)) kp else 1000) < 2 ^ 31 := by
      split_ifs <;> omega
    obtain ⟨w0, w1⟩ := idxW_at h _ kb kp _ hn (hd kb kp)
    rw [w0, w1, toInt_ofNat_of_lt (a := kb.val) (by omega), toInt_ofNat_of_lt hn]
    show ((kb.val : ℤ) = b.val ∧ _ = (j.val : ℤ)) ↔ (kb = b ∧ T (ix2 b 0) ≤ X (ix2 b kp) ∧ rnk (fun i => T (ix2 b 0) ≤ X (ix2 b i)) kp = j.val)
    have he : ((kb.val : ℤ) = b.val) ↔ kb = b := ⟨fun h => Fin.ext (by omega), fun h => by rw [h]⟩
    rw [he]
    refine and_congr_right fun hkb => ?_
    subst hkb
    have hj := j.isLt
    by_cases hc : T (ix2 kb 0) ≤ X (ix2 kb kp)
    · rw [if_pos hc]
      exact ⟨fun q => ⟨hc, by omega⟩, fun q => by omega⟩
    · rw [if_neg hc]
      exact ⟨fun q => by omega, fun q => absurd q.1 hc⟩
  have hit : T (ix2 b 0) ≤ X (ix2 b (f j)) := (hP _).mpr ⟨j, rfl⟩
  have hrk := rnk_listing (fun i => T (ix2 b 0) ≤ X (ix2 b i)) f hf hP j
  rw [e0]
  unfold putW
  refine Routing.scatter_set_hit _ _ _ _ _ _ (fun k hk' => ?_) (ix2 b (f j)) ((land _).mpr ⟨rfl, hit, hrk⟩)
  obtain ⟨hb, hP', hR⟩ := (land k).mp hk'
  have hkp : k 1 = f j := rnk_inj _ _ _ hP' hit (hR.trans hrk.symm)
  have ek : k = ix2 b (f j) := by
    funext a
    match a with
    | ⟨0, _⟩ => exact hb
    | ⟨1, _⟩ => exact hkp
  have hN : N ≠ 1 := by have := h.big; omega
  rw [ek]
  generalize f j = q
  pointwise []
  refine congrArg _ ?_
  simp only [Shape.Idx.norm]
  split
  · rename_i q'; exact absurd q' hN
  · dsimp only
    split
    · rename_i q' ; exact absurd q' hN
    · rfl

end Cert.Proof.SelHost
-- ==== Proof.SelBlk.lean ====
/- One block of the selection's launch, of any number of rows: what one trip of the bisection does. -/
module

public import proofs.«01_k».proof.Proof.SelBody
public import proofs.«01_k».proof.Proof.SelHost
public import Idealize.ShloMosaic.Lib.Pointwise
public import Idealize.ShloMosaic.PureOps.Ideal

@[expose] public section

set_option maxRecDepth 16384

noncomputable section

namespace Cert.Proof.SelBlk

open Cert.Proof.Select Cert.Proof.SelBody Cert.Proof.SelHost
open Idealize.ShloMosaic Idealize.ShloMosaic.WordCmp

variable {R : ℕ}

/-- A block of `R` rows of 128, with its leading axis and without. -/
abbrev Blk (R : ℕ) : Shape := ⟨3, ![1, R, 128]⟩

/-- The same block without its leading axis. -/
abbrev Rows (R : ℕ) : Shape := ⟨2, ![R, 128]⟩

/-- One entry, as a row. -/
abbrev One : Shape := ⟨1, ![1]⟩

/-- One entry, as a block. -/
abbrev One3 : Shape := ⟨3, ![1, 1, 1]⟩

/-- The shapes of a block of `R` rows. -/
structure Tile (R : ℕ) : Prop where
  /-- Its entries are few enough for a word to count. -/
  small : R * 128 < 2 ^ 31
  /-- It loses its leading axis. -/
  drop : (Blk R).ShapeCasts (Rows R)
  /-- It takes it back. -/
  back : (Rows R).ShapeCasts (Blk R)
  /-- It reduces to one entry. -/
  red : (Blk R).Reduces [1, 2] One
  /-- One entry as a block. -/
  one : One.ShapeCasts One3
  /-- The place of that entry. -/
  pos : ∀ a, (![0, 0, 0] : Fin 3 → ℕ) a < One3.size a

/-- Reading the one entry of a reduction and adding one. -/
theorem top_of (one : One.ShapeCasts One3) (pos : ∀ a, (![0, 0, 0] : Fin 3 → ℕ) a < One3.size a) (Z : FVec Ideal One .f32) :
    Scalar.addf (F := Ideal) (φ := .f32) (extractAt ![0, 0, 0] (shapeCast One3 Z one) pos) (Scalar.ofBits .f32 0x3F800000#32)
      = (Z (ix1 0) : EReal) + 1 := by
  have h : Scalar.addf (F := Ideal) (φ := .f32) (extractAt ![0, 0, 0] (shapeCast One3 Z one) pos) (Scalar.ofBits .f32 0x3F800000#32)
      = (Z (ix1 0) : EReal) + Ideal.ofBits .f32 0x3F800000#32 := by
    pointwise []
  rw [h, Ideal.ofBits_one_f32]

/-- Comparing the one entry of a count with the number wanted. -/
theorem ask_of (one : One.ShapeCasts One3) (pos : ∀ a, (![0, 0, 0] : Fin 3 → ℕ) a < One3.size a) (Z : IVec One 32) :
    Scalar.cmpi .sge (extractAt ![0, 0, 0] (shapeCast One3 Z one) pos) 1000#32
      = IntOp.cmpi .sge (Z (ix1 0)) 1000#32 := by
  pointwise []
  rfl

/-- A block's entries, out of and back into their leading axis. -/
theorem back_eq (h : Tile R) (w : FVec Ideal (Blk R) .f32) : shapeCast (Blk R) (shapeCast (Rows R) w h.drop) h.back = w := by
  funext y
  obtain ⟨r, l, rfl⟩ := eta3 y
  pointwise []

/-- The upper end at the start: the greatest entry plus one. -/
theorem top_eq (h : Tile R) (w : FVec Ideal (Blk R) .f32) :
    Scalar.addf (F := Ideal) (φ := .f32) (extractAt ![0, 0, 0] (shapeCast One3 (multiReduction (F := Ideal) .maximumf [1, 2] One
      (shapeCast (Blk R) (shapeCast (Rows R) w h.drop) h.back) 0xFF800000#32 h.red (.inl rfl) rfl) h.one) h.pos)
      (Scalar.ofBits .f32 0x3F800000#32) = Finset.univ.fold max (⊥ : EReal) w + 1 := by
  rw [top_of, back_eq h]
  exact congrArg (fun q : EReal => q + 1) (max_at h.red w (.inl rfl) rfl (ix1 0))

/-- The words of the entries at least `q`. -/
theorem bits_at (h : Tile R) (w : FVec Ideal (Blk R) .f32) (q : EReal) (y : (Blk R).Idx) :
    shapeCast (Blk R) (select (cmpf .oge (shapeCast (Rows R) w h.drop) (broadcast (Rows R) q))
      (broadcast (Rows R) 1#32) (broadcast (Rows R) 0#32)) h.back y = if q ≤ w y then 1#32 else 0#32 := by
  obtain ⟨r, l, rfl⟩ := eta3 y
  pointwise []

/-- Comparing a count with the number wanted, as signed words. -/
theorem sge_words {a b : ℕ} (ha : a < 2 ^ 31) (hb : b < 2 ^ 31) :
    IntOp.cmpi CmpIPredicate.sge (BitVec.ofNat 32 a) (BitVec.ofNat 32 b) = BitVec.ofBool (decide (b ≤ a)) :=
  sle_words hb ha

/-- Whether at least a thousand entries are at least `q`. -/
def ask (h : Tile R) (w : FVec Ideal (Blk R) .f32) (q : EReal) : BitVec 1 :=
  Scalar.cmpi .sge (extractAt ![0, 0, 0] (shapeCast One3 (multiReductionI .add [1, 2] One
    (shapeCast (Blk R) (select (cmpf .oge (shapeCast (Rows R) w h.drop) (broadcast (Rows R) q))
      (broadcast (Rows R) 1#32) (broadcast (Rows R) 0#32)) h.back) 0#32 h.red rfl)
    h.one) h.pos) 1000#32

/-- It is what its name says. -/
theorem ask_eq (h : Tile R) (w : FVec Ideal (Blk R) .f32) (q : EReal) : ask h w q = BitVec.ofBool (decide (1000 ≤ cntB w q)) := by
  unfold ask
  rw [ask_of]
  obtain ⟨hs, hb⟩ := sum_at h.red h.small _ (fun y => q ≤ w y) (bits_at h w q) rfl (ix1 0)
  refine (congrArg (fun z => IntOp.cmpi .sge z 1000#32) hs).trans ?_
  exact sge_words hb (by norm_num)

/-- The middle of the interval. -/
def mid (lo hi : EReal) : EReal := Ideal.ofBits .f32 0x3F000000#32 * (lo + hi)

/-- One trip of the loop halves the interval. -/
theorem step_eq (h : Tile R) (w : FVec Ideal (Blk R) .f32) (lo hi : EReal) :
    (Scalar.select (ask h w (mid lo hi)) (mid lo hi) lo, Scalar.select (ask h w (mid lo hi)) hi (mid lo hi)) = halve 1000 (cntB w) (lo, hi) := by
  rw [ask_eq]
  unfold mid
  rw [half_lit]
  unfold halve
  by_cases h : 1000 ≤ cntB w (((1 / 2 : ℝ) : EReal) * (lo + hi))
  · rw [if_pos h, decide_eq_true h]; rfl
  · rw [if_neg h, decide_eq_false h]; rfl

/-- The lower end that 64 trips leave. -/
def low (w : FVec Ideal (Blk R) .f32) : EReal :=
  ((halve 1000 (cntB w))^[64] (((-10000 : ℝ) : EReal), Finset.univ.fold max (⊥ : EReal) w + 1)).1

/-- A fold that halves at each trip iterates the halving. -/
theorem fold_iter {α : Type} (n : ℕ) (f : α → α) (g : Fin n → α → α) (hg : ∀ k a, g k a = f a) (a : α) :
    Scf.fold g a = f^[n] a := by
  rw [Scf.fold_eq]
  have : ∀ (l : List (Fin n)) (a : α), l.foldl (fun acc k => g k acc) a = f^[l.length] a := by
    intro l
    induction l with
    | nil => intro a; rfl
    | cons k l ih => intro a; rw [List.foldl_cons, ih, hg]; rfl
  rw [this, List.length_finRange]

/-- One image's slab. -/
def slab (X : FVec Ideal ⟨3, ![2, R, 128]⟩ .f32) (b : Fin 2) : FVec Ideal (Blk R) .f32 := fun y => X (ix3 b (y 1) (y 2))

/-- Reading the rows of lanes. -/
theorem rows_at {P : ℕ} (hP : P = R * 128) (Y : FVec Ideal ⟨2, ![2, P]⟩ .f32) (hc : (⟨2, ![2, P]⟩ : Shape).ShapeCasts ⟨3, ![2, R, 128]⟩) (b : Fin 2) (r : Fin R) (l : Fin 128) :
    shapeCast ⟨3, ![2, R, 128]⟩ Y hc (ix3 b r l) = Y (ix2 b ⟨r.val * 128 + l.val, by omega⟩) := by
  refine shapeCast_apply Y hc _ _ ?_
  rw [Shape.rowMajor_val_two, Shape.rowMajor_val_three]
  show b.val * P + (r.val * 128 + l.val) = (b.val * R + r.val) * 128 + l.val
  rw [hP]
  ring

/-- Reading padded entries where there is one. -/
theorem pad_in {N P d : ℕ} (X : FVec Ideal ⟨2, ![2, N]⟩ .f32) (z : FVec Ideal ⟨0, ![]⟩ .f32) (hp : (⟨2, ![2, N]⟩ : Shape).Pads ![0, 0] ![0, d] ![0, 0] ⟨2, ![2, P]⟩)
    (hu : 0 < (⟨0, ![]⟩ : Shape).numel) (b : Fin 2) (q : Fin P) (hq : q.val < N) :
    pad ⟨2, ![2, P]⟩ ![0, 0] ![0, d] ![0, 0] X z hp hu (ix2 b q) = X (ix2 b ⟨q.val, hq⟩) := by
  pointwise []
  rw [dif_pos hq]
  refine congrArg X (funext fun a => Fin.ext ?_)
  match a with
  | ⟨0, _⟩ => show (b.val - 0) / (0 + 1) = b.val; simp
  | ⟨1, _⟩ => show (q.val - 0) / (0 + 1) = q.val; simp

/-- Reading them after the last one. -/
theorem pad_out {N P d : ℕ} (X : FVec Ideal ⟨2, ![2, N]⟩ .f32) (z : FVec Ideal ⟨0, ![]⟩ .f32) (hp : (⟨2, ![2, N]⟩ : Shape).Pads ![0, 0] ![0, d] ![0, 0] ⟨2, ![2, P]⟩)
    (hu : 0 < (⟨0, ![]⟩ : Shape).numel) (b : Fin 2) (q : Fin P) (hq : N ≤ q.val) :
    pad ⟨2, ![2, P]⟩ ![0, 0] ![0, d] ![0, 0] X z hp hu (ix2 b q) = z (Shape.Idx.first hu) := by
  pointwise []
  exact dif_neg (by omega)

/-- A slab of the array a launch reads holds a row and the padding after it. -/
theorem padded {N P d : ℕ} (X : FVec Ideal ⟨2, ![2, N]⟩ .f32) (z : FVec Ideal ⟨0, ![]⟩ .f32) (hp : (⟨2, ![2, N]⟩ : Shape).Pads ![0, 0] ![0, d] ![0, 0] ⟨2, ![2, P]⟩)
    (hu : 0 < (⟨0, ![]⟩ : Shape).numel) (hP : P = R * 128) (hN : N ≤ P) (hc : (⟨2, ![2, P]⟩ : Shape).ShapeCasts ⟨3, ![2, R, 128]⟩) (b : Fin 2) :
    Padded (fun i => X (ix2 b i)) (slab (shapeCast ⟨3, ![2, R, 128]⟩ (pad ⟨2, ![2, P]⟩ ![0, 0] ![0, d] ![0, 0] X z hp hu) hc) b) (z (Shape.Idx.first hu)) where
  le := hP ▸ hN
  hin i r l h := (rows_at hP _ hc b r l).trans ((pad_in X z hp hu b _ (by show r.val * 128 + l.val < N; omega)).trans (congrArg (fun j => X (ix2 b j)) (Fin.ext h)))
  hout r l h := (rows_at hP _ hc b r l).trans (pad_out X z hp hu b _ h)

end Cert.Proof.SelBlk
-- ==== Proof.SelK.lean ====
/- The selection's two launches: each block's bisection, and the thresholds the launches leave. -/
module

public import proofs.«01_k».proof.Proof.SelBlk
public import proofs.«01_k».proof.Proof.ThrKI
public import Idealize.ShloMosaic.Lib.Pointwise
public import Idealize.ShloMosaic.Lib.Pipeline.ValueKit
public import Idealize.ShloMosaic.Lib.WritesUnit
public import Idealize.ShloMosaic.Lib.WholeRead
public import Idealize.ShloMosaic.Lib.StableHlo.RunRead

@[expose] public section

set_option maxRecDepth 16384

noncomputable section

namespace Cert.Proof.KernelIdeal.Pick

open Cert.KernelIdeal Cert.KernelIdeal.Gen Cert.Proof.Select Cert.Proof.SelBody Cert.Proof.SelBlk
open Idealize.ShloMosaic Idealize.ShloMosaic.TcCoe Idealize.SL.Sem

/-- The whole of a block, read at once. -/
theorem whole_read {R : ℕ} {arg : Memref sig .tc .vmem ⟨3, ![1, R, 128]⟩ .f32} (harg : arg.IsWhole) (w : FVec Ideal ⟨3, ![1, R, 128]⟩ .f32)
    (hin : ∀ a, (![0, 0, 0] : Fin 3 → ℕ) a + (![1, R, 128] : Fin 3 → ℕ) a ≤ (⟨3, ![1, R, 128]⟩ : Shape).size a) :
    View.readAt (Elt Ideal) arg.view (Rect.unit ![0, 0, 0] ![1, R, 128] hin).toLoadRect (harg.unread w) = w := by
  funext y
  refine Eq.trans (b := w ((Rect.unit ![0, 0, 0] ![1, R, 128] hin).idx y)) (Memref.IsWhole.readAt_unread (Val := Elt Ideal) harg w _ y) (congrArg w ?_)
  funext a
  refine Fin.ext ?_
  fin_cases a <;> simp

/-- One entry's only index. -/
theorem eta1 (y : (⟨3, ![1, 1, 1]⟩ : Shape).Idx) : y = ix3 (0 : Fin 1) 0 0 := by
  funext a
  match a with
  | 0 => exact Subsingleton.elim (α := Fin 1) _ _
  | 1 => exact Subsingleton.elim (α := Fin 1) _ _
  | 2 => exact Subsingleton.elim (α := Fin 1) _ _

/-- The array of thresholds of a launch that reads `X`. -/
def lows {R : ℕ} (X : FVec Ideal ⟨3, ![2, R, 128]⟩ .f32) : FVec Ideal ⟨3, ![2, 1, 1]⟩ .f32 := fun y => low (slab X (y 0))

/-- The shapes of level 0's block. -/
theorem tile0 : Tile 1256 where
  small := by norm_num
  drop := shapeCasts_S1x1256x128_S1256x128
  back := shapeCasts_S1256x128_S1x1256x128
  red := reduces_S1x1256x128_S1
  one := shapeCasts_S1_S1x1x1
  pos := inpos_S1x1x1_p0_0_0

/-- What level 0's body leaves in its block. -/
theorem out0_at (c : Dev nD) (i : grid0.Coords) (arg1 : Memref sig .tc .vmem S1x1256x128 .f32) (harg1 : arg1.IsWhole) (arg2 : Memref sig .tc .smem S1x1x1 .f32)
    (harg2 : arg2.IsWhole) (w : FVec Ideal S1x1256x128 .f32) :
    thr0 (F := Ideal) c i arg1 harg1 arg2 harg2 w (ix3 0 0 0) = low w := by
  unfold thr0 bis0
  refine (View.read_writes_cons_unit_of_mem VT0 _ _ _ _ (ix3 0 0 0) (ix3 0 0 0) rfl ?_).trans ?_
  · intro a; fin_cases a <;> simp
  unfold bis0.sl.r
  dsimp only
  rw [whole_read harg1 w]
  have hc : (bis0.sl.cst_3 : Ideal .f32) = ((-10000 : ℝ) : EReal) := lo_lit
  have ht : k0_pay2 (F := Ideal) w = Finset.univ.fold max (⊥ : EReal) w + 1 := top_eq tile0 w
  rw [hc, ht]
  refine (congrArg Prod.fst (fold_iter k0_t1_loop.trips (halve 1000 (cntB w)) _ (fun _ a => step_eq tile0 w a.1 a.2) _)).trans ?_
  rw [show k0_t1_loop.trips = 64 by decide]
  rfl

/-- The array of thresholds after level 0's launch. -/
theorem final0 (V : (c : Dev nD) → (b : Ref sig .tc) → Buf (Elt Ideal) ((c : Thread nD τ).loc b)) (c : Dev nD) :
    (dat0 V c).arrAt 1 cfg0.N = lows (V c main_v2) := by
  refine (dat0 V c).arrAt_eq_of_covers 1 _ (by decide +kernel) fun t _ y => ?_
  obtain ⟨h0, h1⟩ : (∀ a, win0_0.index t a = ![t.val, 0, 0] a) ∧ (∀ a, win0_1.index t a = ![t.val, 0, 0] a) := by
    revert t; decide +kernel
  have ht : t.val < 2 := t.isLt
  blk_simp
  rw [after0_1]
  have e : (((cfg0.win 1).blk t).view.emb y : S2x1x1.Idx) = ix3 (⟨t.val, ht⟩ : Fin 2) (y 1) (y 2) := by
    blk_ext [h1]
  rw [e]
  refine ((congrArg (thrAt0 V c t) (eta1 y)).trans (out0_at c _ _ _ _ _ _)).trans (congrArg low ?_)
  funext z
  idx_vars z
  unfold slab
  blk_ext [iblk0, h0]

/-- The shapes of level 1's block. -/
theorem tile1 : Tile 320 where
  small := by norm_num
  drop := shapeCasts_S1x320x128_S320x128
  back := shapeCasts_S320x128_S1x320x128
  red := reduces_S1x320x128_S1
  one := shapeCasts_S1_S1x1x1
  pos := inpos_S1x1x1_p0_0_0

/-- What level 1's body leaves in its block. -/
theorem out1_at (c : Dev nD) (i : grid1.Coords) (arg1 : Memref sig .tc .vmem S1x320x128 .f32) (harg1 : arg1.IsWhole) (arg2 : Memref sig .tc .smem S1x1x1 .f32)
    (harg2 : arg2.IsWhole) (w : FVec Ideal S1x320x128 .f32) :
    thr1 (F := Ideal) c i arg1 harg1 arg2 harg2 w (ix3 0 0 0) = low w := by
  unfold thr1 bis1
  refine (View.read_writes_cons_unit_of_mem VT1 _ _ _ _ (ix3 0 0 0) (ix3 0 0 0) rfl ?_).trans ?_
  · intro a; fin_cases a <;> simp
  unfold bis1.sl.r
  dsimp only
  rw [whole_read harg1 w]
  have hc : (bis1.sl.cst_3 : Ideal .f32) = ((-10000 : ℝ) : EReal) := lo_lit
  have ht : k1_pay2 (F := Ideal) w = Finset.univ.fold max (⊥ : EReal) w + 1 := top_eq tile1 w
  rw [hc, ht]
  refine (congrArg Prod.fst (fold_iter k1_t1_loop.trips (halve 1000 (cntB w)) _ (fun _ a => step_eq tile1 w a.1 a.2) _)).trans ?_
  rw [show k1_t1_loop.trips = 64 by decide]
  rfl

/-- The array of thresholds after level 1's launch. -/
theorem final1 (V : (c : Dev nD) → (b : Ref sig .tc) → Buf (Elt Ideal) ((c : Thread nD τ).loc b)) (c : Dev nD) :
    (dat1 V c).arrAt 1 cfg1.N = lows (V c main_v49) := by
  refine (dat1 V c).arrAt_eq_of_covers 1 _ (by decide +kernel) fun t _ y => ?_
  obtain ⟨h0, h1⟩ : (∀ a, win1_0.index t a = ![t.val, 0, 0] a) ∧ (∀ a, win1_1.index t a = ![t.val, 0, 0] a) := by
    revert t; decide +kernel
  have ht : t.val < 2 := t.isLt
  blk_simp
  rw [after1_1]
  have e : (((cfg1.win 1).blk t).view.emb y : S2x1x1.Idx) = ix3 (⟨t.val, ht⟩ : Fin 2) (y 1) (y 2) := by
    blk_ext [h1]
  rw [e]
  refine ((congrArg (thrAt1 V c t) (eta1 y)).trans (out1_at c _ _ _ _ _ _)).trans (congrArg low ?_)
  funext z
  idx_vars z
  unfold slab
  blk_ext [iblk1, h0]

end Cert.Proof.KernelIdeal.Pick
-- ==== Proof.SelTail.lean ====
/- The lines after each of the selection's launches: the places compacted from the mask. -/
module

public import proofs.«01_k».proof.Proof.SelHost
public import proofs.«01_k».proof.Proof.Gen.KernelIdeal.Regions
public import Idealize.ShloMosaic.Lib.StableHlo.RunRead

@[expose] public section

set_option maxRecDepth 16384

noncomputable section

namespace Cert.Proof.KernelIdeal.Pick

open Cert.KernelIdeal Cert.KernelIdeal.Gen Cert.Proof.SelHost
open Idealize.ShloMosaic Idealize.ShloMosaic.TcCoe Idealize.SL.Sem

/-- The shapes of level 0. -/
theorem fits0 : Fits 160000 159999 where
  last := rfl
  small := by norm_num
  big := by norm_num
  b1N := bcast_S2x1_S2x160000_0_1
  red := reducesTo_S2x160000_S2_d1
  b21 := bcast_S2_S2x1_0
  b00 := bcast_S_S_
  rw := reduceWindows_S2x160000_S2x160000_w1s1p0_0_w160000s1p159999_0
  rw1 := by decide
  b01 := bcast_S_S2x1
  b0N := bcast_S_S2x160000
  b0R := bcast_S_S2x1001
  bN := bcast_S160000_S1x160000_1
  bNN := bcast_S1x160000_S2x160000_0_1
  bN1 := bcast_S2x160000_S2x160000x1_0_1
  conc := concatenates_S2x160000x1_S2x160000x1_S2x160000x2_d2
  sl := slices_S2x1001_S2x1000_0_0
  wf := scatter_S2x1001_S2x160000x2_S2x160000_n_01_01_2_wf
  hu := h_S_
  hw := natLt_1_32

/-- The shapes of level 1. -/
theorem fits1 : Fits 40000 39999 where
  last := rfl
  small := by norm_num
  big := by norm_num
  b1N := bcast_S2x1_S2x40000_0_1
  red := reducesTo_S2x40000_S2_d1
  b21 := bcast_S2_S2x1_0
  b00 := bcast_S_S_
  rw := reduceWindows_S2x40000_S2x40000_w1s1p0_0_w40000s1p39999_0
  rw1 := by decide
  b01 := bcast_S_S2x1
  b0N := bcast_S_S2x40000
  b0R := bcast_S_S2x1001
  bN := bcast_S40000_S1x40000_1
  bNN := bcast_S1x40000_S2x40000_0_1
  bN1 := bcast_S2x40000_S2x40000x1_0_1
  conc := concatenates_S2x40000x1_S2x40000x1_S2x40000x2_d2
  sl := slices_S2x1001_S2x1000_0_0
  wf := scatter_S2x1001_S2x40000x2_S2x40000_n_01_01_2_wf
  hu := h_S_
  hw := natLt_1_32

variable (V : Valuation τ sig (Elt Ideal))

/-- The thresholds of level 0, as a column. -/
def thr0 : FVec Ideal S2x1 .f32 := shapeCast S2x1 (V (Proc.devRef .tc main_v3)) shapeCasts_S2x1x1_S2x1

/-- Level 0's lines after its launch leave the selected places in order. -/
theorem tail0 : StableHlo.after hostOps1_6 (StableHlo.after hostOps1_5 (StableHlo.after hostOps1_4 (StableHlo.after hostOps1_3 (StableHlo.after hostOps1_2 (StableHlo.after hostOps1_1 (StableHlo.after hostOps1 V)))))) (Proc.devRef .tc main_v46)
    = outW fits0 (V (Proc.devRef .tc main_v0)) (thr0 V) := by
  -- the two masks, what is wanted, the second mask's words
  have a : StableHlo.after hostOps1 V (Proc.devRef .tc main_v6) = gtW fits0 (V (Proc.devRef .tc main_v0)) (thr0 V)
      ∧ StableHlo.after hostOps1 V (Proc.devRef .tc main_v8) = eqW fits0 (V (Proc.devRef .tc main_v0)) (thr0 V)
      ∧ StableHlo.after hostOps1 V (Proc.devRef .tc main_v11) = broadcastInDim S2x1 ![0] bcast_S2_S2x1_0 (sumW fits0 (gtW fits0 (V (Proc.devRef .tc main_v0)) (thr0 V)))
      ∧ StableHlo.after hostOps1 V (Proc.devRef .tc main_v12) = extui 32 (eqW fits0 (V (Proc.devRef .tc main_v0)) (thr0 V)) natLt_1_32 := by
    refine ⟨?_, ?_, ?_, ?_⟩ <;> (after_reads_simp; rfl)
  -- a running count; the masks and the wanted number stay
  have b : ∀ V : Valuation τ sig (Elt Ideal), StableHlo.after hostOps1_1 V (Proc.devRef .tc main_v13) = Host.reduceWindow IntOp.addi ![1, 160000] ![1, 1] ![0, 159999] ![0, 0] (V (Proc.devRef .tc main_v12) : IVec S2x160000 32) (broadcastInDim S_ ![] bcast_S_S_ (constantI S_ 32 0#32)) reduceWindows_S2x160000_S2x160000_w1s1p0_0_w160000s1p159999_0 h_S_
      ∧ StableHlo.after hostOps1_1 V (Proc.devRef .tc main_v6) = V (Proc.devRef .tc main_v6)
      ∧ StableHlo.after hostOps1_1 V (Proc.devRef .tc main_v8) = V (Proc.devRef .tc main_v8)
      ∧ StableHlo.after hostOps1_1 V (Proc.devRef .tc main_v11) = V (Proc.devRef .tc main_v11) := by
    intro V
    refine ⟨?_, ?_, ?_, ?_⟩
    · after_reads_simp
      simp only [StableHlo.TRef.toBuf, StableHlo.TRef.ofBuf]
      refine (cast_eq rfl _).trans ?_
      congr 1
    all_goals after_reads_simp
  -- the mask and its words
  have c : ∀ V : Valuation τ sig (Elt Ideal), StableHlo.after hostOps1_2 V (Proc.devRef .tc main_v19) = joinW fits0 (V (Proc.devRef .tc main_v6)) (V (Proc.devRef .tc main_v8)) (V (Proc.devRef .tc main_v13)) (subi (broadcastInDim S2x1 ![] bcast_S_S2x1 (constantI S_ 32 1000#32)) (V (Proc.devRef .tc main_v11)))
      ∧ StableHlo.after hostOps1_2 V (Proc.devRef .tc main_v20) = extui 32 (joinW fits0 (V (Proc.devRef .tc main_v6)) (V (Proc.devRef .tc main_v8)) (V (Proc.devRef .tc main_v13)) (subi (broadcastInDim S2x1 ![] bcast_S_S2x1 (constantI S_ 32 1000#32)) (V (Proc.devRef .tc main_v11)))) natLt_1_32 := by
    intro V
    refine ⟨?_, ?_⟩ <;> (after_reads_simp; rfl)
  -- the mask's running count
  have d : ∀ V : Valuation τ sig (Elt Ideal), StableHlo.after hostOps1_3 V (Proc.devRef .tc main_v21) = Host.reduceWindow IntOp.addi ![1, 160000] ![1, 1] ![0, 159999] ![0, 0] (V (Proc.devRef .tc main_v20) : IVec S2x160000 32) (broadcastInDim S_ ![] bcast_S_S_ (constantI S_ 32 0#32)) reduceWindows_S2x160000_S2x160000_w1s1p0_0_w160000s1p159999_0 h_S_
      ∧ StableHlo.after hostOps1_3 V (Proc.devRef .tc main_v19) = V (Proc.devRef .tc main_v19) := by
    intro V
    refine ⟨?_, ?_⟩
    · after_reads_simp
      simp only [StableHlo.TRef.toBuf, StableHlo.TRef.ofBuf]
      refine (cast_eq rfl _).trans ?_
      congr 1
    all_goals after_reads_simp
  -- the running count less one
  have e : ∀ V : Valuation τ sig (Elt Ideal), StableHlo.after hostOps1_4 V (Proc.devRef .tc main_v23) = subi (V (Proc.devRef .tc main_v21)) (broadcastInDim S2x160000 ![] bcast_S_S2x160000 (constantI S_ 32 1#32))
      ∧ StableHlo.after hostOps1_4 V (Proc.devRef .tc main_c_2) = constantI S_ 32 1000#32
      ∧ StableHlo.after hostOps1_4 V (Proc.devRef .tc main_v19) = V (Proc.devRef .tc main_v19) := by
    intro V
    refine ⟨?_, ?_, ?_⟩ <;> (after_reads_simp; try rfl)
  -- each entry's place
  have f : ∀ V : Valuation τ sig (Elt Ideal), StableHlo.after hostOps1_5 V (Proc.devRef .tc main_v24)
      = select (V (Proc.devRef .tc main_v19) : IVec S2x160000 1) (V (Proc.devRef .tc main_v23) : IVec S2x160000 32) (broadcastInDim S2x160000 ![] bcast_S_S2x160000 (id (V (Proc.devRef .tc main_c_2) : IVec S_ 32))) := by
    intro V
    after_reads_simp
    rfl
  -- the scatter and the cut
  have z : ∀ V : Valuation τ sig (Elt Ideal), StableHlo.after hostOps1_6 V (Proc.devRef .tc main_v46)
      = extractStridedSlice S2x1000 ![0, 0] (putW fits0 (idxW fits0 (V (Proc.devRef .tc main_v24)))) slices_S2x1001_S2x1000_0_0 := by
    intro V
    after_reads_simp
    rfl
  rw [z, f, (e _).1, (e _).2.1, (e _).2.2, (d _).1, (d _).2, (c _).1, (c _).2, (b _).1, (b _).2.1, (b _).2.2.1, (b _).2.2.2, a.1, a.2.1, a.2.2.1, a.2.2.2]
  rfl

/-- The thresholds of level 1, as a column. -/
def thr1 : FVec Ideal S2x1 .f32 := shapeCast S2x1 (V (Proc.devRef .tc main_v50)) shapeCasts_S2x1x1_S2x1

/-- Level 1's lines after its launch leave the selected places in order. -/
theorem tail1 : StableHlo.after hostOps2_6 (StableHlo.after hostOps2_5 (StableHlo.after hostOps2_4 (StableHlo.after hostOps2_3 (StableHlo.after hostOps2_2 (StableHlo.after hostOps2_1 (StableHlo.after hostOps2 V)))))) (Proc.devRef .tc main_v93)
    = outW fits1 (V (Proc.devRef .tc main_v47)) (thr1 V) := by
  -- the two masks, what is wanted, the second mask's words
  have a : StableHlo.after hostOps2 V (Proc.devRef .tc main_v53) = gtW fits1 (V (Proc.devRef .tc main_v47)) (thr1 V)
      ∧ StableHlo.after hostOps2 V (Proc.devRef .tc main_v55) = eqW fits1 (V (Proc.devRef .tc main_v47)) (thr1 V)
      ∧ StableHlo.after hostOps2 V (Proc.devRef .tc main_v58) = broadcastInDim S2x1 ![0] bcast_S2_S2x1_0 (sumW fits1 (gtW fits1 (V (Proc.devRef .tc main_v47)) (thr1 V)))
      ∧ StableHlo.after hostOps2 V (Proc.devRef .tc main_v59) = extui 32 (eqW fits1 (V (Proc.devRef .tc main_v47)) (thr1 V)) natLt_1_32 := by
    refine ⟨?_, ?_, ?_, ?_⟩ <;> (after_reads_simp; rfl)
  -- a running count; the masks and the wanted number stay
  have b : ∀ V : Valuation τ sig (Elt Ideal), StableHlo.after hostOps2_1 V (Proc.devRef .tc main_v60) = Host.reduceWindow IntOp.addi ![1, 40000] ![1, 1] ![0, 39999] ![0, 0] (V (Proc.devRef .tc main_v59) : IVec S2x40000 32) (broadcastInDim S_ ![] bcast_S_S_ (constantI S_ 32 0#32)) reduceWindows_S2x40000_S2x40000_w1s1p0_0_w40000s1p39999_0 h_S_
      ∧ StableHlo.after hostOps2_1 V (Proc.devRef .tc main_v53) = V (Proc.devRef .tc main_v53)
      ∧ StableHlo.after hostOps2_1 V (Proc.devRef .tc main_v55) = V (Proc.devRef .tc main_v55)
      ∧ StableHlo.after hostOps2_1 V (Proc.devRef .tc main_v58) = V (Proc.devRef .tc main_v58) := by
    intro V
    refine ⟨?_, ?_, ?_, ?_⟩
    · after_reads_simp
      simp only [StableHlo.TRef.toBuf, StableHlo.TRef.ofBuf]
      refine (cast_eq rfl _).trans ?_
      congr 1
    all_goals after_reads_simp
  -- the mask and its words
  have c : ∀ V : Valuation τ sig (Elt Ideal), StableHlo.after hostOps2_2 V (Proc.devRef .tc main_v66) = joinW fits1 (V (Proc.devRef .tc main_v53)) (V (Proc.devRef .tc main_v55)) (V (Proc.devRef .tc main_v60)) (subi (broadcastInDim S2x1 ![] bcast_S_S2x1 (constantI S_ 32 1000#32)) (V (Proc.devRef .tc main_v58)))
      ∧ StableHlo.after hostOps2_2 V (Proc.devRef .tc main_v67) = extui 32 (joinW fits1 (V (Proc.devRef .tc main_v53)) (V (Proc.devRef .tc main_v55)) (V (Proc.devRef .tc main_v60)) (subi (broadcastInDim S2x1 ![] bcast_S_S2x1 (constantI S_ 32 1000#32)) (V (Proc.devRef .tc main_v58)))) natLt_1_32 := by
    intro V
    refine ⟨?_, ?_⟩ <;> (after_reads_simp; rfl)
  -- the mask's running count
  have d : ∀ V : Valuation τ sig (Elt Ideal), StableHlo.after hostOps2_3 V (Proc.devRef .tc main_v68) = Host.reduceWindow IntOp.addi ![1, 40000] ![1, 1] ![0, 39999] ![0, 0] (V (Proc.devRef .tc main_v67) : IVec S2x40000 32) (broadcastInDim S_ ![] bcast_S_S_ (constantI S_ 32 0#32)) reduceWindows_S2x40000_S2x40000_w1s1p0_0_w40000s1p39999_0 h_S_
      ∧ StableHlo.after hostOps2_3 V (Proc.devRef .tc main_v66) = V (Proc.devRef .tc main_v66) := by
    intro V
    refine ⟨?_, ?_⟩
    · after_reads_simp
      simp only [StableHlo.TRef.toBuf, StableHlo.TRef.ofBuf]
      refine (cast_eq rfl _).trans ?_
      congr 1
    all_goals after_reads_simp
  -- the running count less one
  have e : ∀ V : Valuation τ sig (Elt Ideal), StableHlo.after hostOps2_4 V (Proc.devRef .tc main_v70) = subi (V (Proc.devRef .tc main_v68)) (broadcastInDim S2x40000 ![] bcast_S_S2x40000 (constantI S_ 32 1#32))
      ∧ StableHlo.after hostOps2_4 V (Proc.devRef .tc main_c_12) = constantI S_ 32 1000#32
      ∧ StableHlo.after hostOps2_4 V (Proc.devRef .tc main_v66) = V (Proc.devRef .tc main_v66) := by
    intro V
    refine ⟨?_, ?_, ?_⟩ <;> (after_reads_simp; try rfl)
  -- each entry's place
  have f : ∀ V : Valuation τ sig (Elt Ideal), StableHlo.after hostOps2_5 V (Proc.devRef .tc main_v71)
      = select (V (Proc.devRef .tc main_v66) : IVec S2x40000 1) (V (Proc.devRef .tc main_v70) : IVec S2x40000 32) (broadcastInDim S2x40000 ![] bcast_S_S2x40000 (id (V (Proc.devRef .tc main_c_12) : IVec S_ 32))) := by
    intro V
    after_reads_simp
    rfl
  -- the scatter and the cut
  have z : ∀ V : Valuation τ sig (Elt Ideal), StableHlo.after hostOps2_6 V (Proc.devRef .tc main_v93)
      = extractStridedSlice S2x1000 ![0, 0] (putW fits1 (idxW fits1 (V (Proc.devRef .tc main_v71)))) slices_S2x1001_S2x1000_0_0 := by
    intro V
    after_reads_simp
    rfl
  rw [z, f, (e _).1, (e _).2.1, (e _).2.2, (d _).1, (d _).2, (c _).1, (c _).2, (b _).1, (b _).2.1, (b _).2.2.1, (b _).2.2.2, a.1, a.2.1, a.2.2.1, a.2.2.2]
  rfl

end Cert.Proof.KernelIdeal.Pick
-- ==== Proof.SelPre.lean ====
/- What the selection's precondition says of a row, and the selection's two ways of listing it. -/
module

public import proofs.«01_k».proof.Defs
public import proofs.«01_k».proof.Proof.SelBody
public import proofs.«01_k».proof.Proof.SelHost
public import proofs.«01_k».proof.Proof.SelRef
public import Idealize.ShloMosaic.Lib.Pointwise

@[expose] public section

set_option maxRecDepth 16384

noncomputable section

namespace Cert.Proof.SelPre

open Cert.Proof.Select Cert.Proof.SelBody Cert.Proof.SelHost Cert.Proof.SelRef
open Idealize.ShloMosaic

variable {N : ℕ}

/-- The listing reaches every place. -/
theorem listing_surj (x : Fin N → EReal) : Function.Surjective (listing x) := Finite.injective_iff_surjective.mp (listing_inj x)

/-- What the precondition gives of a row: its greatest entry finite, its thousandth bounded below, and between the thousandth
    and the next one room for what 64 halvings leave of the interval. -/
structure Alone (x : Fin N → EReal) (hN : 1000 < N) : Prop where
  /-- The greatest entry is not infinite. -/
  high : x (listing x ⟨0, by omega⟩) < ⊤
  /-- The thousandth is in range. -/
  low : ((-10000 : ℝ) : EReal) ≤ x (listing x ⟨999, by omega⟩)
  /-- The interval left fits between it and the next one. -/
  gap : (x (listing x ⟨0, by omega⟩) + ((10001 : ℝ) : EReal)) * ((1 / 2 ^ 64 : ℝ) : EReal) ≤ x (listing x ⟨999, by omega⟩) - x (listing x ⟨1000, hN⟩)

/-- Every entry is at most the greatest. -/
theorem le_first (x : Fin N → EReal) (hN : 0 < N) (i : Fin N) : x i ≤ x (listing x ⟨0, hN⟩) := by
  obtain ⟨j, rfl⟩ := listing_surj x i
  rcases Nat.eq_zero_or_pos j.val with h0 | h0
  · have : j = ⟨0, hN⟩ := Fin.ext h0
    rw [this]
  · exact listing_down x ⟨0, hN⟩ j h0

/-- So the greatest entry and the thousandth are real, and the thousandth stands above the rest. -/
theorem Alone.listed {x : Fin N → EReal} {hN : 1000 < N} (h : Alone x hN) :
    ∃ v ε B : ℝ, Listed 1000 x (listing x) v ε ∧ (B + 10001) / 2 ^ 64 ≤ ε ∧ -10000 ≤ v ∧ ∀ i, x i ≤ (B : EReal) := by
  have h0 := h.high
  have h1 := h.low
  have h2 := le_first x (by omega) (listing x ⟨999, by omega⟩)
  have h3 := h.gap
  have hall := le_first x (by omega)
  have h4 := listing_down x ⟨999, by omega⟩ ⟨1000, hN⟩ (by show 999 < 1000; omega)
  generalize hb : x (listing x ⟨0, by omega⟩) = b at h0 h2 h3 hall
  generalize hk : x (listing x ⟨999, by omega⟩) = k at h1 h2 h3 h4
  have hk1 : k ≠ ⊥ := fun e => by rw [e] at h1; exact absurd h1 (not_le.mpr (EReal.bot_lt_coe _))
  have hk2 : k ≠ ⊤ := fun e => by rw [e] at h2; exact absurd h0 (not_lt.mpr h2)
  have hb1 : b ≠ ⊥ := fun e => by rw [e] at h2; exact hk1 (le_bot_iff.mp h2)
  lift k to ℝ using ⟨hk2, hk1⟩
  lift b to ℝ using ⟨h0.ne, hb1⟩
  rw [EReal.coe_le_coe_iff] at h1 h2
  refine ⟨k, (b + 10001) / 2 ^ 64, b, ⟨listing_inj x, listing_down x, by norm_num, hN, hk, ?_, ?_⟩, le_rfl, h1, hall⟩
  · generalize hn : x (listing x ⟨1000, hN⟩) = n at h3 h4 ⊢
    have hn2 : n ≠ ⊤ := fun e => by rw [e] at h4; exact absurd h4 (not_le.mpr (EReal.coe_lt_top _))
    by_cases hn1 : n = ⊥
    · rw [hn1, EReal.bot_add]; exact bot_le
    · lift n to ℝ using ⟨hn2, hn1⟩
      rw [← EReal.coe_add, ← EReal.coe_mul, ← EReal.coe_sub, EReal.coe_le_coe_iff] at h3
      rw [← EReal.coe_add, EReal.coe_le_coe_iff]
      have : (b + 10001) / 2 ^ 64 = (b + 10001) * (1 / 2 ^ 64) := by ring
      linarith
  · have : 0 < b + 10001 := by linarith
    positivity

/-- With a threshold that parts the selected entries from the others, the places the kernel lists are those the reference lists. -/
theorem same {n1 : ℕ} (h : Fits N n1) (X : FVec Ideal ⟨2, ![2, N]⟩ .f32) (T : FVec Ideal ⟨2, ![2, 1]⟩ .f32)
    (hs : (⟨2, ![2, N]⟩ : Shape).Slices (fun _ => 0) ⟨2, ![2, 1000]⟩)
    (hA : ∀ b, Alone (fun i => X (ix2 b i)) h.big)
    (hT : ∀ b i, Sel 1000 (listing fun i => X (ix2 b i)) i ↔ T (ix2 b 0) ≤ X (ix2 b i)) :
    outW h X T = Host.sort ⟨2, ![2, 1000]⟩ 1 (fun l r => IntOp.cmpi .slt l r) (Host.topK ⟨2, ![2, 1000]⟩ 1 (FloatOps.cmpfTotal (F := Ideal) (φ := .f32) .gt) X hs).2 := by
  have hk : ∀ b, cnt (fun i => X (ix2 b i)) (T (ix2 b 0)) = 1000 := fun b => by
    obtain ⟨v, ε, B, hl, -, -, -⟩ := (hA b).listed
    classical
    have := hl.card_sel
    rw [← this]
    unfold cnt
    refine congrArg Finset.card ?_
    ext i
    simp only [Finset.mem_filter, Finset.mem_univ, true_and]
    exact (hT b i).symm
  funext y
  obtain ⟨b, j, rfl⟩ : ∃ b j, y = ix2 b j := ⟨y 0, y 1, by
    funext a
    match a with
    | ⟨0, _⟩ => rfl
    | ⟨1, _⟩ => rfl⟩
  obtain ⟨f, hf, hsel, href⟩ := ref_at X hs (by have := h.big; omega) h.small b
  rw [href j]
  exact outW_at h X T hk b f hf (fun i => (hT b i).symm.trans (hsel i)) j

open Cert.Pre_kth_stands_alone in
/-- The shapes fit. -/
theorem facts : Cert.Pre_kth_stands_alone.Facts := by
  constructor <;> decide

attribute [local instance] facts

open Cert.Pre_kth_stands_alone in
/-- The precondition's words for one level. -/
def bitsW (X : FVec Ideal ⟨2, ![2, N]⟩ .f32) (hs : (⟨2, ![2, N]⟩ : Shape).Slices (fun _ => 0) S2x1001) : IVec S2 1 :=
  let t := (Host.topK S2x1001 1 (FloatOps.cmpfTotal (F := Ideal) (φ := .f32) .gt) X hs).1
  let l : FVec Ideal S2 .f32 := shapeCast S2 (extractStridedSlice S2x1 ![0, 0] t Facts.slices_S2x1001_S2x1_0_0) Facts.shapeCasts_S2x1_S2
  let k : FVec Ideal S2 .f32 := shapeCast S2 (extractStridedSlice S2x1 ![0, 999] t Facts.slices_S2x1001_S2x1_0_999) Facts.shapeCasts_S2x1_S2
  let f : FVec Ideal S2 .f32 := shapeCast S2 (extractStridedSlice S2x1 ![0, 1000] t Facts.slices_S2x1001_S2x1_0_1000) Facts.shapeCasts_S2x1_S2
  andi (andi (cmpf .olt l (broadcastInDim S2 ![] Facts.bcast_S_S2 (constant S_ .f32 0x7F800000#32))) (cmpf .oge k (broadcastInDim S2 ![] Facts.bcast_S_S2 (constant S_ .f32 0xC61C4000#32))))
    (cmpf .ole (mulf (addf l (broadcastInDim S2 ![] Facts.bcast_S_S2 (constant S_ .f32 0x461C4400#32))) (broadcastInDim S2 ![] Facts.bcast_S_S2 (constant S_ .f32 0x1F800000#32))) (subf k f))

open Cert.Pre_kth_stands_alone in
/-- They say that a row's thousandth entry stands alone. -/
theorem bitsW_at (X : FVec Ideal ⟨2, ![2, N]⟩ .f32) (hs : (⟨2, ![2, N]⟩ : Shape).Slices (fun _ => 0) S2x1001) (hN : 1000 < N) (hN' : N < 2 ^ 31) (b : Fin 2)
    (h : bitsW X hs (ix1 b) = 1#1) : Alone (fun i => X (ix2 b i)) hN := by
  have ht := topVal_at X hs (by omega) b
  have e0 := ht 0
  have e1 := ht 999
  have e2 := ht 1000
  have hd : ∀ p q r : Prop, ∀ [Decidable p] [Decidable q] [Decidable r],
      IntOp.andi (IntOp.andi (BitVec.ofBool (decide p)) (BitVec.ofBool (decide q))) (BitVec.ofBool (decide r)) = 1#1 → p ∧ q ∧ r := by
    intro p q r _ _ _ h
    by_cases hp : p <;> by_cases hq : q <;> by_cases hr : r <;> simp_all <;> revert h <;> decide
  unfold bitsW at h
  dsimp only at h
  generalize (Host.topK S2x1001 1 (FloatOps.cmpfTotal (F := Ideal) (φ := .f32) .gt) X hs).1 = t at h e0 e1 e2
  have hw : IntOp.andi (IntOp.andi (FloatOps.cmpf (F := Ideal) (φ := .f32) .olt (t (ix2 b 0)) (Ideal.ofBits .f32 0x7F800000#32))
        (FloatOps.cmpf (F := Ideal) (φ := .f32) .oge (t (ix2 b 999)) (Ideal.ofBits .f32 0xC61C4000#32)))
      (FloatOps.cmpf (F := Ideal) (φ := .f32) .ole (((t (ix2 b 0) : EReal) + Ideal.ofBits .f32 0x461C4400#32) * Ideal.ofBits .f32 0x1F800000#32 : EReal)
        ((t (ix2 b 999) : EReal) - t (ix2 b 1000) : EReal)) = 1#1 := by
    rw [← h]
    pointwise []
  obtain ⟨a, c, d⟩ := hd _ _ _ hw
  rw [inf_lit] at a
  rw [lo_lit] at c
  rw [off_lit, unit_lit] at d
  rw [e0] at a d
  rw [e1] at c d
  rw [e2] at d
  exact ⟨a, c, d⟩

open Cert.Pre_kth_stands_alone in
/-- Two levels' words, all set, are set on each. -/
theorem cat_at (p q : IVec S2 1) (hc : Shape.Concatenates [S2, S2] S4 0) (h : concatenate S4 0 [⟨S2, p⟩, ⟨S2, q⟩] hc = fun _ => 1#1) (b : Fin 2) :
    p (ix1 b) = 1#1 ∧ q (ix1 b) = 1#1 := by
  have h1 := congrFun h (ix1 ⟨b.val, by omega⟩)
  have h2 := congrFun h (ix1 ⟨2 + b.val, by omega⟩)
  constructor
  · rw [← h1]
    pointwise []
  · rw [← h2]
    pointwise []

open Cert.Pre_kth_stands_alone in
/-- The precondition, level by level. -/
theorem alone (X : FVec Ideal S2x200000 .f32) (X1 : FVec Ideal S2x200000x4 .f32) (X2 : FVec Ideal S200000x4 .f32) (h : fn (F := Ideal) X X1 X2 = fun _ => 1#1) (b : Fin 2) :
    Alone (fun i => extractStridedSlice S2x160000 ![0, 0] X Facts.slices_S2x200000_S2x160000_0_0 (ix2 b i)) (by norm_num : 1000 < 160000)
      ∧ Alone (fun i => extractStridedSlice S2x40000 ![0, 160000] X Facts.slices_S2x200000_S2x40000_0_160000 (ix2 b i)) (by norm_num : 1000 < 40000) := by
  have hf : fn (F := Ideal) X X1 X2 = concatenate S4 0 [⟨S2, bitsW (extractStridedSlice S2x160000 ![0, 0] X Facts.slices_S2x200000_S2x160000_0_0) Facts.sliceFits_S2x160000_S2x1001⟩,
      ⟨S2, bitsW (extractStridedSlice S2x40000 ![0, 160000] X Facts.slices_S2x200000_S2x40000_0_160000) Facts.sliceFits_S2x40000_S2x1001⟩] Facts.concatenates_S2_S2_S4_d0 := rfl
  rw [hf] at h
  obtain ⟨h1, h2⟩ := cat_at _ _ Facts.concatenates_S2_S2_S4_d0 h b
  exact ⟨bitsW_at _ _ _ (by norm_num) b h1, bitsW_at _ _ _ (by norm_num) b h2⟩

/-- The shapes of the predicate on the scores alone fit. -/
theorem facts1 : Cert.Pre_kth_alone.Facts := by
  constructor <;> decide

attribute [local instance] facts1

/-- That predicate, level by level. -/
theorem alone1 (X : FVec Ideal ⟨2, ![2, 200000]⟩ .f32) (h : Cert.Pre_kth_alone.fn (F := Ideal) X = fun _ => 1#1) (b : Fin 2) :
    Alone (fun i => extractStridedSlice ⟨2, ![2, 160000]⟩ ![0, 0] X Cert.Pre_kth_alone.Facts.slices_S2x200000_S2x160000_0_0 (ix2 b i)) (by norm_num : 1000 < 160000)
      ∧ Alone (fun i => extractStridedSlice ⟨2, ![2, 40000]⟩ ![0, 160000] X Cert.Pre_kth_alone.Facts.slices_S2x200000_S2x40000_0_160000 (ix2 b i)) (by norm_num : 1000 < 40000) :=
  alone X (fun _ => 0) (fun _ => 0) h b

end Cert.Proof.SelPre
-- ==== Proof.SelMain.lean ====
/- The selection's claims: the kernel's listing is the reference's. -/
module

public import proofs.«01_k».proof.Proof.SelK
public import proofs.«01_k».proof.Proof.SelTail
public import proofs.«01_k».proof.Proof.RunKI
public import proofs.«01_k».proof.Proof.SelPre
public import Idealize.ShloMosaic.Lib.StableHlo.Run
public import Idealize.ShloMosaic.Lib.StableHlo.RunRead

@[expose] public section

set_option maxRecDepth 16384

noncomputable section

namespace Cert.Proof.KernelIdeal.Pick

open Cert.KernelIdeal Cert.KernelIdeal.Gen Cert.Proof.Select Cert.Proof.SelBody Cert.Proof.SelBlk Cert.Proof.SelHost Cert.Proof.SelRef Cert.Proof.SelPre
open Idealize.ShloMosaic Idealize.ShloMosaic.TcCoe Idealize.SL.Sem

/-- One level, of any size: thresholds bisected from padded rows lead to the listing that the reference makes. -/
theorem level {N n1 R : ℕ} (h : Fits N n1) (X : FVec Ideal ⟨2, ![2, N]⟩ .f32) (T : FVec Ideal ⟨2, ![2, 1]⟩ .f32) (Y : FVec Ideal ⟨3, ![2, R, 128]⟩ .f32)
    (hY : ∀ b, Padded (fun i => X (ix2 b i)) (slab Y b) (Ideal.ofBits .f32 0xF149F2CA#32)) (hT : T = shapeCast ⟨2, ![2, 1]⟩ (lows Y) shapeCasts_S2x1x1_S2x1)
    (hs : (⟨2, ![2, N]⟩ : Shape).Slices (fun _ => 0) ⟨2, ![2, 1000]⟩) (hA : ∀ b, Alone (fun i => X (ix2 b i)) h.big) :
    outW h X T = Host.sort ⟨2, ![2, 1000]⟩ 1 (fun l r => IntOp.cmpi .slt l r) (Host.topK ⟨2, ![2, 1000]⟩ 1 (FloatOps.cmpfTotal (F := Ideal) (φ := .f32) .gt) X hs).2 := by
  refine same h X T hs hA fun b i => ?_
  obtain ⟨v, ε, B, hl, hε, hv, hB⟩ := (hA b).listed
  obtain ⟨t, ht, hsel⟩ := threshold (hY b) hl hε hv hB pad_lit
  have e : T (ix2 b 0) = low (slab Y b) := by
    rw [hT]
    have h1 : shapeCast S2x1 (lows Y) shapeCasts_S2x1x1_S2x1 (ix2 b 0) = lows Y (ix3 b 0 0) := by
      generalize lows Y = Z
      pointwise []
    exact h1
  rw [e]
  unfold low
  rw [ht]
  exact hsel i

variable (m : (ℓ : Loc nD τ sig) → Buf (Elt Ideal) ℓ)

/-- The entries of level 0. -/
def seg0 (c : Dev nD) : FVec Ideal S2x160000 .f32 := extractStridedSlice S2x160000 ![0, 0] (m (c, Proc.devRef .tc main_arg0)) slices_S2x200000_S2x160000_0_0

/-- The entries of level 1. -/
def seg1 (c : Dev nD) : FVec Ideal S2x40000 .f32 := extractStridedSlice S2x40000 ![0, 160000] (m (c, Proc.devRef .tc main_arg0)) slices_S2x200000_S2x40000_0_160000

/-- What level 0's launch reads. -/
theorem in0 (c : Dev nD) : V4 m (outs m) c (Proc.devRef .tc main_v0) = seg0 m c
    ∧ V3 m c (Proc.devRef .tc main_v2) = shapeCast S2x1256x128 (pad S2x160768 ![0, 0] ![0, 768] ![0, 0] (seg0 m c)
      (constant (F := Ideal) S_ .f32 0xF149F2CA#32) pads_S2x160000_S2x160768_000_07680 h_S_) shapeCasts_S2x160768_S2x1256x128 := by
  constructor
  · rw [V4_of m (outs m) c main_v0 (by decide), V3_of m c main_v0 (by decide), V2_of m c main_v0 (by decide)]
    after_reads_simp
    rfl
  · after_reads_simp
    rfl

/-- The lines between the launches cut out level 1's entries and lay them in padded rows. -/
theorem between (V : Valuation τ sig (Elt Ideal)) :
    StableHlo.after hostOps1_6 V (Proc.devRef .tc main_v47) = extractStridedSlice S2x40000 ![0, 160000] (V (Proc.devRef .tc main_arg0) : FVec Ideal S2x200000 .f32) slices_S2x200000_S2x40000_0_160000
    ∧ StableHlo.after hostOps1_8 (StableHlo.after hostOps1_7 (StableHlo.after hostOps1_6 V)) (Proc.devRef .tc main_v49)
      = shapeCast S2x320x128 (pad S2x40960 ![0, 0] ![0, 960] ![0, 0] (extractStridedSlice S2x40000 ![0, 160000] (V (Proc.devRef .tc main_arg0) : FVec Ideal S2x200000 .f32) slices_S2x200000_S2x40000_0_160000)
        (constant (F := Ideal) S_ .f32 0xF149F2CA#32) pads_S2x40000_S2x40960_000_09600 h_S_) shapeCasts_S2x40960_S2x320x128 := by
  constructor
  · after_reads_simp
  · after_reads_simp
    rfl

/-- The stretches and launches up to level 1's lines leave what they do not write. -/
theorem args10 (c : Dev nD) (r : Ref sig .tc) (h : ∀ l ∈ ([hostOps0_W, hostOps0_1_W, hostOps0_2_W, [main_v3], hostOps1_W, hostOps1_1_W, hostOps1_2_W, hostOps1_3_W, hostOps1_4_W, hostOps1_5_W] : List (List (Ref sig .tc))), r ∉ l) : V10 m (outs m) c (Proc.devRef .tc r) = m (c, Proc.devRef .tc r) :=
  (V10_of m (outs m) c r (h _ (by simp))).trans ((V9_of m (outs m) c r (h _ (by simp))).trans ((V8_of m (outs m) c r (h _ (by simp))).trans ((V7_of m (outs m) c r (h _ (by simp))).trans ((V6_of m (outs m) c r (h _ (by simp))).trans ((V5_of m (outs m) c r (h _ (by simp))).trans ((V4_of m (outs m) c r (h _ (by simp))).trans ((V3_of m c r (h _ (by simp))).trans ((V2_of m c r (h _ (by simp))).trans (V1_of m c r (h _ (by simp)))))))))))

/-- The later stretches of the selection leave what they do not write. -/
theorem args20 (c : Dev nD) (r : Ref sig .tc) (h : ∀ l ∈ ([hostOps1_6_W, hostOps1_7_W, hostOps1_8_W, [main_v50], hostOps2_W, hostOps2_1_W, hostOps2_2_W, hostOps2_3_W, hostOps2_4_W, hostOps2_5_W] : List (List (Ref sig .tc))), r ∉ l) : V20 m (outs m) c (Proc.devRef .tc r) = V10 m (outs m) c (Proc.devRef .tc r) :=
  (V20_of m (outs m) c r (h _ (by simp))).trans ((V19_of m (outs m) c r (h _ (by simp))).trans ((V18_of m (outs m) c r (h _ (by simp))).trans ((V17_of m (outs m) c r (h _ (by simp))).trans ((V16_of m (outs m) c r (h _ (by simp))).trans ((V15_of m (outs m) c r (h _ (by simp))).trans ((V14_of m (outs m) c r (h _ (by simp))).trans ((V13_of m (outs m) c r (h _ (by simp))).trans ((V12_of m (outs m) c r (h _ (by simp))).trans (V11_of m (outs m) c r (h _ (by simp)))))))))))

/-- What level 1's launch reads. -/
theorem in1 (c : Dev nD) : V14 m (outs m) c (Proc.devRef .tc main_v47) = seg1 m c
    ∧ V13 m (outs m) c (Proc.devRef .tc main_v49) = shapeCast S2x320x128 (pad S2x40960 ![0, 0] ![0, 960] ![0, 0] (seg1 m c)
      (constant (F := Ideal) S_ .f32 0xF149F2CA#32) pads_S2x40000_S2x40960_000_09600 h_S_) shapeCasts_S2x40960_S2x320x128 := by
  obtain ⟨h1, h2⟩ := between (V10 m (outs m) c)
  rw [show V10 m (outs m) c (Proc.devRef .tc main_arg0) = m (c, Proc.devRef .tc main_arg0) from args10 m c main_arg0 (by decide)] at h1 h2
  exact ⟨(V14_of m (outs m) c main_v47 (by decide)).trans ((V13_of m (outs m) c main_v47 (by decide)).trans ((V12_of m (outs m) c main_v47 (by decide)).trans h1)), h2⟩

attribute [local instance] Cert.Proof.SelPre.facts

/-- Under the precondition level 0's lines list the places that the reference lists. -/
theorem sel0 (hp : Pre_KernelIdeal_kth_stands_alone m) (c : Dev nD) (hs : S2x160000.Slices (fun _ => 0) S2x1000) :
    V11 m (outs m) c (Proc.devRef .tc main_v46) = Host.sort S2x1000 1 (fun l r => IntOp.cmpi .slt l r) (Host.topK S2x1000 1 (FloatOps.cmpfTotal (F := Ideal) (φ := .f32) .gt) (seg0 m c) hs).2 := by
  refine (tail0 (V4 m (outs m) c)).trans ?_
  rw [(in0 m c).1]
  refine level fits0 (seg0 m c) _ (V3 m c (Proc.devRef .tc main_v2)) (fun b => ?_) ?_ hs fun b => (alone _ _ _ (hp c) b).1
  · rw [(in0 m c).2]
    exact padded (seg0 m c) _ pads_S2x160000_S2x160768_000_07680 h_S_ rfl (by norm_num) shapeCasts_S2x160768_S2x1256x128 b
  · unfold thr0
    rw [show V4 m (outs m) c (Proc.devRef .tc main_v3) = lows (V3 m c (Proc.devRef .tc main_v2)) from (V4_arr m c 1).symm.trans (final0 (fun c b => V3 m c b) c)]

/-- Under the precondition level 1's lines list the places that the reference lists. -/
theorem sel1 (hp : Pre_KernelIdeal_kth_stands_alone m) (c : Dev nD) (hs : S2x40000.Slices (fun _ => 0) S2x1000) :
    V21 m (outs m) c (Proc.devRef .tc main_v93) = Host.sort S2x1000 1 (fun l r => IntOp.cmpi .slt l r) (Host.topK S2x1000 1 (FloatOps.cmpfTotal (F := Ideal) (φ := .f32) .gt) (seg1 m c) hs).2 := by
  refine (tail1 (V14 m (outs m) c)).trans ?_
  rw [(in1 m c).1]
  refine level fits1 (seg1 m c) _ (V13 m (outs m) c (Proc.devRef .tc main_v49)) (fun b => ?_) ?_ hs fun b => (alone _ _ _ (hp c) b).2
  · rw [(in1 m c).2]
    exact padded (seg1 m c) _ pads_S2x40000_S2x40960_000_09600 h_S_ rfl (by norm_num) shapeCasts_S2x40960_S2x320x128 b
  · unfold thr1
    rw [show V14 m (outs m) c (Proc.devRef .tc main_v50) = lows (V13 m (outs m) c (Proc.devRef .tc main_v49)) from (V14_arr m c 1).symm.trans (final1 (fun c b => V13 m (outs m) c b) c)]

/-- Level 0's places are kept to the end. -/
theorem kept (c : Dev nD) : V20 m (outs m) c (Proc.devRef .tc main_v46) = V11 m (outs m) c (Proc.devRef .tc main_v46) := by
  rw [V20_of m (outs m) c main_v46 (by decide), V19_of m (outs m) c main_v46 (by decide), V18_of m (outs m) c main_v46 (by decide), V17_of m (outs m) c main_v46 (by decide),
    V16_of m (outs m) c main_v46 (by decide), V15_of m (outs m) c main_v46 (by decide), V14_of m (outs m) c main_v46 (by decide), V13_of m (outs m) c main_v46 (by decide),
    V12_of m (outs m) c main_v46 (by decide)]

/-- The last lines shift level 1's places and append them to level 0's. -/
theorem last_read (V : Valuation τ sig (Elt Ideal)) : StableHlo.after hostOps2_6 V (Proc.devRef .tc main_v96)
    = concatenate S2x2000 1 [⟨S2x1000, V (Proc.devRef .tc main_v46)⟩,
      ⟨S2x1000, (addi (StableHlo.after hostOps2_6 V (Proc.devRef .tc main_v93) : IVec S2x1000 32) (broadcastInDim S2x1000 ![] bcast_S_S2x1000 (constantI S_ 32 160000#32)) : IVec S2x1000 32)⟩]
      concatenates_S2x1000_S2x1000_S2x2000_d1 := by
  after_reads_simp
  rfl

end Cert.Proof.KernelIdeal.Pick
-- ==== Proof.KRead.lean ====
/- The kernel's host lines before and after the launch, each stretch as a function of what it reads. -/
module

public import proofs.«01_k».proof.Proof.FrameKI
public import Idealize.ShloMosaic.Lib.StableHlo.RunRead
public import Idealize.ShloMosaic.Lib.Pointwise

@[expose] public section

set_option maxRecDepth 16384

noncomputable section

namespace Cert.Proof.KernelIdeal

open Idealize.ShloMosaic Idealize.ShloMosaic.TcCoe Idealize.ShloMosaic.StableHlo
open Cert.KernelIdeal Cert.KernelIdeal.Gen

/-- The lines of stretch `hostOps2_6` that follow the list of chosen places. -/
abbrev tailOps : List (HloOp τ sig (Elt Ideal)) := hostOps2_6.drop 31

/-- One line's value. -/
def t_v0 : IVec S2 32 :=
  iotaInDim S2 32 0

/-- One line's value. -/
def t_v1 : IVec S2x1 32 :=
  broadcastInDim S2x1 ![0] bcast_S2_S2x1_0 t_v0

/-- One line's value. -/
def t_c : IVec S_ 32 :=
  constantI S_ 32 0#32

/-- One line's value. -/
def t_v2 : IVec S2x1 32 :=
  broadcastInDim S2x1 ![] bcast_S_S2x1 t_c

/-- One line's value. -/
def t_v3 : IVec S2x1 1 :=
  cmpi .slt t_v1 t_v2

/-- One line's value. -/
def t_c_0 : IVec S_ 32 :=
  constantI S_ 32 2#32

/-- One line's value. -/
def t_v4 : IVec S2x1 32 :=
  broadcastInDim S2x1 ![] bcast_S_S2x1 t_c_0

/-- One line's value. -/
def t_v5 : IVec S2x1 32 :=
  addi t_v1 t_v4

/-- One line's value. -/
def t_v6 : IVec S2x1 32 :=
  select t_v3 t_v5 t_v1

/-- One line's value. -/
def t_c_1 : IVec S_ 32 :=
  constantI S_ 32 0#32

/-- One line's value. -/
def t_v7 : IVec S2x2000 32 :=
  broadcastInDim S2x2000 ![] bcast_S_S2x2000 t_c_1

/-- One line's value. -/
def t_v8 (xarg3 : IVec S2x2000 32) : IVec S2x2000 1 :=
  cmpi .slt xarg3 t_v7

/-- One line's value. -/
def t_c_2 : IVec S_ 32 :=
  constantI S_ 32 200000#32

/-- One line's value. -/
def t_v9 : IVec S2x2000 32 :=
  broadcastInDim S2x2000 ![] bcast_S_S2x2000 t_c_2

/-- One line's value. -/
def t_v10 (xarg3 : IVec S2x2000 32) : IVec S2x2000 32 :=
  addi xarg3 t_v9

/-- One line's value. -/
def t_v11 (xarg3 : IVec S2x2000 32) : IVec S2x2000 32 :=
  select (t_v8 xarg3) (t_v10 xarg3) xarg3

/-- One line's value. -/
def t_v12 : IVec S2x2000 32 :=
  broadcastInDim S2x2000 ![0, 1] bcast_S2x1_S2x2000_0_1 t_v6

/-- One line's value. -/
def t_v13 : IVec S2x2000x1 32 :=
  broadcastInDim S2x2000x1 ![0, 1] bcast_S2x2000_S2x2000x1_0_1 t_v12

/-- One line's value. -/
def t_v14 (xarg3 : IVec S2x2000 32) : IVec S2x2000x1 32 :=
  broadcastInDim S2x2000x1 ![0, 1] bcast_S2x2000_S2x2000x1_0_1 (t_v11 xarg3)

/-- One line's value. -/
def t_v15 (xarg3 : IVec S2x2000 32) : IVec S2x2000x2 32 :=
  (fun a b => concatenate S2x2000x2 2 [⟨S2x2000x1, a⟩, ⟨S2x2000x1, b⟩] concatenates_S2x2000x1_S2x2000x1_S2x2000x2_d2) t_v13 (t_v14 xarg3)

/-- One line's value. -/
def t_v16 (xarg0 : FVec Ideal S2x200000 .f32) (xarg3 : IVec S2x2000 32) : FVec Ideal S2x2000 .f32 :=
  (fun x i => Host.gather gather_S2x200000_S2x2000x2_S2x2000_n_01_n_n_01_2_11 x i) xarg0 (t_v15 xarg3)

/-- One line's value. -/
def t_c_3 : IVec S_ 32 :=
  constantI S_ 32 160000#32

/-- One line's value. -/
def t_v17 : IVec S2x2000 32 :=
  broadcastInDim S2x2000 ![] bcast_S_S2x2000 t_c_3

/-- One line's value. -/
def t_v18 (xarg3 : IVec S2x2000 32) : IVec S2x2000 1 :=
  cmpi .sge xarg3 t_v17

/-- One line's value. -/
def t_v19 (xarg3 : IVec S2x2000 32) : FVec Ideal S2x2000 .f32 :=
  uitofp .f32 (t_v18 xarg3)

/-- One line's value. -/
def t_c_4 : IVec S_ 32 :=
  constantI S_ 32 0#32

/-- One line's value. -/
def t_v20 : IVec S2x1 32 :=
  broadcastInDim S2x1 ![] bcast_S_S2x1 t_c_4

/-- One line's value. -/
def t_v21 : IVec S2x1 1 :=
  cmpi .slt t_v1 t_v20

/-- One line's value. -/
def t_c_5 : IVec S_ 32 :=
  constantI S_ 32 2#32

/-- One line's value. -/
def t_v22 : IVec S2x1 32 :=
  broadcastInDim S2x1 ![] bcast_S_S2x1 t_c_5

/-- One line's value. -/
def t_v23 : IVec S2x1 32 :=
  addi t_v1 t_v22

/-- One line's value. -/
def t_v24 : IVec S2x1 32 :=
  select t_v21 t_v23 t_v1

/-- One line's value. -/
def t_c_6 : IVec S_ 32 :=
  constantI S_ 32 0#32

/-- One line's value. -/
def t_v25 : IVec S2x2000 32 :=
  broadcastInDim S2x2000 ![] bcast_S_S2x2000 t_c_6

/-- One line's value. -/
def t_v26 (xarg3 : IVec S2x2000 32) : IVec S2x2000 1 :=
  cmpi .slt xarg3 t_v25

/-- One line's value. -/
def t_c_7 : IVec S_ 32 :=
  constantI S_ 32 200000#32

/-- One line's value. -/
def t_v27 : IVec S2x2000 32 :=
  broadcastInDim S2x2000 ![] bcast_S_S2x2000 t_c_7

/-- One line's value. -/
def t_v28 (xarg3 : IVec S2x2000 32) : IVec S2x2000 32 :=
  addi xarg3 t_v27

/-- One line's value. -/
def t_v29 (xarg3 : IVec S2x2000 32) : IVec S2x2000 32 :=
  select (t_v26 xarg3) (t_v28 xarg3) xarg3

/-- One line's value. -/
def t_v30 : IVec S2x2000 32 :=
  broadcastInDim S2x2000 ![0, 1] bcast_S2x1_S2x2000_0_1 t_v24

/-- One line's value. -/
def t_v31 : IVec S2x2000x1 32 :=
  broadcastInDim S2x2000x1 ![0, 1] bcast_S2x2000_S2x2000x1_0_1 t_v30

/-- One line's value. -/
def t_v32 (xarg3 : IVec S2x2000 32) : IVec S2x2000x1 32 :=
  broadcastInDim S2x2000x1 ![0, 1] bcast_S2x2000_S2x2000x1_0_1 (t_v29 xarg3)

/-- One line's value. -/
def t_v33 (xarg3 : IVec S2x2000 32) : IVec S2x2000x2 32 :=
  (fun a b => concatenate S2x2000x2 2 [⟨S2x2000x1, a⟩, ⟨S2x2000x1, b⟩] concatenates_S2x2000x1_S2x2000x1_S2x2000x2_d2) t_v31 (t_v32 xarg3)

/-- One line's value. -/
def t_v34 (xarg1 : FVec Ideal S2x200000x4 .f32) (xarg3 : IVec S2x2000 32) : FVec Ideal S2x2000x4 .f32 :=
  (fun x i => Host.gather gather_S2x200000x4_S2x2000x2_S2x2000x4_2_01_n_n_01_2_114 x i) xarg1 (t_v33 xarg3)

/-- One line's value. -/
def t_c_8 : IVec S_ 32 :=
  constantI S_ 32 0#32

/-- One line's value. -/
def t_v35 : IVec S2x2000 32 :=
  broadcastInDim S2x2000 ![] bcast_S_S2x2000 t_c_8

/-- One line's value. -/
def t_v36 (xarg3 : IVec S2x2000 32) : IVec S2x2000 1 :=
  cmpi .slt xarg3 t_v35

/-- One line's value. -/
def t_c_9 : IVec S_ 32 :=
  constantI S_ 32 200000#32

/-- One line's value. -/
def t_v37 : IVec S2x2000 32 :=
  broadcastInDim S2x2000 ![] bcast_S_S2x2000 t_c_9

/-- One line's value. -/
def t_v38 (xarg3 : IVec S2x2000 32) : IVec S2x2000 32 :=
  addi xarg3 t_v37

/-- One line's value. -/
def t_v39 (xarg3 : IVec S2x2000 32) : IVec S2x2000 32 :=
  select (t_v36 xarg3) (t_v38 xarg3) xarg3

/-- One line's value. -/
def t_v40 (xarg3 : IVec S2x2000 32) : IVec S2x2000x1 32 :=
  broadcastInDim S2x2000x1 ![0, 1] bcast_S2x2000_S2x2000x1_0_1 (t_v39 xarg3)

/-- One line's value. -/
def t_v41 (xarg2 : FVec Ideal S200000x4 .f32) (xarg3 : IVec S2x2000 32) : FVec Ideal S2x2000x4 .f32 :=
  (fun x i => Host.gather gather_S200000x4_S2x2000x1_S2x2000x4_2_0_n_n_0_2_14 x i) xarg2 (t_v40 xarg3)

/-- One line's value. -/
def t_cst : FVec Ideal S_ .f32 :=
  constant (F := Ideal) S_ .f32 0xF149F2CA#32

/-- What the stretch leaves in `main_v98`. -/
theorem read_v1 (V : Valuation τ sig (Elt Ideal)) :
    StableHlo.after tailOps V (Proc.devRef .tc main_v98) = t_v1  := by
  after_reads_simp
  rfl

/-- What the stretch leaves in `main_v113`. -/
theorem read_v16 (V : Valuation τ sig (Elt Ideal)) :
    StableHlo.after tailOps V (Proc.devRef .tc main_v113) = t_v16 (V (Proc.devRef .tc main_arg0)) (V (Proc.devRef .tc main_v96)) := by
  after_reads_simp
  rfl

/-- What the stretch leaves in `main_v116`. -/
theorem read_v19 (V : Valuation τ sig (Elt Ideal)) :
    StableHlo.after tailOps V (Proc.devRef .tc main_v116) = t_v19 (V (Proc.devRef .tc main_v96)) := by
  after_reads_simp
  rfl

/-- What the stretch leaves in `main_v131`. -/
theorem read_v34 (V : Valuation τ sig (Elt Ideal)) :
    StableHlo.after tailOps V (Proc.devRef .tc main_v131) = t_v34 (V (Proc.devRef .tc main_arg1)) (V (Proc.devRef .tc main_v96)) := by
  after_reads_simp
  rfl

/-- What the stretch leaves in `main_v138`. -/
theorem read_v41 (V : Valuation τ sig (Elt Ideal)) :
    StableHlo.after tailOps V (Proc.devRef .tc main_v138) = t_v41 (V (Proc.devRef .tc main_arg2)) (V (Proc.devRef .tc main_v96)) := by
  after_reads_simp
  rfl

/-- What the stretch leaves in `main_cst_30`. -/
theorem read_cst (V : Valuation τ sig (Elt Ideal)) :
    StableHlo.after tailOps V (Proc.devRef .tc main_cst_30) = t_cst  := by
  after_reads_simp
  rfl

/-- What `tailOps` writes. -/
abbrev t_W_tailOps : List (Ref sig .tc) := [main_v97, main_v98, main_c_19, main_v99, main_v100, main_c_20, main_v101, main_v102, main_v103, main_c_21, main_v104, main_v105, main_c_22, main_v106, main_v107, main_v108, main_v109, main_v110, main_v111, main_v112, main_v113, main_c_23, main_v114, main_v115, main_v116, main_c_24, main_v117, main_v118, main_c_25, main_v119, main_v120, main_v121, main_c_26, main_v122, main_v123, main_c_27, main_v124, main_v125, main_v126, main_v127, main_v128, main_v129, main_v130, main_v131, main_c_28, main_v132, main_v133, main_c_29, main_v134, main_v135, main_v136, main_v137, main_v138, main_cst_30]

/-- It leaves the other buffers. -/
theorem keep_tailOps (V : Valuation τ sig (Elt Ideal)) (r : Ref sig .tc) (h : r ∉ t_W_tailOps) :
    StableHlo.after tailOps V (Proc.devRef .tc r) = V (Proc.devRef .tc r) :=
  StableHlo.after_of_writes_sub _ V (StableHlo.forall_writes_sub_of_map rfl) h

/-- One line's value. -/
def t_call0_v0 (xcst : FVec Ideal S_ .f32) : FVec Ideal S_ .f32 :=
  id xcst

/-- One line's value. -/
def t_v42 (xv16 : FVec Ideal S2x2000 .f32) (xcst : FVec Ideal S_ .f32) : FVec Ideal S2x2048 .f32 :=
  (fun x v => pad S2x2048 ![0, 0] ![0, 48] ![0, 0] x v pads_S2x2000_S2x2048_000_0480 h_S_) xv16 (t_call0_v0 xcst)

/-- What the stretch leaves in `main_v139`. -/
theorem read_v42 (V : Valuation τ sig (Elt Ideal)) :
    StableHlo.after hostOps2_7 V (Proc.devRef .tc main_v139) = t_v42 (V (Proc.devRef .tc main_v113)) (V (Proc.devRef .tc main_cst_30)) := by
  after_reads_simp
  rfl

/-- What `hostOps2_7` writes. -/
abbrev t_W_hostOps2_7 : List (Ref sig .tc) := [main_call8_v0, main_v139]

/-- It leaves the other buffers. -/
theorem keep_hostOps2_7 (V : Valuation τ sig (Elt Ideal)) (r : Ref sig .tc) (h : r ∉ t_W_hostOps2_7) :
    StableHlo.after hostOps2_7 V (Proc.devRef .tc r) = V (Proc.devRef .tc r) :=
  StableHlo.after_of_writes_sub _ V (StableHlo.forall_writes_sub_of_map rfl) h

/-- One line's value. -/
def t_c_10 : IVec S_ 32 :=
  constantI S_ 32 0#32

/-- What the stretch leaves in `main_c_31`. -/
theorem read_c_10 (V : Valuation τ sig (Elt Ideal)) :
    StableHlo.after hostOps2_8 V (Proc.devRef .tc main_c_31) = t_c_10  := by
  after_reads_simp
  rfl

/-- What `hostOps2_8` writes. -/
abbrev t_W_hostOps2_8 : List (Ref sig .tc) := [main_c_31]

/-- It leaves the other buffers. -/
theorem keep_hostOps2_8 (V : Valuation τ sig (Elt Ideal)) (r : Ref sig .tc) (h : r ∉ t_W_hostOps2_8) :
    StableHlo.after hostOps2_8 V (Proc.devRef .tc r) = V (Proc.devRef .tc r) :=
  StableHlo.after_of_writes_sub _ V (StableHlo.forall_writes_sub_of_map rfl) h

/-- One line's value. -/
def t_call1_v0 (xc_10 : IVec S_ 32) : FVec Ideal S_ .f32 :=
  (sitofp .f32) xc_10

/-- One line's value. -/
def t_v43 (xv19 : FVec Ideal S2x2000 .f32) (xc_10 : IVec S_ 32) : FVec Ideal S2x2048 .f32 :=
  (fun x v => pad S2x2048 ![0, 0] ![0, 48] ![0, 0] x v pads_S2x2000_S2x2048_000_0480 h_S_) xv19 (t_call1_v0 xc_10)

/-- What the stretch leaves in `main_v140`. -/
theorem read_v43 (V : Valuation τ sig (Elt Ideal)) :
    StableHlo.after hostOps2_9 V (Proc.devRef .tc main_v140) = t_v43 (V (Proc.devRef .tc main_v116)) (V (Proc.devRef .tc main_c_31)) := by
  after_reads_simp
  rfl

/-- What `hostOps2_9` writes. -/
abbrev t_W_hostOps2_9 : List (Ref sig .tc) := [main_call9_v0, main_v140]

/-- It leaves the other buffers. -/
theorem keep_hostOps2_9 (V : Valuation τ sig (Elt Ideal)) (r : Ref sig .tc) (h : r ∉ t_W_hostOps2_9) :
    StableHlo.after hostOps2_9 V (Proc.devRef .tc r) = V (Proc.devRef .tc r) :=
  StableHlo.after_of_writes_sub _ V (StableHlo.forall_writes_sub_of_map rfl) h

/-- One line's value. -/
def t_c_11 : IVec S_ 32 :=
  constantI S_ 32 0#32

/-- What the stretch leaves in `main_c_32`. -/
theorem read_c_11 (V : Valuation τ sig (Elt Ideal)) :
    StableHlo.after hostOps2_10 V (Proc.devRef .tc main_c_32) = t_c_11  := by
  after_reads_simp
  rfl

/-- What `hostOps2_10` writes. -/
abbrev t_W_hostOps2_10 : List (Ref sig .tc) := [main_c_32]

/-- It leaves the other buffers. -/
theorem keep_hostOps2_10 (V : Valuation τ sig (Elt Ideal)) (r : Ref sig .tc) (h : r ∉ t_W_hostOps2_10) :
    StableHlo.after hostOps2_10 V (Proc.devRef .tc r) = V (Proc.devRef .tc r) :=
  StableHlo.after_of_writes_sub _ V (StableHlo.forall_writes_sub_of_map rfl) h

/-- One line's value. -/
def t_call2_v0 (xc_11 : IVec S_ 32) : FVec Ideal S_ .f32 :=
  (sitofp .f32) xc_11

/-- One line's value. -/
def t_v44 (xv34 : FVec Ideal S2x2000x4 .f32) (xc_11 : IVec S_ 32) : FVec Ideal S2x2048x4 .f32 :=
  (fun x v => pad S2x2048x4 ![0, 0, 0] ![0, 48, 0] ![0, 0, 0] x v pads_S2x2000x4_S2x2048x4_000_0480_000 h_S_) xv34 (t_call2_v0 xc_11)

/-- What the stretch leaves in `main_v141`. -/
theorem read_v44 (V : Valuation τ sig (Elt Ideal)) :
    StableHlo.after hostOps2_11 V (Proc.devRef .tc main_v141) = t_v44 (V (Proc.devRef .tc main_v131)) (V (Proc.devRef .tc main_c_32)) := by
  after_reads_simp
  rfl

/-- What `hostOps2_11` writes. -/
abbrev t_W_hostOps2_11 : List (Ref sig .tc) := [main_call10_v0, main_v141]

/-- It leaves the other buffers. -/
theorem keep_hostOps2_11 (V : Valuation τ sig (Elt Ideal)) (r : Ref sig .tc) (h : r ∉ t_W_hostOps2_11) :
    StableHlo.after hostOps2_11 V (Proc.devRef .tc r) = V (Proc.devRef .tc r) :=
  StableHlo.after_of_writes_sub _ V (StableHlo.forall_writes_sub_of_map rfl) h

/-- One line's value. -/
def t_c_12 : IVec S_ 32 :=
  constantI S_ 32 0#32

/-- What the stretch leaves in `main_c_33`. -/
theorem read_c_12 (V : Valuation τ sig (Elt Ideal)) :
    StableHlo.after hostOps2_12 V (Proc.devRef .tc main_c_33) = t_c_12  := by
  after_reads_simp
  rfl

/-- What `hostOps2_12` writes. -/
abbrev t_W_hostOps2_12 : List (Ref sig .tc) := [main_c_33]

/-- It leaves the other buffers. -/
theorem keep_hostOps2_12 (V : Valuation τ sig (Elt Ideal)) (r : Ref sig .tc) (h : r ∉ t_W_hostOps2_12) :
    StableHlo.after hostOps2_12 V (Proc.devRef .tc r) = V (Proc.devRef .tc r) :=
  StableHlo.after_of_writes_sub _ V (StableHlo.forall_writes_sub_of_map rfl) h

/-- One line's value. -/
def t_call3_v0 (xc_12 : IVec S_ 32) : FVec Ideal S_ .f32 :=
  (sitofp .f32) xc_12

/-- One line's value. -/
def t_v45 (xv41 : FVec Ideal S2x2000x4 .f32) (xc_12 : IVec S_ 32) : FVec Ideal S2x2048x4 .f32 :=
  (fun x v => pad S2x2048x4 ![0, 0, 0] ![0, 48, 0] ![0, 0, 0] x v pads_S2x2000x4_S2x2048x4_000_0480_000 h_S_) xv41 (t_call3_v0 xc_12)

/-- What the stretch leaves in `main_v142`. -/
theorem read_v45 (V : Valuation τ sig (Elt Ideal)) :
    StableHlo.after hostOps2_13 V (Proc.devRef .tc main_v142) = t_v45 (V (Proc.devRef .tc main_v138)) (V (Proc.devRef .tc main_c_33)) := by
  after_reads_simp
  rfl

/-- What `hostOps2_13` writes. -/
abbrev t_W_hostOps2_13 : List (Ref sig .tc) := [main_call11_v0, main_v142]

/-- It leaves the other buffers. -/
theorem keep_hostOps2_13 (V : Valuation τ sig (Elt Ideal)) (r : Ref sig .tc) (h : r ∉ t_W_hostOps2_13) :
    StableHlo.after hostOps2_13 V (Proc.devRef .tc r) = V (Proc.devRef .tc r) :=
  StableHlo.after_of_writes_sub _ V (StableHlo.forall_writes_sub_of_map rfl) h

/-- One line's value. -/
def t_v46 (xv42 : FVec Ideal S2x2048 .f32) : FVec Ideal S2x2048 .f32 :=
  Host.negf xv42

/-- What the stretch leaves in `main_v143`. -/
theorem read_v46 (V : Valuation τ sig (Elt Ideal)) :
    StableHlo.after hostOps2_14 V (Proc.devRef .tc main_v143) = t_v46 (V (Proc.devRef .tc main_v139)) := by
  after_reads_simp
  rfl

/-- What `hostOps2_14` writes. -/
abbrev t_W_hostOps2_14 : List (Ref sig .tc) := [main_v143]

/-- It leaves the other buffers. -/
theorem keep_hostOps2_14 (V : Valuation τ sig (Elt Ideal)) (r : Ref sig .tc) (h : r ∉ t_W_hostOps2_14) :
    StableHlo.after hostOps2_14 V (Proc.devRef .tc r) = V (Proc.devRef .tc r) :=
  StableHlo.after_of_writes_sub _ V (StableHlo.forall_writes_sub_of_map rfl) h

/-- One line's value. -/
def t_call4_v0 : IVec S2x2048 32 :=
  iotaInDim S2x2048 32 1

/-- One line's value. -/
def t_v47 (xv46 : FVec Ideal S2x2048 .f32) : IVec S2x2048 32 :=
  (fun x y => (Host.sort2 S2x2048 1 comparator_f32_i32_d1 x y).2) xv46 t_call4_v0

/-- What the stretch leaves in `main_v144`. -/
theorem read_v47 (V : Valuation τ sig (Elt Ideal)) :
    StableHlo.after hostOps2_15 V (Proc.devRef .tc main_v144) = t_v47 (V (Proc.devRef .tc main_v143)) := by
  after_reads_simp
  rfl

/-- What `hostOps2_15` writes. -/
abbrev t_W_hostOps2_15 : List (Ref sig .tc) := [main_call12_v0, main_call12_v1_0, main_v144]

/-- It leaves the other buffers. -/
theorem keep_hostOps2_15 (V : Valuation τ sig (Elt Ideal)) (r : Ref sig .tc) (h : r ∉ t_W_hostOps2_15) :
    StableHlo.after hostOps2_15 V (Proc.devRef .tc r) = V (Proc.devRef .tc r) :=
  StableHlo.after_of_writes_sub _ V (StableHlo.forall_writes_sub_of_map rfl) h

/-- One line's value. -/
def t_call5_c : IVec S_ 32 :=
  constantI S_ 32 0#32

/-- One line's value. -/
def t_call5_v0 : IVec S2x2048 32 :=
  (broadcastInDim S2x2048 ![] bcast_S_S2x2048) t_call5_c

/-- One line's value. -/
def t_call5_v1 (xv47 : IVec S2x2048 32) : IVec S2x2048 1 :=
  (cmpi .slt) xv47 t_call5_v0

/-- One line's value. -/
def t_call5_c_0 : IVec S_ 32 :=
  constantI S_ 32 2048#32

/-- One line's value. -/
def t_call5_v2 : IVec S2x2048 32 :=
  (broadcastInDim S2x2048 ![] bcast_S_S2x2048) t_call5_c_0

/-- One line's value. -/
def t_call5_v3 (xv47 : IVec S2x2048 32) : IVec S2x2048 32 :=
  addi xv47 t_call5_v2

/-- One line's value. -/
def t_call5_v4 (xv47 : IVec S2x2048 32) : IVec S2x2048 32 :=
  select (t_call5_v1 xv47) (t_call5_v3 xv47) xv47

/-- One line's value. -/
def t_call5_v5 (xv47 : IVec S2x2048 32) : IVec S2x2048x1 32 :=
  shapeCast S2x2048x1 (t_call5_v4 xv47) shapeCasts_S2x2048_S2x2048x1

/-- One line's value. -/
def t_call5_c_1 : IVec S1 32 :=
  constantI S1 32 2047#32

/-- One line's value. -/
def t_call5_c_2 : IVec S_ 32 :=
  constantI S_ 32 0#32

/-- One line's value. -/
def t_call5_v6 : IVec S2x2048x1 32 :=
  (broadcastInDim S2x2048x1 ![] bcast_S_S2x2048x1) t_call5_c_2

/-- One line's value. -/
def t_call5_v7 (xv47 : IVec S2x2048 32) : IVec S2x2048x1 1 :=
  (cmpi .sge) (t_call5_v5 xv47) t_call5_v6

/-- One line's value. -/
def t_call5_v8 : IVec S1x1x1 32 :=
  (broadcastInDim S1x1x1 ![2] bcast_S1_S1x1x1_2) t_call5_c_1

/-- One line's value. -/
def t_call5_v9 : IVec S2x2048x1 32 :=
  (broadcastInDim S2x2048x1 ![0, 1, 2] bcast_S1x1x1_S2x2048x1_0_1_2) t_call5_v8

/-- One line's value. -/
def t_call5_v10 (xv47 : IVec S2x2048 32) : IVec S2x2048x1 1 :=
  (cmpi .sle) (t_call5_v5 xv47) t_call5_v9

/-- One line's value. -/
def t_call5_v11 (xv47 : IVec S2x2048 32) : IVec S2x2048x1 1 :=
  andi (t_call5_v7 xv47) (t_call5_v10 xv47)

/-- One line's value. -/
def t_call5_c_3 : IVec S_ 1 :=
  constantI S_ 1 1#1

/-- One line's value. -/
def t_call5_v12 (xv47 : IVec S2x2048 32) : IVec S2x2048 1 :=
  (fun x v => Host.reduce IntOp.andi x v reducesTo_S2x2048x1_S2x2048_d2 h_S_) (t_call5_v11 xv47) t_call5_c_3

/-- One line's value. -/
def t_call5_v13 (xv42 : FVec Ideal S2x2048 .f32) (xv47 : IVec S2x2048 32) : FVec Ideal S2x2048 .f32 :=
  (fun x i => Host.gather gather_S2x2048_S2x2048x1_S2x2048_n_1_0_0_1_2_11 x i) xv42 (t_call5_v5 xv47)

/-- One line's value. -/
def t_call5_cst : FVec Ideal S_ .f32 :=
  constant (F := Ideal) S_ .f32 0x7FC00000#32

/-- One line's value. -/
def t_call5_v14 : FVec Ideal S2x2048 .f32 :=
  (broadcastInDim S2x2048 ![] bcast_S_S2x2048) t_call5_cst

/-- One line's value. -/
def t_v48 (xv47 : IVec S2x2048 32) (xv42 : FVec Ideal S2x2048 .f32) : FVec Ideal S2x2048 .f32 :=
  select (t_call5_v12 xv47) (t_call5_v13 xv42 xv47) t_call5_v14

/-- What the stretch leaves in `main_v145`. -/
theorem read_v48 (V : Valuation τ sig (Elt Ideal)) :
    StableHlo.after hostOps2_16 V (Proc.devRef .tc main_v145) = t_v48 (V (Proc.devRef .tc main_v144)) (V (Proc.devRef .tc main_v139)) := by
  after_reads_simp
  rfl

/-- What `hostOps2_16` writes. -/
abbrev t_W_hostOps2_16 : List (Ref sig .tc) := [main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_cst, main_call13_v14, main_v145]

/-- It leaves the other buffers. -/
theorem keep_hostOps2_16 (V : Valuation τ sig (Elt Ideal)) (r : Ref sig .tc) (h : r ∉ t_W_hostOps2_16) :
    StableHlo.after hostOps2_16 V (Proc.devRef .tc r) = V (Proc.devRef .tc r) :=
  StableHlo.after_of_writes_sub _ V (StableHlo.forall_writes_sub_of_map rfl) h

/-- One line's value. -/
def t_call6_c : IVec S_ 32 :=
  constantI S_ 32 0#32

/-- One line's value. -/
def t_call6_v0 : IVec S2x2048 32 :=
  (broadcastInDim S2x2048 ![] bcast_S_S2x2048) t_call6_c

/-- One line's value. -/
def t_call6_v1 (xv47 : IVec S2x2048 32) : IVec S2x2048 1 :=
  (cmpi .slt) xv47 t_call6_v0

/-- One line's value. -/
def t_call6_c_0 : IVec S_ 32 :=
  constantI S_ 32 2048#32

/-- One line's value. -/
def t_call6_v2 : IVec S2x2048 32 :=
  (broadcastInDim S2x2048 ![] bcast_S_S2x2048) t_call6_c_0

/-- One line's value. -/
def t_call6_v3 (xv47 : IVec S2x2048 32) : IVec S2x2048 32 :=
  addi xv47 t_call6_v2

/-- One line's value. -/
def t_call6_v4 (xv47 : IVec S2x2048 32) : IVec S2x2048 32 :=
  select (t_call6_v1 xv47) (t_call6_v3 xv47) xv47

/-- One line's value. -/
def t_call6_v5 (xv47 : IVec S2x2048 32) : IVec S2x2048x1 32 :=
  shapeCast S2x2048x1 (t_call6_v4 xv47) shapeCasts_S2x2048_S2x2048x1

/-- One line's value. -/
def t_call6_c_1 : IVec S1 32 :=
  constantI S1 32 2047#32

/-- One line's value. -/
def t_call6_c_2 : IVec S_ 32 :=
  constantI S_ 32 0#32

/-- One line's value. -/
def t_call6_v6 : IVec S2x2048x1 32 :=
  (broadcastInDim S2x2048x1 ![] bcast_S_S2x2048x1) t_call6_c_2

/-- One line's value. -/
def t_call6_v7 (xv47 : IVec S2x2048 32) : IVec S2x2048x1 1 :=
  (cmpi .sge) (t_call6_v5 xv47) t_call6_v6

/-- One line's value. -/
def t_call6_v8 : IVec S1x1x1 32 :=
  (broadcastInDim S1x1x1 ![2] bcast_S1_S1x1x1_2) t_call6_c_1

/-- One line's value. -/
def t_call6_v9 : IVec S2x2048x1 32 :=
  (broadcastInDim S2x2048x1 ![0, 1, 2] bcast_S1x1x1_S2x2048x1_0_1_2) t_call6_v8

/-- One line's value. -/
def t_call6_v10 (xv47 : IVec S2x2048 32) : IVec S2x2048x1 1 :=
  (cmpi .sle) (t_call6_v5 xv47) t_call6_v9

/-- One line's value. -/
def t_call6_v11 (xv47 : IVec S2x2048 32) : IVec S2x2048x1 1 :=
  andi (t_call6_v7 xv47) (t_call6_v10 xv47)

/-- One line's value. -/
def t_call6_c_3 : IVec S_ 1 :=
  constantI S_ 1 1#1

/-- One line's value. -/
def t_call6_v12 (xv47 : IVec S2x2048 32) : IVec S2x2048 1 :=
  (fun x v => Host.reduce IntOp.andi x v reducesTo_S2x2048x1_S2x2048_d2 h_S_) (t_call6_v11 xv47) t_call6_c_3

/-- One line's value. -/
def t_call6_v13 (xv43 : FVec Ideal S2x2048 .f32) (xv47 : IVec S2x2048 32) : FVec Ideal S2x2048 .f32 :=
  (fun x i => Host.gather gather_S2x2048_S2x2048x1_S2x2048_n_1_0_0_1_2_11 x i) xv43 (t_call6_v5 xv47)

/-- One line's value. -/
def t_call6_cst : FVec Ideal S_ .f32 :=
  constant (F := Ideal) S_ .f32 0x7FC00000#32

/-- One line's value. -/
def t_call6_v14 : FVec Ideal S2x2048 .f32 :=
  (broadcastInDim S2x2048 ![] bcast_S_S2x2048) t_call6_cst

/-- One line's value. -/
def t_v49 (xv47 : IVec S2x2048 32) (xv43 : FVec Ideal S2x2048 .f32) : FVec Ideal S2x2048 .f32 :=
  select (t_call6_v12 xv47) (t_call6_v13 xv43 xv47) t_call6_v14

/-- What the stretch leaves in `main_v146`. -/
theorem read_v49 (V : Valuation τ sig (Elt Ideal)) :
    StableHlo.after hostOps2_17 V (Proc.devRef .tc main_v146) = t_v49 (V (Proc.devRef .tc main_v144)) (V (Proc.devRef .tc main_v140)) := by
  after_reads_simp
  rfl

/-- What `hostOps2_17` writes. -/
abbrev t_W_hostOps2_17 : List (Ref sig .tc) := [main_call14_c, main_call14_v0, main_call14_v1, main_call14_c_0, main_call14_v2, main_call14_v3, main_call14_v4, main_call14_v5, main_call14_c_1, main_call14_c_2, main_call14_v6, main_call14_v7, main_call14_v8, main_call14_v9, main_call14_v10, main_call14_v11, main_call14_c_3, main_call14_v12, main_call14_v13, main_call14_cst, main_call14_v14, main_v146]

/-- It leaves the other buffers. -/
theorem keep_hostOps2_17 (V : Valuation τ sig (Elt Ideal)) (r : Ref sig .tc) (h : r ∉ t_W_hostOps2_17) :
    StableHlo.after hostOps2_17 V (Proc.devRef .tc r) = V (Proc.devRef .tc r) :=
  StableHlo.after_of_writes_sub _ V (StableHlo.forall_writes_sub_of_map rfl) h

/-- One line's value. -/
def t_v50 (xv47 : IVec S2x2048 32) : IVec S2x2048x1 32 :=
  broadcastInDim S2x2048x1 ![0, 1] bcast_S2x2048_S2x2048x1_0_1 xv47

/-- What the stretch leaves in `main_v147`. -/
theorem read_v50 (V : Valuation τ sig (Elt Ideal)) :
    StableHlo.after hostOps2_18 V (Proc.devRef .tc main_v147) = t_v50 (V (Proc.devRef .tc main_v144)) := by
  after_reads_simp
  rfl

/-- What `hostOps2_18` writes. -/
abbrev t_W_hostOps2_18 : List (Ref sig .tc) := [main_v147]

/-- It leaves the other buffers. -/
theorem keep_hostOps2_18 (V : Valuation τ sig (Elt Ideal)) (r : Ref sig .tc) (h : r ∉ t_W_hostOps2_18) :
    StableHlo.after hostOps2_18 V (Proc.devRef .tc r) = V (Proc.devRef .tc r) :=
  StableHlo.after_of_writes_sub _ V (StableHlo.forall_writes_sub_of_map rfl) h

/-- One line's value. -/
def t_call7_c : IVec S_ 32 :=
  constantI S_ 32 0#32

/-- One line's value. -/
def t_call7_v0 : IVec S2x2048x1 32 :=
  (broadcastInDim S2x2048x1 ![] bcast_S_S2x2048x1) t_call7_c

/-- One line's value. -/
def t_call7_v1 (xv50 : IVec S2x2048x1 32) : IVec S2x2048x1 1 :=
  (cmpi .slt) xv50 t_call7_v0

/-- One line's value. -/
def t_call7_c_0 : IVec S_ 32 :=
  constantI S_ 32 2048#32

/-- One line's value. -/
def t_call7_v2 : IVec S2x2048x1 32 :=
  (broadcastInDim S2x2048x1 ![] bcast_S_S2x2048x1) t_call7_c_0

/-- One line's value. -/
def t_call7_v3 (xv50 : IVec S2x2048x1 32) : IVec S2x2048x1 32 :=
  addi xv50 t_call7_v2

/-- One line's value. -/
def t_call7_v4 (xv50 : IVec S2x2048x1 32) : IVec S2x2048x1 32 :=
  select (t_call7_v1 xv50) (t_call7_v3 xv50) xv50

/-- One line's value. -/
def t_call7_c_1 : IVec S1 32 :=
  constantI S1 32 2047#32

/-- One line's value. -/
def t_call7_c_2 : IVec S_ 32 :=
  constantI S_ 32 0#32

/-- One line's value. -/
def t_call7_v5 : IVec S2x2048x1 32 :=
  (broadcastInDim S2x2048x1 ![] bcast_S_S2x2048x1) t_call7_c_2

/-- One line's value. -/
def t_call7_v6 (xv50 : IVec S2x2048x1 32) : IVec S2x2048x1 1 :=
  (cmpi .sge) (t_call7_v4 xv50) t_call7_v5

/-- One line's value. -/
def t_call7_v7 : IVec S1x1x1 32 :=
  (broadcastInDim S1x1x1 ![2] bcast_S1_S1x1x1_2) t_call7_c_1

/-- One line's value. -/
def t_call7_v8 : IVec S2x2048x1 32 :=
  (broadcastInDim S2x2048x1 ![0, 1, 2] bcast_S1x1x1_S2x2048x1_0_1_2) t_call7_v7

/-- One line's value. -/
def t_call7_v9 (xv50 : IVec S2x2048x1 32) : IVec S2x2048x1 1 :=
  (cmpi .sle) (t_call7_v4 xv50) t_call7_v8

/-- One line's value. -/
def t_call7_v10 (xv50 : IVec S2x2048x1 32) : IVec S2x2048x1 1 :=
  andi (t_call7_v6 xv50) (t_call7_v9 xv50)

/-- One line's value. -/
def t_call7_c_3 : IVec S_ 1 :=
  constantI S_ 1 1#1

/-- One line's value. -/
def t_call7_v11 (xv50 : IVec S2x2048x1 32) : IVec S2x2048 1 :=
  (fun x v => Host.reduce IntOp.andi x v reducesTo_S2x2048x1_S2x2048_d2 h_S_) (t_call7_v10 xv50) t_call7_c_3

/-- One line's value. -/
def t_call7_v12 (xv44 : FVec Ideal S2x2048x4 .f32) (xv50 : IVec S2x2048x1 32) : FVec Ideal S2x2048x4 .f32 :=
  (fun x i => Host.gather gather_S2x2048x4_S2x2048x1_S2x2048x4_2_1_0_0_1_2_114 x i) xv44 (t_call7_v4 xv50)

/-- One line's value. -/
def t_call7_v13 (xv50 : IVec S2x2048x1 32) : IVec S2x2048x4 1 :=
  (broadcastInDim S2x2048x4 ![0, 1] bcast_S2x2048_S2x2048x4_0_1) (t_call7_v11 xv50)

/-- One line's value. -/
def t_call7_cst : FVec Ideal S_ .f32 :=
  constant (F := Ideal) S_ .f32 0x7FC00000#32

/-- One line's value. -/
def t_call7_v14 : FVec Ideal S2x2048x4 .f32 :=
  (broadcastInDim S2x2048x4 ![] bcast_S_S2x2048x4) t_call7_cst

/-- One line's value. -/
def t_v51 (xv50 : IVec S2x2048x1 32) (xv44 : FVec Ideal S2x2048x4 .f32) : FVec Ideal S2x2048x4 .f32 :=
  select (t_call7_v13 xv50) (t_call7_v12 xv44 xv50) t_call7_v14

/-- What the stretch leaves in `main_v148`. -/
theorem read_v51 (V : Valuation τ sig (Elt Ideal)) :
    StableHlo.after hostOps2_19 V (Proc.devRef .tc main_v148) = t_v51 (V (Proc.devRef .tc main_v147)) (V (Proc.devRef .tc main_v141)) := by
  after_reads_simp
  rfl

/-- What `hostOps2_19` writes. -/
abbrev t_W_hostOps2_19 : List (Ref sig .tc) := [main_call15_c, main_call15_v0, main_call15_v1, main_call15_c_0, main_call15_v2, main_call15_v3, main_call15_v4, main_call15_c_1, main_call15_c_2, main_call15_v5, main_call15_v6, main_call15_v7, main_call15_v8, main_call15_v9, main_call15_v10, main_call15_c_3, main_call15_v11, main_call15_v12, main_call15_v13, main_call15_cst, main_call15_v14, main_v148]

/-- It leaves the other buffers. -/
theorem keep_hostOps2_19 (V : Valuation τ sig (Elt Ideal)) (r : Ref sig .tc) (h : r ∉ t_W_hostOps2_19) :
    StableHlo.after hostOps2_19 V (Proc.devRef .tc r) = V (Proc.devRef .tc r) :=
  StableHlo.after_of_writes_sub _ V (StableHlo.forall_writes_sub_of_map rfl) h

/-- One line's value. -/
def t_v52 (xv47 : IVec S2x2048 32) : IVec S2x2048x1 32 :=
  broadcastInDim S2x2048x1 ![0, 1] bcast_S2x2048_S2x2048x1_0_1 xv47

/-- What the stretch leaves in `main_v149`. -/
theorem read_v52 (V : Valuation τ sig (Elt Ideal)) :
    StableHlo.after hostOps2_20 V (Proc.devRef .tc main_v149) = t_v52 (V (Proc.devRef .tc main_v144)) := by
  after_reads_simp
  rfl

/-- What `hostOps2_20` writes. -/
abbrev t_W_hostOps2_20 : List (Ref sig .tc) := [main_v149]

/-- It leaves the other buffers. -/
theorem keep_hostOps2_20 (V : Valuation τ sig (Elt Ideal)) (r : Ref sig .tc) (h : r ∉ t_W_hostOps2_20) :
    StableHlo.after hostOps2_20 V (Proc.devRef .tc r) = V (Proc.devRef .tc r) :=
  StableHlo.after_of_writes_sub _ V (StableHlo.forall_writes_sub_of_map rfl) h

/-- One line's value. -/
def t_call8_c : IVec S_ 32 :=
  constantI S_ 32 0#32

/-- One line's value. -/
def t_call8_v0 : IVec S2x2048x1 32 :=
  (broadcastInDim S2x2048x1 ![] bcast_S_S2x2048x1) t_call8_c

/-- One line's value. -/
def t_call8_v1 (xv52 : IVec S2x2048x1 32) : IVec S2x2048x1 1 :=
  (cmpi .slt) xv52 t_call8_v0

/-- One line's value. -/
def t_call8_c_0 : IVec S_ 32 :=
  constantI S_ 32 2048#32

/-- One line's value. -/
def t_call8_v2 : IVec S2x2048x1 32 :=
  (broadcastInDim S2x2048x1 ![] bcast_S_S2x2048x1) t_call8_c_0

/-- One line's value. -/
def t_call8_v3 (xv52 : IVec S2x2048x1 32) : IVec S2x2048x1 32 :=
  addi xv52 t_call8_v2

/-- One line's value. -/
def t_call8_v4 (xv52 : IVec S2x2048x1 32) : IVec S2x2048x1 32 :=
  select (t_call8_v1 xv52) (t_call8_v3 xv52) xv52

/-- One line's value. -/
def t_call8_c_1 : IVec S1 32 :=
  constantI S1 32 2047#32

/-- One line's value. -/
def t_call8_c_2 : IVec S_ 32 :=
  constantI S_ 32 0#32

/-- One line's value. -/
def t_call8_v5 : IVec S2x2048x1 32 :=
  (broadcastInDim S2x2048x1 ![] bcast_S_S2x2048x1) t_call8_c_2

/-- One line's value. -/
def t_call8_v6 (xv52 : IVec S2x2048x1 32) : IVec S2x2048x1 1 :=
  (cmpi .sge) (t_call8_v4 xv52) t_call8_v5

/-- One line's value. -/
def t_call8_v7 : IVec S1x1x1 32 :=
  (broadcastInDim S1x1x1 ![2] bcast_S1_S1x1x1_2) t_call8_c_1

/-- One line's value. -/
def t_call8_v8 : IVec S2x2048x1 32 :=
  (broadcastInDim S2x2048x1 ![0, 1, 2] bcast_S1x1x1_S2x2048x1_0_1_2) t_call8_v7

/-- One line's value. -/
def t_call8_v9 (xv52 : IVec S2x2048x1 32) : IVec S2x2048x1 1 :=
  (cmpi .sle) (t_call8_v4 xv52) t_call8_v8

/-- One line's value. -/
def t_call8_v10 (xv52 : IVec S2x2048x1 32) : IVec S2x2048x1 1 :=
  andi (t_call8_v6 xv52) (t_call8_v9 xv52)

/-- One line's value. -/
def t_call8_c_3 : IVec S_ 1 :=
  constantI S_ 1 1#1

/-- One line's value. -/
def t_call8_v11 (xv52 : IVec S2x2048x1 32) : IVec S2x2048 1 :=
  (fun x v => Host.reduce IntOp.andi x v reducesTo_S2x2048x1_S2x2048_d2 h_S_) (t_call8_v10 xv52) t_call8_c_3

/-- One line's value. -/
def t_call8_v12 (xv45 : FVec Ideal S2x2048x4 .f32) (xv52 : IVec S2x2048x1 32) : FVec Ideal S2x2048x4 .f32 :=
  (fun x i => Host.gather gather_S2x2048x4_S2x2048x1_S2x2048x4_2_1_0_0_1_2_114 x i) xv45 (t_call8_v4 xv52)

/-- One line's value. -/
def t_call8_v13 (xv52 : IVec S2x2048x1 32) : IVec S2x2048x4 1 :=
  (broadcastInDim S2x2048x4 ![0, 1] bcast_S2x2048_S2x2048x4_0_1) (t_call8_v11 xv52)

/-- One line's value. -/
def t_call8_cst : FVec Ideal S_ .f32 :=
  constant (F := Ideal) S_ .f32 0x7FC00000#32

/-- One line's value. -/
def t_call8_v14 : FVec Ideal S2x2048x4 .f32 :=
  (broadcastInDim S2x2048x4 ![] bcast_S_S2x2048x4) t_call8_cst

/-- One line's value. -/
def t_v53 (xv52 : IVec S2x2048x1 32) (xv45 : FVec Ideal S2x2048x4 .f32) : FVec Ideal S2x2048x4 .f32 :=
  select (t_call8_v13 xv52) (t_call8_v12 xv45 xv52) t_call8_v14

/-- What the stretch leaves in `main_v150`. -/
theorem read_v53 (V : Valuation τ sig (Elt Ideal)) :
    StableHlo.after hostOps2_21 V (Proc.devRef .tc main_v150) = t_v53 (V (Proc.devRef .tc main_v149)) (V (Proc.devRef .tc main_v142)) := by
  after_reads_simp
  rfl

/-- What `hostOps2_21` writes. -/
abbrev t_W_hostOps2_21 : List (Ref sig .tc) := [main_call16_c, main_call16_v0, main_call16_v1, main_call16_c_0, main_call16_v2, main_call16_v3, main_call16_v4, main_call16_c_1, main_call16_c_2, main_call16_v5, main_call16_v6, main_call16_v7, main_call16_v8, main_call16_v9, main_call16_v10, main_call16_c_3, main_call16_v11, main_call16_v12, main_call16_v13, main_call16_cst, main_call16_v14, main_v150]

/-- It leaves the other buffers. -/
theorem keep_hostOps2_21 (V : Valuation τ sig (Elt Ideal)) (r : Ref sig .tc) (h : r ∉ t_W_hostOps2_21) :
    StableHlo.after hostOps2_21 V (Proc.devRef .tc r) = V (Proc.devRef .tc r) :=
  StableHlo.after_of_writes_sub _ V (StableHlo.forall_writes_sub_of_map rfl) h

/-- One line's value. -/
def t_v54 (xv48 : FVec Ideal S2x2048 .f32) : FVec Ideal S2x16x128 .f32 :=
  shapeCast S2x16x128 xv48 shapeCasts_S2x2048_S2x16x128

/-- One line's value. -/
def t_v55 (xv49 : FVec Ideal S2x2048 .f32) : FVec Ideal S2x16x128 .f32 :=
  shapeCast S2x16x128 xv49 shapeCasts_S2x2048_S2x16x128

/-- One line's value. -/
def t_v56 (xv51 : FVec Ideal S2x2048x4 .f32) : FVec Ideal S2x4x2048 .f32 :=
  (transpose S2x4x2048 [0, 2, 1] · transposes_S2x2048x4_S2x4x2048_0_2_1) xv51

/-- One line's value. -/
def t_v57 (xv51 : FVec Ideal S2x2048x4 .f32) : FVec Ideal S2x4x16x128 .f32 :=
  shapeCast S2x4x16x128 (t_v56 xv51) shapeCasts_S2x4x2048_S2x4x16x128

/-- One line's value. -/
def t_v58 (xv53 : FVec Ideal S2x2048x4 .f32) : FVec Ideal S2x4x2048 .f32 :=
  (transpose S2x4x2048 [0, 2, 1] · transposes_S2x2048x4_S2x4x2048_0_2_1) xv53

/-- One line's value. -/
def t_v59 (xv53 : FVec Ideal S2x2048x4 .f32) : FVec Ideal S2x4x16x128 .f32 :=
  shapeCast S2x4x16x128 (t_v58 xv53) shapeCasts_S2x4x2048_S2x4x16x128

/-- What the stretch leaves in `main_v151`. -/
theorem read_v54 (V : Valuation τ sig (Elt Ideal)) :
    StableHlo.after hostOps2_22 V (Proc.devRef .tc main_v151) = t_v54 (V (Proc.devRef .tc main_v145)) := by
  after_reads_simp
  rfl

/-- What the stretch leaves in `main_v152`. -/
theorem read_v55 (V : Valuation τ sig (Elt Ideal)) :
    StableHlo.after hostOps2_22 V (Proc.devRef .tc main_v152) = t_v55 (V (Proc.devRef .tc main_v146)) := by
  after_reads_simp
  rfl

/-- What the stretch leaves in `main_v154`. -/
theorem read_v57 (V : Valuation τ sig (Elt Ideal)) :
    StableHlo.after hostOps2_22 V (Proc.devRef .tc main_v154) = t_v57 (V (Proc.devRef .tc main_v148)) := by
  after_reads_simp
  rfl

/-- What the stretch leaves in `main_v156`. -/
theorem read_v59 (V : Valuation τ sig (Elt Ideal)) :
    StableHlo.after hostOps2_22 V (Proc.devRef .tc main_v156) = t_v59 (V (Proc.devRef .tc main_v150)) := by
  after_reads_simp
  rfl

/-- What `hostOps2_22` writes. -/
abbrev t_W_hostOps2_22 : List (Ref sig .tc) := [main_v151, main_v152, main_v153, main_v154, main_v155, main_v156]

/-- It leaves the other buffers. -/
theorem keep_hostOps2_22 (V : Valuation τ sig (Elt Ideal)) (r : Ref sig .tc) (h : r ∉ t_W_hostOps2_22) :
    StableHlo.after hostOps2_22 V (Proc.devRef .tc r) = V (Proc.devRef .tc r) :=
  StableHlo.after_of_writes_sub _ V (StableHlo.forall_writes_sub_of_map rfl) h

/-- One line's value. -/
def t_v61 (xv60_0 : FVec Ideal S2x4x16x128 .f32) : FVec Ideal S2x4x2048 .f32 :=
  shapeCast S2x4x2048 xv60_0 shapeCasts_S2x4x16x128_S2x4x2048

/-- One line's value. -/
def t_v62 (xv60_0 : FVec Ideal S2x4x16x128 .f32) : FVec Ideal S2x2048x4 .f32 :=
  (transpose S2x2048x4 [0, 2, 1] · transposes_S2x4x2048_S2x2048x4_0_2_1) (t_v61 xv60_0)

/-- One line's value. -/
def t_v63 (xv60_1 : FVec Ideal S2x16x128 .f32) : FVec Ideal S2x2048 .f32 :=
  shapeCast S2x2048 xv60_1 shapeCasts_S2x16x128_S2x2048

/-- One line's value. -/
def t_cst_13 : FVec Ideal S_ .f32 :=
  constant (F := Ideal) S_ .f32 0x3F000000#32

/-- One line's value. -/
def t_v64 : FVec Ideal S2x2048 .f32 :=
  broadcastInDim S2x2048 ![] bcast_S_S2x2048 t_cst_13

/-- One line's value. -/
def t_v65 (xv60_1 : FVec Ideal S2x16x128 .f32) : IVec S2x2048 1 :=
  cmpf .ogt (t_v63 xv60_1) t_v64

/-- One line's value. -/
def t_v66 (xv60_1 : FVec Ideal S2x16x128 .f32) : IVec S2x2048 32 :=
  (extui 32 · natLt_1_32) (t_v65 xv60_1)

/-- What the stretch leaves in `main_v159`. -/
theorem read_v62 (V : Valuation τ sig (Elt Ideal)) :
    StableHlo.after hostOps3 V (Proc.devRef .tc main_v159) = t_v62 (V (Proc.devRef .tc main_v157_0)) := by
  after_reads_simp
  rfl

/-- What the stretch leaves in `main_v162`. -/
theorem read_v65 (V : Valuation τ sig (Elt Ideal)) :
    StableHlo.after hostOps3 V (Proc.devRef .tc main_v162) = t_v65 (V (Proc.devRef .tc main_v157_1)) := by
  after_reads_simp
  rfl

/-- What the stretch leaves in `main_v163`. -/
theorem read_v66 (V : Valuation τ sig (Elt Ideal)) :
    StableHlo.after hostOps3 V (Proc.devRef .tc main_v163) = t_v66 (V (Proc.devRef .tc main_v157_1)) := by
  after_reads_simp
  rfl

/-- What `hostOps3` writes. -/
abbrev t_W_hostOps3 : List (Ref sig .tc) := [main_v158, main_v159, main_v160, main_cst_34, main_v161, main_v162, main_v163]

/-- It leaves the other buffers. -/
theorem keep_hostOps3 (V : Valuation τ sig (Elt Ideal)) (r : Ref sig .tc) (h : r ∉ t_W_hostOps3) :
    StableHlo.after hostOps3 V (Proc.devRef .tc r) = V (Proc.devRef .tc r) :=
  StableHlo.after_of_writes_sub _ V (StableHlo.forall_writes_sub_of_map rfl) h

/-- One line's value. -/
def t_call9_call0_c : IVec S_ 32 :=
  constantI S_ 32 0#32

/-- One line's value. -/
def t_call9_call0_v0 : IVec S_ 32 :=
  (broadcastInDim S_ ![] bcast_S_S_) t_call9_call0_c

/-- One line's value. -/
def t_v67 (xv66 : IVec S2x2048 32) : IVec S2x2048 32 :=
  (fun x v => Host.reduceWindow IntOp.addi ![1, 2048] ![1, 1] ![0, 2047] ![0, 0] x v reduceWindows_S2x2048_S2x2048_w1s1p0_0_w2048s1p2047_0 h_S_) xv66 t_call9_call0_v0

/-- What the stretch leaves in `main_v164`. -/
theorem read_v67 (V : Valuation τ sig (Elt Ideal)) :
    StableHlo.after hostOps3_1 V (Proc.devRef .tc main_v164) = t_v67 (V (Proc.devRef .tc main_v163)) := by
  after_reads_simp
  simp only [t_call9_call0_c, t_call9_call0_v0, t_v67, StableHlo.TRef.toBuf, StableHlo.TRef.ofBuf]
  refine (cast_eq rfl _).trans ?_
  congr 1

/-- What `hostOps3_1` writes. -/
abbrev t_W_hostOps3_1 : List (Ref sig .tc) := [main_call17_call0_c, main_call17_call0_v0, main_v164]

/-- It leaves the other buffers. -/
theorem keep_hostOps3_1 (V : Valuation τ sig (Elt Ideal)) (r : Ref sig .tc) (h : r ∉ t_W_hostOps3_1) :
    StableHlo.after hostOps3_1 V (Proc.devRef .tc r) = V (Proc.devRef .tc r) :=
  StableHlo.after_of_writes_sub _ V (StableHlo.forall_writes_sub_of_map rfl) h

/-- One line's value. -/
def t_c_14 : IVec S_ 32 :=
  constantI S_ 32 1#32

/-- One line's value. -/
def t_v68 : IVec S2x2048 32 :=
  broadcastInDim S2x2048 ![] bcast_S_S2x2048 t_c_14

/-- One line's value. -/
def t_v69 (xv67 : IVec S2x2048 32) : IVec S2x2048 32 :=
  subi xv67 t_v68

/-- One line's value. -/
def t_c_15 : IVec S_ 32 :=
  constantI S_ 32 1000#32

/-- One line's value. -/
def t_v70 : IVec S2x2048 32 :=
  broadcastInDim S2x2048 ![] bcast_S_S2x2048 t_c_15

/-- One line's value. -/
def t_v71 (xv67 : IVec S2x2048 32) : IVec S2x2048 1 :=
  cmpi .slt (t_v69 xv67) t_v70

/-- One line's value. -/
def t_v72 (xv65 : IVec S2x2048 1) (xv67 : IVec S2x2048 32) : IVec S2x2048 1 :=
  andi xv65 (t_v71 xv67)

/-- One line's value. -/
def t_c_16 : IVec S_ 32 :=
  constantI S_ 32 1000#32

/-- What the stretch leaves in `main_v166`. -/
theorem read_v69 (V : Valuation τ sig (Elt Ideal)) :
    StableHlo.after hostOps3_2 V (Proc.devRef .tc main_v166) = t_v69 (V (Proc.devRef .tc main_v164)) := by
  after_reads_simp
  rfl

/-- What the stretch leaves in `main_v169`. -/
theorem read_v72 (V : Valuation τ sig (Elt Ideal)) :
    StableHlo.after hostOps3_2 V (Proc.devRef .tc main_v169) = t_v72 (V (Proc.devRef .tc main_v162)) (V (Proc.devRef .tc main_v164)) := by
  after_reads_simp
  rfl

/-- What the stretch leaves in `main_c_37`. -/
theorem read_c_16 (V : Valuation τ sig (Elt Ideal)) :
    StableHlo.after hostOps3_2 V (Proc.devRef .tc main_c_37) = t_c_16  := by
  after_reads_simp
  rfl

/-- What `hostOps3_2` writes. -/
abbrev t_W_hostOps3_2 : List (Ref sig .tc) := [main_c_35, main_v165, main_v166, main_c_36, main_v167, main_v168, main_v169, main_c_37]

/-- It leaves the other buffers. -/
theorem keep_hostOps3_2 (V : Valuation τ sig (Elt Ideal)) (r : Ref sig .tc) (h : r ∉ t_W_hostOps3_2) :
    StableHlo.after hostOps3_2 V (Proc.devRef .tc r) = V (Proc.devRef .tc r) :=
  StableHlo.after_of_writes_sub _ V (StableHlo.forall_writes_sub_of_map rfl) h

/-- One line's value. -/
def t_call10_v0 (xc_16 : IVec S_ 32) : IVec S_ 32 :=
  id xc_16

/-- One line's value. -/
def t_call10_v1 (xc_16 : IVec S_ 32) : IVec S2x2048 32 :=
  (broadcastInDim S2x2048 ![] bcast_S_S2x2048) (t_call10_v0 xc_16)

/-- One line's value. -/
def t_v73 (xv72 : IVec S2x2048 1) (xv69 : IVec S2x2048 32) (xc_16 : IVec S_ 32) : IVec S2x2048 32 :=
  select xv72 xv69 (t_call10_v1 xc_16)

/-- What the stretch leaves in `main_v170`. -/
theorem read_v73 (V : Valuation τ sig (Elt Ideal)) :
    StableHlo.after hostOps3_3 V (Proc.devRef .tc main_v170) = t_v73 (V (Proc.devRef .tc main_v169)) (V (Proc.devRef .tc main_v166)) (V (Proc.devRef .tc main_c_37)) := by
  after_reads_simp
  rfl

/-- What `hostOps3_3` writes. -/
abbrev t_W_hostOps3_3 : List (Ref sig .tc) := [main_call18_v0, main_call18_v1, main_v170]

/-- It leaves the other buffers. -/
theorem keep_hostOps3_3 (V : Valuation τ sig (Elt Ideal)) (r : Ref sig .tc) (h : r ∉ t_W_hostOps3_3) :
    StableHlo.after hostOps3_3 V (Proc.devRef .tc r) = V (Proc.devRef .tc r) :=
  StableHlo.after_of_writes_sub _ V (StableHlo.forall_writes_sub_of_map rfl) h

/-- One line's value. -/
def t_cst_17 : FVec Ideal S_ .f32 :=
  constant (F := Ideal) S_ .f32 0x00000000#32

/-- One line's value. -/
def t_v74 : FVec Ideal S2x1001x4 .f32 :=
  broadcastInDim S2x1001x4 ![] bcast_S_S2x1001x4 t_cst_17

/-- One line's value. -/
def t_c_18 : IVec S_ 32 :=
  constantI S_ 32 0#32

/-- One line's value. -/
def t_v75 : IVec S2x1 32 :=
  broadcastInDim S2x1 ![] bcast_S_S2x1 t_c_18

/-- One line's value. -/
def t_v76 (xv1 : IVec S2x1 32) : IVec S2x1 1 :=
  cmpi .slt xv1 t_v75

/-- One line's value. -/
def t_c_19 : IVec S_ 32 :=
  constantI S_ 32 2#32

/-- One line's value. -/
def t_v77 : IVec S2x1 32 :=
  broadcastInDim S2x1 ![] bcast_S_S2x1 t_c_19

/-- One line's value. -/
def t_v78 (xv1 : IVec S2x1 32) : IVec S2x1 32 :=
  addi xv1 t_v77

/-- One line's value. -/
def t_v79 (xv1 : IVec S2x1 32) : IVec S2x1 32 :=
  select (t_v76 xv1) (t_v78 xv1) xv1

/-- One line's value. -/
def t_c_20 : IVec S_ 32 :=
  constantI S_ 32 0#32

/-- One line's value. -/
def t_v80 : IVec S2x2048 32 :=
  broadcastInDim S2x2048 ![] bcast_S_S2x2048 t_c_20

/-- One line's value. -/
def t_v81 (xv73 : IVec S2x2048 32) : IVec S2x2048 1 :=
  cmpi .slt xv73 t_v80

/-- One line's value. -/
def t_c_21 : IVec S_ 32 :=
  constantI S_ 32 1001#32

/-- One line's value. -/
def t_v82 : IVec S2x2048 32 :=
  broadcastInDim S2x2048 ![] bcast_S_S2x2048 t_c_21

/-- One line's value. -/
def t_v83 (xv73 : IVec S2x2048 32) : IVec S2x2048 32 :=
  addi xv73 t_v82

/-- One line's value. -/
def t_v84 (xv73 : IVec S2x2048 32) : IVec S2x2048 32 :=
  select (t_v81 xv73) (t_v83 xv73) xv73

/-- One line's value. -/
def t_v85 (xv1 : IVec S2x1 32) : IVec S2x2048 32 :=
  broadcastInDim S2x2048 ![0, 1] bcast_S2x1_S2x2048_0_1 (t_v79 xv1)

/-- One line's value. -/
def t_v86 (xv1 : IVec S2x1 32) : IVec S2x2048x1 32 :=
  broadcastInDim S2x2048x1 ![0, 1] bcast_S2x2048_S2x2048x1_0_1 (t_v85 xv1)

/-- One line's value. -/
def t_v87 (xv73 : IVec S2x2048 32) : IVec S2x2048x1 32 :=
  broadcastInDim S2x2048x1 ![0, 1] bcast_S2x2048_S2x2048x1_0_1 (t_v84 xv73)

/-- One line's value. -/
def t_v88 (xv1 : IVec S2x1 32) (xv73 : IVec S2x2048 32) : IVec S2x2048x2 32 :=
  (fun a b => concatenate S2x2048x2 2 [⟨S2x2048x1, a⟩, ⟨S2x2048x1, b⟩] concatenates_S2x2048x1_S2x2048x1_S2x2048x2_d2) (t_v86 xv1) (t_v87 xv73)

/-- One line's value. -/
def t_v89 (xv1 : IVec S2x1 32) (xv73 : IVec S2x2048 32) (xv62 : FVec Ideal S2x2048x4 .f32) : FVec Ideal S2x1001x4 .f32 :=
  (fun x i u => Host.scatter scatter_S2x1001x4_S2x2048x2_S2x2048x4_2_01_01_2 (fun _ b => b) x i u) t_v74 (t_v88 xv1 xv73) xv62

/-- One line's value. -/
def t_v90 (xv1 : IVec S2x1 32) (xv73 : IVec S2x2048 32) (xv62 : FVec Ideal S2x2048x4 .f32) : FVec Ideal S2x1000x4 .f32 :=
  (extractStridedSlice S2x1000x4 ![0, 0, 0] · slices_S2x1001x4_S2x1000x4_0_0_0) (t_v89 xv1 xv73 xv62)

/-- What the stretch leaves in `main_v187`. -/
theorem read_v90 (V : Valuation τ sig (Elt Ideal)) :
    StableHlo.after hostOps3_4 V (Proc.devRef .tc main_v187) = t_v90 (V (Proc.devRef .tc main_v98)) (V (Proc.devRef .tc main_v170)) (V (Proc.devRef .tc main_v159)) := by
  after_reads_simp
  rfl

/-- What `hostOps3_4` writes. -/
abbrev t_W_hostOps3_4 : List (Ref sig .tc) := [main_cst_38, main_v171, main_c_39, main_v172, main_v173, main_c_40, main_v174, main_v175, main_v176, main_c_41, main_v177, main_v178, main_c_42, main_v179, main_v180, main_v181, main_v182, main_v183, main_v184, main_v185, main_v186, main_v187]
-- ==== Proof.KNms.lean ====
/- The kernel body's values at an entry. -/
module

public import proofs.«01_k».proof.Proof.BodyKI
public import proofs.«01_k».proof.Proof.Cand
public import proofs.«01_k».proof.Proof.Greedy
public import Idealize.ShloMosaic.Lib.Pointwise
public import Idealize.ShloMosaic.Lib.WordCmp
public import Idealize.ShloMosaic.Lib.Routing.BitFacts

@[expose] public section

set_option maxRecDepth 16384

noncomputable section

namespace Cert.Proof.KernelIdeal

open Cert.KernelIdeal Cert.KernelIdeal.Gen Cert.Proof.Cand
open Idealize.ShloMosaic Idealize.ShloMosaic.TcCoe Idealize.SL.Sem Idealize.ShloMosaic.Routing Idealize.ShloMosaic.WordCmp

/-- The row of a position of the 16 by 128 block. -/
abbrev prow (p : Fin 2048) : Fin 16 := ⟨p.val / 128, by omega⟩
/-- The lane of a position of the 16 by 128 block. -/
abbrev plane (p : Fin 2048) : Fin 128 := ⟨p.val % 128, by omega⟩

/-- The left edges are the candidates' left edges. -/
theorem bx1_at (x2 x3 : FVec Ideal S1x4x16x128 .f32) (r : Fin 16) (l : Fin 128) :
    bx1 (F := Ideal) x2 x3 (ix2 r l) = box (fun j => x2 (ix4 0 j r l)) (fun j => x3 (ix4 0 j r l)) 0 := by
  pointwise [bx1, k2_pay8, k2_pay9, k2_pay20, k2_pay22, k2_pay24, k2_pay12, k2_pay14, k2_pay17, k2_pay19]
  rfl

/-- The top edges are the candidates' top edges. -/
theorem by1_at (x2 x3 : FVec Ideal S1x4x16x128 .f32) (r : Fin 16) (l : Fin 128) :
    by1 (F := Ideal) x2 x3 (ix2 r l) = box (fun j => x2 (ix4 0 j r l)) (fun j => x3 (ix4 0 j r l)) 1 := by
  pointwise [by1, k2_pay8, k2_pay9, k2_pay21, k2_pay23, k2_pay25, k2_pay13, k2_pay15, k2_pay16, k2_pay18]
  rfl

/-- The right edges are the candidates' right edges. -/
theorem bx2_at (x2 x3 : FVec Ideal S1x4x16x128 .f32) (r : Fin 16) (l : Fin 128) :
    bx2 (F := Ideal) x2 x3 (ix2 r l) = box (fun j => x2 (ix4 0 j r l)) (fun j => x3 (ix4 0 j r l)) 2 := by
  pointwise [bx2, k2_pay8, k2_pay9, k2_pay20, k2_pay22, k2_pay26, k2_pay12, k2_pay14, k2_pay17, k2_pay19]
  rfl

/-- The bottom edges are the candidates' bottom edges. -/
theorem by2_at (x2 x3 : FVec Ideal S1x4x16x128 .f32) (r : Fin 16) (l : Fin 128) :
    by2 (F := Ideal) x2 x3 (ix2 r l) = box (fun j => x2 (ix4 0 j r l)) (fun j => x3 (ix4 0 j r l)) 3 := by
  pointwise [by2, k2_pay8, k2_pay9, k2_pay21, k2_pay23, k2_pay27, k2_pay13, k2_pay15, k2_pay16, k2_pay18]
  rfl

/-- The widths are the differences of the edges. -/
theorem bws_at (x2 x3 : FVec Ideal S1x4x16x128 .f32) (r : Fin 16) (l : Fin 128) :
    bws (F := Ideal) x2 x3 (ix2 r l) = bx2 (F := Ideal) x2 x3 (ix2 r l) - bx1 (F := Ideal) x2 x3 (ix2 r l) := by
  pointwise [bws, bx1, bx2, k2_pay28, k2_pay24, k2_pay8, k2_pay9, k2_pay20, k2_pay22, k2_pay26, k2_pay12, k2_pay14, k2_pay17, k2_pay19]

/-- The heights are the differences of the edges. -/
theorem bhs_at (x2 x3 : FVec Ideal S1x4x16x128 .f32) (r : Fin 16) (l : Fin 128) :
    bhs (F := Ideal) x2 x3 (ix2 r l) = by2 (F := Ideal) x2 x3 (ix2 r l) - by1 (F := Ideal) x2 x3 (ix2 r l) := by
  pointwise [bhs, by1, by2, k2_pay29, k2_pay25, k2_pay8, k2_pay9, k2_pay21, k2_pay23, k2_pay27, k2_pay13, k2_pay15, k2_pay16, k2_pay18]

/-- The mask's test, from the widths, the heights and the score. -/
theorem mask2_read (x0 : FVec Ideal S1x16x128 .f32) (x2 x3 : FVec Ideal S1x4x16x128 .f32) (r : Fin 16) (l : Fin 128) :
    mask0 (F := Ideal) x0 x2 x3 (ix2 r l) = Scalar.select (IntOp.andi (IntOp.andi (BitVec.ofBool (decide (lit 0x3A83126F#32 ≤ bws (F := Ideal) x2 x3 (ix2 r l))))
      (BitVec.ofBool (decide (lit 0x3A83126F#32 ≤ bhs (F := Ideal) x2 x3 (ix2 r l))))) (BitVec.ofBool (decide (0 ≤ Ideal.logistic (x0 (ix3 0 r l)))))) (1 : EReal) 0 := by
  pointwise [mask0, bws, bhs, k2_pay8, k2_pay9, k2_pay20, k2_pay21, k2_pay22, k2_pay23, k2_pay39, k2_pay28, k2_pay29, k2_pay30, k2_pay31, k2_pay10, k2_pay12, k2_pay13,k2_pay14,k2_pay15,k2_pay16, k2_pay17, k2_pay18, k2_pay19]

open Classical in
/-- The starting mask is one at the candidates whose box is large enough and zero elsewhere. -/
theorem mask2_at (x0 : FVec Ideal S1x16x128 .f32) (x2 x3 : FVec Ideal S1x4x16x128 .f32) (r : Fin 16) (l : Fin 128) :
    mask0 (F := Ideal) x0 x2 x3 (ix2 r l) = if big (box (fun j => x2 (ix4 0 j r l)) (fun j => x3 (ix4 0 j r l))) ∧ 0 ≤ logi (x0 (ix3 0 r l)) then 1 else 0 := by
  rw [mask2_read, bws_at, bhs_at, bx1_at, bx2_at, by1_at, by2_at]
  unfold big logi
  rw [andi_ofBool, andi_ofBool]
  unfold Scalar.select
  simp only [ofBool_eq_one_iff', Bool.and_eq_true, decide_eq_true_eq]
  split_ifs <;> first | rfl | contradiction

/-- The word of a position. -/
theorem idx_word (x : Fin 16) (y : Fin 128) :
    IntOp.addi (IntOp.muli (BitVec.ofNat 32 x.val) 128#32) (BitVec.ofNat 32 y.val) = BitVec.ofNat 32 (x.val * 128 + y.val) := by
  rw [BitVec.ofNat_add, BitVec.ofNat_mul]; rfl

/-- The word of a trip. -/
theorem iv_word (k : ℕ) : Scf.iv 0#32 1#32 k = BitVec.ofNat 32 k := by
  simp [Scf.iv]

/-- A sum over the block against one position is the value at that position. -/
theorem onehot (f : Fin 16 → Fin 128 → EReal) (p : Fin 2048) :
    (∑ x : Fin 16, ∑ y : Fin 128, Scalar.select (IntOp.cmpi CmpIPredicate.eq (BitVec.ofNat 32 (x.val * 128 + y.val)) (BitVec.ofNat 32 p.val)) (f x y) 0)
      = f (prow p) (plane p) := by
  have e : ∀ (x : Fin 16) (y : Fin 128), Scalar.select (IntOp.cmpi CmpIPredicate.eq (BitVec.ofNat 32 (x.val * 128 + y.val)) (BitVec.ofNat 32 p.val)) (f x y) 0
      = if x.val * 128 + y.val = p.val then f x y else 0 := by
    intro x y
    unfold Scalar.select
    congr 1
    show (BitVec.ofBool (BitVec.ofNat 32 (x.val * 128 + y.val) == BitVec.ofNat 32 p.val) = 1) = _
    rw [ofBool_eq_one_iff', beq_iff_eq, ofNat_eq_ofNat_iff (by omega) (by omega)]
  simp only [e]
  rw [Finset.sum_eq_single (prow p), Finset.sum_eq_single (plane p)]
  · rw [if_pos]; show p.val / 128 * 128 + p.val % 128 = p.val; omega
  · intro y _ hy
    rw [if_neg]
    intro h; apply hy; apply Fin.ext
    have : p.val / 128 * 128 + y.val = p.val := h
    show y.val = p.val % 128
    omega
  · intro h; exact absurd (Finset.mem_univ _) h
  · intro x _ hx
    apply Finset.sum_eq_zero
    intro y _
    rw [if_neg]
    intro h; apply hx; apply Fin.ext
    show x.val = p.val / 128
    omega
  · intro h; exact absurd (Finset.mem_univ _) h

/-- The moved corners at a position. -/
def quad (v7 v54 v61 v68 v75 : FVec Ideal S16x128 .f32) (r : Fin 16) (l : Fin 128) : Fin 4 → EReal :=
  moved ![v54 (ix2 r l), v61 (ix2 r l), v68 (ix2 r l), v75 (ix2 r l)] (v7 (ix2 r l) * lit 0x44484000#32)

open Classical in
/-- One trip clears the positions after its own that overlap it, if its own is still set. -/
theorem trip_at (v7 v54 v61 v68 v75 v76 v77 m : FVec Ideal S16x128 .f32) (k : Fin k2_t1_loop.trips) (p : Fin 2048) (hk : k.val = p.val) (r : Fin 16) (l : Fin 128) :
    trip v7 v54 v61 v68 v75 v76 v77 k m (ix2 r l) =
      if (over (quad v7 v54 v61 v68 v75 (prow p) (plane p)) (quad v7 v54 v61 v68 v75 r l)
          (v76 (ix2 (prow p) (plane p)) * v77 (ix2 (prow p) (plane p))) (v76 (ix2 r l) * v77 (ix2 r l)) ∧ p.val < r.val * 128 + l.val)
        ∧ 0 < m (ix2 (prow p) (plane p)) then 0 else m (ix2 r l) := by
  pointwise [trip, k2_pay2, k2_pay3, k2_pay4, k2_pay5, k2_pay6, k2_pay7, k2_pay32,k2_pay33,k2_pay34,k2_pay35,k2_pay36,k2_pay37,k2_pay38,k2_pay40]
  rw [hk]
  simp only [idx_word, iv_word, onehot (fun x y => v68 (ix2 x y) + v7 (ix2 x y) * Ideal.ofBits FTy.f32 0x44484000#32),
    onehot (fun x y => v54 (ix2 x y) + v7 (ix2 x y) * Ideal.ofBits FTy.f32 0x44484000#32),
    onehot (fun x y => v61 (ix2 x y) + v7 (ix2 x y) * Ideal.ofBits FTy.f32 0x44484000#32),
    onehot (fun x y => v75 (ix2 x y) + v7 (ix2 x y) * Ideal.ofBits FTy.f32 0x44484000#32),
    onehot (fun x y => v76 (ix2 x y) * v77 (ix2 x y)), onehot (fun x y => m (ix2 x y))]
  have hs : IntOp.cmpi CmpIPredicate.sgt (BitVec.ofNat 32 (r.val * 128 + l.val)) (BitVec.ofNat 32 p.val) = BitVec.ofBool (decide (p.val < r.val * 128 + l.val)) := by
    show BitVec.ofBool ((BitVec.ofNat 32 p.val).slt (BitVec.ofNat 32 (r.val * 128 + l.val))) = _
    rw [slt_ofNat32 (by omega) (by omega)]
  rw [hs, andi_ofBool, andi_ofBool]
  unfold Scalar.select
  simp only [ofBool_eq_one_iff', Bool.and_eq_true, decide_eq_true_eq]
  exact if_congr Iff.rfl rfl rfl

section Loop

variable (x0 x1 : FVec Ideal S1x16x128 .f32) (x2 x3 : FVec Ideal S1x4x16x128 .f32)

/-- The loop makes two thousand trips. -/
theorem trips_eq : k2_t1_loop.trips = 2000 := by decide

/-- The candidate's clipped corners at a position. -/
def boxAt (p : Fin 2048) : Fin 4 → EReal := box (fun j => x2 (ix4 0 j (prow p) (plane p))) (fun j => x3 (ix4 0 j (prow p) (plane p)))

/-- The level's offset at a position. -/
def offAt (p : Fin 2048) : EReal := x1 (ix3 0 (prow p) (plane p)) * lit 0x44484000#32

/-- The validity test at a position. -/
def okAt (p : Fin 2048) : Prop := big (boxAt x2 x3 p) ∧ 0 ≤ logi (x0 (ix3 0 (prow p) (plane p)))

/-- The overlap test between two positions. -/
def overAt (p q : Fin 2048) : Prop :=
  over (moved (boxAt x2 x3 p) (offAt x1 p)) (moved (boxAt x2 x3 q) (offAt x1 q)) (area (boxAt x2 x3 p)) (area (boxAt x2 x3 q))

/-- A position is set before trip `k`. -/
def setAt (k : ℕ) (p : Fin 2048) : Prop := maskN (F := Ideal) x0 x1 x2 x3 k (ix2 (prow p) (plane p)) = (1 : EReal)

/-- The moved corners of the body are the candidate's. -/
theorem quad_eq (p : Fin 2048) :
    quad (k2_pay11 x1) (bx1 (F := Ideal) x2 x3) (by1 (F := Ideal) x2 x3) (bx2 (F := Ideal) x2 x3) (by2 (F := Ideal) x2 x3) (prow p) (plane p) = moved (boxAt x2 x3 p) (offAt x1 p) := by
  unfold quad
  rw [bx1_at, bx2_at, by1_at, by2_at]
  have h7 : k2_pay11 x1 (ix2 (prow p) (plane p)) = x1 (ix3 0 (prow p) (plane p)) := by pointwise [k2_pay11]
  rw [h7]
  unfold moved boxAt offAt
  funext j
  fin_cases j <;> rfl

/-- The areas of the body are the candidate's. -/
theorem area_eq (p : Fin 2048) :
    bws (F := Ideal) x2 x3 (ix2 (prow p) (plane p)) * bhs (F := Ideal) x2 x3 (ix2 (prow p) (plane p)) = area (boxAt x2 x3 p) := by
  rw [bws_at, bhs_at, bx1_at, bx2_at, by1_at, by2_at]
  rfl

/-- Before the first trip the valid positions are set. -/
theorem mask_zero (p : Fin 2048) :
    (maskN (F := Ideal) x0 x1 x2 x3 0 (ix2 (prow p) (plane p)) = (0 : EReal) ∨ setAt x0 x1 x2 x3 0 p) ∧ (setAt x0 x1 x2 x3 0 p ↔ okAt x0 x2 x3 p) := by
  have h := mask2_at x0 x2 x3 (prow p) (plane p)
  unfold setAt okAt boxAt
  show (mask0 (F := Ideal) x0 x2 x3 (ix2 (prow p) (plane p)) = (0 : EReal) ∨ mask0 (F := Ideal) x0 x2 x3 (ix2 (prow p) (plane p)) = (1 : EReal)) ∧ (mask0 (F := Ideal) x0 x2 x3 (ix2 (prow p) (plane p)) = (1 : EReal) ↔ _)
  rw [h]
  split_ifs with hc
  · exact ⟨.inr rfl, iff_of_true rfl hc⟩
  · exact ⟨.inl rfl, iff_of_false zero_ne_one hc⟩

/-- One trip at a position, as a value. -/
theorem mask_succ_val (k : ℕ) (hk : k < 2000) (q : Fin 2048) : ∃ D : Prop, ∃ _ : Decidable D,
    (D ↔ (overAt x1 x2 x3 ⟨k, by omega⟩ q ∧ k < q.val) ∧ (0 : EReal) < maskN (F := Ideal) x0 x1 x2 x3 k (ix2 (prow ⟨k, by omega⟩) (plane ⟨k, by omega⟩))) ∧
    maskN (F := Ideal) x0 x1 x2 x3 (k + 1) (ix2 (prow q) (plane q)) = if D then (0 : EReal) else maskN (F := Ideal) x0 x1 x2 x3 k (ix2 (prow q) (plane q)) := by
  have hk' : k < k2_t1_loop.trips := by rw [trips_eq]; exact hk
  have e : maskN (F := Ideal) x0 x1 x2 x3 (k + 1) = trip (k2_pay11 x1) (bx1 (F := Ideal) x2 x3) (by1 (F := Ideal) x2 x3) (bx2 (F := Ideal) x2 x3) (by2 (F := Ideal) x2 x3) (bws (F := Ideal) x2 x3) (bhs (F := Ideal) x2 x3) ⟨k, hk'⟩ (maskN x0 x1 x2 x3 k) := by
    show maskAt _ _ _ _ _ _ _ _ (k + 1) = _
    rw [maskAt, dif_pos hk']
    rfl
  rw [e, trip_at _ _ _ _ _ _ _ _ ⟨k, hk'⟩ ⟨k, by omega⟩ rfl, quad_eq, quad_eq, area_eq, area_eq]
  refine ⟨_, _, ?_, rfl⟩
  have hq : (prow q).val * 128 + (plane q).val = q.val := by show q.val / 128 * 128 + q.val % 128 = q.val; omega
  rw [hq]
  rfl

/-- Every entry of the mask is zero or one. -/
theorem mask_bit (k : ℕ) (hk : k ≤ 2000) (q : Fin 2048) :
    maskN (F := Ideal) x0 x1 x2 x3 k (ix2 (prow q) (plane q)) = (0 : EReal) ∨ setAt x0 x1 x2 x3 k q := by
  induction k with
  | zero => exact (mask_zero x0 x1 x2 x3 q).1
  | succ k ih =>
    obtain ⟨D, _, -, h⟩ := mask_succ_val x0 x1 x2 x3 k (by omega) q
    unfold setAt
    rw [h]
    split_ifs
    · exact .inl rfl
    · exact ih (by omega)

/-- One trip keeps the set positions that the trip's own position does not suppress. -/
theorem set_succ (k : ℕ) (hk : k < 2000) (q : Fin 2048) :
    setAt x0 x1 x2 x3 (k + 1) q ↔ setAt x0 x1 x2 x3 k q ∧ ¬ (overAt x1 x2 x3 ⟨k, by omega⟩ q ∧ k < q.val ∧ setAt x0 x1 x2 x3 k ⟨k, by omega⟩) := by
  obtain ⟨D, _, hD, h⟩ := mask_succ_val x0 x1 x2 x3 k hk q
  have hpos : ((0 : EReal) < maskN (F := Ideal) x0 x1 x2 x3 k (ix2 (prow ⟨k, by omega⟩) (plane ⟨k, by omega⟩))) ↔ setAt x0 x1 x2 x3 k ⟨k, by omega⟩ := by
    rcases mask_bit x0 x1 x2 x3 k (by omega) ⟨k, by omega⟩ with h0 | h1
    · unfold setAt
      rw [h0]
      exact iff_of_false (lt_irrefl _) zero_ne_one
    · have h1' := h1
      unfold setAt at h1'
      rw [h1']
      exact iff_of_true zero_lt_one h1
  rw [hpos, and_assoc] at hD
  rw [← hD]
  unfold setAt
  rw [h]
  by_cases hd : D
  · rw [if_pos hd]
    exact iff_of_false zero_ne_one (fun hh => hh.2 hd)
  · rw [if_neg hd]
    exact ⟨fun hh => ⟨hh, hd⟩, fun hh => hh.1⟩

/-- After the loop a position is set exactly when it is valid and no earlier set position suppresses it. -/
theorem set_final (q : Fin 2048) :
    setAt x0 x1 x2 x3 2000 q ↔ okAt x0 x2 x3 q ∧ ∀ i : Fin 2048, i.val < 2000 → i < q → setAt x0 x1 x2 x3 2000 i → ¬ overAt x1 x2 x3 i q := by
  rw [← (mask_zero x0 x1 x2 x3 q).2]
  exact Greedy.loop_closed 2000 (by omega) (setAt x0 x1 x2 x3) (overAt x1 x2 x3) (fun n hn j => set_succ x0 x1 x2 x3 n hn j) q

end Loop

end Cert.Proof.KernelIdeal
-- ==== Proof.KHost.lean ====
/- The arrays the launch reads, at an entry: the candidates' data in descending order of the objectness. -/
module

public import proofs.«01_k».proof.Proof.KRead
public import proofs.«01_k».proof.Proof.Cand
public import proofs.«01_k».proof.Proof.Greedy
public import proofs.«01_k».proof.Proof.Gath
public import proofs.«01_k».proof.Proof.KNms
public import Idealize.ShloMosaic.Lib.Pointwise
public import Idealize.ShloMosaic.Lib.WordCmp
public import Idealize.ShloMosaic.Lib.Routing.BitFacts

@[expose] public section

set_option maxRecDepth 16384

noncomputable section

namespace Cert.Proof.KernelIdeal

open Cert.KernelIdeal Cert.KernelIdeal.Gen Cert.Proof.Cand Cert.Proof.Gath
open Idealize.ShloMosaic Idealize.ShloMosaic.TcCoe Idealize.SL.Sem Idealize.ShloMosaic.Routing Idealize.ShloMosaic.WordCmp

/-- Sorting the scores: place `p` of the sorted row holds the entry that the order's word at `p` names. -/
theorem take48 (i : IVec S2x2048 32) (x : FVec Ideal S2x2048 .f32) (b : Fin 2) (p n : Fin 2048) (h : i (ix2 b p) = BitVec.ofNat 32 n.val) :
    t_v48 i x (ix2 b p) = x (ix2 b n) := by
  have hn : n.val < 2 ^ 31 := by omega
  pointwise [t_v48, t_call5_v14, t_call5_v13, t_call5_v12, t_call5_v11, t_call5_v10, t_call5_v9, t_call5_v8, t_call5_v7, t_call5_v6, t_call5_v5, t_call5_v4, t_call5_v3, t_call5_v2, t_call5_v1, t_call5_v0, t_call5_c, t_call5_c_0, t_call5_c_1, t_call5_c_2, t_call5_c_3, t_call5_cst]
  rw [fold_one _ (by
    show IntOp.andi _ _ = 1#1
    rw [h, wrap_at hn]; exact range_at (m := 2047) (by omega) (by omega))]
  refine (along_at _ (by omega) x _ b p n ?_)
  pointwise []
  rw [h, wrap_at hn]

/-- The levels follow the same order as the scores. -/
theorem take49 (i : IVec S2x2048 32) (x : FVec Ideal S2x2048 .f32) (b : Fin 2) (p n : Fin 2048) (h : i (ix2 b p) = BitVec.ofNat 32 n.val) :
    t_v49 i x (ix2 b p) = x (ix2 b n) := by
  have hn : n.val < 2 ^ 31 := by omega
  pointwise [t_v49, t_call6_v14, t_call6_v13, t_call6_v12, t_call6_v11, t_call6_v10, t_call6_v9, t_call6_v8, t_call6_v7, t_call6_v6, t_call6_v5, t_call6_v4, t_call6_v3, t_call6_v2, t_call6_v1, t_call6_v0, t_call6_c, t_call6_c_0, t_call6_c_1, t_call6_c_2, t_call6_c_3, t_call6_cst]
  rw [fold_one _ (by
    show IntOp.andi _ _ = 1#1
    rw [h, wrap_at hn]; exact range_at (m := 2047) (by omega) (by omega))]
  refine (along_at _ (by omega) x _ b p n ?_)
  pointwise []
  rw [h, wrap_at hn]

/-- The deltas follow the same order as the scores. -/
theorem take51 (i : IVec S2x2048x1 32) (x : FVec Ideal S2x2048x4 .f32) (b : Fin 2) (p n : Fin 2048) (j : Fin 4) (h : i (ix3 b p 0) = BitVec.ofNat 32 n.val) :
    t_v51 i x (ix3 b p j) = x (ix3 b n j) := by
  have hn : n.val < 2 ^ 31 := by omega
  pointwise [t_v51, t_call7_v13, t_call7_v12, t_call7_v11, t_call7_v10, t_call7_v9, t_call7_v8, t_call7_v7, t_call7_v6, t_call7_v5, t_call7_v4, t_call7_v3, t_call7_v2, t_call7_v1, t_call7_v0, t_call7_c, t_call7_c_0, t_call7_c_1, t_call7_c_2, t_call7_c_3, t_call7_cst]
  rw [fold_one _ (by
    show IntOp.andi _ _ = 1#1
    rw [h, wrap_at hn]; exact range_at (m := 2047) (by omega) (by omega))]
  refine (alongRow_at _ (by omega) x _ b p j n ?_)
  pointwise []
  rw [show i (ix3 b p 0) = BitVec.ofNat 32 n.val from h, wrap_at hn]

/-- The anchors follow the same order as the scores. -/
theorem take53 (i : IVec S2x2048x1 32) (x : FVec Ideal S2x2048x4 .f32) (b : Fin 2) (p n : Fin 2048) (j : Fin 4) (h : i (ix3 b p 0) = BitVec.ofNat 32 n.val) :
    t_v53 i x (ix3 b p j) = x (ix3 b n j) := by
  have hn : n.val < 2 ^ 31 := by omega
  pointwise [t_v53, t_call8_v13, t_call8_v12, t_call8_v11, t_call8_v10, t_call8_v9, t_call8_v8, t_call8_v7, t_call8_v6, t_call8_v5, t_call8_v4, t_call8_v3, t_call8_v2, t_call8_v1, t_call8_v0, t_call8_c, t_call8_c_0, t_call8_c_1, t_call8_c_2, t_call8_c_3, t_call8_cst]
  rw [fold_one _ (by
    show IntOp.andi _ _ = 1#1
    rw [h, wrap_at hn]; exact range_at (m := 2047) (by omega) (by omega))]
  refine (alongRow_at _ (by omega) x _ b p j n ?_)
  pointwise []
  rw [show i (ix3 b p 0) = BitVec.ofNat 32 n.val from h, wrap_at hn]

/-- The score gathered for candidate `k` is that of the anchor which its index names. -/
theorem obj_at (i : IVec S2x2000 32) (x : FVec Ideal S2x200000 .f32) (b : Fin 2) (k : Fin 2000) (n : Fin 200000) (h : i (ix2 b k) = BitVec.ofNat 32 n.val) :
    t_v16 x i (ix2 b k) = x (ix2 b n) := by
  have hn : n.val < 2 ^ 31 := by omega
  have hb : b.val < 2 ^ 31 := by omega
  unfold t_v16
  refine (pair_at _ (by omega) (by omega) x _ b k b n ?_ ?_)
  · pointwise [t_v15, t_v14, t_v13, t_v12, t_v11,t_v10,t_v9,t_v8,t_v7,t_v6,t_v5,t_v4,t_v3,t_v2,t_v1,t_v0, t_c, t_c_0, t_c_1, t_c_2]
    exact wrap_at hb _
  · pointwise [t_v15, t_v14, t_v13, t_v12, t_v11,t_v10,t_v9,t_v8,t_v7,t_v6,t_v5,t_v4,t_v3,t_v2,t_v1,t_v0, t_c, t_c_0, t_c_1, t_c_2]
    rw [h]; exact wrap_at hn _

/-- The deltas gathered for candidate `k` are those of the anchor which its index names. -/
theorem delta_at (i : IVec S2x2000 32) (x : FVec Ideal S2x200000x4 .f32) (b : Fin 2) (k : Fin 2000) (j : Fin 4) (n : Fin 200000) (h : i (ix2 b k) = BitVec.ofNat 32 n.val) :
    t_v34 x i (ix3 b k j) = x (ix3 b n j) := by
  have hn : n.val < 2 ^ 31 := by omega
  have hb : b.val < 2 ^ 31 := by omega
  unfold t_v34
  refine (pairRow_at _ (by omega) (by omega) x _ b k j b n ?_ ?_)
  · pointwise [t_v33, t_v32, t_v31, t_v30, t_v29,t_v28,t_v27,t_v26,t_v25,t_v24,t_v23,t_v22,t_v21,t_v20,t_v1,t_v0, t_c_4, t_c_5, t_c_6, t_c_7]
    exact wrap_at hb _
  · pointwise [t_v33, t_v32, t_v31, t_v30, t_v29,t_v28,t_v27,t_v26,t_v25,t_v24,t_v23,t_v22,t_v21,t_v20,t_v1,t_v0, t_c_4, t_c_5, t_c_6, t_c_7]
    rw [h]; exact wrap_at hn _

/-- The anchor gathered for candidate `k` is the one which its index names. -/
theorem anchor_at (i : IVec S2x2000 32) (x : FVec Ideal S200000x4 .f32) (b : Fin 2) (k : Fin 2000) (j : Fin 4) (n : Fin 200000) (h : i (ix2 b k) = BitVec.ofNat 32 n.val) :
    t_v41 x i (ix3 b k j) = x (ix2 n j) := by
  have hn : n.val < 2 ^ 31 := by omega
  unfold t_v41
  refine (row_at _ (by omega) x _ b k j n ?_)
  pointwise [t_v40, t_v39, t_v38,t_v37,t_v36,t_v35, t_c_8, t_c_9]
  rw [h]; exact wrap_at hn _

/-- Candidate `k` is on level one exactly when its index is at least 160000. -/
theorem level_at (i : IVec S2x2000 32) (b : Fin 2) (k : Fin 2000) (n : Fin 200000) (h : i (ix2 b k) = BitVec.ofNat 32 n.val) :
    t_v19 i (ix2 b k) = if 160000 ≤ n.val then 1 else 0 := by
  pointwise [t_v19, t_v18, t_v17, t_c_3]
  rw [h]
  have hs : IntOp.cmpi CmpIPredicate.sge (BitVec.ofNat 32 n.val) 160000#32 = BitVec.ofBool (decide (160000 ≤ n.val)) := by
    show BitVec.ofBool ((160000#32).sle (BitVec.ofNat 32 n.val)) = _
    rw [BitVec.sle_eq_decide, toInt_ofNat_of_lt (a := n.val) (by omega), toInt_ofNat_of_lt (a := 160000) (by omega)]
    simp
  rw [hs]
  split_ifs with h0
  · rw [decide_eq_true h0]
    show ((((1#1 : BitVec 1).toNat : ℕ) : ℝ) : EReal) = 1
    simp
  · rw [decide_eq_false h0]
    show ((((0#1 : BitVec 1).toNat : ℕ) : ℝ) : EReal) = 0
    simp

/-- The integer word zero, read as a float, is the number zero. -/
theorem zero_word : (FloatOps.sitofp (F := Ideal) FTy.f32 (0#32)) = (0 : EReal) := by
  show ((((0#32 : BitVec 32).toInt : ℤ) : ℝ) : EReal) = 0
  simp

/-- The padded scores: the first 2000 are the candidates', the rest the padding's. -/
theorem pad42 (c : FVec Ideal S_ .f32) (x : FVec Ideal S2x2000 .f32) (b : Fin 2) (k : Fin 2048) :
    t_v42 x c (ix2 b k) = if h : k.val < 2000 then x (ix2 b ⟨k.val, h⟩) else c ix0 := by
  pointwise [t_v42, t_call0_v0]
  have : (Shape.Idx.first h_S_ : S_.Idx) = ix0 := funext fun a => a.elim0
  rw [this]; rfl

/-- The padded levels: the first 2000 are the candidates', the rest zero. -/
theorem pad43 (x : FVec Ideal S2x2000 .f32) (b : Fin 2) (k : Fin 2048) :
    t_v43 x t_c_10 (ix2 b k) = if h : k.val < 2000 then x (ix2 b ⟨k.val, h⟩) else 0 := by
  pointwise [t_v43, t_call1_v0, t_c_10]
  rw [← zero_word]

/-- The padded deltas: the first 2000 rows are the candidates', the rest zero. -/
theorem pad44 (x : FVec Ideal S2x2000x4 .f32) (b : Fin 2) (k : Fin 2048) (j : Fin 4) :
    t_v44 x t_c_11 (ix3 b k j) = if h : k.val < 2000 then x (ix3 b ⟨k.val, h⟩ j) else 0 := by
  pointwise [t_v44, t_call2_v0, t_c_11]
  rw [← zero_word]

/-- The padded anchors: the first 2000 rows are the candidates', the rest zero. -/
theorem pad45 (x : FVec Ideal S2x2000x4 .f32) (b : Fin 2) (k : Fin 2048) (j : Fin 4) :
    t_v45 x t_c_12 (ix3 b k j) = if h : k.val < 2000 then x (ix3 b ⟨k.val, h⟩ j) else 0 := by
  pointwise [t_v45, t_call3_v0, t_c_12]
  rw [← zero_word]

/-- The launch's order: position `p` holds candidate `ordOf y b p`. -/
def ordOf (y : FVec Ideal S2x2048 .f32) (b : Fin 2) : Fin 2048 → Fin 2048 :=
  sortedFrom fun k k' => comparator_f32_i32_d1 (F := Ideal) (y (ix2 b k), BitVec.ofNat 32 k.val) (y (ix2 b k'), BitVec.ofNat 32 k'.val) == 1#1

/-- The sorted positions, as words: place `p` holds the number of the entry that sorts to `p`. -/
theorem sort_at (y : FVec Ideal S2x2048 .f32) (b : Fin 2) (p : Fin 2048) :
    t_v47 y (ix2 b p) = BitVec.ofNat 32 (ordOf y b p).val := by
  refine (sort2_at (B := 2) (N := 2048) comparator_f32_i32_d1 y (iotaInDim S2x2048 32 1) b p).trans ?_
  rfl

/-- The sort compares the keys. -/
theorem comparator_eq (l r : EReal × BitVec 32) : comparator_f32_i32_d1 (F := Ideal) l r = BitVec.ofBool (decide (l.1 < r.1)) := by
  have h : comparator_f32_i32_d1 (F := Ideal) l r = BitVec.ofBool (decide (
      (Scalar.select (FloatOps.cmpf (F := Ideal) (φ := .f32) CmpFPredicate.une l.1 l.1) (FloatOps.ofBits (F := Ideal) .f32 0x7FC00000#32)
        (Scalar.select (FloatOps.cmpf (F := Ideal) (φ := .f32) CmpFPredicate.oeq l.1 (FloatOps.ofBits (F := Ideal) .f32 0#32))
          (FloatOps.ofBits (F := Ideal) .f32 0#32) l.1) : EReal) <
      (Scalar.select (FloatOps.cmpf (F := Ideal) (φ := .f32) CmpFPredicate.une r.1 r.1) (FloatOps.ofBits (F := Ideal) .f32 0x7FC00000#32)
        (Scalar.select (FloatOps.cmpf (F := Ideal) (φ := .f32) CmpFPredicate.oeq r.1 (FloatOps.ofBits (F := Ideal) .f32 0#32))
          (FloatOps.ofBits (F := Ideal) .f32 0#32) r.1) : EReal))) := rfl
  rw [h, norm_eq, norm_eq]

/-- Earlier positions hold smaller keys, ties by the candidate's number. -/
theorem order_at (y : FVec Ideal S2x2048 .f32) (b : Fin 2) (i j : Fin 2048) (h : i < j) :
    y (ix2 b (ordOf y b i)) < y (ix2 b (ordOf y b j)) ∨ (y (ix2 b (ordOf y b i)) = y (ix2 b (ordOf y b j)) ∧ ordOf y b i < ordOf y b j) := by
  refine Greedy.sortedFrom_order (fun k => y (ix2 b k)) _ ?_ i j h
  intro k k'
  rw [comparator_eq]
  exact beq_ofBool _

/-- The block entry of position `p`. -/
theorem block54 (x : FVec Ideal S2x2048 .f32) (b : Fin 2) (p : Fin 2048) :
    t_v54 x (ix3 b (prow p) (plane p)) = x (ix2 b p) := by
  pointwise [t_v54]
  congr 2
  exact Fin.ext (by show p.val / 128 * 128 + p.val % 128 = p.val; omega)

/-- The block entry of position `p`. -/
theorem block55 (x : FVec Ideal S2x2048 .f32) (b : Fin 2) (p : Fin 2048) :
    t_v55 x (ix3 b (prow p) (plane p)) = x (ix2 b p) := by
  pointwise [t_v55]
  congr 2
  exact Fin.ext (by show p.val / 128 * 128 + p.val % 128 = p.val; omega)

/-- The block entry of position `p`. -/
theorem block57 (x : FVec Ideal S2x2048x4 .f32) (b : Fin 2) (j : Fin 4) (p : Fin 2048) :
    t_v57 x (ix4 b j (prow p) (plane p)) = x (ix3 b p j) := by
  pointwise [t_v57, t_v56]
  have : (⟨(prow p).val * 128 + (plane p).val, by have := (prow p).isLt; have := (plane p).isLt; omega⟩ : Fin 2048) = p :=
    Fin.ext (by show p.val / 128 * 128 + p.val % 128 = p.val; omega)
  rw [this]

/-- The block entry of position `p`. -/
theorem block59 (x : FVec Ideal S2x2048x4 .f32) (b : Fin 2) (j : Fin 4) (p : Fin 2048) :
    t_v59 x (ix4 b j (prow p) (plane p)) = x (ix3 b p j) := by
  pointwise [t_v59, t_v58]
  have : (⟨(prow p).val * 128 + (plane p).val, by have := (prow p).isLt; have := (plane p).isLt; omega⟩ : Fin 2048) = p :=
    Fin.ext (by show p.val / 128 * 128 + p.val % 128 = p.val; omega)
  rw [this]

/-- The sort's key is the negated score. -/
theorem neg46 (x : FVec Ideal S2x2048 .f32) (b : Fin 2) (k : Fin 2048) : t_v46 x (ix2 b k) = - x (ix2 b k) := by
  pointwise [t_v46]

/-- The order as a column of indices for the deltas holds the same words. -/
theorem col50 (x : IVec S2x2048 32) (b : Fin 2) (k : Fin 2048) : t_v50 x (ix3 b k 0) = x (ix2 b k) := by
  pointwise [t_v50]

/-- The order as a column of indices for the anchors holds the same words. -/
theorem col52 (x : IVec S2x2048 32) (b : Fin 2) (k : Fin 2048) : t_v52 x (ix3 b k 0) = x (ix2 b k) := by
  pointwise [t_v52]

end Cert.Proof.KernelIdeal
-- ==== Proof.KChain.lean ====
/- The kernel's host lines run one stretch after another: what each buffer read later holds. -/
module

public import proofs.«01_k».proof.Proof.KRead

@[expose] public section

set_option maxRecDepth 16384

noncomputable section

namespace Cert.Proof.KernelIdeal

open Idealize.ShloMosaic Idealize.ShloMosaic.TcCoe Idealize.ShloMosaic.StableHlo
open Cert.KernelIdeal Cert.KernelIdeal.Gen

/-- The buffers after stretch `tailOps` of the kernel's lines before the launch. -/
def pre0 (V : Valuation τ sig (Elt Ideal)) : Valuation τ sig (Elt Ideal) := StableHlo.after tailOps V

/-- The buffers after stretch `hostOps2_7` of the kernel's lines before the launch. -/
def pre1 (V : Valuation τ sig (Elt Ideal)) : Valuation τ sig (Elt Ideal) := StableHlo.after hostOps2_7 (pre0 V)

/-- The buffers after stretch `hostOps2_8` of the kernel's lines before the launch. -/
def pre2 (V : Valuation τ sig (Elt Ideal)) : Valuation τ sig (Elt Ideal) := StableHlo.after hostOps2_8 (pre1 V)

/-- The buffers after stretch `hostOps2_9` of the kernel's lines before the launch. -/
def pre3 (V : Valuation τ sig (Elt Ideal)) : Valuation τ sig (Elt Ideal) := StableHlo.after hostOps2_9 (pre2 V)

/-- The buffers after stretch `hostOps2_10` of the kernel's lines before the launch. -/
def pre4 (V : Valuation τ sig (Elt Ideal)) : Valuation τ sig (Elt Ideal) := StableHlo.after hostOps2_10 (pre3 V)

/-- The buffers after stretch `hostOps2_11` of the kernel's lines before the launch. -/
def pre5 (V : Valuation τ sig (Elt Ideal)) : Valuation τ sig (Elt Ideal) := StableHlo.after hostOps2_11 (pre4 V)

/-- The buffers after stretch `hostOps2_12` of the kernel's lines before the launch. -/
def pre6 (V : Valuation τ sig (Elt Ideal)) : Valuation τ sig (Elt Ideal) := StableHlo.after hostOps2_12 (pre5 V)

/-- The buffers after stretch `hostOps2_13` of the kernel's lines before the launch. -/
def pre7 (V : Valuation τ sig (Elt Ideal)) : Valuation τ sig (Elt Ideal) := StableHlo.after hostOps2_13 (pre6 V)

/-- The buffers after stretch `hostOps2_14` of the kernel's lines before the launch. -/
def pre8 (V : Valuation τ sig (Elt Ideal)) : Valuation τ sig (Elt Ideal) := StableHlo.after hostOps2_14 (pre7 V)

/-- The buffers after stretch `hostOps2_15` of the kernel's lines before the launch. -/
def pre9 (V : Valuation τ sig (Elt Ideal)) : Valuation τ sig (Elt Ideal) := StableHlo.after hostOps2_15 (pre8 V)

/-- The buffers after stretch `hostOps2_16` of the kernel's lines before the launch. -/
def pre10 (V : Valuation τ sig (Elt Ideal)) : Valuation τ sig (Elt Ideal) := StableHlo.after hostOps2_16 (pre9 V)

/-- The buffers after stretch `hostOps2_17` of the kernel's lines before the launch. -/
def pre11 (V : Valuation τ sig (Elt Ideal)) : Valuation τ sig (Elt Ideal) := StableHlo.after hostOps2_17 (pre10 V)

/-- The buffers after stretch `hostOps2_18` of the kernel's lines before the launch. -/
def pre12 (V : Valuation τ sig (Elt Ideal)) : Valuation τ sig (Elt Ideal) := StableHlo.after hostOps2_18 (pre11 V)

/-- The buffers after stretch `hostOps2_19` of the kernel's lines before the launch. -/
def pre13 (V : Valuation τ sig (Elt Ideal)) : Valuation τ sig (Elt Ideal) := StableHlo.after hostOps2_19 (pre12 V)

/-- The buffers after stretch `hostOps2_20` of the kernel's lines before the launch. -/
def pre14 (V : Valuation τ sig (Elt Ideal)) : Valuation τ sig (Elt Ideal) := StableHlo.after hostOps2_20 (pre13 V)

/-- The buffers after stretch `hostOps2_21` of the kernel's lines before the launch. -/
def pre15 (V : Valuation τ sig (Elt Ideal)) : Valuation τ sig (Elt Ideal) := StableHlo.after hostOps2_21 (pre14 V)

/-- The buffers after stretch `hostOps2_22` of the kernel's lines before the launch. -/
def pre16 (V : Valuation τ sig (Elt Ideal)) : Valuation τ sig (Elt Ideal) := StableHlo.after hostOps2_22 (pre15 V)

/-- The kernel's lines before the launch, as one list of operations. -/
theorem pre_flat (V : Valuation τ sig (Elt Ideal)) : StableHlo.after (List.flatten [tailOps, hostOps2_7, hostOps2_8, hostOps2_9, hostOps2_10, hostOps2_11, hostOps2_12, hostOps2_13, hostOps2_14, hostOps2_15, hostOps2_16, hostOps2_17, hostOps2_18, hostOps2_19, hostOps2_20, hostOps2_21, hostOps2_22]) V = pre16 V := by
  simp only [List.flatten_cons, List.flatten_nil, List.append_nil, StableHlo.after_append]
  rfl

/-- What the kernel's lines before the launch leaves in `main_v98`. -/
def u_v1 (V : Valuation τ sig (Elt Ideal)) : IVec S2x1 32 := t_v1

/-- Stretch 0 computes `main_v98`. -/
theorem pre0_v1 (V : Valuation τ sig (Elt Ideal)) : pre0 V (Proc.devRef .tc main_v98) = u_v1 V :=
  read_v1 V

/-- Stretch 1 keeps `main_v98`. -/
theorem pre1_v1 (V : Valuation τ sig (Elt Ideal)) : pre1 V (Proc.devRef .tc main_v98) = u_v1 V :=
  (keep_hostOps2_7 _ main_v98 (by decide)).trans (pre0_v1 V)

/-- Stretch 2 keeps `main_v98`. -/
theorem pre2_v1 (V : Valuation τ sig (Elt Ideal)) : pre2 V (Proc.devRef .tc main_v98) = u_v1 V :=
  (keep_hostOps2_8 _ main_v98 (by decide)).trans (pre1_v1 V)

/-- Stretch 3 keeps `main_v98`. -/
theorem pre3_v1 (V : Valuation τ sig (Elt Ideal)) : pre3 V (Proc.devRef .tc main_v98) = u_v1 V :=
  (keep_hostOps2_9 _ main_v98 (by decide)).trans (pre2_v1 V)

/-- Stretch 4 keeps `main_v98`. -/
theorem pre4_v1 (V : Valuation τ sig (Elt Ideal)) : pre4 V (Proc.devRef .tc main_v98) = u_v1 V :=
  (keep_hostOps2_10 _ main_v98 (by decide)).trans (pre3_v1 V)

/-- Stretch 5 keeps `main_v98`. -/
theorem pre5_v1 (V : Valuation τ sig (Elt Ideal)) : pre5 V (Proc.devRef .tc main_v98) = u_v1 V :=
  (keep_hostOps2_11 _ main_v98 (by decide)).trans (pre4_v1 V)

/-- Stretch 6 keeps `main_v98`. -/
theorem pre6_v1 (V : Valuation τ sig (Elt Ideal)) : pre6 V (Proc.devRef .tc main_v98) = u_v1 V :=
  (keep_hostOps2_12 _ main_v98 (by decide)).trans (pre5_v1 V)

/-- Stretch 7 keeps `main_v98`. -/
theorem pre7_v1 (V : Valuation τ sig (Elt Ideal)) : pre7 V (Proc.devRef .tc main_v98) = u_v1 V :=
  (keep_hostOps2_13 _ main_v98 (by decide)).trans (pre6_v1 V)

/-- Stretch 8 keeps `main_v98`. -/
theorem pre8_v1 (V : Valuation τ sig (Elt Ideal)) : pre8 V (Proc.devRef .tc main_v98) = u_v1 V :=
  (keep_hostOps2_14 _ main_v98 (by decide)).trans (pre7_v1 V)

/-- Stretch 9 keeps `main_v98`. -/
theorem pre9_v1 (V : Valuation τ sig (Elt Ideal)) : pre9 V (Proc.devRef .tc main_v98) = u_v1 V :=
  (keep_hostOps2_15 _ main_v98 (by decide)).trans (pre8_v1 V)

/-- Stretch 10 keeps `main_v98`. -/
theorem pre10_v1 (V : Valuation τ sig (Elt Ideal)) : pre10 V (Proc.devRef .tc main_v98) = u_v1 V :=
  (keep_hostOps2_16 _ main_v98 (by decide)).trans (pre9_v1 V)

/-- Stretch 11 keeps `main_v98`. -/
theorem pre11_v1 (V : Valuation τ sig (Elt Ideal)) : pre11 V (Proc.devRef .tc main_v98) = u_v1 V :=
  (keep_hostOps2_17 _ main_v98 (by decide)).trans (pre10_v1 V)

/-- Stretch 12 keeps `main_v98`. -/
theorem pre12_v1 (V : Valuation τ sig (Elt Ideal)) : pre12 V (Proc.devRef .tc main_v98) = u_v1 V :=
  (keep_hostOps2_18 _ main_v98 (by decide)).trans (pre11_v1 V)

/-- Stretch 13 keeps `main_v98`. -/
theorem pre13_v1 (V : Valuation τ sig (Elt Ideal)) : pre13 V (Proc.devRef .tc main_v98) = u_v1 V :=
  (keep_hostOps2_19 _ main_v98 (by decide)).trans (pre12_v1 V)

/-- Stretch 14 keeps `main_v98`. -/
theorem pre14_v1 (V : Valuation τ sig (Elt Ideal)) : pre14 V (Proc.devRef .tc main_v98) = u_v1 V :=
  (keep_hostOps2_20 _ main_v98 (by decide)).trans (pre13_v1 V)

/-- Stretch 15 keeps `main_v98`. -/
theorem pre15_v1 (V : Valuation τ sig (Elt Ideal)) : pre15 V (Proc.devRef .tc main_v98) = u_v1 V :=
  (keep_hostOps2_21 _ main_v98 (by decide)).trans (pre14_v1 V)

/-- Stretch 16 keeps `main_v98`. -/
theorem pre16_v1 (V : Valuation τ sig (Elt Ideal)) : pre16 V (Proc.devRef .tc main_v98) = u_v1 V :=
  (keep_hostOps2_22 _ main_v98 (by decide)).trans (pre15_v1 V)

/-- What the kernel's lines before the launch leaves in `main_v113`. -/
def u_v16 (V : Valuation τ sig (Elt Ideal)) : FVec Ideal S2x2000 .f32 := t_v16 (V (Proc.devRef .tc main_arg0)) (V (Proc.devRef .tc main_v96))

/-- Stretch 0 computes `main_v113`. -/
theorem pre0_v16 (V : Valuation τ sig (Elt Ideal)) : pre0 V (Proc.devRef .tc main_v113) = u_v16 V :=
  read_v16 V

/-- What the kernel's lines before the launch leaves in `main_v116`. -/
def u_v19 (V : Valuation τ sig (Elt Ideal)) : FVec Ideal S2x2000 .f32 := t_v19 (V (Proc.devRef .tc main_v96))

/-- Stretch 0 computes `main_v116`. -/
theorem pre0_v19 (V : Valuation τ sig (Elt Ideal)) : pre0 V (Proc.devRef .tc main_v116) = u_v19 V :=
  read_v19 V

/-- Stretch 1 keeps `main_v116`. -/
theorem pre1_v19 (V : Valuation τ sig (Elt Ideal)) : pre1 V (Proc.devRef .tc main_v116) = u_v19 V :=
  (keep_hostOps2_7 _ main_v116 (by decide)).trans (pre0_v19 V)

/-- Stretch 2 keeps `main_v116`. -/
theorem pre2_v19 (V : Valuation τ sig (Elt Ideal)) : pre2 V (Proc.devRef .tc main_v116) = u_v19 V :=
  (keep_hostOps2_8 _ main_v116 (by decide)).trans (pre1_v19 V)

/-- What the kernel's lines before the launch leaves in `main_v131`. -/
def u_v34 (V : Valuation τ sig (Elt Ideal)) : FVec Ideal S2x2000x4 .f32 := t_v34 (V (Proc.devRef .tc main_arg1)) (V (Proc.devRef .tc main_v96))

/-- Stretch 0 computes `main_v131`. -/
theorem pre0_v34 (V : Valuation τ sig (Elt Ideal)) : pre0 V (Proc.devRef .tc main_v131) = u_v34 V :=
  read_v34 V

/-- Stretch 1 keeps `main_v131`. -/
theorem pre1_v34 (V : Valuation τ sig (Elt Ideal)) : pre1 V (Proc.devRef .tc main_v131) = u_v34 V :=
  (keep_hostOps2_7 _ main_v131 (by decide)).trans (pre0_v34 V)

/-- Stretch 2 keeps `main_v131`. -/
theorem pre2_v34 (V : Valuation τ sig (Elt Ideal)) : pre2 V (Proc.devRef .tc main_v131) = u_v34 V :=
  (keep_hostOps2_8 _ main_v131 (by decide)).trans (pre1_v34 V)

/-- Stretch 3 keeps `main_v131`. -/
theorem pre3_v34 (V : Valuation τ sig (Elt Ideal)) : pre3 V (Proc.devRef .tc main_v131) = u_v34 V :=
  (keep_hostOps2_9 _ main_v131 (by decide)).trans (pre2_v34 V)

/-- Stretch 4 keeps `main_v131`. -/
theorem pre4_v34 (V : Valuation τ sig (Elt Ideal)) : pre4 V (Proc.devRef .tc main_v131) = u_v34 V :=
  (keep_hostOps2_10 _ main_v131 (by decide)).trans (pre3_v34 V)

/-- What the kernel's lines before the launch leaves in `main_v138`. -/
def u_v41 (V : Valuation τ sig (Elt Ideal)) : FVec Ideal S2x2000x4 .f32 := t_v41 (V (Proc.devRef .tc main_arg2)) (V (Proc.devRef .tc main_v96))

/-- Stretch 0 computes `main_v138`. -/
theorem pre0_v41 (V : Valuation τ sig (Elt Ideal)) : pre0 V (Proc.devRef .tc main_v138) = u_v41 V :=
  read_v41 V

/-- Stretch 1 keeps `main_v138`. -/
theorem pre1_v41 (V : Valuation τ sig (Elt Ideal)) : pre1 V (Proc.devRef .tc main_v138) = u_v41 V :=
  (keep_hostOps2_7 _ main_v138 (by decide)).trans (pre0_v41 V)

/-- Stretch 2 keeps `main_v138`. -/
theorem pre2_v41 (V : Valuation τ sig (Elt Ideal)) : pre2 V (Proc.devRef .tc main_v138) = u_v41 V :=
  (keep_hostOps2_8 _ main_v138 (by decide)).trans (pre1_v41 V)

/-- Stretch 3 keeps `main_v138`. -/
theorem pre3_v41 (V : Valuation τ sig (Elt Ideal)) : pre3 V (Proc.devRef .tc main_v138) = u_v41 V :=
  (keep_hostOps2_9 _ main_v138 (by decide)).trans (pre2_v41 V)

/-- Stretch 4 keeps `main_v138`. -/
theorem pre4_v41 (V : Valuation τ sig (Elt Ideal)) : pre4 V (Proc.devRef .tc main_v138) = u_v41 V :=
  (keep_hostOps2_10 _ main_v138 (by decide)).trans (pre3_v41 V)

/-- Stretch 5 keeps `main_v138`. -/
theorem pre5_v41 (V : Valuation τ sig (Elt Ideal)) : pre5 V (Proc.devRef .tc main_v138) = u_v41 V :=
  (keep_hostOps2_11 _ main_v138 (by decide)).trans (pre4_v41 V)

/-- Stretch 6 keeps `main_v138`. -/
theorem pre6_v41 (V : Valuation τ sig (Elt Ideal)) : pre6 V (Proc.devRef .tc main_v138) = u_v41 V :=
  (keep_hostOps2_12 _ main_v138 (by decide)).trans (pre5_v41 V)

/-- What the kernel's lines before the launch leaves in `main_cst_30`. -/
def u_cst (V : Valuation τ sig (Elt Ideal)) : FVec Ideal S_ .f32 := t_cst

/-- Stretch 0 computes `main_cst_30`. -/
theorem pre0_cst (V : Valuation τ sig (Elt Ideal)) : pre0 V (Proc.devRef .tc main_cst_30) = u_cst V :=
  read_cst V

/-- What the kernel's lines before the launch leaves in `main_v139`. -/
def u_v42 (V : Valuation τ sig (Elt Ideal)) : FVec Ideal S2x2048 .f32 := t_v42 (u_v16 V) (u_cst V)

/-- Stretch 1 computes `main_v139`. -/
theorem pre1_v42 (V : Valuation τ sig (Elt Ideal)) : pre1 V (Proc.devRef .tc main_v139) = u_v42 V :=
  (read_v42 (pre0 V)).trans (by rw [pre0_v16, pre0_cst]; rfl)

/-- Stretch 2 keeps `main_v139`. -/
theorem pre2_v42 (V : Valuation τ sig (Elt Ideal)) : pre2 V (Proc.devRef .tc main_v139) = u_v42 V :=
  (keep_hostOps2_8 _ main_v139 (by decide)).trans (pre1_v42 V)

/-- Stretch 3 keeps `main_v139`. -/
theorem pre3_v42 (V : Valuation τ sig (Elt Ideal)) : pre3 V (Proc.devRef .tc main_v139) = u_v42 V :=
  (keep_hostOps2_9 _ main_v139 (by decide)).trans (pre2_v42 V)

/-- Stretch 4 keeps `main_v139`. -/
theorem pre4_v42 (V : Valuation τ sig (Elt Ideal)) : pre4 V (Proc.devRef .tc main_v139) = u_v42 V :=
  (keep_hostOps2_10 _ main_v139 (by decide)).trans (pre3_v42 V)

/-- Stretch 5 keeps `main_v139`. -/
theorem pre5_v42 (V : Valuation τ sig (Elt Ideal)) : pre5 V (Proc.devRef .tc main_v139) = u_v42 V :=
  (keep_hostOps2_11 _ main_v139 (by decide)).trans (pre4_v42 V)

/-- Stretch 6 keeps `main_v139`. -/
theorem pre6_v42 (V : Valuation τ sig (Elt Ideal)) : pre6 V (Proc.devRef .tc main_v139) = u_v42 V :=
  (keep_hostOps2_12 _ main_v139 (by decide)).trans (pre5_v42 V)

/-- Stretch 7 keeps `main_v139`. -/
theorem pre7_v42 (V : Valuation τ sig (Elt Ideal)) : pre7 V (Proc.devRef .tc main_v139) = u_v42 V :=
  (keep_hostOps2_13 _ main_v139 (by decide)).trans (pre6_v42 V)

/-- Stretch 8 keeps `main_v139`. -/
theorem pre8_v42 (V : Valuation τ sig (Elt Ideal)) : pre8 V (Proc.devRef .tc main_v139) = u_v42 V :=
  (keep_hostOps2_14 _ main_v139 (by decide)).trans (pre7_v42 V)

/-- Stretch 9 keeps `main_v139`. -/
theorem pre9_v42 (V : Valuation τ sig (Elt Ideal)) : pre9 V (Proc.devRef .tc main_v139) = u_v42 V :=
  (keep_hostOps2_15 _ main_v139 (by decide)).trans (pre8_v42 V)

/-- What the kernel's lines before the launch leaves in `main_c_31`. -/
def u_c_10 (V : Valuation τ sig (Elt Ideal)) : IVec S_ 32 := t_c_10

/-- Stretch 2 computes `main_c_31`. -/
theorem pre2_c_10 (V : Valuation τ sig (Elt Ideal)) : pre2 V (Proc.devRef .tc main_c_31) = u_c_10 V :=
  read_c_10 (pre1 V)

/-- What the kernel's lines before the launch leaves in `main_v140`. -/
def u_v43 (V : Valuation τ sig (Elt Ideal)) : FVec Ideal S2x2048 .f32 := t_v43 (u_v19 V) (u_c_10 V)

/-- Stretch 3 computes `main_v140`. -/
theorem pre3_v43 (V : Valuation τ sig (Elt Ideal)) : pre3 V (Proc.devRef .tc main_v140) = u_v43 V :=
  (read_v43 (pre2 V)).trans (by rw [pre2_v19, pre2_c_10]; rfl)

/-- Stretch 4 keeps `main_v140`. -/
theorem pre4_v43 (V : Valuation τ sig (Elt Ideal)) : pre4 V (Proc.devRef .tc main_v140) = u_v43 V :=
  (keep_hostOps2_10 _ main_v140 (by decide)).trans (pre3_v43 V)

/-- Stretch 5 keeps `main_v140`. -/
theorem pre5_v43 (V : Valuation τ sig (Elt Ideal)) : pre5 V (Proc.devRef .tc main_v140) = u_v43 V :=
  (keep_hostOps2_11 _ main_v140 (by decide)).trans (pre4_v43 V)

/-- Stretch 6 keeps `main_v140`. -/
theorem pre6_v43 (V : Valuation τ sig (Elt Ideal)) : pre6 V (Proc.devRef .tc main_v140) = u_v43 V :=
  (keep_hostOps2_12 _ main_v140 (by decide)).trans (pre5_v43 V)

/-- Stretch 7 keeps `main_v140`. -/
theorem pre7_v43 (V : Valuation τ sig (Elt Ideal)) : pre7 V (Proc.devRef .tc main_v140) = u_v43 V :=
  (keep_hostOps2_13 _ main_v140 (by decide)).trans (pre6_v43 V)

/-- Stretch 8 keeps `main_v140`. -/
theorem pre8_v43 (V : Valuation τ sig (Elt Ideal)) : pre8 V (Proc.devRef .tc main_v140) = u_v43 V :=
  (keep_hostOps2_14 _ main_v140 (by decide)).trans (pre7_v43 V)

/-- Stretch 9 keeps `main_v140`. -/
theorem pre9_v43 (V : Valuation τ sig (Elt Ideal)) : pre9 V (Proc.devRef .tc main_v140) = u_v43 V :=
  (keep_hostOps2_15 _ main_v140 (by decide)).trans (pre8_v43 V)

/-- Stretch 10 keeps `main_v140`. -/
theorem pre10_v43 (V : Valuation τ sig (Elt Ideal)) : pre10 V (Proc.devRef .tc main_v140) = u_v43 V :=
  (keep_hostOps2_16 _ main_v140 (by decide)).trans (pre9_v43 V)

/-- What the kernel's lines before the launch leaves in `main_c_32`. -/
def u_c_11 (V : Valuation τ sig (Elt Ideal)) : IVec S_ 32 := t_c_11

/-- Stretch 4 computes `main_c_32`. -/
theorem pre4_c_11 (V : Valuation τ sig (Elt Ideal)) : pre4 V (Proc.devRef .tc main_c_32) = u_c_11 V :=
  read_c_11 (pre3 V)

/-- What the kernel's lines before the launch leaves in `main_v141`. -/
def u_v44 (V : Valuation τ sig (Elt Ideal)) : FVec Ideal S2x2048x4 .f32 := t_v44 (u_v34 V) (u_c_11 V)

/-- Stretch 5 computes `main_v141`. -/
theorem pre5_v44 (V : Valuation τ sig (Elt Ideal)) : pre5 V (Proc.devRef .tc main_v141) = u_v44 V :=
  (read_v44 (pre4 V)).trans (by rw [pre4_v34, pre4_c_11]; rfl)

/-- Stretch 6 keeps `main_v141`. -/
theorem pre6_v44 (V : Valuation τ sig (Elt Ideal)) : pre6 V (Proc.devRef .tc main_v141) = u_v44 V :=
  (keep_hostOps2_12 _ main_v141 (by decide)).trans (pre5_v44 V)

/-- Stretch 7 keeps `main_v141`. -/
theorem pre7_v44 (V : Valuation τ sig (Elt Ideal)) : pre7 V (Proc.devRef .tc main_v141) = u_v44 V :=
  (keep_hostOps2_13 _ main_v141 (by decide)).trans (pre6_v44 V)

/-- Stretch 8 keeps `main_v141`. -/
theorem pre8_v44 (V : Valuation τ sig (Elt Ideal)) : pre8 V (Proc.devRef .tc main_v141) = u_v44 V :=
  (keep_hostOps2_14 _ main_v141 (by decide)).trans (pre7_v44 V)

/-- Stretch 9 keeps `main_v141`. -/
theorem pre9_v44 (V : Valuation τ sig (Elt Ideal)) : pre9 V (Proc.devRef .tc main_v141) = u_v44 V :=
  (keep_hostOps2_15 _ main_v141 (by decide)).trans (pre8_v44 V)

/-- Stretch 10 keeps `main_v141`. -/
theorem pre10_v44 (V : Valuation τ sig (Elt Ideal)) : pre10 V (Proc.devRef .tc main_v141) = u_v44 V :=
  (keep_hostOps2_16 _ main_v141 (by decide)).trans (pre9_v44 V)

/-- Stretch 11 keeps `main_v141`. -/
theorem pre11_v44 (V : Valuation τ sig (Elt Ideal)) : pre11 V (Proc.devRef .tc main_v141) = u_v44 V :=
  (keep_hostOps2_17 _ main_v141 (by decide)).trans (pre10_v44 V)

/-- Stretch 12 keeps `main_v141`. -/
theorem pre12_v44 (V : Valuation τ sig (Elt Ideal)) : pre12 V (Proc.devRef .tc main_v141) = u_v44 V :=
  (keep_hostOps2_18 _ main_v141 (by decide)).trans (pre11_v44 V)

/-- What the kernel's lines before the launch leaves in `main_c_33`. -/
def u_c_12 (V : Valuation τ sig (Elt Ideal)) : IVec S_ 32 := t_c_12

/-- Stretch 6 computes `main_c_33`. -/
theorem pre6_c_12 (V : Valuation τ sig (Elt Ideal)) : pre6 V (Proc.devRef .tc main_c_33) = u_c_12 V :=
  read_c_12 (pre5 V)

/-- What the kernel's lines before the launch leaves in `main_v142`. -/
def u_v45 (V : Valuation τ sig (Elt Ideal)) : FVec Ideal S2x2048x4 .f32 := t_v45 (u_v41 V) (u_c_12 V)

/-- Stretch 7 computes `main_v142`. -/
theorem pre7_v45 (V : Valuation τ sig (Elt Ideal)) : pre7 V (Proc.devRef .tc main_v142) = u_v45 V :=
  (read_v45 (pre6 V)).trans (by rw [pre6_v41, pre6_c_12]; rfl)

/-- Stretch 8 keeps `main_v142`. -/
theorem pre8_v45 (V : Valuation τ sig (Elt Ideal)) : pre8 V (Proc.devRef .tc main_v142) = u_v45 V :=
  (keep_hostOps2_14 _ main_v142 (by decide)).trans (pre7_v45 V)

/-- Stretch 9 keeps `main_v142`. -/
theorem pre9_v45 (V : Valuation τ sig (Elt Ideal)) : pre9 V (Proc.devRef .tc main_v142) = u_v45 V :=
  (keep_hostOps2_15 _ main_v142 (by decide)).trans (pre8_v45 V)

/-- Stretch 10 keeps `main_v142`. -/
theorem pre10_v45 (V : Valuation τ sig (Elt Ideal)) : pre10 V (Proc.devRef .tc main_v142) = u_v45 V :=
  (keep_hostOps2_16 _ main_v142 (by decide)).trans (pre9_v45 V)

/-- Stretch 11 keeps `main_v142`. -/
theorem pre11_v45 (V : Valuation τ sig (Elt Ideal)) : pre11 V (Proc.devRef .tc main_v142) = u_v45 V :=
  (keep_hostOps2_17 _ main_v142 (by decide)).trans (pre10_v45 V)

/-- Stretch 12 keeps `main_v142`. -/
theorem pre12_v45 (V : Valuation τ sig (Elt Ideal)) : pre12 V (Proc.devRef .tc main_v142) = u_v45 V :=
  (keep_hostOps2_18 _ main_v142 (by decide)).trans (pre11_v45 V)

/-- Stretch 13 keeps `main_v142`. -/
theorem pre13_v45 (V : Valuation τ sig (Elt Ideal)) : pre13 V (Proc.devRef .tc main_v142) = u_v45 V :=
  (keep_hostOps2_19 _ main_v142 (by decide)).trans (pre12_v45 V)

/-- Stretch 14 keeps `main_v142`. -/
theorem pre14_v45 (V : Valuation τ sig (Elt Ideal)) : pre14 V (Proc.devRef .tc main_v142) = u_v45 V :=
  (keep_hostOps2_20 _ main_v142 (by decide)).trans (pre13_v45 V)

/-- What the kernel's lines before the launch leaves in `main_v143`. -/
def u_v46 (V : Valuation τ sig (Elt Ideal)) : FVec Ideal S2x2048 .f32 := t_v46 (u_v42 V)

/-- Stretch 8 computes `main_v143`. -/
theorem pre8_v46 (V : Valuation τ sig (Elt Ideal)) : pre8 V (Proc.devRef .tc main_v143) = u_v46 V :=
  (read_v46 (pre7 V)).trans (by rw [pre7_v42]; rfl)

/-- What the kernel's lines before the launch leaves in `main_v144`. -/
def u_v47 (V : Valuation τ sig (Elt Ideal)) : IVec S2x2048 32 := t_v47 (u_v46 V)

/-- Stretch 9 computes `main_v144`. -/
theorem pre9_v47 (V : Valuation τ sig (Elt Ideal)) : pre9 V (Proc.devRef .tc main_v144) = u_v47 V :=
  (read_v47 (pre8 V)).trans (by rw [pre8_v46]; rfl)

/-- Stretch 10 keeps `main_v144`. -/
theorem pre10_v47 (V : Valuation τ sig (Elt Ideal)) : pre10 V (Proc.devRef .tc main_v144) = u_v47 V :=
  (keep_hostOps2_16 _ main_v144 (by decide)).trans (pre9_v47 V)

/-- Stretch 11 keeps `main_v144`. -/
theorem pre11_v47 (V : Valuation τ sig (Elt Ideal)) : pre11 V (Proc.devRef .tc main_v144) = u_v47 V :=
  (keep_hostOps2_17 _ main_v144 (by decide)).trans (pre10_v47 V)

/-- Stretch 12 keeps `main_v144`. -/
theorem pre12_v47 (V : Valuation τ sig (Elt Ideal)) : pre12 V (Proc.devRef .tc main_v144) = u_v47 V :=
  (keep_hostOps2_18 _ main_v144 (by decide)).trans (pre11_v47 V)

/-- Stretch 13 keeps `main_v144`. -/
theorem pre13_v47 (V : Valuation τ sig (Elt Ideal)) : pre13 V (Proc.devRef .tc main_v144) = u_v47 V :=
  (keep_hostOps2_19 _ main_v144 (by decide)).trans (pre12_v47 V)

/-- What the kernel's lines before the launch leaves in `main_v145`. -/
def u_v48 (V : Valuation τ sig (Elt Ideal)) : FVec Ideal S2x2048 .f32 := t_v48 (u_v47 V) (u_v42 V)

/-- Stretch 10 computes `main_v145`. -/
theorem pre10_v48 (V : Valuation τ sig (Elt Ideal)) : pre10 V (Proc.devRef .tc main_v145) = u_v48 V :=
  (read_v48 (pre9 V)).trans (by rw [pre9_v47, pre9_v42]; rfl)

/-- Stretch 11 keeps `main_v145`. -/
theorem pre11_v48 (V : Valuation τ sig (Elt Ideal)) : pre11 V (Proc.devRef .tc main_v145) = u_v48 V :=
  (keep_hostOps2_17 _ main_v145 (by decide)).trans (pre10_v48 V)

/-- Stretch 12 keeps `main_v145`. -/
theorem pre12_v48 (V : Valuation τ sig (Elt Ideal)) : pre12 V (Proc.devRef .tc main_v145) = u_v48 V :=
  (keep_hostOps2_18 _ main_v145 (by decide)).trans (pre11_v48 V)

/-- Stretch 13 keeps `main_v145`. -/
theorem pre13_v48 (V : Valuation τ sig (Elt Ideal)) : pre13 V (Proc.devRef .tc main_v145) = u_v48 V :=
  (keep_hostOps2_19 _ main_v145 (by decide)).trans (pre12_v48 V)

/-- Stretch 14 keeps `main_v145`. -/
theorem pre14_v48 (V : Valuation τ sig (Elt Ideal)) : pre14 V (Proc.devRef .tc main_v145) = u_v48 V :=
  (keep_hostOps2_20 _ main_v145 (by decide)).trans (pre13_v48 V)

/-- Stretch 15 keeps `main_v145`. -/
theorem pre15_v48 (V : Valuation τ sig (Elt Ideal)) : pre15 V (Proc.devRef .tc main_v145) = u_v48 V :=
  (keep_hostOps2_21 _ main_v145 (by decide)).trans (pre14_v48 V)

/-- What the kernel's lines before the launch leaves in `main_v146`. -/
def u_v49 (V : Valuation τ sig (Elt Ideal)) : FVec Ideal S2x2048 .f32 := t_v49 (u_v47 V) (u_v43 V)

/-- Stretch 11 computes `main_v146`. -/
theorem pre11_v49 (V : Valuation τ sig (Elt Ideal)) : pre11 V (Proc.devRef .tc main_v146) = u_v49 V :=
  (read_v49 (pre10 V)).trans (by rw [pre10_v47, pre10_v43]; rfl)

/-- Stretch 12 keeps `main_v146`. -/
theorem pre12_v49 (V : Valuation τ sig (Elt Ideal)) : pre12 V (Proc.devRef .tc main_v146) = u_v49 V :=
  (keep_hostOps2_18 _ main_v146 (by decide)).trans (pre11_v49 V)

/-- Stretch 13 keeps `main_v146`. -/
theorem pre13_v49 (V : Valuation τ sig (Elt Ideal)) : pre13 V (Proc.devRef .tc main_v146) = u_v49 V :=
  (keep_hostOps2_19 _ main_v146 (by decide)).trans (pre12_v49 V)

/-- Stretch 14 keeps `main_v146`. -/
theorem pre14_v49 (V : Valuation τ sig (Elt Ideal)) : pre14 V (Proc.devRef .tc main_v146) = u_v49 V :=
  (keep_hostOps2_20 _ main_v146 (by decide)).trans (pre13_v49 V)

/-- Stretch 15 keeps `main_v146`. -/
theorem pre15_v49 (V : Valuation τ sig (Elt Ideal)) : pre15 V (Proc.devRef .tc main_v146) = u_v49 V :=
  (keep_hostOps2_21 _ main_v146 (by decide)).trans (pre14_v49 V)

/-- What the kernel's lines before the launch leaves in `main_v147`. -/
def u_v50 (V : Valuation τ sig (Elt Ideal)) : IVec S2x2048x1 32 := t_v50 (u_v47 V)

/-- Stretch 12 computes `main_v147`. -/
theorem pre12_v50 (V : Valuation τ sig (Elt Ideal)) : pre12 V (Proc.devRef .tc main_v147) = u_v50 V :=
  (read_v50 (pre11 V)).trans (by rw [pre11_v47]; rfl)

/-- What the kernel's lines before the launch leaves in `main_v148`. -/
def u_v51 (V : Valuation τ sig (Elt Ideal)) : FVec Ideal S2x2048x4 .f32 := t_v51 (u_v50 V) (u_v44 V)

/-- Stretch 13 computes `main_v148`. -/
theorem pre13_v51 (V : Valuation τ sig (Elt Ideal)) : pre13 V (Proc.devRef .tc main_v148) = u_v51 V :=
  (read_v51 (pre12 V)).trans (by rw [pre12_v50, pre12_v44]; rfl)

/-- Stretch 14 keeps `main_v148`. -/
theorem pre14_v51 (V : Valuation τ sig (Elt Ideal)) : pre14 V (Proc.devRef .tc main_v148) = u_v51 V :=
  (keep_hostOps2_20 _ main_v148 (by decide)).trans (pre13_v51 V)

/-- Stretch 15 keeps `main_v148`. -/
theorem pre15_v51 (V : Valuation τ sig (Elt Ideal)) : pre15 V (Proc.devRef .tc main_v148) = u_v51 V :=
  (keep_hostOps2_21 _ main_v148 (by decide)).trans (pre14_v51 V)

/-- What the kernel's lines before the launch leaves in `main_v149`. -/
def u_v52 (V : Valuation τ sig (Elt Ideal)) : IVec S2x2048x1 32 := t_v52 (u_v47 V)

/-- Stretch 14 computes `main_v149`. -/
theorem pre14_v52 (V : Valuation τ sig (Elt Ideal)) : pre14 V (Proc.devRef .tc main_v149) = u_v52 V :=
  (read_v52 (pre13 V)).trans (by rw [pre13_v47]; rfl)

/-- What the kernel's lines before the launch leaves in `main_v150`. -/
def u_v53 (V : Valuation τ sig (Elt Ideal)) : FVec Ideal S2x2048x4 .f32 := t_v53 (u_v52 V) (u_v45 V)

/-- Stretch 15 computes `main_v150`. -/
theorem pre15_v53 (V : Valuation τ sig (Elt Ideal)) : pre15 V (Proc.devRef .tc main_v150) = u_v53 V :=
  (read_v53 (pre14 V)).trans (by rw [pre14_v52, pre14_v45]; rfl)

/-- What the kernel's lines before the launch leaves in `main_v151`. -/
def u_v54 (V : Valuation τ sig (Elt Ideal)) : FVec Ideal S2x16x128 .f32 := t_v54 (u_v48 V)

/-- Stretch 16 computes `main_v151`. -/
theorem pre16_v54 (V : Valuation τ sig (Elt Ideal)) : pre16 V (Proc.devRef .tc main_v151) = u_v54 V :=
  (read_v54 (pre15 V)).trans (by rw [pre15_v48]; rfl)

/-- What the kernel's lines before the launch leaves in `main_v152`. -/
def u_v55 (V : Valuation τ sig (Elt Ideal)) : FVec Ideal S2x16x128 .f32 := t_v55 (u_v49 V)

/-- Stretch 16 computes `main_v152`. -/
theorem pre16_v55 (V : Valuation τ sig (Elt Ideal)) : pre16 V (Proc.devRef .tc main_v152) = u_v55 V :=
  (read_v55 (pre15 V)).trans (by rw [pre15_v49]; rfl)

/-- What the kernel's lines before the launch leaves in `main_v154`. -/
def u_v57 (V : Valuation τ sig (Elt Ideal)) : FVec Ideal S2x4x16x128 .f32 := t_v57 (u_v51 V)

/-- Stretch 16 computes `main_v154`. -/
theorem pre16_v57 (V : Valuation τ sig (Elt Ideal)) : pre16 V (Proc.devRef .tc main_v154) = u_v57 V :=
  (read_v57 (pre15 V)).trans (by rw [pre15_v51]; rfl)

/-- What the kernel's lines before the launch leaves in `main_v156`. -/
def u_v59 (V : Valuation τ sig (Elt Ideal)) : FVec Ideal S2x4x16x128 .f32 := t_v59 (u_v53 V)

/-- Stretch 16 computes `main_v156`. -/
theorem pre16_v59 (V : Valuation τ sig (Elt Ideal)) : pre16 V (Proc.devRef .tc main_v156) = u_v59 V :=
  (read_v59 (pre15 V)).trans (by rw [pre15_v53]; rfl)

/-- The buffers after stretch `hostOps3` of the kernel's lines after the launch. -/
def suf0 (V : Valuation τ sig (Elt Ideal)) : Valuation τ sig (Elt Ideal) := StableHlo.after hostOps3 V

/-- The buffers after stretch `hostOps3_1` of the kernel's lines after the launch. -/
def suf1 (V : Valuation τ sig (Elt Ideal)) : Valuation τ sig (Elt Ideal) := StableHlo.after hostOps3_1 (suf0 V)

/-- The buffers after stretch `hostOps3_2` of the kernel's lines after the launch. -/
def suf2 (V : Valuation τ sig (Elt Ideal)) : Valuation τ sig (Elt Ideal) := StableHlo.after hostOps3_2 (suf1 V)

/-- The buffers after stretch `hostOps3_3` of the kernel's lines after the launch. -/
def suf3 (V : Valuation τ sig (Elt Ideal)) : Valuation τ sig (Elt Ideal) := StableHlo.after hostOps3_3 (suf2 V)

/-- The buffers after stretch `hostOps3_4` of the kernel's lines after the launch. -/
def suf4 (V : Valuation τ sig (Elt Ideal)) : Valuation τ sig (Elt Ideal) := StableHlo.after hostOps3_4 (suf3 V)

/-- The kernel's lines after the launch, as one list of operations. -/
theorem suf_flat (V : Valuation τ sig (Elt Ideal)) : StableHlo.after (List.flatten [hostOps3, hostOps3_1, hostOps3_2, hostOps3_3, hostOps3_4]) V = suf4 V := by
  simp only [List.flatten_cons, List.flatten_nil, List.append_nil, StableHlo.after_append]
  rfl

/-- Stretch 0 of the lines after keeps `main_v98`. -/
theorem suf0_v1 (V : Valuation τ sig (Elt Ideal)) : suf0 V (Proc.devRef .tc main_v98) = V (Proc.devRef .tc main_v98) :=
  (keep_hostOps3 _ main_v98 (by decide)).trans rfl

/-- Stretch 1 of the lines after keeps `main_v98`. -/
theorem suf1_v1 (V : Valuation τ sig (Elt Ideal)) : suf1 V (Proc.devRef .tc main_v98) = V (Proc.devRef .tc main_v98) :=
  (keep_hostOps3_1 _ main_v98 (by decide)).trans (suf0_v1 V)

/-- Stretch 2 of the lines after keeps `main_v98`. -/
theorem suf2_v1 (V : Valuation τ sig (Elt Ideal)) : suf2 V (Proc.devRef .tc main_v98) = V (Proc.devRef .tc main_v98) :=
  (keep_hostOps3_2 _ main_v98 (by decide)).trans (suf1_v1 V)

/-- Stretch 3 of the lines after keeps `main_v98`. -/
theorem suf3_v1 (V : Valuation τ sig (Elt Ideal)) : suf3 V (Proc.devRef .tc main_v98) = V (Proc.devRef .tc main_v98) :=
  (keep_hostOps3_3 _ main_v98 (by decide)).trans (suf2_v1 V)

/-- What the kernel's lines after the launch leaves in `main_v159`. -/
def u_v62 (V : Valuation τ sig (Elt Ideal)) : FVec Ideal S2x2048x4 .f32 := t_v62 (V (Proc.devRef .tc main_v157_0))

/-- Stretch 0 of the lines after computes `main_v159`. -/
theorem suf0_v62 (V : Valuation τ sig (Elt Ideal)) : suf0 V (Proc.devRef .tc main_v159) = u_v62 V :=
  read_v62 V

/-- Stretch 1 of the lines after keeps `main_v159`. -/
theorem suf1_v62 (V : Valuation τ sig (Elt Ideal)) : suf1 V (Proc.devRef .tc main_v159) = u_v62 V :=
  (keep_hostOps3_1 _ main_v159 (by decide)).trans (suf0_v62 V)

/-- Stretch 2 of the lines after keeps `main_v159`. -/
theorem suf2_v62 (V : Valuation τ sig (Elt Ideal)) : suf2 V (Proc.devRef .tc main_v159) = u_v62 V :=
  (keep_hostOps3_2 _ main_v159 (by decide)).trans (suf1_v62 V)

/-- Stretch 3 of the lines after keeps `main_v159`. -/
theorem suf3_v62 (V : Valuation τ sig (Elt Ideal)) : suf3 V (Proc.devRef .tc main_v159) = u_v62 V :=
  (keep_hostOps3_3 _ main_v159 (by decide)).trans (suf2_v62 V)

/-- What the kernel's lines after the launch leaves in `main_v162`. -/
def u_v65 (V : Valuation τ sig (Elt Ideal)) : IVec S2x2048 1 := t_v65 (V (Proc.devRef .tc main_v157_1))

/-- Stretch 0 of the lines after computes `main_v162`. -/
theorem suf0_v65 (V : Valuation τ sig (Elt Ideal)) : suf0 V (Proc.devRef .tc main_v162) = u_v65 V :=
  read_v65 V

/-- Stretch 1 of the lines after keeps `main_v162`. -/
theorem suf1_v65 (V : Valuation τ sig (Elt Ideal)) : suf1 V (Proc.devRef .tc main_v162) = u_v65 V :=
  (keep_hostOps3_1 _ main_v162 (by decide)).trans (suf0_v65 V)

/-- What the kernel's lines after the launch leaves in `main_v163`. -/
def u_v66 (V : Valuation τ sig (Elt Ideal)) : IVec S2x2048 32 := t_v66 (V (Proc.devRef .tc main_v157_1))

/-- Stretch 0 of the lines after computes `main_v163`. -/
theorem suf0_v66 (V : Valuation τ sig (Elt Ideal)) : suf0 V (Proc.devRef .tc main_v163) = u_v66 V :=
  read_v66 V

/-- What the kernel's lines after the launch leaves in `main_v164`. -/
def u_v67 (V : Valuation τ sig (Elt Ideal)) : IVec S2x2048 32 := t_v67 (u_v66 V)

/-- Stretch 1 of the lines after computes `main_v164`. -/
theorem suf1_v67 (V : Valuation τ sig (Elt Ideal)) : suf1 V (Proc.devRef .tc main_v164) = u_v67 V :=
  (read_v67 (suf0 V)).trans (by rw [suf0_v66]; rfl)

/-- What the kernel's lines after the launch leaves in `main_v166`. -/
def u_v69 (V : Valuation τ sig (Elt Ideal)) : IVec S2x2048 32 := t_v69 (u_v67 V)

/-- Stretch 2 of the lines after computes `main_v166`. -/
theorem suf2_v69 (V : Valuation τ sig (Elt Ideal)) : suf2 V (Proc.devRef .tc main_v166) = u_v69 V :=
  (read_v69 (suf1 V)).trans (by rw [suf1_v67]; rfl)

/-- What the kernel's lines after the launch leaves in `main_v169`. -/
def u_v72 (V : Valuation τ sig (Elt Ideal)) : IVec S2x2048 1 := t_v72 (u_v65 V) (u_v67 V)

/-- Stretch 2 of the lines after computes `main_v169`. -/
theorem suf2_v72 (V : Valuation τ sig (Elt Ideal)) : suf2 V (Proc.devRef .tc main_v169) = u_v72 V :=
  (read_v72 (suf1 V)).trans (by rw [suf1_v65, suf1_v67]; rfl)

/-- What the kernel's lines after the launch leaves in `main_c_37`. -/
def u_c_16 (V : Valuation τ sig (Elt Ideal)) : IVec S_ 32 := t_c_16

/-- Stretch 2 of the lines after computes `main_c_37`. -/
theorem suf2_c_16 (V : Valuation τ sig (Elt Ideal)) : suf2 V (Proc.devRef .tc main_c_37) = u_c_16 V :=
  read_c_16 (suf1 V)

/-- What the kernel's lines after the launch leaves in `main_v170`. -/
def u_v73 (V : Valuation τ sig (Elt Ideal)) : IVec S2x2048 32 := t_v73 (u_v72 V) (u_v69 V) (u_c_16 V)

/-- Stretch 3 of the lines after computes `main_v170`. -/
theorem suf3_v73 (V : Valuation τ sig (Elt Ideal)) : suf3 V (Proc.devRef .tc main_v170) = u_v73 V :=
  (read_v73 (suf2 V)).trans (by rw [suf2_v72, suf2_v69, suf2_c_16]; rfl)

/-- What the kernel's lines after the launch leaves in `main_v187`. -/
def u_v90 (V : Valuation τ sig (Elt Ideal)) : FVec Ideal S2x1000x4 .f32 := t_v90 (V (Proc.devRef .tc main_v98)) (u_v73 V) (u_v62 V)

/-- Stretch 4 of the lines after computes `main_v187`. -/
theorem suf4_v90 (V : Valuation τ sig (Elt Ideal)) : suf4 V (Proc.devRef .tc main_v187) = u_v90 V :=
  (read_v90 (suf3 V)).trans (by rw [suf3_v1, suf3_v73, suf3_v62]; rfl)

end Cert.Proof.KernelIdeal
-- ==== Proof.KPre.lean ====
/- What the launch reads, in the candidates' order, and the candidates its mask keeps. -/
module

public import proofs.«01_k».proof.Proof.KHost
public import proofs.«01_k».proof.Proof.KChain
public import proofs.«01_k».proof.Proof.CandFacts

@[expose] public section

set_option maxRecDepth 16384

noncomputable section

namespace Cert.Proof.KernelIdeal

open Cert.KernelIdeal Cert.KernelIdeal.Gen Cert.Proof.Cand Cert.Proof.Gath Cert.Proof.Greedy
open Idealize.ShloMosaic Idealize.ShloMosaic.TcCoe Idealize.SL.Sem

section

variable (V : Valuation τ sig (Elt Ideal))

/-- The four arguments. -/
abbrev aO : FVec Ideal S2x200000 .f32 := V (Proc.devRef .tc main_arg0)
@[inherit_doc aO] abbrev aD : FVec Ideal S2x200000x4 .f32 := V (Proc.devRef .tc main_arg1)
@[inherit_doc aO] abbrev aA : FVec Ideal S200000x4 .f32 := V (Proc.devRef .tc main_arg2)
@[inherit_doc aO] abbrev aT : IVec S2x2000 32 := V (Proc.devRef .tc main_v96)

/-- The launch's order. -/
def sg (b : Fin 2) : Fin 2048 → Fin 2048 := ordOf (u_v46 V) b

variable (hr : ∀ b k, (aT V (ix2 b k)).toNat < 200000)

include hr in
/-- An index word in range is the word of the anchor's number that it names. -/
theorem word_at (b : Fin 2) (k : Fin 2000) : aT V (ix2 b k) = BitVec.ofNat 32 (tix (aT V) b k.val).val := by
  have h := hr b k
  unfold tix
  rw [dif_pos k.isLt]
  show _ = BitVec.ofNat 32 ((aT V (ix2 b k)).toNat % 200000)
  rw [Nat.mod_eq_of_lt h]; simp

include hr in
/-- The padded scores, entry by entry, as the candidates' scores. -/
theorem u42_at (b : Fin 2) (k : Fin 2048) : u_v42 V (ix2 b k) = ob (aO V) (aT V) b k.val := by
  unfold u_v42 u_v16 u_cst
  rw [pad42]
  unfold ob
  split_ifs with h
  · exact obj_at _ _ b ⟨k.val, h⟩ _ (word_at V hr b ⟨k.val, h⟩)
  · rfl

include hr in
/-- The padded levels, entry by entry, as the candidates' levels. -/
theorem u43_at (b : Fin 2) (k : Fin 2048) : u_v43 V (ix2 b k) = lv (aT V) b k.val := by
  unfold u_v43 u_v19 u_c_10
  rw [pad43]
  unfold lv
  by_cases h : k.val < 2000
  · rw [dif_pos h]
    refine (level_at _ b ⟨k.val, h⟩ _ (word_at V hr b ⟨k.val, h⟩)).trans ?_
    simp only [h, true_and]
  · rw [dif_neg h, if_neg (fun q => h q.1)]

include hr in
/-- The padded deltas, entry by entry, as the candidates' deltas. -/
theorem u44_at (b : Fin 2) (k : Fin 2048) (j : Fin 4) : u_v44 V (ix3 b k j) = dl (aD V) (aT V) b k.val j := by
  unfold u_v44 u_v34 u_c_11
  rw [pad44]
  unfold dl
  split_ifs with h
  · exact delta_at _ _ b ⟨k.val, h⟩ j _ (word_at V hr b ⟨k.val, h⟩)
  · rfl

include hr in
/-- The padded anchors, entry by entry, as the candidates' anchors. -/
theorem u45_at (b : Fin 2) (k : Fin 2048) (j : Fin 4) : u_v45 V (ix3 b k j) = an (aA V) (aT V) b k.val j := by
  unfold u_v45 u_v41 u_c_12
  rw [pad45]
  unfold an
  split_ifs with h
  · exact anchor_at _ _ b ⟨k.val, h⟩ j _ (word_at V hr b ⟨k.val, h⟩)
  · rfl

/-- The sorted positions, as words of the candidates sorted to each place. -/
theorem u47_at (b : Fin 2) (p : Fin 2048) : u_v47 V (ix2 b p) = BitVec.ofNat 32 (sg V b p).val := sort_at _ b p

include hr in
/-- The block of scores: place `p` holds the score of the candidate sorted to `p`. -/
theorem u54_at (b : Fin 2) (p : Fin 2048) : u_v54 V (ix3 b (prow p) (plane p)) = ob (aO V) (aT V) b (sg V b p).val := by
  unfold u_v54 u_v48
  rw [block54, take48 _ _ b p _ (u47_at V b p)]
  exact u42_at V hr b _

include hr in
/-- The block of levels: place `p` holds the level of the candidate sorted to `p`. -/
theorem u55_at (b : Fin 2) (p : Fin 2048) : u_v55 V (ix3 b (prow p) (plane p)) = lv (aT V) b (sg V b p).val := by
  unfold u_v55 u_v49
  rw [block55, take49 _ _ b p _ (u47_at V b p)]
  exact u43_at V hr b _

include hr in
/-- The block of deltas: place `p` holds the deltas of the candidate sorted to `p`. -/
theorem u57_at (b : Fin 2) (p : Fin 2048) (j : Fin 4) : u_v57 V (ix4 b j (prow p) (plane p)) = dl (aD V) (aT V) b (sg V b p).val j := by
  unfold u_v57 u_v51 u_v50
  rw [block57, take51 _ _ b p _ j ((col50 _ b p).trans (u47_at V b p))]
  exact u44_at V hr b _ j

include hr in
/-- The block of anchors: place `p` holds the anchor of the candidate sorted to `p`. -/
theorem u59_at (b : Fin 2) (p : Fin 2048) (j : Fin 4) : u_v59 V (ix4 b j (prow p) (plane p)) = an (aA V) (aT V) b (sg V b p).val j := by
  unfold u_v59 u_v53 u_v52
  rw [block59, take53 _ _ b p _ j ((col52 _ b p).trans (u47_at V b p))]
  exact u45_at V hr b _ j

/-- No candidate is sorted to two places. -/
theorem sg_inj (b : Fin 2) : Function.Injective (sg V b) := by
  unfold sg ordOf
  generalize (fun k k' : Fin 2048 => comparator_f32_i32_d1 (F := Ideal) (u_v46 V (ix2 b k), BitVec.ofNat 32 k.val) (u_v46 V (ix2 b k'), BitVec.ofNat 32 k'.val) == 1#1) = f
  exact sortedFrom_injective f

/-- Every candidate is sorted to some place. -/
theorem sg_surj (b : Fin 2) : Function.Surjective (sg V b) := Finite.injective_iff_surjective.mp (sg_inj V b)

include hr in
/-- The sort's keys are the negated scores of the candidates. -/
theorem u46_at (b : Fin 2) (k : Fin 2048) : u_v46 V (ix2 b k) = - ob (aO V) (aT V) b k.val := by
  unfold u_v46
  rw [neg46, u42_at V hr]

include hr in
/-- Earlier positions hold candidates that come before. -/
theorem sg_ord (b : Fin 2) (i j : Fin 2048) (h : i < j) : bef (ob (aO V) (aT V) b) (sg V b i).val (sg V b j).val := by
  have := order_at (u_v46 V) b i j h
  rw [u46_at V hr, u46_at V hr, EReal.neg_lt_neg_iff, neg_inj] at this
  exact this

end

end Cert.Proof.KernelIdeal
-- ==== Proof.KArr.lean ====
/- The two arrays the launch leaves, as functions of the four it reads. -/
module

public import proofs.«01_k».proof.Proof.FrameKI
public import proofs.«01_k».proof.Proof.KNms
public import Idealize.ShloMosaic.Lib.Pipeline.ValueKit

@[expose] public section

set_option maxRecDepth 16384

noncomputable section

namespace Cert.Proof.KernelIdeal

open Cert.KernelIdeal Cert.KernelIdeal.Gen Cert.Proof.Cand
open Idealize.ShloMosaic Idealize.ShloMosaic.TcCoe Idealize.SL.Sem

/-- Where each window's block sits at a point. -/
theorem idx (t : Fin cfg2.N) : (∀ a, win2_0.index t a = ![t.val, 0, 0] a) ∧ (∀ a, win2_1.index t a = ![t.val, 0, 0] a)
    ∧ (∀ a, win2_2.index t a = ![t.val, 0, 0, 0] a) ∧ (∀ a, win2_3.index t a = ![t.val, 0, 0, 0] a)
    ∧ (∀ a, win2_4.index t a = ![t.val, 0, 0, 0] a) ∧ (∀ a, win2_5.index t a = ![t.val, 0, 0] a) := by
  revert t; decide +kernel

/-- One image's slab of a three-axis array. -/
def slab3 (X : FVec Ideal S2x16x128 .f32) (b : Fin 2) : FVec Ideal S1x16x128 .f32 := fun y => X (ix3 b (y 1) (y 2))
/-- One image's slab of a four-axis array. -/
def slab4 (X : FVec Ideal S2x4x16x128 .f32) (b : Fin 2) : FVec Ideal S1x4x16x128 .f32 := fun y => X (ix4 b (y 1) (y 2) (y 3))

/-- What the body leaves in the mask block, at an entry. -/
theorem outK_at (x0 x1 : FVec Ideal S1x16x128 .f32) (x2 x3 : FVec Ideal S1x4x16x128 .f32) (r : Fin 16) (l : Fin 128) :
    outK (F := Ideal) x0 x1 x2 x3 (ix3 0 r l) = maskN (F := Ideal) x0 x1 x2 x3 2000 (ix2 r l) := by
  unfold outK keepPieces
  refine (View.read_writes_cons_unit_of_mem VOk _ _ _ _ (ix3 0 r l) (ix3 0 r l) rfl ?_).trans ?_
  · intro a; fin_cases a <;> simp
  rw [show Scf.trips k2_t1_loop.lb k2_t1_loop.ub k2_t1_loop.st = 2000 from trips_eq]
  generalize maskN (F := Ideal) x0 x1 x2 x3 2000 = M
  pointwise [k2_pay41]

/-- What the body leaves in the box block, at an entry. -/
theorem outB_at (x2 x3 : FVec Ideal S1x4x16x128 .f32) (j : Fin 4) (r : Fin 16) (l : Fin 128) :
    outB (F := Ideal) x2 x3 (ix4 0 j r l) = box (fun j => x2 (ix4 0 j r l)) (fun j => x3 (ix4 0 j r l)) j := by
  have e0 : k2_pay42 (bx1 (F := Ideal) x2 x3) (ix4 0 0 r l) = bx1 (F := Ideal) x2 x3 (ix2 r l) := by
    generalize bx1 (F := Ideal) x2 x3 = M; pointwise [k2_pay42]
  have e1 : k2_pay43 (by1 (F := Ideal) x2 x3) (ix4 0 0 r l) = by1 (F := Ideal) x2 x3 (ix2 r l) := by
    generalize by1 (F := Ideal) x2 x3 = M; pointwise [k2_pay43]
  have e2 : k2_pay44 (bx2 (F := Ideal) x2 x3) (ix4 0 0 r l) = bx2 (F := Ideal) x2 x3 (ix2 r l) := by
    generalize bx2 (F := Ideal) x2 x3 = M; pointwise [k2_pay44]
  have e3 : k2_pay1 (by2 (F := Ideal) x2 x3) (ix4 0 0 r l) = by2 (F := Ideal) x2 x3 (ix2 r l) := by
    generalize by2 (F := Ideal) x2 x3 = M; pointwise [k2_pay1]
  have k0 : outB (F := Ideal) x2 x3 (ix4 0 0 r l) = box (fun j => x2 (ix4 0 j r l)) (fun j => x3 (ix4 0 j r l)) 0 := by
    unfold outB boxPieces
    refine (View.read_writes_cons_unit_of_not_mem VOb _ _ _ _ _ rfl 1 (Or.inl ?_)).trans ?_
    · simp
    refine (View.read_writes_cons_unit_of_not_mem VOb _ _ _ _ _ rfl 1 (Or.inl ?_)).trans ?_
    · simp
    refine (View.read_writes_cons_unit_of_not_mem VOb _ _ _ _ _ rfl 1 (Or.inl ?_)).trans ?_
    · simp
    refine (View.read_writes_cons_unit_of_mem VOb _ _ _ _ _ (ix4 0 0 r l) rfl ?_).trans ?_
    · intro a; fin_cases a <;> simp
    exact e0.trans (bx1_at x2 x3 r l)
  have k1 : outB (F := Ideal) x2 x3 (ix4 0 1 r l) = box (fun j => x2 (ix4 0 j r l)) (fun j => x3 (ix4 0 j r l)) 1 := by
    unfold outB boxPieces
    refine (View.read_writes_cons_unit_of_not_mem VOb _ _ _ _ _ rfl 1 (Or.inl ?_)).trans ?_
    · simp
    refine (View.read_writes_cons_unit_of_not_mem VOb _ _ _ _ _ rfl 1 (Or.inl ?_)).trans ?_
    · simp
    refine (View.read_writes_cons_unit_of_mem VOb _ _ _ _ _ (ix4 0 0 r l) rfl ?_).trans ?_
    · intro a; fin_cases a <;> simp
    exact e1.trans (by1_at x2 x3 r l)
  have k2 : outB (F := Ideal) x2 x3 (ix4 0 2 r l) = box (fun j => x2 (ix4 0 j r l)) (fun j => x3 (ix4 0 j r l)) 2 := by
    unfold outB boxPieces
    refine (View.read_writes_cons_unit_of_not_mem VOb _ _ _ _ _ rfl 1 (Or.inl ?_)).trans ?_
    · simp
    refine (View.read_writes_cons_unit_of_mem VOb _ _ _ _ _ (ix4 0 0 r l) rfl ?_).trans ?_
    · intro a; fin_cases a <;> simp
    exact e2.trans (bx2_at x2 x3 r l)
  have k3 : outB (F := Ideal) x2 x3 (ix4 0 3 r l) = box (fun j => x2 (ix4 0 j r l)) (fun j => x3 (ix4 0 j r l)) 3 := by
    unfold outB boxPieces
    refine (View.read_writes_cons_unit_of_mem VOb _ _ _ _ _ (ix4 0 0 r l) rfl ?_).trans ?_
    · intro a; fin_cases a <;> simp
    exact e3.trans (by2_at x2 x3 r l)
  fin_cases j
  · exact k0
  · exact k1
  · exact k2
  · exact k3

variable (V : (c : Dev nD) → (b : Ref sig .tc) → Buf (Elt Ideal) ((c : Thread nD τ).loc b))

/-- The first input block is one image's slab. -/
theorem inBlk0 (c : Dev nD) (t : Fin cfg2.N) (b : Fin 2) (hb : b.val = t.val) :
    (iblk V c 0 t : FVec Ideal S1x16x128 .f32) = slab3 (V c main_v151) b := by
  obtain ⟨h0, h1, h2, h3, h4, h5⟩ := idx t
  funext y
  idx_vars y
  unfold slab3
  blk_ext [iblk, h0]

/-- The second input block is one image's slab. -/
theorem inBlk1 (c : Dev nD) (t : Fin cfg2.N) (b : Fin 2) (hb : b.val = t.val) :
    (iblk V c 1 t : FVec Ideal S1x16x128 .f32) = slab3 (V c main_v152) b := by
  obtain ⟨h0, h1, h2, h3, h4, h5⟩ := idx t
  funext y
  idx_vars y
  unfold slab3
  blk_ext [iblk, h1]

/-- The third input block is one image's slab. -/
theorem inBlk2 (c : Dev nD) (t : Fin cfg2.N) (b : Fin 2) (hb : b.val = t.val) :
    (iblk V c 2 t : FVec Ideal S1x4x16x128 .f32) = slab4 (V c main_v154) b := by
  obtain ⟨h0, h1, h2, h3, h4, h5⟩ := idx t
  funext y
  idx_vars y
  unfold slab4
  blk_ext [iblk, h2]

/-- The fourth input block is one image's slab. -/
theorem inBlk3 (c : Dev nD) (t : Fin cfg2.N) (b : Fin 2) (hb : b.val = t.val) :
    (iblk V c 3 t : FVec Ideal S1x4x16x128 .f32) = slab4 (V c main_v156) b := by
  obtain ⟨h0, h1, h2, h3, h4, h5⟩ := idx t
  funext y
  idx_vars y
  unfold slab4
  blk_ext [iblk, h3]

/-- The mask array the launch leaves. -/
def maskArr (c : Dev nD) : FVec Ideal S2x16x128 .f32 := fun y =>
  outK (F := Ideal) (slab3 (V c main_v151) (y 0)) (slab3 (V c main_v152) (y 0)) (slab4 (V c main_v154) (y 0)) (slab4 (V c main_v156) (y 0)) (ix3 0 (y 1) (y 2))

/-- The box array the launch leaves. -/
def boxArr (c : Dev nD) : FVec Ideal S2x4x16x128 .f32 := fun y =>
  outB (F := Ideal) (slab4 (V c main_v154) (y 0)) (slab4 (V c main_v156) (y 0)) (ix4 0 (y 1) (y 2) (y 3))

/-- The box array after the launch. -/
theorem final4 (c : Dev nD) : (dat2 V c).arrAt 4 cfg2.N = boxArr V c := by
  refine (dat2 V c).arrAt_eq_of_covers 4 _ (by decide +kernel) fun t _ y => ?_
  obtain ⟨h0, h1, h2, h3, h4, h5⟩ := idx t
  have ht : t.val < 2 := t.isLt
  blk_simp
  rw [after_4]
  have e : (((cfg2.win 4).blk t).view.emb y : S2x4x16x128.Idx) = ix4 (⟨t.val, ht⟩ : Fin 2) (y 1) (y 2) (y 3) := by
    blk_ext [h4]
  rw [e]
  have hy : (y : S1x4x16x128.Idx) = ix4 (0 : Fin 1) (y 1) (y 2) (y 3) := by
    funext a
    match a with
    | 0 => exact Subsingleton.elim (α := Fin 1) _ _
    | 1 => rfl
    | 2 => rfl
    | 3 => rfl
  exact congr (congrArg₂ (outB (F := Ideal)) (inBlk2 V c t ⟨t.val, ht⟩ rfl) (inBlk3 V c t ⟨t.val, ht⟩ rfl)) hy

/-- The mask array after the launch. -/
theorem final5 (c : Dev nD) : (dat2 V c).arrAt 5 cfg2.N = maskArr V c := by
  refine (dat2 V c).arrAt_eq_of_covers 5 _ (by decide +kernel) fun t _ y => ?_
  obtain ⟨h0, h1, h2, h3, h4, h5⟩ := idx t
  have ht : t.val < 2 := t.isLt
  blk_simp
  rw [after_5]
  have e : (((cfg2.win 5).blk t).view.emb y : S2x16x128.Idx) = ix3 (⟨t.val, ht⟩ : Fin 2) (y 1) (y 2) := by
    blk_ext [h5]
  rw [e]
  have hy : (y : S1x16x128.Idx) = ix3 (0 : Fin 1) (y 1) (y 2) := by
    funext a
    match a with
    | 0 => exact Subsingleton.elim (α := Fin 1) _ _
    | 1 => rfl
    | 2 => rfl
  have e0 := inBlk0 V c t ⟨t.val, ht⟩ rfl
  have e1 := inBlk1 V c t ⟨t.val, ht⟩ rfl
  have e2 := inBlk2 V c t ⟨t.val, ht⟩ rfl
  have e3 := inBlk3 V c t ⟨t.val, ht⟩ rfl
  exact congr (congr (congr (congrArg₂ (outK (F := Ideal)) e0 e1) e2) e3) hy

end Cert.Proof.KernelIdeal
-- ==== Proof.KKept.lean ====
/- The candidates the launch's mask keeps, and the boxes beside it. -/
module

public import proofs.«01_k».proof.Proof.KPre
public import proofs.«01_k».proof.Proof.KArr
public import proofs.«01_k».proof.Proof.RunKI

@[expose] public section

set_option maxRecDepth 16384

noncomputable section

namespace Cert.Proof.KernelIdeal

open Cert.KernelIdeal Cert.KernelIdeal.Gen Cert.Proof.Cand Cert.Proof.Gath Cert.Proof.Greedy
open Idealize.ShloMosaic Idealize.ShloMosaic.TcCoe Idealize.SL.Sem

variable (m : (ℓ : Loc nD τ sig) → Buf (Elt Ideal) ℓ) (c : Dev nD)

/-- What the suppression's launch finds, buffer by buffer. -/
def VE : (c : Dev nD) → (b : Ref sig .tc) → Buf (Elt Ideal) ((c : Thread nD τ).loc b) := fun c b => V37 m (outs m) c b
/-- What the suppression's launch finds. -/
def VT : Valuation τ sig (Elt Ideal) := V37 m (outs m) c
/-- The buffers one device holds once the list of chosen places stands. -/
def W0 : Valuation τ sig (Elt Ideal) := StableHlo.after (hostOps2_6.take 31) (V20 m (outs m) c)

/-- The stretch that ends the selection, cut where the list of chosen places stands. -/
theorem cut (V : Valuation τ sig (Elt Ideal)) : StableHlo.after hostOps2_6 V = pre0 (StableHlo.after (hostOps2_6.take 31) V) :=
  (congrArg (fun l => StableHlo.after l V) (List.take_append_drop 31 hostOps2_6).symm).trans (StableHlo.after_append ..)

/-- At the launch the buffers hold what the host lines before it leave. -/
theorem VT_eq : VT m c = pre16 (W0 m c) :=
  congrArg (fun X => StableHlo.after hostOps2_22 (StableHlo.after hostOps2_21 (StableHlo.after hostOps2_20 (StableHlo.after hostOps2_19 (StableHlo.after hostOps2_18 (StableHlo.after hostOps2_17 (StableHlo.after hostOps2_16 (StableHlo.after hostOps2_15 (StableHlo.after hostOps2_14 (StableHlo.after hostOps2_13 (StableHlo.after hostOps2_12 (StableHlo.after hostOps2_11 (StableHlo.after hostOps2_10 (StableHlo.after hostOps2_9 (StableHlo.after hostOps2_8 (StableHlo.after hostOps2_7 X)))))))))))))))) (cut (V20 m (outs m) c))

/-- The launch's scores are the sorted scores. -/
theorem V54 : VE m c main_v151 = u_v54 (W0 m c) := by
  show VT m c (Proc.devRef .tc main_v151) = _
  rw [VT_eq]; exact pre16_v54 _
/-- The launch's levels are the sorted levels. -/
theorem V55 : VE m c main_v152 = u_v55 (W0 m c) := by
  show VT m c (Proc.devRef .tc main_v152) = _
  rw [VT_eq]; exact pre16_v55 _
/-- The launch's deltas are the sorted deltas. -/
theorem V57 : VE m c main_v154 = u_v57 (W0 m c) := by
  show VT m c (Proc.devRef .tc main_v154) = _
  rw [VT_eq]; exact pre16_v57 _
/-- The launch's anchors are the sorted anchors. -/
theorem V59 : VE m c main_v156 = u_v59 (W0 m c) := by
  show VT m c (Proc.devRef .tc main_v156) = _
  rw [VT_eq]; exact pre16_v59 _

/-- Position `p` of image `b` is set in the mask. -/
def msk (b : Fin 2) (p : Fin 2048) : Prop :=
  setAt (slab3 (VE m c main_v151) b) (slab3 (VE m c main_v152) b) (slab4 (VE m c main_v154) b) (slab4 (VE m c main_v156) b) 2000 p

variable (hr : ∀ b k, (aT (W0 m c) (ix2 b k)).toNat < 200000)

include hr in
/-- The box that the kernel decodes at place `p` is that of the candidate sorted to `p`. -/
theorem boxAt_eq (b : Fin 2) (p : Fin 2048) :
    boxAt (slab4 (VE m c main_v154) b) (slab4 (VE m c main_v156) b) p = bxk (aD (W0 m c)) (aA (W0 m c)) (aT (W0 m c)) b (sg (W0 m c) b p).val := by
  unfold boxAt bxk
  have h1 : (fun j => slab4 (VE m c main_v154) b (ix4 0 j (prow p) (plane p))) = dl (aD (W0 m c)) (aT (W0 m c)) b (sg (W0 m c) b p).val := by
    funext j; rw [V57]; exact u57_at (W0 m c) hr b p j
  have h2 : (fun j => slab4 (VE m c main_v156) b (ix4 0 j (prow p) (plane p))) = an (aA (W0 m c)) (aT (W0 m c)) b (sg (W0 m c) b p).val := by
    funext j; rw [V59]; exact u59_at (W0 m c) hr b p j
  rw [h1, h2]

include hr in
/-- The level's offset at place `p` is that of the candidate sorted to `p`. -/
theorem offAt_eq (b : Fin 2) (p : Fin 2048) : offAt (slab3 (VE m c main_v152) b) p = ofk (aT (W0 m c)) b (sg (W0 m c) b p).val := by
  unfold offAt ofk
  have h : slab3 (VE m c main_v152) b (ix3 0 (prow p) (plane p)) = lv (aT (W0 m c)) b (sg (W0 m c) b p).val := by
    rw [V55]; exact u55_at (W0 m c) hr b p
  rw [h]

include hr in
/-- Place `p` starts as valid exactly when the candidate sorted to `p` is valid. -/
theorem okAt_eq (b : Fin 2) (p : Fin 2048) :
    okAt (slab3 (VE m c main_v151) b) (slab4 (VE m c main_v154) b) (slab4 (VE m c main_v156) b) p ↔ vk (aO (W0 m c)) (aD (W0 m c)) (aA (W0 m c)) (aT (W0 m c)) b (sg (W0 m c) b p).val := by
  unfold okAt vk
  have h : slab3 (VE m c main_v151) b (ix3 0 (prow p) (plane p)) = ob (aO (W0 m c)) (aT (W0 m c)) b (sg (W0 m c) b p).val := by
    rw [V54]; exact u54_at (W0 m c) hr b p
  rw [boxAt_eq m c hr, h]

include hr in
/-- Place `p` overlaps place `q` too far exactly when their candidates do. -/
theorem overAt_eq (b : Fin 2) (p q : Fin 2048) :
    overAt (slab3 (VE m c main_v152) b) (slab4 (VE m c main_v154) b) (slab4 (VE m c main_v156) b) p q
      ↔ rk (aD (W0 m c)) (aA (W0 m c)) (aT (W0 m c)) b (sg (W0 m c) b p).val (sg (W0 m c) b q).val := by
  unfold overAt rk
  rw [boxAt_eq m c hr, boxAt_eq m c hr, offAt_eq m c hr, offAt_eq m c hr]

variable (ho : ∀ b k, k < 2000 → lit 0xF149F2CA#32 ≤ ob (aO (W0 m c)) (aT (W0 m c)) b k)

include hr ho in
/-- Valid candidates stand among the first 2000 positions. -/
theorem valid_pos (b : Fin 2) (p : Fin 2048) (h : vk (aO (W0 m c)) (aD (W0 m c)) (aA (W0 m c)) (aT (W0 m c)) b (sg (W0 m c) b p).val) : p.val < 2000 := by
  have hk := vk_lt _ _ _ _ _ _ h
  choose f hf using fun x : Fin 48 => sg_surj (W0 m c) b ⟨2000 + x.val, by omega⟩
  have := val_add_lt p f (fun x y e => by
    have := (hf x).symm.trans ((congrArg _ e).trans (hf y))
    exact Fin.ext (by have := congrArg Fin.val this; simp only at this; omega)) (fun x => by
    by_contra hn
    have hne : f x ≠ p := fun e => by
      have := congrArg Fin.val (hf x); rw [e] at this; simp only at this; omega
    have hlt : f x < p := lt_of_le_of_ne (not_lt.mp hn) hne
    have hb := sg_ord (W0 m c) hr b _ _ hlt
    rw [hf x] at hb
    have hp : ob (aO (W0 m c)) (aT (W0 m c)) b (2000 + x.val) = lit 0xF149F2CA#32 := by unfold ob; rw [if_neg (by omega)]
    have hq : lit 0xF149F2CA#32 ≤ ob (aO (W0 m c)) (aT (W0 m c)) b (sg (W0 m c) b p).val := ho _ _ hk
    rcases hb with hb | ⟨-, hb⟩
    · simp only [hp] at hb; exact absurd hb (not_lt.mpr hq)
    · simp only at hb; omega)
  omega

include hr ho in
/-- The mask keeps a kept set. -/
theorem kept_msk (b : Fin 2) :
    Kept (ob (aO (W0 m c)) (aT (W0 m c)) b) (vk (aO (W0 m c)) (aD (W0 m c)) (aA (W0 m c)) (aT (W0 m c)) b) (rk (aD (W0 m c)) (aA (W0 m c)) (aT (W0 m c)) b)
      (fun k => ∃ p, (sg (W0 m c) b p).val = k ∧ msk m c b p) := by
  refine kept_of_listing (fun p => (sg (W0 m c) b p).val) (msk m c b) (fun k hk => ?_) (fun p q _ _ h => sg_ord (W0 m c) hr b p q h) (fun p => ?_)
  · obtain ⟨p, hp⟩ := sg_surj (W0 m c) b ⟨k, by have := vk_lt _ _ _ _ _ _ hk; omega⟩
    exact ⟨p, congrArg Fin.val hp⟩
  · unfold msk
    rw [set_final, okAt_eq m c hr]
    refine and_congr_right fun hv => ⟨fun h i hi hm => ?_, fun h i _ hi hm => ?_⟩
    · rw [← overAt_eq m c hr]
      refine h i ?_ hi hm
      have := ((set_final _ _ _ _ i).mp hm).1
      rw [okAt_eq m c hr] at this
      exact valid_pos m c hr ho b i this
    · rw [overAt_eq m c hr]; exact h i hi hm

include hr in
/-- A place that is kept at the end holds a valid candidate. -/
theorem msk_valid (b : Fin 2) (p : Fin 2048) (h : msk m c b p) : vk (aO (W0 m c)) (aD (W0 m c)) (aA (W0 m c)) (aT (W0 m c)) b (sg (W0 m c) b p).val := by
  have := ((set_final _ _ _ _ p).mp h).1
  rwa [okAt_eq m c hr] at this

/-- The mask array at a position: zero or one. -/
theorem maskArr_at (b : Fin 2) (p : Fin 2048) :
    (maskArr (VE m) c (ix3 b (prow p) (plane p)) = (0 : EReal) ∧ ¬ msk m c b p) ∨ (maskArr (VE m) c (ix3 b (prow p) (plane p)) = (1 : EReal) ∧ msk m c b p) := by
  have e : maskArr (VE m) c (ix3 b (prow p) (plane p)) = maskN (F := Ideal) (slab3 (VE m c main_v151) b) (slab3 (VE m c main_v152) b) (slab4 (VE m c main_v154) b) (slab4 (VE m c main_v156) b) 2000 (ix2 (prow p) (plane p)) :=
    outK_at _ _ _ _ _ _
  unfold msk
  rcases mask_bit (slab3 (VE m c main_v151) b) (slab3 (VE m c main_v152) b) (slab4 (VE m c main_v154) b) (slab4 (VE m c main_v156) b) 2000 le_rfl p with h | h
  · refine Or.inl ⟨e.trans h, fun h1 => ?_⟩
    unfold setAt at h1
    rw [h] at h1
    exact zero_ne_one h1
  · exact Or.inr ⟨e.trans h, h⟩

include hr in
/-- The box array at a position. -/
theorem boxArr_at (b : Fin 2) (j : Fin 4) (p : Fin 2048) :
    boxArr (VE m) c (ix4 b j (prow p) (plane p)) = bxk (aD (W0 m c)) (aA (W0 m c)) (aT (W0 m c)) b (sg (W0 m c) b p).val j := by
  rw [← boxAt_eq m c hr]
  exact outB_at _ _ _ _ _

end Cert.Proof.KernelIdeal
-- ==== Proof.RRead.lean ====
/- The reference's lines before, in and after its loop, each stretch as a function of what it reads. -/
module

public import proofs.«01_k».proof.Proof.RefFrame
public import Idealize.ShloMosaic.Lib.StableHlo.RunRead
public import Idealize.ShloMosaic.Lib.Pointwise

@[expose] public section

set_option maxRecDepth 16384

noncomputable section

namespace Cert.Proof.ReferenceIdeal

open Idealize.ShloMosaic Idealize.ShloMosaic.TcCoe Idealize.ShloMosaic.StableHlo
open Cert.ReferenceIdeal Cert.ReferenceIdeal.Gen

/-- The places that one level lists, its largest first. -/
def listed {N : ℕ} (X : FVec Ideal ⟨2, ![2, N]⟩ .f32) (hs : (⟨2, ![2, N]⟩ : Shape).Slices (fun _ => 0) S2x1000) : IVec S2x1000 32 :=
  (Host.topK S2x1000 1 (FloatOps.cmpfTotal (F := Ideal) (φ := .f32) .gt) X hs).2

/-- Both levels' listings, each shifted by its level's first place. -/
def topI (A : FVec Ideal S2x200000 .f32) : IVec S2x2000 32 :=
  concatenate S2x2000 1 [⟨S2x1000, (addi (listed (extractStridedSlice S2x160000 ![0, 0] A slices_S2x200000_S2x160000_0_0) sliceFits_S2x160000_S2x1000) (broadcastInDim S2x1000 ![] bcast_S_S2x1000 (constantI S_ 32 0#32)) : IVec S2x1000 32)⟩,
    ⟨S2x1000, (addi (listed (extractStridedSlice S2x40000 ![0, 160000] A slices_S2x200000_S2x40000_0_160000) sliceFits_S2x40000_S2x1000) (broadcastInDim S2x1000 ![] bcast_S_S2x1000 (constantI S_ 32 160000#32)) : IVec S2x1000 32)⟩]
    concatenates_S2x1000_S2x1000_S2x2000_d1

/-- One line's value. -/
def t_v0 (xarg2 : FVec Ideal S200000x4 .f32) : FVec Ideal S200000x1 .f32 :=
  (extractStridedSlice S200000x1 ![0, 2] · slices_S200000x4_S200000x1_0_2) xarg2

/-- One line's value. -/
def t_v1 (xarg2 : FVec Ideal S200000x4 .f32) : FVec Ideal S200000 .f32 :=
  shapeCast S200000 (t_v0 xarg2) shapeCasts_S200000x1_S200000

/-- One line's value. -/
def t_v2 (xarg2 : FVec Ideal S200000x4 .f32) : FVec Ideal S200000x1 .f32 :=
  (extractStridedSlice S200000x1 ![0, 0] · slices_S200000x4_S200000x1_0_0) xarg2

/-- One line's value. -/
def t_v3 (xarg2 : FVec Ideal S200000x4 .f32) : FVec Ideal S200000 .f32 :=
  shapeCast S200000 (t_v2 xarg2) shapeCasts_S200000x1_S200000

/-- One line's value. -/
def t_v4 (xarg2 : FVec Ideal S200000x4 .f32) : FVec Ideal S200000 .f32 :=
  subf (t_v1 xarg2) (t_v3 xarg2)

/-- One line's value. -/
def t_v5 (xarg2 : FVec Ideal S200000x4 .f32) : FVec Ideal S200000x1 .f32 :=
  (extractStridedSlice S200000x1 ![0, 3] · slices_S200000x4_S200000x1_0_3) xarg2

/-- One line's value. -/
def t_v6 (xarg2 : FVec Ideal S200000x4 .f32) : FVec Ideal S200000 .f32 :=
  shapeCast S200000 (t_v5 xarg2) shapeCasts_S200000x1_S200000

/-- One line's value. -/
def t_v7 (xarg2 : FVec Ideal S200000x4 .f32) : FVec Ideal S200000x1 .f32 :=
  (extractStridedSlice S200000x1 ![0, 1] · slices_S200000x4_S200000x1_0_1) xarg2

/-- One line's value. -/
def t_v8 (xarg2 : FVec Ideal S200000x4 .f32) : FVec Ideal S200000 .f32 :=
  shapeCast S200000 (t_v7 xarg2) shapeCasts_S200000x1_S200000

/-- One line's value. -/
def t_v9 (xarg2 : FVec Ideal S200000x4 .f32) : FVec Ideal S200000 .f32 :=
  subf (t_v6 xarg2) (t_v8 xarg2)

/-- One line's value. -/
def t_v10 (xarg2 : FVec Ideal S200000x4 .f32) : FVec Ideal S200000x1 .f32 :=
  (extractStridedSlice S200000x1 ![0, 0] · slices_S200000x4_S200000x1_0_0) xarg2

/-- One line's value. -/
def t_v11 (xarg2 : FVec Ideal S200000x4 .f32) : FVec Ideal S200000 .f32 :=
  shapeCast S200000 (t_v10 xarg2) shapeCasts_S200000x1_S200000

/-- One line's value. -/
def t_cst : FVec Ideal S_ .f32 :=
  constant (F := Ideal) S_ .f32 0x3F000000#32

/-- One line's value. -/
def t_v12 : FVec Ideal S200000 .f32 :=
  broadcastInDim S200000 ![] bcast_S_S200000 t_cst

/-- One line's value. -/
def t_v13 (xarg2 : FVec Ideal S200000x4 .f32) : FVec Ideal S200000 .f32 :=
  mulf t_v12 (t_v4 xarg2)

/-- One line's value. -/
def t_v14 (xarg2 : FVec Ideal S200000x4 .f32) : FVec Ideal S200000 .f32 :=
  addf (t_v11 xarg2) (t_v13 xarg2)

/-- One line's value. -/
def t_v15 (xarg2 : FVec Ideal S200000x4 .f32) : FVec Ideal S200000x1 .f32 :=
  (extractStridedSlice S200000x1 ![0, 1] · slices_S200000x4_S200000x1_0_1) xarg2

/-- One line's value. -/
def t_v16 (xarg2 : FVec Ideal S200000x4 .f32) : FVec Ideal S200000 .f32 :=
  shapeCast S200000 (t_v15 xarg2) shapeCasts_S200000x1_S200000

/-- One line's value. -/
def t_cst_0 : FVec Ideal S_ .f32 :=
  constant (F := Ideal) S_ .f32 0x3F000000#32

/-- One line's value. -/
def t_v17 : FVec Ideal S200000 .f32 :=
  broadcastInDim S200000 ![] bcast_S_S200000 t_cst_0

/-- One line's value. -/
def t_v18 (xarg2 : FVec Ideal S200000x4 .f32) : FVec Ideal S200000 .f32 :=
  mulf t_v17 (t_v9 xarg2)

/-- One line's value. -/
def t_v19 (xarg2 : FVec Ideal S200000x4 .f32) : FVec Ideal S200000 .f32 :=
  addf (t_v16 xarg2) (t_v18 xarg2)

/-- One line's value. -/
def t_v20 (xarg1 : FVec Ideal S2x200000x4 .f32) : FVec Ideal S2x200000x1 .f32 :=
  (extractStridedSlice S2x200000x1 ![0, 0, 0] · slices_S2x200000x4_S2x200000x1_0_0_0) xarg1

/-- One line's value. -/
def t_v21 (xarg1 : FVec Ideal S2x200000x4 .f32) : FVec Ideal S2x200000 .f32 :=
  shapeCast S2x200000 (t_v20 xarg1) shapeCasts_S2x200000x1_S2x200000

/-- One line's value. -/
def t_v22 (xarg1 : FVec Ideal S2x200000x4 .f32) : FVec Ideal S2x200000x1 .f32 :=
  (extractStridedSlice S2x200000x1 ![0, 0, 1] · slices_S2x200000x4_S2x200000x1_0_0_1) xarg1

/-- One line's value. -/
def t_v23 (xarg1 : FVec Ideal S2x200000x4 .f32) : FVec Ideal S2x200000 .f32 :=
  shapeCast S2x200000 (t_v22 xarg1) shapeCasts_S2x200000x1_S2x200000

/-- One line's value. -/
def t_v24 (xarg1 : FVec Ideal S2x200000x4 .f32) : FVec Ideal S2x200000x1 .f32 :=
  (extractStridedSlice S2x200000x1 ![0, 0, 2] · slices_S2x200000x4_S2x200000x1_0_0_2) xarg1

/-- One line's value. -/
def t_v25 (xarg1 : FVec Ideal S2x200000x4 .f32) : FVec Ideal S2x200000 .f32 :=
  shapeCast S2x200000 (t_v24 xarg1) shapeCasts_S2x200000x1_S2x200000

/-- One line's value. -/
def t_cst_1 : FVec Ideal S_ .f32 :=
  constant (F := Ideal) S_ .f32 0x40845349#32

/-- One line's value. -/
def t_v26 : FVec Ideal S2x200000 .f32 :=
  broadcastInDim S2x200000 ![] bcast_S_S2x200000 t_cst_1

/-- One line's value. -/
def t_v27 (xarg1 : FVec Ideal S2x200000x4 .f32) : FVec Ideal S2x200000 .f32 :=
  minimumf (t_v25 xarg1) t_v26

/-- One line's value. -/
def t_v28 (xarg1 : FVec Ideal S2x200000x4 .f32) : FVec Ideal S2x200000x1 .f32 :=
  (extractStridedSlice S2x200000x1 ![0, 0, 3] · slices_S2x200000x4_S2x200000x1_0_0_3) xarg1

/-- One line's value. -/
def t_v29 (xarg1 : FVec Ideal S2x200000x4 .f32) : FVec Ideal S2x200000 .f32 :=
  shapeCast S2x200000 (t_v28 xarg1) shapeCasts_S2x200000x1_S2x200000

/-- One line's value. -/
def t_cst_2 : FVec Ideal S_ .f32 :=
  constant (F := Ideal) S_ .f32 0x40845349#32

/-- One line's value. -/
def t_v30 : FVec Ideal S2x200000 .f32 :=
  broadcastInDim S2x200000 ![] bcast_S_S2x200000 t_cst_2

/-- One line's value. -/
def t_v31 (xarg1 : FVec Ideal S2x200000x4 .f32) : FVec Ideal S2x200000 .f32 :=
  minimumf (t_v29 xarg1) t_v30

/-- One line's value. -/
def t_v32 (xarg2 : FVec Ideal S200000x4 .f32) : FVec Ideal S1x200000 .f32 :=
  broadcastInDim S1x200000 ![1] bcast_S200000_S1x200000_1 (t_v4 xarg2)

/-- One line's value. -/
def t_v33 (xarg2 : FVec Ideal S200000x4 .f32) : FVec Ideal S2x200000 .f32 :=
  broadcastInDim S2x200000 ![0, 1] bcast_S1x200000_S2x200000_0_1 (t_v32 xarg2)

/-- One line's value. -/
def t_v34 (xarg1 : FVec Ideal S2x200000x4 .f32) (xarg2 : FVec Ideal S200000x4 .f32) : FVec Ideal S2x200000 .f32 :=
  mulf (t_v21 xarg1) (t_v33 xarg2)

/-- One line's value. -/
def t_v35 (xarg2 : FVec Ideal S200000x4 .f32) : FVec Ideal S1x200000 .f32 :=
  broadcastInDim S1x200000 ![1] bcast_S200000_S1x200000_1 (t_v14 xarg2)

/-- One line's value. -/
def t_v36 (xarg2 : FVec Ideal S200000x4 .f32) : FVec Ideal S2x200000 .f32 :=
  broadcastInDim S2x200000 ![0, 1] bcast_S1x200000_S2x200000_0_1 (t_v35 xarg2)

/-- One line's value. -/
def t_v37 (xarg1 : FVec Ideal S2x200000x4 .f32) (xarg2 : FVec Ideal S200000x4 .f32) : FVec Ideal S2x200000 .f32 :=
  addf (t_v34 xarg1 xarg2) (t_v36 xarg2)

/-- One line's value. -/
def t_v38 (xarg2 : FVec Ideal S200000x4 .f32) : FVec Ideal S1x200000 .f32 :=
  broadcastInDim S1x200000 ![1] bcast_S200000_S1x200000_1 (t_v9 xarg2)

/-- One line's value. -/
def t_v39 (xarg2 : FVec Ideal S200000x4 .f32) : FVec Ideal S2x200000 .f32 :=
  broadcastInDim S2x200000 ![0, 1] bcast_S1x200000_S2x200000_0_1 (t_v38 xarg2)

/-- One line's value. -/
def t_v40 (xarg1 : FVec Ideal S2x200000x4 .f32) (xarg2 : FVec Ideal S200000x4 .f32) : FVec Ideal S2x200000 .f32 :=
  mulf (t_v23 xarg1) (t_v39 xarg2)

/-- One line's value. -/
def t_v41 (xarg2 : FVec Ideal S200000x4 .f32) : FVec Ideal S1x200000 .f32 :=
  broadcastInDim S1x200000 ![1] bcast_S200000_S1x200000_1 (t_v19 xarg2)

/-- One line's value. -/
def t_v42 (xarg2 : FVec Ideal S200000x4 .f32) : FVec Ideal S2x200000 .f32 :=
  broadcastInDim S2x200000 ![0, 1] bcast_S1x200000_S2x200000_0_1 (t_v41 xarg2)

/-- One line's value. -/
def t_v43 (xarg1 : FVec Ideal S2x200000x4 .f32) (xarg2 : FVec Ideal S200000x4 .f32) : FVec Ideal S2x200000 .f32 :=
  addf (t_v40 xarg1 xarg2) (t_v42 xarg2)

/-- One line's value. -/
def t_v44 (xarg1 : FVec Ideal S2x200000x4 .f32) : FVec Ideal S2x200000 .f32 :=
  Host.exp (t_v27 xarg1)

/-- One line's value. -/
def t_v45 (xarg2 : FVec Ideal S200000x4 .f32) : FVec Ideal S1x200000 .f32 :=
  broadcastInDim S1x200000 ![1] bcast_S200000_S1x200000_1 (t_v4 xarg2)

/-- One line's value. -/
def t_v46 (xarg2 : FVec Ideal S200000x4 .f32) : FVec Ideal S2x200000 .f32 :=
  broadcastInDim S2x200000 ![0, 1] bcast_S1x200000_S2x200000_0_1 (t_v45 xarg2)

/-- One line's value. -/
def t_v47 (xarg1 : FVec Ideal S2x200000x4 .f32) (xarg2 : FVec Ideal S200000x4 .f32) : FVec Ideal S2x200000 .f32 :=
  mulf (t_v44 xarg1) (t_v46 xarg2)

/-- One line's value. -/
def t_v48 (xarg1 : FVec Ideal S2x200000x4 .f32) : FVec Ideal S2x200000 .f32 :=
  Host.exp (t_v31 xarg1)

/-- One line's value. -/
def t_v49 (xarg2 : FVec Ideal S200000x4 .f32) : FVec Ideal S1x200000 .f32 :=
  broadcastInDim S1x200000 ![1] bcast_S200000_S1x200000_1 (t_v9 xarg2)

/-- One line's value. -/
def t_v50 (xarg2 : FVec Ideal S200000x4 .f32) : FVec Ideal S2x200000 .f32 :=
  broadcastInDim S2x200000 ![0, 1] bcast_S1x200000_S2x200000_0_1 (t_v49 xarg2)

/-- One line's value. -/
def t_v51 (xarg1 : FVec Ideal S2x200000x4 .f32) (xarg2 : FVec Ideal S200000x4 .f32) : FVec Ideal S2x200000 .f32 :=
  mulf (t_v48 xarg1) (t_v50 xarg2)

/-- One line's value. -/
def t_cst_3 : FVec Ideal S_ .f32 :=
  constant (F := Ideal) S_ .f32 0x3F000000#32

/-- One line's value. -/
def t_v52 : FVec Ideal S2x200000 .f32 :=
  broadcastInDim S2x200000 ![] bcast_S_S2x200000 t_cst_3

/-- One line's value. -/
def t_v53 (xarg1 : FVec Ideal S2x200000x4 .f32) (xarg2 : FVec Ideal S200000x4 .f32) : FVec Ideal S2x200000 .f32 :=
  mulf t_v52 (t_v47 xarg1 xarg2)

/-- One line's value. -/
def t_v54 (xarg1 : FVec Ideal S2x200000x4 .f32) (xarg2 : FVec Ideal S200000x4 .f32) : FVec Ideal S2x200000 .f32 :=
  subf (t_v37 xarg1 xarg2) (t_v53 xarg1 xarg2)

/-- One line's value. -/
def t_cst_4 : FVec Ideal S_ .f32 :=
  constant (F := Ideal) S_ .f32 0x3F000000#32

/-- One line's value. -/
def t_v55 : FVec Ideal S2x200000 .f32 :=
  broadcastInDim S2x200000 ![] bcast_S_S2x200000 t_cst_4

/-- One line's value. -/
def t_v56 (xarg1 : FVec Ideal S2x200000x4 .f32) (xarg2 : FVec Ideal S200000x4 .f32) : FVec Ideal S2x200000 .f32 :=
  mulf t_v55 (t_v51 xarg1 xarg2)

/-- One line's value. -/
def t_v57 (xarg1 : FVec Ideal S2x200000x4 .f32) (xarg2 : FVec Ideal S200000x4 .f32) : FVec Ideal S2x200000 .f32 :=
  subf (t_v43 xarg1 xarg2) (t_v56 xarg1 xarg2)

/-- One line's value. -/
def t_cst_5 : FVec Ideal S_ .f32 :=
  constant (F := Ideal) S_ .f32 0x3F000000#32

/-- One line's value. -/
def t_v58 : FVec Ideal S2x200000 .f32 :=
  broadcastInDim S2x200000 ![] bcast_S_S2x200000 t_cst_5

/-- One line's value. -/
def t_v59 (xarg1 : FVec Ideal S2x200000x4 .f32) (xarg2 : FVec Ideal S200000x4 .f32) : FVec Ideal S2x200000 .f32 :=
  mulf t_v58 (t_v47 xarg1 xarg2)

/-- One line's value. -/
def t_v60 (xarg1 : FVec Ideal S2x200000x4 .f32) (xarg2 : FVec Ideal S200000x4 .f32) : FVec Ideal S2x200000 .f32 :=
  addf (t_v37 xarg1 xarg2) (t_v59 xarg1 xarg2)

/-- One line's value. -/
def t_cst_6 : FVec Ideal S_ .f32 :=
  constant (F := Ideal) S_ .f32 0x3F000000#32

/-- One line's value. -/
def t_v61 : FVec Ideal S2x200000 .f32 :=
  broadcastInDim S2x200000 ![] bcast_S_S2x200000 t_cst_6

/-- One line's value. -/
def t_v62 (xarg1 : FVec Ideal S2x200000x4 .f32) (xarg2 : FVec Ideal S200000x4 .f32) : FVec Ideal S2x200000 .f32 :=
  mulf t_v61 (t_v51 xarg1 xarg2)

/-- One line's value. -/
def t_v63 (xarg1 : FVec Ideal S2x200000x4 .f32) (xarg2 : FVec Ideal S200000x4 .f32) : FVec Ideal S2x200000 .f32 :=
  addf (t_v43 xarg1 xarg2) (t_v62 xarg1 xarg2)

/-- One line's value. -/
def t_v64 (xarg1 : FVec Ideal S2x200000x4 .f32) (xarg2 : FVec Ideal S200000x4 .f32) : FVec Ideal S2x200000x1 .f32 :=
  broadcastInDim S2x200000x1 ![0, 1] bcast_S2x200000_S2x200000x1_0_1 (t_v54 xarg1 xarg2)

/-- One line's value. -/
def t_v65 (xarg1 : FVec Ideal S2x200000x4 .f32) (xarg2 : FVec Ideal S200000x4 .f32) : FVec Ideal S2x200000x1 .f32 :=
  broadcastInDim S2x200000x1 ![0, 1] bcast_S2x200000_S2x200000x1_0_1 (t_v57 xarg1 xarg2)

/-- One line's value. -/
def t_v66 (xarg1 : FVec Ideal S2x200000x4 .f32) (xarg2 : FVec Ideal S200000x4 .f32) : FVec Ideal S2x200000x1 .f32 :=
  broadcastInDim S2x200000x1 ![0, 1] bcast_S2x200000_S2x200000x1_0_1 (t_v60 xarg1 xarg2)

/-- One line's value. -/
def t_v67 (xarg1 : FVec Ideal S2x200000x4 .f32) (xarg2 : FVec Ideal S200000x4 .f32) : FVec Ideal S2x200000x1 .f32 :=
  broadcastInDim S2x200000x1 ![0, 1] bcast_S2x200000_S2x200000x1_0_1 (t_v63 xarg1 xarg2)

/-- One line's value. -/
def t_v68 (xarg1 : FVec Ideal S2x200000x4 .f32) (xarg2 : FVec Ideal S200000x4 .f32) : FVec Ideal S2x200000x4 .f32 :=
  (fun u0 u1 u2 u3 => concatenate S2x200000x4 2 [⟨S2x200000x1, u0⟩, ⟨S2x200000x1, u1⟩, ⟨S2x200000x1, u2⟩, ⟨S2x200000x1, u3⟩] concatenates_S2x200000x1_S2x200000x1_S2x200000x1_S2x200000x1_S2x200000x4_d2) (t_v64 xarg1 xarg2) (t_v65 xarg1 xarg2) (t_v66 xarg1 xarg2) (t_v67 xarg1 xarg2)

/-- One line's value. -/
def t_c : IVec S_ 32 :=
  constantI S_ 32 0#32

/-- One line's value. -/
def t_v69 : IVec S160000 32 :=
  broadcastInDim S160000 ![] bcast_S_S160000 t_c

/-- One line's value. -/
def t_c_7 : IVec S_ 32 :=
  constantI S_ 32 1#32

/-- One line's value. -/
def t_v70 : IVec S40000 32 :=
  broadcastInDim S40000 ![] bcast_S_S40000 t_c_7

/-- One line's value. -/
def t_v71 : IVec S200000 32 :=
  (fun a b => concatenate S200000 0 [⟨S160000, a⟩, ⟨S40000, b⟩] concatenates_S160000_S40000_S200000_d0) t_v69 t_v70

/-- One line's value. -/
def t_v72 : IVec S2 32 :=
  iotaInDim S2 32 0

/-- One line's value. -/
def t_v73 : IVec S2x1 32 :=
  broadcastInDim S2x1 ![0] bcast_S2_S2x1_0 t_v72

/-- One line's value. -/
def t_c_8 : IVec S_ 32 :=
  constantI S_ 32 0#32

/-- One line's value. -/
def t_v74 : IVec S2x1 32 :=
  broadcastInDim S2x1 ![] bcast_S_S2x1 t_c_8

/-- One line's value. -/
def t_v75 : IVec S2x1 1 :=
  cmpi .slt t_v73 t_v74

/-- One line's value. -/
def t_c_9 : IVec S_ 32 :=
  constantI S_ 32 2#32

/-- One line's value. -/
def t_v76 : IVec S2x1 32 :=
  broadcastInDim S2x1 ![] bcast_S_S2x1 t_c_9

/-- One line's value. -/
def t_v77 : IVec S2x1 32 :=
  addi t_v73 t_v76

/-- One line's value. -/
def t_v78 : IVec S2x1 32 :=
  select t_v75 t_v77 t_v73

/-- One line's value. -/
def t_c_10 : IVec S_ 32 :=
  constantI S_ 32 0#32

/-- One line's value. -/
def t_v79 : IVec S2x2000 32 :=
  broadcastInDim S2x2000 ![] bcast_S_S2x2000 t_c_10

/-- One line's value. -/
def t_v80 (xarg3 : IVec S2x2000 32) : IVec S2x2000 1 :=
  cmpi .slt xarg3 t_v79

/-- One line's value. -/
def t_c_11 : IVec S_ 32 :=
  constantI S_ 32 200000#32

/-- One line's value. -/
def t_v81 : IVec S2x2000 32 :=
  broadcastInDim S2x2000 ![] bcast_S_S2x2000 t_c_11

/-- One line's value. -/
def t_v82 (xarg3 : IVec S2x2000 32) : IVec S2x2000 32 :=
  addi xarg3 t_v81

/-- One line's value. -/
def t_v83 (xarg3 : IVec S2x2000 32) : IVec S2x2000 32 :=
  select (t_v80 xarg3) (t_v82 xarg3) xarg3

/-- One line's value. -/
def t_v84 : IVec S2x2000 32 :=
  broadcastInDim S2x2000 ![0, 1] bcast_S2x1_S2x2000_0_1 t_v78

/-- One line's value. -/
def t_v85 : IVec S2x2000x1 32 :=
  broadcastInDim S2x2000x1 ![0, 1] bcast_S2x2000_S2x2000x1_0_1 t_v84

/-- One line's value. -/
def t_v86 (xarg3 : IVec S2x2000 32) : IVec S2x2000x1 32 :=
  broadcastInDim S2x2000x1 ![0, 1] bcast_S2x2000_S2x2000x1_0_1 (t_v83 xarg3)

/-- One line's value. -/
def t_v87 (xarg3 : IVec S2x2000 32) : IVec S2x2000x2 32 :=
  (fun a b => concatenate S2x2000x2 2 [⟨S2x2000x1, a⟩, ⟨S2x2000x1, b⟩] concatenates_S2x2000x1_S2x2000x1_S2x2000x2_d2) t_v85 (t_v86 xarg3)

/-- One line's value. -/
def t_v88 (xarg0 : FVec Ideal S2x200000 .f32) (xarg3 : IVec S2x2000 32) : FVec Ideal S2x2000 .f32 :=
  (fun x i => Host.gather gather_S2x200000_S2x2000x2_S2x2000_n_01_n_n_01_2_11 x i) xarg0 (t_v87 xarg3)

/-- One line's value. -/
def t_c_12 : IVec S_ 32 :=
  constantI S_ 32 0#32

/-- One line's value. -/
def t_v89 : IVec S2x2000 32 :=
  broadcastInDim S2x2000 ![] bcast_S_S2x2000 t_c_12

/-- One line's value. -/
def t_v90 (xarg3 : IVec S2x2000 32) : IVec S2x2000 1 :=
  cmpi .slt xarg3 t_v89

/-- One line's value. -/
def t_c_13 : IVec S_ 32 :=
  constantI S_ 32 200000#32

/-- One line's value. -/
def t_v91 : IVec S2x2000 32 :=
  broadcastInDim S2x2000 ![] bcast_S_S2x2000 t_c_13

/-- One line's value. -/
def t_v92 (xarg3 : IVec S2x2000 32) : IVec S2x2000 32 :=
  addi xarg3 t_v91

/-- One line's value. -/
def t_v93 (xarg3 : IVec S2x2000 32) : IVec S2x2000 32 :=
  select (t_v90 xarg3) (t_v92 xarg3) xarg3

/-- One line's value. -/
def t_v94 (xarg3 : IVec S2x2000 32) : IVec S2x2000x1 32 :=
  broadcastInDim S2x2000x1 ![0, 1] bcast_S2x2000_S2x2000x1_0_1 (t_v93 xarg3)

/-- One line's value. -/
def t_v95 (xarg3 : IVec S2x2000 32) : IVec S2x2000 32 :=
  (fun x i => Host.gather gather_S200000_S2x2000x1_S2x2000_n_0_n_n_0_2_1 x i) t_v71 (t_v94 xarg3)

/-- One line's value. -/
def t_c_14 : IVec S_ 32 :=
  constantI S_ 32 0#32

/-- One line's value. -/
def t_v96 : IVec S2x1 32 :=
  broadcastInDim S2x1 ![] bcast_S_S2x1 t_c_14

/-- One line's value. -/
def t_v97 : IVec S2x1 1 :=
  cmpi .slt t_v73 t_v96

/-- One line's value. -/
def t_c_15 : IVec S_ 32 :=
  constantI S_ 32 2#32

/-- One line's value. -/
def t_v98 : IVec S2x1 32 :=
  broadcastInDim S2x1 ![] bcast_S_S2x1 t_c_15

/-- One line's value. -/
def t_v99 : IVec S2x1 32 :=
  addi t_v73 t_v98

/-- One line's value. -/
def t_v100 : IVec S2x1 32 :=
  select t_v97 t_v99 t_v73

/-- One line's value. -/
def t_c_16 : IVec S_ 32 :=
  constantI S_ 32 0#32

/-- One line's value. -/
def t_v101 : IVec S2x2000 32 :=
  broadcastInDim S2x2000 ![] bcast_S_S2x2000 t_c_16

/-- One line's value. -/
def t_v102 (xarg3 : IVec S2x2000 32) : IVec S2x2000 1 :=
  cmpi .slt xarg3 t_v101

/-- One line's value. -/
def t_c_17 : IVec S_ 32 :=
  constantI S_ 32 200000#32

/-- One line's value. -/
def t_v103 : IVec S2x2000 32 :=
  broadcastInDim S2x2000 ![] bcast_S_S2x2000 t_c_17

/-- One line's value. -/
def t_v104 (xarg3 : IVec S2x2000 32) : IVec S2x2000 32 :=
  addi xarg3 t_v103

/-- One line's value. -/
def t_v105 (xarg3 : IVec S2x2000 32) : IVec S2x2000 32 :=
  select (t_v102 xarg3) (t_v104 xarg3) xarg3

/-- One line's value. -/
def t_v106 : IVec S2x2000 32 :=
  broadcastInDim S2x2000 ![0, 1] bcast_S2x1_S2x2000_0_1 t_v100

/-- One line's value. -/
def t_v107 : IVec S2x2000x1 32 :=
  broadcastInDim S2x2000x1 ![0, 1] bcast_S2x2000_S2x2000x1_0_1 t_v106

/-- One line's value. -/
def t_v108 (xarg3 : IVec S2x2000 32) : IVec S2x2000x1 32 :=
  broadcastInDim S2x2000x1 ![0, 1] bcast_S2x2000_S2x2000x1_0_1 (t_v105 xarg3)

/-- One line's value. -/
def t_v109 (xarg3 : IVec S2x2000 32) : IVec S2x2000x2 32 :=
  (fun a b => concatenate S2x2000x2 2 [⟨S2x2000x1, a⟩, ⟨S2x2000x1, b⟩] concatenates_S2x2000x1_S2x2000x1_S2x2000x2_d2) t_v107 (t_v108 xarg3)

/-- One line's value. -/
def t_v110 (xarg1 : FVec Ideal S2x200000x4 .f32) (xarg2 : FVec Ideal S200000x4 .f32) (xarg3 : IVec S2x2000 32) : FVec Ideal S2x2000x4 .f32 :=
  (fun x i => Host.gather gather_S2x200000x4_S2x2000x2_S2x2000x4_2_01_n_n_01_2_114 x i) (t_v68 xarg1 xarg2) (t_v109 xarg3)

/-- One line's value. -/
def t_v111 (xarg0 : FVec Ideal S2x200000 .f32) (xarg3 : IVec S2x2000 32) : FVec Ideal S2x2000 .f32 :=
  Host.negf (t_v88 xarg0 xarg3)

/-- One line's value. -/
def t_v112 (xarg0 : FVec Ideal S2x200000 .f32) (xarg3 : IVec S2x2000 32) : FVec Ideal S2x2000 .f32 :=
  Host.exp (t_v111 xarg0 xarg3)

/-- One line's value. -/
def t_cst_18 : FVec Ideal S_ .f32 :=
  constant (F := Ideal) S_ .f32 0x3F800000#32

/-- One line's value. -/
def t_v113 : FVec Ideal S2x2000 .f32 :=
  broadcastInDim S2x2000 ![] bcast_S_S2x2000 t_cst_18

/-- One line's value. -/
def t_v114 (xarg0 : FVec Ideal S2x200000 .f32) (xarg3 : IVec S2x2000 32) : FVec Ideal S2x2000 .f32 :=
  addf t_v113 (t_v112 xarg0 xarg3)

/-- One line's value. -/
def t_cst_19 : FVec Ideal S_ .f32 :=
  constant (F := Ideal) S_ .f32 0x3F800000#32

/-- One line's value. -/
def t_v115 : FVec Ideal S2x2000 .f32 :=
  broadcastInDim S2x2000 ![] bcast_S_S2x2000 t_cst_19

/-- One line's value. -/
def t_v116 (xarg0 : FVec Ideal S2x200000 .f32) (xarg3 : IVec S2x2000 32) : FVec Ideal S2x2000 .f32 :=
  Host.divf t_v115 (t_v114 xarg0 xarg3)

/-- One line's value. -/
def t_v117 (xarg1 : FVec Ideal S2x200000x4 .f32) (xarg2 : FVec Ideal S200000x4 .f32) (xarg3 : IVec S2x2000 32) : FVec Ideal S2x2000x1 .f32 :=
  (extractStridedSlice S2x2000x1 ![0, 0, 0] · slices_S2x2000x4_S2x2000x1_0_0_0) (t_v110 xarg1 xarg2 xarg3)

/-- One line's value. -/
def t_v118 (xarg1 : FVec Ideal S2x200000x4 .f32) (xarg2 : FVec Ideal S200000x4 .f32) (xarg3 : IVec S2x2000 32) : FVec Ideal S2x2000 .f32 :=
  shapeCast S2x2000 (t_v117 xarg1 xarg2 xarg3) shapeCasts_S2x2000x1_S2x2000

/-- One line's value. -/
def t_cst_20 : FVec Ideal S_ .f32 :=
  constant (F := Ideal) S_ .f32 0x00000000#32

/-- One line's value. -/
def t_cst_21 : FVec Ideal S_ .f32 :=
  constant (F := Ideal) S_ .f32 0x44480000#32

/-- What the stretch leaves in `main_v102`. -/
theorem read_v95 (V : Valuation τ sig (Elt Ideal)) :
    StableHlo.after hostOps0 V (Proc.devRef .tc main_v102) = t_v95 (topI (V (Proc.devRef .tc main_arg0))) := by
  after_reads_simp
  rfl

/-- What the stretch leaves in `main_v117`. -/
theorem read_v110 (V : Valuation τ sig (Elt Ideal)) :
    StableHlo.after hostOps0 V (Proc.devRef .tc main_v117) = t_v110 (V (Proc.devRef .tc main_arg1)) (V (Proc.devRef .tc main_arg2)) (topI (V (Proc.devRef .tc main_arg0))) := by
  after_reads_simp
  rfl

/-- What the stretch leaves in `main_v123`. -/
theorem read_v116 (V : Valuation τ sig (Elt Ideal)) :
    StableHlo.after hostOps0 V (Proc.devRef .tc main_v123) = t_v116 (V (Proc.devRef .tc main_arg0)) (topI (V (Proc.devRef .tc main_arg0))) := by
  after_reads_simp
  rfl

/-- What the stretch leaves in `main_v125`. -/
theorem read_v118 (V : Valuation τ sig (Elt Ideal)) :
    StableHlo.after hostOps0 V (Proc.devRef .tc main_v125) = t_v118 (V (Proc.devRef .tc main_arg1)) (V (Proc.devRef .tc main_arg2)) (topI (V (Proc.devRef .tc main_arg0))) := by
  after_reads_simp
  rfl

/-- What the stretch leaves in `main_cst_24`. -/
theorem read_cst_20 (V : Valuation τ sig (Elt Ideal)) :
    StableHlo.after hostOps0 V (Proc.devRef .tc main_cst_24) = t_cst_20  := by
  after_reads_simp
  rfl

/-- What the stretch leaves in `main_cst_25`. -/
theorem read_cst_21 (V : Valuation τ sig (Elt Ideal)) :
    StableHlo.after hostOps0 V (Proc.devRef .tc main_cst_25) = t_cst_21  := by
  after_reads_simp
  rfl

/-- What `hostOps0` writes. -/
abbrev t_W_hostOps0 : List (Ref sig .tc) := [main_v0, main_v1, main_v2, main_v3, main_v4, main_v5, main_v6, main_v7, main_v8, main_v9, main_v10, main_v11, main_cst, main_v12, main_v13, main_v14, main_v15, main_v16, main_cst_0, main_v17, main_v18, main_v19, main_v20, main_v21, main_v22, main_v23, main_v24, main_v25, main_cst_1, main_v26, main_v27, main_v28, main_v29, main_cst_2, main_v30, main_v31, main_v32, main_v33, main_v34, main_v35, main_v36, main_v37, main_v38, main_v39, main_v40, main_v41, main_v42, main_v43, main_v44, main_v45, main_v46, main_v47, main_v48, main_v49, main_v50, main_v51, main_cst_3, main_v52, main_v53, main_v54, main_cst_4, main_v55, main_v56, main_v57, main_cst_5, main_v58, main_v59, main_v60, main_cst_6, main_v61, main_v62, main_v63, main_v64, main_v65, main_v66, main_v67, main_v68, main_c, main_v69, main_c_7, main_v70, main_v71, main_v72, main_values, main_indices, main_c_8, main_v73, main_v74, main_v75, main_values_9, main_indices_10, main_c_11, main_v76, main_v77, main_v78, main_v79, main_v80, main_c_12, main_v81, main_v82, main_c_13, main_v83, main_v84, main_v85, main_c_14, main_v86, main_v87, main_c_15, main_v88, main_v89, main_v90, main_v91, main_v92, main_v93, main_v94, main_v95, main_c_16, main_v96, main_v97, main_c_17, main_v98, main_v99, main_v100, main_v101, main_v102, main_c_18, main_v103, main_v104, main_c_19, main_v105, main_v106, main_v107, main_c_20, main_v108, main_v109, main_c_21, main_v110, main_v111, main_v112, main_v113, main_v114, main_v115, main_v116, main_v117, main_v118, main_v119, main_cst_22, main_v120, main_v121, main_cst_23, main_v122, main_v123, main_v124, main_v125, main_cst_24, main_cst_25]

/-- One line's value. -/
def t_call0_v0 (xcst_20 : FVec Ideal S_ .f32) : FVec Ideal S_ .f32 :=
  id xcst_20

/-- One line's value. -/
def t_call0_v1 (xcst_20 : FVec Ideal S_ .f32) : FVec Ideal S2x2000 .f32 :=
  (broadcastInDim S2x2000 ![] bcast_S_S2x2000) (t_call0_v0 xcst_20)

/-- One line's value. -/
def t_call0_v2 (xcst_20 : FVec Ideal S_ .f32) (xv118 : FVec Ideal S2x2000 .f32) : FVec Ideal S2x2000 .f32 :=
  maximumf (t_call0_v1 xcst_20) xv118

/-- One line's value. -/
def t_call0_v3 (xcst_21 : FVec Ideal S_ .f32) : FVec Ideal S_ .f32 :=
  id xcst_21

/-- One line's value. -/
def t_call0_v4 (xcst_21 : FVec Ideal S_ .f32) : FVec Ideal S2x2000 .f32 :=
  (broadcastInDim S2x2000 ![] bcast_S_S2x2000) (t_call0_v3 xcst_21)

/-- One line's value. -/
def t_v119 (xcst_21 : FVec Ideal S_ .f32) (xcst_20 : FVec Ideal S_ .f32) (xv118 : FVec Ideal S2x2000 .f32) : FVec Ideal S2x2000 .f32 :=
  minimumf (t_call0_v4 xcst_21) (t_call0_v2 xcst_20 xv118)

/-- What the stretch leaves in `main_v126`. -/
theorem read_v119 (V : Valuation τ sig (Elt Ideal)) :
    StableHlo.after hostOps0_1 V (Proc.devRef .tc main_v126) = t_v119 (V (Proc.devRef .tc main_cst_25)) (V (Proc.devRef .tc main_cst_24)) (V (Proc.devRef .tc main_v125)) := by
  after_reads_simp
  rfl

/-- What `hostOps0_1` writes. -/
abbrev t_W_hostOps0_1 : List (Ref sig .tc) := [main_call0_v0, main_call0_v1, main_call0_v2, main_call0_v3, main_call0_v4, main_v126]

/-- It leaves the other buffers. -/
theorem keep_hostOps0_1 (V : Valuation τ sig (Elt Ideal)) (r : Ref sig .tc) (h : r ∉ t_W_hostOps0_1) :
    StableHlo.after hostOps0_1 V (Proc.devRef .tc r) = V (Proc.devRef .tc r) :=
  StableHlo.after_of_writes_sub _ V (StableHlo.forall_writes_sub_of_map rfl) h

/-- One line's value. -/
def t_v120 (xv110 : FVec Ideal S2x2000x4 .f32) : FVec Ideal S2x2000x1 .f32 :=
  (extractStridedSlice S2x2000x1 ![0, 0, 1] · slices_S2x2000x4_S2x2000x1_0_0_1) xv110

/-- One line's value. -/
def t_v121 (xv110 : FVec Ideal S2x2000x4 .f32) : FVec Ideal S2x2000 .f32 :=
  shapeCast S2x2000 (t_v120 xv110) shapeCasts_S2x2000x1_S2x2000

/-- One line's value. -/
def t_cst_22 : FVec Ideal S_ .f32 :=
  constant (F := Ideal) S_ .f32 0x00000000#32

/-- One line's value. -/
def t_cst_23 : FVec Ideal S_ .f32 :=
  constant (F := Ideal) S_ .f32 0x44480000#32

/-- What the stretch leaves in `main_v128`. -/
theorem read_v121 (V : Valuation τ sig (Elt Ideal)) :
    StableHlo.after hostOps0_2 V (Proc.devRef .tc main_v128) = t_v121 (V (Proc.devRef .tc main_v117)) := by
  after_reads_simp
  rfl

/-- What the stretch leaves in `main_cst_26`. -/
theorem read_cst_22 (V : Valuation τ sig (Elt Ideal)) :
    StableHlo.after hostOps0_2 V (Proc.devRef .tc main_cst_26) = t_cst_22  := by
  after_reads_simp
  rfl

/-- What the stretch leaves in `main_cst_27`. -/
theorem read_cst_23 (V : Valuation τ sig (Elt Ideal)) :
    StableHlo.after hostOps0_2 V (Proc.devRef .tc main_cst_27) = t_cst_23  := by
  after_reads_simp
  rfl

/-- What `hostOps0_2` writes. -/
abbrev t_W_hostOps0_2 : List (Ref sig .tc) := [main_v127, main_v128, main_cst_26, main_cst_27]

/-- It leaves the other buffers. -/
theorem keep_hostOps0_2 (V : Valuation τ sig (Elt Ideal)) (r : Ref sig .tc) (h : r ∉ t_W_hostOps0_2) :
    StableHlo.after hostOps0_2 V (Proc.devRef .tc r) = V (Proc.devRef .tc r) :=
  StableHlo.after_of_writes_sub _ V (StableHlo.forall_writes_sub_of_map rfl) h

/-- One line's value. -/
def t_call1_v0 (xcst_22 : FVec Ideal S_ .f32) : FVec Ideal S_ .f32 :=
  id xcst_22

/-- One line's value. -/
def t_call1_v1 (xcst_22 : FVec Ideal S_ .f32) : FVec Ideal S2x2000 .f32 :=
  (broadcastInDim S2x2000 ![] bcast_S_S2x2000) (t_call1_v0 xcst_22)

/-- One line's value. -/
def t_call1_v2 (xcst_22 : FVec Ideal S_ .f32) (xv121 : FVec Ideal S2x2000 .f32) : FVec Ideal S2x2000 .f32 :=
  maximumf (t_call1_v1 xcst_22) xv121

/-- One line's value. -/
def t_call1_v3 (xcst_23 : FVec Ideal S_ .f32) : FVec Ideal S_ .f32 :=
  id xcst_23

/-- One line's value. -/
def t_call1_v4 (xcst_23 : FVec Ideal S_ .f32) : FVec Ideal S2x2000 .f32 :=
  (broadcastInDim S2x2000 ![] bcast_S_S2x2000) (t_call1_v3 xcst_23)

/-- One line's value. -/
def t_v122 (xcst_23 : FVec Ideal S_ .f32) (xcst_22 : FVec Ideal S_ .f32) (xv121 : FVec Ideal S2x2000 .f32) : FVec Ideal S2x2000 .f32 :=
  minimumf (t_call1_v4 xcst_23) (t_call1_v2 xcst_22 xv121)

/-- What the stretch leaves in `main_v129`. -/
theorem read_v122 (V : Valuation τ sig (Elt Ideal)) :
    StableHlo.after hostOps0_3 V (Proc.devRef .tc main_v129) = t_v122 (V (Proc.devRef .tc main_cst_27)) (V (Proc.devRef .tc main_cst_26)) (V (Proc.devRef .tc main_v128)) := by
  after_reads_simp
  rfl

/-- What `hostOps0_3` writes. -/
abbrev t_W_hostOps0_3 : List (Ref sig .tc) := [main_call1_v0, main_call1_v1, main_call1_v2, main_call1_v3, main_call1_v4, main_v129]

/-- It leaves the other buffers. -/
theorem keep_hostOps0_3 (V : Valuation τ sig (Elt Ideal)) (r : Ref sig .tc) (h : r ∉ t_W_hostOps0_3) :
    StableHlo.after hostOps0_3 V (Proc.devRef .tc r) = V (Proc.devRef .tc r) :=
  StableHlo.after_of_writes_sub _ V (StableHlo.forall_writes_sub_of_map rfl) h

/-- One line's value. -/
def t_v123 (xv110 : FVec Ideal S2x2000x4 .f32) : FVec Ideal S2x2000x1 .f32 :=
  (extractStridedSlice S2x2000x1 ![0, 0, 2] · slices_S2x2000x4_S2x2000x1_0_0_2) xv110

/-- One line's value. -/
def t_v124 (xv110 : FVec Ideal S2x2000x4 .f32) : FVec Ideal S2x2000 .f32 :=
  shapeCast S2x2000 (t_v123 xv110) shapeCasts_S2x2000x1_S2x2000

/-- One line's value. -/
def t_cst_24 : FVec Ideal S_ .f32 :=
  constant (F := Ideal) S_ .f32 0x00000000#32

/-- One line's value. -/
def t_cst_25 : FVec Ideal S_ .f32 :=
  constant (F := Ideal) S_ .f32 0x44480000#32

/-- What the stretch leaves in `main_v131`. -/
theorem read_v124 (V : Valuation τ sig (Elt Ideal)) :
    StableHlo.after hostOps0_4 V (Proc.devRef .tc main_v131) = t_v124 (V (Proc.devRef .tc main_v117)) := by
  after_reads_simp
  rfl

/-- What the stretch leaves in `main_cst_28`. -/
theorem read_cst_24 (V : Valuation τ sig (Elt Ideal)) :
    StableHlo.after hostOps0_4 V (Proc.devRef .tc main_cst_28) = t_cst_24  := by
  after_reads_simp
  rfl

/-- What the stretch leaves in `main_cst_29`. -/
theorem read_cst_25 (V : Valuation τ sig (Elt Ideal)) :
    StableHlo.after hostOps0_4 V (Proc.devRef .tc main_cst_29) = t_cst_25  := by
  after_reads_simp
  rfl

/-- What `hostOps0_4` writes. -/
abbrev t_W_hostOps0_4 : List (Ref sig .tc) := [main_v130, main_v131, main_cst_28, main_cst_29]

/-- It leaves the other buffers. -/
theorem keep_hostOps0_4 (V : Valuation τ sig (Elt Ideal)) (r : Ref sig .tc) (h : r ∉ t_W_hostOps0_4) :
    StableHlo.after hostOps0_4 V (Proc.devRef .tc r) = V (Proc.devRef .tc r) :=
  StableHlo.after_of_writes_sub _ V (StableHlo.forall_writes_sub_of_map rfl) h

/-- One line's value. -/
def t_call2_v0 (xcst_24 : FVec Ideal S_ .f32) : FVec Ideal S_ .f32 :=
  id xcst_24

/-- One line's value. -/
def t_call2_v1 (xcst_24 : FVec Ideal S_ .f32) : FVec Ideal S2x2000 .f32 :=
  (broadcastInDim S2x2000 ![] bcast_S_S2x2000) (t_call2_v0 xcst_24)

/-- One line's value. -/
def t_call2_v2 (xcst_24 : FVec Ideal S_ .f32) (xv124 : FVec Ideal S2x2000 .f32) : FVec Ideal S2x2000 .f32 :=
  maximumf (t_call2_v1 xcst_24) xv124

/-- One line's value. -/
def t_call2_v3 (xcst_25 : FVec Ideal S_ .f32) : FVec Ideal S_ .f32 :=
  id xcst_25

/-- One line's value. -/
def t_call2_v4 (xcst_25 : FVec Ideal S_ .f32) : FVec Ideal S2x2000 .f32 :=
  (broadcastInDim S2x2000 ![] bcast_S_S2x2000) (t_call2_v3 xcst_25)

/-- One line's value. -/
def t_v125 (xcst_25 : FVec Ideal S_ .f32) (xcst_24 : FVec Ideal S_ .f32) (xv124 : FVec Ideal S2x2000 .f32) : FVec Ideal S2x2000 .f32 :=
  minimumf (t_call2_v4 xcst_25) (t_call2_v2 xcst_24 xv124)

/-- What the stretch leaves in `main_v132`. -/
theorem read_v125 (V : Valuation τ sig (Elt Ideal)) :
    StableHlo.after hostOps0_5 V (Proc.devRef .tc main_v132) = t_v125 (V (Proc.devRef .tc main_cst_29)) (V (Proc.devRef .tc main_cst_28)) (V (Proc.devRef .tc main_v131)) := by
  after_reads_simp
  rfl

/-- What `hostOps0_5` writes. -/
abbrev t_W_hostOps0_5 : List (Ref sig .tc) := [main_call2_v0, main_call2_v1, main_call2_v2, main_call2_v3, main_call2_v4, main_v132]

/-- It leaves the other buffers. -/
theorem keep_hostOps0_5 (V : Valuation τ sig (Elt Ideal)) (r : Ref sig .tc) (h : r ∉ t_W_hostOps0_5) :
    StableHlo.after hostOps0_5 V (Proc.devRef .tc r) = V (Proc.devRef .tc r) :=
  StableHlo.after_of_writes_sub _ V (StableHlo.forall_writes_sub_of_map rfl) h

/-- One line's value. -/
def t_v126 (xv110 : FVec Ideal S2x2000x4 .f32) : FVec Ideal S2x2000x1 .f32 :=
  (extractStridedSlice S2x2000x1 ![0, 0, 3] · slices_S2x2000x4_S2x2000x1_0_0_3) xv110

/-- One line's value. -/
def t_v127 (xv110 : FVec Ideal S2x2000x4 .f32) : FVec Ideal S2x2000 .f32 :=
  shapeCast S2x2000 (t_v126 xv110) shapeCasts_S2x2000x1_S2x2000

/-- One line's value. -/
def t_cst_26 : FVec Ideal S_ .f32 :=
  constant (F := Ideal) S_ .f32 0x00000000#32

/-- One line's value. -/
def t_cst_27 : FVec Ideal S_ .f32 :=
  constant (F := Ideal) S_ .f32 0x44480000#32

/-- What the stretch leaves in `main_v134`. -/
theorem read_v127 (V : Valuation τ sig (Elt Ideal)) :
    StableHlo.after hostOps0_6 V (Proc.devRef .tc main_v134) = t_v127 (V (Proc.devRef .tc main_v117)) := by
  after_reads_simp
  rfl

/-- What the stretch leaves in `main_cst_30`. -/
theorem read_cst_26 (V : Valuation τ sig (Elt Ideal)) :
    StableHlo.after hostOps0_6 V (Proc.devRef .tc main_cst_30) = t_cst_26  := by
  after_reads_simp
  rfl

/-- What the stretch leaves in `main_cst_31`. -/
theorem read_cst_27 (V : Valuation τ sig (Elt Ideal)) :
    StableHlo.after hostOps0_6 V (Proc.devRef .tc main_cst_31) = t_cst_27  := by
  after_reads_simp
  rfl

/-- What `hostOps0_6` writes. -/
abbrev t_W_hostOps0_6 : List (Ref sig .tc) := [main_v133, main_v134, main_cst_30, main_cst_31]

/-- It leaves the other buffers. -/
theorem keep_hostOps0_6 (V : Valuation τ sig (Elt Ideal)) (r : Ref sig .tc) (h : r ∉ t_W_hostOps0_6) :
    StableHlo.after hostOps0_6 V (Proc.devRef .tc r) = V (Proc.devRef .tc r) :=
  StableHlo.after_of_writes_sub _ V (StableHlo.forall_writes_sub_of_map rfl) h

/-- One line's value. -/
def t_call3_v0 (xcst_26 : FVec Ideal S_ .f32) : FVec Ideal S_ .f32 :=
  id xcst_26

/-- One line's value. -/
def t_call3_v1 (xcst_26 : FVec Ideal S_ .f32) : FVec Ideal S2x2000 .f32 :=
  (broadcastInDim S2x2000 ![] bcast_S_S2x2000) (t_call3_v0 xcst_26)

/-- One line's value. -/
def t_call3_v2 (xcst_26 : FVec Ideal S_ .f32) (xv127 : FVec Ideal S2x2000 .f32) : FVec Ideal S2x2000 .f32 :=
  maximumf (t_call3_v1 xcst_26) xv127

/-- One line's value. -/
def t_call3_v3 (xcst_27 : FVec Ideal S_ .f32) : FVec Ideal S_ .f32 :=
  id xcst_27

/-- One line's value. -/
def t_call3_v4 (xcst_27 : FVec Ideal S_ .f32) : FVec Ideal S2x2000 .f32 :=
  (broadcastInDim S2x2000 ![] bcast_S_S2x2000) (t_call3_v3 xcst_27)

/-- One line's value. -/
def t_v128 (xcst_27 : FVec Ideal S_ .f32) (xcst_26 : FVec Ideal S_ .f32) (xv127 : FVec Ideal S2x2000 .f32) : FVec Ideal S2x2000 .f32 :=
  minimumf (t_call3_v4 xcst_27) (t_call3_v2 xcst_26 xv127)

/-- What the stretch leaves in `main_v135`. -/
theorem read_v128 (V : Valuation τ sig (Elt Ideal)) :
    StableHlo.after hostOps0_7 V (Proc.devRef .tc main_v135) = t_v128 (V (Proc.devRef .tc main_cst_31)) (V (Proc.devRef .tc main_cst_30)) (V (Proc.devRef .tc main_v134)) := by
  after_reads_simp
  rfl

/-- What `hostOps0_7` writes. -/
abbrev t_W_hostOps0_7 : List (Ref sig .tc) := [main_call3_v0, main_call3_v1, main_call3_v2, main_call3_v3, main_call3_v4, main_v135]

/-- It leaves the other buffers. -/
theorem keep_hostOps0_7 (V : Valuation τ sig (Elt Ideal)) (r : Ref sig .tc) (h : r ∉ t_W_hostOps0_7) :
    StableHlo.after hostOps0_7 V (Proc.devRef .tc r) = V (Proc.devRef .tc r) :=
  StableHlo.after_of_writes_sub _ V (StableHlo.forall_writes_sub_of_map rfl) h

/-- One line's value. -/
def t_v129 (xv119 : FVec Ideal S2x2000 .f32) : FVec Ideal S2x2000x1 .f32 :=
  broadcastInDim S2x2000x1 ![0, 1] bcast_S2x2000_S2x2000x1_0_1 xv119

/-- One line's value. -/
def t_v130 (xv122 : FVec Ideal S2x2000 .f32) : FVec Ideal S2x2000x1 .f32 :=
  broadcastInDim S2x2000x1 ![0, 1] bcast_S2x2000_S2x2000x1_0_1 xv122

/-- One line's value. -/
def t_v131 (xv125 : FVec Ideal S2x2000 .f32) : FVec Ideal S2x2000x1 .f32 :=
  broadcastInDim S2x2000x1 ![0, 1] bcast_S2x2000_S2x2000x1_0_1 xv125

/-- One line's value. -/
def t_v132 (xv128 : FVec Ideal S2x2000 .f32) : FVec Ideal S2x2000x1 .f32 :=
  broadcastInDim S2x2000x1 ![0, 1] bcast_S2x2000_S2x2000x1_0_1 xv128

/-- One line's value. -/
def t_v133 (xv119 : FVec Ideal S2x2000 .f32) (xv122 : FVec Ideal S2x2000 .f32) (xv125 : FVec Ideal S2x2000 .f32) (xv128 : FVec Ideal S2x2000 .f32) : FVec Ideal S2x2000x4 .f32 :=
  (fun u0 u1 u2 u3 => concatenate S2x2000x4 2 [⟨S2x2000x1, u0⟩, ⟨S2x2000x1, u1⟩, ⟨S2x2000x1, u2⟩, ⟨S2x2000x1, u3⟩] concatenates_S2x2000x1_S2x2000x1_S2x2000x1_S2x2000x1_S2x2000x4_d2) (t_v129 xv119) (t_v130 xv122) (t_v131 xv125) (t_v132 xv128)

/-- One line's value. -/
def t_v134 (xv119 : FVec Ideal S2x2000 .f32) (xv122 : FVec Ideal S2x2000 .f32) (xv125 : FVec Ideal S2x2000 .f32) (xv128 : FVec Ideal S2x2000 .f32) : FVec Ideal S2x2000x1 .f32 :=
  (extractStridedSlice S2x2000x1 ![0, 0, 2] · slices_S2x2000x4_S2x2000x1_0_0_2) (t_v133 xv119 xv122 xv125 xv128)

/-- One line's value. -/
def t_v135 (xv119 : FVec Ideal S2x2000 .f32) (xv122 : FVec Ideal S2x2000 .f32) (xv125 : FVec Ideal S2x2000 .f32) (xv128 : FVec Ideal S2x2000 .f32) : FVec Ideal S2x2000 .f32 :=
  shapeCast S2x2000 (t_v134 xv119 xv122 xv125 xv128) shapeCasts_S2x2000x1_S2x2000

/-- One line's value. -/
def t_v136 (xv119 : FVec Ideal S2x2000 .f32) (xv122 : FVec Ideal S2x2000 .f32) (xv125 : FVec Ideal S2x2000 .f32) (xv128 : FVec Ideal S2x2000 .f32) : FVec Ideal S2x2000x1 .f32 :=
  (extractStridedSlice S2x2000x1 ![0, 0, 0] · slices_S2x2000x4_S2x2000x1_0_0_0) (t_v133 xv119 xv122 xv125 xv128)

/-- One line's value. -/
def t_v137 (xv119 : FVec Ideal S2x2000 .f32) (xv122 : FVec Ideal S2x2000 .f32) (xv125 : FVec Ideal S2x2000 .f32) (xv128 : FVec Ideal S2x2000 .f32) : FVec Ideal S2x2000 .f32 :=
  shapeCast S2x2000 (t_v136 xv119 xv122 xv125 xv128) shapeCasts_S2x2000x1_S2x2000

/-- One line's value. -/
def t_v138 (xv119 : FVec Ideal S2x2000 .f32) (xv122 : FVec Ideal S2x2000 .f32) (xv125 : FVec Ideal S2x2000 .f32) (xv128 : FVec Ideal S2x2000 .f32) : FVec Ideal S2x2000 .f32 :=
  subf (t_v135 xv119 xv122 xv125 xv128) (t_v137 xv119 xv122 xv125 xv128)

/-- One line's value. -/
def t_v139 (xv119 : FVec Ideal S2x2000 .f32) (xv122 : FVec Ideal S2x2000 .f32) (xv125 : FVec Ideal S2x2000 .f32) (xv128 : FVec Ideal S2x2000 .f32) : FVec Ideal S2x2000x1 .f32 :=
  (extractStridedSlice S2x2000x1 ![0, 0, 3] · slices_S2x2000x4_S2x2000x1_0_0_3) (t_v133 xv119 xv122 xv125 xv128)

/-- One line's value. -/
def t_v140 (xv119 : FVec Ideal S2x2000 .f32) (xv122 : FVec Ideal S2x2000 .f32) (xv125 : FVec Ideal S2x2000 .f32) (xv128 : FVec Ideal S2x2000 .f32) : FVec Ideal S2x2000 .f32 :=
  shapeCast S2x2000 (t_v139 xv119 xv122 xv125 xv128) shapeCasts_S2x2000x1_S2x2000

/-- One line's value. -/
def t_v141 (xv119 : FVec Ideal S2x2000 .f32) (xv122 : FVec Ideal S2x2000 .f32) (xv125 : FVec Ideal S2x2000 .f32) (xv128 : FVec Ideal S2x2000 .f32) : FVec Ideal S2x2000x1 .f32 :=
  (extractStridedSlice S2x2000x1 ![0, 0, 1] · slices_S2x2000x4_S2x2000x1_0_0_1) (t_v133 xv119 xv122 xv125 xv128)

/-- One line's value. -/
def t_v142 (xv119 : FVec Ideal S2x2000 .f32) (xv122 : FVec Ideal S2x2000 .f32) (xv125 : FVec Ideal S2x2000 .f32) (xv128 : FVec Ideal S2x2000 .f32) : FVec Ideal S2x2000 .f32 :=
  shapeCast S2x2000 (t_v141 xv119 xv122 xv125 xv128) shapeCasts_S2x2000x1_S2x2000

/-- One line's value. -/
def t_v143 (xv119 : FVec Ideal S2x2000 .f32) (xv122 : FVec Ideal S2x2000 .f32) (xv125 : FVec Ideal S2x2000 .f32) (xv128 : FVec Ideal S2x2000 .f32) : FVec Ideal S2x2000 .f32 :=
  subf (t_v140 xv119 xv122 xv125 xv128) (t_v142 xv119 xv122 xv125 xv128)

/-- One line's value. -/
def t_cst_28 : FVec Ideal S_ .f32 :=
  constant (F := Ideal) S_ .f32 0x3A83126F#32

/-- One line's value. -/
def t_v144 : FVec Ideal S2x2000 .f32 :=
  broadcastInDim S2x2000 ![] bcast_S_S2x2000 t_cst_28

/-- One line's value. -/
def t_v145 (xv119 : FVec Ideal S2x2000 .f32) (xv122 : FVec Ideal S2x2000 .f32) (xv125 : FVec Ideal S2x2000 .f32) (xv128 : FVec Ideal S2x2000 .f32) : IVec S2x2000 1 :=
  cmpf .oge (t_v138 xv119 xv122 xv125 xv128) t_v144

/-- One line's value. -/
def t_cst_29 : FVec Ideal S_ .f32 :=
  constant (F := Ideal) S_ .f32 0x3A83126F#32

/-- One line's value. -/
def t_v146 : FVec Ideal S2x2000 .f32 :=
  broadcastInDim S2x2000 ![] bcast_S_S2x2000 t_cst_29

/-- One line's value. -/
def t_v147 (xv119 : FVec Ideal S2x2000 .f32) (xv122 : FVec Ideal S2x2000 .f32) (xv125 : FVec Ideal S2x2000 .f32) (xv128 : FVec Ideal S2x2000 .f32) : IVec S2x2000 1 :=
  cmpf .oge (t_v143 xv119 xv122 xv125 xv128) t_v146

/-- One line's value. -/
def t_v148 (xv119 : FVec Ideal S2x2000 .f32) (xv122 : FVec Ideal S2x2000 .f32) (xv125 : FVec Ideal S2x2000 .f32) (xv128 : FVec Ideal S2x2000 .f32) : IVec S2x2000 1 :=
  andi (t_v145 xv119 xv122 xv125 xv128) (t_v147 xv119 xv122 xv125 xv128)

/-- One line's value. -/
def t_cst_30 : FVec Ideal S_ .f32 :=
  constant (F := Ideal) S_ .f32 0x00000000#32

/-- One line's value. -/
def t_v149 : FVec Ideal S2x2000 .f32 :=
  broadcastInDim S2x2000 ![] bcast_S_S2x2000 t_cst_30

/-- One line's value. -/
def t_v150 (xv116 : FVec Ideal S2x2000 .f32) : IVec S2x2000 1 :=
  cmpf .oge xv116 t_v149

/-- One line's value. -/
def t_v151 (xv119 : FVec Ideal S2x2000 .f32) (xv122 : FVec Ideal S2x2000 .f32) (xv125 : FVec Ideal S2x2000 .f32) (xv128 : FVec Ideal S2x2000 .f32) (xv116 : FVec Ideal S2x2000 .f32) : IVec S2x2000 1 :=
  andi (t_v148 xv119 xv122 xv125 xv128) (t_v150 xv116)

/-- One line's value. -/
def t_cst_31 : FVec Ideal S_ .f32 :=
  constant (F := Ideal) S_ .f32 0xFF800000#32

/-- What the stretch leaves in `main_v140`. -/
theorem read_v133 (V : Valuation τ sig (Elt Ideal)) :
    StableHlo.after hostOps0_8 V (Proc.devRef .tc main_v140) = t_v133 (V (Proc.devRef .tc main_v126)) (V (Proc.devRef .tc main_v129)) (V (Proc.devRef .tc main_v132)) (V (Proc.devRef .tc main_v135)) := by
  after_reads_simp
  rfl

/-- What the stretch leaves in `main_v158`. -/
theorem read_v151 (V : Valuation τ sig (Elt Ideal)) :
    StableHlo.after hostOps0_8 V (Proc.devRef .tc main_v158) = t_v151 (V (Proc.devRef .tc main_v126)) (V (Proc.devRef .tc main_v129)) (V (Proc.devRef .tc main_v132)) (V (Proc.devRef .tc main_v135)) (V (Proc.devRef .tc main_v123)) := by
  after_reads_simp
  rfl

/-- What the stretch leaves in `main_cst_35`. -/
theorem read_cst_31 (V : Valuation τ sig (Elt Ideal)) :
    StableHlo.after hostOps0_8 V (Proc.devRef .tc main_cst_35) = t_cst_31  := by
  after_reads_simp
  rfl

/-- What `hostOps0_8` writes. -/
abbrev t_W_hostOps0_8 : List (Ref sig .tc) := [main_v136, main_v137, main_v138, main_v139, main_v140, main_v141, main_v142, main_v143, main_v144, main_v145, main_v146, main_v147, main_v148, main_v149, main_v150, main_cst_32, main_v151, main_v152, main_cst_33, main_v153, main_v154, main_v155, main_cst_34, main_v156, main_v157, main_v158, main_cst_35]

/-- It leaves the other buffers. -/
theorem keep_hostOps0_8 (V : Valuation τ sig (Elt Ideal)) (r : Ref sig .tc) (h : r ∉ t_W_hostOps0_8) :
    StableHlo.after hostOps0_8 V (Proc.devRef .tc r) = V (Proc.devRef .tc r) :=
  StableHlo.after_of_writes_sub _ V (StableHlo.forall_writes_sub_of_map rfl) h

/-- One line's value. -/
def t_call4_v0 (xcst_31 : FVec Ideal S_ .f32) : FVec Ideal S_ .f32 :=
  id xcst_31

/-- One line's value. -/
def t_call4_v1 (xcst_31 : FVec Ideal S_ .f32) : FVec Ideal S2x2000 .f32 :=
  (broadcastInDim S2x2000 ![] bcast_S_S2x2000) (t_call4_v0 xcst_31)

/-- One line's value. -/
def t_v152 (xv151 : IVec S2x2000 1) (xv116 : FVec Ideal S2x2000 .f32) (xcst_31 : FVec Ideal S_ .f32) : FVec Ideal S2x2000 .f32 :=
  select xv151 xv116 (t_call4_v1 xcst_31)

/-- What the stretch leaves in `main_v159`. -/
theorem read_v152 (V : Valuation τ sig (Elt Ideal)) :
    StableHlo.after hostOps0_9 V (Proc.devRef .tc main_v159) = t_v152 (V (Proc.devRef .tc main_v158)) (V (Proc.devRef .tc main_v123)) (V (Proc.devRef .tc main_cst_35)) := by
  after_reads_simp
  rfl

/-- What `hostOps0_9` writes. -/
abbrev t_W_hostOps0_9 : List (Ref sig .tc) := [main_call4_v0, main_call4_v1, main_v159]

/-- It leaves the other buffers. -/
theorem keep_hostOps0_9 (V : Valuation τ sig (Elt Ideal)) (r : Ref sig .tc) (h : r ∉ t_W_hostOps0_9) :
    StableHlo.after hostOps0_9 V (Proc.devRef .tc r) = V (Proc.devRef .tc r) :=
  StableHlo.after_of_writes_sub _ V (StableHlo.forall_writes_sub_of_map rfl) h

/-- One line's value. -/
def t_v153 (xv151 : IVec S2x2000 1) : IVec S2x2000x1 1 :=
  broadcastInDim S2x2000x1 ![0, 1] bcast_S2x2000_S2x2000x1_0_1 xv151

/-- One line's value. -/
def t_cst_32 : FVec Ideal S_ .f32 :=
  constant (F := Ideal) S_ .f32 0x00000000#32

/-- What the stretch leaves in `main_v160`. -/
theorem read_v153 (V : Valuation τ sig (Elt Ideal)) :
    StableHlo.after hostOps0_10 V (Proc.devRef .tc main_v160) = t_v153 (V (Proc.devRef .tc main_v158)) := by
  after_reads_simp
  rfl

/-- What the stretch leaves in `main_cst_36`. -/
theorem read_cst_32 (V : Valuation τ sig (Elt Ideal)) :
    StableHlo.after hostOps0_10 V (Proc.devRef .tc main_cst_36) = t_cst_32  := by
  after_reads_simp
  rfl

/-- What `hostOps0_10` writes. -/
abbrev t_W_hostOps0_10 : List (Ref sig .tc) := [main_v160, main_cst_36]

/-- It leaves the other buffers. -/
theorem keep_hostOps0_10 (V : Valuation τ sig (Elt Ideal)) (r : Ref sig .tc) (h : r ∉ t_W_hostOps0_10) :
    StableHlo.after hostOps0_10 V (Proc.devRef .tc r) = V (Proc.devRef .tc r) :=
  StableHlo.after_of_writes_sub _ V (StableHlo.forall_writes_sub_of_map rfl) h

/-- One line's value. -/
def t_call5_v0 (xcst_32 : FVec Ideal S_ .f32) : FVec Ideal S_ .f32 :=
  id xcst_32

/-- One line's value. -/
def t_call5_v1 (xv153 : IVec S2x2000x1 1) : IVec S2x2000x4 1 :=
  (broadcastInDim S2x2000x4 ![0, 1, 2] bcast_S2x2000x1_S2x2000x4_0_1_2) xv153

/-- One line's value. -/
def t_call5_v2 (xcst_32 : FVec Ideal S_ .f32) : FVec Ideal S2x2000x4 .f32 :=
  (broadcastInDim S2x2000x4 ![] bcast_S_S2x2000x4) (t_call5_v0 xcst_32)

/-- One line's value. -/
def t_v154 (xv153 : IVec S2x2000x1 1) (xv133 : FVec Ideal S2x2000x4 .f32) (xcst_32 : FVec Ideal S_ .f32) : FVec Ideal S2x2000x4 .f32 :=
  select (t_call5_v1 xv153) xv133 (t_call5_v2 xcst_32)

/-- What the stretch leaves in `main_v161`. -/
theorem read_v154 (V : Valuation τ sig (Elt Ideal)) :
    StableHlo.after hostOps0_11 V (Proc.devRef .tc main_v161) = t_v154 (V (Proc.devRef .tc main_v160)) (V (Proc.devRef .tc main_v140)) (V (Proc.devRef .tc main_cst_36)) := by
  after_reads_simp
  rfl

/-- What `hostOps0_11` writes. -/
abbrev t_W_hostOps0_11 : List (Ref sig .tc) := [main_call5_v0, main_call5_v1, main_call5_v2, main_v161]

/-- It leaves the other buffers. -/
theorem keep_hostOps0_11 (V : Valuation τ sig (Elt Ideal)) (r : Ref sig .tc) (h : r ∉ t_W_hostOps0_11) :
    StableHlo.after hostOps0_11 V (Proc.devRef .tc r) = V (Proc.devRef .tc r) :=
  StableHlo.after_of_writes_sub _ V (StableHlo.forall_writes_sub_of_map rfl) h

/-- One line's value. -/
def t_v155 (xv95 : IVec S2x2000 32) : FVec Ideal S2x2000 .f32 :=
  sitofp .f32 xv95

/-- One line's value. -/
def t_cst_33 : FVec Ideal S_ .f32 :=
  constant (F := Ideal) S_ .f32 0x44484000#32

/-- One line's value. -/
def t_v156 : FVec Ideal S2x2000 .f32 :=
  broadcastInDim S2x2000 ![] bcast_S_S2x2000 t_cst_33

/-- One line's value. -/
def t_v157 (xv95 : IVec S2x2000 32) : FVec Ideal S2x2000 .f32 :=
  mulf (t_v155 xv95) t_v156

/-- One line's value. -/
def t_v158 (xv95 : IVec S2x2000 32) : FVec Ideal S2x2000x1 .f32 :=
  broadcastInDim S2x2000x1 ![0, 1] bcast_S2x2000_S2x2000x1_0_1 (t_v157 xv95)

/-- One line's value. -/
def t_v159 (xv95 : IVec S2x2000 32) : FVec Ideal S2x2000x4 .f32 :=
  broadcastInDim S2x2000x4 ![0, 1, 2] bcast_S2x2000x1_S2x2000x4_0_1_2 (t_v158 xv95)

/-- One line's value. -/
def t_v160 (xv154 : FVec Ideal S2x2000x4 .f32) (xv95 : IVec S2x2000 32) : FVec Ideal S2x2000x4 .f32 :=
  addf xv154 (t_v159 xv95)

/-- One line's value. -/
def t_v161 (xv152 : FVec Ideal S2x2000 .f32) : FVec Ideal S2x2000 .f32 :=
  Host.negf xv152

/-- What the stretch leaves in `main_v167`. -/
theorem read_v160 (V : Valuation τ sig (Elt Ideal)) :
    StableHlo.after hostOps0_12 V (Proc.devRef .tc main_v167) = t_v160 (V (Proc.devRef .tc main_v161)) (V (Proc.devRef .tc main_v102)) := by
  after_reads_simp
  rfl

/-- What the stretch leaves in `main_v168`. -/
theorem read_v161 (V : Valuation τ sig (Elt Ideal)) :
    StableHlo.after hostOps0_12 V (Proc.devRef .tc main_v168) = t_v161 (V (Proc.devRef .tc main_v159)) := by
  after_reads_simp
  rfl

/-- What `hostOps0_12` writes. -/
abbrev t_W_hostOps0_12 : List (Ref sig .tc) := [main_v162, main_cst_37, main_v163, main_v164, main_v165, main_v166, main_v167, main_v168]

/-- It leaves the other buffers. -/
theorem keep_hostOps0_12 (V : Valuation τ sig (Elt Ideal)) (r : Ref sig .tc) (h : r ∉ t_W_hostOps0_12) :
    StableHlo.after hostOps0_12 V (Proc.devRef .tc r) = V (Proc.devRef .tc r) :=
  StableHlo.after_of_writes_sub _ V (StableHlo.forall_writes_sub_of_map rfl) h

/-- One line's value. -/
def t_call6_v0 : IVec S2x2000 32 :=
  iotaInDim S2x2000 32 1

/-- One line's value. -/
def t_v162 (xv161 : FVec Ideal S2x2000 .f32) : IVec S2x2000 32 :=
  (fun x y => (Host.sort2 S2x2000 1 comparator_f32_i32_d1 x y).2) xv161 t_call6_v0

/-- What the stretch leaves in `main_v169`. -/
theorem read_v162 (V : Valuation τ sig (Elt Ideal)) :
    StableHlo.after hostOps0_13 V (Proc.devRef .tc main_v169) = t_v162 (V (Proc.devRef .tc main_v168)) := by
  after_reads_simp
  rfl

/-- What `hostOps0_13` writes. -/
abbrev t_W_hostOps0_13 : List (Ref sig .tc) := [main_call6_v0, main_call6_v1_0, main_v169]

/-- It leaves the other buffers. -/
theorem keep_hostOps0_13 (V : Valuation τ sig (Elt Ideal)) (r : Ref sig .tc) (h : r ∉ t_W_hostOps0_13) :
    StableHlo.after hostOps0_13 V (Proc.devRef .tc r) = V (Proc.devRef .tc r) :=
  StableHlo.after_of_writes_sub _ V (StableHlo.forall_writes_sub_of_map rfl) h

/-- One line's value. -/
def t_v163 : IVec S2 32 :=
  iotaInDim S2 32 0

/-- One line's value. -/
def t_v164 : IVec S2x1 32 :=
  broadcastInDim S2x1 ![0] bcast_S2_S2x1_0 t_v163

/-- One line's value. -/
def t_c_34 : IVec S_ 32 :=
  constantI S_ 32 0#32

/-- One line's value. -/
def t_v165 : IVec S2x1 32 :=
  broadcastInDim S2x1 ![] bcast_S_S2x1 t_c_34

/-- One line's value. -/
def t_v166 : IVec S2x1 1 :=
  cmpi .slt t_v164 t_v165

/-- One line's value. -/
def t_c_35 : IVec S_ 32 :=
  constantI S_ 32 2#32

/-- One line's value. -/
def t_v167 : IVec S2x1 32 :=
  broadcastInDim S2x1 ![] bcast_S_S2x1 t_c_35

/-- One line's value. -/
def t_v168 : IVec S2x1 32 :=
  addi t_v164 t_v167

/-- One line's value. -/
def t_v169 : IVec S2x1 32 :=
  select t_v166 t_v168 t_v164

/-- One line's value. -/
def t_c_36 : IVec S_ 32 :=
  constantI S_ 32 0#32

/-- One line's value. -/
def t_v170 : IVec S2x2000 32 :=
  broadcastInDim S2x2000 ![] bcast_S_S2x2000 t_c_36

/-- One line's value. -/
def t_v171 (xv162 : IVec S2x2000 32) : IVec S2x2000 1 :=
  cmpi .slt xv162 t_v170

/-- One line's value. -/
def t_c_37 : IVec S_ 32 :=
  constantI S_ 32 2000#32

/-- One line's value. -/
def t_v172 : IVec S2x2000 32 :=
  broadcastInDim S2x2000 ![] bcast_S_S2x2000 t_c_37

/-- One line's value. -/
def t_v173 (xv162 : IVec S2x2000 32) : IVec S2x2000 32 :=
  addi xv162 t_v172

/-- One line's value. -/
def t_v174 (xv162 : IVec S2x2000 32) : IVec S2x2000 32 :=
  select (t_v171 xv162) (t_v173 xv162) xv162

/-- One line's value. -/
def t_v175 : IVec S2x2000 32 :=
  broadcastInDim S2x2000 ![0, 1] bcast_S2x1_S2x2000_0_1 t_v169

/-- One line's value. -/
def t_v176 : IVec S2x2000x1 32 :=
  broadcastInDim S2x2000x1 ![0, 1] bcast_S2x2000_S2x2000x1_0_1 t_v175

/-- One line's value. -/
def t_v177 (xv162 : IVec S2x2000 32) : IVec S2x2000x1 32 :=
  broadcastInDim S2x2000x1 ![0, 1] bcast_S2x2000_S2x2000x1_0_1 (t_v174 xv162)

/-- One line's value. -/
def t_v178 (xv162 : IVec S2x2000 32) : IVec S2x2000x2 32 :=
  (fun a b => concatenate S2x2000x2 2 [⟨S2x2000x1, a⟩, ⟨S2x2000x1, b⟩] concatenates_S2x2000x1_S2x2000x1_S2x2000x2_d2) t_v176 (t_v177 xv162)

/-- One line's value. -/
def t_v179 (xv160 : FVec Ideal S2x2000x4 .f32) (xv162 : IVec S2x2000 32) : FVec Ideal S2x2000x4 .f32 :=
  (fun x i => Host.gather gather_S2x2000x4_S2x2000x2_S2x2000x4_2_01_n_n_01_2_114 x i) xv160 (t_v178 xv162)

/-- One line's value. -/
def t_c_38 : IVec S_ 32 :=
  constantI S_ 32 0#32

/-- One line's value. -/
def t_v180 : IVec S2x1 32 :=
  broadcastInDim S2x1 ![] bcast_S_S2x1 t_c_38

/-- One line's value. -/
def t_v181 : IVec S2x1 1 :=
  cmpi .slt t_v164 t_v180

/-- One line's value. -/
def t_c_39 : IVec S_ 32 :=
  constantI S_ 32 2#32

/-- One line's value. -/
def t_v182 : IVec S2x1 32 :=
  broadcastInDim S2x1 ![] bcast_S_S2x1 t_c_39

/-- One line's value. -/
def t_v183 : IVec S2x1 32 :=
  addi t_v164 t_v182

/-- One line's value. -/
def t_v184 : IVec S2x1 32 :=
  select t_v181 t_v183 t_v164

/-- One line's value. -/
def t_c_40 : IVec S_ 32 :=
  constantI S_ 32 0#32

/-- One line's value. -/
def t_v185 : IVec S2x2000 32 :=
  broadcastInDim S2x2000 ![] bcast_S_S2x2000 t_c_40

/-- One line's value. -/
def t_v186 (xv162 : IVec S2x2000 32) : IVec S2x2000 1 :=
  cmpi .slt xv162 t_v185

/-- One line's value. -/
def t_c_41 : IVec S_ 32 :=
  constantI S_ 32 2000#32

/-- One line's value. -/
def t_v187 : IVec S2x2000 32 :=
  broadcastInDim S2x2000 ![] bcast_S_S2x2000 t_c_41

/-- One line's value. -/
def t_v188 (xv162 : IVec S2x2000 32) : IVec S2x2000 32 :=
  addi xv162 t_v187

/-- One line's value. -/
def t_v189 (xv162 : IVec S2x2000 32) : IVec S2x2000 32 :=
  select (t_v186 xv162) (t_v188 xv162) xv162

/-- One line's value. -/
def t_v190 : IVec S2x2000 32 :=
  broadcastInDim S2x2000 ![0, 1] bcast_S2x1_S2x2000_0_1 t_v184

/-- One line's value. -/
def t_v191 : IVec S2x2000x1 32 :=
  broadcastInDim S2x2000x1 ![0, 1] bcast_S2x2000_S2x2000x1_0_1 t_v190

/-- One line's value. -/
def t_v192 (xv162 : IVec S2x2000 32) : IVec S2x2000x1 32 :=
  broadcastInDim S2x2000x1 ![0, 1] bcast_S2x2000_S2x2000x1_0_1 (t_v189 xv162)

/-- One line's value. -/
def t_v193 (xv162 : IVec S2x2000 32) : IVec S2x2000x2 32 :=
  (fun a b => concatenate S2x2000x2 2 [⟨S2x2000x1, a⟩, ⟨S2x2000x1, b⟩] concatenates_S2x2000x1_S2x2000x1_S2x2000x2_d2) t_v191 (t_v192 xv162)

/-- One line's value. -/
def t_v194 (xv152 : FVec Ideal S2x2000 .f32) (xv162 : IVec S2x2000 32) : FVec Ideal S2x2000 .f32 :=
  (fun x i => Host.gather gather_S2x2000_S2x2000x2_S2x2000_n_01_n_n_01_2_11 x i) xv152 (t_v193 xv162)

/-- One line's value. -/
def t_c_42 : IVec S_ 32 :=
  constantI S_ 32 0#32

/-- One line's value. -/
def t_v195 : IVec S2x1 32 :=
  broadcastInDim S2x1 ![] bcast_S_S2x1 t_c_42

/-- One line's value. -/
def t_v196 : IVec S2x1 1 :=
  cmpi .slt t_v164 t_v195

/-- One line's value. -/
def t_c_43 : IVec S_ 32 :=
  constantI S_ 32 2#32

/-- One line's value. -/
def t_v197 : IVec S2x1 32 :=
  broadcastInDim S2x1 ![] bcast_S_S2x1 t_c_43

/-- One line's value. -/
def t_v198 : IVec S2x1 32 :=
  addi t_v164 t_v197

/-- One line's value. -/
def t_v199 : IVec S2x1 32 :=
  select t_v196 t_v198 t_v164

/-- One line's value. -/
def t_c_44 : IVec S_ 32 :=
  constantI S_ 32 0#32

/-- One line's value. -/
def t_v200 : IVec S2x2000 32 :=
  broadcastInDim S2x2000 ![] bcast_S_S2x2000 t_c_44

/-- One line's value. -/
def t_v201 (xv162 : IVec S2x2000 32) : IVec S2x2000 1 :=
  cmpi .slt xv162 t_v200

/-- One line's value. -/
def t_c_45 : IVec S_ 32 :=
  constantI S_ 32 2000#32

/-- One line's value. -/
def t_v202 : IVec S2x2000 32 :=
  broadcastInDim S2x2000 ![] bcast_S_S2x2000 t_c_45

/-- One line's value. -/
def t_v203 (xv162 : IVec S2x2000 32) : IVec S2x2000 32 :=
  addi xv162 t_v202

/-- One line's value. -/
def t_v204 (xv162 : IVec S2x2000 32) : IVec S2x2000 32 :=
  select (t_v201 xv162) (t_v203 xv162) xv162

/-- One line's value. -/
def t_v205 : IVec S2x2000 32 :=
  broadcastInDim S2x2000 ![0, 1] bcast_S2x1_S2x2000_0_1 t_v199

/-- One line's value. -/
def t_v206 : IVec S2x2000x1 32 :=
  broadcastInDim S2x2000x1 ![0, 1] bcast_S2x2000_S2x2000x1_0_1 t_v205

/-- One line's value. -/
def t_v207 (xv162 : IVec S2x2000 32) : IVec S2x2000x1 32 :=
  broadcastInDim S2x2000x1 ![0, 1] bcast_S2x2000_S2x2000x1_0_1 (t_v204 xv162)

/-- One line's value. -/
def t_v208 (xv162 : IVec S2x2000 32) : IVec S2x2000x2 32 :=
  (fun a b => concatenate S2x2000x2 2 [⟨S2x2000x1, a⟩, ⟨S2x2000x1, b⟩] concatenates_S2x2000x1_S2x2000x1_S2x2000x2_d2) t_v206 (t_v207 xv162)

/-- One line's value. -/
def t_v209 (xv154 : FVec Ideal S2x2000x4 .f32) (xv162 : IVec S2x2000 32) : FVec Ideal S2x2000x4 .f32 :=
  (fun x i => Host.gather gather_S2x2000x4_S2x2000x2_S2x2000x4_2_01_n_n_01_2_114 x i) xv154 (t_v208 xv162)

/-- One line's value. -/
def t_v210 (xv160 : FVec Ideal S2x2000x4 .f32) (xv162 : IVec S2x2000 32) : FVec Ideal S2x2000x1 .f32 :=
  (extractStridedSlice S2x2000x1 ![0, 0, 0] · slices_S2x2000x4_S2x2000x1_0_0_0) (t_v179 xv160 xv162)

/-- One line's value. -/
def t_v211 (xv160 : FVec Ideal S2x2000x4 .f32) (xv162 : IVec S2x2000 32) : FVec Ideal S2x2000 .f32 :=
  shapeCast S2x2000 (t_v210 xv160 xv162) shapeCasts_S2x2000x1_S2x2000

/-- One line's value. -/
def t_v212 (xv160 : FVec Ideal S2x2000x4 .f32) (xv162 : IVec S2x2000 32) : FVec Ideal S2x2000x1 .f32 :=
  (extractStridedSlice S2x2000x1 ![0, 0, 1] · slices_S2x2000x4_S2x2000x1_0_0_1) (t_v179 xv160 xv162)

/-- One line's value. -/
def t_v213 (xv160 : FVec Ideal S2x2000x4 .f32) (xv162 : IVec S2x2000 32) : FVec Ideal S2x2000 .f32 :=
  shapeCast S2x2000 (t_v212 xv160 xv162) shapeCasts_S2x2000x1_S2x2000

/-- One line's value. -/
def t_v214 (xv160 : FVec Ideal S2x2000x4 .f32) (xv162 : IVec S2x2000 32) : FVec Ideal S2x2000x1 .f32 :=
  (extractStridedSlice S2x2000x1 ![0, 0, 2] · slices_S2x2000x4_S2x2000x1_0_0_2) (t_v179 xv160 xv162)

/-- One line's value. -/
def t_v215 (xv160 : FVec Ideal S2x2000x4 .f32) (xv162 : IVec S2x2000 32) : FVec Ideal S2x2000 .f32 :=
  shapeCast S2x2000 (t_v214 xv160 xv162) shapeCasts_S2x2000x1_S2x2000

/-- One line's value. -/
def t_v216 (xv160 : FVec Ideal S2x2000x4 .f32) (xv162 : IVec S2x2000 32) : FVec Ideal S2x2000x1 .f32 :=
  (extractStridedSlice S2x2000x1 ![0, 0, 3] · slices_S2x2000x4_S2x2000x1_0_0_3) (t_v179 xv160 xv162)

/-- One line's value. -/
def t_v217 (xv160 : FVec Ideal S2x2000x4 .f32) (xv162 : IVec S2x2000 32) : FVec Ideal S2x2000 .f32 :=
  shapeCast S2x2000 (t_v216 xv160 xv162) shapeCasts_S2x2000x1_S2x2000

/-- One line's value. -/
def t_v218 (xv160 : FVec Ideal S2x2000x4 .f32) (xv162 : IVec S2x2000 32) : FVec Ideal S2x2000 .f32 :=
  subf (t_v215 xv160 xv162) (t_v211 xv160 xv162)

/-- One line's value. -/
def t_v219 (xv160 : FVec Ideal S2x2000x4 .f32) (xv162 : IVec S2x2000 32) : FVec Ideal S2x2000 .f32 :=
  subf (t_v217 xv160 xv162) (t_v213 xv160 xv162)

/-- One line's value. -/
def t_v220 (xv160 : FVec Ideal S2x2000x4 .f32) (xv162 : IVec S2x2000 32) : FVec Ideal S2x2000 .f32 :=
  mulf (t_v218 xv160 xv162) (t_v219 xv160 xv162)

/-- One line's value. -/
def t_v221 : IVec S2000 32 :=
  iotaInDim S2000 32 0

/-- One line's value. -/
def t_c_46 : IVec S_ 1 :=
  constantI S_ 1 1#1

/-- One line's value. -/
def t_v222 : IVec S2x2000 1 :=
  broadcastInDim S2x2000 ![] bcast_S_S2x2000 t_c_46

/-- One line's value. -/
def t_c_47 : IVec S_ 32 :=
  constantI S_ 32 0#32

/-- One line's value. -/
def t_c_48 : IVec S_ 32 :=
  constantI S_ 32 0#32

/-- One line's value. -/
def t_v223_0 (xv160 : FVec Ideal S2x2000x4 .f32) (xv162 : IVec S2x2000 32) : FVec Ideal S2x2000 .f32 :=
  id (t_v211 xv160 xv162)

/-- One line's value. -/
def t_v223_1 (xv160 : FVec Ideal S2x2000x4 .f32) (xv162 : IVec S2x2000 32) : FVec Ideal S2x2000 .f32 :=
  id (t_v213 xv160 xv162)

/-- One line's value. -/
def t_v223_2 (xv160 : FVec Ideal S2x2000x4 .f32) (xv162 : IVec S2x2000 32) : FVec Ideal S2x2000 .f32 :=
  id (t_v215 xv160 xv162)

/-- One line's value. -/
def t_v223_3 (xv160 : FVec Ideal S2x2000x4 .f32) (xv162 : IVec S2x2000 32) : FVec Ideal S2x2000 .f32 :=
  id (t_v217 xv160 xv162)

/-- One line's value. -/
def t_v223_4 (xv160 : FVec Ideal S2x2000x4 .f32) (xv162 : IVec S2x2000 32) : FVec Ideal S2x2000 .f32 :=
  id (t_v220 xv160 xv162)

/-- One line's value. -/
def t_v223_5 : IVec S2000 32 :=
  id t_v221

/-- One line's value. -/
def t_v223_6 : IVec S_ 32 :=
  id t_c_48

/-- One line's value. -/
def t_v223_7 : IVec S_ 32 :=
  id t_c_47

/-- One line's value. -/
def t_v223_8 : IVec S2x2000 1 :=
  id t_v222

/-- What the stretch leaves in `main_v171`. -/
theorem read_v164 (V : Valuation τ sig (Elt Ideal)) :
    StableHlo.after hostOps0_14 V (Proc.devRef .tc main_v171) = t_v164  := by
  after_reads_simp
  rfl

/-- What the stretch leaves in `main_v201`. -/
theorem read_v194 (V : Valuation τ sig (Elt Ideal)) :
    StableHlo.after hostOps0_14 V (Proc.devRef .tc main_v201) = t_v194 (V (Proc.devRef .tc main_v159)) (V (Proc.devRef .tc main_v169)) := by
  after_reads_simp
  rfl

/-- What the stretch leaves in `main_v216`. -/
theorem read_v209 (V : Valuation τ sig (Elt Ideal)) :
    StableHlo.after hostOps0_14 V (Proc.devRef .tc main_v216) = t_v209 (V (Proc.devRef .tc main_v161)) (V (Proc.devRef .tc main_v169)) := by
  after_reads_simp
  rfl

/-- What the stretch leaves in `main_v230_0`. -/
theorem read_v223_0 (V : Valuation τ sig (Elt Ideal)) :
    StableHlo.after hostOps0_14 V (Proc.devRef .tc main_v230_0) = t_v223_0 (V (Proc.devRef .tc main_v167)) (V (Proc.devRef .tc main_v169)) := by
  after_reads_simp
  rfl

/-- What the stretch leaves in `main_v230_1`. -/
theorem read_v223_1 (V : Valuation τ sig (Elt Ideal)) :
    StableHlo.after hostOps0_14 V (Proc.devRef .tc main_v230_1) = t_v223_1 (V (Proc.devRef .tc main_v167)) (V (Proc.devRef .tc main_v169)) := by
  after_reads_simp
  rfl

/-- What the stretch leaves in `main_v230_2`. -/
theorem read_v223_2 (V : Valuation τ sig (Elt Ideal)) :
    StableHlo.after hostOps0_14 V (Proc.devRef .tc main_v230_2) = t_v223_2 (V (Proc.devRef .tc main_v167)) (V (Proc.devRef .tc main_v169)) := by
  after_reads_simp
  rfl

/-- What the stretch leaves in `main_v230_3`. -/
theorem read_v223_3 (V : Valuation τ sig (Elt Ideal)) :
    StableHlo.after hostOps0_14 V (Proc.devRef .tc main_v230_3) = t_v223_3 (V (Proc.devRef .tc main_v167)) (V (Proc.devRef .tc main_v169)) := by
  after_reads_simp
  rfl

/-- What the stretch leaves in `main_v230_4`. -/
theorem read_v223_4 (V : Valuation τ sig (Elt Ideal)) :
    StableHlo.after hostOps0_14 V (Proc.devRef .tc main_v230_4) = t_v223_4 (V (Proc.devRef .tc main_v167)) (V (Proc.devRef .tc main_v169)) := by
  after_reads_simp
  rfl

/-- What the stretch leaves in `main_v230_5`. -/
theorem read_v223_5 (V : Valuation τ sig (Elt Ideal)) :
    StableHlo.after hostOps0_14 V (Proc.devRef .tc main_v230_5) = t_v223_5  := by
  after_reads_simp
  rfl

/-- What the stretch leaves in `main_v230_6`. -/
theorem read_v223_6 (V : Valuation τ sig (Elt Ideal)) :
    StableHlo.after hostOps0_14 V (Proc.devRef .tc main_v230_6) = t_v223_6  := by
  after_reads_simp
  rfl

/-- What the stretch leaves in `main_v230_7`. -/
theorem read_v223_7 (V : Valuation τ sig (Elt Ideal)) :
    StableHlo.after hostOps0_14 V (Proc.devRef .tc main_v230_7) = t_v223_7  := by
  after_reads_simp
  rfl

/-- What the stretch leaves in `main_v230_8`. -/
theorem read_v223_8 (V : Valuation τ sig (Elt Ideal)) :
    StableHlo.after hostOps0_14 V (Proc.devRef .tc main_v230_8) = t_v223_8  := by
  after_reads_simp
  rfl

/-- What `hostOps0_14` writes. -/
abbrev t_W_hostOps0_14 : List (Ref sig .tc) := [main_v170, main_v171, main_c_38, main_v172, main_v173, main_c_39, main_v174, main_v175, main_v176, main_c_40, main_v177, main_v178, main_c_41, main_v179, main_v180, main_v181, main_v182, main_v183, main_v184, main_v185, main_v186, main_c_42, main_v187, main_v188, main_c_43, main_v189, main_v190, main_v191, main_c_44, main_v192, main_v193, main_c_45, main_v194, main_v195, main_v196, main_v197, main_v198, main_v199, main_v200, main_v201, main_c_46, main_v202, main_v203, main_c_47, main_v204, main_v205, main_v206, main_c_48, main_v207, main_v208, main_c_49, main_v209, main_v210, main_v211, main_v212, main_v213, main_v214, main_v215, main_v216, main_v217, main_v218, main_v219, main_v220, main_v221, main_v222, main_v223, main_v224, main_v225, main_v226, main_v227, main_v228, main_c_50, main_v229, main_c_51, main_c_52, main_v230_0, main_v230_1, main_v230_2, main_v230_3, main_v230_4, main_v230_5, main_v230_6, main_v230_7, main_v230_8]

/-- One line's value. -/
def t_v224 (xv194 : FVec Ideal S2x2000 .f32) : FVec Ideal S2x2000 .f32 :=
  Host.absf xv194

/-- One line's value. -/
def t_cst_49 : FVec Ideal S_ .f32 :=
  constant (F := Ideal) S_ .f32 0x7F800000#32

/-- One line's value. -/
def t_v225 : FVec Ideal S2x2000 .f32 :=
  broadcastInDim S2x2000 ![] bcast_S_S2x2000 t_cst_49

/-- One line's value. -/
def t_v226 (xv194 : FVec Ideal S2x2000 .f32) : IVec S2x2000 1 :=
  cmpf .olt (t_v224 xv194) t_v225

/-- One line's value. -/
def t_v227 (xv223_8 : IVec S2x2000 1) (xv194 : FVec Ideal S2x2000 .f32) : IVec S2x2000 1 :=
  andi xv223_8 (t_v226 xv194)

/-- One line's value. -/
def t_cst_50 : FVec Ideal S_ .f32 :=
  constant (F := Ideal) S_ .f32 0xFF800000#32

/-- What the stretch leaves in `main_v234`. -/
theorem read_v227 (V : Valuation τ sig (Elt Ideal)) :
    StableHlo.after hostOps0_15 V (Proc.devRef .tc main_v234) = t_v227 (V (Proc.devRef .tc main_v230_8)) (V (Proc.devRef .tc main_v201)) := by
  after_reads_simp
  rfl

/-- What the stretch leaves in `main_cst_54`. -/
theorem read_cst_50 (V : Valuation τ sig (Elt Ideal)) :
    StableHlo.after hostOps0_15 V (Proc.devRef .tc main_cst_54) = t_cst_50  := by
  after_reads_simp
  rfl

/-- What `hostOps0_15` writes. -/
abbrev t_W_hostOps0_15 : List (Ref sig .tc) := [main_v231, main_cst_53, main_v232, main_v233, main_v234, main_cst_54]

/-- It leaves the other buffers. -/
theorem keep_hostOps0_15 (V : Valuation τ sig (Elt Ideal)) (r : Ref sig .tc) (h : r ∉ t_W_hostOps0_15) :
    StableHlo.after hostOps0_15 V (Proc.devRef .tc r) = V (Proc.devRef .tc r) :=
  StableHlo.after_of_writes_sub _ V (StableHlo.forall_writes_sub_of_map rfl) h

/-- One line's value. -/
def t_call9_v0 (xcst_50 : FVec Ideal S_ .f32) : FVec Ideal S_ .f32 :=
  id xcst_50

/-- One line's value. -/
def t_call9_v1 (xcst_50 : FVec Ideal S_ .f32) : FVec Ideal S2x2000 .f32 :=
  (broadcastInDim S2x2000 ![] bcast_S_S2x2000) (t_call9_v0 xcst_50)

/-- One line's value. -/
def t_v228 (xv227 : IVec S2x2000 1) (xv194 : FVec Ideal S2x2000 .f32) (xcst_50 : FVec Ideal S_ .f32) : FVec Ideal S2x2000 .f32 :=
  select xv227 xv194 (t_call9_v1 xcst_50)

/-- What the stretch leaves in `main_v235`. -/
theorem read_v228 (V : Valuation τ sig (Elt Ideal)) :
    StableHlo.after hostOps0_16 V (Proc.devRef .tc main_v235) = t_v228 (V (Proc.devRef .tc main_v234)) (V (Proc.devRef .tc main_v201)) (V (Proc.devRef .tc main_cst_54)) := by
  after_reads_simp
  rfl

/-- What `hostOps0_16` writes. -/
abbrev t_W_hostOps0_16 : List (Ref sig .tc) := [main_call9_v0, main_call9_v1, main_v235]

/-- It leaves the other buffers. -/
theorem keep_hostOps0_16 (V : Valuation τ sig (Elt Ideal)) (r : Ref sig .tc) (h : r ∉ t_W_hostOps0_16) :
    StableHlo.after hostOps0_16 V (Proc.devRef .tc r) = V (Proc.devRef .tc r) :=
  StableHlo.after_of_writes_sub _ V (StableHlo.forall_writes_sub_of_map rfl) h

/-- One line's value. -/
def t_v229 (xv228 : FVec Ideal S2x2000 .f32) : FVec Ideal S2x2000 .f32 :=
  Host.negf xv228

/-- What the stretch leaves in `main_v236`. -/
theorem read_v229 (V : Valuation τ sig (Elt Ideal)) :
    StableHlo.after hostOps0_17 V (Proc.devRef .tc main_v236) = t_v229 (V (Proc.devRef .tc main_v235)) := by
  after_reads_simp
  rfl

/-- What `hostOps0_17` writes. -/
abbrev t_W_hostOps0_17 : List (Ref sig .tc) := [main_v236]

/-- It leaves the other buffers. -/
theorem keep_hostOps0_17 (V : Valuation τ sig (Elt Ideal)) (r : Ref sig .tc) (h : r ∉ t_W_hostOps0_17) :
    StableHlo.after hostOps0_17 V (Proc.devRef .tc r) = V (Proc.devRef .tc r) :=
  StableHlo.after_of_writes_sub _ V (StableHlo.forall_writes_sub_of_map rfl) h

/-- One line's value. -/
def t_call10_v0 : IVec S2x2000 32 :=
  iotaInDim S2x2000 32 1

/-- One line's value. -/
def t_v230 (xv229 : FVec Ideal S2x2000 .f32) : IVec S2x2000 32 :=
  (fun x y => (Host.sort2 S2x2000 1 comparator_f32_i32_d1 x y).2) xv229 t_call10_v0

/-- What the stretch leaves in `main_v237`. -/
theorem read_v230 (V : Valuation τ sig (Elt Ideal)) :
    StableHlo.after hostOps0_18 V (Proc.devRef .tc main_v237) = t_v230 (V (Proc.devRef .tc main_v236)) := by
  after_reads_simp
  rfl

/-- What `hostOps0_18` writes. -/
abbrev t_W_hostOps0_18 : List (Ref sig .tc) := [main_call10_v0, main_call10_v1_0, main_v237]

/-- It leaves the other buffers. -/
theorem keep_hostOps0_18 (V : Valuation τ sig (Elt Ideal)) (r : Ref sig .tc) (h : r ∉ t_W_hostOps0_18) :
    StableHlo.after hostOps0_18 V (Proc.devRef .tc r) = V (Proc.devRef .tc r) :=
  StableHlo.after_of_writes_sub _ V (StableHlo.forall_writes_sub_of_map rfl) h

/-- One line's value. -/
def t_v231 (xv230 : IVec S2x2000 32) : IVec S2x1000 32 :=
  (extractStridedSlice S2x1000 ![0, 0] · slices_S2x2000_S2x1000_0_0) xv230

/-- One line's value. -/
def t_c_51 : IVec S_ 32 :=
  constantI S_ 32 0#32

/-- One line's value. -/
def t_v232 : IVec S2x1 32 :=
  broadcastInDim S2x1 ![] bcast_S_S2x1 t_c_51

/-- One line's value. -/
def t_v233 (xv164 : IVec S2x1 32) : IVec S2x1 1 :=
  cmpi .slt xv164 t_v232

/-- One line's value. -/
def t_c_52 : IVec S_ 32 :=
  constantI S_ 32 2#32

/-- One line's value. -/
def t_v234 : IVec S2x1 32 :=
  broadcastInDim S2x1 ![] bcast_S_S2x1 t_c_52

/-- One line's value. -/
def t_v235 (xv164 : IVec S2x1 32) : IVec S2x1 32 :=
  addi xv164 t_v234

/-- One line's value. -/
def t_v236 (xv164 : IVec S2x1 32) : IVec S2x1 32 :=
  select (t_v233 xv164) (t_v235 xv164) xv164

/-- One line's value. -/
def t_c_53 : IVec S_ 32 :=
  constantI S_ 32 0#32

/-- One line's value. -/
def t_v237 : IVec S2x1000 32 :=
  broadcastInDim S2x1000 ![] bcast_S_S2x1000 t_c_53

/-- One line's value. -/
def t_v238 (xv230 : IVec S2x2000 32) : IVec S2x1000 1 :=
  cmpi .slt (t_v231 xv230) t_v237

/-- One line's value. -/
def t_c_54 : IVec S_ 32 :=
  constantI S_ 32 2000#32

/-- One line's value. -/
def t_v239 : IVec S2x1000 32 :=
  broadcastInDim S2x1000 ![] bcast_S_S2x1000 t_c_54

/-- One line's value. -/
def t_v240 (xv230 : IVec S2x2000 32) : IVec S2x1000 32 :=
  addi (t_v231 xv230) t_v239

/-- One line's value. -/
def t_v241 (xv230 : IVec S2x2000 32) : IVec S2x1000 32 :=
  select (t_v238 xv230) (t_v240 xv230) (t_v231 xv230)

/-- One line's value. -/
def t_v242 (xv164 : IVec S2x1 32) : IVec S2x1000 32 :=
  broadcastInDim S2x1000 ![0, 1] bcast_S2x1_S2x1000_0_1 (t_v236 xv164)

/-- One line's value. -/
def t_v243 (xv164 : IVec S2x1 32) : IVec S2x1000x1 32 :=
  broadcastInDim S2x1000x1 ![0, 1] bcast_S2x1000_S2x1000x1_0_1 (t_v242 xv164)

/-- One line's value. -/
def t_v244 (xv230 : IVec S2x2000 32) : IVec S2x1000x1 32 :=
  broadcastInDim S2x1000x1 ![0, 1] bcast_S2x1000_S2x1000x1_0_1 (t_v241 xv230)

/-- One line's value. -/
def t_v245 (xv164 : IVec S2x1 32) (xv230 : IVec S2x2000 32) : IVec S2x1000x2 32 :=
  (fun a b => concatenate S2x1000x2 2 [⟨S2x1000x1, a⟩, ⟨S2x1000x1, b⟩] concatenates_S2x1000x1_S2x1000x1_S2x1000x2_d2) (t_v243 xv164) (t_v244 xv230)

/-- One line's value. -/
def t_v246 (xv228 : FVec Ideal S2x2000 .f32) (xv164 : IVec S2x1 32) (xv230 : IVec S2x2000 32) : FVec Ideal S2x1000 .f32 :=
  (fun x i => Host.gather gather_S2x2000_S2x1000x2_S2x1000_n_01_n_n_01_2_11 x i) xv228 (t_v245 xv164 xv230)

/-- One line's value. -/
def t_v247 (xv228 : FVec Ideal S2x2000 .f32) (xv164 : IVec S2x1 32) (xv230 : IVec S2x2000 32) : FVec Ideal S2x1000 .f32 :=
  Host.absf (t_v246 xv228 xv164 xv230)

/-- One line's value. -/
def t_cst_55 : FVec Ideal S_ .f32 :=
  constant (F := Ideal) S_ .f32 0x7F800000#32

/-- One line's value. -/
def t_v248 : FVec Ideal S2x1000 .f32 :=
  broadcastInDim S2x1000 ![] bcast_S_S2x1000 t_cst_55

/-- One line's value. -/
def t_v249 (xv228 : FVec Ideal S2x2000 .f32) (xv164 : IVec S2x1 32) (xv230 : IVec S2x2000 32) : IVec S2x1000 1 :=
  cmpf .olt (t_v247 xv228 xv164 xv230) t_v248

/-- One line's value. -/
def t_v250 (xv228 : FVec Ideal S2x2000 .f32) (xv164 : IVec S2x1 32) (xv230 : IVec S2x2000 32) : IVec S2x1000x1 1 :=
  broadcastInDim S2x1000x1 ![0, 1] bcast_S2x1000_S2x1000x1_0_1 (t_v249 xv228 xv164 xv230)

/-- One line's value. -/
def t_c_56 : IVec S_ 32 :=
  constantI S_ 32 0#32

/-- One line's value. -/
def t_v251 : IVec S2x1 32 :=
  broadcastInDim S2x1 ![] bcast_S_S2x1 t_c_56

/-- One line's value. -/
def t_v252 (xv164 : IVec S2x1 32) : IVec S2x1 1 :=
  cmpi .slt xv164 t_v251

/-- One line's value. -/
def t_c_57 : IVec S_ 32 :=
  constantI S_ 32 2#32

/-- One line's value. -/
def t_v253 : IVec S2x1 32 :=
  broadcastInDim S2x1 ![] bcast_S_S2x1 t_c_57

/-- One line's value. -/
def t_v254 (xv164 : IVec S2x1 32) : IVec S2x1 32 :=
  addi xv164 t_v253

/-- One line's value. -/
def t_v255 (xv164 : IVec S2x1 32) : IVec S2x1 32 :=
  select (t_v252 xv164) (t_v254 xv164) xv164

/-- One line's value. -/
def t_c_58 : IVec S_ 32 :=
  constantI S_ 32 0#32

/-- One line's value. -/
def t_v256 : IVec S2x1000 32 :=
  broadcastInDim S2x1000 ![] bcast_S_S2x1000 t_c_58

/-- One line's value. -/
def t_v257 (xv230 : IVec S2x2000 32) : IVec S2x1000 1 :=
  cmpi .slt (t_v231 xv230) t_v256

/-- One line's value. -/
def t_c_59 : IVec S_ 32 :=
  constantI S_ 32 2000#32

/-- One line's value. -/
def t_v258 : IVec S2x1000 32 :=
  broadcastInDim S2x1000 ![] bcast_S_S2x1000 t_c_59

/-- One line's value. -/
def t_v259 (xv230 : IVec S2x2000 32) : IVec S2x1000 32 :=
  addi (t_v231 xv230) t_v258

/-- One line's value. -/
def t_v260 (xv230 : IVec S2x2000 32) : IVec S2x1000 32 :=
  select (t_v257 xv230) (t_v259 xv230) (t_v231 xv230)

/-- One line's value. -/
def t_v261 (xv164 : IVec S2x1 32) : IVec S2x1000 32 :=
  broadcastInDim S2x1000 ![0, 1] bcast_S2x1_S2x1000_0_1 (t_v255 xv164)

/-- One line's value. -/
def t_v262 (xv164 : IVec S2x1 32) : IVec S2x1000x1 32 :=
  broadcastInDim S2x1000x1 ![0, 1] bcast_S2x1000_S2x1000x1_0_1 (t_v261 xv164)

/-- One line's value. -/
def t_v263 (xv230 : IVec S2x2000 32) : IVec S2x1000x1 32 :=
  broadcastInDim S2x1000x1 ![0, 1] bcast_S2x1000_S2x1000x1_0_1 (t_v260 xv230)

/-- One line's value. -/
def t_v264 (xv164 : IVec S2x1 32) (xv230 : IVec S2x2000 32) : IVec S2x1000x2 32 :=
  (fun a b => concatenate S2x1000x2 2 [⟨S2x1000x1, a⟩, ⟨S2x1000x1, b⟩] concatenates_S2x1000x1_S2x1000x1_S2x1000x2_d2) (t_v262 xv164) (t_v263 xv230)

/-- One line's value. -/
def t_v265 (xv209 : FVec Ideal S2x2000x4 .f32) (xv164 : IVec S2x1 32) (xv230 : IVec S2x2000 32) : FVec Ideal S2x1000x4 .f32 :=
  (fun x i => Host.gather gather_S2x2000x4_S2x1000x2_S2x1000x4_2_01_n_n_01_2_114 x i) xv209 (t_v264 xv164 xv230)

/-- One line's value. -/
def t_cst_60 : FVec Ideal S_ .f32 :=
  constant (F := Ideal) S_ .f32 0x00000000#32

/-- What the stretch leaves in `main_v257`. -/
theorem read_v250 (V : Valuation τ sig (Elt Ideal)) :
    StableHlo.after hostOps0_19 V (Proc.devRef .tc main_v257) = t_v250 (V (Proc.devRef .tc main_v235)) (V (Proc.devRef .tc main_v171)) (V (Proc.devRef .tc main_v237)) := by
  after_reads_simp
  rfl

/-- What the stretch leaves in `main_v272`. -/
theorem read_v265 (V : Valuation τ sig (Elt Ideal)) :
    StableHlo.after hostOps0_19 V (Proc.devRef .tc main_v272) = t_v265 (V (Proc.devRef .tc main_v216)) (V (Proc.devRef .tc main_v171)) (V (Proc.devRef .tc main_v237)) := by
  after_reads_simp
  rfl

/-- What the stretch leaves in `main_cst_64`. -/
theorem read_cst_60 (V : Valuation τ sig (Elt Ideal)) :
    StableHlo.after hostOps0_19 V (Proc.devRef .tc main_cst_64) = t_cst_60  := by
  after_reads_simp
  rfl

/-- What `hostOps0_19` writes. -/
abbrev t_W_hostOps0_19 : List (Ref sig .tc) := [main_v238, main_c_55, main_v239, main_v240, main_c_56, main_v241, main_v242, main_v243, main_c_57, main_v244, main_v245, main_c_58, main_v246, main_v247, main_v248, main_v249, main_v250, main_v251, main_v252, main_v253, main_v254, main_cst_59, main_v255, main_v256, main_v257, main_c_60, main_v258, main_v259, main_c_61, main_v260, main_v261, main_v262, main_c_62, main_v263, main_v264, main_c_63, main_v265, main_v266, main_v267, main_v268, main_v269, main_v270, main_v271, main_v272, main_cst_64]

/-- One line's value. -/
def t_call11_v0 (xcst_60 : FVec Ideal S_ .f32) : FVec Ideal S_ .f32 :=
  id xcst_60

/-- One line's value. -/
def t_call11_v1 (xv250 : IVec S2x1000x1 1) : IVec S2x1000x4 1 :=
  (broadcastInDim S2x1000x4 ![0, 1, 2] bcast_S2x1000x1_S2x1000x4_0_1_2) xv250

/-- One line's value. -/
def t_call11_v2 (xcst_60 : FVec Ideal S_ .f32) : FVec Ideal S2x1000x4 .f32 :=
  (broadcastInDim S2x1000x4 ![] bcast_S_S2x1000x4) (t_call11_v0 xcst_60)

/-- One line's value. -/
def t_v266 (xv250 : IVec S2x1000x1 1) (xv265 : FVec Ideal S2x1000x4 .f32) (xcst_60 : FVec Ideal S_ .f32) : FVec Ideal S2x1000x4 .f32 :=
  select (t_call11_v1 xv250) xv265 (t_call11_v2 xcst_60)

/-- What the stretch leaves in `main_v273`. -/
theorem read_v266 (V : Valuation τ sig (Elt Ideal)) :
    StableHlo.after hostOps0_20 V (Proc.devRef .tc main_v273) = t_v266 (V (Proc.devRef .tc main_v257)) (V (Proc.devRef .tc main_v272)) (V (Proc.devRef .tc main_cst_64)) := by
  after_reads_simp
  rfl

/-- What `hostOps0_20` writes. -/
abbrev t_W_hostOps0_20 : List (Ref sig .tc) := [main_call11_v0, main_call11_v1, main_call11_v2, main_v273]
-- ==== Proof.Lists.lean ====
/- The two programs' lists of candidates are lists of the same places. -/
module

public import proofs.«01_k».proof.Proof.Order
public import proofs.«01_k».proof.Proof.SelMain
public import proofs.«01_k».proof.Proof.KKept
public import proofs.«01_k».proof.Proof.RRead

@[expose] public section

set_option maxRecDepth 16384

noncomputable section

namespace Cert.Proof.Order

open Cert.Proof.Greedy Cert.Proof.Cand Cert.Proof.SelRef Cert.Proof.Select
open Idealize.ShloMosaic Idealize.ShloMosaic.WordCmp

/-- Equal entries come in order of place along the listing. -/
theorem listing_ties {N : ℕ} (x : Fin N → EReal) (i j : Fin N) (h : i < j) (he : x (listing x i) = x (listing x j)) : listing x i < listing x j := by
  have hb : ∀ k k', (FloatOps.cmpfTotal (F := Ideal) (φ := .f32) .gt (x k) (x k') == 1#1) = decide (-(x k) < -(x k')) := fun k k' => by
    have : FloatOps.cmpfTotal (F := Ideal) (φ := .f32) .gt (x k) (x k') = BitVec.ofBool (decide (x k' < x k)) := rfl
    rw [this, Cert.Proof.Gath.beq_ofBool]
    exact decide_eq_decide.mpr EReal.neg_lt_neg_iff.symm
  rcases Greedy.sortedFrom_order (fun k => -(x k)) _ hb i j h with h1 | h1
  · exact absurd (EReal.neg_lt_neg_iff.mp h1) (by unfold listing at he; rw [he]; exact lt_irrefl _)
  · exact h1.2

/-- A level's first places, its largest entry first, are a list of the selected ones. -/
theorem down_good {N K : ℕ} (x : Fin N → EReal) (hK : K ≤ N) : Good x (Sel K (listing x)) fun p : Fin K => listing x ⟨p.val, by omega⟩ :=
  ⟨fun p q h => Fin.ext (Fin.mk.inj_iff.mp (listing_inj x h)),
    fun i => ⟨fun ⟨j, hj, e⟩ => ⟨⟨j.val, hj⟩, e⟩, fun ⟨p, e⟩ => ⟨⟨p.val, by omega⟩, p.isLt, e⟩⟩,
    fun i j h he => listing_ties x ⟨i.val, by omega⟩ ⟨j.val, by omega⟩ h he⟩

/-- A level's selected places in increasing order are a list of the selected ones. -/
theorem up_good {N K : ℕ} (x : Fin N → EReal) (f : Fin K → Fin N) (hf : StrictMono f) (h : ∀ i, Sel K (listing x) i ↔ ∃ j, f j = i) : Good x (Sel K (listing x)) f :=
  ⟨hf.injective, h, fun i j hij _ => hf hij⟩

section Row
variable (X : FVec Ideal ⟨2, ![2, 200000]⟩ .f32) (b : Fin 2)

/-- Level 0's entries. -/
def row0 (i : Fin 160000) : EReal := X (ix2 b ⟨i.val, by omega⟩)

/-- Level 1's entries. -/
def row1 (i : Fin 40000) : EReal := X (ix2 b ⟨160000 + i.val, by omega⟩)

/-- Cutting out level 0. -/
theorem slice0 (h : (⟨2, ![2, 200000]⟩ : Shape).Slices ![0, 0] ⟨2, ![2, 160000]⟩) :
    (fun i => extractStridedSlice ⟨2, ![2, 160000]⟩ ![0, 0] X h (ix2 b i)) = row0 X b := by
  funext i
  unfold row0
  pointwise []

/-- Cutting out level 1. -/
theorem slice1 (h : (⟨2, ![2, 200000]⟩ : Shape).Slices ![0, 160000] ⟨2, ![2, 40000]⟩) :
    (fun i => extractStridedSlice ⟨2, ![2, 40000]⟩ ![0, 160000] X h (ix2 b i)) = row1 X b := by
  funext i
  unfold row1
  pointwise []

/-- The places both levels select. -/
def both (i : Fin 200000) : Prop :=
  (∃ h : i.val < 160000, Sel 1000 (listing (row0 X b)) ⟨i.val, h⟩) ∨ ∃ h : 160000 ≤ i.val, Sel 1000 (listing (row1 X b)) ⟨i.val - 160000, by omega⟩

variable {X b}

/-- Two levels' lists, the second's shifted, list those places. -/
theorem lists {A B : IVec ⟨2, ![2, 1000]⟩ 32} {g0 : Fin 1000 → Fin 160000} {g1 : Fin 1000 → Fin 40000}
    (h0 : Good (row0 X b) (Sel 1000 (listing (row0 X b))) g0) (h1 : Good (row1 X b) (Sel 1000 (listing (row1 X b))) g1)
    (hA : ∀ k, A (ix2 b k) = BitVec.ofNat 32 (g0 k).val) (hB : ∀ k, B (ix2 b k) = IntOp.addi (BitVec.ofNat 32 (g1 k).val) 160000#32)
    (hc : Shape.Concatenates [⟨2, ![2, 1000]⟩, ⟨2, ![2, 1000]⟩] ⟨2, ![2, 2000]⟩ 1) :
    Lists (fun i => X (ix2 b i)) (both X b) fun k => concatenate ⟨2, ![2, 2000]⟩ 1 [⟨⟨2, ![2, 1000]⟩, A⟩, ⟨⟨2, ![2, 1000]⟩, B⟩] hc (ix2 b k) := by
  let g : Fin 2000 → Fin 200000 := fun k => if h : k.val < 1000 then ⟨(g0 ⟨k.val, h⟩).val, by omega⟩ else ⟨160000 + (g1 ⟨k.val - 1000, by omega⟩).val, by omega⟩
  have e0 : ∀ k : Fin 1000, (g ⟨k.val, by omega⟩).val = (g0 k).val := fun k => by
    show Fin.val (if h : k.val < 1000 then _ else _) = _
    rw [dif_pos k.isLt]
  have e1 : ∀ k : Fin 1000, (g ⟨1000 + k.val, by omega⟩).val = 160000 + (g1 k).val := fun k => by
    show Fin.val (if h : 1000 + k.val < 1000 then _ else _) = _
    rw [dif_neg (by omega)]
    show 160000 + (g1 ⟨1000 + k.val - 1000, _⟩).val = _
    congr 3
    exact Fin.ext (by show 1000 + k.val - 1000 = k.val; omega)
  refine ⟨g, Good.append (N1 := 160000) (N2 := 40000) (K1 := 1000) (by norm_num) (by norm_num) h0 h1 e0 e1, fun k => ?_⟩
  have r0 : ∀ k : Fin 1000, concatenate ⟨2, ![2, 2000]⟩ 1 [⟨⟨2, ![2, 1000]⟩, A⟩, ⟨⟨2, ![2, 1000]⟩, B⟩] hc (ix2 b ⟨k.val, by omega⟩) = A (ix2 b k) := fun k => by
    pointwise []
  have r1 : ∀ k : Fin 1000, concatenate ⟨2, ![2, 2000]⟩ 1 [⟨⟨2, ![2, 1000]⟩, A⟩, ⟨⟨2, ![2, 1000]⟩, B⟩] hc (ix2 b ⟨1000 + k.val, by omega⟩) = B (ix2 b k) := fun k => by
    pointwise []
  have r2 : ∀ a : Fin 1000, concatenate ⟨2, ![2, 2000]⟩ 1 [⟨⟨2, ![2, 1000]⟩, A⟩, ⟨⟨2, ![2, 1000]⟩, B⟩] hc (ix2 b ⟨1000 + a.val, by omega⟩) = BitVec.ofNat 32 (g ⟨1000 + a.val, by omega⟩).val := fun a => by
    rw [r1, hB, e1]
    have := (g1 a).isLt
    refine BitVec.eq_of_toNat_eq ?_
    show (BitVec.ofNat 32 (g1 a).val + 160000#32).toNat = _
    rw [BitVec.toNat_add, BitVec.toNat_ofNat, BitVec.toNat_ofNat, BitVec.toNat_ofNat]
    omega
  by_cases hk : k.val < 1000
  · exact (r0 ⟨k.val, hk⟩).trans ((hA _).trans (congrArg (BitVec.ofNat 32) (e0 ⟨k.val, hk⟩).symm))
  · have h3 := r2 ⟨k.val - 1000, by omega⟩
    have h4 : (⟨1000 + (k.val - 1000), by omega⟩ : Fin 2000) = k := Fin.ext (by show 1000 + (k.val - 1000) = k.val; omega)
    dsimp only at h3
    rwa [h4] at h3

end Row

/-- Every selected entry reaches the lowest score that a stand-in may have. -/
theorem sel_low {N : ℕ} (x : Fin N → EReal) (hN : 1000 < N) (h : Cert.Proof.SelPre.Alone x hN) (i : Fin N) (hi : Sel 1000 (listing x) i) : ((-10000 : ℝ) : EReal) ≤ x i := by
  obtain ⟨j, hj, rfl⟩ := hi
  refine h.low.trans ?_
  rcases lt_or_eq_of_le (show j ≤ ⟨999, by omega⟩ from Fin.le_def.mpr (by show j.val ≤ 999; omega)) with h1 | h1
  · exact listing_down x _ _ h1
  · rw [h1]

attribute [local instance] Cert.KernelIdeal.Gen.facts Cert.ReferenceIdeal.Gen.facts Cert.Proof.SelPre.facts

/-- A shift adds its word. -/
theorem shift_at (Y : IVec ⟨2, ![2, 1000]⟩ 32) (w : BitVec 32) (h : (⟨0, ![]⟩ : Shape).BroadcastsInDim ⟨2, ![2, 1000]⟩ ![]) (b : Fin 2) (k : Fin 1000) :
    (addi Y (broadcastInDim ⟨2, ![2, 1000]⟩ ![] h (constantI ⟨0, ![]⟩ 32 w)) : IVec ⟨2, ![2, 1000]⟩ 32) (ix2 b k) = IntOp.addi (Y (ix2 b k)) w := rfl

/-- The first thousand places of a level, its largest entry first. -/
theorem level_at {N : ℕ} (Y : FVec Ideal ⟨2, ![2, N]⟩ .f32) (hs : (⟨2, ![2, N]⟩ : Shape).Slices (fun _ => 0) ⟨2, ![2, 1000]⟩) (hN : 1000 ≤ N) (x : Fin N → EReal) (b : Fin 2) (hx : (fun i => Y (ix2 b i)) = x) (k : Fin 1000) :
    (Host.topK ⟨2, ![2, 1000]⟩ 1 (FloatOps.cmpfTotal (F := Ideal) (φ := .f32) .gt) Y hs).2 (ix2 b k) = BitVec.ofNat 32 (listing x ⟨k.val, by omega⟩).val := by
  subst hx
  exact topIdx_at Y hs hN b k

/-- A shift by nothing. -/
theorem shift_none (w : BitVec 32) : IntOp.addi w 0#32 = w := BitVec.add_zero w

/-- Level 0 has enough entries. -/
theorem k0 : 1000 ≤ 160000 := by norm_num

/-- Level 1 has enough entries. -/
theorem k1 : 1000 ≤ 40000 := by norm_num

/-- Level 0's places, its largest entry first. -/
def down0 (X : FVec Ideal ⟨2, ![2, 200000]⟩ .f32) (b : Fin 2) (p : Fin 1000) : Fin 160000 := listing (row0 X b) ⟨p.val, lt_of_lt_of_le p.isLt k0⟩

/-- Level 1's places, its largest entry first. -/
def down1 (X : FVec Ideal ⟨2, ![2, 200000]⟩ .f32) (b : Fin 2) (p : Fin 1000) : Fin 40000 := listing (row1 X b) ⟨p.val, lt_of_lt_of_le p.isLt k1⟩

/-- They list level 0's selected places. -/
theorem down0_good (X : FVec Ideal ⟨2, ![2, 200000]⟩ .f32) (b : Fin 2) : Good (row0 X b) (Sel 1000 (listing (row0 X b))) (down0 X b) := down_good (row0 X b) k0

/-- They list level 1's selected places. -/
theorem down1_good (X : FVec Ideal ⟨2, ![2, 200000]⟩ .f32) (b : Fin 2) : Good (row1 X b) (Sel 1000 (listing (row1 X b))) (down1 X b) := down_good (row1 X b) k1

/-- Two levels' listings, shifted, list the places both levels select. -/
theorem two_lists (X : FVec Ideal ⟨2, ![2, 200000]⟩ .f32) (b : Fin 2) (Z0 Z1 : IVec ⟨2, ![2, 1000]⟩ 32) (h : (⟨0, ![]⟩ : Shape).BroadcastsInDim ⟨2, ![2, 1000]⟩ ![])
    (hc : Shape.Concatenates [⟨2, ![2, 1000]⟩, ⟨2, ![2, 1000]⟩] ⟨2, ![2, 2000]⟩ 1)
    (q0 : ∀ k : Fin 1000, Z0 (ix2 b k) = BitVec.ofNat 32 (down0 X b k).val)
    (q1 : ∀ k : Fin 1000, Z1 (ix2 b k) = BitVec.ofNat 32 (down1 X b k).val) :
    Lists (fun i => X (ix2 b i)) (both X b) fun k => concatenate ⟨2, ![2, 2000]⟩ 1 [⟨⟨2, ![2, 1000]⟩, (addi Z0 (broadcastInDim ⟨2, ![2, 1000]⟩ ![] h (constantI ⟨0, ![]⟩ 32 0#32)) : IVec ⟨2, ![2, 1000]⟩ 32)⟩,
      ⟨⟨2, ![2, 1000]⟩, (addi Z1 (broadcastInDim ⟨2, ![2, 1000]⟩ ![] h (constantI ⟨0, ![]⟩ 32 160000#32)) : IVec ⟨2, ![2, 1000]⟩ 32)⟩] hc (ix2 b k) :=
  lists (g0 := down0 X b) (g1 := down1 X b) (down0_good X b) (down1_good X b)
    (fun k => by rw [shift_at, shift_none, q0]) (fun k => by rw [shift_at, q1]) hc

open Cert.Proof.ReferenceIdeal Cert.ReferenceIdeal Cert.ReferenceIdeal.Gen in
/-- The reference's list. -/
theorem lists_ref (X : FVec Ideal S2x200000 .f32) (b : Fin 2) : Lists (fun i => X (ix2 b i)) (both X b) fun k => topI X (ix2 b k) := by
  have q0 := level_at _ sliceFits_S2x160000_S2x1000 k0 (row0 X b) b (slice0 X b slices_S2x200000_S2x160000_0_0)
  have q1 := level_at _ sliceFits_S2x40000_S2x1000 k1 (row1 X b) b (slice1 X b slices_S2x200000_S2x40000_0_160000)
  unfold topI listed
  generalize (Host.topK S2x1000 1 (FloatOps.cmpfTotal (F := Ideal) (φ := .f32) .gt) (extractStridedSlice S2x160000 ![0, 0] X slices_S2x200000_S2x160000_0_0) sliceFits_S2x160000_S2x1000).2 = Z0 at q0 ⊢
  generalize (Host.topK S2x1000 1 (FloatOps.cmpfTotal (F := Ideal) (φ := .f32) .gt) (extractStridedSlice S2x40000 ![0, 160000] X slices_S2x200000_S2x40000_0_160000) sliceFits_S2x40000_S2x1000).2 = Z1 at q1 ⊢
  exact two_lists X b Z0 Z1 bcast_S_S2x1000 concatenates_S2x1000_S2x1000_S2x2000_d1 q0 q1

end Cert.Proof.Order

namespace Cert.Proof.KernelIdeal

open Cert.KernelIdeal Cert.KernelIdeal.Gen Cert.Proof.Cand Cert.Proof.Order Cert.Proof.SelRef Cert.Proof.Select
open Idealize.ShloMosaic Idealize.ShloMosaic.TcCoe Idealize.SL.Sem

attribute [local instance] Cert.KernelIdeal.Gen.facts Cert.Proof.SelPre.facts

variable (m : (ℓ : Loc nD τ sig) → Buf (Elt Ideal) ℓ)

/-- What the lines after the lists' making do not write stays. -/
theorem W0_of (c : Dev nD) (r : Ref sig .tc) (h : r ∉ t_W_tailOps) : W0 m c (Proc.devRef .tc r) = V21 m (outs m) c (Proc.devRef .tc r) := by
  show _ = StableHlo.after hostOps2_6 (V20 m (outs m) c) (Proc.devRef .tc r)
  rw [cut]
  exact (keep_tailOps _ r h).symm

/-- The arguments reach the tail unchanged. -/
theorem W0_arg (c : Dev nD) : aO (W0 m c) = m (c, Proc.devRef .tc main_arg0) ∧ aD (W0 m c) = m (c, Proc.devRef .tc main_arg1) ∧ aA (W0 m c) = m (c, Proc.devRef .tc main_arg2) :=
  ⟨(W0_of m c main_arg0 (by decide)).trans ((V21_of m (outs m) c main_arg0 (by decide)).trans ((Pick.args20 m c main_arg0 (by decide)).trans (Pick.args10 m c main_arg0 (by decide)))),
    (W0_of m c main_arg1 (by decide)).trans ((V21_of m (outs m) c main_arg1 (by decide)).trans ((Pick.args20 m c main_arg1 (by decide)).trans (Pick.args10 m c main_arg1 (by decide)))),
    (W0_of m c main_arg2 (by decide)).trans ((V21_of m (outs m) c main_arg2 (by decide)).trans ((Pick.args20 m c main_arg2 (by decide)).trans (Pick.args10 m c main_arg2 (by decide))))⟩

/-- The kernel's list. -/
theorem lists_ker (hp : Pre_KernelIdeal_kth_stands_alone m) (c : Dev nD) (b : Fin 2) :
    Lists (fun i => aO (W0 m c) (ix2 b i)) (both (aO (W0 m c)) b) fun k => aT (W0 m c) (ix2 b k) := by
  have hT : aT (W0 m c) = concatenate S2x2000 1 [⟨S2x1000, V20 m (outs m) c (Proc.devRef .tc main_v46)⟩,
      ⟨S2x1000, (addi (V21 m (outs m) c (Proc.devRef .tc main_v93) : IVec S2x1000 32) (broadcastInDim S2x1000 ![] bcast_S_S2x1000 (constantI S_ 32 160000#32)) : IVec S2x1000 32)⟩]
      concatenates_S2x1000_S2x1000_S2x2000_d1 := (W0_of m c main_v96 (by decide)).trans (Pick.last_read (V20 m (outs m) c))
  rw [hT, Pick.kept, Pick.sel0 m hp c (by decide), Pick.sel1 m hp c (by decide), (W0_arg m c).1]
  obtain ⟨f0, hm0, hs0, hv0⟩ := ref_at (Pick.seg0 m c) (K := 1000) (by decide) (by norm_num) (by norm_num) b
  obtain ⟨f1, hm1, hs1, hv1⟩ := ref_at (Pick.seg1 m c) (K := 1000) (by decide) (by norm_num) (by norm_num) b
  have r0 : (fun i => Pick.seg0 m c (ix2 b i)) = row0 (m (c, Proc.devRef .tc main_arg0)) b := slice0 _ b _
  have r1 : (fun i => Pick.seg1 m c (ix2 b i)) = row1 (m (c, Proc.devRef .tc main_arg0)) b := slice1 _ b _
  rw [r0] at hs0
  rw [r1] at hs1
  refine lists (up_good _ f0 hm0 hs0) (up_good _ f1 hm1 hs1) hv0 (fun k => ?_) _
  rw [← hv1 k]
  generalize Host.sort _ _ _ _ = Y
  rfl

/-- The listed candidates' scores. -/
theorem low (hp : Pre_KernelIdeal_kth_stands_alone m) (c : Dev nD) (b : Fin 2) (k : ℕ) (hk : k < 2000) : lit 0xF149F2CA#32 ≤ ob (aO (W0 m c)) (aT (W0 m c)) b k := by
  have hS := (lists_ker m hp c b).mem k hk
  unfold ob
  rw [if_pos hk]
  generalize tix (aT (W0 m c)) b k = i at hS ⊢
  rw [(W0_arg m c).1] at hS ⊢
  have hA := Cert.Proof.SelPre.alone _ _ _ (hp c) b
  refine Cert.Proof.SelBody.pad_lit.le.trans ?_
  rcases hS with ⟨h, hS⟩ | ⟨h, hS⟩
  · have h1 := hA.1
    rw [slice0] at h1
    exact sel_low _ _ h1 _ hS
  · have h1 := hA.2
    rw [slice1] at h1
    have h2 := sel_low _ _ h1 _ hS
    unfold row1 at h2
    rwa [show (⟨160000 + (i.val - 160000), by omega⟩ : Fin 200000) = i from Fin.ext (by show 160000 + (i.val - 160000) = i.val; omega)] at h2

end Cert.Proof.KernelIdeal
-- ==== Proof.KSuf.lean ====
/- The kernel's lines after the launch: each kept position's box goes to the row its rank names. -/
module

public import proofs.«01_k».proof.Proof.KHost
public import proofs.«01_k».proof.Proof.KChain
public import proofs.«01_k».proof.Proof.Suf

@[expose] public section

set_option maxRecDepth 16384

noncomputable section

namespace Cert.Proof.KernelIdeal

open Cert.KernelIdeal Cert.KernelIdeal.Gen Cert.Proof.Cand Cert.Proof.Gath Cert.Proof.Greedy
open Idealize.ShloMosaic Idealize.ShloMosaic.TcCoe Idealize.SL.Sem Idealize.ShloMosaic.WordCmp

/-- The boxes as rows: row `p` holds the four coordinates of place `p`. -/
theorem box62 (x : FVec Ideal S2x4x16x128 .f32) (b : Fin 2) (p : Fin 2048) (j : Fin 4) :
    t_v62 x (ix3 b p j) = x (ix4 b j (prow p) (plane p)) := by
  pointwise [t_v62, t_v61]

/-- The kept bit of a place: its mask entry exceeds a half. -/
theorem bit65 (x : FVec Ideal S2x16x128 .f32) (b : Fin 2) (p : Fin 2048) :
    t_v65 x (ix2 b p) = BitVec.ofBool (decide (lit 0x3F000000#32 < x (ix3 b (prow p) (plane p)))) := by
  pointwise [t_v65, t_v64, t_v63, t_cst_13]

/-- The kept bit as an integer word. -/
theorem word66 (x : FVec Ideal S2x16x128 .f32) (b : Fin 2) (p : Fin 2048) :
    t_v66 x (ix2 b p) = (t_v65 x (ix2 b p)).setWidth 32 := by
  unfold t_v66
  pointwise []

/-- The running sum of the kept bits counts the kept places up to each place. -/
theorem count67 (x : IVec S2x2048 32) (b : Fin 2) (P : Fin 2048 → Prop) [DecidablePred P] (hx : ∀ i, x (ix2 b i) = BitVec.ofNat 32 (if P i then 1 else 0)) (p : Fin 2048) :
    t_v67 x (ix2 b p) = BitVec.ofNat 32 (Finset.univ.filter fun i : Fin 2048 => P i ∧ i ≤ p).card := by
  unfold t_v67
  exact count_row 2047 rfl x _ rfl _ (by decide) _ b P hx p

/-- A place's rank is its count less one. -/
theorem word69 (x : IVec S2x2048 32) (b : Fin 2) (p : Fin 2048) : t_v69 x (ix2 b p) = x (ix2 b p) - 1#32 := by
  pointwise [t_v69, t_v68, t_c_14]
  rfl

/-- A place gets a row when it is kept and its rank is below 1000. -/
theorem bit72 (y : IVec S2x2048 1) (x : IVec S2x2048 32) (b : Fin 2) (p : Fin 2048) :
    t_v72 y x (ix2 b p) = IntOp.andi (y (ix2 b p)) (IntOp.cmpi CmpIPredicate.slt (x (ix2 b p) - 1#32) 1000#32) := by
  pointwise [t_v72, t_v71, t_v70, t_c_15, t_v69, t_v68, t_c_14]
  rfl

/-- A place's row: its rank if it gets one, and 1000 if it does not. -/
theorem word73 (y : IVec S2x2048 1) (x : IVec S2x2048 32) (b : Fin 2) (p : Fin 2048) :
    t_v73 y x t_c_16 (ix2 b p) = Scalar.select (y (ix2 b p)) (x (ix2 b p)) 1000#32 := by
  pointwise [t_v73, t_call10_v1, t_call10_v0, t_c_16]
  rfl

/-- The scatter's target of a place is its image's number and its row. -/
theorem start88 (x1 : IVec S2x1 32) (x73 : IVec S2x2048 32) (b : Fin 2) (p : Fin 2048) (n : ℕ) (hn : n < 2 ^ 31)
    (h1 : x1 (ix2 b 0) = BitVec.ofNat 32 b.val) (h : x73 (ix2 b p) = BitVec.ofNat 32 n) :
    t_v88 x1 x73 (ix3 b p 0) = BitVec.ofNat 32 b.val ∧ t_v88 x1 x73 (ix3 b p 1) = BitVec.ofNat 32 n := by
  have hb : b.val < 2 ^ 31 := by omega
  constructor
  · pointwise [t_v88, t_v87, t_v86, t_v85, t_v84, t_v83, t_v82, t_v81, t_v80, t_v79, t_v78, t_v77, t_v76, t_v75, t_c_18, t_c_19, t_c_20, t_c_21]
    rw [h1]; exact wrap_at hb _
  · pointwise [t_v88, t_v87, t_v86, t_v85, t_v84, t_v83, t_v82, t_v81, t_v80, t_v79, t_v78, t_v77, t_v76, t_v75, t_c_18, t_c_19, t_c_20, t_c_21]
    rw [h]; exact wrap_at hn _

/-- A position's rank among the set positions. -/
def rnk (P : Fin 2048 → Prop) [DecidablePred P] (p : Fin 2048) : ℕ := (Finset.univ.filter fun q : Fin 2048 => P q ∧ q < p).card

/-- A rank is at most the number of places. -/
theorem rnk_le (P : Fin 2048 → Prop) [DecidablePred P] (p : Fin 2048) : rnk P p ≤ 2048 := by
  refine (Finset.card_le_univ _).trans ?_
  simp

/-- The count up to a kept place, itself included, is its rank plus one. -/
theorem rnk_succ (P : Fin 2048 → Prop) [DecidablePred P] (p : Fin 2048) (hp : P p) :
    (Finset.univ.filter fun q : Fin 2048 => P q ∧ q ≤ p).card = rnk P p + 1 := by
  have : (Finset.univ.filter fun q : Fin 2048 => P q ∧ q ≤ p) = insert p (Finset.univ.filter fun q : Fin 2048 => P q ∧ q < p) := by
    ext q
    simp only [Finset.mem_filter, Finset.mem_univ, true_and, Finset.mem_insert]
    constructor
    · rintro ⟨h, hl⟩
      rcases lt_or_eq_of_le hl with h1 | h1
      · exact Or.inr ⟨h, h1⟩
      · exact Or.inl h1
    · rintro (rfl | ⟨h, hl⟩)
      · exact ⟨hp, le_rfl⟩
      · exact ⟨h, hl.le⟩
  rw [this, Finset.card_insert_of_notMem (by simp)]
  rfl

/-- Ranks grow from a kept place to any later one. -/
theorem rnk_lt (P : Fin 2048 → Prop) [DecidablePred P] (p q : Fin 2048) (hp : P p) (h : p < q) : rnk P p < rnk P q := by
  have : rnk P p + 1 ≤ rnk P q := by
    rw [← rnk_succ P p hp]
    refine Finset.card_le_card fun x hx => ?_
    simp only [Finset.mem_filter, Finset.mem_univ, true_and] at hx ⊢
    exact ⟨hx.1, lt_of_le_of_lt hx.2 h⟩
  omega

/-- Two kept places of one rank are the same place. -/
theorem rnk_inj (P : Fin 2048 → Prop) [DecidablePred P] (p q : Fin 2048) (hp : P p) (hq : P q) (h : rnk P p = rnk P q) : p = q := by
  rcases lt_trichotomy p q with h1 | h1 | h1
  · exact absurd h (rnk_lt P p q hp h1).ne
  · exact h1
  · exact absurd h (rnk_lt P q p hq h1).ne'

section

variable (x1 : IVec S2x1 32) (M : FVec Ideal S2x16x128 .f32) (B : FVec Ideal S2x4x16x128 .f32)

/-- The row word of every position. -/
def rowWord : IVec S2x2048 32 := t_v73 (t_v72 (t_v65 M) (t_v67 (t_v66 M))) (t_v69 (t_v67 (t_v66 M))) t_c_16

/-- The row of a place, as a word: its rank among the kept ones if that is below 1000, else 1000. -/
theorem rowWord_at (b : Fin 2) (P : Fin 2048 → Prop) [DecidablePred P]
    (hM : ∀ p, t_v65 M (ix2 b p) = BitVec.ofBool (decide (P p))) (p : Fin 2048) :
    rowWord M (ix2 b p) = BitVec.ofNat 32 (if P p ∧ rnk P p < 1000 then rnk P p else 1000) := by
  have hc : ∀ i, t_v66 M (ix2 b i) = BitVec.ofNat 32 (if P i then 1 else 0) := fun i => by
    rw [word66, hM]
    by_cases h : P i
    · rw [decide_eq_true h, if_pos h]; rfl
    · rw [decide_eq_false h, if_neg h]; rfl
  unfold rowWord
  rw [word73, bit72, word69, hM, count67 _ b P hc]
  by_cases hp : P p
  · have hw : BitVec.ofNat 32 (Finset.univ.filter fun i : Fin 2048 => P i ∧ i ≤ p).card - 1#32 = BitVec.ofNat 32 (rnk P p) := by
      rw [rnk_succ P p hp]
      rw [BitVec.ofNat_add]
      exact BitVec.add_sub_cancel _ _
    rw [hw, decide_eq_true hp]
    have hr := rnk_le P p
    have hs : IntOp.cmpi CmpIPredicate.slt (BitVec.ofNat 32 (rnk P p)) 1000#32 = BitVec.ofBool (decide (rnk P p < 1000)) := by
      show BitVec.ofBool ((BitVec.ofNat 32 (rnk P p)).slt 1000#32) = _
      rw [BitVec.slt_eq_decide, toInt_ofNat_of_lt (a := rnk P p) (by omega), toInt_ofNat_of_lt (a := 1000) (by omega)]
      simp
    rw [hs]
    by_cases hl : rnk P p < 1000
    · rw [decide_eq_true hl, if_pos ⟨hp, hl⟩]; rfl
    · rw [decide_eq_false hl, if_neg (fun q => hl q.2)]; rfl
  · rw [decide_eq_false hp, if_neg (fun q => hp q.1)]
    have hz : ∀ v : BitVec 1, IntOp.andi (BitVec.ofBool false) v = 0#1 := by decide
    rw [hz]; rfl

/-- The rows the kernel returns. -/
theorem rows90 (h1 : ∀ b : Fin 2, x1 (ix2 b 0) = BitVec.ofNat 32 b.val) (b : Fin 2) (P : Fin 2048 → Prop) [DecidablePred P]
    (hM : ∀ p, t_v65 M (ix2 b p) = BitVec.ofBool (decide (P p))) (hD : ∀ b' : Fin 2, ∀ p, ∃ n : ℕ, n < 2 ^ 31 ∧ rowWord M (ix2 b' p) = BitVec.ofNat 32 n)
    (r : Fin 1000) (j : Fin 4) :
    (∀ p, P p → rnk P p = r.val → t_v90 x1 (rowWord M) (t_v62 B) (ix3 b r j) = B (ix4 b j (prow p) (plane p)))
      ∧ ((∀ p, P p → rnk P p ≠ r.val) → t_v90 x1 (rowWord M) (t_v62 B) (ix3 b r j) = (0 : EReal)) := by
  have e90 : t_v90 x1 (rowWord M) (t_v62 B) (ix3 b r j) = t_v89 x1 (rowWord M) (t_v62 B) (ix3 b ⟨r.val, by omega⟩ j) := by
    unfold t_v90
    generalize t_v89 x1 (rowWord M) (t_v62 B) = Z
    pointwise []
  rw [e90]
  have land : ∀ k : S2x2048x4.Idx, scatter_S2x1001x4_S2x2048x2_S2x2048x4_2_01_01_2.resultIdx? k (t_v88 x1 (rowWord M)) = some (ix3 b ⟨r.val, by omega⟩ j)
      ↔ k 0 = b ∧ (P (k 1) ∧ rnk P (k 1) = r.val) ∧ k 2 = j := by
    intro k
    obtain ⟨kb, kp, kj, rfl⟩ : ∃ (kb : Fin 2) (kp : Fin 2048) (kj : Fin 4), k = ix3 kb kp kj := ⟨k 0, k 1, k 2, by
      funext a
      match a with
      | ⟨0, _⟩ => rfl
      | ⟨1, _⟩ => rfl
      | ⟨2, _⟩ => rfl⟩
    refine (set_lands _ (t_v88 x1 (rowWord M)) kb kp kj b (⟨r.val, by omega⟩ : Fin 1001) j).trans ?_
    obtain ⟨n, hn, hw⟩ := hD kb kp
    obtain ⟨w0, w1⟩ := start88 x1 (rowWord M) kb kp n hn (h1 kb) hw
    rw [w0, w1, toInt_ofNat_of_lt (a := kb.val) (by omega), toInt_ofNat_of_lt (a := n) (by omega)]
    show ((kb.val : ℤ) = b.val ∧ (n : ℤ) = r.val ∧ kj = j) ↔ (kb = b ∧ (P kp ∧ rnk P kp = r.val) ∧ kj = j)
    have hb : ((kb.val : ℤ) = b.val) ↔ kb = b := ⟨fun h => Fin.ext (by omega), fun h => by rw [h]⟩
    rw [hb]
    refine and_congr_right fun hkb => and_congr_left fun _ => ?_
    subst hkb
    have hrw := rowWord_at M kb P hM kp
    rw [hw] at hrw
    have hn2 : n = if P kp ∧ rnk P kp < 1000 then rnk P kp else 1000 := by
      have := congrArg BitVec.toNat hrw
      rw [BitVec.toNat_ofNat, BitVec.toNat_ofNat, Nat.mod_eq_of_lt (by omega), Nat.mod_eq_of_lt (by have := rnk_le P kp; split_ifs <;> omega)] at this
      exact this
    have hrl := r.isLt
    constructor
    · intro h
      have h' : n = r.val := by omega
      rw [hn2] at h'
      split_ifs at h' with hc
      · exact ⟨hc.1, h'⟩
      · omega
    · rintro ⟨hp, hk⟩
      rw [if_pos ⟨hp, by omega⟩] at hn2
      omega
  constructor
  · intro p hp hk
    unfold t_v89
    refine Routing.scatter_set_hit _ _ _ _ _ _ (fun k hk' => ?_) (ix3 b p j) ((land _).mpr ⟨rfl, ⟨hp, hk⟩, rfl⟩)
    obtain ⟨hb, ⟨hP, hR⟩, hj⟩ := (land k).mp hk'
    have hkp : k 1 = p := rnk_inj P _ _ hP hp (hR.trans hk.symm)
    have ek : k = ix3 b p j := by
      funext a
      match a with
      | ⟨0, _⟩ => exact hb
      | ⟨1, _⟩ => exact hkp
      | ⟨2, _⟩ => exact hj
    rw [ek, box62]
  · intro hno
    unfold t_v89
    refine (Routing.scatter_set_miss _ _ _ _ _ fun k hk => ?_).trans ?_
    · obtain ⟨hb, ⟨hP, hR⟩, hj⟩ := (land k).mp hk
      exact hno _ hP hR
    · pointwise [t_v74, t_cst_17]

end

end Cert.Proof.KernelIdeal
-- ==== Proof.KRows.lean ====
/- The kernel's result: the kept candidates' boxes in order, zeros after them. -/
module

public import proofs.«01_k».proof.Proof.KKept
public import proofs.«01_k».proof.Proof.KSuf

@[expose] public section

set_option maxRecDepth 16384

noncomputable section

namespace Cert.Proof.KernelIdeal

open Cert.KernelIdeal Cert.KernelIdeal.Gen Cert.Proof.Cand Cert.Proof.Gath Cert.Proof.Greedy
open Idealize.ShloMosaic Idealize.ShloMosaic.TcCoe Idealize.SL.Sem

variable (m : (ℓ : Loc nD τ sig) → Buf (Elt Ideal) ℓ) (c : Dev nD)

/-- The buffers after the launch. -/
def W1 : Valuation τ sig (Elt Ideal) := V38 m (outs m) c

/-- After the launch the boxes' array holds the boxes of both images. -/
theorem W1_box : W1 m c (Proc.devRef .tc main_v157_0) = boxArr (VE m) c := (V38_arr m c 4).symm.trans (final4 (VE m) c)

/-- After the launch the mask's array holds the kept places of both images. -/
theorem W1_mask : W1 m c (Proc.devRef .tc main_v157_1) = maskArr (VE m) c := (V38_arr m c 5).symm.trans (final5 (VE m) c)

/-- The launch leaves the images' numbers as they were. -/
theorem W1_v1 : W1 m c (Proc.devRef .tc main_v98) = t_v1 :=
  (V38_of m (outs m) c main_v98 (by decide)).trans ((congrFun (VT_eq m c) (Proc.devRef .tc main_v98)).trans (pre16_v1 _))

/-- The kernel's result. -/
def resK : FVec Ideal S2x1000x4 .f32 := u_v90 (W1 m c)

/-- The host lines after the launch leave the kernel's result. -/
theorem tail_eq : V43 m (outs m) c (Proc.devRef .tc main_v187) = resK m c := suf4_v90 (W1 m c)

/-- The kernel's result is a scatter of the boxes to the rows that the mask's counts give. -/
theorem resK_eq : resK m c = t_v90 t_v1 (rowWord (maskArr (VE m) c)) (t_v62 (boxArr (VE m) c)) := by
  unfold resK u_v90 u_v73 u_v62 u_v72 u_v69 u_c_16 u_v67 u_v66 u_v65 rowWord
  rw [W1_box, W1_mask, W1_v1]

open Classical in
/-- The mask compared with a half is the kept bit of each place. -/
theorem bit_eq (b : Fin 2) (p : Fin 2048) : t_v65 (maskArr (VE m) c) (ix2 b p) = BitVec.ofBool (decide (msk m c b p)) := by
  have hh : lit 0x3F000000#32 = ((1 / 2 : ℝ) : EReal) := by
    simp [lit, Ideal.ofBits, Ideal.ieee, -EReal.coe_mul]; norm_num
  rw [bit65]
  rcases maskArr_at m c b p with ⟨h, hm⟩ | ⟨h, hm⟩
  · rw [h, decide_eq_false hm, decide_eq_false]
    rw [hh]; exact not_lt.mpr (by exact_mod_cast (by norm_num : (0 : ℝ) ≤ 1 / 2))
  · rw [h, decide_eq_true hm, decide_eq_true]
    rw [hh]; exact_mod_cast (by norm_num : (1 / 2 : ℝ) < 1)

variable (hr : ∀ b k, (aT (W0 m c) (ix2 b k)).toNat < 200000) (ho : ∀ b k, k < 2000 → lit 0xF149F2CA#32 ≤ ob (aO (W0 m c)) (aT (W0 m c)) b k)

open Classical in
include hr ho in
/-- The kernel's rows of one image and one coordinate. -/
theorem rowsK (b : Fin 2) (j : Fin 4) :
    ∃ K : ℕ → Prop, Kept (ob (aO (W0 m c)) (aT (W0 m c)) b) (vk (aO (W0 m c)) (aD (W0 m c)) (aA (W0 m c)) (aT (W0 m c)) b) (rk (aD (W0 m c)) (aA (W0 m c)) (aT (W0 m c)) b) K
      ∧ IsRows 2000 1000 (ob (aO (W0 m c)) (aT (W0 m c)) b) K (fun k => bxk (aD (W0 m c)) (aA (W0 m c)) (aT (W0 m c)) b k j) 0
        (fun r => if h : r < 1000 then resK m c (ix3 b ⟨r, h⟩ j) else 0) := by
  refine ⟨_, kept_msk m c hr ho b, ?_⟩
  have hrank : ∀ p, msk m c b p → rnk (msk m c b) p = rank 2000 (ob (aO (W0 m c)) (aT (W0 m c)) b) (fun k => ∃ p, (sg (W0 m c) b p).val = k ∧ msk m c b p) (sg (W0 m c) b p).val := fun p hp =>
    rank_of_listing 2000 (fun k hk => vk_lt (aO (W0 m c)) (aD (W0 m c)) (aA (W0 m c)) (aT (W0 m c)) b k hk) (fun p => (sg (W0 m c) b p).val)
      (fun x y e => sg_inj (W0 m c) b (Fin.ext e)) (msk m c b) (msk_valid m c hr b) (fun p q _ _ h => sg_ord (W0 m c) hr b p q h) p hp
  have h1 : ∀ b : Fin 2, t_v1 (ix2 b 0) = BitVec.ofNat 32 b.val := fun b => by pointwise [t_v1, t_v0]
  have hD : ∀ b' : Fin 2, ∀ p, ∃ n : ℕ, n < 2 ^ 31 ∧ rowWord (maskArr (VE m) c) (ix2 b' p) = BitVec.ofNat 32 n := fun b' p =>
    ⟨_, by have := rnk_le (msk m c b') p; split_ifs <;> omega, rowWord_at (maskArr (VE m) c) b' (msk m c b') (bit_eq m c b') p⟩
  constructor
  · rintro k ⟨p, rfl, hp⟩ hk
    have hk' : rnk (msk m c b) p < 1000 := by rw [hrank p hp]; exact hk
    have := (rows90 t_v1 (maskArr (VE m) c) (boxArr (VE m) c) h1 b (msk m c b) (bit_eq m c b) hD ⟨rnk (msk m c b) p, hk'⟩ j).1 p hp rfl
    rw [boxArr_at m c hr, ← resK_eq] at this
    show (if h : _ < 1000 then resK m c (ix3 b ⟨_, h⟩ j) else 0) = _
    rw [dif_pos hk]
    have he : (⟨_, hk⟩ : Fin 1000) = ⟨rnk (msk m c b) p, hk'⟩ := Fin.ext (hrank p hp).symm
    rw [he]
    exact this
  · intro r hr1 hno
    show (if h : r < 1000 then resK m c (ix3 b ⟨r, h⟩ j) else 0) = _
    rw [dif_pos hr1, resK_eq]
    refine (rows90 t_v1 (maskArr (VE m) c) (boxArr (VE m) c) h1 b (msk m c b) (bit_eq m c b) hD ⟨r, hr1⟩ j).2 fun p hp e => ?_
    exact hno _ ⟨p, rfl, hp⟩ ((hrank p hp).symm.trans e)

end Cert.Proof.KernelIdeal
-- ==== Proof.RHost.lean ====
/- The reference's host lines, read at an index. -/
module

public import proofs.«01_k».proof.Proof.RRead
public import proofs.«01_k».proof.Proof.Gath
public import proofs.«01_k».proof.Proof.CandFacts

@[expose] public section

set_option maxRecDepth 16384

noncomputable section

namespace Cert.Proof.ReferenceIdeal

open Cert.ReferenceIdeal Cert.ReferenceIdeal.Gen Cert.Proof.Cand Cert.Proof.Gath
open Idealize.ShloMosaic Idealize.ShloMosaic.TcCoe Idealize.SL.Sem Idealize.ShloMosaic.Routing Idealize.ShloMosaic.WordCmp

/-- The candidate's objectness. -/
theorem obj_at (i : IVec S2x2000 32) (x : FVec Ideal S2x200000 .f32) (b : Fin 2) (k : Fin 2000) (n : Fin 200000) (h : i (ix2 b k) = BitVec.ofNat 32 n.val) :
    t_v88 x i (ix2 b k) = x (ix2 b n) := by
  have hn : n.val < 2 ^ 31 := by omega
  have hb : b.val < 2 ^ 31 := by omega
  unfold t_v88
  refine (pair_at _ (by omega) (by omega) x _ b k b n ?_ ?_)
  · pointwise [t_v87, t_v86, t_v85, t_v84, t_v83, t_v82, t_v81, t_v80, t_v79, t_v78, t_v77, t_v76, t_v75, t_v74, t_v73, t_v72, t_c_8, t_c_9, t_c_10, t_c_11]
    exact wrap_at hb _
  · pointwise [t_v87, t_v86, t_v85, t_v84, t_v83, t_v82, t_v81, t_v80, t_v79, t_v78, t_v77, t_v76, t_v75, t_v74, t_v73, t_v72, t_c_8, t_c_9, t_c_10, t_c_11]
    rw [h]; exact wrap_at hn _

/-- The candidate's logistic score. -/
theorem score_at (i : IVec S2x2000 32) (x : FVec Ideal S2x200000 .f32) (b : Fin 2) (k : Fin 2000) (n : Fin 200000) (h : i (ix2 b k) = BitVec.ofNat 32 n.val) :
    t_v116 x i (ix2 b k) = logi (x (ix2 b n)) := by
  pointwise [t_v116, t_v115, t_v114, t_v113, t_v112, t_v111, t_cst_18, t_cst_19]
  rw [obj_at i x b k n h]
  rfl

/-- The candidate's level. -/
theorem level_at (i : IVec S2x2000 32) (b : Fin 2) (k : Fin 2000) (n : Fin 200000) (h : i (ix2 b k) = BitVec.ofNat 32 n.val) :
    t_v95 i (ix2 b k) = BitVec.ofNat 32 (if 160000 ≤ n.val then 1 else 0) := by
  have hn : n.val < 2 ^ 31 := by omega
  unfold t_v95
  refine (vec_at _ (by omega) t_v71 _ b k n ?_).trans ?_
  · pointwise [t_v94, t_v93, t_v92, t_v91, t_v90, t_v89, t_c_12, t_c_13]
    rw [h]; exact wrap_at hn _
  · pointwise [t_v71, t_v70, t_v69, t_c, t_c_7]
    split_ifs with h1 h2 h2 <;> first | rfl | (exfalso; omega)

/-- Corner 0 of the decoded box. -/
theorem decode0 (x1 : FVec Ideal S2x200000x4 .f32) (x2 : FVec Ideal S200000x4 .f32) (b : Fin 2) (n : Fin 200000) :
    t_v68 x1 x2 (ix3 b n 0) = cx (fun j => x1 (ix3 b n j)) (fun j => x2 (ix2 n j)) - lit 0x3F000000#32 * pw (fun j => x1 (ix3 b n j)) (fun j => x2 (ix2 n j)) := by
  unfold t_v68
  pointwise [t_v67, t_v66, t_v65, t_v64, t_v63, t_v62, t_v61, t_v60, t_v59, t_v58, t_v57, t_v56, t_v55, t_v54, t_v53, t_v52, t_v51, t_v50, t_v49, t_v48, t_v47, t_v46, t_v45, t_v44, t_v43, t_v42, t_v41, t_v40, t_v39, t_v38, t_v37, t_v36, t_v35, t_v34, t_v33, t_v32, t_v31, t_v30, t_v29, t_v28, t_v27, t_v26, t_v25, t_v24, t_v23, t_v22, t_v21, t_v20, t_v19, t_v18, t_v17, t_v16, t_v15, t_v14, t_v13, t_v12, t_v11, t_v10, t_v9, t_v8, t_v7, t_v6, t_v5, t_v4, t_v3, t_v2, t_v1, t_v0, t_cst, t_cst_0, t_cst_1, t_cst_2, t_cst_3, t_cst_4, t_cst_5, t_cst_6]
  rfl

/-- Corner 1 of the decoded box. -/
theorem decode1 (x1 : FVec Ideal S2x200000x4 .f32) (x2 : FVec Ideal S200000x4 .f32) (b : Fin 2) (n : Fin 200000) :
    t_v68 x1 x2 (ix3 b n 1) = cy (fun j => x1 (ix3 b n j)) (fun j => x2 (ix2 n j)) - lit 0x3F000000#32 * ph (fun j => x1 (ix3 b n j)) (fun j => x2 (ix2 n j)) := by
  unfold t_v68
  pointwise [t_v67, t_v66, t_v65, t_v64, t_v63, t_v62, t_v61, t_v60, t_v59, t_v58, t_v57, t_v56, t_v55, t_v54, t_v53, t_v52, t_v51, t_v50, t_v49, t_v48, t_v47, t_v46, t_v45, t_v44, t_v43, t_v42, t_v41, t_v40, t_v39, t_v38, t_v37, t_v36, t_v35, t_v34, t_v33, t_v32, t_v31, t_v30, t_v29, t_v28, t_v27, t_v26, t_v25, t_v24, t_v23, t_v22, t_v21, t_v20, t_v19, t_v18, t_v17, t_v16, t_v15, t_v14, t_v13, t_v12, t_v11, t_v10, t_v9, t_v8, t_v7, t_v6, t_v5, t_v4, t_v3, t_v2, t_v1, t_v0, t_cst, t_cst_0, t_cst_1, t_cst_2, t_cst_3, t_cst_4, t_cst_5, t_cst_6]
  rfl

/-- Corner 2 of the decoded box. -/
theorem decode2 (x1 : FVec Ideal S2x200000x4 .f32) (x2 : FVec Ideal S200000x4 .f32) (b : Fin 2) (n : Fin 200000) :
    t_v68 x1 x2 (ix3 b n 2) = cx (fun j => x1 (ix3 b n j)) (fun j => x2 (ix2 n j)) + lit 0x3F000000#32 * pw (fun j => x1 (ix3 b n j)) (fun j => x2 (ix2 n j)) := by
  unfold t_v68
  pointwise [t_v67, t_v66, t_v65, t_v64, t_v63, t_v62, t_v61, t_v60, t_v59, t_v58, t_v57, t_v56, t_v55, t_v54, t_v53, t_v52, t_v51, t_v50, t_v49, t_v48, t_v47, t_v46, t_v45, t_v44, t_v43, t_v42, t_v41, t_v40, t_v39, t_v38, t_v37, t_v36, t_v35, t_v34, t_v33, t_v32, t_v31, t_v30, t_v29, t_v28, t_v27, t_v26, t_v25, t_v24, t_v23, t_v22, t_v21, t_v20, t_v19, t_v18, t_v17, t_v16, t_v15, t_v14, t_v13, t_v12, t_v11, t_v10, t_v9, t_v8, t_v7, t_v6, t_v5, t_v4, t_v3, t_v2, t_v1, t_v0, t_cst, t_cst_0, t_cst_1, t_cst_2, t_cst_3, t_cst_4, t_cst_5, t_cst_6]
  rfl

/-- Corner 3 of the decoded box. -/
theorem decode3 (x1 : FVec Ideal S2x200000x4 .f32) (x2 : FVec Ideal S200000x4 .f32) (b : Fin 2) (n : Fin 200000) :
    t_v68 x1 x2 (ix3 b n 3) = cy (fun j => x1 (ix3 b n j)) (fun j => x2 (ix2 n j)) + lit 0x3F000000#32 * ph (fun j => x1 (ix3 b n j)) (fun j => x2 (ix2 n j)) := by
  unfold t_v68
  pointwise [t_v67, t_v66, t_v65, t_v64, t_v63, t_v62, t_v61, t_v60, t_v59, t_v58, t_v57, t_v56, t_v55, t_v54, t_v53, t_v52, t_v51, t_v50, t_v49, t_v48, t_v47, t_v46, t_v45, t_v44, t_v43, t_v42, t_v41, t_v40, t_v39, t_v38, t_v37, t_v36, t_v35, t_v34, t_v33, t_v32, t_v31, t_v30, t_v29, t_v28, t_v27, t_v26, t_v25, t_v24, t_v23, t_v22, t_v21, t_v20, t_v19, t_v18, t_v17, t_v16, t_v15, t_v14, t_v13, t_v12, t_v11, t_v10, t_v9, t_v8, t_v7, t_v6, t_v5, t_v4, t_v3, t_v2, t_v1, t_v0, t_cst, t_cst_0, t_cst_1, t_cst_2, t_cst_3, t_cst_4, t_cst_5, t_cst_6]
  rfl

/-- The candidate's decoded box. -/
theorem decoded_at (i : IVec S2x2000 32) (x1 : FVec Ideal S2x200000x4 .f32) (x2 : FVec Ideal S200000x4 .f32) (b : Fin 2) (k : Fin 2000) (j : Fin 4) (n : Fin 200000) (h : i (ix2 b k) = BitVec.ofNat 32 n.val) :
    t_v110 x1 x2 i (ix3 b k j) = t_v68 x1 x2 (ix3 b n j) := by
  have hn : n.val < 2 ^ 31 := by omega
  have hb : b.val < 2 ^ 31 := by omega
  unfold t_v110
  refine (pairRow_at _ (by omega) (by omega) (t_v68 x1 x2) _ b k j b n ?_ ?_)
  · pointwise [t_v109, t_v108, t_v107, t_v106, t_v105, t_v104, t_v103, t_v102, t_v101, t_v100, t_v99, t_v98, t_v97, t_v96, t_v73, t_v72, t_c_14, t_c_15, t_c_16, t_c_17]
    exact wrap_at hb _
  · pointwise [t_v109, t_v108, t_v107, t_v106, t_v105, t_v104, t_v103, t_v102, t_v101, t_v100, t_v99, t_v98, t_v97, t_v96, t_v73, t_v72, t_c_14, t_c_15, t_c_16, t_c_17]
    rw [h]; exact wrap_at hn _

/-- The comparator orders by the keys. -/
theorem comparator_eq (l r : EReal × BitVec 32) : comparator_f32_i32_d1 (F := Ideal) l r = BitVec.ofBool (decide (l.1 < r.1)) := by
  have h : comparator_f32_i32_d1 (F := Ideal) l r = BitVec.ofBool (decide (
      (Scalar.select (FloatOps.cmpf (F := Ideal) (φ := .f32) CmpFPredicate.une l.1 l.1) (FloatOps.ofBits (F := Ideal) .f32 0x7FC00000#32)
        (Scalar.select (FloatOps.cmpf (F := Ideal) (φ := .f32) CmpFPredicate.oeq l.1 (FloatOps.ofBits (F := Ideal) .f32 0#32))
          (FloatOps.ofBits (F := Ideal) .f32 0#32) l.1) : EReal) <
      (Scalar.select (FloatOps.cmpf (F := Ideal) (φ := .f32) CmpFPredicate.une r.1 r.1) (FloatOps.ofBits (F := Ideal) .f32 0x7FC00000#32)
        (Scalar.select (FloatOps.cmpf (F := Ideal) (φ := .f32) CmpFPredicate.oeq r.1 (FloatOps.ofBits (F := Ideal) .f32 0#32))
          (FloatOps.ofBits (F := Ideal) .f32 0#32) r.1) : EReal))) := rfl
  rw [h, norm_eq, norm_eq]

/-- The moved box at a place of the order. -/
theorem take179 (x : FVec Ideal S2x2000x4 .f32) (i : IVec S2x2000 32) (b : Fin 2) (p n : Fin 2000) (j : Fin 4) (h : i (ix2 b p) = BitVec.ofNat 32 n.val) :
    t_v179 x i (ix3 b p j) = x (ix3 b n j) := by
  have hn : n.val < 2 ^ 31 := by omega
  have hb : b.val < 2 ^ 31 := by omega
  unfold t_v179
  refine (pairRow_at _ (by omega) (by omega) x _ b p j b n ?_ ?_)
  · pointwise [t_v178, t_v177, t_v176, t_v175, t_v174, t_v173, t_v172, t_v171, t_v170, t_v169, t_v168, t_v167, t_v166, t_v165, t_v164, t_v163, t_c_34, t_c_35, t_c_36, t_c_37]
    exact wrap_at hb _
  · pointwise [t_v178, t_v177, t_v176, t_v175, t_v174, t_v173, t_v172, t_v171, t_v170, t_v169, t_v168, t_v167, t_v166, t_v165, t_v164, t_v163, t_c_34, t_c_35, t_c_36, t_c_37]
    rw [h]; exact wrap_at hn _

/-- The score at a place of the order. -/
theorem take194 (x : FVec Ideal S2x2000 .f32) (i : IVec S2x2000 32) (b : Fin 2) (p n : Fin 2000) (h : i (ix2 b p) = BitVec.ofNat 32 n.val) :
    t_v194 x i (ix2 b p) = x (ix2 b n) := by
  have hn : n.val < 2 ^ 31 := by omega
  have hb : b.val < 2 ^ 31 := by omega
  unfold t_v194
  refine (pair_at _ (by omega) (by omega) x _ b p b n ?_ ?_)
  · pointwise [t_v193, t_v192, t_v191, t_v190, t_v189, t_v188, t_v187, t_v186, t_v185, t_v184, t_v183, t_v182, t_v181, t_v180, t_v164, t_v163, t_c_38, t_c_39, t_c_40, t_c_41]
    exact wrap_at hb _
  · pointwise [t_v193, t_v192, t_v191, t_v190, t_v189, t_v188, t_v187, t_v186, t_v185, t_v184, t_v183, t_v182, t_v181, t_v180, t_v164, t_v163, t_c_38, t_c_39, t_c_40, t_c_41]
    rw [h]; exact wrap_at hn _

/-- The box at a place of the order. -/
theorem take209 (x : FVec Ideal S2x2000x4 .f32) (i : IVec S2x2000 32) (b : Fin 2) (p n : Fin 2000) (j : Fin 4) (h : i (ix2 b p) = BitVec.ofNat 32 n.val) :
    t_v209 x i (ix3 b p j) = x (ix3 b n j) := by
  have hn : n.val < 2 ^ 31 := by omega
  have hb : b.val < 2 ^ 31 := by omega
  unfold t_v209
  refine (pairRow_at _ (by omega) (by omega) x _ b p j b n ?_ ?_)
  · pointwise [t_v208, t_v207, t_v206, t_v205, t_v204, t_v203, t_v202, t_v201, t_v200, t_v199, t_v198, t_v197, t_v196, t_v195, t_v164, t_v163, t_c_42, t_c_43, t_c_44, t_c_45]
    exact wrap_at hb _
  · pointwise [t_v208, t_v207, t_v206, t_v205, t_v204, t_v203, t_v202, t_v201, t_v200, t_v199, t_v198, t_v197, t_v196, t_v195, t_v164, t_v163, t_c_42, t_c_43, t_c_44, t_c_45]
    rw [h]; exact wrap_at hn _

/-- The order of image `b`'s keys `y`. -/
def ordOf (y : FVec Ideal S2x2000 .f32) (b : Fin 2) : Fin 2000 → Fin 2000 :=
  sortedFrom (fun k k' => comparator_f32_i32_d1 (F := Ideal) (y (ix2 b k), BitVec.ofNat 32 k.val) (y (ix2 b k'), BitVec.ofNat 32 k'.val) == 1#1)

/-- The first sort's word. -/
theorem sort162 (y : FVec Ideal S2x2000 .f32) (b : Fin 2) (p : Fin 2000) : t_v162 y (ix2 b p) = BitVec.ofNat 32 (ordOf y b p).val := by
  unfold t_v162
  refine (sort2_at (B := 2) (N := 2000) _ _ _ b p).trans ?_
  rfl

/-- Earlier positions hold smaller keys, ties by the candidate's number. -/
theorem order_at (y : FVec Ideal S2x2000 .f32) (b : Fin 2) (i j : Fin 2000) (h : i < j) :
    y (ix2 b (ordOf y b i)) < y (ix2 b (ordOf y b j)) ∨ (y (ix2 b (ordOf y b i)) = y (ix2 b (ordOf y b j)) ∧ ordOf y b i < ordOf y b j) := by
  refine Greedy.sortedFrom_order (fun k : Fin 2000 => y (ix2 b k)) _ (fun k k' => ?_) i j h
  show (comparator_f32_i32_d1 (F := Ideal) _ _ == 1#1) = _
  rw [comparator_eq]
  exact beq_ofBool _

/-- The order names each candidate once. -/
theorem ordOf_inj (y : FVec Ideal S2x2000 .f32) (b : Fin 2) : Function.Injective (ordOf y b) := by
  unfold ordOf
  generalize (fun k k' : Fin 2000 => comparator_f32_i32_d1 (F := Ideal) (y (ix2 b k), BitVec.ofNat 32 k.val) (y (ix2 b k'), BitVec.ofNat 32 k'.val) == 1#1) = f
  exact sortedFrom_injective f

/-- The order names every candidate. -/
theorem ordOf_surj (y : FVec Ideal S2x2000 .f32) (b : Fin 2) : Function.Surjective (ordOf y b) := Finite.injective_iff_surjective.mp (ordOf_inj y b)

/-- The zero literal. -/
theorem zero_lit : Ideal.ofBits .f32 0x00000000#32 = 0 := by simp [Ideal.ofBits, Ideal.ieee]

/-- The corners' column 0. -/
theorem clip119 (x : FVec Ideal S2x2000 .f32) (b : Fin 2) (k : Fin 2000) : t_v119 t_cst_21 t_cst_20 x (ix2 b k) = clip (x (ix2 b k)) := by
  pointwise [t_v119, t_call0_v4, t_call0_v3, t_call0_v2, t_call0_v1, t_call0_v0, t_cst_20, t_cst_21]
  show min (lit 0x44480000#32) (max (Ideal.ofBits .f32 0x00000000#32) _) = _
  rw [zero_lit]; rfl

/-- The corners' column 1. -/
theorem clip122 (x : FVec Ideal S2x2000 .f32) (b : Fin 2) (k : Fin 2000) : t_v122 t_cst_23 t_cst_22 x (ix2 b k) = clip (x (ix2 b k)) := by
  pointwise [t_v122, t_call1_v4, t_call1_v3, t_call1_v2, t_call1_v1, t_call1_v0, t_cst_22, t_cst_23]
  show min (lit 0x44480000#32) (max (Ideal.ofBits .f32 0x00000000#32) _) = _
  rw [zero_lit]; rfl

/-- The corners' column 2. -/
theorem clip125 (x : FVec Ideal S2x2000 .f32) (b : Fin 2) (k : Fin 2000) : t_v125 t_cst_25 t_cst_24 x (ix2 b k) = clip (x (ix2 b k)) := by
  pointwise [t_v125, t_call2_v4, t_call2_v3, t_call2_v2, t_call2_v1, t_call2_v0, t_cst_24, t_cst_25]
  show min (lit 0x44480000#32) (max (Ideal.ofBits .f32 0x00000000#32) _) = _
  rw [zero_lit]; rfl

/-- The corners' column 3. -/
theorem clip128 (x : FVec Ideal S2x2000 .f32) (b : Fin 2) (k : Fin 2000) : t_v128 t_cst_27 t_cst_26 x (ix2 b k) = clip (x (ix2 b k)) := by
  pointwise [t_v128, t_call3_v4, t_call3_v3, t_call3_v2, t_call3_v1, t_call3_v0, t_cst_26, t_cst_27]
  show min (lit 0x44480000#32) (max (Ideal.ofBits .f32 0x00000000#32) _) = _
  rw [zero_lit]; rfl

/-- The four columns side by side. -/
theorem box133 (x0 x1 x2 x3 : FVec Ideal S2x2000 .f32) (b : Fin 2) (k : Fin 2000) (j : Fin 4) :
    t_v133 x0 x1 x2 x3 (ix3 b k j) = ![x0 (ix2 b k), x1 (ix2 b k), x2 (ix2 b k), x3 (ix2 b k)] j := by
  match j with
  | 0 => pointwise [t_v133, t_v129, t_v130, t_v131, t_v132]
  | 1 => pointwise [t_v133, t_v129, t_v130, t_v131, t_v132]
  | 2 => pointwise [t_v133, t_v129, t_v130, t_v131, t_v132]
  | 3 => pointwise [t_v133, t_v129, t_v130, t_v131, t_v132]

/-- Two bits of truth together. -/
theorem and_ofBool (p q : Prop) [Decidable p] [Decidable q] : IntOp.andi (BitVec.ofBool (decide p)) (BitVec.ofBool (decide q)) = BitVec.ofBool (decide (p ∧ q)) := by
  by_cases hp : p <;> by_cases hq : q <;> simp [hp, hq] <;> rfl

open Classical in
/-- The candidate's validity. -/
theorem valid151 (x0 x1 x2 x3 s : FVec Ideal S2x2000 .f32) (b : Fin 2) (k : Fin 2000) :
    t_v151 x0 x1 x2 x3 s (ix2 b k) = BitVec.ofBool (decide (big ![x0 (ix2 b k), x1 (ix2 b k), x2 (ix2 b k), x3 (ix2 b k)] ∧ 0 ≤ s (ix2 b k))) := by
  pointwise [t_v151, t_v150, t_v149, t_v148, t_v147, t_v146, t_v145, t_v144, t_v143, t_v142, t_v141, t_v140, t_v139, t_v138, t_v137, t_v136, t_v135, t_v134, t_v133, t_v129, t_v130, t_v131, t_v132, t_cst_28, t_cst_29, t_cst_30]
  rw [and_ofBool, and_ofBool]
  congr 1
  exact decide_eq_decide.mpr Iff.rfl

/-- The masked score. -/
theorem score152 (v : IVec S2x2000 1) (s : FVec Ideal S2x2000 .f32) (b : Fin 2) (k : Fin 2000) :
    t_v152 v s t_cst_31 (ix2 b k) = Scalar.select (v (ix2 b k)) (s (ix2 b k)) (lit 0xFF800000#32) := by
  pointwise [t_v152, t_call4_v1, t_call4_v0, t_cst_31]
  rfl

/-- The masked box. -/
theorem box154 (v : IVec S2x2000 1) (x : FVec Ideal S2x2000x4 .f32) (b : Fin 2) (k : Fin 2000) (j : Fin 4) :
    t_v154 (t_v153 v) x t_cst_32 (ix3 b k j) = Scalar.select (v (ix2 b k)) (x (ix3 b k j)) 0 := by
  pointwise [t_v154, t_v153, t_call5_v1, t_call5_v0, t_call5_v2, t_cst_32]
  show Scalar.select _ _ (Ideal.ofBits .f32 0x00000000#32) = _
  rw [zero_lit]

/-- The moved box. -/
theorem moved160 (x : FVec Ideal S2x2000x4 .f32) (l : IVec S2x2000 32) (b : Fin 2) (k : Fin 2000) (j : Fin 4) (n : ℕ) (hn : n ≤ 1) (h : l (ix2 b k) = BitVec.ofNat 32 n) :
    t_v160 x l (ix3 b k j) = x (ix3 b k j) + (n : EReal) * lit 0x44484000#32 := by
  pointwise [t_v160, t_v159, t_v158, t_v157, t_v156, t_v155, t_cst_33]
  rw [h]
  have : FloatOps.sitofp (F := Ideal) .f32 (BitVec.ofNat 32 n) = (n : EReal) := by
    show (((BitVec.ofNat 32 n).toInt : ℝ) : EReal) = _
    rw [toInt_ofNat_of_lt (a := n) (by omega)]
    norm_cast
  rw [this]

/-- The sort key. -/
theorem neg161 (x : FVec Ideal S2x2000 .f32) (b : Fin 2) (k : Fin 2000) : t_v161 x (ix2 b k) = - x (ix2 b k) := by
  pointwise [t_v161]

end Cert.Proof.ReferenceIdeal
-- ==== Proof.RChain.lean ====
/- The reference's lines run one stretch after another: what each buffer read later holds. -/
module

public import proofs.«01_k».proof.Proof.RRead

@[expose] public section

set_option maxRecDepth 16384

noncomputable section

namespace Cert.Proof.ReferenceIdeal

open Idealize.ShloMosaic Idealize.ShloMosaic.TcCoe Idealize.ShloMosaic.StableHlo
open Cert.ReferenceIdeal Cert.ReferenceIdeal.Gen

/-- The buffers after stretch `hostOps0` of the reference's lines before its loop. -/
def pre0 (V : Valuation τ sig (Elt Ideal)) : Valuation τ sig (Elt Ideal) := StableHlo.after hostOps0 V

/-- The buffers after stretch `hostOps0_1` of the reference's lines before its loop. -/
def pre1 (V : Valuation τ sig (Elt Ideal)) : Valuation τ sig (Elt Ideal) := StableHlo.after hostOps0_1 (pre0 V)

/-- The buffers after stretch `hostOps0_2` of the reference's lines before its loop. -/
def pre2 (V : Valuation τ sig (Elt Ideal)) : Valuation τ sig (Elt Ideal) := StableHlo.after hostOps0_2 (pre1 V)

/-- The buffers after stretch `hostOps0_3` of the reference's lines before its loop. -/
def pre3 (V : Valuation τ sig (Elt Ideal)) : Valuation τ sig (Elt Ideal) := StableHlo.after hostOps0_3 (pre2 V)

/-- The buffers after stretch `hostOps0_4` of the reference's lines before its loop. -/
def pre4 (V : Valuation τ sig (Elt Ideal)) : Valuation τ sig (Elt Ideal) := StableHlo.after hostOps0_4 (pre3 V)

/-- The buffers after stretch `hostOps0_5` of the reference's lines before its loop. -/
def pre5 (V : Valuation τ sig (Elt Ideal)) : Valuation τ sig (Elt Ideal) := StableHlo.after hostOps0_5 (pre4 V)

/-- The buffers after stretch `hostOps0_6` of the reference's lines before its loop. -/
def pre6 (V : Valuation τ sig (Elt Ideal)) : Valuation τ sig (Elt Ideal) := StableHlo.after hostOps0_6 (pre5 V)

/-- The buffers after stretch `hostOps0_7` of the reference's lines before its loop. -/
def pre7 (V : Valuation τ sig (Elt Ideal)) : Valuation τ sig (Elt Ideal) := StableHlo.after hostOps0_7 (pre6 V)

/-- The buffers after stretch `hostOps0_8` of the reference's lines before its loop. -/
def pre8 (V : Valuation τ sig (Elt Ideal)) : Valuation τ sig (Elt Ideal) := StableHlo.after hostOps0_8 (pre7 V)

/-- The buffers after stretch `hostOps0_9` of the reference's lines before its loop. -/
def pre9 (V : Valuation τ sig (Elt Ideal)) : Valuation τ sig (Elt Ideal) := StableHlo.after hostOps0_9 (pre8 V)

/-- The buffers after stretch `hostOps0_10` of the reference's lines before its loop. -/
def pre10 (V : Valuation τ sig (Elt Ideal)) : Valuation τ sig (Elt Ideal) := StableHlo.after hostOps0_10 (pre9 V)

/-- The buffers after stretch `hostOps0_11` of the reference's lines before its loop. -/
def pre11 (V : Valuation τ sig (Elt Ideal)) : Valuation τ sig (Elt Ideal) := StableHlo.after hostOps0_11 (pre10 V)

/-- The buffers after stretch `hostOps0_12` of the reference's lines before its loop. -/
def pre12 (V : Valuation τ sig (Elt Ideal)) : Valuation τ sig (Elt Ideal) := StableHlo.after hostOps0_12 (pre11 V)

/-- The buffers after stretch `hostOps0_13` of the reference's lines before its loop. -/
def pre13 (V : Valuation τ sig (Elt Ideal)) : Valuation τ sig (Elt Ideal) := StableHlo.after hostOps0_13 (pre12 V)

/-- The buffers after stretch `hostOps0_14` of the reference's lines before its loop. -/
def pre14 (V : Valuation τ sig (Elt Ideal)) : Valuation τ sig (Elt Ideal) := StableHlo.after hostOps0_14 (pre13 V)

/-- The reference's lines before its loop, as one list of operations. -/
theorem pre_flat (V : Valuation τ sig (Elt Ideal)) : StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) V = pre14 V := by
  simp only [List.flatten_cons, List.flatten_nil, List.append_nil, StableHlo.after_append]
  rfl

/-- What the reference's lines before its loop leaves in `main_v102`. -/
def u_v95 (V : Valuation τ sig (Elt Ideal)) : IVec S2x2000 32 := t_v95 (topI (V (Proc.devRef .tc main_arg0)))

/-- Stretch 0 computes `main_v102`. -/
theorem pre0_v95 (V : Valuation τ sig (Elt Ideal)) : pre0 V (Proc.devRef .tc main_v102) = u_v95 V :=
  read_v95 V

/-- Stretch 1 keeps `main_v102`. -/
theorem pre1_v95 (V : Valuation τ sig (Elt Ideal)) : pre1 V (Proc.devRef .tc main_v102) = u_v95 V :=
  (keep_hostOps0_1 _ main_v102 (by decide)).trans (pre0_v95 V)

/-- Stretch 2 keeps `main_v102`. -/
theorem pre2_v95 (V : Valuation τ sig (Elt Ideal)) : pre2 V (Proc.devRef .tc main_v102) = u_v95 V :=
  (keep_hostOps0_2 _ main_v102 (by decide)).trans (pre1_v95 V)

/-- Stretch 3 keeps `main_v102`. -/
theorem pre3_v95 (V : Valuation τ sig (Elt Ideal)) : pre3 V (Proc.devRef .tc main_v102) = u_v95 V :=
  (keep_hostOps0_3 _ main_v102 (by decide)).trans (pre2_v95 V)

/-- Stretch 4 keeps `main_v102`. -/
theorem pre4_v95 (V : Valuation τ sig (Elt Ideal)) : pre4 V (Proc.devRef .tc main_v102) = u_v95 V :=
  (keep_hostOps0_4 _ main_v102 (by decide)).trans (pre3_v95 V)

/-- Stretch 5 keeps `main_v102`. -/
theorem pre5_v95 (V : Valuation τ sig (Elt Ideal)) : pre5 V (Proc.devRef .tc main_v102) = u_v95 V :=
  (keep_hostOps0_5 _ main_v102 (by decide)).trans (pre4_v95 V)

/-- Stretch 6 keeps `main_v102`. -/
theorem pre6_v95 (V : Valuation τ sig (Elt Ideal)) : pre6 V (Proc.devRef .tc main_v102) = u_v95 V :=
  (keep_hostOps0_6 _ main_v102 (by decide)).trans (pre5_v95 V)

/-- Stretch 7 keeps `main_v102`. -/
theorem pre7_v95 (V : Valuation τ sig (Elt Ideal)) : pre7 V (Proc.devRef .tc main_v102) = u_v95 V :=
  (keep_hostOps0_7 _ main_v102 (by decide)).trans (pre6_v95 V)

/-- Stretch 8 keeps `main_v102`. -/
theorem pre8_v95 (V : Valuation τ sig (Elt Ideal)) : pre8 V (Proc.devRef .tc main_v102) = u_v95 V :=
  (keep_hostOps0_8 _ main_v102 (by decide)).trans (pre7_v95 V)

/-- Stretch 9 keeps `main_v102`. -/
theorem pre9_v95 (V : Valuation τ sig (Elt Ideal)) : pre9 V (Proc.devRef .tc main_v102) = u_v95 V :=
  (keep_hostOps0_9 _ main_v102 (by decide)).trans (pre8_v95 V)

/-- Stretch 10 keeps `main_v102`. -/
theorem pre10_v95 (V : Valuation τ sig (Elt Ideal)) : pre10 V (Proc.devRef .tc main_v102) = u_v95 V :=
  (keep_hostOps0_10 _ main_v102 (by decide)).trans (pre9_v95 V)

/-- Stretch 11 keeps `main_v102`. -/
theorem pre11_v95 (V : Valuation τ sig (Elt Ideal)) : pre11 V (Proc.devRef .tc main_v102) = u_v95 V :=
  (keep_hostOps0_11 _ main_v102 (by decide)).trans (pre10_v95 V)

/-- What the reference's lines before its loop leaves in `main_v117`. -/
def u_v110 (V : Valuation τ sig (Elt Ideal)) : FVec Ideal S2x2000x4 .f32 := t_v110 (V (Proc.devRef .tc main_arg1)) (V (Proc.devRef .tc main_arg2)) (topI (V (Proc.devRef .tc main_arg0)))

/-- Stretch 0 computes `main_v117`. -/
theorem pre0_v110 (V : Valuation τ sig (Elt Ideal)) : pre0 V (Proc.devRef .tc main_v117) = u_v110 V :=
  read_v110 V

/-- Stretch 1 keeps `main_v117`. -/
theorem pre1_v110 (V : Valuation τ sig (Elt Ideal)) : pre1 V (Proc.devRef .tc main_v117) = u_v110 V :=
  (keep_hostOps0_1 _ main_v117 (by decide)).trans (pre0_v110 V)

/-- Stretch 2 keeps `main_v117`. -/
theorem pre2_v110 (V : Valuation τ sig (Elt Ideal)) : pre2 V (Proc.devRef .tc main_v117) = u_v110 V :=
  (keep_hostOps0_2 _ main_v117 (by decide)).trans (pre1_v110 V)

/-- Stretch 3 keeps `main_v117`. -/
theorem pre3_v110 (V : Valuation τ sig (Elt Ideal)) : pre3 V (Proc.devRef .tc main_v117) = u_v110 V :=
  (keep_hostOps0_3 _ main_v117 (by decide)).trans (pre2_v110 V)

/-- Stretch 4 keeps `main_v117`. -/
theorem pre4_v110 (V : Valuation τ sig (Elt Ideal)) : pre4 V (Proc.devRef .tc main_v117) = u_v110 V :=
  (keep_hostOps0_4 _ main_v117 (by decide)).trans (pre3_v110 V)

/-- Stretch 5 keeps `main_v117`. -/
theorem pre5_v110 (V : Valuation τ sig (Elt Ideal)) : pre5 V (Proc.devRef .tc main_v117) = u_v110 V :=
  (keep_hostOps0_5 _ main_v117 (by decide)).trans (pre4_v110 V)

/-- What the reference's lines before its loop leaves in `main_v123`. -/
def u_v116 (V : Valuation τ sig (Elt Ideal)) : FVec Ideal S2x2000 .f32 := t_v116 (V (Proc.devRef .tc main_arg0)) (topI (V (Proc.devRef .tc main_arg0)))

/-- Stretch 0 computes `main_v123`. -/
theorem pre0_v116 (V : Valuation τ sig (Elt Ideal)) : pre0 V (Proc.devRef .tc main_v123) = u_v116 V :=
  read_v116 V

/-- Stretch 1 keeps `main_v123`. -/
theorem pre1_v116 (V : Valuation τ sig (Elt Ideal)) : pre1 V (Proc.devRef .tc main_v123) = u_v116 V :=
  (keep_hostOps0_1 _ main_v123 (by decide)).trans (pre0_v116 V)

/-- Stretch 2 keeps `main_v123`. -/
theorem pre2_v116 (V : Valuation τ sig (Elt Ideal)) : pre2 V (Proc.devRef .tc main_v123) = u_v116 V :=
  (keep_hostOps0_2 _ main_v123 (by decide)).trans (pre1_v116 V)

/-- Stretch 3 keeps `main_v123`. -/
theorem pre3_v116 (V : Valuation τ sig (Elt Ideal)) : pre3 V (Proc.devRef .tc main_v123) = u_v116 V :=
  (keep_hostOps0_3 _ main_v123 (by decide)).trans (pre2_v116 V)

/-- Stretch 4 keeps `main_v123`. -/
theorem pre4_v116 (V : Valuation τ sig (Elt Ideal)) : pre4 V (Proc.devRef .tc main_v123) = u_v116 V :=
  (keep_hostOps0_4 _ main_v123 (by decide)).trans (pre3_v116 V)

/-- Stretch 5 keeps `main_v123`. -/
theorem pre5_v116 (V : Valuation τ sig (Elt Ideal)) : pre5 V (Proc.devRef .tc main_v123) = u_v116 V :=
  (keep_hostOps0_5 _ main_v123 (by decide)).trans (pre4_v116 V)

/-- Stretch 6 keeps `main_v123`. -/
theorem pre6_v116 (V : Valuation τ sig (Elt Ideal)) : pre6 V (Proc.devRef .tc main_v123) = u_v116 V :=
  (keep_hostOps0_6 _ main_v123 (by decide)).trans (pre5_v116 V)

/-- Stretch 7 keeps `main_v123`. -/
theorem pre7_v116 (V : Valuation τ sig (Elt Ideal)) : pre7 V (Proc.devRef .tc main_v123) = u_v116 V :=
  (keep_hostOps0_7 _ main_v123 (by decide)).trans (pre6_v116 V)

/-- Stretch 8 keeps `main_v123`. -/
theorem pre8_v116 (V : Valuation τ sig (Elt Ideal)) : pre8 V (Proc.devRef .tc main_v123) = u_v116 V :=
  (keep_hostOps0_8 _ main_v123 (by decide)).trans (pre7_v116 V)

/-- What the reference's lines before its loop leaves in `main_v125`. -/
def u_v118 (V : Valuation τ sig (Elt Ideal)) : FVec Ideal S2x2000 .f32 := t_v118 (V (Proc.devRef .tc main_arg1)) (V (Proc.devRef .tc main_arg2)) (topI (V (Proc.devRef .tc main_arg0)))

/-- Stretch 0 computes `main_v125`. -/
theorem pre0_v118 (V : Valuation τ sig (Elt Ideal)) : pre0 V (Proc.devRef .tc main_v125) = u_v118 V :=
  read_v118 V

/-- What the reference's lines before its loop leaves in `main_cst_24`. -/
def u_cst_20 (V : Valuation τ sig (Elt Ideal)) : FVec Ideal S_ .f32 := t_cst_20

/-- Stretch 0 computes `main_cst_24`. -/
theorem pre0_cst_20 (V : Valuation τ sig (Elt Ideal)) : pre0 V (Proc.devRef .tc main_cst_24) = u_cst_20 V :=
  read_cst_20 V

/-- What the reference's lines before its loop leaves in `main_cst_25`. -/
def u_cst_21 (V : Valuation τ sig (Elt Ideal)) : FVec Ideal S_ .f32 := t_cst_21

/-- Stretch 0 computes `main_cst_25`. -/
theorem pre0_cst_21 (V : Valuation τ sig (Elt Ideal)) : pre0 V (Proc.devRef .tc main_cst_25) = u_cst_21 V :=
  read_cst_21 V

/-- What the reference's lines before its loop leaves in `main_v126`. -/
def u_v119 (V : Valuation τ sig (Elt Ideal)) : FVec Ideal S2x2000 .f32 := t_v119 (u_cst_21 V) (u_cst_20 V) (u_v118 V)

/-- Stretch 1 computes `main_v126`. -/
theorem pre1_v119 (V : Valuation τ sig (Elt Ideal)) : pre1 V (Proc.devRef .tc main_v126) = u_v119 V :=
  (read_v119 (pre0 V)).trans (by rw [pre0_cst_21, pre0_cst_20, pre0_v118]; rfl)

/-- Stretch 2 keeps `main_v126`. -/
theorem pre2_v119 (V : Valuation τ sig (Elt Ideal)) : pre2 V (Proc.devRef .tc main_v126) = u_v119 V :=
  (keep_hostOps0_2 _ main_v126 (by decide)).trans (pre1_v119 V)

/-- Stretch 3 keeps `main_v126`. -/
theorem pre3_v119 (V : Valuation τ sig (Elt Ideal)) : pre3 V (Proc.devRef .tc main_v126) = u_v119 V :=
  (keep_hostOps0_3 _ main_v126 (by decide)).trans (pre2_v119 V)

/-- Stretch 4 keeps `main_v126`. -/
theorem pre4_v119 (V : Valuation τ sig (Elt Ideal)) : pre4 V (Proc.devRef .tc main_v126) = u_v119 V :=
  (keep_hostOps0_4 _ main_v126 (by decide)).trans (pre3_v119 V)

/-- Stretch 5 keeps `main_v126`. -/
theorem pre5_v119 (V : Valuation τ sig (Elt Ideal)) : pre5 V (Proc.devRef .tc main_v126) = u_v119 V :=
  (keep_hostOps0_5 _ main_v126 (by decide)).trans (pre4_v119 V)

/-- Stretch 6 keeps `main_v126`. -/
theorem pre6_v119 (V : Valuation τ sig (Elt Ideal)) : pre6 V (Proc.devRef .tc main_v126) = u_v119 V :=
  (keep_hostOps0_6 _ main_v126 (by decide)).trans (pre5_v119 V)

/-- Stretch 7 keeps `main_v126`. -/
theorem pre7_v119 (V : Valuation τ sig (Elt Ideal)) : pre7 V (Proc.devRef .tc main_v126) = u_v119 V :=
  (keep_hostOps0_7 _ main_v126 (by decide)).trans (pre6_v119 V)

/-- What the reference's lines before its loop leaves in `main_v128`. -/
def u_v121 (V : Valuation τ sig (Elt Ideal)) : FVec Ideal S2x2000 .f32 := t_v121 (u_v110 V)

/-- Stretch 2 computes `main_v128`. -/
theorem pre2_v121 (V : Valuation τ sig (Elt Ideal)) : pre2 V (Proc.devRef .tc main_v128) = u_v121 V :=
  (read_v121 (pre1 V)).trans (by rw [pre1_v110]; rfl)

/-- What the reference's lines before its loop leaves in `main_cst_26`. -/
def u_cst_22 (V : Valuation τ sig (Elt Ideal)) : FVec Ideal S_ .f32 := t_cst_22

/-- Stretch 2 computes `main_cst_26`. -/
theorem pre2_cst_22 (V : Valuation τ sig (Elt Ideal)) : pre2 V (Proc.devRef .tc main_cst_26) = u_cst_22 V :=
  read_cst_22 (pre1 V)

/-- What the reference's lines before its loop leaves in `main_cst_27`. -/
def u_cst_23 (V : Valuation τ sig (Elt Ideal)) : FVec Ideal S_ .f32 := t_cst_23

/-- Stretch 2 computes `main_cst_27`. -/
theorem pre2_cst_23 (V : Valuation τ sig (Elt Ideal)) : pre2 V (Proc.devRef .tc main_cst_27) = u_cst_23 V :=
  read_cst_23 (pre1 V)

/-- What the reference's lines before its loop leaves in `main_v129`. -/
def u_v122 (V : Valuation τ sig (Elt Ideal)) : FVec Ideal S2x2000 .f32 := t_v122 (u_cst_23 V) (u_cst_22 V) (u_v121 V)

/-- Stretch 3 computes `main_v129`. -/
theorem pre3_v122 (V : Valuation τ sig (Elt Ideal)) : pre3 V (Proc.devRef .tc main_v129) = u_v122 V :=
  (read_v122 (pre2 V)).trans (by rw [pre2_cst_23, pre2_cst_22, pre2_v121]; rfl)

/-- Stretch 4 keeps `main_v129`. -/
theorem pre4_v122 (V : Valuation τ sig (Elt Ideal)) : pre4 V (Proc.devRef .tc main_v129) = u_v122 V :=
  (keep_hostOps0_4 _ main_v129 (by decide)).trans (pre3_v122 V)

/-- Stretch 5 keeps `main_v129`. -/
theorem pre5_v122 (V : Valuation τ sig (Elt Ideal)) : pre5 V (Proc.devRef .tc main_v129) = u_v122 V :=
  (keep_hostOps0_5 _ main_v129 (by decide)).trans (pre4_v122 V)

/-- Stretch 6 keeps `main_v129`. -/
theorem pre6_v122 (V : Valuation τ sig (Elt Ideal)) : pre6 V (Proc.devRef .tc main_v129) = u_v122 V :=
  (keep_hostOps0_6 _ main_v129 (by decide)).trans (pre5_v122 V)

/-- Stretch 7 keeps `main_v129`. -/
theorem pre7_v122 (V : Valuation τ sig (Elt Ideal)) : pre7 V (Proc.devRef .tc main_v129) = u_v122 V :=
  (keep_hostOps0_7 _ main_v129 (by decide)).trans (pre6_v122 V)

/-- What the reference's lines before its loop leaves in `main_v131`. -/
def u_v124 (V : Valuation τ sig (Elt Ideal)) : FVec Ideal S2x2000 .f32 := t_v124 (u_v110 V)

/-- Stretch 4 computes `main_v131`. -/
theorem pre4_v124 (V : Valuation τ sig (Elt Ideal)) : pre4 V (Proc.devRef .tc main_v131) = u_v124 V :=
  (read_v124 (pre3 V)).trans (by rw [pre3_v110]; rfl)

/-- What the reference's lines before its loop leaves in `main_cst_28`. -/
def u_cst_24 (V : Valuation τ sig (Elt Ideal)) : FVec Ideal S_ .f32 := t_cst_24

/-- Stretch 4 computes `main_cst_28`. -/
theorem pre4_cst_24 (V : Valuation τ sig (Elt Ideal)) : pre4 V (Proc.devRef .tc main_cst_28) = u_cst_24 V :=
  read_cst_24 (pre3 V)

/-- What the reference's lines before its loop leaves in `main_cst_29`. -/
def u_cst_25 (V : Valuation τ sig (Elt Ideal)) : FVec Ideal S_ .f32 := t_cst_25

/-- Stretch 4 computes `main_cst_29`. -/
theorem pre4_cst_25 (V : Valuation τ sig (Elt Ideal)) : pre4 V (Proc.devRef .tc main_cst_29) = u_cst_25 V :=
  read_cst_25 (pre3 V)

/-- What the reference's lines before its loop leaves in `main_v132`. -/
def u_v125 (V : Valuation τ sig (Elt Ideal)) : FVec Ideal S2x2000 .f32 := t_v125 (u_cst_25 V) (u_cst_24 V) (u_v124 V)

/-- Stretch 5 computes `main_v132`. -/
theorem pre5_v125 (V : Valuation τ sig (Elt Ideal)) : pre5 V (Proc.devRef .tc main_v132) = u_v125 V :=
  (read_v125 (pre4 V)).trans (by rw [pre4_cst_25, pre4_cst_24, pre4_v124]; rfl)

/-- Stretch 6 keeps `main_v132`. -/
theorem pre6_v125 (V : Valuation τ sig (Elt Ideal)) : pre6 V (Proc.devRef .tc main_v132) = u_v125 V :=
  (keep_hostOps0_6 _ main_v132 (by decide)).trans (pre5_v125 V)

/-- Stretch 7 keeps `main_v132`. -/
theorem pre7_v125 (V : Valuation τ sig (Elt Ideal)) : pre7 V (Proc.devRef .tc main_v132) = u_v125 V :=
  (keep_hostOps0_7 _ main_v132 (by decide)).trans (pre6_v125 V)

/-- What the reference's lines before its loop leaves in `main_v134`. -/
def u_v127 (V : Valuation τ sig (Elt Ideal)) : FVec Ideal S2x2000 .f32 := t_v127 (u_v110 V)

/-- Stretch 6 computes `main_v134`. -/
theorem pre6_v127 (V : Valuation τ sig (Elt Ideal)) : pre6 V (Proc.devRef .tc main_v134) = u_v127 V :=
  (read_v127 (pre5 V)).trans (by rw [pre5_v110]; rfl)

/-- What the reference's lines before its loop leaves in `main_cst_30`. -/
def u_cst_26 (V : Valuation τ sig (Elt Ideal)) : FVec Ideal S_ .f32 := t_cst_26

/-- Stretch 6 computes `main_cst_30`. -/
theorem pre6_cst_26 (V : Valuation τ sig (Elt Ideal)) : pre6 V (Proc.devRef .tc main_cst_30) = u_cst_26 V :=
  read_cst_26 (pre5 V)

/-- What the reference's lines before its loop leaves in `main_cst_31`. -/
def u_cst_27 (V : Valuation τ sig (Elt Ideal)) : FVec Ideal S_ .f32 := t_cst_27

/-- Stretch 6 computes `main_cst_31`. -/
theorem pre6_cst_27 (V : Valuation τ sig (Elt Ideal)) : pre6 V (Proc.devRef .tc main_cst_31) = u_cst_27 V :=
  read_cst_27 (pre5 V)

/-- What the reference's lines before its loop leaves in `main_v135`. -/
def u_v128 (V : Valuation τ sig (Elt Ideal)) : FVec Ideal S2x2000 .f32 := t_v128 (u_cst_27 V) (u_cst_26 V) (u_v127 V)

/-- Stretch 7 computes `main_v135`. -/
theorem pre7_v128 (V : Valuation τ sig (Elt Ideal)) : pre7 V (Proc.devRef .tc main_v135) = u_v128 V :=
  (read_v128 (pre6 V)).trans (by rw [pre6_cst_27, pre6_cst_26, pre6_v127]; rfl)

/-- What the reference's lines before its loop leaves in `main_v140`. -/
def u_v133 (V : Valuation τ sig (Elt Ideal)) : FVec Ideal S2x2000x4 .f32 := t_v133 (u_v119 V) (u_v122 V) (u_v125 V) (u_v128 V)

/-- Stretch 8 computes `main_v140`. -/
theorem pre8_v133 (V : Valuation τ sig (Elt Ideal)) : pre8 V (Proc.devRef .tc main_v140) = u_v133 V :=
  (read_v133 (pre7 V)).trans (by rw [pre7_v119, pre7_v122, pre7_v125, pre7_v128]; rfl)

/-- Stretch 9 keeps `main_v140`. -/
theorem pre9_v133 (V : Valuation τ sig (Elt Ideal)) : pre9 V (Proc.devRef .tc main_v140) = u_v133 V :=
  (keep_hostOps0_9 _ main_v140 (by decide)).trans (pre8_v133 V)

/-- Stretch 10 keeps `main_v140`. -/
theorem pre10_v133 (V : Valuation τ sig (Elt Ideal)) : pre10 V (Proc.devRef .tc main_v140) = u_v133 V :=
  (keep_hostOps0_10 _ main_v140 (by decide)).trans (pre9_v133 V)

/-- What the reference's lines before its loop leaves in `main_v158`. -/
def u_v151 (V : Valuation τ sig (Elt Ideal)) : IVec S2x2000 1 := t_v151 (u_v119 V) (u_v122 V) (u_v125 V) (u_v128 V) (u_v116 V)

/-- Stretch 8 computes `main_v158`. -/
theorem pre8_v151 (V : Valuation τ sig (Elt Ideal)) : pre8 V (Proc.devRef .tc main_v158) = u_v151 V :=
  (read_v151 (pre7 V)).trans (by rw [pre7_v119, pre7_v122, pre7_v125, pre7_v128, pre7_v116]; rfl)

/-- Stretch 9 keeps `main_v158`. -/
theorem pre9_v151 (V : Valuation τ sig (Elt Ideal)) : pre9 V (Proc.devRef .tc main_v158) = u_v151 V :=
  (keep_hostOps0_9 _ main_v158 (by decide)).trans (pre8_v151 V)

/-- What the reference's lines before its loop leaves in `main_cst_35`. -/
def u_cst_31 (V : Valuation τ sig (Elt Ideal)) : FVec Ideal S_ .f32 := t_cst_31

/-- Stretch 8 computes `main_cst_35`. -/
theorem pre8_cst_31 (V : Valuation τ sig (Elt Ideal)) : pre8 V (Proc.devRef .tc main_cst_35) = u_cst_31 V :=
  read_cst_31 (pre7 V)

/-- What the reference's lines before its loop leaves in `main_v159`. -/
def u_v152 (V : Valuation τ sig (Elt Ideal)) : FVec Ideal S2x2000 .f32 := t_v152 (u_v151 V) (u_v116 V) (u_cst_31 V)

/-- Stretch 9 computes `main_v159`. -/
theorem pre9_v152 (V : Valuation τ sig (Elt Ideal)) : pre9 V (Proc.devRef .tc main_v159) = u_v152 V :=
  (read_v152 (pre8 V)).trans (by rw [pre8_v151, pre8_v116, pre8_cst_31]; rfl)

/-- Stretch 10 keeps `main_v159`. -/
theorem pre10_v152 (V : Valuation τ sig (Elt Ideal)) : pre10 V (Proc.devRef .tc main_v159) = u_v152 V :=
  (keep_hostOps0_10 _ main_v159 (by decide)).trans (pre9_v152 V)

/-- Stretch 11 keeps `main_v159`. -/
theorem pre11_v152 (V : Valuation τ sig (Elt Ideal)) : pre11 V (Proc.devRef .tc main_v159) = u_v152 V :=
  (keep_hostOps0_11 _ main_v159 (by decide)).trans (pre10_v152 V)

/-- Stretch 12 keeps `main_v159`. -/
theorem pre12_v152 (V : Valuation τ sig (Elt Ideal)) : pre12 V (Proc.devRef .tc main_v159) = u_v152 V :=
  (keep_hostOps0_12 _ main_v159 (by decide)).trans (pre11_v152 V)

/-- Stretch 13 keeps `main_v159`. -/
theorem pre13_v152 (V : Valuation τ sig (Elt Ideal)) : pre13 V (Proc.devRef .tc main_v159) = u_v152 V :=
  (keep_hostOps0_13 _ main_v159 (by decide)).trans (pre12_v152 V)

/-- What the reference's lines before its loop leaves in `main_v160`. -/
def u_v153 (V : Valuation τ sig (Elt Ideal)) : IVec S2x2000x1 1 := t_v153 (u_v151 V)

/-- Stretch 10 computes `main_v160`. -/
theorem pre10_v153 (V : Valuation τ sig (Elt Ideal)) : pre10 V (Proc.devRef .tc main_v160) = u_v153 V :=
  (read_v153 (pre9 V)).trans (by rw [pre9_v151]; rfl)

/-- What the reference's lines before its loop leaves in `main_cst_36`. -/
def u_cst_32 (V : Valuation τ sig (Elt Ideal)) : FVec Ideal S_ .f32 := t_cst_32

/-- Stretch 10 computes `main_cst_36`. -/
theorem pre10_cst_32 (V : Valuation τ sig (Elt Ideal)) : pre10 V (Proc.devRef .tc main_cst_36) = u_cst_32 V :=
  read_cst_32 (pre9 V)

/-- What the reference's lines before its loop leaves in `main_v161`. -/
def u_v154 (V : Valuation τ sig (Elt Ideal)) : FVec Ideal S2x2000x4 .f32 := t_v154 (u_v153 V) (u_v133 V) (u_cst_32 V)

/-- Stretch 11 computes `main_v161`. -/
theorem pre11_v154 (V : Valuation τ sig (Elt Ideal)) : pre11 V (Proc.devRef .tc main_v161) = u_v154 V :=
  (read_v154 (pre10 V)).trans (by rw [pre10_v153, pre10_v133, pre10_cst_32]; rfl)

/-- Stretch 12 keeps `main_v161`. -/
theorem pre12_v154 (V : Valuation τ sig (Elt Ideal)) : pre12 V (Proc.devRef .tc main_v161) = u_v154 V :=
  (keep_hostOps0_12 _ main_v161 (by decide)).trans (pre11_v154 V)

/-- Stretch 13 keeps `main_v161`. -/
theorem pre13_v154 (V : Valuation τ sig (Elt Ideal)) : pre13 V (Proc.devRef .tc main_v161) = u_v154 V :=
  (keep_hostOps0_13 _ main_v161 (by decide)).trans (pre12_v154 V)

/-- What the reference's lines before its loop leaves in `main_v167`. -/
def u_v160 (V : Valuation τ sig (Elt Ideal)) : FVec Ideal S2x2000x4 .f32 := t_v160 (u_v154 V) (u_v95 V)

/-- Stretch 12 computes `main_v167`. -/
theorem pre12_v160 (V : Valuation τ sig (Elt Ideal)) : pre12 V (Proc.devRef .tc main_v167) = u_v160 V :=
  (read_v160 (pre11 V)).trans (by rw [pre11_v154, pre11_v95]; rfl)

/-- Stretch 13 keeps `main_v167`. -/
theorem pre13_v160 (V : Valuation τ sig (Elt Ideal)) : pre13 V (Proc.devRef .tc main_v167) = u_v160 V :=
  (keep_hostOps0_13 _ main_v167 (by decide)).trans (pre12_v160 V)

/-- What the reference's lines before its loop leaves in `main_v168`. -/
def u_v161 (V : Valuation τ sig (Elt Ideal)) : FVec Ideal S2x2000 .f32 := t_v161 (u_v152 V)

/-- Stretch 12 computes `main_v168`. -/
theorem pre12_v161 (V : Valuation τ sig (Elt Ideal)) : pre12 V (Proc.devRef .tc main_v168) = u_v161 V :=
  (read_v161 (pre11 V)).trans (by rw [pre11_v152]; rfl)

/-- What the reference's lines before its loop leaves in `main_v169`. -/
def u_v162 (V : Valuation τ sig (Elt Ideal)) : IVec S2x2000 32 := t_v162 (u_v161 V)

/-- Stretch 13 computes `main_v169`. -/
theorem pre13_v162 (V : Valuation τ sig (Elt Ideal)) : pre13 V (Proc.devRef .tc main_v169) = u_v162 V :=
  (read_v162 (pre12 V)).trans (by rw [pre12_v161]; rfl)

/-- What the reference's lines before its loop leaves in `main_v171`. -/
def u_v164 (V : Valuation τ sig (Elt Ideal)) : IVec S2x1 32 := t_v164

/-- Stretch 14 computes `main_v171`. -/
theorem pre14_v164 (V : Valuation τ sig (Elt Ideal)) : pre14 V (Proc.devRef .tc main_v171) = u_v164 V :=
  read_v164 (pre13 V)

/-- What the reference's lines before its loop leaves in `main_v201`. -/
def u_v194 (V : Valuation τ sig (Elt Ideal)) : FVec Ideal S2x2000 .f32 := t_v194 (u_v152 V) (u_v162 V)

/-- Stretch 14 computes `main_v201`. -/
theorem pre14_v194 (V : Valuation τ sig (Elt Ideal)) : pre14 V (Proc.devRef .tc main_v201) = u_v194 V :=
  (read_v194 (pre13 V)).trans (by rw [pre13_v152, pre13_v162]; rfl)

/-- What the reference's lines before its loop leaves in `main_v216`. -/
def u_v209 (V : Valuation τ sig (Elt Ideal)) : FVec Ideal S2x2000x4 .f32 := t_v209 (u_v154 V) (u_v162 V)

/-- Stretch 14 computes `main_v216`. -/
theorem pre14_v209 (V : Valuation τ sig (Elt Ideal)) : pre14 V (Proc.devRef .tc main_v216) = u_v209 V :=
  (read_v209 (pre13 V)).trans (by rw [pre13_v154, pre13_v162]; rfl)

/-- What the reference's lines before its loop leaves in `main_v230_0`. -/
def u_v223_0 (V : Valuation τ sig (Elt Ideal)) : FVec Ideal S2x2000 .f32 := t_v223_0 (u_v160 V) (u_v162 V)

/-- Stretch 14 computes `main_v230_0`. -/
theorem pre14_v223_0 (V : Valuation τ sig (Elt Ideal)) : pre14 V (Proc.devRef .tc main_v230_0) = u_v223_0 V :=
  (read_v223_0 (pre13 V)).trans (by rw [pre13_v160, pre13_v162]; rfl)

/-- What the reference's lines before its loop leaves in `main_v230_1`. -/
def u_v223_1 (V : Valuation τ sig (Elt Ideal)) : FVec Ideal S2x2000 .f32 := t_v223_1 (u_v160 V) (u_v162 V)

/-- Stretch 14 computes `main_v230_1`. -/
theorem pre14_v223_1 (V : Valuation τ sig (Elt Ideal)) : pre14 V (Proc.devRef .tc main_v230_1) = u_v223_1 V :=
  (read_v223_1 (pre13 V)).trans (by rw [pre13_v160, pre13_v162]; rfl)

/-- What the reference's lines before its loop leaves in `main_v230_2`. -/
def u_v223_2 (V : Valuation τ sig (Elt Ideal)) : FVec Ideal S2x2000 .f32 := t_v223_2 (u_v160 V) (u_v162 V)

/-- Stretch 14 computes `main_v230_2`. -/
theorem pre14_v223_2 (V : Valuation τ sig (Elt Ideal)) : pre14 V (Proc.devRef .tc main_v230_2) = u_v223_2 V :=
  (read_v223_2 (pre13 V)).trans (by rw [pre13_v160, pre13_v162]; rfl)

/-- What the reference's lines before its loop leaves in `main_v230_3`. -/
def u_v223_3 (V : Valuation τ sig (Elt Ideal)) : FVec Ideal S2x2000 .f32 := t_v223_3 (u_v160 V) (u_v162 V)

/-- Stretch 14 computes `main_v230_3`. -/
theorem pre14_v223_3 (V : Valuation τ sig (Elt Ideal)) : pre14 V (Proc.devRef .tc main_v230_3) = u_v223_3 V :=
  (read_v223_3 (pre13 V)).trans (by rw [pre13_v160, pre13_v162]; rfl)

/-- What the reference's lines before its loop leaves in `main_v230_4`. -/
def u_v223_4 (V : Valuation τ sig (Elt Ideal)) : FVec Ideal S2x2000 .f32 := t_v223_4 (u_v160 V) (u_v162 V)

/-- Stretch 14 computes `main_v230_4`. -/
theorem pre14_v223_4 (V : Valuation τ sig (Elt Ideal)) : pre14 V (Proc.devRef .tc main_v230_4) = u_v223_4 V :=
  (read_v223_4 (pre13 V)).trans (by rw [pre13_v160, pre13_v162]; rfl)

/-- What the reference's lines before its loop leaves in `main_v230_5`. -/
def u_v223_5 (V : Valuation τ sig (Elt Ideal)) : IVec S2000 32 := t_v223_5

/-- Stretch 14 computes `main_v230_5`. -/
theorem pre14_v223_5 (V : Valuation τ sig (Elt Ideal)) : pre14 V (Proc.devRef .tc main_v230_5) = u_v223_5 V :=
  read_v223_5 (pre13 V)

/-- What the reference's lines before its loop leaves in `main_v230_6`. -/
def u_v223_6 (V : Valuation τ sig (Elt Ideal)) : IVec S_ 32 := t_v223_6

/-- What the reference's lines before its loop leaves in `main_v230_7`. -/
def u_v223_7 (V : Valuation τ sig (Elt Ideal)) : IVec S_ 32 := t_v223_7

/-- Stretch 14 computes `main_v230_7`. -/
theorem pre14_v223_7 (V : Valuation τ sig (Elt Ideal)) : pre14 V (Proc.devRef .tc main_v230_7) = u_v223_7 V :=
  read_v223_7 (pre13 V)

/-- What the reference's lines before its loop leaves in `main_v230_8`. -/
def u_v223_8 (V : Valuation τ sig (Elt Ideal)) : IVec S2x2000 1 := t_v223_8

/-- Stretch 14 computes `main_v230_8`. -/
theorem pre14_v223_8 (V : Valuation τ sig (Elt Ideal)) : pre14 V (Proc.devRef .tc main_v230_8) = u_v223_8 V :=
  read_v223_8 (pre13 V)

/-- The buffers after stretch `hostOps0_15` of the reference's lines after its loop. -/
def suf0 (V : Valuation τ sig (Elt Ideal)) : Valuation τ sig (Elt Ideal) := StableHlo.after hostOps0_15 V

/-- The buffers after stretch `hostOps0_16` of the reference's lines after its loop. -/
def suf1 (V : Valuation τ sig (Elt Ideal)) : Valuation τ sig (Elt Ideal) := StableHlo.after hostOps0_16 (suf0 V)

/-- The buffers after stretch `hostOps0_17` of the reference's lines after its loop. -/
def suf2 (V : Valuation τ sig (Elt Ideal)) : Valuation τ sig (Elt Ideal) := StableHlo.after hostOps0_17 (suf1 V)

/-- The buffers after stretch `hostOps0_18` of the reference's lines after its loop. -/
def suf3 (V : Valuation τ sig (Elt Ideal)) : Valuation τ sig (Elt Ideal) := StableHlo.after hostOps0_18 (suf2 V)

/-- The buffers after stretch `hostOps0_19` of the reference's lines after its loop. -/
def suf4 (V : Valuation τ sig (Elt Ideal)) : Valuation τ sig (Elt Ideal) := StableHlo.after hostOps0_19 (suf3 V)

/-- The buffers after stretch `hostOps0_20` of the reference's lines after its loop. -/
def suf5 (V : Valuation τ sig (Elt Ideal)) : Valuation τ sig (Elt Ideal) := StableHlo.after hostOps0_20 (suf4 V)

/-- The reference's lines after its loop, as one list of operations. -/
theorem suf_flat (V : Valuation τ sig (Elt Ideal)) : StableHlo.after (List.flatten [hostOps0_15, hostOps0_16, hostOps0_17, hostOps0_18, hostOps0_19, hostOps0_20]) V = suf5 V := by
  simp only [List.flatten_cons, List.flatten_nil, List.append_nil, StableHlo.after_append]
  rfl

/-- Stretch 0 of the lines after keeps `main_v201`. -/
theorem suf0_v194 (V : Valuation τ sig (Elt Ideal)) : suf0 V (Proc.devRef .tc main_v201) = V (Proc.devRef .tc main_v201) :=
  (keep_hostOps0_15 _ main_v201 (by decide)).trans rfl

/-- Stretch 0 of the lines after keeps `main_v171`. -/
theorem suf0_v164 (V : Valuation τ sig (Elt Ideal)) : suf0 V (Proc.devRef .tc main_v171) = V (Proc.devRef .tc main_v171) :=
  (keep_hostOps0_15 _ main_v171 (by decide)).trans rfl

/-- Stretch 1 of the lines after keeps `main_v171`. -/
theorem suf1_v164 (V : Valuation τ sig (Elt Ideal)) : suf1 V (Proc.devRef .tc main_v171) = V (Proc.devRef .tc main_v171) :=
  (keep_hostOps0_16 _ main_v171 (by decide)).trans (suf0_v164 V)

/-- Stretch 2 of the lines after keeps `main_v171`. -/
theorem suf2_v164 (V : Valuation τ sig (Elt Ideal)) : suf2 V (Proc.devRef .tc main_v171) = V (Proc.devRef .tc main_v171) :=
  (keep_hostOps0_17 _ main_v171 (by decide)).trans (suf1_v164 V)

/-- Stretch 3 of the lines after keeps `main_v171`. -/
theorem suf3_v164 (V : Valuation τ sig (Elt Ideal)) : suf3 V (Proc.devRef .tc main_v171) = V (Proc.devRef .tc main_v171) :=
  (keep_hostOps0_18 _ main_v171 (by decide)).trans (suf2_v164 V)

/-- Stretch 0 of the lines after keeps `main_v216`. -/
theorem suf0_v209 (V : Valuation τ sig (Elt Ideal)) : suf0 V (Proc.devRef .tc main_v216) = V (Proc.devRef .tc main_v216) :=
  (keep_hostOps0_15 _ main_v216 (by decide)).trans rfl

/-- Stretch 1 of the lines after keeps `main_v216`. -/
theorem suf1_v209 (V : Valuation τ sig (Elt Ideal)) : suf1 V (Proc.devRef .tc main_v216) = V (Proc.devRef .tc main_v216) :=
  (keep_hostOps0_16 _ main_v216 (by decide)).trans (suf0_v209 V)

/-- Stretch 2 of the lines after keeps `main_v216`. -/
theorem suf2_v209 (V : Valuation τ sig (Elt Ideal)) : suf2 V (Proc.devRef .tc main_v216) = V (Proc.devRef .tc main_v216) :=
  (keep_hostOps0_17 _ main_v216 (by decide)).trans (suf1_v209 V)

/-- Stretch 3 of the lines after keeps `main_v216`. -/
theorem suf3_v209 (V : Valuation τ sig (Elt Ideal)) : suf3 V (Proc.devRef .tc main_v216) = V (Proc.devRef .tc main_v216) :=
  (keep_hostOps0_18 _ main_v216 (by decide)).trans (suf2_v209 V)

/-- What the reference's lines after its loop leaves in `main_v234`. -/
def u_v227 (V : Valuation τ sig (Elt Ideal)) : IVec S2x2000 1 := t_v227 (V (Proc.devRef .tc main_v230_8)) (V (Proc.devRef .tc main_v201))

/-- Stretch 0 of the lines after computes `main_v234`. -/
theorem suf0_v227 (V : Valuation τ sig (Elt Ideal)) : suf0 V (Proc.devRef .tc main_v234) = u_v227 V :=
  read_v227 V

/-- What the reference's lines after its loop leaves in `main_cst_54`. -/
def u_cst_50 (V : Valuation τ sig (Elt Ideal)) : FVec Ideal S_ .f32 := t_cst_50

/-- Stretch 0 of the lines after computes `main_cst_54`. -/
theorem suf0_cst_50 (V : Valuation τ sig (Elt Ideal)) : suf0 V (Proc.devRef .tc main_cst_54) = u_cst_50 V :=
  read_cst_50 V

/-- What the reference's lines after its loop leaves in `main_v235`. -/
def u_v228 (V : Valuation τ sig (Elt Ideal)) : FVec Ideal S2x2000 .f32 := t_v228 (u_v227 V) (V (Proc.devRef .tc main_v201)) (u_cst_50 V)

/-- Stretch 1 of the lines after computes `main_v235`. -/
theorem suf1_v228 (V : Valuation τ sig (Elt Ideal)) : suf1 V (Proc.devRef .tc main_v235) = u_v228 V :=
  (read_v228 (suf0 V)).trans (by rw [suf0_v227, suf0_v194, suf0_cst_50]; rfl)

/-- Stretch 2 of the lines after keeps `main_v235`. -/
theorem suf2_v228 (V : Valuation τ sig (Elt Ideal)) : suf2 V (Proc.devRef .tc main_v235) = u_v228 V :=
  (keep_hostOps0_17 _ main_v235 (by decide)).trans (suf1_v228 V)

/-- Stretch 3 of the lines after keeps `main_v235`. -/
theorem suf3_v228 (V : Valuation τ sig (Elt Ideal)) : suf3 V (Proc.devRef .tc main_v235) = u_v228 V :=
  (keep_hostOps0_18 _ main_v235 (by decide)).trans (suf2_v228 V)

/-- What the reference's lines after its loop leaves in `main_v236`. -/
def u_v229 (V : Valuation τ sig (Elt Ideal)) : FVec Ideal S2x2000 .f32 := t_v229 (u_v228 V)

/-- Stretch 2 of the lines after computes `main_v236`. -/
theorem suf2_v229 (V : Valuation τ sig (Elt Ideal)) : suf2 V (Proc.devRef .tc main_v236) = u_v229 V :=
  (read_v229 (suf1 V)).trans (by rw [suf1_v228]; rfl)

/-- What the reference's lines after its loop leaves in `main_v237`. -/
def u_v230 (V : Valuation τ sig (Elt Ideal)) : IVec S2x2000 32 := t_v230 (u_v229 V)

/-- Stretch 3 of the lines after computes `main_v237`. -/
theorem suf3_v230 (V : Valuation τ sig (Elt Ideal)) : suf3 V (Proc.devRef .tc main_v237) = u_v230 V :=
  (read_v230 (suf2 V)).trans (by rw [suf2_v229]; rfl)

/-- What the reference's lines after its loop leaves in `main_v257`. -/
def u_v250 (V : Valuation τ sig (Elt Ideal)) : IVec S2x1000x1 1 := t_v250 (u_v228 V) (V (Proc.devRef .tc main_v171)) (u_v230 V)

/-- Stretch 4 of the lines after computes `main_v257`. -/
theorem suf4_v250 (V : Valuation τ sig (Elt Ideal)) : suf4 V (Proc.devRef .tc main_v257) = u_v250 V :=
  (read_v250 (suf3 V)).trans (by rw [suf3_v228, suf3_v164, suf3_v230]; rfl)

/-- What the reference's lines after its loop leaves in `main_v272`. -/
def u_v265 (V : Valuation τ sig (Elt Ideal)) : FVec Ideal S2x1000x4 .f32 := t_v265 (V (Proc.devRef .tc main_v216)) (V (Proc.devRef .tc main_v171)) (u_v230 V)

/-- Stretch 4 of the lines after computes `main_v272`. -/
theorem suf4_v265 (V : Valuation τ sig (Elt Ideal)) : suf4 V (Proc.devRef .tc main_v272) = u_v265 V :=
  (read_v265 (suf3 V)).trans (by rw [suf3_v209, suf3_v164, suf3_v230]; rfl)

/-- What the reference's lines after its loop leaves in `main_cst_64`. -/
def u_cst_60 (V : Valuation τ sig (Elt Ideal)) : FVec Ideal S_ .f32 := t_cst_60

/-- Stretch 4 of the lines after computes `main_cst_64`. -/
theorem suf4_cst_60 (V : Valuation τ sig (Elt Ideal)) : suf4 V (Proc.devRef .tc main_cst_64) = u_cst_60 V :=
  read_cst_60 (suf3 V)

/-- What the reference's lines after its loop leaves in `main_v273`. -/
def u_v266 (V : Valuation τ sig (Elt Ideal)) : FVec Ideal S2x1000x4 .f32 := t_v266 (u_v250 V) (u_v265 V) (u_cst_60 V)

/-- Stretch 5 of the lines after computes `main_v273`. -/
theorem suf5_v266 (V : Valuation τ sig (Elt Ideal)) : suf5 V (Proc.devRef .tc main_v273) = u_v266 V :=
  (read_v266 (suf4 V)).trans (by rw [suf4_v250, suf4_v265, suf4_cst_60]; rfl)

end Cert.Proof.ReferenceIdeal
-- ==== Proof.RPre.lean ====
/- What the reference's loop starts from, in its candidates' order. -/
module

public import proofs.«01_k».proof.Proof.RHost
public import proofs.«01_k».proof.Proof.RChain

@[expose] public section

set_option maxRecDepth 16384

noncomputable section

namespace Cert.Proof.ReferenceIdeal

open Cert.ReferenceIdeal Cert.ReferenceIdeal.Gen Cert.Proof.Cand Cert.Proof.Gath Cert.Proof.Greedy
open Idealize.ShloMosaic Idealize.ShloMosaic.TcCoe Idealize.SL.Sem Idealize.ShloMosaic.Routing Idealize.ShloMosaic.WordCmp

variable (V : Valuation τ sig (Elt Ideal))

/-- The four arguments. -/
abbrev aO : FVec Ideal S2x200000 .f32 := V (Proc.devRef .tc main_arg0)
@[inherit_doc aO] abbrev aD : FVec Ideal S2x200000x4 .f32 := V (Proc.devRef .tc main_arg1)
@[inherit_doc aO] abbrev aA : FVec Ideal S200000x4 .f32 := V (Proc.devRef .tc main_arg2)
@[inherit_doc aO] abbrev aT : IVec S2x2000 32 := topI (V (Proc.devRef .tc main_arg0))

/-- The candidates' order by score. -/
def sg (b : Fin 2) : Fin 2000 → Fin 2000 := ordOf (u_v161 V) b
/-- Which candidates are valid. -/
abbrev vld (b : Fin 2) (k : ℕ) : Prop := vk (aO V) (aD V) (aA V) (aT V) b k
/-- A candidate's box. -/
abbrev bx (b : Fin 2) (k : ℕ) : Fin 4 → EReal := bxk (aD V) (aA V) (aT V) b k
/-- A candidate's objectness. -/
abbrev obj (b : Fin 2) (k : ℕ) : EReal := ob (aO V) (aT V) b k

variable (hr : ∀ b k, (aT V (ix2 b k)).toNat < 200000)

include hr in
/-- The index word as a row number. -/
theorem word_at (b : Fin 2) (k : Fin 2000) : aT V (ix2 b k) = BitVec.ofNat 32 (tix (aT V) b k.val).val := by
  have h := hr b k
  unfold tix
  rw [dif_pos k.isLt]
  show _ = BitVec.ofNat 32 ((aT V (ix2 b k)).toNat % 200000)
  rw [Nat.mod_eq_of_lt h]; simp

include hr in
/-- The logistic score. -/
theorem u116_at (b : Fin 2) (k : Fin 2000) : u_v116 V (ix2 b k) = logi (obj V b k.val) := by
  unfold u_v116
  refine (score_at _ _ b k _ (word_at V hr b k)).trans ?_
  unfold obj ob; rw [if_pos k.isLt]

include hr in
/-- The decoded box, before clipping. -/
theorem u110_at (b : Fin 2) (k : Fin 2000) (j : Fin 4) : u_v110 V (ix3 b k j) = t_v68 (aD V) (aA V) (ix3 b (tix (aT V) b k.val) j) := by
  unfold u_v110
  exact decoded_at _ _ _ b k j _ (word_at V hr b k)

include hr in
/-- The clipped corners, one by one. -/
theorem cols_at (b : Fin 2) (k : Fin 2000) :
    ![u_v119 V (ix2 b k), u_v122 V (ix2 b k), u_v125 V (ix2 b k), u_v128 V (ix2 b k)] = bx V b k.val := by
  have hd : dl (aD V) (aT V) b k.val = fun j => aD V (ix3 b (tix (aT V) b k.val) j) := by
    funext j; unfold dl; rw [if_pos k.isLt]
  have ha : an (aA V) (aT V) b k.val = fun j => aA V (ix2 (tix (aT V) b k.val) j) := by
    funext j; unfold an; rw [if_pos k.isLt]
  have h0 : u_v119 V (ix2 b k) = bx V b k.val 0 := by
    unfold u_v119 u_cst_20 u_cst_21
    rw [clip119]
    have : u_v118 V (ix2 b k) = u_v110 V (ix3 b k 0) := by unfold u_v118 u_v110; pointwise [t_v118, t_v117]
    rw [this, u110_at V hr, decode0]
    unfold bx bxk; rw [hd, ha]; rfl
  have h1 : u_v122 V (ix2 b k) = bx V b k.val 1 := by
    unfold u_v122 u_cst_22 u_cst_23
    rw [clip122]
    have : u_v121 V (ix2 b k) = u_v110 V (ix3 b k 1) := by unfold u_v121; pointwise [t_v121, t_v120]
    rw [this, u110_at V hr, decode1]
    unfold bx bxk; rw [hd, ha]; rfl
  have h2 : u_v125 V (ix2 b k) = bx V b k.val 2 := by
    unfold u_v125 u_cst_24 u_cst_25
    rw [clip125]
    have : u_v124 V (ix2 b k) = u_v110 V (ix3 b k 2) := by unfold u_v124; pointwise [t_v124, t_v123]
    rw [this, u110_at V hr, decode2]
    unfold bx bxk; rw [hd, ha]; rfl
  have h3 : u_v128 V (ix2 b k) = bx V b k.val 3 := by
    unfold u_v128 u_cst_26 u_cst_27
    rw [clip128]
    have : u_v127 V (ix2 b k) = u_v110 V (ix3 b k 3) := by unfold u_v127; pointwise [t_v127, t_v126]
    rw [this, u110_at V hr, decode3]
    unfold bx bxk; rw [hd, ha]; rfl
  rw [h0, h1, h2, h3]
  funext j
  match j with
  | 0 => rfl
  | 1 => rfl
  | 2 => rfl
  | 3 => rfl

include hr in
open Classical in
/-- The validity bit. -/
theorem u151_at (b : Fin 2) (k : Fin 2000) : u_v151 V (ix2 b k) = BitVec.ofBool (decide (vld V b k.val)) := by
  unfold u_v151
  rw [valid151, cols_at V hr, u116_at V hr]
  congr 1
  exact decide_eq_decide.mpr Iff.rfl

/-- A choice by a bit of truth. -/
theorem select_ofBool {α : Type} (p : Prop) [Decidable p] (x y : α) : Scalar.select (BitVec.ofBool (decide p)) x y = if p then x else y := by
  by_cases h : p
  · rw [decide_eq_true h, if_pos h]; rfl
  · rw [decide_eq_false h, if_neg h]; rfl

/-- The lowest literal. -/
theorem bot_lit : lit 0xFF800000#32 = ⊥ := by simp [lit, Ideal.ofBits, Ideal.ieee]

/-- The highest literal. -/
theorem top_lit : lit 0x7F800000#32 = ⊤ := by simp [lit, Ideal.ofBits, Ideal.ieee]

open Classical in
/-- The masked score of a candidate. -/
def scr (b : Fin 2) (k : ℕ) : EReal := if vld V b k then logi (obj V b k) else ⊥

open Classical in
/-- The masked box of a candidate. -/
def mbx (b : Fin 2) (k : ℕ) (j : Fin 4) : EReal := if vld V b k then bx V b k j else 0

include hr in
/-- The masked score. -/
theorem u152_at (b : Fin 2) (k : Fin 2000) : u_v152 V (ix2 b k) = scr V b k.val := by
  unfold u_v152 u_cst_31
  rw [score152, u151_at V hr, select_ofBool, u116_at V hr, bot_lit]; rfl

include hr in
/-- The masked box. -/
theorem u154_at (b : Fin 2) (k : Fin 2000) (j : Fin 4) : u_v154 V (ix3 b k j) = mbx V b k.val j := by
  unfold u_v154 u_cst_32 u_v153
  rw [box154, u151_at V hr, select_ofBool]
  have : u_v133 V (ix3 b k j) = bx V b k.val j := by
    unfold u_v133
    rw [box133, cols_at V hr]
  rw [this]; rfl

include hr in
/-- The moved box. -/
theorem u160_at (b : Fin 2) (k : Fin 2000) (j : Fin 4) : u_v160 V (ix3 b k j) = mbx V b k.val j + ofk (aT V) b k.val := by
  unfold u_v160 u_v95
  rw [moved160 _ _ b k j (if 160000 ≤ (tix (aT V) b k.val).val then 1 else 0) (by split_ifs <;> omega)
    (level_at _ b k _ (word_at V hr b k)), u154_at V hr]
  unfold ofk lv
  simp only [k.isLt, true_and]
  split_ifs <;> simp

/-- The order names each candidate once. -/
theorem sg_inj (b : Fin 2) : Function.Injective (sg V b) := by
  unfold sg; exact ordOf_inj _ b

/-- The order names every candidate. -/
theorem sg_surj (b : Fin 2) : Function.Surjective (sg V b) := by
  unfold sg; exact ordOf_surj _ b

/-- The order's word. -/
theorem u162_at (b : Fin 2) (p : Fin 2000) : u_v162 V (ix2 b p) = BitVec.ofNat 32 (sg V b p).val := by
  unfold u_v162 sg
  exact sort162 _ b p

include hr in
/-- The order's keys. -/
theorem sg_key (b : Fin 2) (i j : Fin 2000) (h : i < j) :
    scr V b (sg V b j).val < scr V b (sg V b i).val ∨ (scr V b (sg V b i).val = scr V b (sg V b j).val ∧ sg V b i < sg V b j) := by
  have := order_at (u_v161 V) b i j h
  have hk : ∀ k : Fin 2000, u_v161 V (ix2 b k) = - scr V b k.val := fun k => by
    unfold u_v161; rw [neg161, u152_at V hr]
  rw [hk, hk, EReal.neg_lt_neg_iff, neg_inj] at this
  exact this

/-- A valid candidate's masked score is above the invalid ones'. -/
theorem scr_pos (b : Fin 2) (k k' : ℕ) (h : vld V b k) (h' : ¬ vld V b k') : scr V b k' < scr V b k := by
  unfold scr; rw [if_neg h', if_pos h]
  exact lt_of_lt_of_le EReal.bot_lt_zero (logi_nonneg _)

include hr in
/-- The valid candidates come first. -/
theorem sg_valid (b : Fin 2) (i j : Fin 2000) (h : i < j) (hj : vld V b (sg V b j).val) : vld V b (sg V b i).val := by
  by_contra hi
  have hp := scr_pos V b _ _ hj hi
  rcases sg_key V hr b i j h with h1 | ⟨h1, _⟩
  · exact lt_asymm hp h1
  · exact hp.ne h1

include hr in
/-- Among the valid candidates the order is by objectness. -/
theorem sg_ord (b : Fin 2) (i j : Fin 2000) (h : i < j) (hi : vld V b (sg V b i).val) (hj : vld V b (sg V b j).val) :
    bef (obj V b) (sg V b i).val (sg V b j).val := by
  have := sg_key V hr b i j h
  unfold scr at this
  rw [if_pos hi, if_pos hj, logi_strictMono.lt_iff_lt, logi_strictMono.injective.eq_iff] at this
  exact this

include hr in
/-- The score at a place of the order. -/
theorem u194_at (b : Fin 2) (p : Fin 2000) : u_v194 V (ix2 b p) = scr V b (sg V b p).val := by
  unfold u_v194
  rw [take194 _ _ b p _ (u162_at V b p), u152_at V hr]

include hr in
/-- The box at a place of the order. -/
theorem u209_at (b : Fin 2) (p : Fin 2000) (j : Fin 4) : u_v209 V (ix3 b p j) = mbx V b (sg V b p).val j := by
  unfold u_v209
  rw [take209 _ _ b p _ j (u162_at V b p), u154_at V hr]

/-- A candidate's masked and moved box. -/
def mvb (b : Fin 2) (k : ℕ) (j : Fin 4) : EReal := mbx V b k j + ofk (aT V) b k

include hr in
/-- The moved box at a place of the order. -/
theorem u179_at (b : Fin 2) (p : Fin 2000) (j : Fin 4) : t_v179 (u_v160 V) (u_v162 V) (ix3 b p j) = mvb V b (sg V b p).val j := by
  rw [take179 _ _ b p _ j (u162_at V b p), u160_at V hr]; rfl

include hr in
/-- The loop's corner arrays. -/
theorem u223_0_at (b : Fin 2) (p : Fin 2000) : u_v223_0 V (ix2 b p) = mvb V b (sg V b p).val 0 := by
  rw [← u179_at V hr]; show t_v211 (u_v160 V) (u_v162 V) (ix2 b p) = _; pointwise [t_v211, t_v210]
include hr in
@[inherit_doc u223_0_at] theorem u223_1_at (b : Fin 2) (p : Fin 2000) : u_v223_1 V (ix2 b p) = mvb V b (sg V b p).val 1 := by
  rw [← u179_at V hr]; show t_v213 (u_v160 V) (u_v162 V) (ix2 b p) = _; pointwise [t_v213, t_v212]
include hr in
@[inherit_doc u223_0_at] theorem u223_2_at (b : Fin 2) (p : Fin 2000) : u_v223_2 V (ix2 b p) = mvb V b (sg V b p).val 2 := by
  rw [← u179_at V hr]; show t_v215 (u_v160 V) (u_v162 V) (ix2 b p) = _; pointwise [t_v215, t_v214]
include hr in
@[inherit_doc u223_0_at] theorem u223_3_at (b : Fin 2) (p : Fin 2000) : u_v223_3 V (ix2 b p) = mvb V b (sg V b p).val 3 := by
  rw [← u179_at V hr]; show t_v217 (u_v160 V) (u_v162 V) (ix2 b p) = _; pointwise [t_v217, t_v216]
include hr in
/-- The loop's areas. -/
theorem u223_4_at (b : Fin 2) (p : Fin 2000) : u_v223_4 V (ix2 b p) = area (mvb V b (sg V b p).val) := by
  have h : ∀ j, mvb V b (sg V b p).val j = t_v179 (u_v160 V) (u_v162 V) (ix3 b p j) := fun j => (u179_at V hr b p j).symm
  unfold area
  rw [h, h, h, h]
  show t_v220 (u_v160 V) (u_v162 V) (ix2 b p) = _
  pointwise [t_v220, t_v219, t_v218, t_v217, t_v216, t_v215, t_v214, t_v213, t_v212, t_v211, t_v210]

/-- The loop's positions. -/
theorem u223_5_at (p : Fin 2000) : u_v223_5 V (ix1 p) = BitVec.ofNat 32 p.val := by
  show t_v221 (ix1 p) = _; pointwise [t_v221]

/-- The loop starts with everything kept. -/
theorem u223_8_at (b : Fin 2) (p : Fin 2000) : u_v223_8 V (ix2 b p) = 1#1 := by
  show t_v222 (ix2 b p) = _; pointwise [t_v222, t_c_46]

/-- Image numbers. -/
theorem u164_at (b : Fin 2) : u_v164 V (ix2 b 0) = BitVec.ofNat 32 b.val := by
  unfold u_v164; pointwise [t_v164, t_v163]

/-- On valid candidates the moved boxes' overlap is the candidates'. -/
theorem over_mvb (b : Fin 2) (k k' : ℕ) (h : vld V b k) (h' : vld V b k') :
    over (mvb V b k) (mvb V b k') (area (mvb V b k)) (area (mvb V b k')) ↔ rk (aD V) (aA V) (aT V) b k k' := by
  have hm : ∀ q, vld V b q → mvb V b q = moved (bx V b q) (ofk (aT V) b q) := fun q hq => by
    funext j; unfold mvb mbx moved; rw [if_pos hq]
  have ha : ∀ q, area (moved (bx V b q) (ofk (aT V) b q)) = area (bx V b q) := fun q => by
    obtain ⟨o, ho⟩ := ofk_real (aT V) b q
    have hb : ∀ j, ∃ r : ℝ, bx V b q j = (r : EReal) := fun j => box_real _ _ j
    choose r hr using hb
    unfold area moved
    rw [ho, hr, hr, hr, hr, shift_cancel, shift_cancel]
  rw [hm k h, hm k' h', ha, ha]
  rfl

end Cert.Proof.ReferenceIdeal
-- ==== Proof.RLoop.lean ====
/- The reference's loop: which candidates its mask keeps. -/
module

public import proofs.«01_k».proof.Proof.RPre

@[expose] public section

set_option maxRecDepth 16384

noncomputable section

namespace Cert.Proof.ReferenceIdeal

open Cert.ReferenceIdeal Cert.ReferenceIdeal.Gen Cert.Proof.Cand Cert.Proof.Gath Cert.Proof.Greedy
open Cert.ReferenceIdeal.Value
open Idealize.ShloMosaic Idealize.ShloMosaic.TcCoe Idealize.SL.Sem Idealize.ShloMosaic.Routing Idealize.ShloMosaic.WordCmp Idealize.ShloMosaic.StableHlo

/-- The trip's starting column. -/
def stF (w : IVec S_ 32) : Fin 2 → Int := fun k => (((![constantI S_ 32 0#32, select (cmpi .slt w (constantI S_ 32 0#32)) (addi (id w) (constantI S_ 32 2000#32)) w] : Fin 2 → IVec S_ 32)) k (Shape.Idx.first h_S_)).toInt

/-- One column of an array. -/
def colF {α : Type} (x : S2x2000.Idx → α) (w : IVec S_ 32) : S2x1.Idx → α := Host.dynamicSlice S2x1 x (stF w) sliceFits_S2x2000_S2x1

/-- The column the trip's number names. -/
theorem colF_at {α : Type} (x : S2x2000.Idx → α) (w : IVec S_ 32) (n : Fin 2000) (h : w = fun _ => BitVec.ofNat 32 n.val) (b : Fin 2) :
    colF x w (ix2 b 0) = x (ix2 b n) := by
  have hn : n.val < 2 ^ 31 := by omega
  have h1 : stF w 1 = n.val := by
    unfold stF
    show (Scalar.select (IntOp.cmpi CmpIPredicate.slt (w (Shape.Idx.first h_S_)) 0#32) _ (w (Shape.Idx.first h_S_))).toInt = _
    rw [h]
    show (Scalar.select (IntOp.cmpi CmpIPredicate.slt (BitVec.ofNat 32 n.val) 0#32) _ (BitVec.ofNat 32 n.val)).toInt = _
    rw [wrap_at hn, toInt_ofNat_of_lt hn]
  have h0 : stF w 0 = ((0 : ℕ) : ℤ) := rfl
  unfold colF
  rw [Host.dynamicSlice_apply, Shape.Idx.norm_def]
  congr 1
  funext a
  match a with
  | ⟨0, _⟩ =>
    refine Fin.ext ?_
    show Host.clampedStart S2x2000 S2x1 _ (stF w) 0 + b.val = b.val
    rw [show Host.clampedStart S2x2000 S2x1 _ (stF w) 0 = 0 from Host.clampedStart_of_le (s := S2x2000) (t := S2x1) rfl (stF w) 0 0 h0 (by decide)]
    omega
  | ⟨1, _⟩ =>
    refine Fin.ext ?_
    show Host.clampedStart S2x2000 S2x1 _ (stF w) 1 + 0 = n.val
    rw [show Host.clampedStart S2x2000 S2x1 _ (stF w) 1 = n.val from Host.clampedStart_of_le (s := S2x2000) (t := S2x1) rfl (stF w) 1 n.val h1 (by show n.val + 1 ≤ 2000; omega)]
    omega

/-- The overlap areas of one box with every box. -/
def interF (x1 y1 x2 y2 : FVec Ideal S2x2000 .f32) (w : IVec S_ 32) : FVec Ideal S2x2000 .f32 :=
  mulf (maximumf (broadcastInDim S2x2000 ![] bcast_S_S2x2000 (constant S_ .f32 0x00000000#32)) (subf (minimumf (broadcastInDim S2x2000 ![0, 1] bcast_S2x1_S2x2000_0_1 (colF x2 w)) x2) (maximumf (broadcastInDim S2x2000 ![0, 1] bcast_S2x1_S2x2000_0_1 (colF x1 w)) x1)))
    (maximumf (broadcastInDim S2x2000 ![] bcast_S_S2x2000 (constant S_ .f32 0x00000000#32)) (subf (minimumf (broadcastInDim S2x2000 ![0, 1] bcast_S2x1_S2x2000_0_1 (colF y2 w)) y2) (maximumf (broadcastInDim S2x2000 ![0, 1] bcast_S2x1_S2x2000_0_1 (colF y1 w)) y1)))

/-- One trip's mask. -/
def stepF (x1 y1 x2 y2 ar : FVec Ideal S2x2000 .f32) (ix : IVec S2000 32) (w : IVec S_ 32) (kp : IVec S2x2000 1) : IVec S2x2000 1 :=
  andi kp (noti (andi (andi (cmpf .ogt (Host.divf (interF x1 y1 x2 y2 w) (addf (subf (addf (broadcastInDim S2x2000 ![0, 1] bcast_S2x1_S2x2000_0_1 (colF ar w)) ar) (interF x1 y1 x2 y2 w)) (broadcastInDim S2x2000 ![] bcast_S_S2x2000 (constant S_ .f32 0x3089705F#32)))) (broadcastInDim S2x2000 ![] bcast_S_S2x2000 (constant S_ .f32 0x3F333333#32)))
    (broadcastInDim S2x2000 ![0, 1] bcast_S1x2000_S2x2000_0_1 (broadcastInDim S1x2000 ![1] bcast_S2000_S1x2000_1 (cmpi .sgt ix (broadcastInDim S2000 ![] bcast_S_S2000 w)))))
    (broadcastInDim S2x2000 ![0, 1] bcast_S2x1_S2x2000_0_1 (colF kp w))))

/-- A trip's mask is that function of what the loop carries. -/
theorem step_eq (V : Valuation τ sig (Elt Ideal)) : STEP V (Proc.devRef .tc main_v230_8)
    = stepF (V (Proc.devRef .tc main_v230_0)) (V (Proc.devRef .tc main_v230_1)) (V (Proc.devRef .tc main_v230_2)) (V (Proc.devRef .tc main_v230_3))
        (V (Proc.devRef .tc main_v230_4)) (V (Proc.devRef .tc main_v230_5)) (V (Proc.devRef .tc main_v230_7)) (V (Proc.devRef .tc main_v230_8)) :=
  (STEP_main_v230_8 V).trans rfl

/-- The overlap area at an index. -/
theorem interF_at (x1 y1 x2 y2 : FVec Ideal S2x2000 .f32) (w : IVec S_ 32) (n : Fin 2000) (h : w = fun _ => BitVec.ofNat 32 n.val) (b : Fin 2) (p : Fin 2000) :
    interF x1 y1 x2 y2 w (ix2 b p) = inter ![x1 (ix2 b n), y1 (ix2 b n), x2 (ix2 b n), y2 (ix2 b n)] ![x1 (ix2 b p), y1 (ix2 b p), x2 (ix2 b p), y2 (ix2 b p)] := by
  pointwise [interF]
  rw [colF_at _ _ n h, colF_at _ _ n h, colF_at _ _ n h, colF_at _ _ n h]
  unfold inter
  rw [max_comm _ (0 : EReal), max_comm _ (0 : EReal)]
  rfl

/-- The mask's bits as truth. -/
theorem bits_iff (a c : BitVec 1) (P Q : Prop) [Decidable P] [Decidable Q] :
    IntOp.andi a (~~~ IntOp.andi (IntOp.andi (BitVec.ofBool (decide P)) (BitVec.ofBool (decide Q))) c) = 1#1 ↔ a = 1#1 ∧ ¬ (P ∧ Q ∧ c = 1#1) := by
  by_cases hP : P <;> by_cases hQ : Q <;> simp only [hP, hQ, decide_true, decide_false, true_and, false_and, not_false_eq_true, and_true]
  all_goals (revert a c; decide)

/-- Comparing small words compares the numbers. -/
theorem sgt_at (a b : ℕ) (ha : a < 2 ^ 31) (hb : b < 2 ^ 31) :
    IntOp.cmpi CmpIPredicate.sgt (BitVec.ofNat 32 a) (BitVec.ofNat 32 b) = BitVec.ofBool (decide (b < a)) := by
  show BitVec.ofBool ((BitVec.ofNat 32 b).slt (BitVec.ofNat 32 a)) = _
  rw [BitVec.slt_eq_decide, toInt_ofNat_of_lt (a := b) hb, toInt_ofNat_of_lt (a := a) ha]
  congr 1
  simp

/-- A trip's mask at an index. -/
theorem stepF_at (x1 y1 x2 y2 ar : FVec Ideal S2x2000 .f32) (ix : IVec S2000 32) (w : IVec S_ 32) (kp : IVec S2x2000 1) (n : Fin 2000) (h : w = fun _ => BitVec.ofNat 32 n.val)
    (hix : ∀ p : Fin 2000, ix (ix1 p) = BitVec.ofNat 32 p.val) (b : Fin 2) (p : Fin 2000) :
    stepF x1 y1 x2 y2 ar ix w kp (ix2 b p) = 1#1 ↔ (kp (ix2 b p) = 1#1 ∧ ¬ (over ![x1 (ix2 b n), y1 (ix2 b n), x2 (ix2 b n), y2 (ix2 b n)] ![x1 (ix2 b p), y1 (ix2 b p), x2 (ix2 b p), y2 (ix2 b p)] (ar (ix2 b n)) (ar (ix2 b p)) ∧ n.val < p.val ∧ kp (ix2 b n) = 1#1)) := by
  pointwise [stepF]
  rw [interF_at _ _ _ _ _ n h, colF_at _ _ n h, colF_at _ _ n h, hix, h]
  rw [sgt_at p.val n.val (by omega) (by omega), bits_iff]
  exact Iff.rfl

section

variable (m : (ℓ : Loc nD τ sig) → Buf (Elt Ideal) ℓ) (c : Dev nD)

/-- The contents at launch. -/
abbrev L0 : Valuation τ sig (Elt Ideal) := launchContents m c

/-- At the loop's entry the buffers hold what the lines before it leave. -/
theorem entry_eq : entryContents preI m c = pre14 (L0 m c) := by
  rw [← pre_flat]
  simp only [entryContents, preI, afterL_cons, afterL_nil, List.flatten_cons, List.flatten_nil, List.append_nil, StableHlo.after_append]

/-- What the loop carries after `k` trips. -/
def Sk (k : ℕ) : Valuation τ sig (Elt Ideal) := STEP^[k] (entryContents preI m c)

/-- The buffers after one more turn of the loop are one turn from the buffers before. -/
theorem Sk_succ (k : ℕ) : Sk m c (k + 1) = STEP (Sk m c k) := Function.iterate_succ_apply' _ _ _

/-- The loop leaves its array number 0 as it was at the entry. -/
theorem Sk_0 (k : ℕ) : Sk m c k (Proc.devRef .tc main_v230_0) = u_v223_0 (L0 m c) := by
  induction k with
  | zero => show entryContents preI m c _ = _; rw [entry_eq]; exact pre14_v223_0 _
  | succ k ih => rw [Sk_succ, STEP_main_v230_0, ih]
/-- The loop leaves its array number 1 as it was at the entry. -/
theorem Sk_1 (k : ℕ) : Sk m c k (Proc.devRef .tc main_v230_1) = u_v223_1 (L0 m c) := by
  induction k with
  | zero => show entryContents preI m c _ = _; rw [entry_eq]; exact pre14_v223_1 _
  | succ k ih => rw [Sk_succ, STEP_main_v230_1, ih]
/-- The loop leaves its array number 2 as it was at the entry. -/
theorem Sk_2 (k : ℕ) : Sk m c k (Proc.devRef .tc main_v230_2) = u_v223_2 (L0 m c) := by
  induction k with
  | zero => show entryContents preI m c _ = _; rw [entry_eq]; exact pre14_v223_2 _
  | succ k ih => rw [Sk_succ, STEP_main_v230_2, ih]
/-- The loop leaves its array number 3 as it was at the entry. -/
theorem Sk_3 (k : ℕ) : Sk m c k (Proc.devRef .tc main_v230_3) = u_v223_3 (L0 m c) := by
  induction k with
  | zero => show entryContents preI m c _ = _; rw [entry_eq]; exact pre14_v223_3 _
  | succ k ih => rw [Sk_succ, STEP_main_v230_3, ih]
/-- The loop leaves its array number 4 as it was at the entry. -/
theorem Sk_4 (k : ℕ) : Sk m c k (Proc.devRef .tc main_v230_4) = u_v223_4 (L0 m c) := by
  induction k with
  | zero => show entryContents preI m c _ = _; rw [entry_eq]; exact pre14_v223_4 _
  | succ k ih => rw [Sk_succ, STEP_main_v230_4, ih]
/-- The loop leaves its array number 5 as it was at the entry. -/
theorem Sk_5 (k : ℕ) : Sk m c k (Proc.devRef .tc main_v230_5) = u_v223_5 (L0 m c) := by
  induction k with
  | zero => show entryContents preI m c _ = _; rw [entry_eq]; exact pre14_v223_5 _
  | succ k ih => rw [Sk_succ, STEP_main_v230_5, ih]

/-- The trip's number. -/
theorem Sk_7 (k : ℕ) : (Sk m c k (Proc.devRef .tc main_v230_7) : IVec S_ 32) = fun _ => BitVec.ofNat 32 k := by
  induction k with
  | zero => show entryContents preI m c _ = _; rw [entry_eq]; exact pre14_v223_7 _
  | succ k ih =>
    rw [Sk_succ, STEP_main_v230_7]
    funext i
    show IntOp.addi ((Sk m c k (Proc.devRef .tc main_v230_7) : IVec S_ 32) i) 1#32 = _
    rw [ih]
    show BitVec.ofNat 32 k + 1#32 = _
    rw [BitVec.ofNat_add]

/-- The mask after `k` trips. -/
def mk (k : ℕ) : IVec S2x2000 1 := Sk m c k (Proc.devRef .tc main_v230_8)

variable (hr : ∀ b k, (aT (L0 m c) (ix2 b k)).toNat < 200000)

/-- Positions whose boxes overlap. -/
def ovr (b : Fin 2) (i p : Fin 2000) : Prop :=
  over (mvb (L0 m c) b (sg (L0 m c) b i).val) (mvb (L0 m c) b (sg (L0 m c) b p).val) (area (mvb (L0 m c) b (sg (L0 m c) b i).val)) (area (mvb (L0 m c) b (sg (L0 m c) b p).val))

include hr in
/-- The corners at a position. -/
theorem corners_at (b : Fin 2) (p : Fin 2000) :
    ![u_v223_0 (L0 m c) (ix2 b p), u_v223_1 (L0 m c) (ix2 b p), u_v223_2 (L0 m c) (ix2 b p), u_v223_3 (L0 m c) (ix2 b p)] = mvb (L0 m c) b (sg (L0 m c) b p).val := by
  rw [u223_0_at _ hr, u223_1_at _ hr, u223_2_at _ hr, u223_3_at _ hr]
  funext j
  match j with
  | 0 => rfl
  | 1 => rfl
  | 2 => rfl
  | 3 => rfl

include hr in
/-- One trip of the mask. -/
theorem mk_succ (b : Fin 2) (n : ℕ) (hn : n < 2000) (p : Fin 2000) :
    mk m c (n + 1) (ix2 b p) = 1#1 ↔ mk m c n (ix2 b p) = 1#1 ∧ ¬ (ovr m c b ⟨n, hn⟩ p ∧ n < p.val ∧ mk m c n (ix2 b ⟨n, hn⟩) = 1#1) := by
  unfold mk
  rw [Sk_succ, step_eq, Sk_0, Sk_1, Sk_2, Sk_3, Sk_4, Sk_5]
  rw [stepF_at _ _ _ _ _ _ _ _ ⟨n, hn⟩ (Sk_7 m c n) (u223_5_at (L0 m c)), corners_at m c hr, corners_at m c hr, u223_4_at _ hr, u223_4_at _ hr]
  exact Iff.rfl

/-- The positions kept. -/
def msk (b : Fin 2) (p : Fin 2000) : Prop := mk m c 2000 (ix2 b p) = 1#1 ∧ vld (L0 m c) b (sg (L0 m c) b p).val

include hr in
/-- The mask keeps a kept set. -/
theorem kept_msk (b : Fin 2) :
    Kept (obj (L0 m c) b) (vld (L0 m c) b) (rk (aD (L0 m c)) (aA (L0 m c)) (aT (L0 m c)) b) (fun k => ∃ p, (sg (L0 m c) b p).val = k ∧ msk m c b p) := by
  refine kept_of_listing (fun p => (sg (L0 m c) b p).val) (msk m c b) (fun k hk => ?_) (fun p q hp hq h => sg_ord (L0 m c) hr b p q h hp hq) (fun p => ?_)
  · obtain ⟨p, hp⟩ := sg_surj (L0 m c) b ⟨k, vk_lt _ _ _ _ _ _ hk⟩
    exact ⟨p, congrArg Fin.val hp⟩
  · have hc := loop_closed 2000 le_rfl (fun n p => mk m c n (ix2 b p) = 1#1) (ovr m c b) (fun n hn j => mk_succ m c hr b n hn j) p
    have h0 : mk m c 0 (ix2 b p) = 1#1 := by
      have : mk m c 0 = u_v223_8 (L0 m c) := by
        show entryContents preI m c (Proc.devRef .tc main_v230_8) = _; rw [entry_eq]; exact pre14_v223_8 _
      rw [this]; exact u223_8_at _ b p
    unfold msk
    constructor
    · rintro ⟨h1, hv⟩
      refine ⟨hv, fun i hi hm hR => ?_⟩
      exact (hc.mp h1).2 i i.isLt hi hm.1 ((over_mvb _ b _ _ hm.2 hv).mpr hR)
    · rintro ⟨hv, h⟩
      refine ⟨hc.mpr ⟨h0, fun i _ hi hm hR => ?_⟩, hv⟩
      have hvi := sg_valid (L0 m c) hr b i p hi hv
      exact h i hi ⟨hm, hvi⟩ ((over_mvb _ b _ _ hvi hv).mp hR)

end

end Cert.Proof.ReferenceIdeal
-- ==== Proof.RPost.lean ====
/- The reference's result: the kept candidates' boxes in order, zeros after them. -/
module

public import proofs.«01_k».proof.Proof.RLoop

@[expose] public section

set_option maxRecDepth 16384

noncomputable section

namespace Cert.Proof.ReferenceIdeal

open Cert.ReferenceIdeal Cert.ReferenceIdeal.Gen Cert.Proof.Cand Cert.Proof.Gath Cert.Proof.Greedy
open Cert.ReferenceIdeal.Value
open Idealize.ShloMosaic Idealize.ShloMosaic.TcCoe Idealize.SL.Sem Idealize.ShloMosaic.Routing Idealize.ShloMosaic.WordCmp Idealize.ShloMosaic.StableHlo

/-- In a listing by descending keys that puts the kept positions first, a kept position's place is how many kept positions come before it. -/
theorem second_rank {N : ℕ} (mask : Fin N → Prop) [DecidablePred mask] (s : Fin N → EReal) (w : Fin N → Fin N) (hinj : Function.Injective w) (hsurj : Function.Surjective w)
    (hord : ∀ i j, i < j → s (w j) < s (w i) ∨ (s (w i) = s (w j) ∧ w i < w j)) (hm : ∀ p q, mask p → ¬ mask q → s q < s p)
    (hmm : ∀ p q, mask p → mask q → p < q → s q ≤ s p) (r : Fin N) (h : mask (w r)) :
    (Finset.univ.filter fun q : Fin N => mask q ∧ q < w r).card = r.val := by
  have he : (Finset.univ.filter fun q : Fin N => mask q ∧ q < w r) = (Finset.univ.filter fun r' : Fin N => r' < r).image w := by
    ext q
    simp only [Finset.mem_filter, Finset.mem_univ, true_and, Finset.mem_image]
    constructor
    · rintro ⟨hq, hlt⟩
      obtain ⟨r', rfl⟩ := hsurj q
      refine ⟨r', ?_, rfl⟩
      rcases lt_trichotomy r' r with h1 | h1 | h1
      · exact h1
      · subst h1; exact absurd hlt (lt_irrefl _)
      · rcases hord r r' h1 with h2 | ⟨_, h2⟩
        · exact absurd h2 (not_lt.mpr (hmm _ _ hq h hlt))
        · exact absurd h2 (lt_asymm hlt)
    · rintro ⟨r', h1, rfl⟩
      have hk : mask (w r') := by
        by_contra hn
        have := hm _ _ h hn
        rcases hord r' r h1 with h2 | ⟨h2, _⟩
        · exact lt_asymm h2 this
        · exact this.ne h2
      refine ⟨hk, ?_⟩
      rcases hord r' r h1 with h2 | ⟨_, h2⟩
      · rcases lt_trichotomy (w r') (w r) with h3 | h3 | h3
        · exact h3
        · exact absurd (hinj h3) h1.ne
        · exact absurd h2 (not_lt.mpr (hmm _ _ h hk h3))
      · exact h2
  rw [he, Finset.card_image_of_injective _ hinj]
  have : (Finset.univ.filter fun r' : Fin N => r' < r) = Finset.Iio r := by ext; simp
  rw [this, Fin.card_Iio]

/-- The absolute value. -/
abbrev aabs (x : EReal) : EReal := max x (-x)

/-- The absolute value is below infinity just off the two infinities. -/
theorem abs_bot : ¬ aabs (⊥ : EReal) < lit 0x7F800000#32 := by
  rw [top_lit]; simp [aabs]

/-- A real number's absolute value is below infinity. -/
theorem abs_real (r : ℝ) : aabs (r : EReal) < lit 0x7F800000#32 := by
  rw [top_lit]; exact max_lt (EReal.coe_lt_top r) (by rw [← EReal.coe_neg]; exact EReal.coe_lt_top _)

open Classical in
/-- The second mask's score. -/
theorem s228_at (kp : IVec S2x2000 1) (s : FVec Ideal S2x2000 .f32) (b : Fin 2) (p : Fin 2000) :
    t_v228 (t_v227 kp s) s t_cst_50 (ix2 b p) = if kp (ix2 b p) = 1#1 ∧ aabs (s (ix2 b p)) < lit 0x7F800000#32 then s (ix2 b p) else ⊥ := by
  have h : t_v228 (t_v227 kp s) s t_cst_50 (ix2 b p) = Scalar.select (IntOp.andi (kp (ix2 b p)) (BitVec.ofBool (decide (aabs (s (ix2 b p)) < lit 0x7F800000#32)))) (s (ix2 b p)) (lit 0xFF800000#32) := by
    pointwise [t_v228, t_v227, t_v226, t_v225, t_v224, t_cst_49, t_cst_50, t_call9_v1, t_call9_v0]
    rfl
  rw [h, bot_lit]
  rcases ((by decide : ∀ x : BitVec 1, x = 0#1 ∨ x = 1#1) (kp (ix2 b p))) with e | e <;>
    by_cases hs : aabs (s (ix2 b p)) < lit 0x7F800000#32
  · rw [e, decide_eq_true hs, if_neg (fun q => absurd q.1 (by decide))]; rfl
  · rw [e, decide_eq_false hs, if_neg (fun q => absurd q.1 (by decide))]; rfl
  · rw [e, decide_eq_true hs, if_pos ⟨rfl, hs⟩]; rfl
  · rw [e, decide_eq_false hs, if_neg (fun q => hs q.2)]; rfl

/-- The second sort's word. -/
theorem sort230 (y : FVec Ideal S2x2000 .f32) (b : Fin 2) (p : Fin 2000) : t_v230 y (ix2 b p) = BitVec.ofNat 32 (ordOf y b p).val := by
  unfold t_v230
  refine (sort2_at (B := 2) (N := 2000) _ _ _ b p).trans ?_
  rfl

/-- The sort key. -/
theorem neg229 (x : FVec Ideal S2x2000 .f32) (b : Fin 2) (k : Fin 2000) : t_v229 x (ix2 b k) = - x (ix2 b k) := by
  pointwise [t_v229]

/-- The first thousand words. -/
theorem word231 (x : IVec S2x2000 32) (b : Fin 2) (r : Fin 1000) : t_v231 x (ix2 b r) = x (ix2 b (r.castLE (by omega))) := by
  pointwise [t_v231]
  rfl

/-- The masked score at a place of the second order. -/
theorem take246 (x : FVec Ideal S2x2000 .f32) (a : IVec S2x1 32) (i : IVec S2x2000 32) (b : Fin 2) (r : Fin 1000) (n : Fin 2000) (ha : a (ix2 b 0) = BitVec.ofNat 32 b.val) (h : t_v231 i (ix2 b r) = BitVec.ofNat 32 n.val) :
    t_v246 x a i (ix2 b r) = x (ix2 b n) := by
  have hn : n.val < 2 ^ 31 := by omega
  have hb : b.val < 2 ^ 31 := by omega
  unfold t_v246
  refine (pair_at _ (by omega) (by omega) x _ b r b n ?_ ?_)
  · pointwise [t_v245, t_v244, t_v243, t_v242, t_v241, t_v240, t_v239, t_v238, t_v237, t_v236, t_v235, t_v234, t_v233, t_v232, t_c_51, t_c_52, t_c_53, t_c_54]
    rw [ha]; exact wrap_at hb _
  · pointwise [t_v245, t_v244, t_v243, t_v242, t_v241, t_v240, t_v239, t_v238, t_v237, t_v236, t_v235, t_v234, t_v233, t_v232, t_c_51, t_c_52, t_c_53, t_c_54]
    rw [h]; exact wrap_at hn _

/-- The box at a place of the second order. -/
theorem take265 (x : FVec Ideal S2x2000x4 .f32) (a : IVec S2x1 32) (i : IVec S2x2000 32) (b : Fin 2) (r : Fin 1000) (n : Fin 2000) (j : Fin 4) (ha : a (ix2 b 0) = BitVec.ofNat 32 b.val) (h : t_v231 i (ix2 b r) = BitVec.ofNat 32 n.val) :
    t_v265 x a i (ix3 b r j) = x (ix3 b n j) := by
  have hn : n.val < 2 ^ 31 := by omega
  have hb : b.val < 2 ^ 31 := by omega
  unfold t_v265
  refine (pairRow_at _ (by omega) (by omega) x _ b r j b n ?_ ?_)
  · pointwise [t_v264, t_v263, t_v262, t_v261, t_v260, t_v259, t_v258, t_v257, t_v256, t_v255, t_v254, t_v253, t_v252, t_v251, t_c_56, t_c_57, t_c_58, t_c_59]
    rw [ha]; exact wrap_at hb _
  · pointwise [t_v264, t_v263, t_v262, t_v261, t_v260, t_v259, t_v258, t_v257, t_v256, t_v255, t_v254, t_v253, t_v252, t_v251, t_c_56, t_c_57, t_c_58, t_c_59]
    rw [h]; exact wrap_at hn _

open Classical in
/-- The result's entry, by the second order's place. -/
theorem out266 (s : FVec Ideal S2x2000 .f32) (x : FVec Ideal S2x2000x4 .f32) (a : IVec S2x1 32) (i : IVec S2x2000 32) (b : Fin 2) (r : Fin 1000) (n : Fin 2000) (j : Fin 4)
    (ha : a (ix2 b 0) = BitVec.ofNat 32 b.val) (h : t_v231 i (ix2 b r) = BitVec.ofNat 32 n.val) :
    t_v266 (t_v250 s a i) (t_v265 x a i) t_cst_60 (ix3 b r j) = if aabs (s (ix2 b n)) < lit 0x7F800000#32 then x (ix3 b n j) else 0 := by
  have e : t_v266 (t_v250 s a i) (t_v265 x a i) t_cst_60 (ix3 b r j) = Scalar.select (BitVec.ofBool (decide (aabs (t_v246 s a i (ix2 b r)) < lit 0x7F800000#32))) (t_v265 x a i (ix3 b r j)) (lit 0x00000000#32) := by
    pointwise [t_v266, t_v250, t_v249, t_v248, t_v247, t_cst_55, t_cst_60, t_call11_v1, t_call11_v0, t_call11_v2]
    rw [show (id (constant (F := Ideal) S_ FTy.f32 0#32) ix0 : EReal) = 0 from zero_lit]
    exact if_congr Iff.rfl rfl rfl
  rw [e, take246 s a i b r n ha h, take265 x a i b r n j ha h, select_ofBool, show lit 0x00000000#32 = 0 from zero_lit]

section

variable (m : (ℓ : Loc nD τ sig) → Buf (Elt Ideal) ℓ) (c : Dev nD)

/-- The contents when the loop is left. -/
def W2 : Valuation τ sig (Elt Ideal) := after condOps (atTrip condOps bodyI (entryContents preI m) 2000 c)

/-- After the loop the mask is the one of 2000 turns. -/
theorem W2_mask : W2 m c (Proc.devRef .tc main_v230_8) = mk m c 2000 :=
  (cond_keeps _ main_v230_8 (by simp [carriedRefs])).trans (atK_agree m c 2000 main_v230_8 (by simp [carriedRefs]))

/-- The loop keeps what it does not carry. -/
theorem W2_keep (r : Ref sig .tc) (hc : r ∉ condOps_W) (h : ∀ W ∈ [while0Ops0_W, while0Ops0_1_W, while0Ops0_2_W, while0Ops0_3_W, while0Ops0_4_W], r ∉ W) :
    W2 m c (Proc.devRef .tc r) = pre14 (L0 m c) (Proc.devRef .tc r) := by
  unfold W2
  rw [after_of_writes_sub condOps _ condOps_writes hc, keep_loop _ r hc h, entry_eq]

/-- The loop leaves the sorted scores as they were. -/
theorem W2_v194 : W2 m c (Proc.devRef .tc main_v201) = u_v194 (L0 m c) := (W2_keep m c main_v201 (by decide +kernel) (by decide +kernel)).trans (pre14_v194 _)
/-- The loop leaves the images' numbers as they were. -/
theorem W2_v164 : W2 m c (Proc.devRef .tc main_v171) = u_v164 (L0 m c) := (W2_keep m c main_v171 (by decide +kernel) (by decide +kernel)).trans (pre14_v164 _)
/-- The loop leaves the sorted boxes as they were. -/
theorem W2_v209 : W2 m c (Proc.devRef .tc main_v216) = u_v209 (L0 m c) := (W2_keep m c main_v216 (by decide +kernel) (by decide +kernel)).trans (pre14_v209 _)

/-- The reference's result. -/
def resR : FVec Ideal S2x1000x4 .f32 := u_v266 (W2 m c)

/-- The reference ends with its result in the last buffer. -/
theorem final_eq : finalContents condOps preI bodyI postI 2000 m c (Proc.devRef .tc main_v273) = resR m c := by
  show afterL postI (W2 m c) _ = _
  have : afterL postI (W2 m c) = suf5 (W2 m c) := by
    rw [← suf_flat]
    simp only [postI, afterL_cons, afterL_nil, List.flatten_cons, List.flatten_nil, List.append_nil, StableHlo.after_append]
  rw [this]; exact suf5_v266 _

/-- The second mask's scores. -/
def s2 : FVec Ideal S2x2000 .f32 := t_v228 (t_v227 (mk m c 2000) (u_v194 (L0 m c))) (u_v194 (L0 m c)) t_cst_50

/-- The second order. -/
def w2 (b : Fin 2) : Fin 2000 → Fin 2000 := ordOf (t_v229 (s2 m c)) b

/-- The reference's result: the boxes picked by the second order, and zero where the score is infinite. -/
theorem resR_eq : resR m c = t_v266 (t_v250 (s2 m c) (u_v164 (L0 m c)) (t_v230 (t_v229 (s2 m c)))) (t_v265 (u_v209 (L0 m c)) (u_v164 (L0 m c)) (t_v230 (t_v229 (s2 m c)))) t_cst_60 := by
  unfold resR u_v266 u_v250 u_v265 u_v230 u_v229 u_v228 u_v227 u_cst_50 u_cst_60 s2
  rw [W2_mask, W2_v194, W2_v164, W2_v209]

variable (hr : ∀ b k, (aT (L0 m c) (ix2 b k)).toNat < 200000)

/-- A candidate's masked score is finite just when it is valid. -/
theorem scr_fin (b : Fin 2) (k : ℕ) : aabs (scr (L0 m c) b k) < lit 0x7F800000#32 ↔ vld (L0 m c) b k := by
  unfold scr
  split_ifs with h
  · obtain ⟨r, hr⟩ := logi_real (obj (L0 m c) b k)
    rw [hr]; exact ⟨fun _ => h, fun _ => abs_real r⟩
  · exact ⟨fun q => absurd q abs_bot, fun q => absurd q h⟩

include hr in
open Classical in
/-- The second mask's scores, by position. -/
theorem s2_at (b : Fin 2) (p : Fin 2000) : s2 m c (ix2 b p) = if msk m c b p then logi (obj (L0 m c) b (sg (L0 m c) b p).val) else ⊥ := by
  unfold s2 msk
  rw [s228_at, u194_at _ hr]
  simp only [scr_fin]
  split_ifs with h
  · unfold scr; rw [if_pos h.2]
  · rfl

include hr in
/-- A kept position's score is above the others'. -/
theorem s2_pos (b : Fin 2) (p q : Fin 2000) (hp : msk m c b p) (hq : ¬ msk m c b q) : s2 m c (ix2 b q) < s2 m c (ix2 b p) := by
  rw [s2_at m c hr, s2_at m c hr, if_pos hp, if_neg hq]
  exact lt_of_lt_of_le EReal.bot_lt_zero (logi_nonneg _)

include hr in
/-- Kept positions come by descending score. -/
theorem s2_mono (b : Fin 2) (p q : Fin 2000) (hp : msk m c b p) (hq : msk m c b q) (h : p < q) : s2 m c (ix2 b q) ≤ s2 m c (ix2 b p) := by
  rw [s2_at m c hr, s2_at m c hr, if_pos hp, if_pos hq]
  refine logi_strictMono.monotone ?_
  rcases sg_ord (L0 m c) hr b p q h hp.2 hq.2 with h1 | ⟨h1, _⟩
  · exact h1.le
  · exact h1.symm.le

/-- The second order's keys. -/
theorem w2_ord (b : Fin 2) (i j : Fin 2000) (h : i < j) :
    s2 m c (ix2 b (w2 m c b j)) < s2 m c (ix2 b (w2 m c b i)) ∨ (s2 m c (ix2 b (w2 m c b i)) = s2 m c (ix2 b (w2 m c b j)) ∧ w2 m c b i < w2 m c b j) := by
  have := order_at (t_v229 (s2 m c)) b i j h
  rw [neg229, neg229, EReal.neg_lt_neg_iff, neg_inj] at this
  exact this

/-- The second order sends no two places to one candidate. -/
theorem w2_inj (b : Fin 2) : Function.Injective (w2 m c b) := by
  unfold w2; exact ordOf_inj _ b

/-- The second order reaches every candidate. -/
theorem w2_surj (b : Fin 2) : Function.Surjective (w2 m c b) := by
  unfold w2; exact ordOf_surj _ b

include hr in
open Classical in
/-- The result at a row. -/
theorem resR_at (b : Fin 2) (r : Fin 1000) (j : Fin 4) :
    resR m c (ix3 b r j) = if msk m c b (w2 m c b (r.castLE (by omega))) then bx (L0 m c) b (sg (L0 m c) b (w2 m c b (r.castLE (by omega)))).val j else 0 := by
  have hw : t_v231 (t_v230 (t_v229 (s2 m c))) (ix2 b r) = BitVec.ofNat 32 (w2 m c b (r.castLE (by omega))).val := by
    rw [word231, sort230]; rfl
  rw [resR_eq, out266 _ _ _ _ b r _ j (u164_at _ b) hw, s2_at m c hr, u209_at _ hr]
  by_cases h : msk m c b (w2 m c b (r.castLE (by omega)))
  · obtain ⟨x, hx⟩ := logi_real (obj (L0 m c) b (sg (L0 m c) b (w2 m c b (r.castLE (by omega)))).val)
    rw [if_pos h, if_pos h, hx, if_pos (abs_real x)]
    unfold mbx; rw [if_pos h.2]
  · rw [if_neg h, if_neg h, if_neg abs_bot]

include hr in
/-- The reference's rows of one image and one coordinate. -/
theorem rowsR (b : Fin 2) (j : Fin 4) :
    ∃ K : ℕ → Prop, Kept (obj (L0 m c) b) (vld (L0 m c) b) (rk (aD (L0 m c)) (aA (L0 m c)) (aT (L0 m c)) b) K
      ∧ IsRows 2000 1000 (obj (L0 m c) b) K (fun k => bx (L0 m c) b k j) 0 (fun r => if h : r < 1000 then resR m c (ix3 b ⟨r, h⟩ j) else 0) := by
  classical
  refine ⟨_, kept_msk m c hr b, ?_⟩
  have hrank : ∀ r, msk m c b (w2 m c b r) → rank 2000 (obj (L0 m c) b) (fun k => ∃ p, (sg (L0 m c) b p).val = k ∧ msk m c b p) (sg (L0 m c) b (w2 m c b r)).val = r.val := fun r h => by
    rw [← second_rank (msk m c b) (fun p => s2 m c (ix2 b p)) (w2 m c b) (w2_inj m c b) (w2_surj m c b) (w2_ord m c b) (s2_pos m c hr b) (s2_mono m c hr b) r h]
    exact (rank_of_listing 2000 (fun k hk => vk_lt (aO (L0 m c)) (aD (L0 m c)) (aA (L0 m c)) (aT (L0 m c)) b k hk) (fun p => (sg (L0 m c) b p).val)
      (fun x y e => sg_inj (L0 m c) b (Fin.ext e)) (msk m c b) (fun p h => h.2) (fun p q hp hq h => sg_ord (L0 m c) hr b p q h hp hq) _ h).symm
  constructor
  · rintro k ⟨p, rfl, hp⟩ hk
    obtain ⟨r, rfl⟩ := w2_surj m c b p
    have he := hrank r hp
    show (if h : _ < 1000 then resR m c (ix3 b ⟨_, h⟩ j) else 0) = _
    rw [dif_pos hk, resR_at m c hr]
    have hc : (⟨_, hk⟩ : Fin 1000).castLE (by omega : 1000 ≤ 2000) = r := Fin.ext he
    rw [hc, if_pos hp]
  · intro r hr1 hno
    show (if h : r < 1000 then resR m c (ix3 b ⟨r, h⟩ j) else 0) = _
    rw [dif_pos hr1, resR_at m c hr, if_neg]
    intro h
    exact hno _ ⟨_, rfl, h⟩ (hrank _ h)

end

end Cert.Proof.ReferenceIdeal
-- ==== Proof.Same.lean ====
/- The two programs end with one result. -/
module

public import proofs.«01_k».proof.Proof.Lists
public import proofs.«01_k».proof.Proof.KRows
public import proofs.«01_k».proof.Proof.RPost

@[expose] public section

set_option maxRecDepth 16384

noncomputable section

namespace Cert.Proof

open Cert.Proof.Cand Cert.Proof.Greedy Cert.Proof.Order
open Idealize.ShloMosaic Idealize.ShloMosaic.TcCoe Idealize.SL.Sem

attribute [local instance] Cert.KernelIdeal.Gen.facts Cert.ReferenceIdeal.Gen.facts Cert.Proof.SelPre.facts

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The kernel's result is the reference's. -/
theorem same (hp : Pre_KernelIdeal_kth_stands_alone m)
    (hm : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev Cert.KernelIdeal.nD) : Cert.Proof.ReferenceIdeal.resR m' c = Cert.Proof.KernelIdeal.resK m c := by
  obtain ⟨e0, e1, e2⟩ := hm c
  obtain ⟨w0, w1, w2⟩ := Cert.Proof.KernelIdeal.W0_arg m c
  have f0 : Cert.Proof.ReferenceIdeal.aO (Cert.Proof.ReferenceIdeal.L0 m' c) = Cert.Proof.KernelIdeal.aO (Cert.Proof.KernelIdeal.W0 m c) := e0.trans w0.symm
  have f1 : Cert.Proof.ReferenceIdeal.aD (Cert.Proof.ReferenceIdeal.L0 m' c) = Cert.Proof.KernelIdeal.aD (Cert.Proof.KernelIdeal.W0 m c) := e1.trans w1.symm
  have f2 : Cert.Proof.ReferenceIdeal.aA (Cert.Proof.ReferenceIdeal.L0 m' c) = Cert.Proof.KernelIdeal.aA (Cert.Proof.KernelIdeal.W0 m c) := e2.trans w2.symm
  have f3 : Cert.Proof.ReferenceIdeal.aT (Cert.Proof.ReferenceIdeal.L0 m' c) = Cert.Proof.ReferenceIdeal.topI (Cert.Proof.KernelIdeal.aO (Cert.Proof.KernelIdeal.W0 m c)) := congrArg Cert.Proof.ReferenceIdeal.topI f0
  have lK := Cert.Proof.KernelIdeal.lists_ker m hp c
  have hK := Cert.Proof.KernelIdeal.rowsK m c (fun b k => (lK b).lt k) (Cert.Proof.KernelIdeal.low m hp c)
  have lR := lists_ref (Cert.Proof.KernelIdeal.aO (Cert.Proof.KernelIdeal.W0 m c))
  have hR := Cert.Proof.ReferenceIdeal.rowsR m' c (by rw [f3]; exact fun b k => (lR b).lt k)
  unfold Cert.Proof.ReferenceIdeal.obj Cert.Proof.ReferenceIdeal.vld Cert.Proof.ReferenceIdeal.bx at hR
  rw [f3, f0, f1, f2] at hR
  exact rows_same _ lK lR hR hK

/-- The kernel's run. -/
theorem runK (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v187) = Cert.Proof.KernelIdeal.resK m c) :=
  (θ_run _ _ _).mono (fun r h c => (h.1 c (Proc.devRef .tc Cert.KernelIdeal.main_v187) (Finset.mem_filter.mpr ⟨StableHlo.devRef_mem_tcRefs Cert.KernelIdeal.main_v187, by decide⟩)).trans (Cert.Proof.KernelIdeal.tail_eq m c))
    (Cert.Proof.KernelIdeal.run_all m g)

/-- The reference's run. -/
theorem runR (g : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g⟩ (fun r => ∀ c : Dev Cert.ReferenceIdeal.nD,
          r.2.mem ((c.tc : Thread Cert.ReferenceIdeal.nD Cert.ReferenceIdeal.τ).loc Cert.ReferenceIdeal.main_v273) = Cert.Proof.ReferenceIdeal.resR m' c) :=
  (θ_run _ _ _).mono (fun r h c => (h c Cert.ReferenceIdeal.main_v273 rfl).trans (Cert.Proof.ReferenceIdeal.final_eq m' c))
    (Cert.ReferenceIdeal.Value.run_fold m' g)

/-- The two programs compute the same result. -/
theorem algebraic : Cert.algebraic_KernelIdeal_ReferenceIdeal_pre_kth_stands_alone := by
  intro m g m' g' hp hm
  refine ⟨fun c => Cert.Proof.KernelIdeal.resK m c, ?_, ?_⟩
  · refine (θ_run _ _ _).mono (fun r h c => ⟨h.1 c, h.2.1 c⟩) (θ_run_and (runK m g) (Cert.Proof.KernelIdeal.frame m g))
  · refine (θ_run _ _ _).mono (fun r h c => ⟨(h.1 c).trans (same m m' hp hm c), h.2.1 c⟩) (θ_run_and (runR m' g') (Cert.Proof.ReferenceIdeal.frame m' g'))

end Cert.Proof
-- ==== Proof.TopK.lean ====
/- The selection's two launches: each block's bisection, and the thresholds the launches leave. -/
module

public import proofs.«01_k».proof.Proof.SelK
public import proofs.«01_k».proof.Proof.Gen.Kernel2Ideal.Frame
public import Idealize.ShloMosaic.Lib.Pointwise
public import Idealize.ShloMosaic.Lib.Pipeline.ValueKit
public import Idealize.ShloMosaic.Lib.WritesUnit
public import Idealize.ShloMosaic.Lib.WholeRead
public import Idealize.ShloMosaic.Lib.StableHlo.RunRead

@[expose] public section

set_option maxRecDepth 16384

noncomputable section

namespace Cert.Proof.Kernel2Ideal

open Cert.Proof.KernelIdeal.Pick (eta1 lows tile0 tile1)

open Cert.Kernel2Ideal Cert.Kernel2Ideal.Gen Cert.Proof.Select Cert.Proof.SelBody Cert.Proof.SelBlk
open Idealize.ShloMosaic Idealize.ShloMosaic.TcCoe Idealize.SL.Sem

/-- The whole of a block, read at once. -/
theorem whole_read {R : ℕ} {arg : Memref sig .tc .vmem ⟨3, ![1, R, 128]⟩ .f32} (harg : arg.IsWhole) (w : FVec Ideal ⟨3, ![1, R, 128]⟩ .f32)
    (hin : ∀ a, (![0, 0, 0] : Fin 3 → ℕ) a + (![1, R, 128] : Fin 3 → ℕ) a ≤ (⟨3, ![1, R, 128]⟩ : Shape).size a) :
    View.readAt (Elt Ideal) arg.view (Rect.unit ![0, 0, 0] ![1, R, 128] hin).toLoadRect (harg.unread w) = w := by
  funext y
  refine Eq.trans (b := w ((Rect.unit ![0, 0, 0] ![1, R, 128] hin).idx y)) (Memref.IsWhole.readAt_unread (Val := Elt Ideal) harg w _ y) (congrArg w ?_)
  funext a
  refine Fin.ext ?_
  fin_cases a <;> simp

/-- What level 0's body leaves in its block. -/
theorem out0_at (c : Dev nD) (i : grid0.Coords) (arg1 : Memref sig .tc .vmem S1x1256x128 .f32) (harg1 : arg1.IsWhole) (arg2 : Memref sig .tc .smem S1x1x1 .f32)
    (harg2 : arg2.IsWhole) (w : FVec Ideal S1x1256x128 .f32) :
    out0_A_1 (F := Ideal) c i arg1 harg1 arg2 harg2 w (ix3 0 0 0) = low w := by
  unfold out0_A_1 kernelRun0_A
  refine (View.read_writes_cons_unit_of_mem VO0_1 _ _ _ _ (ix3 0 0 0) (ix3 0 0 0) rfl ?_).trans ?_
  · intro a; fin_cases a <;> simp
  unfold kernelRun0_A.sl.r
  dsimp only
  rw [whole_read harg1 w]
  have hc : (kernelRun0_A.sl.cst_3 : Ideal .f32) = ((-10000 : ℝ) : EReal) := lo_lit
  have ht : k0_pay2 (F := Ideal) w = Finset.univ.fold max (⊥ : EReal) w + 1 := top_eq tile0 w
  rw [hc, ht]
  refine (congrArg Prod.fst (fold_iter k0_t1_loop.trips (halve 1000 (cntB w)) _ (fun _ a => step_eq tile0 w a.1 a.2) _)).trans ?_
  rw [show k0_t1_loop.trips = 64 by decide]
  rfl

/-- The array of thresholds after level 0's launch. -/
theorem final0 (V : (c : Dev nD) → (b : Ref sig .tc) → Buf (Elt Ideal) ((c : Thread nD τ).loc b)) (c : Dev nD) :
    (dat0 V c).arrAt 1 cfg0.N = lows (V c main_v2) := by
  refine (dat0 V c).arrAt_eq_of_covers 1 _ (by decide +kernel) fun t _ y => ?_
  obtain ⟨h0, h1⟩ : (∀ a, win0_0.index t a = ![t.val, 0, 0] a) ∧ (∀ a, win0_1.index t a = ![t.val, 0, 0] a) := by
    revert t; decide +kernel
  have ht : t.val < 2 := t.isLt
  blk_simp
  rw [after0_1]
  have e : (((cfg0.win 1).blk t).view.emb y : S2x1x1.Idx) = ix3 (⟨t.val, ht⟩ : Fin 2) (y 1) (y 2) := by
    blk_ext [h1]
  rw [e]
  refine ((congrArg (outsAt0 V c t) (eta1 y)).trans (out0_at c _ _ _ _ _ _)).trans (congrArg low ?_)
  funext z
  idx_vars z
  unfold slab
  blk_ext [iblk0, h0]

/-- What level 1's body leaves in its block. -/
theorem out1_at (c : Dev nD) (i : grid1.Coords) (arg1 : Memref sig .tc .vmem S1x320x128 .f32) (harg1 : arg1.IsWhole) (arg2 : Memref sig .tc .smem S1x1x1 .f32)
    (harg2 : arg2.IsWhole) (w : FVec Ideal S1x320x128 .f32) :
    out1_A_1 (F := Ideal) c i arg1 harg1 arg2 harg2 w (ix3 0 0 0) = low w := by
  unfold out1_A_1 kernelRun1_A
  refine (View.read_writes_cons_unit_of_mem VO1_1 _ _ _ _ (ix3 0 0 0) (ix3 0 0 0) rfl ?_).trans ?_
  · intro a; fin_cases a <;> simp
  unfold kernelRun1_A.sl.r
  dsimp only
  rw [whole_read harg1 w]
  have hc : (kernelRun1_A.sl.cst_3 : Ideal .f32) = ((-10000 : ℝ) : EReal) := lo_lit
  have ht : k1_pay2 (F := Ideal) w = Finset.univ.fold max (⊥ : EReal) w + 1 := top_eq tile1 w
  rw [hc, ht]
  refine (congrArg Prod.fst (fold_iter k1_t1_loop.trips (halve 1000 (cntB w)) _ (fun _ a => step_eq tile1 w a.1 a.2) _)).trans ?_
  rw [show k1_t1_loop.trips = 64 by decide]
  rfl

/-- The array of thresholds after level 1's launch. -/
theorem final1 (V : (c : Dev nD) → (b : Ref sig .tc) → Buf (Elt Ideal) ((c : Thread nD τ).loc b)) (c : Dev nD) :
    (dat1 V c).arrAt 1 cfg1.N = lows (V c main_v49) := by
  refine (dat1 V c).arrAt_eq_of_covers 1 _ (by decide +kernel) fun t _ y => ?_
  obtain ⟨h0, h1⟩ : (∀ a, win1_0.index t a = ![t.val, 0, 0] a) ∧ (∀ a, win1_1.index t a = ![t.val, 0, 0] a) := by
    revert t; decide +kernel
  have ht : t.val < 2 := t.isLt
  blk_simp
  rw [after1_1]
  have e : (((cfg1.win 1).blk t).view.emb y : S2x1x1.Idx) = ix3 (⟨t.val, ht⟩ : Fin 2) (y 1) (y 2) := by
    blk_ext [h1]
  rw [e]
  refine ((congrArg (outsAt1 V c t) (eta1 y)).trans (out1_at c _ _ _ _ _ _)).trans (congrArg low ?_)
  funext z
  idx_vars z
  unfold slab
  blk_ext [iblk1, h0]

end Cert.Proof.Kernel2Ideal
-- ==== Proof.TopTail.lean ====
/- The lines after each of the selection's launches: the places compacted from the mask. -/
module

public import proofs.«01_k».proof.Proof.SelTail
public import proofs.«01_k».proof.Proof.Gen.Kernel2Ideal.Frame
public import Idealize.ShloMosaic.Lib.StableHlo.RunRead

@[expose] public section

set_option maxRecDepth 16384

noncomputable section

namespace Cert.Proof.Kernel2Ideal

open Cert.Proof.KernelIdeal.Pick (fits0 fits1)

open Cert.Kernel2Ideal Cert.Kernel2Ideal.Gen Cert.Proof.SelHost
open Idealize.ShloMosaic Idealize.ShloMosaic.TcCoe Idealize.SL.Sem

variable (V : Valuation τ sig (Elt Ideal))

/-- The thresholds of level 0, as a column. -/
def thr0 : FVec Ideal S2x1 .f32 := shapeCast S2x1 (V (Proc.devRef .tc main_v3)) shapeCasts_S2x1x1_S2x1

/-- Level 0's lines after its launch leave the selected places in order. -/
theorem tail0 : StableHlo.after hostOps1_6 (StableHlo.after hostOps1_5 (StableHlo.after hostOps1_4 (StableHlo.after hostOps1_3 (StableHlo.after hostOps1_2 (StableHlo.after hostOps1_1 (StableHlo.after hostOps1 V)))))) (Proc.devRef .tc main_v46)
    = outW fits0 (V (Proc.devRef .tc main_v0)) (thr0 V) := by
  -- the two masks, what is wanted, the second mask's words
  have a : StableHlo.after hostOps1 V (Proc.devRef .tc main_v6) = gtW fits0 (V (Proc.devRef .tc main_v0)) (thr0 V)
      ∧ StableHlo.after hostOps1 V (Proc.devRef .tc main_v8) = eqW fits0 (V (Proc.devRef .tc main_v0)) (thr0 V)
      ∧ StableHlo.after hostOps1 V (Proc.devRef .tc main_v11) = broadcastInDim S2x1 ![0] bcast_S2_S2x1_0 (sumW fits0 (gtW fits0 (V (Proc.devRef .tc main_v0)) (thr0 V)))
      ∧ StableHlo.after hostOps1 V (Proc.devRef .tc main_v12) = extui 32 (eqW fits0 (V (Proc.devRef .tc main_v0)) (thr0 V)) natLt_1_32 := by
    refine ⟨?_, ?_, ?_, ?_⟩ <;> (after_reads_simp; rfl)
  -- a running count; the masks and the wanted number stay
  have b : ∀ V : Valuation τ sig (Elt Ideal), StableHlo.after hostOps1_1 V (Proc.devRef .tc main_v13) = Host.reduceWindow IntOp.addi ![1, 160000] ![1, 1] ![0, 159999] ![0, 0] (V (Proc.devRef .tc main_v12) : IVec S2x160000 32) (broadcastInDim S_ ![] bcast_S_S_ (constantI S_ 32 0#32)) reduceWindows_S2x160000_S2x160000_w1s1p0_0_w160000s1p159999_0 h_S_
      ∧ StableHlo.after hostOps1_1 V (Proc.devRef .tc main_v6) = V (Proc.devRef .tc main_v6)
      ∧ StableHlo.after hostOps1_1 V (Proc.devRef .tc main_v8) = V (Proc.devRef .tc main_v8)
      ∧ StableHlo.after hostOps1_1 V (Proc.devRef .tc main_v11) = V (Proc.devRef .tc main_v11) := by
    intro V
    refine ⟨?_, ?_, ?_, ?_⟩
    · after_reads_simp
      simp only [StableHlo.TRef.toBuf, StableHlo.TRef.ofBuf]
      refine (cast_eq rfl _).trans ?_
      congr 1
    all_goals after_reads_simp
  -- the mask and its words
  have c : ∀ V : Valuation τ sig (Elt Ideal), StableHlo.after hostOps1_2 V (Proc.devRef .tc main_v19) = joinW fits0 (V (Proc.devRef .tc main_v6)) (V (Proc.devRef .tc main_v8)) (V (Proc.devRef .tc main_v13)) (subi (broadcastInDim S2x1 ![] bcast_S_S2x1 (constantI S_ 32 1000#32)) (V (Proc.devRef .tc main_v11)))
      ∧ StableHlo.after hostOps1_2 V (Proc.devRef .tc main_v20) = extui 32 (joinW fits0 (V (Proc.devRef .tc main_v6)) (V (Proc.devRef .tc main_v8)) (V (Proc.devRef .tc main_v13)) (subi (broadcastInDim S2x1 ![] bcast_S_S2x1 (constantI S_ 32 1000#32)) (V (Proc.devRef .tc main_v11)))) natLt_1_32 := by
    intro V
    refine ⟨?_, ?_⟩ <;> (after_reads_simp; rfl)
  -- the mask's running count
  have d : ∀ V : Valuation τ sig (Elt Ideal), StableHlo.after hostOps1_3 V (Proc.devRef .tc main_v21) = Host.reduceWindow IntOp.addi ![1, 160000] ![1, 1] ![0, 159999] ![0, 0] (V (Proc.devRef .tc main_v20) : IVec S2x160000 32) (broadcastInDim S_ ![] bcast_S_S_ (constantI S_ 32 0#32)) reduceWindows_S2x160000_S2x160000_w1s1p0_0_w160000s1p159999_0 h_S_
      ∧ StableHlo.after hostOps1_3 V (Proc.devRef .tc main_v19) = V (Proc.devRef .tc main_v19) := by
    intro V
    refine ⟨?_, ?_⟩
    · after_reads_simp
      simp only [StableHlo.TRef.toBuf, StableHlo.TRef.ofBuf]
      refine (cast_eq rfl _).trans ?_
      congr 1
    all_goals after_reads_simp
  -- the running count less one
  have e : ∀ V : Valuation τ sig (Elt Ideal), StableHlo.after hostOps1_4 V (Proc.devRef .tc main_v23) = subi (V (Proc.devRef .tc main_v21)) (broadcastInDim S2x160000 ![] bcast_S_S2x160000 (constantI S_ 32 1#32))
      ∧ StableHlo.after hostOps1_4 V (Proc.devRef .tc main_c_2) = constantI S_ 32 1000#32
      ∧ StableHlo.after hostOps1_4 V (Proc.devRef .tc main_v19) = V (Proc.devRef .tc main_v19) := by
    intro V
    refine ⟨?_, ?_, ?_⟩ <;> (after_reads_simp; try rfl)
  -- each entry's place
  have f : ∀ V : Valuation τ sig (Elt Ideal), StableHlo.after hostOps1_5 V (Proc.devRef .tc main_v24)
      = select (V (Proc.devRef .tc main_v19) : IVec S2x160000 1) (V (Proc.devRef .tc main_v23) : IVec S2x160000 32) (broadcastInDim S2x160000 ![] bcast_S_S2x160000 (id (V (Proc.devRef .tc main_c_2) : IVec S_ 32))) := by
    intro V
    after_reads_simp
    rfl
  -- the scatter and the cut
  have z : ∀ V : Valuation τ sig (Elt Ideal), StableHlo.after hostOps1_6 V (Proc.devRef .tc main_v46)
      = extractStridedSlice S2x1000 ![0, 0] (putW fits0 (idxW fits0 (V (Proc.devRef .tc main_v24)))) slices_S2x1001_S2x1000_0_0 := by
    intro V
    after_reads_simp
    rfl
  rw [z, f, (e _).1, (e _).2.1, (e _).2.2, (d _).1, (d _).2, (c _).1, (c _).2, (b _).1, (b _).2.1, (b _).2.2.1, (b _).2.2.2, a.1, a.2.1, a.2.2.1, a.2.2.2]
  rfl

/-- The thresholds of level 1, as a column. -/
def thr1 : FVec Ideal S2x1 .f32 := shapeCast S2x1 (V (Proc.devRef .tc main_v50)) shapeCasts_S2x1x1_S2x1

/-- Level 1's lines after its launch leave the selected places in order. -/
theorem tail1 : StableHlo.after hostOps2_6 (StableHlo.after hostOps2_5 (StableHlo.after hostOps2_4 (StableHlo.after hostOps2_3 (StableHlo.after hostOps2_2 (StableHlo.after hostOps2_1 (StableHlo.after hostOps2 V)))))) (Proc.devRef .tc main_v93)
    = outW fits1 (V (Proc.devRef .tc main_v47)) (thr1 V) := by
  -- the two masks, what is wanted, the second mask's words
  have a : StableHlo.after hostOps2 V (Proc.devRef .tc main_v53) = gtW fits1 (V (Proc.devRef .tc main_v47)) (thr1 V)
      ∧ StableHlo.after hostOps2 V (Proc.devRef .tc main_v55) = eqW fits1 (V (Proc.devRef .tc main_v47)) (thr1 V)
      ∧ StableHlo.after hostOps2 V (Proc.devRef .tc main_v58) = broadcastInDim S2x1 ![0] bcast_S2_S2x1_0 (sumW fits1 (gtW fits1 (V (Proc.devRef .tc main_v47)) (thr1 V)))
      ∧ StableHlo.after hostOps2 V (Proc.devRef .tc main_v59) = extui 32 (eqW fits1 (V (Proc.devRef .tc main_v47)) (thr1 V)) natLt_1_32 := by
    refine ⟨?_, ?_, ?_, ?_⟩ <;> (after_reads_simp; rfl)
  -- a running count; the masks and the wanted number stay
  have b : ∀ V : Valuation τ sig (Elt Ideal), StableHlo.after hostOps2_1 V (Proc.devRef .tc main_v60) = Host.reduceWindow IntOp.addi ![1, 40000] ![1, 1] ![0, 39999] ![0, 0] (V (Proc.devRef .tc main_v59) : IVec S2x40000 32) (broadcastInDim S_ ![] bcast_S_S_ (constantI S_ 32 0#32)) reduceWindows_S2x40000_S2x40000_w1s1p0_0_w40000s1p39999_0 h_S_
      ∧ StableHlo.after hostOps2_1 V (Proc.devRef .tc main_v53) = V (Proc.devRef .tc main_v53)
      ∧ StableHlo.after hostOps2_1 V (Proc.devRef .tc main_v55) = V (Proc.devRef .tc main_v55)
      ∧ StableHlo.after hostOps2_1 V (Proc.devRef .tc main_v58) = V (Proc.devRef .tc main_v58) := by
    intro V
    refine ⟨?_, ?_, ?_, ?_⟩
    · after_reads_simp
      simp only [StableHlo.TRef.toBuf, StableHlo.TRef.ofBuf]
      refine (cast_eq rfl _).trans ?_
      congr 1
    all_goals after_reads_simp
  -- the mask and its words
  have c : ∀ V : Valuation τ sig (Elt Ideal), StableHlo.after hostOps2_2 V (Proc.devRef .tc main_v66) = joinW fits1 (V (Proc.devRef .tc main_v53)) (V (Proc.devRef .tc main_v55)) (V (Proc.devRef .tc main_v60)) (subi (broadcastInDim S2x1 ![] bcast_S_S2x1 (constantI S_ 32 1000#32)) (V (Proc.devRef .tc main_v58)))
      ∧ StableHlo.after hostOps2_2 V (Proc.devRef .tc main_v67) = extui 32 (joinW fits1 (V (Proc.devRef .tc main_v53)) (V (Proc.devRef .tc main_v55)) (V (Proc.devRef .tc main_v60)) (subi (broadcastInDim S2x1 ![] bcast_S_S2x1 (constantI S_ 32 1000#32)) (V (Proc.devRef .tc main_v58)))) natLt_1_32 := by
    intro V
    refine ⟨?_, ?_⟩ <;> (after_reads_simp; rfl)
  -- the mask's running count
  have d : ∀ V : Valuation τ sig (Elt Ideal), StableHlo.after hostOps2_3 V (Proc.devRef .tc main_v68) = Host.reduceWindow IntOp.addi ![1, 40000] ![1, 1] ![0, 39999] ![0, 0] (V (Proc.devRef .tc main_v67) : IVec S2x40000 32) (broadcastInDim S_ ![] bcast_S_S_ (constantI S_ 32 0#32)) reduceWindows_S2x40000_S2x40000_w1s1p0_0_w40000s1p39999_0 h_S_
      ∧ StableHlo.after hostOps2_3 V (Proc.devRef .tc main_v66) = V (Proc.devRef .tc main_v66) := by
    intro V
    refine ⟨?_, ?_⟩
    · after_reads_simp
      simp only [StableHlo.TRef.toBuf, StableHlo.TRef.ofBuf]
      refine (cast_eq rfl _).trans ?_
      congr 1
    all_goals after_reads_simp
  -- the running count less one
  have e : ∀ V : Valuation τ sig (Elt Ideal), StableHlo.after hostOps2_4 V (Proc.devRef .tc main_v70) = subi (V (Proc.devRef .tc main_v68)) (broadcastInDim S2x40000 ![] bcast_S_S2x40000 (constantI S_ 32 1#32))
      ∧ StableHlo.after hostOps2_4 V (Proc.devRef .tc main_c_12) = constantI S_ 32 1000#32
      ∧ StableHlo.after hostOps2_4 V (Proc.devRef .tc main_v66) = V (Proc.devRef .tc main_v66) := by
    intro V
    refine ⟨?_, ?_, ?_⟩ <;> (after_reads_simp; try rfl)
  -- each entry's place
  have f : ∀ V : Valuation τ sig (Elt Ideal), StableHlo.after hostOps2_5 V (Proc.devRef .tc main_v71)
      = select (V (Proc.devRef .tc main_v66) : IVec S2x40000 1) (V (Proc.devRef .tc main_v70) : IVec S2x40000 32) (broadcastInDim S2x40000 ![] bcast_S_S2x40000 (id (V (Proc.devRef .tc main_c_12) : IVec S_ 32))) := by
    intro V
    after_reads_simp
    rfl
  -- the scatter and the cut
  have z : ∀ V : Valuation τ sig (Elt Ideal), StableHlo.after hostOps2_6 V (Proc.devRef .tc main_v93)
      = extractStridedSlice S2x1000 ![0, 0] (putW fits1 (idxW fits1 (V (Proc.devRef .tc main_v71)))) slices_S2x1001_S2x1000_0_0 := by
    intro V
    after_reads_simp
    rfl
  rw [z, f, (e _).1, (e _).2.1, (e _).2.2, (d _).1, (d _).2, (c _).1, (c _).2, (b _).1, (b _).2.1, (b _).2.2.1, (b _).2.2.2, a.1, a.2.1, a.2.2.1, a.2.2.2]
  rfl

end Cert.Proof.Kernel2Ideal
-- ==== Proof.TopRun.lean ====
/- The selection's run: what it leaves in every buffer, stretch by stretch. -/
module

public import proofs.«01_k».proof.Proof.Gen.Kernel2Ideal.Frame
public import Idealize.ShloMosaic.Lib.Claim
public import Idealize.ShloMosaic.PureOps.Ideal

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

set_option backward.isDefEq.respectTransparency.types false in
/-- After the run every array holds what the last stretch's valuation says. -/
theorem run_all : θ_run (defs (F := Ideal)) (onTc (τ := τ) (main (F := Ideal))) ⟨m, fun _ => 0, ρ⟩ (fun r => ∀ c : Dev nD, ∀ b ∈ Pipeline.ucRefs τ sig, r.2.mem (c, b) = W21 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Ht; imodintro
      isplitl [Ht]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Ht
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := by
      refine ⟨fun _ => .rfl, fun _ => .rfl, fun _ => .rfl, fun _ => .rfl, fun _ => .rfl, fun _ => .rfl, fun _ => .rfl, fun _ => .rfl, fun _ => .rfl, fun _ => .rfl, fun _ => .rfl,
        fun _ => .rfl, fun _ => .rfl, fun _ => .rfl, fun _ => .rfl, fun _ => .rfl, fun _ => .rfl, fun _ => .rfl, fun _ => .rfl, fun _ => .rfl, fun _ => .rfl, fun c => ?_⟩
      dsimp only [Pipeline.Seg.post, hseg, Pipeline.HostSeg.ofOps]
      iintro ⟨Ha, Hp, HO⟩
      isplitl [Ha Hp]
      · isplitl [Ha]; · iexact Ha
        iexact Hp
      iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Ha, -, HO, -, Hp, -⟩, -⟩
      imodintro
      isplitl [Ha]; · iexact Ha
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Ha, -⟩, HSI⟩
      unfold StableHlo.held
      imodintro
      iapply (pointsTo_read_all (Pipeline.ucRefs τ sig) (fun b => (((c : Thread nD τ)).1, b)) (W21 m ρ c) s')
      isplitl [Ha] <;> iassumption)
    (hQ := fun s h _ => fun c b hb => h c b hb)

end Cert.Proof.Kernel2Ideal
-- ==== Proof.TopMain.lean ====
/- The selection's claims: the kernel's listing is the reference's. -/
module

public import proofs.«01_k».proof.Proof.TopK
public import proofs.«01_k».proof.Proof.TopTail
public import proofs.«01_k».proof.Proof.TopRun
public import proofs.«01_k».proof.Proof.SelMain
public import proofs.«01_k».proof.Proof.SelPre
public import proofs.«01_k».proof.Proof.Gen.Reference2Ideal
public import Idealize.ShloMosaic.Lib.StableHlo.Run
public import Idealize.ShloMosaic.Lib.StableHlo.RunRead

@[expose] public section

set_option maxRecDepth 16384

noncomputable section

namespace Cert.Proof.Kernel2Ideal

open Cert.Proof.KernelIdeal.Pick (fits0 fits1 level lows)

open Cert.Kernel2Ideal Cert.Kernel2Ideal.Gen Cert.Proof.Select Cert.Proof.SelBody Cert.Proof.SelBlk Cert.Proof.SelHost Cert.Proof.SelRef Cert.Proof.SelPre
open Idealize.ShloMosaic Idealize.ShloMosaic.TcCoe Idealize.SL.Sem

variable (m : (ℓ : Loc nD τ sig) → Buf (Elt Ideal) ℓ) (ρ : Dev nD → PrngReg)

/-- The entries of level 0. -/
def seg0 (c : Dev nD) : FVec Ideal S2x160000 .f32 := extractStridedSlice S2x160000 ![0, 0] (m (c, Proc.devRef .tc main_arg0)) slices_S2x200000_S2x160000_0_0

/-- The entries of level 1. -/
def seg1 (c : Dev nD) : FVec Ideal S2x40000 .f32 := extractStridedSlice S2x40000 ![0, 160000] (m (c, Proc.devRef .tc main_arg0)) slices_S2x200000_S2x40000_0_160000

/-- What level 0's launch reads. -/
theorem in0 (c : Dev nD) : W4 m ρ c (Proc.devRef .tc main_v0) = seg0 m c
    ∧ W3 m ρ c (Proc.devRef .tc main_v2) = shapeCast S2x1256x128 (pad S2x160768 ![0, 0] ![0, 768] ![0, 0] (seg0 m c)
      (constant (F := Ideal) S_ .f32 0xF149F2CA#32) pads_S2x160000_S2x160768_000_07680 h_S_) shapeCasts_S2x160768_S2x1256x128 := by
  constructor
  · rw [W4_of_ne m ρ c main_v0 (by decide), W3_of m ρ c main_v0 (by decide), W2_of m ρ c main_v0 (by decide)]
    after_reads_simp
    rfl
  · after_reads_simp
    rfl

/-- The lines between the launches cut out level 1's entries and lay them in padded rows. -/
theorem between (V : Valuation τ sig (Elt Ideal)) :
    StableHlo.after hostOps1_6 V (Proc.devRef .tc main_v47) = extractStridedSlice S2x40000 ![0, 160000] (V (Proc.devRef .tc main_arg0) : FVec Ideal S2x200000 .f32) slices_S2x200000_S2x40000_0_160000
    ∧ StableHlo.after hostOps1_8 (StableHlo.after hostOps1_7 (StableHlo.after hostOps1_6 V)) (Proc.devRef .tc main_v49)
      = shapeCast S2x320x128 (pad S2x40960 ![0, 0] ![0, 960] ![0, 0] (extractStridedSlice S2x40000 ![0, 160000] (V (Proc.devRef .tc main_arg0) : FVec Ideal S2x200000 .f32) slices_S2x200000_S2x40000_0_160000)
        (constant (F := Ideal) S_ .f32 0xF149F2CA#32) pads_S2x40000_S2x40960_000_09600 h_S_) shapeCasts_S2x40960_S2x320x128 := by
  constructor
  · after_reads_simp
  · after_reads_simp
    rfl

/-- What level 1's launch reads. -/
theorem in1 (c : Dev nD) : W14 m ρ c (Proc.devRef .tc main_v47) = seg1 m c
    ∧ W13 m ρ c (Proc.devRef .tc main_v49) = shapeCast S2x320x128 (pad S2x40960 ![0, 0] ![0, 960] ![0, 0] (seg1 m c)
      (constant (F := Ideal) S_ .f32 0xF149F2CA#32) pads_S2x40000_S2x40960_000_09600 h_S_) shapeCasts_S2x40960_S2x320x128 := by
  obtain ⟨h1, h2⟩ := between (W10 m ρ c)
  rw [show W10 m ρ c (Proc.devRef .tc main_arg0) = m (c, Proc.devRef .tc main_arg0) from W10_args m ρ c main_arg0 (by decide)] at h1 h2
  exact ⟨(W14_of_ne m ρ c main_v47 (by decide)).trans ((W13_of m ρ c main_v47 (by decide)).trans ((W12_of m ρ c main_v47 (by decide)).trans h1)), h2⟩

attribute [local instance] Cert.Proof.SelPre.facts1

/-- Under the precondition level 0's lines list the places that the reference lists. -/
theorem sel0 (hp : Pre_Kernel2Ideal_kth_alone m) (c : Dev nD) (hs : S2x160000.Slices (fun _ => 0) S2x1000) :
    W11 m ρ c (Proc.devRef .tc main_v46) = Host.sort S2x1000 1 (fun l r => IntOp.cmpi .slt l r) (Host.topK S2x1000 1 (FloatOps.cmpfTotal (F := Ideal) (φ := .f32) .gt) (seg0 m c) hs).2 := by
  refine (tail0 (W4 m ρ c)).trans ?_
  rw [(in0 m ρ c).1]
  refine level fits0 (seg0 m c) _ (W3 m ρ c (Proc.devRef .tc main_v2)) (fun b => ?_) ?_ hs fun b => (alone1 _ (hp c) b).1
  · rw [(in0 m ρ c).2]
    exact padded (seg0 m c) _ pads_S2x160000_S2x160768_000_07680 h_S_ rfl (by norm_num) shapeCasts_S2x160768_S2x1256x128 b
  · unfold thr0
    rw [show W4 m ρ c (Proc.devRef .tc main_v3) = lows (W3 m ρ c (Proc.devRef .tc main_v2)) from (W4_arr m ρ c 1).trans (final0 (V3 m ρ) c)]

/-- Under the precondition level 1's lines list the places that the reference lists. -/
theorem sel1 (hp : Pre_Kernel2Ideal_kth_alone m) (c : Dev nD) (hs : S2x40000.Slices (fun _ => 0) S2x1000) :
    W21 m ρ c (Proc.devRef .tc main_v93) = Host.sort S2x1000 1 (fun l r => IntOp.cmpi .slt l r) (Host.topK S2x1000 1 (FloatOps.cmpfTotal (F := Ideal) (φ := .f32) .gt) (seg1 m c) hs).2 := by
  refine (tail1 (W14 m ρ c)).trans ?_
  rw [(in1 m ρ c).1]
  refine level fits1 (seg1 m c) _ (W13 m ρ c (Proc.devRef .tc main_v49)) (fun b => ?_) ?_ hs fun b => (alone1 _ (hp c) b).2
  · rw [(in1 m ρ c).2]
    exact padded (seg1 m c) _ pads_S2x40000_S2x40960_000_09600 h_S_ rfl (by norm_num) shapeCasts_S2x40960_S2x320x128 b
  · unfold thr1
    rw [show W14 m ρ c (Proc.devRef .tc main_v50) = lows (W13 m ρ c (Proc.devRef .tc main_v49)) from (W14_arr m ρ c 1).trans (final1 (V13 m ρ) c)]

/-- Level 0's places are kept to the end. -/
theorem kept (c : Dev nD) : W20 m ρ c (Proc.devRef .tc main_v46) = W11 m ρ c (Proc.devRef .tc main_v46) := by
  rw [W20_of m ρ c main_v46 (by decide), W19_of m ρ c main_v46 (by decide), W18_of m ρ c main_v46 (by decide), W17_of m ρ c main_v46 (by decide),
    W16_of m ρ c main_v46 (by decide), W15_of m ρ c main_v46 (by decide), W14_of_ne m ρ c main_v46 (by decide), W13_of m ρ c main_v46 (by decide),
    W12_of m ρ c main_v46 (by decide)]

/-- The last lines shift level 1's places and append them to level 0's. -/
theorem last_read (V : Valuation τ sig (Elt Ideal)) : StableHlo.after hostOps2_6 V (Proc.devRef .tc main_v96)
    = concatenate S2x2000 1 [⟨S2x1000, V (Proc.devRef .tc main_v46)⟩,
      ⟨S2x1000, (addi (StableHlo.after hostOps2_6 V (Proc.devRef .tc main_v93) : IVec S2x1000 32) (broadcastInDim S2x1000 ![] bcast_S_S2x1000 (constantI S_ 32 160000#32)) : IVec S2x1000 32)⟩]
      concatenates_S2x1000_S2x1000_S2x2000_d1 := by
  after_reads_simp
  rfl

/-- The kernel's run. -/
theorem run2 : θ_run (defs (F := Ideal)) (onTc (τ := τ) (main (F := Ideal))) ⟨m, fun _ => 0, ρ⟩ (fun r => ∀ c : Dev nD,
      r.2.mem ((c.tc : Thread nD τ).loc main_v96) = concatenate S2x2000 1 [⟨S2x1000, W11 m ρ c (Proc.devRef .tc main_v46)⟩,
        ⟨S2x1000, (addi (W21 m ρ c (Proc.devRef .tc main_v93) : IVec S2x1000 32) (broadcastInDim S2x1000 ![] bcast_S_S2x1000 (constantI S_ 32 160000#32)) : IVec S2x1000 32)⟩]
        concatenates_S2x1000_S2x1000_S2x2000_d1) :=
  (θ_run _ _ _).mono (fun r h c => (h c _ (mem_uc main_v96 (by decide))).trans ((last_read (W20 m ρ c)).trans (by rw [kept]))) (run_all m ρ)

end Cert.Proof.Kernel2Ideal

namespace Cert.Proof.Reference2Ideal

open Cert.Reference2Ideal Cert.Reference2Ideal.Gen
open Idealize.ShloMosaic Idealize.ShloMosaic.TcCoe Idealize.SL.Sem

variable (m : (ℓ : Loc nD τ sig) → Buf (Elt Ideal) ℓ) (g : Dev nD → PrngReg)

/-- The reference's lines. -/
abbrev lines : List (HloOp τ sig (Elt Ideal)) :=
  [StableHlo.unary main_arg0 main_v0 ((extractStridedSlice S2x160000 ![0, 0] · slices_S2x200000_S2x160000_0_0) : (⟨S2x200000, .f32⟩ : BufTy).Contents (Elt Ideal) → (⟨S2x160000, .f32⟩ : BufTy).Contents (Elt Ideal)),
    StableHlo.unary main_v0 main_values ((fun x => (Host.topK S2x1000 1 (FloatOps.cmpfTotal (F := Ideal) (φ := .f32) .gt) x sliceFits_S2x160000_S2x1000).1) : (⟨S2x160000, .f32⟩ : BufTy).Contents (Elt Ideal) → (⟨S2x1000, .f32⟩ : BufTy).Contents (Elt Ideal)),
    StableHlo.unary main_v0 main_indices ((fun x => (Host.topK S2x1000 1 (FloatOps.cmpfTotal (F := Ideal) (φ := .f32) .gt) x sliceFits_S2x160000_S2x1000).2) : (⟨S2x160000, .f32⟩ : BufTy).Contents (Elt Ideal) → (⟨S2x1000, .i32⟩ : BufTy).Contents (Elt Ideal)),
    StableHlo.TRef.unary (.of main_indices : StableHlo.TRef sig ⟨S2x1000, .i32⟩) (.of main_v1 : StableHlo.TRef sig ⟨S2x1000, .i32⟩) (fun x => Host.sort S2x1000 1 comparator_i32_d1 x),
    StableHlo.nullary main_c (constantI S_ 32 0#32),
    StableHlo.unary main_c main_v2 (broadcastInDim S2x1000 ![] bcast_S_S2x1000 : (⟨S_, .i32⟩ : BufTy).Contents (Elt Ideal) → (⟨S2x1000, .i32⟩ : BufTy).Contents (Elt Ideal)),
    StableHlo.binary main_v1 main_v2 main_v3 (addi : (⟨S2x1000, .i32⟩ : BufTy).Contents (Elt Ideal) → (⟨S2x1000, .i32⟩ : BufTy).Contents (Elt Ideal) → (⟨S2x1000, .i32⟩ : BufTy).Contents (Elt Ideal)),
    StableHlo.unary main_arg0 main_v4 ((extractStridedSlice S2x40000 ![0, 160000] · slices_S2x200000_S2x40000_0_160000) : (⟨S2x200000, .f32⟩ : BufTy).Contents (Elt Ideal) → (⟨S2x40000, .f32⟩ : BufTy).Contents (Elt Ideal)),
    StableHlo.unary main_v4 main_values_0 ((fun x => (Host.topK S2x1000 1 (FloatOps.cmpfTotal (F := Ideal) (φ := .f32) .gt) x sliceFits_S2x40000_S2x1000).1) : (⟨S2x40000, .f32⟩ : BufTy).Contents (Elt Ideal) → (⟨S2x1000, .f32⟩ : BufTy).Contents (Elt Ideal)),
    StableHlo.unary main_v4 main_indices_1 ((fun x => (Host.topK S2x1000 1 (FloatOps.cmpfTotal (F := Ideal) (φ := .f32) .gt) x sliceFits_S2x40000_S2x1000).2) : (⟨S2x40000, .f32⟩ : BufTy).Contents (Elt Ideal) → (⟨S2x1000, .i32⟩ : BufTy).Contents (Elt Ideal)),
    StableHlo.TRef.unary (.of main_indices_1 : StableHlo.TRef sig ⟨S2x1000, .i32⟩) (.of main_v5 : StableHlo.TRef sig ⟨S2x1000, .i32⟩) (fun x => Host.sort S2x1000 1 comparator_i32_d1 x),
    StableHlo.nullary main_c_2 (constantI S_ 32 160000#32),
    StableHlo.unary main_c_2 main_v6 (broadcastInDim S2x1000 ![] bcast_S_S2x1000 : (⟨S_, .i32⟩ : BufTy).Contents (Elt Ideal) → (⟨S2x1000, .i32⟩ : BufTy).Contents (Elt Ideal)),
    StableHlo.binary main_v5 main_v6 main_v7 (addi : (⟨S2x1000, .i32⟩ : BufTy).Contents (Elt Ideal) → (⟨S2x1000, .i32⟩ : BufTy).Contents (Elt Ideal) → (⟨S2x1000, .i32⟩ : BufTy).Contents (Elt Ideal)),
    StableHlo.binary main_v3 main_v7 main_v8 ((fun a b => concatenate S2x2000 1 [⟨S2x1000, a⟩, ⟨S2x1000, b⟩] concatenates_S2x1000_S2x1000_S2x2000_d1) : (⟨S2x1000, .i32⟩ : BufTy).Contents (Elt Ideal) → (⟨S2x1000, .i32⟩ : BufTy).Contents (Elt Ideal) → (⟨S2x2000, .i32⟩ : BufTy).Contents (Elt Ideal))]

/-- The reference's listing of one level, sorted. -/
def listed {N : ℕ} (X : FVec Ideal ⟨2, ![2, N]⟩ .f32) (hs : (⟨2, ![2, N]⟩ : Shape).Slices (fun _ => 0) S2x1000) : IVec S2x1000 32 :=
  Host.sort S2x1000 1 comparator_i32_d1 (Host.topK S2x1000 1 (FloatOps.cmpfTotal (F := Ideal) (φ := .f32) .gt) X hs).2

/-- Both levels' listings, each shifted by its level's first place. -/
def both (A : FVec Ideal S2x200000 .f32) : IVec S2x2000 32 :=
  concatenate S2x2000 1 [⟨S2x1000, (addi (listed (extractStridedSlice S2x160000 ![0, 0] A slices_S2x200000_S2x160000_0_0) sliceFits_S2x160000_S2x1000) (broadcastInDim S2x1000 ![] bcast_S_S2x1000 (constantI S_ 32 0#32)) : IVec S2x1000 32)⟩,
    ⟨S2x1000, (addi (listed (extractStridedSlice S2x40000 ![0, 160000] A slices_S2x200000_S2x40000_0_160000) sliceFits_S2x40000_S2x1000) (broadcastInDim S2x1000 ![] bcast_S_S2x1000 (constantI S_ 32 160000#32)) : IVec S2x1000 32)⟩]
    concatenates_S2x1000_S2x1000_S2x2000_d1

/-- Level 0's shift is by nothing. -/
theorem both_eq (A : FVec Ideal S2x200000 .f32) : both A
    = concatenate S2x2000 1 [⟨S2x1000, listed (extractStridedSlice S2x160000 ![0, 0] A slices_S2x200000_S2x160000_0_0) sliceFits_S2x160000_S2x1000⟩,
      ⟨S2x1000, (addi (listed (extractStridedSlice S2x40000 ![0, 160000] A slices_S2x200000_S2x40000_0_160000) sliceFits_S2x40000_S2x1000) (broadcastInDim S2x1000 ![] bcast_S_S2x1000 (constantI S_ 32 160000#32)) : IVec S2x1000 32)⟩]
      concatenates_S2x1000_S2x1000_S2x2000_d1 := by
  unfold both
  generalize listed (extractStridedSlice S2x160000 ![0, 0] A slices_S2x200000_S2x160000_0_0) sliceFits_S2x160000_S2x1000 = x
  have hx : addi x (broadcastInDim S2x1000 ![] bcast_S_S2x1000 (constantI S_ 32 0#32)) = x := by
    funext y
    exact BitVec.add_zero _
  rw [hx]

/-- What the lines leave. -/
theorem lines_end (V : Valuation τ sig (Elt Ideal)) :
    StableHlo.after lines V (Proc.devRef .tc main_v8) = both (V (Proc.devRef .tc main_arg0))
      ∧ StableHlo.after lines V (Proc.devRef .tc main_arg0) = V (Proc.devRef .tc main_arg0) := by
  constructor
  · after_reads_simp
    rfl
  · after_reads_simp

/-- The reference's run: its result, its argument and its semaphores. -/
theorem run2 : θ_run (defs (F := Ideal)) (onTc (τ := τ) (main (F := Ideal))) ⟨m, fun _ => 0, g⟩ (fun r => (∀ c : Dev nD,
      r.2.mem ((c.tc : Thread nD τ).loc main_v8) = both (m ((c.tc : Thread nD τ).loc main_arg0))
      ∧ r.2.mem ((c.tc : Thread nD τ).loc main_arg0) = m ((c.tc : Thread nD τ).loc main_arg0))
      ∧ r.2.sem = fun _ => 0) :=
  (θ_run defs _ _).mono (fun r h => ⟨fun c => ⟨(h c main_v8).trans (lines_end _).1, (h c main_arg0).trans (lines_end _).2⟩, sem_eq_zero_of_no_sems rfl r.2⟩)
    (StableHlo.run_seq (by decide) (by decide) defs main (fun _ => lines) (fun _ => rfl)
      (fun _ => ⟨StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.binary_bufs_sub ..⟩) m g)

/-- The frame claim. -/
theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h.1 c).2, h.2⟩) (run2 m g)

end Cert.Proof.Reference2Ideal

namespace Cert.Proof

open Idealize.ShloMosaic Idealize.ShloMosaic.TcCoe Idealize.SL.Sem

attribute [local instance] Cert.Kernel2Ideal.Gen.facts Cert.Reference2Ideal.Gen.facts Cert.Proof.SelPre.facts1

/-- The selection's two programs list the same places. -/
theorem algebraic2 : Cert.algebraic_Kernel2Ideal_Reference2Ideal_pre_kth_alone := by
  intro m g m' g' hp hm
  refine ⟨fun c => Reference2Ideal.both (m ((c.tc : Thread Cert.Kernel2Ideal.nD Cert.Kernel2Ideal.τ).loc Cert.Kernel2Ideal.main_arg0)), ?_, ?_⟩
  · refine (θ_run _ _ _).mono (fun r h c => ⟨(h.1 c).trans ?_, h.2.1 c⟩) (θ_run_and (Kernel2Ideal.run2 m g) (Cert.Kernel2Ideal.Gen.frame m g))
    rw [Kernel2Ideal.sel0 m g hp c Cert.Reference2Ideal.Gen.sliceFits_S2x160000_S2x1000, Kernel2Ideal.sel1 m g hp c Cert.Reference2Ideal.Gen.sliceFits_S2x40000_S2x1000]
    exact (Reference2Ideal.both_eq _).symm
  · refine (θ_run _ _ _).mono (fun r h c => ⟨(h.1 c).1.trans ?_, (h.1 c).2⟩) (Reference2Ideal.run2 m' g')
    rw [hm c]

end Cert.Proof
-- ==== Proof.lean ====
/- The certificate's claims, put together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import Idealize.ShloMosaic.Adequacy
public import Idealize.ShloMosaic.Init
public import proofs.«01_k».proof.Proof.LoopK
public import proofs.«01_k».proof.Proof.LoopKI
public import proofs.«01_k».proof.Proof.FrameK
public import proofs.«01_k».proof.Proof.FrameKI
public import proofs.«01_k».proof.Proof.RunK
public import proofs.«01_k».proof.Proof.RunKI
public import proofs.«01_k».proof.Proof.RefFrame
public import proofs.«01_k».proof.Proof.Gen.ReferenceIdeal.Run
public import proofs.«01_k».proof.Proof.Same
public import proofs.«01_k».proof.Proof.SelMain
public import proofs.«01_k».proof.Proof.TopMain

@[expose] public section

noncomputable section

namespace Cert.Proof

open Idealize.ShloMosaic Idealize.SL.Sem

/-- All claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Proof.SelPre.facts, Cert.Proof.SelPre.facts1,
    fun m ρ _ => Cert.Proof.Kernel.frame m ρ, fun m ρ _ => Cert.Proof.KernelIdeal.frame m ρ, fun m ρ _ => Cert.Proof.KernelIdeal.frame m ρ,
    fun m ρ _ => Cert.Proof.ReferenceIdeal.frame m ρ, fun m ρ _ => Cert.Proof.ReferenceIdeal.frame m ρ,
    fun m ρ _ => Cert.Kernel2.Gen.frame m ρ, fun m ρ _ => Cert.Kernel2Ideal.Gen.frame m ρ, fun m ρ _ => Cert.Kernel2Ideal.Gen.frame m ρ,
    fun m ρ _ => Cert.Proof.Reference2Ideal.frame m ρ, fun m ρ _ => Cert.Proof.Reference2Ideal.frame m ρ,
    trivial, algebraic, trivial, algebraic2⟩

end Cert.Proof

end
